-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norm [hPre_finite_norm : Cert.Pre_finite_norm.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norm [hPre_finite_norm : Cert.Pre_finite_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_LocalKernel (m : (ℓ : Loc Cert.LocalKernel.nD Cert.LocalKernel.τ Cert.LocalKernel.sig) → Buf (Elt Bits) ℓ) : Prop :=
  True

def Pre_LocalKernelIdeal (m : (ℓ : Loc Cert.LocalKernelIdeal.nD Cert.LocalKernelIdeal.τ Cert.LocalKernelIdeal.sig) → Buf (Elt Ideal) ℓ) : Prop :=
  True

def Pre_LocalKernelIdeal_finite_local [hPre_finite_local : Cert.Pre_finite_local.Facts] (m : (ℓ : Loc Cert.LocalKernelIdeal.nD Cert.LocalKernelIdeal.τ Cert.LocalKernelIdeal.sig) → Buf (Elt Ideal) ℓ) : Prop :=
  ∀ c : Dev Cert.LocalKernelIdeal.nD,
    (Cert.Pre_finite_local.fn (F := Ideal) (m ((c.tc : Thread Cert.LocalKernelIdeal.nD Cert.LocalKernelIdeal.τ).loc Cert.LocalKernelIdeal.main_arg0)) (m ((c.tc : Thread Cert.LocalKernelIdeal.nD Cert.LocalKernelIdeal.τ).loc Cert.LocalKernelIdeal.main_arg1)) (m ((c.tc : Thread Cert.LocalKernelIdeal.nD Cert.LocalKernelIdeal.τ).loc Cert.LocalKernelIdeal.main_arg2)) (m ((c.tc : Thread Cert.LocalKernelIdeal.nD Cert.LocalKernelIdeal.τ).loc Cert.LocalKernelIdeal.main_arg3)) (m ((c.tc : Thread Cert.LocalKernelIdeal.nD Cert.LocalKernelIdeal.τ).loc Cert.LocalKernelIdeal.main_arg4)) (m ((c.tc : Thread Cert.LocalKernelIdeal.nD Cert.LocalKernelIdeal.τ).loc Cert.LocalKernelIdeal.main_arg5)) (m ((c.tc : Thread Cert.LocalKernelIdeal.nD Cert.LocalKernelIdeal.τ).loc Cert.LocalKernelIdeal.main_arg6)) (m ((c.tc : Thread Cert.LocalKernelIdeal.nD Cert.LocalKernelIdeal.τ).loc Cert.LocalKernelIdeal.main_arg7)) (m ((c.tc : Thread Cert.LocalKernelIdeal.nD Cert.LocalKernelIdeal.τ).loc Cert.LocalKernelIdeal.main_arg8)) (m ((c.tc : Thread Cert.LocalKernelIdeal.nD Cert.LocalKernelIdeal.τ).loc Cert.LocalKernelIdeal.main_arg9))) = (fun _ => 1#1)

def Pre_LocalReferenceIdeal (m : (ℓ : Loc Cert.LocalReferenceIdeal.nD Cert.LocalReferenceIdeal.τ Cert.LocalReferenceIdeal.sig) → Buf (Elt Ideal) ℓ) : Prop :=
  True

def Pre_LocalReferenceIdeal_finite_local [hPre_finite_local : Cert.Pre_finite_local.Facts] (m : (ℓ : Loc Cert.LocalReferenceIdeal.nD Cert.LocalReferenceIdeal.τ Cert.LocalReferenceIdeal.sig) → Buf (Elt Ideal) ℓ) : Prop :=
  ∀ c : Dev Cert.LocalReferenceIdeal.nD,
    (Cert.Pre_finite_local.fn (F := Ideal) (m ((c.tc : Thread Cert.LocalReferenceIdeal.nD Cert.LocalReferenceIdeal.τ).loc Cert.LocalReferenceIdeal.main_arg0)) (m ((c.tc : Thread Cert.LocalReferenceIdeal.nD Cert.LocalReferenceIdeal.τ).loc Cert.LocalReferenceIdeal.main_arg1)) (m ((c.tc : Thread Cert.LocalReferenceIdeal.nD Cert.LocalReferenceIdeal.τ).loc Cert.LocalReferenceIdeal.main_arg2)) (m ((c.tc : Thread Cert.LocalReferenceIdeal.nD Cert.LocalReferenceIdeal.τ).loc Cert.LocalReferenceIdeal.main_arg3)) (m ((c.tc : Thread Cert.LocalReferenceIdeal.nD Cert.LocalReferenceIdeal.τ).loc Cert.LocalReferenceIdeal.main_arg4)) (m ((c.tc : Thread Cert.LocalReferenceIdeal.nD Cert.LocalReferenceIdeal.τ).loc Cert.LocalReferenceIdeal.main_arg5)) (m ((c.tc : Thread Cert.LocalReferenceIdeal.nD Cert.LocalReferenceIdeal.τ).loc Cert.LocalReferenceIdeal.main_arg6)) (m ((c.tc : Thread Cert.LocalReferenceIdeal.nD Cert.LocalReferenceIdeal.τ).loc Cert.LocalReferenceIdeal.main_arg7)) (m ((c.tc : Thread Cert.LocalReferenceIdeal.nD Cert.LocalReferenceIdeal.τ).loc Cert.LocalReferenceIdeal.main_arg8)) (m ((c.tc : Thread Cert.LocalReferenceIdeal.nD Cert.LocalReferenceIdeal.τ).loc Cert.LocalReferenceIdeal.main_arg9))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_gate [hPre_finite_gate : Cert.Pre_finite_gate.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))) = (fun _ => 1#1)

def Pre_MixoutKernel (m : (ℓ : Loc Cert.MixoutKernel.nD Cert.MixoutKernel.τ Cert.MixoutKernel.sig) → Buf (Elt Bits) ℓ) : Prop :=
  True

def Pre_MixoutKernelIdeal (m : (ℓ : Loc Cert.MixoutKernelIdeal.nD Cert.MixoutKernelIdeal.τ Cert.MixoutKernelIdeal.sig) → Buf (Elt Ideal) ℓ) : Prop :=
  True

def Pre_MixoutKernelIdeal_finite_mixout [hPre_finite_mixout : Cert.Pre_finite_mixout.Facts] (m : (ℓ : Loc Cert.MixoutKernelIdeal.nD Cert.MixoutKernelIdeal.τ Cert.MixoutKernelIdeal.sig) → Buf (Elt Ideal) ℓ) : Prop :=
  ∀ c : Dev Cert.MixoutKernelIdeal.nD,
    (Cert.Pre_finite_mixout.fn (F := Ideal) (m ((c.tc : Thread Cert.MixoutKernelIdeal.nD Cert.MixoutKernelIdeal.τ).loc Cert.MixoutKernelIdeal.main_arg0)) (m ((c.tc : Thread Cert.MixoutKernelIdeal.nD Cert.MixoutKernelIdeal.τ).loc Cert.MixoutKernelIdeal.main_arg1)) (m ((c.tc : Thread Cert.MixoutKernelIdeal.nD Cert.MixoutKernelIdeal.τ).loc Cert.MixoutKernelIdeal.main_arg2)) (m ((c.tc : Thread Cert.MixoutKernelIdeal.nD Cert.MixoutKernelIdeal.τ).loc Cert.MixoutKernelIdeal.main_arg3)) (m ((c.tc : Thread Cert.MixoutKernelIdeal.nD Cert.MixoutKernelIdeal.τ).loc Cert.MixoutKernelIdeal.main_arg4))) = (fun _ => 1#1)

def Pre_MixoutReferenceIdeal (m : (ℓ : Loc Cert.MixoutReferenceIdeal.nD Cert.MixoutReferenceIdeal.τ Cert.MixoutReferenceIdeal.sig) → Buf (Elt Ideal) ℓ) : Prop :=
  True

def Pre_MixoutReferenceIdeal_finite_mixout [hPre_finite_mixout : Cert.Pre_finite_mixout.Facts] (m : (ℓ : Loc Cert.MixoutReferenceIdeal.nD Cert.MixoutReferenceIdeal.τ Cert.MixoutReferenceIdeal.sig) → Buf (Elt Ideal) ℓ) : Prop :=
  ∀ c : Dev Cert.MixoutReferenceIdeal.nD,
    (Cert.Pre_finite_mixout.fn (F := Ideal) (m ((c.tc : Thread Cert.MixoutReferenceIdeal.nD Cert.MixoutReferenceIdeal.τ).loc Cert.MixoutReferenceIdeal.main_arg0)) (m ((c.tc : Thread Cert.MixoutReferenceIdeal.nD Cert.MixoutReferenceIdeal.τ).loc Cert.MixoutReferenceIdeal.main_arg1)) (m ((c.tc : Thread Cert.MixoutReferenceIdeal.nD Cert.MixoutReferenceIdeal.τ).loc Cert.MixoutReferenceIdeal.main_arg2)) (m ((c.tc : Thread Cert.MixoutReferenceIdeal.nD Cert.MixoutReferenceIdeal.τ).loc Cert.MixoutReferenceIdeal.main_arg3)) (m ((c.tc : Thread Cert.MixoutReferenceIdeal.nD Cert.MixoutReferenceIdeal.τ).loc Cert.MixoutReferenceIdeal.main_arg4))) = (fun _ => 1#1)

def Pre_RecKernel (m : (ℓ : Loc Cert.RecKernel.nD Cert.RecKernel.τ Cert.RecKernel.sig) → Buf (Elt Bits) ℓ) : Prop :=
  True

def Pre_RecKernelIdeal (m : (ℓ : Loc Cert.RecKernelIdeal.nD Cert.RecKernelIdeal.τ Cert.RecKernelIdeal.sig) → Buf (Elt Ideal) ℓ) : Prop :=
  True

def Pre_RecKernelIdeal_finite_rec [hPre_finite_rec : Cert.Pre_finite_rec.Facts] (m : (ℓ : Loc Cert.RecKernelIdeal.nD Cert.RecKernelIdeal.τ Cert.RecKernelIdeal.sig) → Buf (Elt Ideal) ℓ) : Prop :=
  ∀ c : Dev Cert.RecKernelIdeal.nD,
    (Cert.Pre_finite_rec.fn (F := Ideal) (m ((c.tc : Thread Cert.RecKernelIdeal.nD Cert.RecKernelIdeal.τ).loc Cert.RecKernelIdeal.main_arg0)) (m ((c.tc : Thread Cert.RecKernelIdeal.nD Cert.RecKernelIdeal.τ).loc Cert.RecKernelIdeal.main_arg1)) (m ((c.tc : Thread Cert.RecKernelIdeal.nD Cert.RecKernelIdeal.τ).loc Cert.RecKernelIdeal.main_arg2)) (m ((c.tc : Thread Cert.RecKernelIdeal.nD Cert.RecKernelIdeal.τ).loc Cert.RecKernelIdeal.main_arg3)) (m ((c.tc : Thread Cert.RecKernelIdeal.nD Cert.RecKernelIdeal.τ).loc Cert.RecKernelIdeal.main_arg4)) (m ((c.tc : Thread Cert.RecKernelIdeal.nD Cert.RecKernelIdeal.τ).loc Cert.RecKernelIdeal.main_arg5)) (m ((c.tc : Thread Cert.RecKernelIdeal.nD Cert.RecKernelIdeal.τ).loc Cert.RecKernelIdeal.main_arg6))) = (fun _ => 1#1)

def Pre_RecReferenceIdeal (m : (ℓ : Loc Cert.RecReferenceIdeal.nD Cert.RecReferenceIdeal.τ Cert.RecReferenceIdeal.sig) → Buf (Elt Ideal) ℓ) : Prop :=
  True

def Pre_RecReferenceIdeal_finite_rec [hPre_finite_rec : Cert.Pre_finite_rec.Facts] (m : (ℓ : Loc Cert.RecReferenceIdeal.nD Cert.RecReferenceIdeal.τ Cert.RecReferenceIdeal.sig) → Buf (Elt Ideal) ℓ) : Prop :=
  ∀ c : Dev Cert.RecReferenceIdeal.nD,
    (Cert.Pre_finite_rec.fn (F := Ideal) (m ((c.tc : Thread Cert.RecReferenceIdeal.nD Cert.RecReferenceIdeal.τ).loc Cert.RecReferenceIdeal.main_arg0)) (m ((c.tc : Thread Cert.RecReferenceIdeal.nD Cert.RecReferenceIdeal.τ).loc Cert.RecReferenceIdeal.main_arg1)) (m ((c.tc : Thread Cert.RecReferenceIdeal.nD Cert.RecReferenceIdeal.τ).loc Cert.RecReferenceIdeal.main_arg2)) (m ((c.tc : Thread Cert.RecReferenceIdeal.nD Cert.RecReferenceIdeal.τ).loc Cert.RecReferenceIdeal.main_arg3)) (m ((c.tc : Thread Cert.RecReferenceIdeal.nD Cert.RecReferenceIdeal.τ).loc Cert.RecReferenceIdeal.main_arg4)) (m ((c.tc : Thread Cert.RecReferenceIdeal.nD Cert.RecReferenceIdeal.τ).loc Cert.RecReferenceIdeal.main_arg5)) (m ((c.tc : Thread Cert.RecReferenceIdeal.nD Cert.RecReferenceIdeal.τ).loc Cert.RecReferenceIdeal.main_arg6))) = (fun _ => 1#1)

def Pre_GprojKernel (m : (ℓ : Loc Cert.GprojKernel.nD Cert.GprojKernel.τ Cert.GprojKernel.sig) → Buf (Elt Bits) ℓ) : Prop :=
  True

def Pre_GprojKernelIdeal (m : (ℓ : Loc Cert.GprojKernelIdeal.nD Cert.GprojKernelIdeal.τ Cert.GprojKernelIdeal.sig) → Buf (Elt Ideal) ℓ) : Prop :=
  True

def Pre_GprojKernelIdeal_finite_gproj [hPre_finite_gproj : Cert.Pre_finite_gproj.Facts] (m : (ℓ : Loc Cert.GprojKernelIdeal.nD Cert.GprojKernelIdeal.τ Cert.GprojKernelIdeal.sig) → Buf (Elt Ideal) ℓ) : Prop :=
  ∀ c : Dev Cert.GprojKernelIdeal.nD,
    (Cert.Pre_finite_gproj.fn (F := Ideal) (m ((c.tc : Thread Cert.GprojKernelIdeal.nD Cert.GprojKernelIdeal.τ).loc Cert.GprojKernelIdeal.main_arg0)) (m ((c.tc : Thread Cert.GprojKernelIdeal.nD Cert.GprojKernelIdeal.τ).loc Cert.GprojKernelIdeal.main_arg1)) (m ((c.tc : Thread Cert.GprojKernelIdeal.nD Cert.GprojKernelIdeal.τ).loc Cert.GprojKernelIdeal.main_arg2)) (m ((c.tc : Thread Cert.GprojKernelIdeal.nD Cert.GprojKernelIdeal.τ).loc Cert.GprojKernelIdeal.main_arg3)) (m ((c.tc : Thread Cert.GprojKernelIdeal.nD Cert.GprojKernelIdeal.τ).loc Cert.GprojKernelIdeal.main_arg4)) (m ((c.tc : Thread Cert.GprojKernelIdeal.nD Cert.GprojKernelIdeal.τ).loc Cert.GprojKernelIdeal.main_arg5)) (m ((c.tc : Thread Cert.GprojKernelIdeal.nD Cert.GprojKernelIdeal.τ).loc Cert.GprojKernelIdeal.main_arg6)) (m ((c.tc : Thread Cert.GprojKernelIdeal.nD Cert.GprojKernelIdeal.τ).loc Cert.GprojKernelIdeal.main_arg7)) (m ((c.tc : Thread Cert.GprojKernelIdeal.nD Cert.GprojKernelIdeal.τ).loc Cert.GprojKernelIdeal.main_arg8))) = (fun _ => 1#1)

def Pre_GprojReferenceIdeal (m : (ℓ : Loc Cert.GprojReferenceIdeal.nD Cert.GprojReferenceIdeal.τ Cert.GprojReferenceIdeal.sig) → Buf (Elt Ideal) ℓ) : Prop :=
  True

def Pre_GprojReferenceIdeal_finite_gproj [hPre_finite_gproj : Cert.Pre_finite_gproj.Facts] (m : (ℓ : Loc Cert.GprojReferenceIdeal.nD Cert.GprojReferenceIdeal.τ Cert.GprojReferenceIdeal.sig) → Buf (Elt Ideal) ℓ) : Prop :=
  ∀ c : Dev Cert.GprojReferenceIdeal.nD,
    (Cert.Pre_finite_gproj.fn (F := Ideal) (m ((c.tc : Thread Cert.GprojReferenceIdeal.nD Cert.GprojReferenceIdeal.τ).loc Cert.GprojReferenceIdeal.main_arg0)) (m ((c.tc : Thread Cert.GprojReferenceIdeal.nD Cert.GprojReferenceIdeal.τ).loc Cert.GprojReferenceIdeal.main_arg1)) (m ((c.tc : Thread Cert.GprojReferenceIdeal.nD Cert.GprojReferenceIdeal.τ).loc Cert.GprojReferenceIdeal.main_arg2)) (m ((c.tc : Thread Cert.GprojReferenceIdeal.nD Cert.GprojReferenceIdeal.τ).loc Cert.GprojReferenceIdeal.main_arg3)) (m ((c.tc : Thread Cert.GprojReferenceIdeal.nD Cert.GprojReferenceIdeal.τ).loc Cert.GprojReferenceIdeal.main_arg4)) (m ((c.tc : Thread Cert.GprojReferenceIdeal.nD Cert.GprojReferenceIdeal.τ).loc Cert.GprojReferenceIdeal.main_arg5)) (m ((c.tc : Thread Cert.GprojReferenceIdeal.nD Cert.GprojReferenceIdeal.τ).loc Cert.GprojReferenceIdeal.main_arg6)) (m ((c.tc : Thread Cert.GprojReferenceIdeal.nD Cert.GprojReferenceIdeal.τ).loc Cert.GprojReferenceIdeal.main_arg7)) (m ((c.tc : Thread Cert.GprojReferenceIdeal.nD Cert.GprojReferenceIdeal.τ).loc Cert.GprojReferenceIdeal.main_arg8))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_norm [hKernelIdeal : Cert.KernelIdeal.Facts] [hPre_finite_norm : Cert.Pre_finite_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_norm [hReferenceIdeal : Cert.ReferenceIdeal.Facts] [hPre_finite_norm : Cert.Pre_finite_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_LocalKernel [hLocalKernel : Cert.LocalKernel.Facts] : Prop :=
  ∀ (m : (ℓ : Loc Cert.LocalKernel.nD Cert.LocalKernel.τ Cert.LocalKernel.sig) → Buf (Elt Bits) ℓ) (g : Dev Cert.LocalKernel.nD → PrngReg), Pre_LocalKernel m →
    θ_run (Cert.LocalKernel.defs (F := Bits)) (onTc (τ := Cert.LocalKernel.τ) (Cert.LocalKernel.main (F := Bits))) ⟨m, fun _ => 0, g⟩ (fun r => (∀ c : Dev Cert.LocalKernel.nD,
      r.2.mem ((c.tc : Thread Cert.LocalKernel.nD Cert.LocalKernel.τ).loc Cert.LocalKernel.main_arg0) = m ((c.tc : Thread Cert.LocalKernel.nD Cert.LocalKernel.τ).loc Cert.LocalKernel.main_arg0)
      ∧ r.2.mem ((c.tc : Thread Cert.LocalKernel.nD Cert.LocalKernel.τ).loc Cert.LocalKernel.main_arg1) = m ((c.tc : Thread Cert.LocalKernel.nD Cert.LocalKernel.τ).loc Cert.LocalKernel.main_arg1)
      ∧ r.2.mem ((c.tc : Thread Cert.LocalKernel.nD Cert.LocalKernel.τ).loc Cert.LocalKernel.main_arg2) = m ((c.tc : Thread Cert.LocalKernel.nD Cert.LocalKernel.τ).loc Cert.LocalKernel.main_arg2)
      ∧ r.2.mem ((c.tc : Thread Cert.LocalKernel.nD Cert.LocalKernel.τ).loc Cert.LocalKernel.main_arg3) = m ((c.tc : Thread Cert.LocalKernel.nD Cert.LocalKernel.τ).loc Cert.LocalKernel.main_arg3)
      ∧ r.2.mem ((c.tc : Thread Cert.LocalKernel.nD Cert.LocalKernel.τ).loc Cert.LocalKernel.main_arg4) = m ((c.tc : Thread Cert.LocalKernel.nD Cert.LocalKernel.τ).loc Cert.LocalKernel.main_arg4)
      ∧ r.2.mem ((c.tc : Thread Cert.LocalKernel.nD Cert.LocalKernel.τ).loc Cert.LocalKernel.main_arg5) = m ((c.tc : Thread Cert.LocalKernel.nD Cert.LocalKernel.τ).loc Cert.LocalKernel.main_arg5)
      ∧ r.2.mem ((c.tc : Thread Cert.LocalKernel.nD Cert.LocalKernel.τ).loc Cert.LocalKernel.main_arg6) = m ((c.tc : Thread Cert.LocalKernel.nD Cert.LocalKernel.τ).loc Cert.LocalKernel.main_arg6)
      ∧ r.2.mem ((c.tc : Thread Cert.LocalKernel.nD Cert.LocalKernel.τ).loc Cert.LocalKernel.main_arg7) = m ((c.tc : Thread Cert.LocalKernel.nD Cert.LocalKernel.τ).loc Cert.LocalKernel.main_arg7)
      ∧ r.2.mem ((c.tc : Thread Cert.LocalKernel.nD Cert.LocalKernel.τ).loc Cert.LocalKernel.main_arg8) = m ((c.tc : Thread Cert.LocalKernel.nD Cert.LocalKernel.τ).loc Cert.LocalKernel.main_arg8)
      ∧ r.2.mem ((c.tc : Thread Cert.LocalKernel.nD Cert.LocalKernel.τ).loc Cert.LocalKernel.main_arg9) = m ((c.tc : Thread Cert.LocalKernel.nD Cert.LocalKernel.τ).loc Cert.LocalKernel.main_arg9))
      ∧ r.2.sem = fun _ => 0)

def quiescent_LocalKernelIdeal [hLocalKernelIdeal : Cert.LocalKernelIdeal.Facts] : Prop :=
  ∀ (m : (ℓ : Loc Cert.LocalKernelIdeal.nD Cert.LocalKernelIdeal.τ Cert.LocalKernelIdeal.sig) → Buf (Elt Ideal) ℓ) (g : Dev Cert.LocalKernelIdeal.nD → PrngReg), Pre_LocalKernelIdeal m →
    θ_run (Cert.LocalKernelIdeal.defs (F := Ideal)) (onTc (τ := Cert.LocalKernelIdeal.τ) (Cert.LocalKernelIdeal.main (F := Ideal))) ⟨m, fun _ => 0, g⟩ (fun r => (∀ c : Dev Cert.LocalKernelIdeal.nD,
      r.2.mem ((c.tc : Thread Cert.LocalKernelIdeal.nD Cert.LocalKernelIdeal.τ).loc Cert.LocalKernelIdeal.main_arg0) = m ((c.tc : Thread Cert.LocalKernelIdeal.nD Cert.LocalKernelIdeal.τ).loc Cert.LocalKernelIdeal.main_arg0)
      ∧ r.2.mem ((c.tc : Thread Cert.LocalKernelIdeal.nD Cert.LocalKernelIdeal.τ).loc Cert.LocalKernelIdeal.main_arg1) = m ((c.tc : Thread Cert.LocalKernelIdeal.nD Cert.LocalKernelIdeal.τ).loc Cert.LocalKernelIdeal.main_arg1)
      ∧ r.2.mem ((c.tc : Thread Cert.LocalKernelIdeal.nD Cert.LocalKernelIdeal.τ).loc Cert.LocalKernelIdeal.main_arg2) = m ((c.tc : Thread Cert.LocalKernelIdeal.nD Cert.LocalKernelIdeal.τ).loc Cert.LocalKernelIdeal.main_arg2)
      ∧ r.2.mem ((c.tc : Thread Cert.LocalKernelIdeal.nD Cert.LocalKernelIdeal.τ).loc Cert.LocalKernelIdeal.main_arg3) = m ((c.tc : Thread Cert.LocalKernelIdeal.nD Cert.LocalKernelIdeal.τ).loc Cert.LocalKernelIdeal.main_arg3)
      ∧ r.2.mem ((c.tc : Thread Cert.LocalKernelIdeal.nD Cert.LocalKernelIdeal.τ).loc Cert.LocalKernelIdeal.main_arg4) = m ((c.tc : Thread Cert.LocalKernelIdeal.nD Cert.LocalKernelIdeal.τ).loc Cert.LocalKernelIdeal.main_arg4)
      ∧ r.2.mem ((c.tc : Thread Cert.LocalKernelIdeal.nD Cert.LocalKernelIdeal.τ).loc Cert.LocalKernelIdeal.main_arg5) = m ((c.tc : Thread Cert.LocalKernelIdeal.nD Cert.LocalKernelIdeal.τ).loc Cert.LocalKernelIdeal.main_arg5)
      ∧ r.2.mem ((c.tc : Thread Cert.LocalKernelIdeal.nD Cert.LocalKernelIdeal.τ).loc Cert.LocalKernelIdeal.main_arg6) = m ((c.tc : Thread Cert.LocalKernelIdeal.nD Cert.LocalKernelIdeal.τ).loc Cert.LocalKernelIdeal.main_arg6)
      ∧ r.2.mem ((c.tc : Thread Cert.LocalKernelIdeal.nD Cert.LocalKernelIdeal.τ).loc Cert.LocalKernelIdeal.main_arg7) = m ((c.tc : Thread Cert.LocalKernelIdeal.nD Cert.LocalKernelIdeal.τ).loc Cert.LocalKernelIdeal.main_arg7)
      ∧ r.2.mem ((c.tc : Thread Cert.LocalKernelIdeal.nD Cert.LocalKernelIdeal.τ).loc Cert.LocalKernelIdeal.main_arg8) = m ((c.tc : Thread Cert.LocalKernelIdeal.nD Cert.LocalKernelIdeal.τ).loc Cert.LocalKernelIdeal.main_arg8)
      ∧ r.2.mem ((c.tc : Thread Cert.LocalKernelIdeal.nD Cert.LocalKernelIdeal.τ).loc Cert.LocalKernelIdeal.main_arg9) = m ((c.tc : Thread Cert.LocalKernelIdeal.nD Cert.LocalKernelIdeal.τ).loc Cert.LocalKernelIdeal.main_arg9))
      ∧ r.2.sem = fun _ => 0)

def quiescent_LocalKernelIdeal_pre_finite_local [hLocalKernelIdeal : Cert.LocalKernelIdeal.Facts] [hPre_finite_local : Cert.Pre_finite_local.Facts] : Prop :=
  ∀ (m : (ℓ : Loc Cert.LocalKernelIdeal.nD Cert.LocalKernelIdeal.τ Cert.LocalKernelIdeal.sig) → Buf (Elt Ideal) ℓ) (g : Dev Cert.LocalKernelIdeal.nD → PrngReg), Pre_LocalKernelIdeal_finite_local m →
    θ_run (Cert.LocalKernelIdeal.defs (F := Ideal)) (onTc (τ := Cert.LocalKernelIdeal.τ) (Cert.LocalKernelIdeal.main (F := Ideal))) ⟨m, fun _ => 0, g⟩ (fun r => (∀ c : Dev Cert.LocalKernelIdeal.nD,
      r.2.mem ((c.tc : Thread Cert.LocalKernelIdeal.nD Cert.LocalKernelIdeal.τ).loc Cert.LocalKernelIdeal.main_arg0) = m ((c.tc : Thread Cert.LocalKernelIdeal.nD Cert.LocalKernelIdeal.τ).loc Cert.LocalKernelIdeal.main_arg0)
      ∧ r.2.mem ((c.tc : Thread Cert.LocalKernelIdeal.nD Cert.LocalKernelIdeal.τ).loc Cert.LocalKernelIdeal.main_arg1) = m ((c.tc : Thread Cert.LocalKernelIdeal.nD Cert.LocalKernelIdeal.τ).loc Cert.LocalKernelIdeal.main_arg1)
      ∧ r.2.mem ((c.tc : Thread Cert.LocalKernelIdeal.nD Cert.LocalKernelIdeal.τ).loc Cert.LocalKernelIdeal.main_arg2) = m ((c.tc : Thread Cert.LocalKernelIdeal.nD Cert.LocalKernelIdeal.τ).loc Cert.LocalKernelIdeal.main_arg2)
      ∧ r.2.mem ((c.tc : Thread Cert.LocalKernelIdeal.nD Cert.LocalKernelIdeal.τ).loc Cert.LocalKernelIdeal.main_arg3) = m ((c.tc : Thread Cert.LocalKernelIdeal.nD Cert.LocalKernelIdeal.τ).loc Cert.LocalKernelIdeal.main_arg3)
      ∧ r.2.mem ((c.tc : Thread Cert.LocalKernelIdeal.nD Cert.LocalKernelIdeal.τ).loc Cert.LocalKernelIdeal.main_arg4) = m ((c.tc : Thread Cert.LocalKernelIdeal.nD Cert.LocalKernelIdeal.τ).loc Cert.LocalKernelIdeal.main_arg4)
      ∧ r.2.mem ((c.tc : Thread Cert.LocalKernelIdeal.nD Cert.LocalKernelIdeal.τ).loc Cert.LocalKernelIdeal.main_arg5) = m ((c.tc : Thread Cert.LocalKernelIdeal.nD Cert.LocalKernelIdeal.τ).loc Cert.LocalKernelIdeal.main_arg5)
      ∧ r.2.mem ((c.tc : Thread Cert.LocalKernelIdeal.nD Cert.LocalKernelIdeal.τ).loc Cert.LocalKernelIdeal.main_arg6) = m ((c.tc : Thread Cert.LocalKernelIdeal.nD Cert.LocalKernelIdeal.τ).loc Cert.LocalKernelIdeal.main_arg6)
      ∧ r.2.mem ((c.tc : Thread Cert.LocalKernelIdeal.nD Cert.LocalKernelIdeal.τ).loc Cert.LocalKernelIdeal.main_arg7) = m ((c.tc : Thread Cert.LocalKernelIdeal.nD Cert.LocalKernelIdeal.τ).loc Cert.LocalKernelIdeal.main_arg7)
      ∧ r.2.mem ((c.tc : Thread Cert.LocalKernelIdeal.nD Cert.LocalKernelIdeal.τ).loc Cert.LocalKernelIdeal.main_arg8) = m ((c.tc : Thread Cert.LocalKernelIdeal.nD Cert.LocalKernelIdeal.τ).loc Cert.LocalKernelIdeal.main_arg8)
      ∧ r.2.mem ((c.tc : Thread Cert.LocalKernelIdeal.nD Cert.LocalKernelIdeal.τ).loc Cert.LocalKernelIdeal.main_arg9) = m ((c.tc : Thread Cert.LocalKernelIdeal.nD Cert.LocalKernelIdeal.τ).loc Cert.LocalKernelIdeal.main_arg9))
      ∧ r.2.sem = fun _ => 0)

def quiescent_LocalReferenceIdeal [hLocalReferenceIdeal : Cert.LocalReferenceIdeal.Facts] : Prop :=
  ∀ (m : (ℓ : Loc Cert.LocalReferenceIdeal.nD Cert.LocalReferenceIdeal.τ Cert.LocalReferenceIdeal.sig) → Buf (Elt Ideal) ℓ) (g : Dev Cert.LocalReferenceIdeal.nD → PrngReg), Pre_LocalReferenceIdeal m →
    θ_run (Cert.LocalReferenceIdeal.defs (F := Ideal)) (onTc (τ := Cert.LocalReferenceIdeal.τ) (Cert.LocalReferenceIdeal.main (F := Ideal))) ⟨m, fun _ => 0, g⟩ (fun r => (∀ c : Dev Cert.LocalReferenceIdeal.nD,
      r.2.mem ((c.tc : Thread Cert.LocalReferenceIdeal.nD Cert.LocalReferenceIdeal.τ).loc Cert.LocalReferenceIdeal.main_arg0) = m ((c.tc : Thread Cert.LocalReferenceIdeal.nD Cert.LocalReferenceIdeal.τ).loc Cert.LocalReferenceIdeal.main_arg0)
      ∧ r.2.mem ((c.tc : Thread Cert.LocalReferenceIdeal.nD Cert.LocalReferenceIdeal.τ).loc Cert.LocalReferenceIdeal.main_arg1) = m ((c.tc : Thread Cert.LocalReferenceIdeal.nD Cert.LocalReferenceIdeal.τ).loc Cert.LocalReferenceIdeal.main_arg1)
      ∧ r.2.mem ((c.tc : Thread Cert.LocalReferenceIdeal.nD Cert.LocalReferenceIdeal.τ).loc Cert.LocalReferenceIdeal.main_arg2) = m ((c.tc : Thread Cert.LocalReferenceIdeal.nD Cert.LocalReferenceIdeal.τ).loc Cert.LocalReferenceIdeal.main_arg2)
      ∧ r.2.mem ((c.tc : Thread Cert.LocalReferenceIdeal.nD Cert.LocalReferenceIdeal.τ).loc Cert.LocalReferenceIdeal.main_arg3) = m ((c.tc : Thread Cert.LocalReferenceIdeal.nD Cert.LocalReferenceIdeal.τ).loc Cert.LocalReferenceIdeal.main_arg3)
      ∧ r.2.mem ((c.tc : Thread Cert.LocalReferenceIdeal.nD Cert.LocalReferenceIdeal.τ).loc Cert.LocalReferenceIdeal.main_arg4) = m ((c.tc : Thread Cert.LocalReferenceIdeal.nD Cert.LocalReferenceIdeal.τ).loc Cert.LocalReferenceIdeal.main_arg4)
      ∧ r.2.mem ((c.tc : Thread Cert.LocalReferenceIdeal.nD Cert.LocalReferenceIdeal.τ).loc Cert.LocalReferenceIdeal.main_arg5) = m ((c.tc : Thread Cert.LocalReferenceIdeal.nD Cert.LocalReferenceIdeal.τ).loc Cert.LocalReferenceIdeal.main_arg5)
      ∧ r.2.mem ((c.tc : Thread Cert.LocalReferenceIdeal.nD Cert.LocalReferenceIdeal.τ).loc Cert.LocalReferenceIdeal.main_arg6) = m ((c.tc : Thread Cert.LocalReferenceIdeal.nD Cert.LocalReferenceIdeal.τ).loc Cert.LocalReferenceIdeal.main_arg6)
      ∧ r.2.mem ((c.tc : Thread Cert.LocalReferenceIdeal.nD Cert.LocalReferenceIdeal.τ).loc Cert.LocalReferenceIdeal.main_arg7) = m ((c.tc : Thread Cert.LocalReferenceIdeal.nD Cert.LocalReferenceIdeal.τ).loc Cert.LocalReferenceIdeal.main_arg7)
      ∧ r.2.mem ((c.tc : Thread Cert.LocalReferenceIdeal.nD Cert.LocalReferenceIdeal.τ).loc Cert.LocalReferenceIdeal.main_arg8) = m ((c.tc : Thread Cert.LocalReferenceIdeal.nD Cert.LocalReferenceIdeal.τ).loc Cert.LocalReferenceIdeal.main_arg8)
      ∧ r.2.mem ((c.tc : Thread Cert.LocalReferenceIdeal.nD Cert.LocalReferenceIdeal.τ).loc Cert.LocalReferenceIdeal.main_arg9) = m ((c.tc : Thread Cert.LocalReferenceIdeal.nD Cert.LocalReferenceIdeal.τ).loc Cert.LocalReferenceIdeal.main_arg9))
      ∧ r.2.sem = fun _ => 0)

def quiescent_LocalReferenceIdeal_pre_finite_local [hLocalReferenceIdeal : Cert.LocalReferenceIdeal.Facts] [hPre_finite_local : Cert.Pre_finite_local.Facts] : Prop :=
  ∀ (m : (ℓ : Loc Cert.LocalReferenceIdeal.nD Cert.LocalReferenceIdeal.τ Cert.LocalReferenceIdeal.sig) → Buf (Elt Ideal) ℓ) (g : Dev Cert.LocalReferenceIdeal.nD → PrngReg), Pre_LocalReferenceIdeal_finite_local m →
    θ_run (Cert.LocalReferenceIdeal.defs (F := Ideal)) (onTc (τ := Cert.LocalReferenceIdeal.τ) (Cert.LocalReferenceIdeal.main (F := Ideal))) ⟨m, fun _ => 0, g⟩ (fun r => (∀ c : Dev Cert.LocalReferenceIdeal.nD,
      r.2.mem ((c.tc : Thread Cert.LocalReferenceIdeal.nD Cert.LocalReferenceIdeal.τ).loc Cert.LocalReferenceIdeal.main_arg0) = m ((c.tc : Thread Cert.LocalReferenceIdeal.nD Cert.LocalReferenceIdeal.τ).loc Cert.LocalReferenceIdeal.main_arg0)
      ∧ r.2.mem ((c.tc : Thread Cert.LocalReferenceIdeal.nD Cert.LocalReferenceIdeal.τ).loc Cert.LocalReferenceIdeal.main_arg1) = m ((c.tc : Thread Cert.LocalReferenceIdeal.nD Cert.LocalReferenceIdeal.τ).loc Cert.LocalReferenceIdeal.main_arg1)
      ∧ r.2.mem ((c.tc : Thread Cert.LocalReferenceIdeal.nD Cert.LocalReferenceIdeal.τ).loc Cert.LocalReferenceIdeal.main_arg2) = m ((c.tc : Thread Cert.LocalReferenceIdeal.nD Cert.LocalReferenceIdeal.τ).loc Cert.LocalReferenceIdeal.main_arg2)
      ∧ r.2.mem ((c.tc : Thread Cert.LocalReferenceIdeal.nD Cert.LocalReferenceIdeal.τ).loc Cert.LocalReferenceIdeal.main_arg3) = m ((c.tc : Thread Cert.LocalReferenceIdeal.nD Cert.LocalReferenceIdeal.τ).loc Cert.LocalReferenceIdeal.main_arg3)
      ∧ r.2.mem ((c.tc : Thread Cert.LocalReferenceIdeal.nD Cert.LocalReferenceIdeal.τ).loc Cert.LocalReferenceIdeal.main_arg4) = m ((c.tc : Thread Cert.LocalReferenceIdeal.nD Cert.LocalReferenceIdeal.τ).loc Cert.LocalReferenceIdeal.main_arg4)
      ∧ r.2.mem ((c.tc : Thread Cert.LocalReferenceIdeal.nD Cert.LocalReferenceIdeal.τ).loc Cert.LocalReferenceIdeal.main_arg5) = m ((c.tc : Thread Cert.LocalReferenceIdeal.nD Cert.LocalReferenceIdeal.τ).loc Cert.LocalReferenceIdeal.main_arg5)
      ∧ r.2.mem ((c.tc : Thread Cert.LocalReferenceIdeal.nD Cert.LocalReferenceIdeal.τ).loc Cert.LocalReferenceIdeal.main_arg6) = m ((c.tc : Thread Cert.LocalReferenceIdeal.nD Cert.LocalReferenceIdeal.τ).loc Cert.LocalReferenceIdeal.main_arg6)
      ∧ r.2.mem ((c.tc : Thread Cert.LocalReferenceIdeal.nD Cert.LocalReferenceIdeal.τ).loc Cert.LocalReferenceIdeal.main_arg7) = m ((c.tc : Thread Cert.LocalReferenceIdeal.nD Cert.LocalReferenceIdeal.τ).loc Cert.LocalReferenceIdeal.main_arg7)
      ∧ r.2.mem ((c.tc : Thread Cert.LocalReferenceIdeal.nD Cert.LocalReferenceIdeal.τ).loc Cert.LocalReferenceIdeal.main_arg8) = m ((c.tc : Thread Cert.LocalReferenceIdeal.nD Cert.LocalReferenceIdeal.τ).loc Cert.LocalReferenceIdeal.main_arg8)
      ∧ r.2.mem ((c.tc : Thread Cert.LocalReferenceIdeal.nD Cert.LocalReferenceIdeal.τ).loc Cert.LocalReferenceIdeal.main_arg9) = m ((c.tc : Thread Cert.LocalReferenceIdeal.nD Cert.LocalReferenceIdeal.τ).loc Cert.LocalReferenceIdeal.main_arg9))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_finite_gate [hGateKernelIdeal : Cert.GateKernelIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_gate m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_MixoutKernel [hMixoutKernel : Cert.MixoutKernel.Facts] : Prop :=
  ∀ (m : (ℓ : Loc Cert.MixoutKernel.nD Cert.MixoutKernel.τ Cert.MixoutKernel.sig) → Buf (Elt Bits) ℓ) (g : Dev Cert.MixoutKernel.nD → PrngReg), Pre_MixoutKernel m →
    θ_run (Cert.MixoutKernel.defs (F := Bits)) (onTc (τ := Cert.MixoutKernel.τ) (Cert.MixoutKernel.main (F := Bits))) ⟨m, fun _ => 0, g⟩ (fun r => (∀ c : Dev Cert.MixoutKernel.nD,
      r.2.mem ((c.tc : Thread Cert.MixoutKernel.nD Cert.MixoutKernel.τ).loc Cert.MixoutKernel.main_arg0) = m ((c.tc : Thread Cert.MixoutKernel.nD Cert.MixoutKernel.τ).loc Cert.MixoutKernel.main_arg0)
      ∧ r.2.mem ((c.tc : Thread Cert.MixoutKernel.nD Cert.MixoutKernel.τ).loc Cert.MixoutKernel.main_arg1) = m ((c.tc : Thread Cert.MixoutKernel.nD Cert.MixoutKernel.τ).loc Cert.MixoutKernel.main_arg1)
      ∧ r.2.mem ((c.tc : Thread Cert.MixoutKernel.nD Cert.MixoutKernel.τ).loc Cert.MixoutKernel.main_arg2) = m ((c.tc : Thread Cert.MixoutKernel.nD Cert.MixoutKernel.τ).loc Cert.MixoutKernel.main_arg2)
      ∧ r.2.mem ((c.tc : Thread Cert.MixoutKernel.nD Cert.MixoutKernel.τ).loc Cert.MixoutKernel.main_arg3) = m ((c.tc : Thread Cert.MixoutKernel.nD Cert.MixoutKernel.τ).loc Cert.MixoutKernel.main_arg3)
      ∧ r.2.mem ((c.tc : Thread Cert.MixoutKernel.nD Cert.MixoutKernel.τ).loc Cert.MixoutKernel.main_arg4) = m ((c.tc : Thread Cert.MixoutKernel.nD Cert.MixoutKernel.τ).loc Cert.MixoutKernel.main_arg4))
      ∧ r.2.sem = fun _ => 0)

def quiescent_MixoutKernelIdeal [hMixoutKernelIdeal : Cert.MixoutKernelIdeal.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg), Pre_MixoutKernelIdeal m →
    θ_run (Cert.MixoutKernelIdeal.defs (F := Ideal)) (onTc (τ := Cert.MixoutKernelIdeal.τ) (Cert.MixoutKernelIdeal.main (F := Ideal))) ⟨m, fun _ => 0, g⟩ (fun r => (∀ c : Dev Cert.MixoutKernelIdeal.nD,
      r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
      ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
      ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
      ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3)
      ∧ r.2.mem ((c.tc : Thread Cert.MixoutKernelIdeal.nD Cert.MixoutKernelIdeal.τ).loc Cert.MixoutKernelIdeal.main_arg4) = m ((c.tc : Thread Cert.MixoutKernelIdeal.nD Cert.MixoutKernelIdeal.τ).loc Cert.MixoutKernelIdeal.main_arg4))
      ∧ r.2.sem = fun _ => 0)

def quiescent_MixoutKernelIdeal_pre_finite_mixout [hMixoutKernelIdeal : Cert.MixoutKernelIdeal.Facts] [hPre_finite_mixout : Cert.Pre_finite_mixout.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg), Pre_MixoutKernelIdeal_finite_mixout m →
    θ_run (Cert.MixoutKernelIdeal.defs (F := Ideal)) (onTc (τ := Cert.MixoutKernelIdeal.τ) (Cert.MixoutKernelIdeal.main (F := Ideal))) ⟨m, fun _ => 0, g⟩ (fun r => (∀ c : Dev Cert.MixoutKernelIdeal.nD,
      r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
      ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
      ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
      ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3)
      ∧ r.2.mem ((c.tc : Thread Cert.MixoutKernelIdeal.nD Cert.MixoutKernelIdeal.τ).loc Cert.MixoutKernelIdeal.main_arg4) = m ((c.tc : Thread Cert.MixoutKernelIdeal.nD Cert.MixoutKernelIdeal.τ).loc Cert.MixoutKernelIdeal.main_arg4))
      ∧ r.2.sem = fun _ => 0)

def quiescent_MixoutReferenceIdeal [hMixoutReferenceIdeal : Cert.MixoutReferenceIdeal.Facts] : Prop :=
  ∀ (m : (ℓ : Loc Cert.MixoutReferenceIdeal.nD Cert.MixoutReferenceIdeal.τ Cert.MixoutReferenceIdeal.sig) → Buf (Elt Ideal) ℓ) (g : Dev Cert.MixoutReferenceIdeal.nD → PrngReg), Pre_MixoutReferenceIdeal m →
    θ_run (Cert.MixoutReferenceIdeal.defs (F := Ideal)) (onTc (τ := Cert.MixoutReferenceIdeal.τ) (Cert.MixoutReferenceIdeal.main (F := Ideal))) ⟨m, fun _ => 0, g⟩ (fun r => (∀ c : Dev Cert.MixoutReferenceIdeal.nD,
      r.2.mem ((c.tc : Thread Cert.MixoutReferenceIdeal.nD Cert.MixoutReferenceIdeal.τ).loc Cert.MixoutReferenceIdeal.main_arg0) = m ((c.tc : Thread Cert.MixoutReferenceIdeal.nD Cert.MixoutReferenceIdeal.τ).loc Cert.MixoutReferenceIdeal.main_arg0)
      ∧ r.2.mem ((c.tc : Thread Cert.MixoutReferenceIdeal.nD Cert.MixoutReferenceIdeal.τ).loc Cert.MixoutReferenceIdeal.main_arg1) = m ((c.tc : Thread Cert.MixoutReferenceIdeal.nD Cert.MixoutReferenceIdeal.τ).loc Cert.MixoutReferenceIdeal.main_arg1)
      ∧ r.2.mem ((c.tc : Thread Cert.MixoutReferenceIdeal.nD Cert.MixoutReferenceIdeal.τ).loc Cert.MixoutReferenceIdeal.main_arg2) = m ((c.tc : Thread Cert.MixoutReferenceIdeal.nD Cert.MixoutReferenceIdeal.τ).loc Cert.MixoutReferenceIdeal.main_arg2)
      ∧ r.2.mem ((c.tc : Thread Cert.MixoutReferenceIdeal.nD Cert.MixoutReferenceIdeal.τ).loc Cert.MixoutReferenceIdeal.main_arg3) = m ((c.tc : Thread Cert.MixoutReferenceIdeal.nD Cert.MixoutReferenceIdeal.τ).loc Cert.MixoutReferenceIdeal.main_arg3)
      ∧ r.2.mem ((c.tc : Thread Cert.MixoutReferenceIdeal.nD Cert.MixoutReferenceIdeal.τ).loc Cert.MixoutReferenceIdeal.main_arg4) = m ((c.tc : Thread Cert.MixoutReferenceIdeal.nD Cert.MixoutReferenceIdeal.τ).loc Cert.MixoutReferenceIdeal.main_arg4))
      ∧ r.2.sem = fun _ => 0)

def quiescent_MixoutReferenceIdeal_pre_finite_mixout [hMixoutReferenceIdeal : Cert.MixoutReferenceIdeal.Facts] [hPre_finite_mixout : Cert.Pre_finite_mixout.Facts] : Prop :=
  ∀ (m : (ℓ : Loc Cert.MixoutReferenceIdeal.nD Cert.MixoutReferenceIdeal.τ Cert.MixoutReferenceIdeal.sig) → Buf (Elt Ideal) ℓ) (g : Dev Cert.MixoutReferenceIdeal.nD → PrngReg), Pre_MixoutReferenceIdeal_finite_mixout m →
    θ_run (Cert.MixoutReferenceIdeal.defs (F := Ideal)) (onTc (τ := Cert.MixoutReferenceIdeal.τ) (Cert.MixoutReferenceIdeal.main (F := Ideal))) ⟨m, fun _ => 0, g⟩ (fun r => (∀ c : Dev Cert.MixoutReferenceIdeal.nD,
      r.2.mem ((c.tc : Thread Cert.MixoutReferenceIdeal.nD Cert.MixoutReferenceIdeal.τ).loc Cert.MixoutReferenceIdeal.main_arg0) = m ((c.tc : Thread Cert.MixoutReferenceIdeal.nD Cert.MixoutReferenceIdeal.τ).loc Cert.MixoutReferenceIdeal.main_arg0)
      ∧ r.2.mem ((c.tc : Thread Cert.MixoutReferenceIdeal.nD Cert.MixoutReferenceIdeal.τ).loc Cert.MixoutReferenceIdeal.main_arg1) = m ((c.tc : Thread Cert.MixoutReferenceIdeal.nD Cert.MixoutReferenceIdeal.τ).loc Cert.MixoutReferenceIdeal.main_arg1)
      ∧ r.2.mem ((c.tc : Thread Cert.MixoutReferenceIdeal.nD Cert.MixoutReferenceIdeal.τ).loc Cert.MixoutReferenceIdeal.main_arg2) = m ((c.tc : Thread Cert.MixoutReferenceIdeal.nD Cert.MixoutReferenceIdeal.τ).loc Cert.MixoutReferenceIdeal.main_arg2)
      ∧ r.2.mem ((c.tc : Thread Cert.MixoutReferenceIdeal.nD Cert.MixoutReferenceIdeal.τ).loc Cert.MixoutReferenceIdeal.main_arg3) = m ((c.tc : Thread Cert.MixoutReferenceIdeal.nD Cert.MixoutReferenceIdeal.τ).loc Cert.MixoutReferenceIdeal.main_arg3)
      ∧ r.2.mem ((c.tc : Thread Cert.MixoutReferenceIdeal.nD Cert.MixoutReferenceIdeal.τ).loc Cert.MixoutReferenceIdeal.main_arg4) = m ((c.tc : Thread Cert.MixoutReferenceIdeal.nD Cert.MixoutReferenceIdeal.τ).loc Cert.MixoutReferenceIdeal.main_arg4))
      ∧ r.2.sem = fun _ => 0)

def quiescent_RecKernel [hRecKernel : Cert.RecKernel.Facts] : Prop :=
  ∀ (m : (ℓ : Loc Cert.RecKernel.nD Cert.RecKernel.τ Cert.RecKernel.sig) → Buf (Elt Bits) ℓ) (g : Dev Cert.RecKernel.nD → PrngReg), Pre_RecKernel m →
    θ_run (Cert.RecKernel.defs (F := Bits)) (onTc (τ := Cert.RecKernel.τ) (Cert.RecKernel.main (F := Bits))) ⟨m, fun _ => 0, g⟩ (fun r => (∀ c : Dev Cert.RecKernel.nD,
      r.2.mem ((c.tc : Thread Cert.RecKernel.nD Cert.RecKernel.τ).loc Cert.RecKernel.main_arg0) = m ((c.tc : Thread Cert.RecKernel.nD Cert.RecKernel.τ).loc Cert.RecKernel.main_arg0)
      ∧ r.2.mem ((c.tc : Thread Cert.RecKernel.nD Cert.RecKernel.τ).loc Cert.RecKernel.main_arg1) = m ((c.tc : Thread Cert.RecKernel.nD Cert.RecKernel.τ).loc Cert.RecKernel.main_arg1)
      ∧ r.2.mem ((c.tc : Thread Cert.RecKernel.nD Cert.RecKernel.τ).loc Cert.RecKernel.main_arg2) = m ((c.tc : Thread Cert.RecKernel.nD Cert.RecKernel.τ).loc Cert.RecKernel.main_arg2)
      ∧ r.2.mem ((c.tc : Thread Cert.RecKernel.nD Cert.RecKernel.τ).loc Cert.RecKernel.main_arg3) = m ((c.tc : Thread Cert.RecKernel.nD Cert.RecKernel.τ).loc Cert.RecKernel.main_arg3)
      ∧ r.2.mem ((c.tc : Thread Cert.RecKernel.nD Cert.RecKernel.τ).loc Cert.RecKernel.main_arg4) = m ((c.tc : Thread Cert.RecKernel.nD Cert.RecKernel.τ).loc Cert.RecKernel.main_arg4)
      ∧ r.2.mem ((c.tc : Thread Cert.RecKernel.nD Cert.RecKernel.τ).loc Cert.RecKernel.main_arg5) = m ((c.tc : Thread Cert.RecKernel.nD Cert.RecKernel.τ).loc Cert.RecKernel.main_arg5)
      ∧ r.2.mem ((c.tc : Thread Cert.RecKernel.nD Cert.RecKernel.τ).loc Cert.RecKernel.main_arg6) = m ((c.tc : Thread Cert.RecKernel.nD Cert.RecKernel.τ).loc Cert.RecKernel.main_arg6))
      ∧ r.2.sem = fun _ => 0)

def quiescent_RecKernelIdeal [hRecKernelIdeal : Cert.RecKernelIdeal.Facts] : Prop :=
  ∀ (m : (ℓ : Loc Cert.RecKernelIdeal.nD Cert.RecKernelIdeal.τ Cert.RecKernelIdeal.sig) → Buf (Elt Ideal) ℓ) (g : Dev Cert.RecKernelIdeal.nD → PrngReg), Pre_RecKernelIdeal m →
    θ_run (Cert.RecKernelIdeal.defs (F := Ideal)) (onTc (τ := Cert.RecKernelIdeal.τ) (Cert.RecKernelIdeal.main (F := Ideal))) ⟨m, fun _ => 0, g⟩ (fun r => (∀ c : Dev Cert.RecKernelIdeal.nD,
      r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
      ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1)
      ∧ r.2.mem ((c.tc : Thread Cert.RecKernelIdeal.nD Cert.RecKernelIdeal.τ).loc Cert.RecKernelIdeal.main_arg2) = m ((c.tc : Thread Cert.RecKernelIdeal.nD Cert.RecKernelIdeal.τ).loc Cert.RecKernelIdeal.main_arg2)
      ∧ r.2.mem ((c.tc : Thread Cert.RecKernelIdeal.nD Cert.RecKernelIdeal.τ).loc Cert.RecKernelIdeal.main_arg3) = m ((c.tc : Thread Cert.RecKernelIdeal.nD Cert.RecKernelIdeal.τ).loc Cert.RecKernelIdeal.main_arg3)
      ∧ r.2.mem ((c.tc : Thread Cert.RecKernelIdeal.nD Cert.RecKernelIdeal.τ).loc Cert.RecKernelIdeal.main_arg4) = m ((c.tc : Thread Cert.RecKernelIdeal.nD Cert.RecKernelIdeal.τ).loc Cert.RecKernelIdeal.main_arg4)
      ∧ r.2.mem ((c.tc : Thread Cert.RecKernelIdeal.nD Cert.RecKernelIdeal.τ).loc Cert.RecKernelIdeal.main_arg5) = m ((c.tc : Thread Cert.RecKernelIdeal.nD Cert.RecKernelIdeal.τ).loc Cert.RecKernelIdeal.main_arg5)
      ∧ r.2.mem ((c.tc : Thread Cert.RecKernelIdeal.nD Cert.RecKernelIdeal.τ).loc Cert.RecKernelIdeal.main_arg6) = m ((c.tc : Thread Cert.RecKernelIdeal.nD Cert.RecKernelIdeal.τ).loc Cert.RecKernelIdeal.main_arg6))
      ∧ r.2.sem = fun _ => 0)

def quiescent_RecKernelIdeal_pre_finite_rec [hRecKernelIdeal : Cert.RecKernelIdeal.Facts] [hPre_finite_rec : Cert.Pre_finite_rec.Facts] : Prop :=
  ∀ (m : (ℓ : Loc Cert.RecKernelIdeal.nD Cert.RecKernelIdeal.τ Cert.RecKernelIdeal.sig) → Buf (Elt Ideal) ℓ) (g : Dev Cert.RecKernelIdeal.nD → PrngReg), Pre_RecKernelIdeal_finite_rec m →
    θ_run (Cert.RecKernelIdeal.defs (F := Ideal)) (onTc (τ := Cert.RecKernelIdeal.τ) (Cert.RecKernelIdeal.main (F := Ideal))) ⟨m, fun _ => 0, g⟩ (fun r => (∀ c : Dev Cert.RecKernelIdeal.nD,
      r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
      ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1)
      ∧ r.2.mem ((c.tc : Thread Cert.RecKernelIdeal.nD Cert.RecKernelIdeal.τ).loc Cert.RecKernelIdeal.main_arg2) = m ((c.tc : Thread Cert.RecKernelIdeal.nD Cert.RecKernelIdeal.τ).loc Cert.RecKernelIdeal.main_arg2)
      ∧ r.2.mem ((c.tc : Thread Cert.RecKernelIdeal.nD Cert.RecKernelIdeal.τ).loc Cert.RecKernelIdeal.main_arg3) = m ((c.tc : Thread Cert.RecKernelIdeal.nD Cert.RecKernelIdeal.τ).loc Cert.RecKernelIdeal.main_arg3)
      ∧ r.2.mem ((c.tc : Thread Cert.RecKernelIdeal.nD Cert.RecKernelIdeal.τ).loc Cert.RecKernelIdeal.main_arg4) = m ((c.tc : Thread Cert.RecKernelIdeal.nD Cert.RecKernelIdeal.τ).loc Cert.RecKernelIdeal.main_arg4)
      ∧ r.2.mem ((c.tc : Thread Cert.RecKernelIdeal.nD Cert.RecKernelIdeal.τ).loc Cert.RecKernelIdeal.main_arg5) = m ((c.tc : Thread Cert.RecKernelIdeal.nD Cert.RecKernelIdeal.τ).loc Cert.RecKernelIdeal.main_arg5)
      ∧ r.2.mem ((c.tc : Thread Cert.RecKernelIdeal.nD Cert.RecKernelIdeal.τ).loc Cert.RecKernelIdeal.main_arg6) = m ((c.tc : Thread Cert.RecKernelIdeal.nD Cert.RecKernelIdeal.τ).loc Cert.RecKernelIdeal.main_arg6))
      ∧ r.2.sem = fun _ => 0)

def quiescent_RecReferenceIdeal [hRecReferenceIdeal : Cert.RecReferenceIdeal.Facts] : Prop :=
  ∀ (m : (ℓ : Loc Cert.RecReferenceIdeal.nD Cert.RecReferenceIdeal.τ Cert.RecReferenceIdeal.sig) → Buf (Elt Ideal) ℓ) (g : Dev Cert.RecReferenceIdeal.nD → PrngReg), Pre_RecReferenceIdeal m →
    θ_run (Cert.RecReferenceIdeal.defs (F := Ideal)) (onTc (τ := Cert.RecReferenceIdeal.τ) (Cert.RecReferenceIdeal.main (F := Ideal))) ⟨m, fun _ => 0, g⟩ (fun r => (∀ c : Dev Cert.RecReferenceIdeal.nD,
      r.2.mem ((c.tc : Thread Cert.RecReferenceIdeal.nD Cert.RecReferenceIdeal.τ).loc Cert.RecReferenceIdeal.main_arg0) = m ((c.tc : Thread Cert.RecReferenceIdeal.nD Cert.RecReferenceIdeal.τ).loc Cert.RecReferenceIdeal.main_arg0)
      ∧ r.2.mem ((c.tc : Thread Cert.RecReferenceIdeal.nD Cert.RecReferenceIdeal.τ).loc Cert.RecReferenceIdeal.main_arg1) = m ((c.tc : Thread Cert.RecReferenceIdeal.nD Cert.RecReferenceIdeal.τ).loc Cert.RecReferenceIdeal.main_arg1)
      ∧ r.2.mem ((c.tc : Thread Cert.RecReferenceIdeal.nD Cert.RecReferenceIdeal.τ).loc Cert.RecReferenceIdeal.main_arg2) = m ((c.tc : Thread Cert.RecReferenceIdeal.nD Cert.RecReferenceIdeal.τ).loc Cert.RecReferenceIdeal.main_arg2)
      ∧ r.2.mem ((c.tc : Thread Cert.RecReferenceIdeal.nD Cert.RecReferenceIdeal.τ).loc Cert.RecReferenceIdeal.main_arg3) = m ((c.tc : Thread Cert.RecReferenceIdeal.nD Cert.RecReferenceIdeal.τ).loc Cert.RecReferenceIdeal.main_arg3)
      ∧ r.2.mem ((c.tc : Thread Cert.RecReferenceIdeal.nD Cert.RecReferenceIdeal.τ).loc Cert.RecReferenceIdeal.main_arg4) = m ((c.tc : Thread Cert.RecReferenceIdeal.nD Cert.RecReferenceIdeal.τ).loc Cert.RecReferenceIdeal.main_arg4)
      ∧ r.2.mem ((c.tc : Thread Cert.RecReferenceIdeal.nD Cert.RecReferenceIdeal.τ).loc Cert.RecReferenceIdeal.main_arg5) = m ((c.tc : Thread Cert.RecReferenceIdeal.nD Cert.RecReferenceIdeal.τ).loc Cert.RecReferenceIdeal.main_arg5)
      ∧ r.2.mem ((c.tc : Thread Cert.RecReferenceIdeal.nD Cert.RecReferenceIdeal.τ).loc Cert.RecReferenceIdeal.main_arg6) = m ((c.tc : Thread Cert.RecReferenceIdeal.nD Cert.RecReferenceIdeal.τ).loc Cert.RecReferenceIdeal.main_arg6))
      ∧ r.2.sem = fun _ => 0)

def quiescent_RecReferenceIdeal_pre_finite_rec [hRecReferenceIdeal : Cert.RecReferenceIdeal.Facts] [hPre_finite_rec : Cert.Pre_finite_rec.Facts] : Prop :=
  ∀ (m : (ℓ : Loc Cert.RecReferenceIdeal.nD Cert.RecReferenceIdeal.τ Cert.RecReferenceIdeal.sig) → Buf (Elt Ideal) ℓ) (g : Dev Cert.RecReferenceIdeal.nD → PrngReg), Pre_RecReferenceIdeal_finite_rec m →
    θ_run (Cert.RecReferenceIdeal.defs (F := Ideal)) (onTc (τ := Cert.RecReferenceIdeal.τ) (Cert.RecReferenceIdeal.main (F := Ideal))) ⟨m, fun _ => 0, g⟩ (fun r => (∀ c : Dev Cert.RecReferenceIdeal.nD,
      r.2.mem ((c.tc : Thread Cert.RecReferenceIdeal.nD Cert.RecReferenceIdeal.τ).loc Cert.RecReferenceIdeal.main_arg0) = m ((c.tc : Thread Cert.RecReferenceIdeal.nD Cert.RecReferenceIdeal.τ).loc Cert.RecReferenceIdeal.main_arg0)
      ∧ r.2.mem ((c.tc : Thread Cert.RecReferenceIdeal.nD Cert.RecReferenceIdeal.τ).loc Cert.RecReferenceIdeal.main_arg1) = m ((c.tc : Thread Cert.RecReferenceIdeal.nD Cert.RecReferenceIdeal.τ).loc Cert.RecReferenceIdeal.main_arg1)
      ∧ r.2.mem ((c.tc : Thread Cert.RecReferenceIdeal.nD Cert.RecReferenceIdeal.τ).loc Cert.RecReferenceIdeal.main_arg2) = m ((c.tc : Thread Cert.RecReferenceIdeal.nD Cert.RecReferenceIdeal.τ).loc Cert.RecReferenceIdeal.main_arg2)
      ∧ r.2.mem ((c.tc : Thread Cert.RecReferenceIdeal.nD Cert.RecReferenceIdeal.τ).loc Cert.RecReferenceIdeal.main_arg3) = m ((c.tc : Thread Cert.RecReferenceIdeal.nD Cert.RecReferenceIdeal.τ).loc Cert.RecReferenceIdeal.main_arg3)
      ∧ r.2.mem ((c.tc : Thread Cert.RecReferenceIdeal.nD Cert.RecReferenceIdeal.τ).loc Cert.RecReferenceIdeal.main_arg4) = m ((c.tc : Thread Cert.RecReferenceIdeal.nD Cert.RecReferenceIdeal.τ).loc Cert.RecReferenceIdeal.main_arg4)
      ∧ r.2.mem ((c.tc : Thread Cert.RecReferenceIdeal.nD Cert.RecReferenceIdeal.τ).loc Cert.RecReferenceIdeal.main_arg5) = m ((c.tc : Thread Cert.RecReferenceIdeal.nD Cert.RecReferenceIdeal.τ).loc Cert.RecReferenceIdeal.main_arg5)
      ∧ r.2.mem ((c.tc : Thread Cert.RecReferenceIdeal.nD Cert.RecReferenceIdeal.τ).loc Cert.RecReferenceIdeal.main_arg6) = m ((c.tc : Thread Cert.RecReferenceIdeal.nD Cert.RecReferenceIdeal.τ).loc Cert.RecReferenceIdeal.main_arg6))
      ∧ r.2.sem = fun _ => 0)

def quiescent_GprojKernel [hGprojKernel : Cert.GprojKernel.Facts] : Prop :=
  ∀ (m : (ℓ : Loc Cert.GprojKernel.nD Cert.GprojKernel.τ Cert.GprojKernel.sig) → Buf (Elt Bits) ℓ) (g : Dev Cert.GprojKernel.nD → PrngReg), Pre_GprojKernel m →
    θ_run (Cert.GprojKernel.defs (F := Bits)) (onTc (τ := Cert.GprojKernel.τ) (Cert.GprojKernel.main (F := Bits))) ⟨m, fun _ => 0, g⟩ (fun r => (∀ c : Dev Cert.GprojKernel.nD,
      r.2.mem ((c.tc : Thread Cert.GprojKernel.nD Cert.GprojKernel.τ).loc Cert.GprojKernel.main_arg0) = m ((c.tc : Thread Cert.GprojKernel.nD Cert.GprojKernel.τ).loc Cert.GprojKernel.main_arg0)
      ∧ r.2.mem ((c.tc : Thread Cert.GprojKernel.nD Cert.GprojKernel.τ).loc Cert.GprojKernel.main_arg1) = m ((c.tc : Thread Cert.GprojKernel.nD Cert.GprojKernel.τ).loc Cert.GprojKernel.main_arg1)
      ∧ r.2.mem ((c.tc : Thread Cert.GprojKernel.nD Cert.GprojKernel.τ).loc Cert.GprojKernel.main_arg2) = m ((c.tc : Thread Cert.GprojKernel.nD Cert.GprojKernel.τ).loc Cert.GprojKernel.main_arg2)
      ∧ r.2.mem ((c.tc : Thread Cert.GprojKernel.nD Cert.GprojKernel.τ).loc Cert.GprojKernel.main_arg3) = m ((c.tc : Thread Cert.GprojKernel.nD Cert.GprojKernel.τ).loc Cert.GprojKernel.main_arg3)
      ∧ r.2.mem ((c.tc : Thread Cert.GprojKernel.nD Cert.GprojKernel.τ).loc Cert.GprojKernel.main_arg4) = m ((c.tc : Thread Cert.GprojKernel.nD Cert.GprojKernel.τ).loc Cert.GprojKernel.main_arg4)
      ∧ r.2.mem ((c.tc : Thread Cert.GprojKernel.nD Cert.GprojKernel.τ).loc Cert.GprojKernel.main_arg5) = m ((c.tc : Thread Cert.GprojKernel.nD Cert.GprojKernel.τ).loc Cert.GprojKernel.main_arg5)
      ∧ r.2.mem ((c.tc : Thread Cert.GprojKernel.nD Cert.GprojKernel.τ).loc Cert.GprojKernel.main_arg6) = m ((c.tc : Thread Cert.GprojKernel.nD Cert.GprojKernel.τ).loc Cert.GprojKernel.main_arg6)
      ∧ r.2.mem ((c.tc : Thread Cert.GprojKernel.nD Cert.GprojKernel.τ).loc Cert.GprojKernel.main_arg7) = m ((c.tc : Thread Cert.GprojKernel.nD Cert.GprojKernel.τ).loc Cert.GprojKernel.main_arg7)
      ∧ r.2.mem ((c.tc : Thread Cert.GprojKernel.nD Cert.GprojKernel.τ).loc Cert.GprojKernel.main_arg8) = m ((c.tc : Thread Cert.GprojKernel.nD Cert.GprojKernel.τ).loc Cert.GprojKernel.main_arg8))
      ∧ r.2.sem = fun _ => 0)

def quiescent_GprojKernelIdeal [hGprojKernelIdeal : Cert.GprojKernelIdeal.Facts] : Prop :=
  ∀ (m : (ℓ : Loc Cert.GprojKernelIdeal.nD Cert.GprojKernelIdeal.τ Cert.GprojKernelIdeal.sig) → Buf (Elt Ideal) ℓ) (g : Dev Cert.GprojKernelIdeal.nD → PrngReg), Pre_GprojKernelIdeal m →
    θ_run (Cert.GprojKernelIdeal.defs (F := Ideal)) (onTc (τ := Cert.GprojKernelIdeal.τ) (Cert.GprojKernelIdeal.main (F := Ideal))) ⟨m, fun _ => 0, g⟩ (fun r => (∀ c : Dev Cert.GprojKernelIdeal.nD,
      r.2.mem ((c.tc : Thread Cert.GprojKernelIdeal.nD Cert.GprojKernelIdeal.τ).loc Cert.GprojKernelIdeal.main_arg0) = m ((c.tc : Thread Cert.GprojKernelIdeal.nD Cert.GprojKernelIdeal.τ).loc Cert.GprojKernelIdeal.main_arg0)
      ∧ r.2.mem ((c.tc : Thread Cert.GprojKernelIdeal.nD Cert.GprojKernelIdeal.τ).loc Cert.GprojKernelIdeal.main_arg1) = m ((c.tc : Thread Cert.GprojKernelIdeal.nD Cert.GprojKernelIdeal.τ).loc Cert.GprojKernelIdeal.main_arg1)
      ∧ r.2.mem ((c.tc : Thread Cert.GprojKernelIdeal.nD Cert.GprojKernelIdeal.τ).loc Cert.GprojKernelIdeal.main_arg2) = m ((c.tc : Thread Cert.GprojKernelIdeal.nD Cert.GprojKernelIdeal.τ).loc Cert.GprojKernelIdeal.main_arg2)
      ∧ r.2.mem ((c.tc : Thread Cert.GprojKernelIdeal.nD Cert.GprojKernelIdeal.τ).loc Cert.GprojKernelIdeal.main_arg3) = m ((c.tc : Thread Cert.GprojKernelIdeal.nD Cert.GprojKernelIdeal.τ).loc Cert.GprojKernelIdeal.main_arg3)
      ∧ r.2.mem ((c.tc : Thread Cert.GprojKernelIdeal.nD Cert.GprojKernelIdeal.τ).loc Cert.GprojKernelIdeal.main_arg4) = m ((c.tc : Thread Cert.GprojKernelIdeal.nD Cert.GprojKernelIdeal.τ).loc Cert.GprojKernelIdeal.main_arg4)
      ∧ r.2.mem ((c.tc : Thread Cert.GprojKernelIdeal.nD Cert.GprojKernelIdeal.τ).loc Cert.GprojKernelIdeal.main_arg5) = m ((c.tc : Thread Cert.GprojKernelIdeal.nD Cert.GprojKernelIdeal.τ).loc Cert.GprojKernelIdeal.main_arg5)
      ∧ r.2.mem ((c.tc : Thread Cert.GprojKernelIdeal.nD Cert.GprojKernelIdeal.τ).loc Cert.GprojKernelIdeal.main_arg6) = m ((c.tc : Thread Cert.GprojKernelIdeal.nD Cert.GprojKernelIdeal.τ).loc Cert.GprojKernelIdeal.main_arg6)
      ∧ r.2.mem ((c.tc : Thread Cert.GprojKernelIdeal.nD Cert.GprojKernelIdeal.τ).loc Cert.GprojKernelIdeal.main_arg7) = m ((c.tc : Thread Cert.GprojKernelIdeal.nD Cert.GprojKernelIdeal.τ).loc Cert.GprojKernelIdeal.main_arg7)
      ∧ r.2.mem ((c.tc : Thread Cert.GprojKernelIdeal.nD Cert.GprojKernelIdeal.τ).loc Cert.GprojKernelIdeal.main_arg8) = m ((c.tc : Thread Cert.GprojKernelIdeal.nD Cert.GprojKernelIdeal.τ).loc Cert.GprojKernelIdeal.main_arg8))
      ∧ r.2.sem = fun _ => 0)

def quiescent_GprojKernelIdeal_pre_finite_gproj [hGprojKernelIdeal : Cert.GprojKernelIdeal.Facts] [hPre_finite_gproj : Cert.Pre_finite_gproj.Facts] : Prop :=
  ∀ (m : (ℓ : Loc Cert.GprojKernelIdeal.nD Cert.GprojKernelIdeal.τ Cert.GprojKernelIdeal.sig) → Buf (Elt Ideal) ℓ) (g : Dev Cert.GprojKernelIdeal.nD → PrngReg), Pre_GprojKernelIdeal_finite_gproj m →
    θ_run (Cert.GprojKernelIdeal.defs (F := Ideal)) (onTc (τ := Cert.GprojKernelIdeal.τ) (Cert.GprojKernelIdeal.main (F := Ideal))) ⟨m, fun _ => 0, g⟩ (fun r => (∀ c : Dev Cert.GprojKernelIdeal.nD,
      r.2.mem ((c.tc : Thread Cert.GprojKernelIdeal.nD Cert.GprojKernelIdeal.τ).loc Cert.GprojKernelIdeal.main_arg0) = m ((c.tc : Thread Cert.GprojKernelIdeal.nD Cert.GprojKernelIdeal.τ).loc Cert.GprojKernelIdeal.main_arg0)
      ∧ r.2.mem ((c.tc : Thread Cert.GprojKernelIdeal.nD Cert.GprojKernelIdeal.τ).loc Cert.GprojKernelIdeal.main_arg1) = m ((c.tc : Thread Cert.GprojKernelIdeal.nD Cert.GprojKernelIdeal.τ).loc Cert.GprojKernelIdeal.main_arg1)
      ∧ r.2.mem ((c.tc : Thread Cert.GprojKernelIdeal.nD Cert.GprojKernelIdeal.τ).loc Cert.GprojKernelIdeal.main_arg2) = m ((c.tc : Thread Cert.GprojKernelIdeal.nD Cert.GprojKernelIdeal.τ).loc Cert.GprojKernelIdeal.main_arg2)
      ∧ r.2.mem ((c.tc : Thread Cert.GprojKernelIdeal.nD Cert.GprojKernelIdeal.τ).loc Cert.GprojKernelIdeal.main_arg3) = m ((c.tc : Thread Cert.GprojKernelIdeal.nD Cert.GprojKernelIdeal.τ).loc Cert.GprojKernelIdeal.main_arg3)
      ∧ r.2.mem ((c.tc : Thread Cert.GprojKernelIdeal.nD Cert.GprojKernelIdeal.τ).loc Cert.GprojKernelIdeal.main_arg4) = m ((c.tc : Thread Cert.GprojKernelIdeal.nD Cert.GprojKernelIdeal.τ).loc Cert.GprojKernelIdeal.main_arg4)
      ∧ r.2.mem ((c.tc : Thread Cert.GprojKernelIdeal.nD Cert.GprojKernelIdeal.τ).loc Cert.GprojKernelIdeal.main_arg5) = m ((c.tc : Thread Cert.GprojKernelIdeal.nD Cert.GprojKernelIdeal.τ).loc Cert.GprojKernelIdeal.main_arg5)
      ∧ r.2.mem ((c.tc : Thread Cert.GprojKernelIdeal.nD Cert.GprojKernelIdeal.τ).loc Cert.GprojKernelIdeal.main_arg6) = m ((c.tc : Thread Cert.GprojKernelIdeal.nD Cert.GprojKernelIdeal.τ).loc Cert.GprojKernelIdeal.main_arg6)
      ∧ r.2.mem ((c.tc : Thread Cert.GprojKernelIdeal.nD Cert.GprojKernelIdeal.τ).loc Cert.GprojKernelIdeal.main_arg7) = m ((c.tc : Thread Cert.GprojKernelIdeal.nD Cert.GprojKernelIdeal.τ).loc Cert.GprojKernelIdeal.main_arg7)
      ∧ r.2.mem ((c.tc : Thread Cert.GprojKernelIdeal.nD Cert.GprojKernelIdeal.τ).loc Cert.GprojKernelIdeal.main_arg8) = m ((c.tc : Thread Cert.GprojKernelIdeal.nD Cert.GprojKernelIdeal.τ).loc Cert.GprojKernelIdeal.main_arg8))
      ∧ r.2.sem = fun _ => 0)

def quiescent_GprojReferenceIdeal [hGprojReferenceIdeal : Cert.GprojReferenceIdeal.Facts] : Prop :=
  ∀ (m : (ℓ : Loc Cert.GprojReferenceIdeal.nD Cert.GprojReferenceIdeal.τ Cert.GprojReferenceIdeal.sig) → Buf (Elt Ideal) ℓ) (g : Dev Cert.GprojReferenceIdeal.nD → PrngReg), Pre_GprojReferenceIdeal m →
    θ_run (Cert.GprojReferenceIdeal.defs (F := Ideal)) (onTc (τ := Cert.GprojReferenceIdeal.τ) (Cert.GprojReferenceIdeal.main (F := Ideal))) ⟨m, fun _ => 0, g⟩ (fun r => (∀ c : Dev Cert.GprojReferenceIdeal.nD,
      r.2.mem ((c.tc : Thread Cert.GprojReferenceIdeal.nD Cert.GprojReferenceIdeal.τ).loc Cert.GprojReferenceIdeal.main_arg0) = m ((c.tc : Thread Cert.GprojReferenceIdeal.nD Cert.GprojReferenceIdeal.τ).loc Cert.GprojReferenceIdeal.main_arg0)
      ∧ r.2.mem ((c.tc : Thread Cert.GprojReferenceIdeal.nD Cert.GprojReferenceIdeal.τ).loc Cert.GprojReferenceIdeal.main_arg1) = m ((c.tc : Thread Cert.GprojReferenceIdeal.nD Cert.GprojReferenceIdeal.τ).loc Cert.GprojReferenceIdeal.main_arg1)
      ∧ r.2.mem ((c.tc : Thread Cert.GprojReferenceIdeal.nD Cert.GprojReferenceIdeal.τ).loc Cert.GprojReferenceIdeal.main_arg2) = m ((c.tc : Thread Cert.GprojReferenceIdeal.nD Cert.GprojReferenceIdeal.τ).loc Cert.GprojReferenceIdeal.main_arg2)
      ∧ r.2.mem ((c.tc : Thread Cert.GprojReferenceIdeal.nD Cert.GprojReferenceIdeal.τ).loc Cert.GprojReferenceIdeal.main_arg3) = m ((c.tc : Thread Cert.GprojReferenceIdeal.nD Cert.GprojReferenceIdeal.τ).loc Cert.GprojReferenceIdeal.main_arg3)
      ∧ r.2.mem ((c.tc : Thread Cert.GprojReferenceIdeal.nD Cert.GprojReferenceIdeal.τ).loc Cert.GprojReferenceIdeal.main_arg4) = m ((c.tc : Thread Cert.GprojReferenceIdeal.nD Cert.GprojReferenceIdeal.τ).loc Cert.GprojReferenceIdeal.main_arg4)
      ∧ r.2.mem ((c.tc : Thread Cert.GprojReferenceIdeal.nD Cert.GprojReferenceIdeal.τ).loc Cert.GprojReferenceIdeal.main_arg5) = m ((c.tc : Thread Cert.GprojReferenceIdeal.nD Cert.GprojReferenceIdeal.τ).loc Cert.GprojReferenceIdeal.main_arg5)
      ∧ r.2.mem ((c.tc : Thread Cert.GprojReferenceIdeal.nD Cert.GprojReferenceIdeal.τ).loc Cert.GprojReferenceIdeal.main_arg6) = m ((c.tc : Thread Cert.GprojReferenceIdeal.nD Cert.GprojReferenceIdeal.τ).loc Cert.GprojReferenceIdeal.main_arg6)
      ∧ r.2.mem ((c.tc : Thread Cert.GprojReferenceIdeal.nD Cert.GprojReferenceIdeal.τ).loc Cert.GprojReferenceIdeal.main_arg7) = m ((c.tc : Thread Cert.GprojReferenceIdeal.nD Cert.GprojReferenceIdeal.τ).loc Cert.GprojReferenceIdeal.main_arg7)
      ∧ r.2.mem ((c.tc : Thread Cert.GprojReferenceIdeal.nD Cert.GprojReferenceIdeal.τ).loc Cert.GprojReferenceIdeal.main_arg8) = m ((c.tc : Thread Cert.GprojReferenceIdeal.nD Cert.GprojReferenceIdeal.τ).loc Cert.GprojReferenceIdeal.main_arg8))
      ∧ r.2.sem = fun _ => 0)

def quiescent_GprojReferenceIdeal_pre_finite_gproj [hGprojReferenceIdeal : Cert.GprojReferenceIdeal.Facts] [hPre_finite_gproj : Cert.Pre_finite_gproj.Facts] : Prop :=
  ∀ (m : (ℓ : Loc Cert.GprojReferenceIdeal.nD Cert.GprojReferenceIdeal.τ Cert.GprojReferenceIdeal.sig) → Buf (Elt Ideal) ℓ) (g : Dev Cert.GprojReferenceIdeal.nD → PrngReg), Pre_GprojReferenceIdeal_finite_gproj m →
    θ_run (Cert.GprojReferenceIdeal.defs (F := Ideal)) (onTc (τ := Cert.GprojReferenceIdeal.τ) (Cert.GprojReferenceIdeal.main (F := Ideal))) ⟨m, fun _ => 0, g⟩ (fun r => (∀ c : Dev Cert.GprojReferenceIdeal.nD,
      r.2.mem ((c.tc : Thread Cert.GprojReferenceIdeal.nD Cert.GprojReferenceIdeal.τ).loc Cert.GprojReferenceIdeal.main_arg0) = m ((c.tc : Thread Cert.GprojReferenceIdeal.nD Cert.GprojReferenceIdeal.τ).loc Cert.GprojReferenceIdeal.main_arg0)
      ∧ r.2.mem ((c.tc : Thread Cert.GprojReferenceIdeal.nD Cert.GprojReferenceIdeal.τ).loc Cert.GprojReferenceIdeal.main_arg1) = m ((c.tc : Thread Cert.GprojReferenceIdeal.nD Cert.GprojReferenceIdeal.τ).loc Cert.GprojReferenceIdeal.main_arg1)
      ∧ r.2.mem ((c.tc : Thread Cert.GprojReferenceIdeal.nD Cert.GprojReferenceIdeal.τ).loc Cert.GprojReferenceIdeal.main_arg2) = m ((c.tc : Thread Cert.GprojReferenceIdeal.nD Cert.GprojReferenceIdeal.τ).loc Cert.GprojReferenceIdeal.main_arg2)
      ∧ r.2.mem ((c.tc : Thread Cert.GprojReferenceIdeal.nD Cert.GprojReferenceIdeal.τ).loc Cert.GprojReferenceIdeal.main_arg3) = m ((c.tc : Thread Cert.GprojReferenceIdeal.nD Cert.GprojReferenceIdeal.τ).loc Cert.GprojReferenceIdeal.main_arg3)
      ∧ r.2.mem ((c.tc : Thread Cert.GprojReferenceIdeal.nD Cert.GprojReferenceIdeal.τ).loc Cert.GprojReferenceIdeal.main_arg4) = m ((c.tc : Thread Cert.GprojReferenceIdeal.nD Cert.GprojReferenceIdeal.τ).loc Cert.GprojReferenceIdeal.main_arg4)
      ∧ r.2.mem ((c.tc : Thread Cert.GprojReferenceIdeal.nD Cert.GprojReferenceIdeal.τ).loc Cert.GprojReferenceIdeal.main_arg5) = m ((c.tc : Thread Cert.GprojReferenceIdeal.nD Cert.GprojReferenceIdeal.τ).loc Cert.GprojReferenceIdeal.main_arg5)
      ∧ r.2.mem ((c.tc : Thread Cert.GprojReferenceIdeal.nD Cert.GprojReferenceIdeal.τ).loc Cert.GprojReferenceIdeal.main_arg6) = m ((c.tc : Thread Cert.GprojReferenceIdeal.nD Cert.GprojReferenceIdeal.τ).loc Cert.GprojReferenceIdeal.main_arg6)
      ∧ r.2.mem ((c.tc : Thread Cert.GprojReferenceIdeal.nD Cert.GprojReferenceIdeal.τ).loc Cert.GprojReferenceIdeal.main_arg7) = m ((c.tc : Thread Cert.GprojReferenceIdeal.nD Cert.GprojReferenceIdeal.τ).loc Cert.GprojReferenceIdeal.main_arg7)
      ∧ r.2.mem ((c.tc : Thread Cert.GprojReferenceIdeal.nD Cert.GprojReferenceIdeal.τ).loc Cert.GprojReferenceIdeal.main_arg8) = m ((c.tc : Thread Cert.GprojReferenceIdeal.nD Cert.GprojReferenceIdeal.τ).loc Cert.GprojReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def preserves_Kernel_KernelIdeal : Prop :=
  True

def algebraic_KernelIdeal_ReferenceIdeal_pre_finite_norm [hKernelIdeal : Cert.KernelIdeal.Facts] [hReferenceIdeal : Cert.ReferenceIdeal.Facts] [hPre_finite_norm : Cert.Pre_finite_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_LocalKernel_LocalKernelIdeal : Prop :=
  True

def algebraic_LocalKernelIdeal_LocalReferenceIdeal_pre_finite_local [hLocalKernelIdeal : Cert.LocalKernelIdeal.Facts] [hLocalReferenceIdeal : Cert.LocalReferenceIdeal.Facts] [hPre_finite_local : Cert.Pre_finite_local.Facts] : Prop :=
  ∀ (m : (ℓ : Loc Cert.LocalKernelIdeal.nD Cert.LocalKernelIdeal.τ Cert.LocalKernelIdeal.sig) → Buf (Elt Ideal) ℓ) (g : Dev Cert.LocalKernelIdeal.nD → PrngReg)
    (m' : (ℓ : Loc Cert.LocalReferenceIdeal.nD Cert.LocalReferenceIdeal.τ Cert.LocalReferenceIdeal.sig) → Buf (Elt Ideal) ℓ) (g' : Dev Cert.LocalReferenceIdeal.nD → PrngReg), Pre_LocalKernelIdeal_finite_local m →
    (∀ c : Dev Cert.LocalKernelIdeal.nD,
      m' ((c.tc : Thread Cert.LocalReferenceIdeal.nD Cert.LocalReferenceIdeal.τ).loc Cert.LocalReferenceIdeal.main_arg0) = m ((c.tc : Thread Cert.LocalKernelIdeal.nD Cert.LocalKernelIdeal.τ).loc Cert.LocalKernelIdeal.main_arg0)
      ∧ m' ((c.tc : Thread Cert.LocalReferenceIdeal.nD Cert.LocalReferenceIdeal.τ).loc Cert.LocalReferenceIdeal.main_arg1) = m ((c.tc : Thread Cert.LocalKernelIdeal.nD Cert.LocalKernelIdeal.τ).loc Cert.LocalKernelIdeal.main_arg1)
      ∧ m' ((c.tc : Thread Cert.LocalReferenceIdeal.nD Cert.LocalReferenceIdeal.τ).loc Cert.LocalReferenceIdeal.main_arg2) = m ((c.tc : Thread Cert.LocalKernelIdeal.nD Cert.LocalKernelIdeal.τ).loc Cert.LocalKernelIdeal.main_arg2)
      ∧ m' ((c.tc : Thread Cert.LocalReferenceIdeal.nD Cert.LocalReferenceIdeal.τ).loc Cert.LocalReferenceIdeal.main_arg3) = m ((c.tc : Thread Cert.LocalKernelIdeal.nD Cert.LocalKernelIdeal.τ).loc Cert.LocalKernelIdeal.main_arg3)
      ∧ m' ((c.tc : Thread Cert.LocalReferenceIdeal.nD Cert.LocalReferenceIdeal.τ).loc Cert.LocalReferenceIdeal.main_arg4) = m ((c.tc : Thread Cert.LocalKernelIdeal.nD Cert.LocalKernelIdeal.τ).loc Cert.LocalKernelIdeal.main_arg4)
      ∧ m' ((c.tc : Thread Cert.LocalReferenceIdeal.nD Cert.LocalReferenceIdeal.τ).loc Cert.LocalReferenceIdeal.main_arg5) = m ((c.tc : Thread Cert.LocalKernelIdeal.nD Cert.LocalKernelIdeal.τ).loc Cert.LocalKernelIdeal.main_arg5)
      ∧ m' ((c.tc : Thread Cert.LocalReferenceIdeal.nD Cert.LocalReferenceIdeal.τ).loc Cert.LocalReferenceIdeal.main_arg6) = m ((c.tc : Thread Cert.LocalKernelIdeal.nD Cert.LocalKernelIdeal.τ).loc Cert.LocalKernelIdeal.main_arg6)
      ∧ m' ((c.tc : Thread Cert.LocalReferenceIdeal.nD Cert.LocalReferenceIdeal.τ).loc Cert.LocalReferenceIdeal.main_arg7) = m ((c.tc : Thread Cert.LocalKernelIdeal.nD Cert.LocalKernelIdeal.τ).loc Cert.LocalKernelIdeal.main_arg7)
      ∧ m' ((c.tc : Thread Cert.LocalReferenceIdeal.nD Cert.LocalReferenceIdeal.τ).loc Cert.LocalReferenceIdeal.main_arg8) = m ((c.tc : Thread Cert.LocalKernelIdeal.nD Cert.LocalKernelIdeal.τ).loc Cert.LocalKernelIdeal.main_arg8)
      ∧ m' ((c.tc : Thread Cert.LocalReferenceIdeal.nD Cert.LocalReferenceIdeal.τ).loc Cert.LocalReferenceIdeal.main_arg9) = m ((c.tc : Thread Cert.LocalKernelIdeal.nD Cert.LocalKernelIdeal.τ).loc Cert.LocalKernelIdeal.main_arg9)) →
    ∃ (v0 : (c : Dev Cert.LocalKernelIdeal.nD) → Buf (Elt Ideal) ((c.tc : Thread Cert.LocalKernelIdeal.nD Cert.LocalKernelIdeal.τ).loc Cert.LocalKernelIdeal.main_v83_0)) (v1 : (c : Dev Cert.LocalKernelIdeal.nD) → Buf (Elt Ideal) ((c.tc : Thread Cert.LocalKernelIdeal.nD Cert.LocalKernelIdeal.τ).loc Cert.LocalKernelIdeal.main_v83_1)) (v2 : (c : Dev Cert.LocalKernelIdeal.nD) → Buf (Elt Ideal) ((c.tc : Thread Cert.LocalKernelIdeal.nD Cert.LocalKernelIdeal.τ).loc Cert.LocalKernelIdeal.main_v83_2)) (v3 : (c : Dev Cert.LocalKernelIdeal.nD) → Buf (Elt Ideal) ((c.tc : Thread Cert.LocalKernelIdeal.nD Cert.LocalKernelIdeal.τ).loc Cert.LocalKernelIdeal.main_v83_3)) (v4 : (c : Dev Cert.LocalKernelIdeal.nD) → Buf (Elt Ideal) ((c.tc : Thread Cert.LocalKernelIdeal.nD Cert.LocalKernelIdeal.τ).loc Cert.LocalKernelIdeal.main_v83_4)) (v5 : (c : Dev Cert.LocalKernelIdeal.nD) → Buf (Elt Ideal) ((c.tc : Thread Cert.LocalKernelIdeal.nD Cert.LocalKernelIdeal.τ).loc Cert.LocalKernelIdeal.main_v83_5)),
      θ_run (Cert.LocalKernelIdeal.defs (F := Ideal)) (onTc (τ := Cert.LocalKernelIdeal.τ) (Cert.LocalKernelIdeal.main (F := Ideal))) ⟨m, fun _ => 0, g⟩ (fun r => ∀ c : Dev Cert.LocalKernelIdeal.nD,
          r.2.mem ((c.tc : Thread Cert.LocalKernelIdeal.nD Cert.LocalKernelIdeal.τ).loc Cert.LocalKernelIdeal.main_v83_0) = v0 c
          ∧ r.2.mem ((c.tc : Thread Cert.LocalKernelIdeal.nD Cert.LocalKernelIdeal.τ).loc Cert.LocalKernelIdeal.main_v83_1) = v1 c
          ∧ r.2.mem ((c.tc : Thread Cert.LocalKernelIdeal.nD Cert.LocalKernelIdeal.τ).loc Cert.LocalKernelIdeal.main_v83_2) = v2 c
          ∧ r.2.mem ((c.tc : Thread Cert.LocalKernelIdeal.nD Cert.LocalKernelIdeal.τ).loc Cert.LocalKernelIdeal.main_v83_3) = v3 c
          ∧ r.2.mem ((c.tc : Thread Cert.LocalKernelIdeal.nD Cert.LocalKernelIdeal.τ).loc Cert.LocalKernelIdeal.main_v83_4) = v4 c
          ∧ r.2.mem ((c.tc : Thread Cert.LocalKernelIdeal.nD Cert.LocalKernelIdeal.τ).loc Cert.LocalKernelIdeal.main_v83_5) = v5 c
          ∧ r.2.mem ((c.tc : Thread Cert.LocalKernelIdeal.nD Cert.LocalKernelIdeal.τ).loc Cert.LocalKernelIdeal.main_arg0) = m ((c.tc : Thread Cert.LocalKernelIdeal.nD Cert.LocalKernelIdeal.τ).loc Cert.LocalKernelIdeal.main_arg0)
          ∧ r.2.mem ((c.tc : Thread Cert.LocalKernelIdeal.nD Cert.LocalKernelIdeal.τ).loc Cert.LocalKernelIdeal.main_arg1) = m ((c.tc : Thread Cert.LocalKernelIdeal.nD Cert.LocalKernelIdeal.τ).loc Cert.LocalKernelIdeal.main_arg1)
          ∧ r.2.mem ((c.tc : Thread Cert.LocalKernelIdeal.nD Cert.LocalKernelIdeal.τ).loc Cert.LocalKernelIdeal.main_arg2) = m ((c.tc : Thread Cert.LocalKernelIdeal.nD Cert.LocalKernelIdeal.τ).loc Cert.LocalKernelIdeal.main_arg2)
          ∧ r.2.mem ((c.tc : Thread Cert.LocalKernelIdeal.nD Cert.LocalKernelIdeal.τ).loc Cert.LocalKernelIdeal.main_arg3) = m ((c.tc : Thread Cert.LocalKernelIdeal.nD Cert.LocalKernelIdeal.τ).loc Cert.LocalKernelIdeal.main_arg3)
          ∧ r.2.mem ((c.tc : Thread Cert.LocalKernelIdeal.nD Cert.LocalKernelIdeal.τ).loc Cert.LocalKernelIdeal.main_arg4) = m ((c.tc : Thread Cert.LocalKernelIdeal.nD Cert.LocalKernelIdeal.τ).loc Cert.LocalKernelIdeal.main_arg4)
          ∧ r.2.mem ((c.tc : Thread Cert.LocalKernelIdeal.nD Cert.LocalKernelIdeal.τ).loc Cert.LocalKernelIdeal.main_arg5) = m ((c.tc : Thread Cert.LocalKernelIdeal.nD Cert.LocalKernelIdeal.τ).loc Cert.LocalKernelIdeal.main_arg5)
          ∧ r.2.mem ((c.tc : Thread Cert.LocalKernelIdeal.nD Cert.LocalKernelIdeal.τ).loc Cert.LocalKernelIdeal.main_arg6) = m ((c.tc : Thread Cert.LocalKernelIdeal.nD Cert.LocalKernelIdeal.τ).loc Cert.LocalKernelIdeal.main_arg6)
          ∧ r.2.mem ((c.tc : Thread Cert.LocalKernelIdeal.nD Cert.LocalKernelIdeal.τ).loc Cert.LocalKernelIdeal.main_arg7) = m ((c.tc : Thread Cert.LocalKernelIdeal.nD Cert.LocalKernelIdeal.τ).loc Cert.LocalKernelIdeal.main_arg7)
          ∧ r.2.mem ((c.tc : Thread Cert.LocalKernelIdeal.nD Cert.LocalKernelIdeal.τ).loc Cert.LocalKernelIdeal.main_arg8) = m ((c.tc : Thread Cert.LocalKernelIdeal.nD Cert.LocalKernelIdeal.τ).loc Cert.LocalKernelIdeal.main_arg8)
          ∧ r.2.mem ((c.tc : Thread Cert.LocalKernelIdeal.nD Cert.LocalKernelIdeal.τ).loc Cert.LocalKernelIdeal.main_arg9) = m ((c.tc : Thread Cert.LocalKernelIdeal.nD Cert.LocalKernelIdeal.τ).loc Cert.LocalKernelIdeal.main_arg9))
      ∧ θ_run (Cert.LocalReferenceIdeal.defs (F := Ideal)) (onTc (τ := Cert.LocalReferenceIdeal.τ) (Cert.LocalReferenceIdeal.main (F := Ideal))) ⟨m', fun _ => 0, g'⟩ (fun r => ∀ c : Dev Cert.LocalReferenceIdeal.nD,
          r.2.mem ((c.tc : Thread Cert.LocalReferenceIdeal.nD Cert.LocalReferenceIdeal.τ).loc Cert.LocalReferenceIdeal.main_v284) = v0 c
          ∧ r.2.mem ((c.tc : Thread Cert.LocalReferenceIdeal.nD Cert.LocalReferenceIdeal.τ).loc Cert.LocalReferenceIdeal.main_v285) = v1 c
          ∧ r.2.mem ((c.tc : Thread Cert.LocalReferenceIdeal.nD Cert.LocalReferenceIdeal.τ).loc Cert.LocalReferenceIdeal.main_v286) = v2 c
          ∧ r.2.mem ((c.tc : Thread Cert.LocalReferenceIdeal.nD Cert.LocalReferenceIdeal.τ).loc Cert.LocalReferenceIdeal.main_v275) = v3 c
          ∧ r.2.mem ((c.tc : Thread Cert.LocalReferenceIdeal.nD Cert.LocalReferenceIdeal.τ).loc Cert.LocalReferenceIdeal.main_v287) = v4 c
          ∧ r.2.mem ((c.tc : Thread Cert.LocalReferenceIdeal.nD Cert.LocalReferenceIdeal.τ).loc Cert.LocalReferenceIdeal.main_v288) = v5 c
          ∧ r.2.mem ((c.tc : Thread Cert.LocalReferenceIdeal.nD Cert.LocalReferenceIdeal.τ).loc Cert.LocalReferenceIdeal.main_arg0) = m' ((c.tc : Thread Cert.LocalReferenceIdeal.nD Cert.LocalReferenceIdeal.τ).loc Cert.LocalReferenceIdeal.main_arg0)
          ∧ r.2.mem ((c.tc : Thread Cert.LocalReferenceIdeal.nD Cert.LocalReferenceIdeal.τ).loc Cert.LocalReferenceIdeal.main_arg1) = m' ((c.tc : Thread Cert.LocalReferenceIdeal.nD Cert.LocalReferenceIdeal.τ).loc Cert.LocalReferenceIdeal.main_arg1)
          ∧ r.2.mem ((c.tc : Thread Cert.LocalReferenceIdeal.nD Cert.LocalReferenceIdeal.τ).loc Cert.LocalReferenceIdeal.main_arg2) = m' ((c.tc : Thread Cert.LocalReferenceIdeal.nD Cert.LocalReferenceIdeal.τ).loc Cert.LocalReferenceIdeal.main_arg2)
          ∧ r.2.mem ((c.tc : Thread Cert.LocalReferenceIdeal.nD Cert.LocalReferenceIdeal.τ).loc Cert.LocalReferenceIdeal.main_arg3) = m' ((c.tc : Thread Cert.LocalReferenceIdeal.nD Cert.LocalReferenceIdeal.τ).loc Cert.LocalReferenceIdeal.main_arg3)
          ∧ r.2.mem ((c.tc : Thread Cert.LocalReferenceIdeal.nD Cert.LocalReferenceIdeal.τ).loc Cert.LocalReferenceIdeal.main_arg4) = m' ((c.tc : Thread Cert.LocalReferenceIdeal.nD Cert.LocalReferenceIdeal.τ).loc Cert.LocalReferenceIdeal.main_arg4)
          ∧ r.2.mem ((c.tc : Thread Cert.LocalReferenceIdeal.nD Cert.LocalReferenceIdeal.τ).loc Cert.LocalReferenceIdeal.main_arg5) = m' ((c.tc : Thread Cert.LocalReferenceIdeal.nD Cert.LocalReferenceIdeal.τ).loc Cert.LocalReferenceIdeal.main_arg5)
          ∧ r.2.mem ((c.tc : Thread Cert.LocalReferenceIdeal.nD Cert.LocalReferenceIdeal.τ).loc Cert.LocalReferenceIdeal.main_arg6) = m' ((c.tc : Thread Cert.LocalReferenceIdeal.nD Cert.LocalReferenceIdeal.τ).loc Cert.LocalReferenceIdeal.main_arg6)
          ∧ r.2.mem ((c.tc : Thread Cert.LocalReferenceIdeal.nD Cert.LocalReferenceIdeal.τ).loc Cert.LocalReferenceIdeal.main_arg7) = m' ((c.tc : Thread Cert.LocalReferenceIdeal.nD Cert.LocalReferenceIdeal.τ).loc Cert.LocalReferenceIdeal.main_arg7)
          ∧ r.2.mem ((c.tc : Thread Cert.LocalReferenceIdeal.nD Cert.LocalReferenceIdeal.τ).loc Cert.LocalReferenceIdeal.main_arg8) = m' ((c.tc : Thread Cert.LocalReferenceIdeal.nD Cert.LocalReferenceIdeal.τ).loc Cert.LocalReferenceIdeal.main_arg8)
          ∧ r.2.mem ((c.tc : Thread Cert.LocalReferenceIdeal.nD Cert.LocalReferenceIdeal.τ).loc Cert.LocalReferenceIdeal.main_arg9) = m' ((c.tc : Thread Cert.LocalReferenceIdeal.nD Cert.LocalReferenceIdeal.τ).loc Cert.LocalReferenceIdeal.main_arg9))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_GateKernel_GateKernelIdeal : Prop :=
  True

def algebraic_GateKernelIdeal_GateReferenceIdeal_pre_finite_gate [hGateKernelIdeal : Cert.GateKernelIdeal.Facts] [hGateReferenceIdeal : Cert.GateReferenceIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_gate m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v2_0)) (v1 : (c : Dev Cert.GateKernelIdeal.nD) → Buf (Elt Ideal) ((c.tc : Thread Cert.GateKernelIdeal.nD Cert.GateKernelIdeal.τ).loc Cert.GateKernelIdeal.main_v2_1)) (v2 : (c : Dev Cert.GateKernelIdeal.nD) → Buf (Elt Ideal) ((c.tc : Thread Cert.GateKernelIdeal.nD Cert.GateKernelIdeal.τ).loc Cert.GateKernelIdeal.main_v2_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v2_0) = v0 c
          ∧ r.2.mem ((c.tc : Thread Cert.GateKernelIdeal.nD Cert.GateKernelIdeal.τ).loc Cert.GateKernelIdeal.main_v2_1) = v1 c
          ∧ r.2.mem ((c.tc : Thread Cert.GateKernelIdeal.nD Cert.GateKernelIdeal.τ).loc Cert.GateKernelIdeal.main_v2_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v48) = v0 c
          ∧ r.2.mem ((c.tc : Thread Cert.GateReferenceIdeal.nD Cert.GateReferenceIdeal.τ).loc Cert.GateReferenceIdeal.main_v27) = v1 c
          ∧ r.2.mem ((c.tc : Thread Cert.GateReferenceIdeal.nD Cert.GateReferenceIdeal.τ).loc Cert.GateReferenceIdeal.main_v49) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_MixoutKernel_MixoutKernelIdeal : Prop :=
  True

def algebraic_MixoutKernelIdeal_MixoutReferenceIdeal_pre_finite_mixout [hMixoutKernelIdeal : Cert.MixoutKernelIdeal.Facts] [hMixoutReferenceIdeal : Cert.MixoutReferenceIdeal.Facts] [hPre_finite_mixout : Cert.Pre_finite_mixout.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg)
    (m' : (ℓ : Loc Cert.MixoutReferenceIdeal.nD Cert.MixoutReferenceIdeal.τ Cert.MixoutReferenceIdeal.sig) → Buf (Elt Ideal) ℓ) (g' : Dev Cert.MixoutReferenceIdeal.nD → PrngReg), Pre_MixoutKernelIdeal_finite_mixout m →
    (∀ c : Dev Cert.MixoutKernelIdeal.nD,
      m' ((c.tc : Thread Cert.MixoutReferenceIdeal.nD Cert.MixoutReferenceIdeal.τ).loc Cert.MixoutReferenceIdeal.main_arg0) = m ((c.tc : Thread Cert.MixoutKernelIdeal.nD Cert.MixoutKernelIdeal.τ).loc Cert.MixoutKernelIdeal.main_arg0)
      ∧ m' ((c.tc : Thread Cert.MixoutReferenceIdeal.nD Cert.MixoutReferenceIdeal.τ).loc Cert.MixoutReferenceIdeal.main_arg1) = m ((c.tc : Thread Cert.MixoutKernelIdeal.nD Cert.MixoutKernelIdeal.τ).loc Cert.MixoutKernelIdeal.main_arg1)
      ∧ m' ((c.tc : Thread Cert.MixoutReferenceIdeal.nD Cert.MixoutReferenceIdeal.τ).loc Cert.MixoutReferenceIdeal.main_arg2) = m ((c.tc : Thread Cert.MixoutKernelIdeal.nD Cert.MixoutKernelIdeal.τ).loc Cert.MixoutKernelIdeal.main_arg2)
      ∧ m' ((c.tc : Thread Cert.MixoutReferenceIdeal.nD Cert.MixoutReferenceIdeal.τ).loc Cert.MixoutReferenceIdeal.main_arg3) = m ((c.tc : Thread Cert.MixoutKernelIdeal.nD Cert.MixoutKernelIdeal.τ).loc Cert.MixoutKernelIdeal.main_arg3)
      ∧ m' ((c.tc : Thread Cert.MixoutReferenceIdeal.nD Cert.MixoutReferenceIdeal.τ).loc Cert.MixoutReferenceIdeal.main_arg4) = m ((c.tc : Thread Cert.MixoutKernelIdeal.nD Cert.MixoutKernelIdeal.τ).loc Cert.MixoutKernelIdeal.main_arg4)) →
    ∃ (v0 : (c : Dev Cert.MixoutKernelIdeal.nD) → Buf (Elt Ideal) ((c.tc : Thread Cert.MixoutKernelIdeal.nD Cert.MixoutKernelIdeal.τ).loc Cert.MixoutKernelIdeal.main_v3_0)) (v1 : (c : Dev Cert.MixoutKernelIdeal.nD) → Buf (Elt Ideal) ((c.tc : Thread Cert.MixoutKernelIdeal.nD Cert.MixoutKernelIdeal.τ).loc Cert.MixoutKernelIdeal.main_v3_1)) (v2 : (c : Dev Cert.MixoutKernelIdeal.nD) → Buf (Elt Ideal) ((c.tc : Thread Cert.MixoutKernelIdeal.nD Cert.MixoutKernelIdeal.τ).loc Cert.MixoutKernelIdeal.main_v3_2)) (v3 : (c : Dev Cert.MixoutKernelIdeal.nD) → Buf (Elt Ideal) ((c.tc : Thread Cert.MixoutKernelIdeal.nD Cert.MixoutKernelIdeal.τ).loc Cert.MixoutKernelIdeal.main_v3_3)),
      θ_run (Cert.MixoutKernelIdeal.defs (F := Ideal)) (onTc (τ := Cert.MixoutKernelIdeal.τ) (Cert.MixoutKernelIdeal.main (F := Ideal))) ⟨m, fun _ => 0, g⟩ (fun r => ∀ c : Dev Cert.MixoutKernelIdeal.nD,
          r.2.mem ((c.tc : Thread Cert.MixoutKernelIdeal.nD Cert.MixoutKernelIdeal.τ).loc Cert.MixoutKernelIdeal.main_v3_0) = v0 c
          ∧ r.2.mem ((c.tc : Thread Cert.MixoutKernelIdeal.nD Cert.MixoutKernelIdeal.τ).loc Cert.MixoutKernelIdeal.main_v3_1) = v1 c
          ∧ r.2.mem ((c.tc : Thread Cert.MixoutKernelIdeal.nD Cert.MixoutKernelIdeal.τ).loc Cert.MixoutKernelIdeal.main_v3_2) = v2 c
          ∧ r.2.mem ((c.tc : Thread Cert.MixoutKernelIdeal.nD Cert.MixoutKernelIdeal.τ).loc Cert.MixoutKernelIdeal.main_v3_3) = v3 c
          ∧ r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
          ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
          ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
          ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3)
          ∧ r.2.mem ((c.tc : Thread Cert.MixoutKernelIdeal.nD Cert.MixoutKernelIdeal.τ).loc Cert.MixoutKernelIdeal.main_arg4) = m ((c.tc : Thread Cert.MixoutKernelIdeal.nD Cert.MixoutKernelIdeal.τ).loc Cert.MixoutKernelIdeal.main_arg4))
      ∧ θ_run (Cert.MixoutReferenceIdeal.defs (F := Ideal)) (onTc (τ := Cert.MixoutReferenceIdeal.τ) (Cert.MixoutReferenceIdeal.main (F := Ideal))) ⟨m', fun _ => 0, g'⟩ (fun r => ∀ c : Dev Cert.MixoutReferenceIdeal.nD,
          r.2.mem ((c.tc : Thread Cert.MixoutReferenceIdeal.nD Cert.MixoutReferenceIdeal.τ).loc Cert.MixoutReferenceIdeal.main_v30) = v0 c
          ∧ r.2.mem ((c.tc : Thread Cert.MixoutReferenceIdeal.nD Cert.MixoutReferenceIdeal.τ).loc Cert.MixoutReferenceIdeal.main_v63) = v1 c
          ∧ r.2.mem ((c.tc : Thread Cert.MixoutReferenceIdeal.nD Cert.MixoutReferenceIdeal.τ).loc Cert.MixoutReferenceIdeal.main_v64) = v2 c
          ∧ r.2.mem ((c.tc : Thread Cert.MixoutReferenceIdeal.nD Cert.MixoutReferenceIdeal.τ).loc Cert.MixoutReferenceIdeal.main_v65) = v3 c
          ∧ r.2.mem ((c.tc : Thread Cert.MixoutReferenceIdeal.nD Cert.MixoutReferenceIdeal.τ).loc Cert.MixoutReferenceIdeal.main_arg0) = m' ((c.tc : Thread Cert.MixoutReferenceIdeal.nD Cert.MixoutReferenceIdeal.τ).loc Cert.MixoutReferenceIdeal.main_arg0)
          ∧ r.2.mem ((c.tc : Thread Cert.MixoutReferenceIdeal.nD Cert.MixoutReferenceIdeal.τ).loc Cert.MixoutReferenceIdeal.main_arg1) = m' ((c.tc : Thread Cert.MixoutReferenceIdeal.nD Cert.MixoutReferenceIdeal.τ).loc Cert.MixoutReferenceIdeal.main_arg1)
          ∧ r.2.mem ((c.tc : Thread Cert.MixoutReferenceIdeal.nD Cert.MixoutReferenceIdeal.τ).loc Cert.MixoutReferenceIdeal.main_arg2) = m' ((c.tc : Thread Cert.MixoutReferenceIdeal.nD Cert.MixoutReferenceIdeal.τ).loc Cert.MixoutReferenceIdeal.main_arg2)
          ∧ r.2.mem ((c.tc : Thread Cert.MixoutReferenceIdeal.nD Cert.MixoutReferenceIdeal.τ).loc Cert.MixoutReferenceIdeal.main_arg3) = m' ((c.tc : Thread Cert.MixoutReferenceIdeal.nD Cert.MixoutReferenceIdeal.τ).loc Cert.MixoutReferenceIdeal.main_arg3)
          ∧ r.2.mem ((c.tc : Thread Cert.MixoutReferenceIdeal.nD Cert.MixoutReferenceIdeal.τ).loc Cert.MixoutReferenceIdeal.main_arg4) = m' ((c.tc : Thread Cert.MixoutReferenceIdeal.nD Cert.MixoutReferenceIdeal.τ).loc Cert.MixoutReferenceIdeal.main_arg4))

def preserves_RecKernel_RecKernelIdeal : Prop :=
  True

def algebraic_RecKernelIdeal_RecReferenceIdeal_pre_finite_rec [hRecKernelIdeal : Cert.RecKernelIdeal.Facts] [hRecReferenceIdeal : Cert.RecReferenceIdeal.Facts] [hPre_finite_rec : Cert.Pre_finite_rec.Facts] : Prop :=
  ∀ (m : (ℓ : Loc Cert.RecKernelIdeal.nD Cert.RecKernelIdeal.τ Cert.RecKernelIdeal.sig) → Buf (Elt Ideal) ℓ) (g : Dev Cert.RecKernelIdeal.nD → PrngReg)
    (m' : (ℓ : Loc Cert.RecReferenceIdeal.nD Cert.RecReferenceIdeal.τ Cert.RecReferenceIdeal.sig) → Buf (Elt Ideal) ℓ) (g' : Dev Cert.RecReferenceIdeal.nD → PrngReg), Pre_RecKernelIdeal_finite_rec m →
    (∀ c : Dev Cert.RecKernelIdeal.nD,
      m' ((c.tc : Thread Cert.RecReferenceIdeal.nD Cert.RecReferenceIdeal.τ).loc Cert.RecReferenceIdeal.main_arg0) = m ((c.tc : Thread Cert.RecKernelIdeal.nD Cert.RecKernelIdeal.τ).loc Cert.RecKernelIdeal.main_arg0)
      ∧ m' ((c.tc : Thread Cert.RecReferenceIdeal.nD Cert.RecReferenceIdeal.τ).loc Cert.RecReferenceIdeal.main_arg1) = m ((c.tc : Thread Cert.RecKernelIdeal.nD Cert.RecKernelIdeal.τ).loc Cert.RecKernelIdeal.main_arg1)
      ∧ m' ((c.tc : Thread Cert.RecReferenceIdeal.nD Cert.RecReferenceIdeal.τ).loc Cert.RecReferenceIdeal.main_arg2) = m ((c.tc : Thread Cert.RecKernelIdeal.nD Cert.RecKernelIdeal.τ).loc Cert.RecKernelIdeal.main_arg2)
      ∧ m' ((c.tc : Thread Cert.RecReferenceIdeal.nD Cert.RecReferenceIdeal.τ).loc Cert.RecReferenceIdeal.main_arg3) = m ((c.tc : Thread Cert.RecKernelIdeal.nD Cert.RecKernelIdeal.τ).loc Cert.RecKernelIdeal.main_arg3)
      ∧ m' ((c.tc : Thread Cert.RecReferenceIdeal.nD Cert.RecReferenceIdeal.τ).loc Cert.RecReferenceIdeal.main_arg4) = m ((c.tc : Thread Cert.RecKernelIdeal.nD Cert.RecKernelIdeal.τ).loc Cert.RecKernelIdeal.main_arg4)
      ∧ m' ((c.tc : Thread Cert.RecReferenceIdeal.nD Cert.RecReferenceIdeal.τ).loc Cert.RecReferenceIdeal.main_arg5) = m ((c.tc : Thread Cert.RecKernelIdeal.nD Cert.RecKernelIdeal.τ).loc Cert.RecKernelIdeal.main_arg5)
      ∧ m' ((c.tc : Thread Cert.RecReferenceIdeal.nD Cert.RecReferenceIdeal.τ).loc Cert.RecReferenceIdeal.main_arg6) = m ((c.tc : Thread Cert.RecKernelIdeal.nD Cert.RecKernelIdeal.τ).loc Cert.RecKernelIdeal.main_arg6)) →
    ∃ (v0 : (c : Dev Cert.RecKernelIdeal.nD) → Buf (Elt Ideal) ((c.tc : Thread Cert.RecKernelIdeal.nD Cert.RecKernelIdeal.τ).loc Cert.RecKernelIdeal.main_v73_0)) (v1 : (c : Dev Cert.RecKernelIdeal.nD) → Buf (Elt Ideal) ((c.tc : Thread Cert.RecKernelIdeal.nD Cert.RecKernelIdeal.τ).loc Cert.RecKernelIdeal.main_v73_1)) (v2 : (c : Dev Cert.RecKernelIdeal.nD) → Buf (Elt Ideal) ((c.tc : Thread Cert.RecKernelIdeal.nD Cert.RecKernelIdeal.τ).loc Cert.RecKernelIdeal.main_v73_2)) (v3 : (c : Dev Cert.RecKernelIdeal.nD) → Buf (Elt Ideal) ((c.tc : Thread Cert.RecKernelIdeal.nD Cert.RecKernelIdeal.τ).loc Cert.RecKernelIdeal.main_v73_3)) (v4 : (c : Dev Cert.RecKernelIdeal.nD) → Buf (Elt Ideal) ((c.tc : Thread Cert.RecKernelIdeal.nD Cert.RecKernelIdeal.τ).loc Cert.RecKernelIdeal.main_v73_4)) (v5 : (c : Dev Cert.RecKernelIdeal.nD) → Buf (Elt Ideal) ((c.tc : Thread Cert.RecKernelIdeal.nD Cert.RecKernelIdeal.τ).loc Cert.RecKernelIdeal.main_v73_5)),
      θ_run (Cert.RecKernelIdeal.defs (F := Ideal)) (onTc (τ := Cert.RecKernelIdeal.τ) (Cert.RecKernelIdeal.main (F := Ideal))) ⟨m, fun _ => 0, g⟩ (fun r => ∀ c : Dev Cert.RecKernelIdeal.nD,
          r.2.mem ((c.tc : Thread Cert.RecKernelIdeal.nD Cert.RecKernelIdeal.τ).loc Cert.RecKernelIdeal.main_v73_0) = v0 c
          ∧ r.2.mem ((c.tc : Thread Cert.RecKernelIdeal.nD Cert.RecKernelIdeal.τ).loc Cert.RecKernelIdeal.main_v73_1) = v1 c
          ∧ r.2.mem ((c.tc : Thread Cert.RecKernelIdeal.nD Cert.RecKernelIdeal.τ).loc Cert.RecKernelIdeal.main_v73_2) = v2 c
          ∧ r.2.mem ((c.tc : Thread Cert.RecKernelIdeal.nD Cert.RecKernelIdeal.τ).loc Cert.RecKernelIdeal.main_v73_3) = v3 c
          ∧ r.2.mem ((c.tc : Thread Cert.RecKernelIdeal.nD Cert.RecKernelIdeal.τ).loc Cert.RecKernelIdeal.main_v73_4) = v4 c
          ∧ r.2.mem ((c.tc : Thread Cert.RecKernelIdeal.nD Cert.RecKernelIdeal.τ).loc Cert.RecKernelIdeal.main_v73_5) = v5 c
          ∧ r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
          ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1)
          ∧ r.2.mem ((c.tc : Thread Cert.RecKernelIdeal.nD Cert.RecKernelIdeal.τ).loc Cert.RecKernelIdeal.main_arg2) = m ((c.tc : Thread Cert.RecKernelIdeal.nD Cert.RecKernelIdeal.τ).loc Cert.RecKernelIdeal.main_arg2)
          ∧ r.2.mem ((c.tc : Thread Cert.RecKernelIdeal.nD Cert.RecKernelIdeal.τ).loc Cert.RecKernelIdeal.main_arg3) = m ((c.tc : Thread Cert.RecKernelIdeal.nD Cert.RecKernelIdeal.τ).loc Cert.RecKernelIdeal.main_arg3)
          ∧ r.2.mem ((c.tc : Thread Cert.RecKernelIdeal.nD Cert.RecKernelIdeal.τ).loc Cert.RecKernelIdeal.main_arg4) = m ((c.tc : Thread Cert.RecKernelIdeal.nD Cert.RecKernelIdeal.τ).loc Cert.RecKernelIdeal.main_arg4)
          ∧ r.2.mem ((c.tc : Thread Cert.RecKernelIdeal.nD Cert.RecKernelIdeal.τ).loc Cert.RecKernelIdeal.main_arg5) = m ((c.tc : Thread Cert.RecKernelIdeal.nD Cert.RecKernelIdeal.τ).loc Cert.RecKernelIdeal.main_arg5)
          ∧ r.2.mem ((c.tc : Thread Cert.RecKernelIdeal.nD Cert.RecKernelIdeal.τ).loc Cert.RecKernelIdeal.main_arg6) = m ((c.tc : Thread Cert.RecKernelIdeal.nD Cert.RecKernelIdeal.τ).loc Cert.RecKernelIdeal.main_arg6))
      ∧ θ_run (Cert.RecReferenceIdeal.defs (F := Ideal)) (onTc (τ := Cert.RecReferenceIdeal.τ) (Cert.RecReferenceIdeal.main (F := Ideal))) ⟨m', fun _ => 0, g'⟩ (fun r => ∀ c : Dev Cert.RecReferenceIdeal.nD,
          r.2.mem ((c.tc : Thread Cert.RecReferenceIdeal.nD Cert.RecReferenceIdeal.τ).loc Cert.RecReferenceIdeal.main_v53) = v0 c
          ∧ r.2.mem ((c.tc : Thread Cert.RecReferenceIdeal.nD Cert.RecReferenceIdeal.τ).loc Cert.RecReferenceIdeal.main_v54) = v1 c
          ∧ r.2.mem ((c.tc : Thread Cert.RecReferenceIdeal.nD Cert.RecReferenceIdeal.τ).loc Cert.RecReferenceIdeal.main_v48) = v2 c
          ∧ r.2.mem ((c.tc : Thread Cert.RecReferenceIdeal.nD Cert.RecReferenceIdeal.τ).loc Cert.RecReferenceIdeal.main_v46) = v3 c
          ∧ r.2.mem ((c.tc : Thread Cert.RecReferenceIdeal.nD Cert.RecReferenceIdeal.τ).loc Cert.RecReferenceIdeal.main_v44) = v4 c
          ∧ r.2.mem ((c.tc : Thread Cert.RecReferenceIdeal.nD Cert.RecReferenceIdeal.τ).loc Cert.RecReferenceIdeal.main_v56) = v5 c
          ∧ r.2.mem ((c.tc : Thread Cert.RecReferenceIdeal.nD Cert.RecReferenceIdeal.τ).loc Cert.RecReferenceIdeal.main_arg0) = m' ((c.tc : Thread Cert.RecReferenceIdeal.nD Cert.RecReferenceIdeal.τ).loc Cert.RecReferenceIdeal.main_arg0)
          ∧ r.2.mem ((c.tc : Thread Cert.RecReferenceIdeal.nD Cert.RecReferenceIdeal.τ).loc Cert.RecReferenceIdeal.main_arg1) = m' ((c.tc : Thread Cert.RecReferenceIdeal.nD Cert.RecReferenceIdeal.τ).loc Cert.RecReferenceIdeal.main_arg1)
          ∧ r.2.mem ((c.tc : Thread Cert.RecReferenceIdeal.nD Cert.RecReferenceIdeal.τ).loc Cert.RecReferenceIdeal.main_arg2) = m' ((c.tc : Thread Cert.RecReferenceIdeal.nD Cert.RecReferenceIdeal.τ).loc Cert.RecReferenceIdeal.main_arg2)
          ∧ r.2.mem ((c.tc : Thread Cert.RecReferenceIdeal.nD Cert.RecReferenceIdeal.τ).loc Cert.RecReferenceIdeal.main_arg3) = m' ((c.tc : Thread Cert.RecReferenceIdeal.nD Cert.RecReferenceIdeal.τ).loc Cert.RecReferenceIdeal.main_arg3)
          ∧ r.2.mem ((c.tc : Thread Cert.RecReferenceIdeal.nD Cert.RecReferenceIdeal.τ).loc Cert.RecReferenceIdeal.main_arg4) = m' ((c.tc : Thread Cert.RecReferenceIdeal.nD Cert.RecReferenceIdeal.τ).loc Cert.RecReferenceIdeal.main_arg4)
          ∧ r.2.mem ((c.tc : Thread Cert.RecReferenceIdeal.nD Cert.RecReferenceIdeal.τ).loc Cert.RecReferenceIdeal.main_arg5) = m' ((c.tc : Thread Cert.RecReferenceIdeal.nD Cert.RecReferenceIdeal.τ).loc Cert.RecReferenceIdeal.main_arg5)
          ∧ r.2.mem ((c.tc : Thread Cert.RecReferenceIdeal.nD Cert.RecReferenceIdeal.τ).loc Cert.RecReferenceIdeal.main_arg6) = m' ((c.tc : Thread Cert.RecReferenceIdeal.nD Cert.RecReferenceIdeal.τ).loc Cert.RecReferenceIdeal.main_arg6))

def preserves_GprojKernel_GprojKernelIdeal : Prop :=
  True

def algebraic_GprojKernelIdeal_GprojReferenceIdeal_pre_finite_gproj [hGprojKernelIdeal : Cert.GprojKernelIdeal.Facts] [hGprojReferenceIdeal : Cert.GprojReferenceIdeal.Facts] [hPre_finite_gproj : Cert.Pre_finite_gproj.Facts] : Prop :=
  ∀ (m : (ℓ : Loc Cert.GprojKernelIdeal.nD Cert.GprojKernelIdeal.τ Cert.GprojKernelIdeal.sig) → Buf (Elt Ideal) ℓ) (g : Dev Cert.GprojKernelIdeal.nD → PrngReg)
    (m' : (ℓ : Loc Cert.GprojReferenceIdeal.nD Cert.GprojReferenceIdeal.τ Cert.GprojReferenceIdeal.sig) → Buf (Elt Ideal) ℓ) (g' : Dev Cert.GprojReferenceIdeal.nD → PrngReg), Pre_GprojKernelIdeal_finite_gproj m →
    (∀ c : Dev Cert.GprojKernelIdeal.nD,
      m' ((c.tc : Thread Cert.GprojReferenceIdeal.nD Cert.GprojReferenceIdeal.τ).loc Cert.GprojReferenceIdeal.main_arg0) = m ((c.tc : Thread Cert.GprojKernelIdeal.nD Cert.GprojKernelIdeal.τ).loc Cert.GprojKernelIdeal.main_arg0)
      ∧ m' ((c.tc : Thread Cert.GprojReferenceIdeal.nD Cert.GprojReferenceIdeal.τ).loc Cert.GprojReferenceIdeal.main_arg1) = m ((c.tc : Thread Cert.GprojKernelIdeal.nD Cert.GprojKernelIdeal.τ).loc Cert.GprojKernelIdeal.main_arg1)
      ∧ m' ((c.tc : Thread Cert.GprojReferenceIdeal.nD Cert.GprojReferenceIdeal.τ).loc Cert.GprojReferenceIdeal.main_arg2) = m ((c.tc : Thread Cert.GprojKernelIdeal.nD Cert.GprojKernelIdeal.τ).loc Cert.GprojKernelIdeal.main_arg2)
      ∧ m' ((c.tc : Thread Cert.GprojReferenceIdeal.nD Cert.GprojReferenceIdeal.τ).loc Cert.GprojReferenceIdeal.main_arg3) = m ((c.tc : Thread Cert.GprojKernelIdeal.nD Cert.GprojKernelIdeal.τ).loc Cert.GprojKernelIdeal.main_arg3)
      ∧ m' ((c.tc : Thread Cert.GprojReferenceIdeal.nD Cert.GprojReferenceIdeal.τ).loc Cert.GprojReferenceIdeal.main_arg4) = m ((c.tc : Thread Cert.GprojKernelIdeal.nD Cert.GprojKernelIdeal.τ).loc Cert.GprojKernelIdeal.main_arg4)
      ∧ m' ((c.tc : Thread Cert.GprojReferenceIdeal.nD Cert.GprojReferenceIdeal.τ).loc Cert.GprojReferenceIdeal.main_arg5) = m ((c.tc : Thread Cert.GprojKernelIdeal.nD Cert.GprojKernelIdeal.τ).loc Cert.GprojKernelIdeal.main_arg5)
      ∧ m' ((c.tc : Thread Cert.GprojReferenceIdeal.nD Cert.GprojReferenceIdeal.τ).loc Cert.GprojReferenceIdeal.main_arg6) = m ((c.tc : Thread Cert.GprojKernelIdeal.nD Cert.GprojKernelIdeal.τ).loc Cert.GprojKernelIdeal.main_arg6)
      ∧ m' ((c.tc : Thread Cert.GprojReferenceIdeal.nD Cert.GprojReferenceIdeal.τ).loc Cert.GprojReferenceIdeal.main_arg7) = m ((c.tc : Thread Cert.GprojKernelIdeal.nD Cert.GprojKernelIdeal.τ).loc Cert.GprojKernelIdeal.main_arg7)
      ∧ m' ((c.tc : Thread Cert.GprojReferenceIdeal.nD Cert.GprojReferenceIdeal.τ).loc Cert.GprojReferenceIdeal.main_arg8) = m ((c.tc : Thread Cert.GprojKernelIdeal.nD Cert.GprojKernelIdeal.τ).loc Cert.GprojKernelIdeal.main_arg8)) →
    ∃ (v0 : (c : Dev Cert.GprojKernelIdeal.nD) → Buf (Elt Ideal) ((c.tc : Thread Cert.GprojKernelIdeal.nD Cert.GprojKernelIdeal.τ).loc Cert.GprojKernelIdeal.main_v2_0)) (v1 : (c : Dev Cert.GprojKernelIdeal.nD) → Buf (Elt Ideal) ((c.tc : Thread Cert.GprojKernelIdeal.nD Cert.GprojKernelIdeal.τ).loc Cert.GprojKernelIdeal.main_v2_1)) (v2 : (c : Dev Cert.GprojKernelIdeal.nD) → Buf (Elt Ideal) ((c.tc : Thread Cert.GprojKernelIdeal.nD Cert.GprojKernelIdeal.τ).loc Cert.GprojKernelIdeal.main_v2_2)),
      θ_run (Cert.GprojKernelIdeal.defs (F := Ideal)) (onTc (τ := Cert.GprojKernelIdeal.τ) (Cert.GprojKernelIdeal.main (F := Ideal))) ⟨m, fun _ => 0, g⟩ (fun r => ∀ c : Dev Cert.GprojKernelIdeal.nD,
          r.2.mem ((c.tc : Thread Cert.GprojKernelIdeal.nD Cert.GprojKernelIdeal.τ).loc Cert.GprojKernelIdeal.main_v2_0) = v0 c
          ∧ r.2.mem ((c.tc : Thread Cert.GprojKernelIdeal.nD Cert.GprojKernelIdeal.τ).loc Cert.GprojKernelIdeal.main_v2_1) = v1 c
          ∧ r.2.mem ((c.tc : Thread Cert.GprojKernelIdeal.nD Cert.GprojKernelIdeal.τ).loc Cert.GprojKernelIdeal.main_v2_2) = v2 c
          ∧ r.2.mem ((c.tc : Thread Cert.GprojKernelIdeal.nD Cert.GprojKernelIdeal.τ).loc Cert.GprojKernelIdeal.main_arg0) = m ((c.tc : Thread Cert.GprojKernelIdeal.nD Cert.GprojKernelIdeal.τ).loc Cert.GprojKernelIdeal.main_arg0)
          ∧ r.2.mem ((c.tc : Thread Cert.GprojKernelIdeal.nD Cert.GprojKernelIdeal.τ).loc Cert.GprojKernelIdeal.main_arg1) = m ((c.tc : Thread Cert.GprojKernelIdeal.nD Cert.GprojKernelIdeal.τ).loc Cert.GprojKernelIdeal.main_arg1)
          ∧ r.2.mem ((c.tc : Thread Cert.GprojKernelIdeal.nD Cert.GprojKernelIdeal.τ).loc Cert.GprojKernelIdeal.main_arg2) = m ((c.tc : Thread Cert.GprojKernelIdeal.nD Cert.GprojKernelIdeal.τ).loc Cert.GprojKernelIdeal.main_arg2)
          ∧ r.2.mem ((c.tc : Thread Cert.GprojKernelIdeal.nD Cert.GprojKernelIdeal.τ).loc Cert.GprojKernelIdeal.main_arg3) = m ((c.tc : Thread Cert.GprojKernelIdeal.nD Cert.GprojKernelIdeal.τ).loc Cert.GprojKernelIdeal.main_arg3)
          ∧ r.2.mem ((c.tc : Thread Cert.GprojKernelIdeal.nD Cert.GprojKernelIdeal.τ).loc Cert.GprojKernelIdeal.main_arg4) = m ((c.tc : Thread Cert.GprojKernelIdeal.nD Cert.GprojKernelIdeal.τ).loc Cert.GprojKernelIdeal.main_arg4)
          ∧ r.2.mem ((c.tc : Thread Cert.GprojKernelIdeal.nD Cert.GprojKernelIdeal.τ).loc Cert.GprojKernelIdeal.main_arg5) = m ((c.tc : Thread Cert.GprojKernelIdeal.nD Cert.GprojKernelIdeal.τ).loc Cert.GprojKernelIdeal.main_arg5)
          ∧ r.2.mem ((c.tc : Thread Cert.GprojKernelIdeal.nD Cert.GprojKernelIdeal.τ).loc Cert.GprojKernelIdeal.main_arg6) = m ((c.tc : Thread Cert.GprojKernelIdeal.nD Cert.GprojKernelIdeal.τ).loc Cert.GprojKernelIdeal.main_arg6)
          ∧ r.2.mem ((c.tc : Thread Cert.GprojKernelIdeal.nD Cert.GprojKernelIdeal.τ).loc Cert.GprojKernelIdeal.main_arg7) = m ((c.tc : Thread Cert.GprojKernelIdeal.nD Cert.GprojKernelIdeal.τ).loc Cert.GprojKernelIdeal.main_arg7)
          ∧ r.2.mem ((c.tc : Thread Cert.GprojKernelIdeal.nD Cert.GprojKernelIdeal.τ).loc Cert.GprojKernelIdeal.main_arg8) = m ((c.tc : Thread Cert.GprojKernelIdeal.nD Cert.GprojKernelIdeal.τ).loc Cert.GprojKernelIdeal.main_arg8))
      ∧ θ_run (Cert.GprojReferenceIdeal.defs (F := Ideal)) (onTc (τ := Cert.GprojReferenceIdeal.τ) (Cert.GprojReferenceIdeal.main (F := Ideal))) ⟨m', fun _ => 0, g'⟩ (fun r => ∀ c : Dev Cert.GprojReferenceIdeal.nD,
          r.2.mem ((c.tc : Thread Cert.GprojReferenceIdeal.nD Cert.GprojReferenceIdeal.τ).loc Cert.GprojReferenceIdeal.main_v52) = v0 c
          ∧ r.2.mem ((c.tc : Thread Cert.GprojReferenceIdeal.nD Cert.GprojReferenceIdeal.τ).loc Cert.GprojReferenceIdeal.main_v53) = v1 c
          ∧ r.2.mem ((c.tc : Thread Cert.GprojReferenceIdeal.nD Cert.GprojReferenceIdeal.τ).loc Cert.GprojReferenceIdeal.main_v55) = v2 c
          ∧ r.2.mem ((c.tc : Thread Cert.GprojReferenceIdeal.nD Cert.GprojReferenceIdeal.τ).loc Cert.GprojReferenceIdeal.main_arg0) = m' ((c.tc : Thread Cert.GprojReferenceIdeal.nD Cert.GprojReferenceIdeal.τ).loc Cert.GprojReferenceIdeal.main_arg0)
          ∧ r.2.mem ((c.tc : Thread Cert.GprojReferenceIdeal.nD Cert.GprojReferenceIdeal.τ).loc Cert.GprojReferenceIdeal.main_arg1) = m' ((c.tc : Thread Cert.GprojReferenceIdeal.nD Cert.GprojReferenceIdeal.τ).loc Cert.GprojReferenceIdeal.main_arg1)
          ∧ r.2.mem ((c.tc : Thread Cert.GprojReferenceIdeal.nD Cert.GprojReferenceIdeal.τ).loc Cert.GprojReferenceIdeal.main_arg2) = m' ((c.tc : Thread Cert.GprojReferenceIdeal.nD Cert.GprojReferenceIdeal.τ).loc Cert.GprojReferenceIdeal.main_arg2)
          ∧ r.2.mem ((c.tc : Thread Cert.GprojReferenceIdeal.nD Cert.GprojReferenceIdeal.τ).loc Cert.GprojReferenceIdeal.main_arg3) = m' ((c.tc : Thread Cert.GprojReferenceIdeal.nD Cert.GprojReferenceIdeal.τ).loc Cert.GprojReferenceIdeal.main_arg3)
          ∧ r.2.mem ((c.tc : Thread Cert.GprojReferenceIdeal.nD Cert.GprojReferenceIdeal.τ).loc Cert.GprojReferenceIdeal.main_arg4) = m' ((c.tc : Thread Cert.GprojReferenceIdeal.nD Cert.GprojReferenceIdeal.τ).loc Cert.GprojReferenceIdeal.main_arg4)
          ∧ r.2.mem ((c.tc : Thread Cert.GprojReferenceIdeal.nD Cert.GprojReferenceIdeal.τ).loc Cert.GprojReferenceIdeal.main_arg5) = m' ((c.tc : Thread Cert.GprojReferenceIdeal.nD Cert.GprojReferenceIdeal.τ).loc Cert.GprojReferenceIdeal.main_arg5)
          ∧ r.2.mem ((c.tc : Thread Cert.GprojReferenceIdeal.nD Cert.GprojReferenceIdeal.τ).loc Cert.GprojReferenceIdeal.main_arg6) = m' ((c.tc : Thread Cert.GprojReferenceIdeal.nD Cert.GprojReferenceIdeal.τ).loc Cert.GprojReferenceIdeal.main_arg6)
          ∧ r.2.mem ((c.tc : Thread Cert.GprojReferenceIdeal.nD Cert.GprojReferenceIdeal.τ).loc Cert.GprojReferenceIdeal.main_arg7) = m' ((c.tc : Thread Cert.GprojReferenceIdeal.nD Cert.GprojReferenceIdeal.τ).loc Cert.GprojReferenceIdeal.main_arg7)
          ∧ r.2.mem ((c.tc : Thread Cert.GprojReferenceIdeal.nD Cert.GprojReferenceIdeal.τ).loc Cert.GprojReferenceIdeal.main_arg8) = m' ((c.tc : Thread Cert.GprojReferenceIdeal.nD Cert.GprojReferenceIdeal.τ).loc Cert.GprojReferenceIdeal.main_arg8))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v15_0)) (v1 : (c : Dev Cert.FfnKernelIdeal.nD) → Buf (Elt Ideal) ((c.tc : Thread Cert.FfnKernelIdeal.nD Cert.FfnKernelIdeal.τ).loc Cert.FfnKernelIdeal.main_v15_1)) (v2 : (c : Dev Cert.FfnKernelIdeal.nD) → Buf (Elt Ideal) ((c.tc : Thread Cert.FfnKernelIdeal.nD Cert.FfnKernelIdeal.τ).loc Cert.FfnKernelIdeal.main_v15_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v15_0) = v0 c
          ∧ r.2.mem ((c.tc : Thread Cert.FfnKernelIdeal.nD Cert.FfnKernelIdeal.τ).loc Cert.FfnKernelIdeal.main_v15_1) = v1 c
          ∧ r.2.mem ((c.tc : Thread Cert.FfnKernelIdeal.nD Cert.FfnKernelIdeal.τ).loc Cert.FfnKernelIdeal.main_v15_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_v40) = v1 c
          ∧ r.2.mem ((c.tc : Thread Cert.FfnReferenceIdeal.nD Cert.FfnReferenceIdeal.τ).loc Cert.FfnReferenceIdeal.main_v42) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def Claim : Prop :=
  ∃ (hKernel : Cert.Kernel.Facts) (hKernelIdeal : Cert.KernelIdeal.Facts) (hReferenceIdeal : Cert.ReferenceIdeal.Facts) (hLocalKernel : Cert.LocalKernel.Facts) (hLocalKernelIdeal : Cert.LocalKernelIdeal.Facts) (hLocalReferenceIdeal : Cert.LocalReferenceIdeal.Facts) (hLossKernel : Cert.LossKernel.Facts) (hLossKernelIdeal : Cert.LossKernelIdeal.Facts) (hLossReferenceIdeal : Cert.LossReferenceIdeal.Facts) (hGateKernel : Cert.GateKernel.Facts) (hGateKernelIdeal : Cert.GateKernelIdeal.Facts) (hGateReferenceIdeal : Cert.GateReferenceIdeal.Facts) (hMixoutKernel : Cert.MixoutKernel.Facts) (hMixoutKernelIdeal : Cert.MixoutKernelIdeal.Facts) (hMixoutReferenceIdeal : Cert.MixoutReferenceIdeal.Facts) (hRecKernel : Cert.RecKernel.Facts) (hRecKernelIdeal : Cert.RecKernelIdeal.Facts) (hRecReferenceIdeal : Cert.RecReferenceIdeal.Facts) (hGprojKernel : Cert.GprojKernel.Facts) (hGprojKernelIdeal : Cert.GprojKernelIdeal.Facts) (hGprojReferenceIdeal : Cert.GprojReferenceIdeal.Facts) (hFfnKernel : Cert.FfnKernel.Facts) (hFfnKernelIdeal : Cert.FfnKernelIdeal.Facts) (hFfnReferenceIdeal : Cert.FfnReferenceIdeal.Facts) (hPre_finite_norm : Cert.Pre_finite_norm.Facts) (hPre_finite_local : Cert.Pre_finite_local.Facts) (hPre_finite_loss : Cert.Pre_finite_loss.Facts) (hPre_finite_gate : Cert.Pre_finite_gate.Facts) (hPre_finite_mixout : Cert.Pre_finite_mixout.Facts) (hPre_finite_rec : Cert.Pre_finite_rec.Facts) (hPre_finite_gproj : Cert.Pre_finite_gproj.Facts) (hPre_finite_ffn : Cert.Pre_finite_ffn.Facts),
    quiescent_Kernel (hKernel := hKernel)
    ∧ quiescent_KernelIdeal (hKernelIdeal := hKernelIdeal)
    ∧ quiescent_KernelIdeal_pre_finite_norm (hKernelIdeal := hKernelIdeal) (hPre_finite_norm := hPre_finite_norm)
    ∧ quiescent_ReferenceIdeal (hReferenceIdeal := hReferenceIdeal)
    ∧ quiescent_ReferenceIdeal_pre_finite_norm (hReferenceIdeal := hReferenceIdeal) (hPre_finite_norm := hPre_finite_norm)
    ∧ quiescent_LocalKernel (hLocalKernel := hLocalKernel)
    ∧ quiescent_LocalKernelIdeal (hLocalKernelIdeal := hLocalKernelIdeal)
    ∧ quiescent_LocalKernelIdeal_pre_finite_local (hLocalKernelIdeal := hLocalKernelIdeal) (hPre_finite_local := hPre_finite_local)
    ∧ quiescent_LocalReferenceIdeal (hLocalReferenceIdeal := hLocalReferenceIdeal)
    ∧ quiescent_LocalReferenceIdeal_pre_finite_local (hLocalReferenceIdeal := hLocalReferenceIdeal) (hPre_finite_local := hPre_finite_local)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_GateKernel (hGateKernel := hGateKernel)
    ∧ quiescent_GateKernelIdeal (hGateKernelIdeal := hGateKernelIdeal)
    ∧ quiescent_GateKernelIdeal_pre_finite_gate (hGateKernelIdeal := hGateKernelIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ quiescent_MixoutKernel (hMixoutKernel := hMixoutKernel)
    ∧ quiescent_MixoutKernelIdeal (hMixoutKernelIdeal := hMixoutKernelIdeal)
    ∧ quiescent_MixoutKernelIdeal_pre_finite_mixout (hMixoutKernelIdeal := hMixoutKernelIdeal) (hPre_finite_mixout := hPre_finite_mixout)
    ∧ quiescent_MixoutReferenceIdeal (hMixoutReferenceIdeal := hMixoutReferenceIdeal)
    ∧ quiescent_MixoutReferenceIdeal_pre_finite_mixout (hMixoutReferenceIdeal := hMixoutReferenceIdeal) (hPre_finite_mixout := hPre_finite_mixout)
    ∧ quiescent_RecKernel (hRecKernel := hRecKernel)
    ∧ quiescent_RecKernelIdeal (hRecKernelIdeal := hRecKernelIdeal)
    ∧ quiescent_RecKernelIdeal_pre_finite_rec (hRecKernelIdeal := hRecKernelIdeal) (hPre_finite_rec := hPre_finite_rec)
    ∧ quiescent_RecReferenceIdeal (hRecReferenceIdeal := hRecReferenceIdeal)
    ∧ quiescent_RecReferenceIdeal_pre_finite_rec (hRecReferenceIdeal := hRecReferenceIdeal) (hPre_finite_rec := hPre_finite_rec)
    ∧ quiescent_GprojKernel (hGprojKernel := hGprojKernel)
    ∧ quiescent_GprojKernelIdeal (hGprojKernelIdeal := hGprojKernelIdeal)
    ∧ quiescent_GprojKernelIdeal_pre_finite_gproj (hGprojKernelIdeal := hGprojKernelIdeal) (hPre_finite_gproj := hPre_finite_gproj)
    ∧ quiescent_GprojReferenceIdeal (hGprojReferenceIdeal := hGprojReferenceIdeal)
    ∧ quiescent_GprojReferenceIdeal_pre_finite_gproj (hGprojReferenceIdeal := hGprojReferenceIdeal) (hPre_finite_gproj := hPre_finite_gproj)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ preserves_Kernel_KernelIdeal
    ∧ algebraic_KernelIdeal_ReferenceIdeal_pre_finite_norm (hKernelIdeal := hKernelIdeal) (hReferenceIdeal := hReferenceIdeal) (hPre_finite_norm := hPre_finite_norm)
    ∧ preserves_LocalKernel_LocalKernelIdeal
    ∧ algebraic_LocalKernelIdeal_LocalReferenceIdeal_pre_finite_local (hLocalKernelIdeal := hLocalKernelIdeal) (hLocalReferenceIdeal := hLocalReferenceIdeal) (hPre_finite_local := hPre_finite_local)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_GateKernel_GateKernelIdeal
    ∧ algebraic_GateKernelIdeal_GateReferenceIdeal_pre_finite_gate (hGateKernelIdeal := hGateKernelIdeal) (hGateReferenceIdeal := hGateReferenceIdeal) (hPre_finite_gate := hPre_finite_gate)
    ∧ preserves_MixoutKernel_MixoutKernelIdeal
    ∧ algebraic_MixoutKernelIdeal_MixoutReferenceIdeal_pre_finite_mixout (hMixoutKernelIdeal := hMixoutKernelIdeal) (hMixoutReferenceIdeal := hMixoutReferenceIdeal) (hPre_finite_mixout := hPre_finite_mixout)
    ∧ preserves_RecKernel_RecKernelIdeal
    ∧ algebraic_RecKernelIdeal_RecReferenceIdeal_pre_finite_rec (hRecKernelIdeal := hRecKernelIdeal) (hRecReferenceIdeal := hRecReferenceIdeal) (hPre_finite_rec := hPre_finite_rec)
    ∧ preserves_GprojKernel_GprojKernelIdeal
    ∧ algebraic_GprojKernelIdeal_GprojReferenceIdeal_pre_finite_gproj (hGprojKernelIdeal := hGprojKernelIdeal) (hGprojReferenceIdeal := hGprojReferenceIdeal) (hPre_finite_gproj := hPre_finite_gproj)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
-- ==== Pre_finite_ffn.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x5632 .f32) (main_arg2 : FVec F S2816x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_gate.lean ====
abbrev S4096x1024 : Shape := ⟨2, ![4096, 1024]⟩
abbrev S128 : Shape := ⟨1, ![128]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S128 .f32) (main_arg4 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Pre_finite_gproj.lean ====
abbrev S4096x1024 : Shape := ⟨2, ![4096, 1024]⟩
abbrev S1024 : Shape := ⟨1, ![1024]⟩
abbrev S1024x4112 : Shape := ⟨2, ![1024, 4112]⟩
abbrev S4096x16 : Shape := ⟨2, ![4096, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4112 : S_.BroadcastsInDim S1024x4112 (![] : Fin 0 → Fin S1024x4112.rank)
  reducesTo_S1024x4112_S_d0_1 : S1024x4112.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S4096x16 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  main_v38

def fn_part1 {F : FTy → Type} [FloatOps F] (main_arg4 : FVec F S4096x1024 .f32) (main_arg5 : FVec F S4096x1024 .f32) (main_arg6 : FVec F S4096x1024 .f32) (main_arg7 : FVec F S4096x16 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1024 .f32) (main_arg2 : FVec F S1024x4112 .f32) (main_arg3 : FVec F S4096x1024 .f32) (main_arg4 : FVec F S4096x1024 .f32) (main_arg5 : FVec F S4096x1024 .f32) (main_arg6 : FVec F S4096x1024 .f32) (main_arg7 : FVec F S4096x16 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4112 .f32 := Host.absf main_arg2
  let main_cst_2 : FVec F S_ .f32 := constant S_ .f32 0x7F800000#32
  let main_v10 : FVec F S1024x4112 .f32 := broadcastInDim S1024x4112 ![] bcast_S_S1024x4112 main_cst_2
  let main_v11 : IVec S1024x4112 1 := cmpf .olt main_v9 main_v10
  let main_c_3 : IVec S_ 1 := constantI S_ 1 1#1
  let main_v12 : IVec S_ 1 := (fun x v => Host.reduce IntOp.andi x v reducesTo_S1024x4112_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Pre_finite_local.lean ====
abbrev S4096x3072 : Shape := ⟨2, ![4096, 3072]⟩
abbrev S4096x16 : Shape := ⟨2, ![4096, 16]⟩
abbrev S8 : Shape := ⟨1, ![8]⟩
abbrev S4096x1024 : Shape := ⟨2, ![4096, 1024]⟩
abbrev S8x4096x64 : Shape := ⟨3, ![8, 4096, 64]⟩
abbrev S8x64 : Shape := ⟨2, ![8, 64]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S8 : S_.BroadcastsInDim S8 (![] : Fin 0 → Fin S8.rank)
  reducesTo_S8_S_d0 : S8.ReducesTo [0] S_
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S4096x1024 .f32) (main_arg8 : FVec F S8x4096x64 .f32) (main_arg9 : FVec F S8x64 .f32) (main_v30 : IVec S_ 1) (main_v33 : IVec S4096x1024 1) (main_c_11 : IVec S_ 1) : IVec S_ 1 :=
  let main_v34 : IVec S_ 1 := (fun x v => Host.reduce IntOp.andi x v reducesTo_S4096x1024_S_d0_1 h_S_) main_v33 main_c_11
  let main_v35 : IVec S_ 1 := andi main_v30 main_v34
  let main_v36 : FVec F S4096x1024 .f32 := Host.absf main_arg7
  let main_cst_12 : FVec F S_ .f32 := constant S_ .f32 0x7F800000#32
  let main_v37 : FVec F S4096x1024 .f32 := broadcastInDim S4096x1024 ![] bcast_S_S4096x1024 main_cst_12
  let main_v38 : IVec S4096x1024 1 := cmpf .olt main_v36 main_v37
  let main_c_13 : IVec S_ 1 := constantI S_ 1 1#1
  let main_v39 : IVec S_ 1 := (fun x v => Host.reduce IntOp.andi x v reducesTo_S4096x1024_S_d0_1 h_S_) main_v38 main_c_13
  let main_v40 : IVec S_ 1 := andi main_v35 main_v39
  let main_v41 : FVec F S8x4096x64 .f32 := Host.absf main_arg8
  let main_cst_14 : FVec F S_ .f32 := constant S_ .f32 0x7F800000#32
  let main_v42 : FVec F S8x4096x64 .f32 := broadcastInDim S8x4096x64 ![] bcast_S_S8x4096x64 main_cst_14
  let main_v43 : IVec S8x4096x64 1 := cmpf .olt main_v41 main_v42
  let main_c_15 : IVec S_ 1 := constantI S_ 1 1#1
  let main_v44 : IVec S_ 1 := (fun x v => Host.reduce IntOp.andi x v reducesTo_S8x4096x64_S_d0_1_2 h_S_) main_v43 main_c_15
  let main_v45 : IVec S_ 1 := andi main_v40 main_v44
  let main_v46 : FVec F S8x64 .f32 := Host.absf main_arg9
  let main_cst_16 : FVec F S_ .f32 := constant S_ .f32 0x7F800000#32
  let main_v47 : FVec F S8x64 .f32 := broadcastInDim S8x64 ![] bcast_S_S8x64 main_cst_16
  let main_v48 : IVec S8x64 1 := cmpf .olt main_v46 main_v47
  let main_c_17 : IVec S_ 1 := constantI S_ 1 1#1
  let main_v49 : IVec S_ 1 := (fun x v => Host.reduce IntOp.andi x v reducesTo_S8x64_S_d0_1 h_S_) main_v48 main_c_17
  let main_v50 : IVec S_ 1 := andi main_v45 main_v49
  main_v50

def fn_part1 {F : FTy → Type} [FloatOps F] (main_arg4 : FVec F S4096x1024 .bf16) (main_arg5 : FVec F S4096x1024 .bf16) (main_arg6 : FVec F S4096x1024 .f32) (main_arg7 : FVec F S4096x1024 .f32) (main_arg8 : FVec F S8x4096x64 .f32) (main_arg9 : FVec F S8x64 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S4096x1024 .f32 := (extf .f32 · bitsLt_bf16_f32) main_arg4
  let main_v20 : FVec F S4096x1024 .f32 := Host.absf main_v19
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v18 main_v23
  let main_v25 : FVec F S4096x1024 .f32 := (extf .f32 · bitsLt_bf16_f32) main_arg5
  let main_v26 : FVec F S4096x1024 .f32 := Host.absf main_v25
  let main_cst_8 : FVec F S_ .f32 := constant S_ .f32 0x7F800000#32
  let main_v27 : FVec F S4096x1024 .f32 := broadcastInDim S4096x1024 ![] bcast_S_S4096x1024 main_cst_8
  let main_v28 : IVec S4096x1024 1 := cmpf .olt main_v26 main_v27
  let main_c_9 : IVec S_ 1 := constantI S_ 1 1#1
  let main_v29 : IVec S_ 1 := (fun x v => Host.reduce IntOp.andi x v reducesTo_S4096x1024_S_d0_1 h_S_) main_v28 main_c_9
  let main_v30 : IVec S_ 1 := andi main_v24 main_v29
  let main_v31 : FVec F S4096x1024 .f32 := Host.absf main_arg6
  let main_cst_10 : FVec F S_ .f32 := constant S_ .f32 0x7F800000#32
  let main_v32 : FVec F S4096x1024 .f32 := broadcastInDim S4096x1024 ![] bcast_S_S4096x1024 main_cst_10
  let main_v33 : IVec S4096x1024 1 := cmpf .olt main_v31 main_v32
  let main_c_11 : IVec S_ 1 := constantI S_ 1 1#1
  fn_part2 (F := F) main_arg7 main_arg8 main_arg9 main_v30 main_v33 main_c_11

def fn {F : FTy → Type} [FloatOps F] (main_arg0 : FVec F S4096x3072 .f32) (main_arg1 : FVec F S4096x16 .f32) (main_arg2 : FVec F S8 .f32) (main_arg3 : FVec F S8 .f32) (main_arg4 : FVec F S4096x1024 .bf16) (main_arg5 : FVec F S4096x1024 .bf16) (main_arg6 : FVec F S4096x1024 .f32) (main_arg7 : FVec F S4096x1024 .f32) (main_arg8 : FVec F S8x4096x64 .f32) (main_arg9 : FVec F S8x64 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_arg8 main_arg9 main_v13 main_v16
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_mixout.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4096x1024 .f32) (main_arg1 : FVec F S4096x512 .f32) (main_arg2 : FVec F S512 .f32) (main_arg3 : FVec F S512 .f32) (main_arg4 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Pre_finite_norm.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_

variable [Facts]

def fn {F : FTy → Type} [FloatOps F] (main_arg0 : FVec F S4096x1024 .f32) (main_arg1 : FVec F S1024 .f32) (main_arg2 : FVec F S4x4096x1024 .bf16) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x4096x1024 .f32 := (extf .f32 · bitsLt_bf16_f32) main_arg2
  let main_v10 : FVec F S4x4096x1024 .f32 := Host.absf main_v9
  let main_cst_2 : FVec F S_ .f32 := constant S_ .f32 0x7F800000#32
  let main_v11 : FVec F S4x4096x1024 .f32 := broadcastInDim S4x4096x1024 ![] bcast_S_S4x4096x1024 main_cst_2
  let main_v12 : IVec S4x4096x1024 1 := cmpf .olt main_v10 main_v11
  let main_c_3 : IVec S_ 1 := constantI S_ 1 1#1
  let main_v13 : IVec S_ 1 := (fun x v => Host.reduce IntOp.andi x v reducesTo_S4x4096x1024_S_d0_1_2 h_S_) main_v12 main_c_3
  let main_v14 : IVec S_ 1 := andi main_v8 main_v13
  main_v14
-- ==== Pre_finite_rec.lean ====
abbrev S4096x1024 : Shape := ⟨2, ![4096, 1024]⟩
abbrev S8x4096x64 : Shape := ⟨3, ![8, 4096, 64]⟩
abbrev S8x64 : Shape := ⟨2, ![8, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S8x4096x64 : S_.BroadcastsInDim S8x4096x64 (![] : Fin 0 → Fin S8x4096x64.rank)
  reducesTo_S8x4096x64_S_d0_1_2 : S8x4096x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_v32 : IVec S_ 1) (main_v33 : FVec F S8x64 .f32) (main_v34 : FVec F S8x64 .f32) : IVec S_ 1 :=
  let main_v35 : IVec S8x64 1 := cmpf .olt main_v33 main_v34
  let main_c_11 : IVec S_ 1 := constantI S_ 1 1#1
  let main_v36 : IVec S_ 1 := (fun x v => Host.reduce IntOp.andi x v reducesTo_S8x64_S_d0_1 h_S_) main_v35 main_c_11
  let main_v37 : IVec S_ 1 := andi main_v32 main_v36
  main_v37

def fn_part1 {F : FTy → Type} [FloatOps F] (main_arg4 : FVec F S4096x1024 .bf16) (main_arg5 : FVec F S8x4096x64 .bf16) (main_arg6 : FVec F S8x64 .f32) (main_v14 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v14 main_v19
  let main_v21 : FVec F S4096x1024 .f32 := (extf .f32 · bitsLt_bf16_f32) main_arg4
  let main_v22 : FVec F S4096x1024 .f32 := Host.absf main_v21
  let main_cst_6 : FVec F S_ .f32 := constant S_ .f32 0x7F800000#32
  let main_v23 : FVec F S4096x1024 .f32 := broadcastInDim S4096x1024 ![] bcast_S_S4096x1024 main_cst_6
  let main_v24 : IVec S4096x1024 1 := cmpf .olt main_v22 main_v23
  let main_c_7 : IVec S_ 1 := constantI S_ 1 1#1
  let main_v25 : IVec S_ 1 := (fun x v => Host.reduce IntOp.andi x v reducesTo_S4096x1024_S_d0_1 h_S_) main_v24 main_c_7
  let main_v26 : IVec S_ 1 := andi main_v20 main_v25
  let main_v27 : FVec F S8x4096x64 .f32 := (extf .f32 · bitsLt_bf16_f32) main_arg5
  let main_v28 : FVec F S8x4096x64 .f32 := Host.absf main_v27
  let main_cst_8 : FVec F S_ .f32 := constant S_ .f32 0x7F800000#32
  let main_v29 : FVec F S8x4096x64 .f32 := broadcastInDim S8x4096x64 ![] bcast_S_S8x4096x64 main_cst_8
  let main_v30 : IVec S8x4096x64 1 := cmpf .olt main_v28 main_v29
  let main_c_9 : IVec S_ 1 := constantI S_ 1 1#1
  let main_v31 : IVec S_ 1 := (fun x v => Host.reduce IntOp.andi x v reducesTo_S8x4096x64_S_d0_1_2 h_S_) main_v30 main_c_9
  let main_v32 : IVec S_ 1 := andi main_v26 main_v31
  let main_v33 : FVec F S8x64 .f32 := Host.absf main_arg6
  let main_cst_10 : FVec F S_ .f32 := constant S_ .f32 0x7F800000#32
  let main_v34 : FVec F S8x64 .f32 := broadcastInDim S8x64 ![] bcast_S_S8x64 main_cst_10
  fn_part2 (F := F) main_v32 main_v33 main_v34

def fn {F : FTy → Type} [FloatOps F] (main_arg0 : FVec F S4096x1024 .f32) (main_arg1 : FVec F S4096x1024 .bf16) (main_arg2 : FVec F S4096x1024 .f32) (main_arg3 : FVec F S4096x1024 .bf16) (main_arg4 : FVec F S4096x1024 .bf16) (main_arg5 : FVec F S8x4096x64 .bf16) (main_arg6 : FVec F S8x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S4096x1024 .f32 := (extf .f32 · bitsLt_bf16_f32) main_arg3
  let main_v16 : FVec F S4096x1024 .f32 := Host.absf main_v15
  let main_cst_4 : FVec F S_ .f32 := constant S_ .f32 0x7F800000#32
  fn_part1 (F := F) main_arg4 main_arg5 main_arg6 main_v14 main_v16 main_cst_4
-- ==== Kernel.lean ====
abbrev S4096x1024 : Shape := ⟨2, ![4096, 1024]⟩
abbrev S1024 : Shape := ⟨1, ![1024]⟩
abbrev S4x4096x1024 : Shape := ⟨3, ![4, 4096, 1024]⟩
abbrev S1x1024 : Shape := ⟨2, ![1, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x4096x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x512x1024, .bf16⟩
  | .local _ .vmem, ⟨4, _⟩ => ⟨S4x512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_21 : BitVec 32 := 0#32
  let v48 : BitVec 1 := Scalar.cmpi .ne v47 c0_i32_21
  v48

def k0_cond2 (i : grid0.Coords) : BitVec 1 :=
  let arg0 : BitVec 32 := BitVec.ofNat 32 (i 0).val
  let c0_i32_22 : BitVec 32 := 0#32
  let v49 : BitVec 1 := Scalar.cmpi .sgt arg0 c0_i32_22
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x4096x1024, .bf16⟩
  | .hbm, ⟨3, _⟩ => ⟨S4096x1024, .f32⟩
  | .hbm, ⟨4, _⟩ => ⟨S4x4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== LocalKernel.lean ====
abbrev S4096x3072 : Shape := ⟨2, ![4096, 3072]⟩
abbrev S4096x16 : Shape := ⟨2, ![4096, 16]⟩
abbrev S8 : Shape := ⟨1, ![8]⟩
abbrev S4096x1024 : Shape := ⟨2, ![4096, 1024]⟩
abbrev S8x4096x64 : Shape := ⟨3, ![8, 4096, 64]⟩
abbrev S8x64 : Shape := ⟨2, ![8, 64]⟩
abbrev S4096x8x128 : Shape := ⟨3, ![4096, 8, 128]⟩
abbrev S4096x8 : Shape := ⟨2, ![4096, 8]⟩
abbrev S_ : Shape := ⟨0, ![]⟩
abbrev S1x8 : Shape := ⟨2, ![1, 8]⟩
abbrev S64x64x8x128 : Shape := ⟨4, ![64, 64, 8, 128]⟩
abbrev S8x64x64x128 : Shape := ⟨4, ![8, 64, 64, 128]⟩
abbrev S64x64x8 : Shape := ⟨3, ![64, 64, 8]⟩
abbrev S8x64x64 : Shape := ⟨3, ![8, 64, 64]⟩
abbrev S64x64 : Shape := ⟨2, ![64, 64]⟩
abbrev S8x64x64x1 : Shape := ⟨4, ![8, 64, 64, 1]⟩
abbrev S8x64x1x64 : Shape := ⟨4, ![8, 64, 1, 64]⟩
abbrev S8x64x64x64 : Shape := ⟨4, ![8, 64, 64, 64]⟩
abbrev S1x1x64x64 : Shape := ⟨4, ![1, 1, 64, 64]⟩
abbrev S8x64x1 : Shape := ⟨3, ![8, 64, 1]⟩
abbrev S8x64x128 : Shape := ⟨3, ![8, 64, 128]⟩
abbrev S512x128 : Shape := ⟨2, ![512, 128]⟩
abbrev S512x16 : Shape := ⟨2, ![512, 16]⟩
abbrev S1x512x64 : Shape := ⟨3, ![1, 512, 64]⟩
abbrev S1x8x128 : Shape := ⟨3, ![1, 8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x128 : Shape := ⟨2, ![64, 128]⟩
abbrev S64x1 : Shape := ⟨2, ![64, 1]⟩
abbrev S1x128 : Shape := ⟨2, ![1, 128]⟩
abbrev S1x64x64 : Shape := ⟨3, ![1, 64, 64]⟩
abbrev S64 : Shape := ⟨1, ![64]⟩
abbrev S1x1x1 : Shape := ⟨3, ![1, 1, 1]⟩

abbrev nBuf : Space → Nat
  | .hbm => 144
  | .vmem => 35
  | .smem => 0
  | _ => 0

abbrev hbmTy0_0 (i : Nat) : BufTy := match i % 128 with
  | 0 => ⟨S4096x3072, .f32⟩
  | 1 => ⟨S4096x16, .f32⟩
  | 2 => ⟨S8, .f32⟩
  | 3 => ⟨S8, .f32⟩
  | 4 => ⟨S4096x1024, .bf16⟩
  | 5 => ⟨S4096x1024, .bf16⟩
  | 6 => ⟨S4096x1024, .f32⟩
  | 7 => ⟨S4096x1024, .f32⟩
  | 8 => ⟨S8x4096x64, .f32⟩
  | 9 => ⟨S8x64, .f32⟩
  | 10 => ⟨S4096x1024, .f32⟩
  | 11 => ⟨S4096x8x128, .f32⟩
  | 12 => ⟨S4096x1024, .f32⟩
  | 13 => ⟨S4096x8x128, .f32⟩
  | 14 => ⟨S4096x1024, .f32⟩
  | 15 => ⟨S4096x8x128, .f32⟩
  | 16 => ⟨S4096x8, .f32⟩
  | 17 => ⟨S4096x8, .f32⟩
  | 18 => ⟨S4096x8, .f32⟩
  | 19 => ⟨S_, .f32⟩
  | 20 => ⟨S4096x8, .f32⟩
  | 21 => ⟨S4096x8, .f32⟩
  | 22 => ⟨S_, .f32⟩
  | 23 => ⟨S4096x8, .f32⟩
  | 24 => ⟨S4096x8, .f32⟩
  | 25 => ⟨S8, .f32⟩
  | 26 => ⟨S8, .f32⟩
  | 27 => ⟨S4096x8, .f32⟩
  | 28 => ⟨S1x8, .f32⟩
  | 29 => ⟨S4096x8, .f32⟩
  | 30 => ⟨S4096x8, .f32⟩
  | 31 => ⟨S_, .f32⟩
  | 32 => ⟨S4096x8, .f32⟩
  | 33 => ⟨S4096x8, .f32⟩
  | 34 => ⟨S4096x8, .f32⟩
  | 35 => ⟨S4096x8, .f32⟩
  | 36 => ⟨S4096x8, .i1⟩
  | 37 => ⟨S4096x8, .f32⟩
  | 38 => ⟨S4096x8, .f32⟩
  | 39 => ⟨S4096x8, .f32⟩
  | 40 => ⟨S4096x8, .f32⟩
  | 41 => ⟨S4096x8, .f32⟩
  | 42 => ⟨S4096x8, .f32⟩
  | 43 => ⟨S4096x8, .f32⟩
  | 44 => ⟨S4096x8, .f32⟩
  | 45 => ⟨S1x8, .f32⟩
  | 46 => ⟨S4096x8, .f32⟩
  | 47 => ⟨S4096x8, .f32⟩
  | 48 => ⟨S64x64x8x128, .f32⟩
  | 49 => ⟨S8x64x64x128, .f32⟩
  | 50 => ⟨S_, .f32⟩
  | 51 => ⟨S8x64x64x128, .f32⟩
  | 52 => ⟨S8x64x64x128, .f32⟩
  | 53 => ⟨S64x64x8x128, .f32⟩
  | 54 => ⟨S8x64x64x128, .f32⟩
  | 55 => ⟨S64x64x8x128, .f32⟩
  | 56 => ⟨S8x64x64x128, .f32⟩
  | 57 => ⟨S64x64x8, .f32⟩
  | 58 => ⟨S8x64x64, .f32⟩
  | 59 => ⟨S64x64x8, .f32⟩
  | 60 => ⟨S8x64x64, .f32⟩
  | 61 => ⟨S_, .f32⟩
  | 62 => ⟨S_, .f32⟩
  | 63 => ⟨S8x64x64, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S8x64x64x1, .f32⟩
  | 87 => ⟨S8x64x1x64, .f32⟩
  | 88 => ⟨S8x64x64x64, .f32⟩
  | 89 => ⟨S8x64x64x64, .f32⟩
  | 90 => ⟨S8x64x64x64, .f32⟩
  | 91 => ⟨S_, .f32⟩
  | 92 => ⟨S_, .f32⟩
  | 93 => ⟨S8x64x64x64, .i1⟩
  | 94 => ⟨S8x64x64x64, .f32⟩
  | 95 => ⟨S8x64x64x64, .f32⟩
  | 96 => ⟨S8x64x64x64, .f32⟩
  | 97 => ⟨S8x64x64x1, .f32⟩
  | 98 => ⟨S8x64x64x128, .f32⟩
  | 99 => ⟨S8x64x64x128, .f32⟩
  | 100 => ⟨S8x64x64x64, .f32⟩
  | 101 => ⟨S8x64x64x64, .f32⟩
  | 102 => ⟨S_, .f32⟩
  | 103 => ⟨S_, .f32⟩
  | 104 => ⟨S8x64x64x64, .i1⟩
  | 105 => ⟨S8x64x64x64, .f32⟩
  | 106 => ⟨S8x64x64x64, .f32⟩
  | 107 => ⟨S8x64x64x64, .f32⟩
  | 108 => ⟨S64x64, .i32⟩
  | 109 => ⟨S64x64, .i32⟩
  | 110 => ⟨S_, .i32⟩
  | 111 => ⟨S64x64, .i32⟩
  | 112 => ⟨S64x64, .i32⟩
  | 113 => ⟨S64x64, .i1⟩
  | 114 => ⟨S64x64, .f32⟩
  | 115 => ⟨S1x1x64x64, .f32⟩
  | 116 => ⟨S8x64x64x64, .f32⟩
  | 117 => ⟨S8x64x64x64, .f32⟩
  | 118 => ⟨S8x64x64x64, .f32⟩
  | 119 => ⟨S8x64x64x64, .f32⟩
  | 120 => ⟨S8x64x64x64, .f32⟩
  | 121 => ⟨S8x64x64x64, .f32⟩
  | 122 => ⟨S8x64x64x64, .f32⟩
  | 123 => ⟨S8x64x64x64, .f32⟩
  | 124 => ⟨S8x64x64x64, .f32⟩
  | 125 => ⟨S8x64x64x64, .f32⟩
  | 126 => ⟨S8x64x64x64, .f32⟩
  | 127 => ⟨S8x64x64x64, .f32⟩
  | _ => ⟨S4096x3072, .f32⟩

abbrev hbmTy0_1 (i : Nat) : BufTy := match i % 128 with
  | 0 => ⟨S8x64x64x64, .f32⟩
  | 1 => ⟨S8x64x64x64, .f32⟩
  | 2 => ⟨S8x64x64x64, .f32⟩
  | 3 => ⟨S8x64x64x64, .f32⟩
  | 4 => ⟨S8x64x64x64, .f32⟩
  | 5 => ⟨S8x4096x64, .f32⟩
  | 6 => ⟨S1x8, .f32⟩
  | 7 => ⟨S1x8, .f32⟩
  | 8 => ⟨S8x64x1, .f32⟩
  | 9 => ⟨S8x64x128, .f32⟩
  | 10 => ⟨S4096x1024, .f32⟩
  | 11 => ⟨S4096x1024, .f32⟩
  | 12 => ⟨S4096x1024, .f32⟩
  | 13 => ⟨S4096x16, .f32⟩
  | 14 => ⟨S1x8, .f32⟩
  | 15 => ⟨S1x8, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x16, .f32⟩
  | .local _ .vmem, ⟨7, _⟩ => ⟨S512x16, .f32⟩
  | .local _ .vmem, ⟨8, _⟩ => ⟨S1x8, .f32⟩
  | .local _ .vmem, ⟨9, _⟩ => ⟨S1x8, .f32⟩
  | .local _ .vmem, ⟨10, _⟩ => ⟨S1x512x64, .f32⟩
  | .local _ .vmem, ⟨11, _⟩ => ⟨S1x512x64, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x512x64, .f32⟩
  | .local _ .vmem, ⟨21, _⟩ => ⟨S1x512x64, .f32⟩
  | .local _ .vmem, ⟨22, _⟩ => ⟨S1x8x128, .f32⟩
  | .local _ .vmem, ⟨23, _⟩ => ⟨S1x8x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x16, .f32⟩
  | .local _ .vmem, ⟨31, _⟩ => ⟨S512x16, .f32⟩
  | .local _ .vmem, ⟨32, _⟩ => ⟨S1x8, .f32⟩
  | .local _ .vmem, ⟨33, _⟩ => ⟨S1x8, .f32⟩
  | .local _ .vmem, ⟨34, _⟩ => ⟨S512x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_call0_cst : Ref sig .tc := ⟨.hbm, 61, rfl⟩
abbrev main_call1_call0_v0 : Ref sig .tc := ⟨.hbm, 62, rfl⟩
abbrev main_v35 : Ref sig .tc := ⟨.hbm, 63, rfl⟩
abbrev main_c : Ref sig .tc := ⟨.hbm, 64, rfl⟩
abbrev main_v36 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v37 : Ref sig .tc := ⟨.hbm, 74, rfl⟩
abbrev main_c_2 : Ref sig .tc := ⟨.hbm, 75, rfl⟩
abbrev main_v38 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_0 : Ref sig .tc := ⟨.hbm, 83, rfl⟩
abbrev main_call3_v5 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_3 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_4 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_c_5 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83_0 : Ref sig .tc := ⟨.hbm, 138, rfl⟩
abbrev main_v83_1 : Ref sig .tc := ⟨.hbm, 139, rfl⟩
abbrev main_v83_2 : Ref sig .tc := ⟨.hbm, 140, rfl⟩
abbrev main_v83_3 : Ref sig .tc := ⟨.hbm, 141, rfl⟩
abbrev main_v83_4 : Ref sig .tc := ⟨.hbm, 142, rfl⟩
abbrev main_v83_5 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem18_0 : DmaSem sig := 33

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_569 : BitVec 32 := 0#32
  let v1475 : BitVec 1 := Scalar.cmpi .eq arg1 c0_i32_569
  let v1476 : BitVec 32 := Scalar.extui v1475
  let c0_i32_570 : BitVec 32 := 0#32
  let v1477 : BitVec 1 := Scalar.cmpi .ne v1476 c0_i32_570
  v1477

def k0_cond2 (i : grid0.Coords) : BitVec 1 :=
  let arg1 : BitVec 32 := BitVec.ofNat 32 (i 1).val
  let c0_i32_571 : BitVec 32 := 0#32
  let v1478 : BitVec 1 := Scalar.cmpi .sgt arg1 c0_i32_571
  let v1479 : BitVec 32 := Scalar.extui v1478
  let c0_i32_572 : BitVec 32 := 0#32
  let v1480 : BitVec 1 := Scalar.cmpi .ne v1479 c0_i32_572
  v1480

def k0_cond3 (i : grid0.Coords) : BitVec 1 :=
  let arg1 : BitVec 32 := BitVec.ofNat 32 (i 1).val
  let c0_i32_573 : BitVec 32 := 0#32
  let v1481 : BitVec 1 := Scalar.cmpi .eq arg1 c0_i32_573
  let arg0 : BitVec 32 := BitVec.ofNat 32 (i 0).val
  let c0_i32_574 : BitVec 32 := 0#32
  let v1482 : BitVec 1 := Scalar.cmpi .eq arg0 c0_i32_574
  let v1483 : BitVec 1 := Scalar.andi v1481 v1482
  let v1484 : BitVec 32 := Scalar.extui v1483
  let c0_i32_575 : BitVec 32 := 0#32
  let v1485 : BitVec 1 := Scalar.cmpi .ne v1484 c0_i32_575
  v1485

def k0_cond4 (i : grid0.Coords) : BitVec 1 :=
  let arg1 : BitVec 32 := BitVec.ofNat 32 (i 1).val
  let c0_i32_576 : BitVec 32 := 0#32
  let v1486 : BitVec 1 := Scalar.cmpi .sgt arg1 c0_i32_576
  let arg0 : BitVec 32 := BitVec.ofNat 32 (i 0).val
  let c0_i32_577 : BitVec 32 := 0#32
  let v1487 : BitVec 1 := Scalar.cmpi .sgt arg0 c0_i32_577
  let v1488 : BitVec 1 := Scalar.ori v1486 v1487
  let v1489 : BitVec 32 := Scalar.extui v1488
  let c0_i32_578 : BitVec 32 := 0#32
  let v1490 : BitVec 1 := Scalar.cmpi .ne v1489 c0_i32_578
  v1490

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x16 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== LocalReferenceIdeal.lean ====
abbrev S4096x3072 : Shape := ⟨2, ![4096, 3072]⟩
abbrev S4096x16 : Shape := ⟨2, ![4096, 16]⟩
abbrev S8 : Shape := ⟨1, ![8]⟩
abbrev S4096x1024 : Shape := ⟨2, ![4096, 1024]⟩
abbrev S8x4096x64 : Shape := ⟨3, ![8, 4096, 64]⟩
abbrev S8x64 : Shape := ⟨2, ![8, 64]⟩
abbrev S4096x8x128 : Shape := ⟨3, ![4096, 8, 128]⟩
abbrev S64x64x8x128 : Shape := ⟨4, ![64, 64, 8, 128]⟩
abbrev S8x64x64x128 : Shape := ⟨4, ![8, 64, 64, 128]⟩
abbrev S8x64x64x64 : Shape := ⟨4, ![8, 64, 64, 64]⟩
abbrev S4096x8 : Shape := ⟨2, ![4096, 8]⟩
abbrev S_ : Shape := ⟨0, ![]⟩
abbrev S1x8 : Shape := ⟨2, ![1, 8]⟩
abbrev S64x64x8 : Shape := ⟨3, ![64, 64, 8]⟩
abbrev S8x64x64 : Shape := ⟨3, ![8, 64, 64]⟩
abbrev S64x64 : Shape := ⟨2, ![64, 64]⟩
abbrev S8x64x64x1 : Shape := ⟨4, ![8, 64, 64, 1]⟩
abbrev S8x64x1x64 : Shape := ⟨4, ![8, 64, 1, 64]⟩
abbrev S1x1x64x64 : Shape := ⟨4, ![1, 1, 64, 64]⟩
abbrev S8x64x1 : Shape := ⟨3, ![8, 64, 1]⟩
abbrev S8x64x128x64 : Shape := ⟨4, ![8, 64, 128, 64]⟩

abbrev nBuf : Space → Nat
  | .hbm => 422
  | .vmem => 0
  | .smem => 0
  | _ => 0

abbrev hbmTy0_0 (i : Nat) : BufTy := match i % 128 with
  | 0 => ⟨S4096x3072, .f32⟩
  | 1 => ⟨S4096x16, .f32⟩
  | 2 => ⟨S8, .f32⟩
  | 3 => ⟨S8, .f32⟩
  | 4 => ⟨S4096x1024, .bf16⟩
  | 5 => ⟨S4096x1024, .bf16⟩
  | 6 => ⟨S4096x1024, .f32⟩
  | 7 => ⟨S4096x1024, .f32⟩
  | 8 => ⟨S8x4096x64, .f32⟩
  | 9 => ⟨S8x64, .f32⟩
  | 10 => ⟨S4096x1024, .f32⟩
  | 11 => ⟨S4096x8x128, .f32⟩
  | 12 => ⟨S64x64x8x128, .f32⟩
  | 13 => ⟨S8x64x64x128, .f32⟩
  | 14 => ⟨S4096x1024, .f32⟩
  | 15 => ⟨S4096x8x128, .f32⟩
  | 16 => ⟨S64x64x8x128, .f32⟩
  | 17 => ⟨S8x64x64x128, .f32⟩
  | 18 => ⟨S4096x8x128, .f32⟩
  | 19 => ⟨S64x64x8x128, .f32⟩
  | 20 => ⟨S8x64x64x128, .f32⟩
  | 21 => ⟨S4096x8x128, .f32⟩
  | 22 => ⟨S64x64x8x128, .f32⟩
  | 23 => ⟨S8x64x64x128, .f32⟩
  | 24 => ⟨S8x64x64x64, .f32⟩
  | 25 => ⟨S4096x1024, .f32⟩
  | 26 => ⟨S4096x8x128, .f32⟩
  | 27 => ⟨S4096x1024, .f32⟩
  | 28 => ⟨S4096x8x128, .f32⟩
  | 29 => ⟨S4096x1024, .f32⟩
  | 30 => ⟨S4096x8x128, .f32⟩
  | 31 => ⟨S4096x8, .f32⟩
  | 32 => ⟨S4096x8, .f32⟩
  | 33 => ⟨S4096x8, .f32⟩
  | 34 => ⟨S_, .f32⟩
  | 35 => ⟨S4096x8, .f32⟩
  | 36 => ⟨S4096x8, .f32⟩
  | 37 => ⟨S_, .f32⟩
  | 38 => ⟨S4096x8, .f32⟩
  | 39 => ⟨S4096x8, .f32⟩
  | 40 => ⟨S_, .f32⟩
  | 41 => ⟨S4096x8, .f32⟩
  | 42 => ⟨S4096x8, .f32⟩
  | 43 => ⟨S4096x8, .f32⟩
  | 44 => ⟨S8, .f32⟩
  | 45 => ⟨S8, .f32⟩
  | 46 => ⟨S4096x8, .f32⟩
  | 47 => ⟨S1x8, .f32⟩
  | 48 => ⟨S4096x8, .f32⟩
  | 49 => ⟨S4096x8, .f32⟩
  | 50 => ⟨S_, .f32⟩
  | 51 => ⟨S4096x8, .f32⟩
  | 52 => ⟨S4096x8, .f32⟩
  | 53 => ⟨S4096x8, .f32⟩
  | 54 => ⟨S4096x8, .f32⟩
  | 55 => ⟨S4096x8, .i1⟩
  | 56 => ⟨S4096x8, .f32⟩
  | 57 => ⟨S4096x8, .f32⟩
  | 58 => ⟨S4096x8, .f32⟩
  | 59 => ⟨S4096x8, .f32⟩
  | 60 => ⟨S4096x8, .f32⟩
  | 61 => ⟨S4096x8, .f32⟩
  | 62 => ⟨S4096x8, .f32⟩
  | 63 => ⟨S4096x8, .f32⟩
  | 64 => ⟨S_, .f32⟩
  | 65 => ⟨S4096x8, .f32⟩
  | 66 => ⟨S4096x8, .i1⟩
  | 67 => ⟨S_, .f32⟩
  | 68 => ⟨S4096x8, .f32⟩
  | 69 => ⟨S4096x8, .f32⟩
  | 70 => ⟨S_, .f32⟩
  | 71 => ⟨S4096x8, .f32⟩
  | 72 => ⟨S4096x8, .i1⟩
  | 73 => ⟨S_, .f32⟩
  | 74 => ⟨S4096x8, .f32⟩
  | 75 => ⟨S4096x8, .f32⟩
  | 76 => ⟨S4096x8, .f32⟩
  | 77 => ⟨S4096x8, .f32⟩
  | 78 => ⟨S_, .f32⟩
  | 79 => ⟨S_, .f32⟩
  | 80 => ⟨S_, .i1⟩
  | 81 => ⟨S_, .f32⟩
  | 82 => ⟨S_, .f32⟩
  | 83 => ⟨S_, .f32⟩
  | 84 => ⟨S_, .f32⟩
  | 85 => ⟨S4096x8, .f32⟩
  | 86 => ⟨S4096x8, .i1⟩
  | 87 => ⟨S_, .f32⟩
  | 88 => ⟨S4096x8, .f32⟩
  | 89 => ⟨S4096x8, .f32⟩
  | 90 => ⟨S4096x8, .f32⟩
  | 91 => ⟨S4096x8, .f32⟩
  | 92 => ⟨S4096x8, .f32⟩
  | 93 => ⟨S_, .f32⟩
  | 94 => ⟨S4096x8, .f32⟩
  | 95 => ⟨S4096x8, .f32⟩
  | 96 => ⟨S1x8, .f32⟩
  | 97 => ⟨S4096x8, .f32⟩
  | 98 => ⟨S4096x8, .f32⟩
  | 99 => ⟨S64x64x8x128, .f32⟩
  | 100 => ⟨S8x64x64x128, .f32⟩
  | 101 => ⟨S_, .f32⟩
  | 102 => ⟨S8x64x64x128, .f32⟩
  | 103 => ⟨S8x64x64x128, .f32⟩
  | 104 => ⟨S64x64x8x128, .f32⟩
  | 105 => ⟨S8x64x64x128, .f32⟩
  | 106 => ⟨S64x64x8x128, .f32⟩
  | 107 => ⟨S8x64x64x128, .f32⟩
  | 108 => ⟨S64x64x8, .f32⟩
  | 109 => ⟨S8x64x64, .f32⟩
  | 110 => ⟨S64x64x8, .f32⟩
  | 111 => ⟨S8x64x64, .f32⟩
  | 112 => ⟨S_, .f32⟩
  | 113 => ⟨S_, .f32⟩
  | 114 => ⟨S8x64x64, .f32⟩
  | 115 => ⟨S_, .i1⟩
  | 116 => ⟨S64x64, .i1⟩
  | 117 => ⟨S64x64, .i32⟩
  | 118 => ⟨S_, .i32⟩
  | 119 => ⟨S64x64, .i32⟩
  | 120 => ⟨S64x64, .i32⟩
  | 121 => ⟨S64x64, .i32⟩
  | 122 => ⟨S64x64, .i1⟩
  | 123 => ⟨S_, .i1⟩
  | 124 => ⟨S64x64, .i1⟩
  | 125 => ⟨S64x64, .i1⟩
  | 126 => ⟨S_, .i1⟩
  | 127 => ⟨S64x64, .i1⟩
  | _ => ⟨S4096x3072, .f32⟩

abbrev hbmTy0_1 (i : Nat) : BufTy := match i % 128 with
  | 0 => ⟨S64x64, .i32⟩
  | 1 => ⟨S_, .i32⟩
  | 2 => ⟨S64x64, .i32⟩
  | 3 => ⟨S64x64, .i32⟩
  | 4 => ⟨S64x64, .i32⟩
  | 5 => ⟨S64x64, .i1⟩
  | 6 => ⟨S_, .i1⟩
  | 7 => ⟨S64x64, .i1⟩
  | 8 => ⟨S64x64, .i1⟩
  | 9 => ⟨S8x64x64x1, .f32⟩
  | 10 => ⟨S8x64x1x64, .f32⟩
  | 11 => ⟨S8x64x64x64, .f32⟩
  | 12 => ⟨S8x64x64x64, .f32⟩
  | 13 => ⟨S8x64x64x64, .f32⟩
  | 14 => ⟨S_, .f32⟩
  | 15 => ⟨S_, .f32⟩
  | 16 => ⟨S8x64x64x64, .i1⟩
  | 17 => ⟨S8x64x64x64, .f32⟩
  | 18 => ⟨S8x64x64x64, .f32⟩
  | 19 => ⟨S_, .f32⟩
  | 20 => ⟨S8x64x64x64, .f32⟩
  | 21 => ⟨S8x64x64x64, .f32⟩
  | 22 => ⟨S8x64x64x1, .f32⟩
  | 23 => ⟨S8x64x64x128, .f32⟩
  | 24 => ⟨S8x64x64x128, .f32⟩
  | 25 => ⟨S8x64x64x64, .f32⟩
  | 26 => ⟨S8x64x64x64, .f32⟩
  | 27 => ⟨S_, .f32⟩
  | 28 => ⟨S_, .f32⟩
  | 29 => ⟨S8x64x64x64, .i1⟩
  | 30 => ⟨S8x64x64x64, .f32⟩
  | 31 => ⟨S8x64x64x64, .f32⟩
  | 32 => ⟨S_, .f32⟩
  | 33 => ⟨S8x64x64x64, .f32⟩
  | 34 => ⟨S8x64x64x64, .f32⟩
  | 35 => ⟨S64x64, .i32⟩
  | 36 => ⟨S64x64, .i32⟩
  | 37 => ⟨S_, .i32⟩
  | 38 => ⟨S64x64, .i32⟩
  | 39 => ⟨S64x64, .i32⟩
  | 40 => ⟨S64x64, .i1⟩
  | 41 => ⟨S64x64, .f32⟩
  | 42 => ⟨S1x1x64x64, .f32⟩
  | 43 => ⟨S8x64x64x64, .f32⟩
  | 44 => ⟨S8x64x64x64, .f32⟩
  | 45 => ⟨S8x64x64x64, .f32⟩
  | 46 => ⟨S8x64x64x64, .f32⟩
  | 47 => ⟨S8x64x64x64, .f32⟩
  | 48 => ⟨S8x64x64x64, .f32⟩
  | 49 => ⟨S8x64x64x64, .f32⟩
  | 50 => ⟨S8x64x64x64, .f32⟩
  | 51 => ⟨S8x64x64x64, .f32⟩
  | 52 => ⟨S8x64x64x64, .f32⟩
  | 53 => ⟨S8x64x64x64, .f32⟩
  | 54 => ⟨S8x64x64x64, .f32⟩
  | 55 => ⟨S8x64x64x64, .f32⟩
  | 56 => ⟨S8x64x64x64, .f32⟩
  | 57 => ⟨S8x64x64x64, .f32⟩
  | 58 => ⟨S8x64x64x64, .f32⟩
  | 59 => ⟨S8x64x64x64, .f32⟩
  | 60 => ⟨S8x64x64x1, .f32⟩
  | 61 => ⟨S8x64x64x128, .f32⟩
  | 62 => ⟨S8x64x64x128, .f32⟩
  | 63 => ⟨S8x64x64x128, .f32⟩
  | 64 => ⟨S8x64x64, .f32⟩
  | 65 => ⟨S8x64x64x1, .f32⟩
  | 66 => ⟨S8x64x64x128, .f32⟩
  | 67 => ⟨S8x64x64x128, .f32⟩
  | 68 => ⟨S8x64x64x128, .f32⟩
  | 69 => ⟨S8x64x64x64, .f32⟩
  | 70 => ⟨S8x64x64x64, .f32⟩
  | 71 => ⟨S_, .f32⟩
  | 72 => ⟨S_, .f32⟩
  | 73 => ⟨S8x64x64x64, .i1⟩
  | 74 => ⟨S8x64x64x64, .f32⟩
  | 75 => ⟨S8x64x64x64, .f32⟩
  | 76 => ⟨S_, .f32⟩
  | 77 => ⟨S8x64x64x64, .f32⟩
  | 78 => ⟨S8x64x64, .f32⟩
  | 79 => ⟨S8x64x64x1, .f32⟩
  | 80 => ⟨S8x64x64x128, .f32⟩
  | 81 => ⟨S8x64x64x128, .f32⟩
  | 82 => ⟨S8x64x1, .f32⟩
  | 83 => ⟨S8x64, .f32⟩
  | 84 => ⟨S8x64x1, .f32⟩
  | 85 => ⟨S8x64x64, .f32⟩
  | 86 => ⟨S8x64x64, .f32⟩
  | 87 => ⟨S8x64x64, .f32⟩
  | 88 => ⟨S8x64x64x1, .f32⟩
  | 89 => ⟨S8x64x64x128, .f32⟩
  | 90 => ⟨S8x64x64x128, .f32⟩
  | 91 => ⟨S8x64, .f32⟩
  | 92 => ⟨S8x64, .f32⟩
  | 93 => ⟨S8x64x64x128, .f32⟩
  | 94 => ⟨S_, .f32⟩
  | 95 => ⟨S8x64x64, .f32⟩
  | 96 => ⟨S8x64x64x1, .f32⟩
  | 97 => ⟨S8x64x64x128, .f32⟩
  | 98 => ⟨S8x64x64x128, .f32⟩
  | 99 => ⟨S_, .f32⟩
  | 100 => ⟨S8x64x64, .f32⟩
  | 101 => ⟨S8x64x64, .f32⟩
  | 102 => ⟨S_, .f32⟩
  | 103 => ⟨S8x64, .f32⟩
  | 104 => ⟨S8x64x1, .f32⟩
  | 105 => ⟨S8x64x64, .f32⟩
  | 106 => ⟨S_, .f32⟩
  | 107 => ⟨S8x64, .f32⟩
  | 108 => ⟨S8x64, .f32⟩
  | 109 => ⟨S8x64x1, .f32⟩
  | 110 => ⟨S_, .f32⟩
  | 111 => ⟨S8x64x64, .f32⟩
  | 112 => ⟨S8x64x64, .f32⟩
  | 113 => ⟨S8x64x64x128, .f32⟩
  | 114 => ⟨S_, .f32⟩
  | 115 => ⟨S8x64x64, .f32⟩
  | 116 => ⟨S8x64x64x1, .f32⟩
  | 117 => ⟨S8x64x64x128, .f32⟩
  | 118 => ⟨S8x64x64x128, .f32⟩
  | 119 => ⟨S_, .f32⟩
  | 120 => ⟨S8x64x64, .f32⟩
  | 121 => ⟨S8x64x64, .f32⟩
  | 122 => ⟨S8x64x64, .f32⟩
  | 123 => ⟨S_, .f32⟩
  | 124 => ⟨S8x64x64x64, .f32⟩
  | 125 => ⟨S8x64x64x64, .f32⟩
  | 126 => ⟨S8x64x64x64, .f32⟩
  | 127 => ⟨S8x64x64x64, .f32⟩
  | _ => ⟨S4096x3072, .f32⟩

abbrev hbmTy0_2 (i : Nat) : BufTy := match i % 128 with
  | 0 => ⟨S8x64x64x128, .f32⟩
  | 1 => ⟨S8x64x64x128, .f32⟩
  | 2 => ⟨S8x64x64x128, .f32⟩
  | 3 => ⟨S8x64x64x128, .f32⟩
  | 4 => ⟨S8x64x128x64, .f32⟩
  | 5 => ⟨S8x64x64x128, .f32⟩
  | 6 => ⟨S8x64x64x64, .f32⟩
  | 7 => ⟨S8x64x64x128, .f32⟩
  | 8 => ⟨S_, .f32⟩
  | 9 => ⟨S8x64x64, .f32⟩
  | 10 => ⟨S8x64x64x1, .f32⟩
  | 11 => ⟨S8x64x64x128, .f32⟩
  | 12 => ⟨S8x64x64x128, .f32⟩
  | 13 => ⟨S_, .f32⟩
  | 14 => ⟨S8x64x64, .f32⟩
  | 15 => ⟨S8x64x64, .f32⟩
  | 16 => ⟨S8x64x64, .f32⟩
  | 17 => ⟨S8x64x128x64, .f32⟩
  | 18 => ⟨S8x64x64x128, .f32⟩
  | 19 => ⟨S8x64x64x64, .f32⟩
  | 20 => ⟨S8x64x64x64, .f32⟩
  | 21 => ⟨S8x64x64x128, .f32⟩
  | 22 => ⟨S_, .f32⟩
  | 23 => ⟨S8x64x64, .f32⟩
  | 24 => ⟨S8x64x64x1, .f32⟩
  | 25 => ⟨S8x64x64x128, .f32⟩
  | 26 => ⟨S8x64x64x128, .f32⟩
  | 27 => ⟨S_, .f32⟩
  | 28 => ⟨S8x64x64, .f32⟩
  | 29 => ⟨S8x64x64x64, .f32⟩
  | 30 => ⟨S8x64x64x64, .f32⟩
  | 31 => ⟨S8x64x64x64, .f32⟩
  | 32 => ⟨S8x64x64x64, .f32⟩
  | 33 => ⟨S8x64x64x64, .f32⟩
  | 34 => ⟨S8x64x64x64, .f32⟩
  | 35 => ⟨S8x64x64x64, .f32⟩
  | 36 => ⟨S8x64x64x64, .f32⟩
  | 37 => ⟨S8x64x64x64, .f32⟩
  | 38 => ⟨S8x64x64x64, .f32⟩
  | 39 => ⟨S8x64x64x64, .f32⟩
  | 40 => ⟨S8x64x64x64, .f32⟩
  | 41 => ⟨S8x64x64x64, .f32⟩
  | 42 => ⟨S8x64x64x64, .f32⟩
  | 43 => ⟨S8x64x64x64, .f32⟩
  | 44 => ⟨S8x64x64x64, .f32⟩
  | 45 => ⟨S8x64x64x64, .f32⟩
  | 46 => ⟨S8x64x64x64, .f32⟩
  | 47 => ⟨S8x64x64x64, .f32⟩
  | 48 => ⟨S8x64x64x64, .f32⟩
  | 49 => ⟨S8x64x64x64, .f32⟩
  | 50 => ⟨S8x64x64x64, .f32⟩
  | 51 => ⟨S8x64x64x64, .f32⟩
  | 52 => ⟨S8x64x64x64, .f32⟩
  | 53 => ⟨S8x64x64x64, .f32⟩
  | 54 => ⟨S8x64x64x64, .f32⟩
  | 55 => ⟨S8x64x64x64, .f32⟩
  | 56 => ⟨S8x64x64x64, .f32⟩
  | 57 => ⟨S8x64x64x64, .f32⟩
  | 58 => ⟨S8x64x64x64, .f32⟩
  | 59 => ⟨S8x64x64x64, .f32⟩
  | 60 => ⟨S8x64x64x64, .f32⟩
  | 61 => ⟨S8x64x64x64, .f32⟩
  | 62 => ⟨S8x64x64x64, .f32⟩
  | 63 => ⟨S8x64x64x64, .f32⟩
  | 64 => ⟨S8x64x64x64, .f32⟩
  | 65 => ⟨S8x64x64x64, .f32⟩
  | 66 => ⟨S8x64x64x64, .f32⟩
  | 67 => ⟨S8x64x64x64, .f32⟩
  | 68 => ⟨S8x64x64x64, .f32⟩
  | 69 => ⟨S8x64x64x64, .f32⟩
  | 70 => ⟨S8x64x64x64, .f32⟩
  | 71 => ⟨S8x64x64x64, .f32⟩
  | 72 => ⟨S8x64x64x64, .f32⟩
  | 73 => ⟨S8x64x64x64, .f32⟩
  | 74 => ⟨S8x64x64x64, .f32⟩
  | 75 => ⟨S_, .f32⟩
  | 76 => ⟨S8x64x64x64, .f32⟩
  | 77 => ⟨S8x64x64x64, .f32⟩
  | 78 => ⟨S8x64x64x64, .f32⟩
  | 79 => ⟨S8x64x64x64, .f32⟩
  | 80 => ⟨S8x64x64x64, .f32⟩
  | 81 => ⟨S8x64x64x128, .f32⟩
  | 82 => ⟨S8x64x64x128, .f32⟩
  | 83 => ⟨S8x64x64x128, .f32⟩
  | 84 => ⟨S8x64x64x128, .f32⟩
  | 85 => ⟨S8x64x64x128, .f32⟩
  | 86 => ⟨S_, .f32⟩
  | 87 => ⟨S8x64x64, .f32⟩
  | 88 => ⟨S8x64x64x1, .f32⟩
  | 89 => ⟨S8x64x64x128, .f32⟩
  | 90 => ⟨S8x64x64x128, .f32⟩
  | 91 => ⟨S8x64x64x128, .f32⟩
  | 92 => ⟨S_, .f32⟩
  | 93 => ⟨S8x64x64, .f32⟩
  | 94 => ⟨S8x64x64, .f32⟩
  | 95 => ⟨S8x64x64x64, .f32⟩
  | 96 => ⟨S_, .f32⟩
  | 97 => ⟨S8x64x64x64, .f32⟩
  | 98 => ⟨S8x64x64x64, .f32⟩
  | 99 => ⟨S_, .f32⟩
  | 100 => ⟨S8x64x64, .f32⟩
  | 101 => ⟨S8x64x64x1, .f32⟩
  | 102 => ⟨S8x64x64x64, .f32⟩
  | 103 => ⟨S_, .f32⟩
  | 104 => ⟨S8x64x64, .f32⟩
  | 105 => ⟨S8x64x1x64, .f32⟩
  | 106 => ⟨S_, .f32⟩
  | 107 => ⟨S8x64x64, .f32⟩
  | 108 => ⟨S8x64x64, .f32⟩
  | 109 => ⟨S_, .f32⟩
  | 110 => ⟨S8x64x64, .f32⟩
  | 111 => ⟨S8x64x64, .f32⟩
  | 112 => ⟨S_, .f32⟩
  | 113 => ⟨S_, .f32⟩
  | 114 => ⟨S8x64x64, .f32⟩
  | 115 => ⟨S64x64x8, .f32⟩
  | 116 => ⟨S4096x8, .f32⟩
  | 117 => ⟨S64x64x8, .f32⟩
  | 118 => ⟨S4096x8, .f32⟩
  | 119 => ⟨S64x64x8x128, .f32⟩
  | 120 => ⟨S4096x8x128, .f32⟩
  | 121 => ⟨S64x64x8x128, .f32⟩
  | 122 => ⟨S4096x8x128, .f32⟩
  | 123 => ⟨S_, .f32⟩
  | 124 => ⟨S8x64x64x128, .f32⟩
  | 125 => ⟨S8x64x64x128, .f32⟩
  | 126 => ⟨S64x64x8x128, .f32⟩
  | 127 => ⟨S4096x8x128, .f32⟩
  | _ => ⟨S4096x3072, .f32⟩

abbrev hbmTy0_3 (i : Nat) : BufTy := match i % 128 with
  | 0 => ⟨S4096x8, .f32⟩
  | 1 => ⟨S4096x8, .f32⟩
  | 2 => ⟨S4096x8, .f32⟩
  | 3 => ⟨S_, .f32⟩
  | 4 => ⟨S8, .f32⟩
  | 5 => ⟨S1x8, .f32⟩
  | 6 => ⟨S_, .f32⟩
  | 7 => ⟨S8, .f32⟩
  | 8 => ⟨S4096x8, .f32⟩
  | 9 => ⟨S_, .f32⟩
  | 10 => ⟨S8, .f32⟩
  | 11 => ⟨S1x8, .f32⟩
  | 12 => ⟨S_, .f32⟩
  | 13 => ⟨S8, .f32⟩
  | 14 => ⟨S_, .f32⟩
  | 15 => ⟨S4096x16, .f32⟩
  | 16 => ⟨S8, .f32⟩
  | 17 => ⟨S8, .f32⟩
  | 18 => ⟨S4096x8, .f32⟩
  | 19 => ⟨S_, .f32⟩
  | 20 => ⟨S4096x16, .f32⟩
  | 21 => ⟨S4096x16, .f32⟩
  | 22 => ⟨S4096x1024, .f32⟩
  | 23 => ⟨S_, .f32⟩
  | 24 => ⟨S4096x3072, .f32⟩
  | 25 => ⟨S4096x1024, .f32⟩
  | 26 => ⟨S_, .f32⟩
  | 27 => ⟨S4096x3072, .f32⟩
  | 28 => ⟨S4096x3072, .f32⟩
  | 29 => ⟨S4096x1024, .f32⟩
  | 30 => ⟨S_, .f32⟩
  | 31 => ⟨S4096x3072, .f32⟩
  | 32 => ⟨S4096x3072, .f32⟩
  | 33 => ⟨S4096x1024, .f32⟩
  | 34 => ⟨S4096x1024, .f32⟩
  | 35 => ⟨S4096x1024, .f32⟩
  | 36 => ⟨S1x8, .f32⟩
  | 37 => ⟨S1x8, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_v37_0 : Ref sig .tc := ⟨.hbm, 63, rfl⟩
abbrev main_call0_cst_0 : Ref sig .tc := ⟨.hbm, 64, rfl⟩
abbrev main_call0_v13 : Ref sig .tc := ⟨.hbm, 65, rfl⟩
abbrev main_call0_v14 : Ref sig .tc := ⟨.hbm, 66, rfl⟩
abbrev main_call0_cst_1 : Ref sig .tc := ⟨.hbm, 67, rfl⟩
abbrev main_call0_v15 : Ref sig .tc := ⟨.hbm, 68, rfl⟩
abbrev main_call0_v16 : Ref sig .tc := ⟨.hbm, 69, rfl⟩
abbrev main_call0_cst_2 : Ref sig .tc := ⟨.hbm, 70, rfl⟩
abbrev main_call0_v17 : Ref sig .tc := ⟨.hbm, 71, rfl⟩
abbrev main_call0_v18 : Ref sig .tc := ⟨.hbm, 72, rfl⟩
abbrev main_call0_cst_3 : Ref sig .tc := ⟨.hbm, 73, rfl⟩
abbrev main_call0_v19 : Ref sig .tc := ⟨.hbm, 74, rfl⟩
abbrev main_call0_v20 : Ref sig .tc := ⟨.hbm, 75, rfl⟩
abbrev main_call0_v21 : Ref sig .tc := ⟨.hbm, 76, rfl⟩
abbrev main_v37_1 : Ref sig .tc := ⟨.hbm, 77, rfl⟩
abbrev main_call0_cst_4 : Ref sig .tc := ⟨.hbm, 78, rfl⟩
abbrev main_call0_cst_5 : Ref sig .tc := ⟨.hbm, 79, rfl⟩
abbrev main_call0_v23 : Ref sig .tc := ⟨.hbm, 80, rfl⟩
abbrev main_call0_cst_6 : Ref sig .tc := ⟨.hbm, 81, rfl⟩
abbrev main_call0_cst_7 : Ref sig .tc := ⟨.hbm, 82, rfl⟩
abbrev main_call0_v24 : Ref sig .tc := ⟨.hbm, 83, rfl⟩
abbrev main_call0_cst_8 : Ref sig .tc := ⟨.hbm, 84, rfl⟩
abbrev main_call0_v25 : Ref sig .tc := ⟨.hbm, 85, rfl⟩
abbrev main_call0_v26 : Ref sig .tc := ⟨.hbm, 86, rfl⟩
abbrev main_call0_cst_9 : Ref sig .tc := ⟨.hbm, 87, rfl⟩
abbrev main_call0_v27 : Ref sig .tc := ⟨.hbm, 88, rfl⟩
abbrev main_call0_v28 : Ref sig .tc := ⟨.hbm, 89, rfl⟩
abbrev main_call0_v29 : Ref sig .tc := ⟨.hbm, 90, rfl⟩
abbrev main_call0_v30 : Ref sig .tc := ⟨.hbm, 91, rfl⟩
abbrev main_call0_v31 : Ref sig .tc := ⟨.hbm, 92, rfl⟩
abbrev main_call0_cst_10 : Ref sig .tc := ⟨.hbm, 93, rfl⟩
abbrev main_call0_v32 : Ref sig .tc := ⟨.hbm, 94, rfl⟩
abbrev main_v37_2 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_2 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_call1_call0_cst : Ref sig .tc := ⟨.hbm, 112, rfl⟩
abbrev main_call1_call0_v0 : Ref sig .tc := ⟨.hbm, 113, rfl⟩
abbrev main_v53 : Ref sig .tc := ⟨.hbm, 114, rfl⟩
abbrev main_c : Ref sig .tc := ⟨.hbm, 115, rfl⟩
abbrev main_v54 : Ref sig .tc := ⟨.hbm, 116, rfl⟩
abbrev main_call2_v0 : Ref sig .tc := ⟨.hbm, 117, rfl⟩
abbrev main_call2_c : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_c_0 : Ref sig .tc := ⟨.hbm, 123, rfl⟩
abbrev main_call2_v5 : Ref sig .tc := ⟨.hbm, 124, rfl⟩
abbrev main_v55 : Ref sig .tc := ⟨.hbm, 125, rfl⟩
abbrev main_c_3 : Ref sig .tc := ⟨.hbm, 126, rfl⟩
abbrev main_v56 : Ref sig .tc := ⟨.hbm, 127, rfl⟩
abbrev main_call3_v0 : Ref sig .tc := ⟨.hbm, 128, rfl⟩
abbrev main_call3_c : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_c_0 : Ref sig .tc := ⟨.hbm, 134, rfl⟩
abbrev main_call3_v5 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_cst_4 : Ref sig .tc := ⟨.hbm, 142, rfl⟩
abbrev main_call4_v0 : Ref sig .tc := ⟨.hbm, 143, rfl⟩
abbrev main_v63_1 : Ref sig .tc := ⟨.hbm, 144, rfl⟩
abbrev main_call4_v2 : Ref sig .tc := ⟨.hbm, 145, rfl⟩
abbrev main_v63_0 : Ref sig .tc := ⟨.hbm, 146, rfl⟩
abbrev main_call4_cst : Ref sig .tc := ⟨.hbm, 147, rfl⟩
abbrev main_v63_2 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_cst_5 : Ref sig .tc := ⟨.hbm, 155, rfl⟩
abbrev main_call5_v0 : Ref sig .tc := ⟨.hbm, 156, rfl⟩
abbrev main_v70_1 : Ref sig .tc := ⟨.hbm, 157, rfl⟩
abbrev main_call5_v2 : Ref sig .tc := ⟨.hbm, 158, rfl⟩
abbrev main_v70_0 : Ref sig .tc := ⟨.hbm, 159, rfl⟩
abbrev main_call5_cst : Ref sig .tc := ⟨.hbm, 160, rfl⟩
abbrev main_v70_2 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_c_6 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_7 : Ref sig .tc := ⟨.hbm, 199, rfl⟩
abbrev main_call6_v0 : Ref sig .tc := ⟨.hbm, 200, rfl⟩
abbrev main_v107_1 : Ref sig .tc := ⟨.hbm, 201, rfl⟩
abbrev main_call6_v2 : Ref sig .tc := ⟨.hbm, 202, rfl⟩
abbrev main_v107_0 : Ref sig .tc := ⟨.hbm, 203, rfl⟩
abbrev main_call6_cst : Ref sig .tc := ⟨.hbm, 204, rfl⟩
abbrev main_v107_2 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_cst_8 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_cst_9 : Ref sig .tc := ⟨.hbm, 227, rfl⟩
abbrev main_v128 : Ref sig .tc := ⟨.hbm, 228, rfl⟩
abbrev main_v129 : Ref sig .tc := ⟨.hbm, 229, rfl⟩
abbrev main_cst_10 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_cst_11 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_cst_12 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_cst_13 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_cst_14 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_call7_cst : Ref sig .tc := ⟨.hbm, 251, rfl⟩
abbrev main_call7_v0 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_cst_15 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_cst_16 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_cst_17 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_cst_18 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_call8_cst : Ref sig .tc := ⟨.hbm, 331, rfl⟩
abbrev main_call8_v0 : Ref sig .tc := ⟨.hbm, 332, rfl⟩
abbrev main_v220 : Ref sig .tc := ⟨.hbm, 333, rfl⟩
abbrev main_v221 : Ref sig .tc := ⟨.hbm, 334, rfl⟩
abbrev main_v222 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_v226 : Ref sig .tc := ⟨.hbm, 339, rfl⟩
abbrev main_v227 : Ref sig .tc := ⟨.hbm, 340, rfl⟩
abbrev main_v228 : Ref sig .tc := ⟨.hbm, 341, rfl⟩
abbrev main_cst_19 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_cst_20 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_call9_cst : Ref sig .tc := ⟨.hbm, 352, rfl⟩
abbrev main_call9_v0 : Ref sig .tc := ⟨.hbm, 353, rfl⟩
abbrev main_v237 : Ref sig .tc := ⟨.hbm, 354, rfl⟩
abbrev main_cst_21 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_cst_22 : Ref sig .tc := ⟨.hbm, 359, rfl⟩
abbrev main_v241 : Ref sig .tc := ⟨.hbm, 360, rfl⟩
abbrev main_v242 : Ref sig .tc := ⟨.hbm, 361, rfl⟩
abbrev main_cst_23 : Ref sig .tc := ⟨.hbm, 362, rfl⟩
abbrev main_v243 : Ref sig .tc := ⟨.hbm, 363, rfl⟩
abbrev main_v244 : Ref sig .tc := ⟨.hbm, 364, rfl⟩
abbrev main_cst_24 : Ref sig .tc := ⟨.hbm, 365, rfl⟩
abbrev main_v245 : Ref sig .tc := ⟨.hbm, 366, rfl⟩
abbrev main_v246 : Ref sig .tc := ⟨.hbm, 367, rfl⟩
abbrev main_call10_call0_cst : Ref sig .tc := ⟨.hbm, 368, rfl⟩
abbrev main_call10_call0_v0 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_v255 : Ref sig .tc := ⟨.hbm, 378, rfl⟩
abbrev main_cst_25 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_cst_26 : Ref sig .tc := ⟨.hbm, 387, rfl⟩
abbrev main_v263 : Ref sig .tc := ⟨.hbm, 388, rfl⟩
abbrev main_v264 : Ref sig .tc := ⟨.hbm, 389, rfl⟩
abbrev main_cst_27 : Ref sig .tc := ⟨.hbm, 390, rfl⟩
abbrev main_v265 : Ref sig .tc := ⟨.hbm, 391, rfl⟩
abbrev main_v266 : Ref sig .tc := ⟨.hbm, 392, rfl⟩
abbrev main_cst_28 : Ref sig .tc := ⟨.hbm, 393, rfl⟩
abbrev main_v267 : Ref sig .tc := ⟨.hbm, 394, rfl⟩
abbrev main_v268 : Ref sig .tc := ⟨.hbm, 395, rfl⟩
abbrev main_cst_29 : Ref sig .tc := ⟨.hbm, 396, rfl⟩
abbrev main_v269 : Ref sig .tc := ⟨.hbm, 397, rfl⟩
abbrev main_cst_30 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_cst_31 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_cst_32 : Ref sig .tc := ⟨.hbm, 407, rfl⟩
abbrev main_v277 : Ref sig .tc := ⟨.hbm, 408, rfl⟩
abbrev main_v278 : Ref sig .tc := ⟨.hbm, 409, rfl⟩
abbrev main_cst_33 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_cst_34 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩

abbrev nD : Nat := 1
abbrev τ : Topo := Topo.v7x

variable {F : FTy → Type} [FloatOps F]
-- ==== LossKernel.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32_21 : BitVec 32 := 0#32
  let v59 : BitVec 1 := Scalar.cmpi .sgt arg0 c0_i32_21
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== GateKernel.lean ====
abbrev S4096x1024 : Shape := ⟨2, ![4096, 1024]⟩
abbrev S128 : Shape := ⟨1, ![128]⟩
abbrev S1024x1024 : Shape := ⟨2, ![1024, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S128, .f32⟩
  | .hbm, ⟨4, _⟩ => ⟨S1024x1024, .f32⟩
  | .hbm, ⟨5, _⟩ => ⟨S1x128, .f32⟩
  | .hbm, ⟨6, _⟩ => ⟨S1024x1024, .bf16⟩
  | .hbm, ⟨7, _⟩ => ⟨S4096x1024, .f32⟩
  | .hbm, ⟨8, _⟩ => ⟨S4096x1024, .f32⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v411 : BitVec 1 := Scalar.cmpi .eq arg0 c0_i32
  let v412 : BitVec 32 := Scalar.extui v411
  let c0_i32_169 : BitVec 32 := 0#32
  let v413 : BitVec 1 := Scalar.cmpi .ne v412 c0_i32_169
  v413

def k0_cond2 (i : grid0.Coords) : BitVec 1 :=
  let arg0 : BitVec 32 := BitVec.ofNat 32 (i 0).val
  let c0_i32_170 : BitVec 32 := 0#32
  let v414 : BitVec 1 := Scalar.cmpi .sgt arg0 c0_i32_170
  let v415 : BitVec 32 := Scalar.extui v414
  let c0_i32_171 : BitVec 32 := 0#32
  let v416 : BitVec 1 := Scalar.cmpi .ne v415 c0_i32_171
  v416

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateReferenceIdeal.lean ====
abbrev S4096x1024 : Shape := ⟨2, ![4096, 1024]⟩
abbrev S128 : Shape := ⟨1, ![128]⟩
abbrev S1024x1024 : Shape := ⟨2, ![1024, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S128, .f32⟩
  | .hbm, ⟨4, _⟩ => ⟨S1024x1024, .f32⟩
  | .hbm, ⟨5, _⟩ => ⟨S4096x8x128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S4096x8x128, .f32⟩
  | .hbm, ⟨22, _⟩ => ⟨S4096x8x128, .f32⟩
  | .hbm, ⟨23, _⟩ => ⟨S1x1x128, .f32⟩
  | .hbm, ⟨24, _⟩ => ⟨S4096x8x128, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S4096x8x128, .f32⟩
  | .hbm, ⟨29, _⟩ => ⟨S_, .f32⟩
  | .hbm, ⟨30, _⟩ => ⟨S4096x8x128, .f32⟩
  | .hbm, ⟨31, _⟩ => ⟨S4096x8x128, .f32⟩
  | .hbm, ⟨32, _⟩ => ⟨S_, .f32⟩
  | .hbm, ⟨33, _⟩ => ⟨S4096x8x128, .f32⟩
  | .hbm, ⟨34, _⟩ => ⟨S4096x8x128, .f32⟩
  | .hbm, ⟨35, _⟩ => ⟨S_, .f32⟩
  | .hbm, ⟨36, _⟩ => ⟨S4096x8x128, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S4096x8x128, .f32⟩
  | .hbm, ⟨49, _⟩ => ⟨S4096x8x128, .f32⟩
  | .hbm, ⟨50, _⟩ => ⟨S4096x8x128, .f32⟩
  | .hbm, ⟨51, _⟩ => ⟨S4096x1024, .f32⟩
  | .hbm, ⟨52, _⟩ => ⟨S4096x8x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S4096x8x128, .f32⟩
  | .hbm, ⟨57, _⟩ => ⟨S4096x8x128, .f32⟩
  | .hbm, ⟨58, _⟩ => ⟨S_, .f32⟩
  | .hbm, ⟨59, _⟩ => ⟨S128, .f32⟩
  | .hbm, ⟨60, _⟩ => ⟨S4096x8x128, .f32⟩
  | .hbm, ⟨61, _⟩ => ⟨S_, .f32⟩
  | .hbm, ⟨62, _⟩ => ⟨S4096x8, .f32⟩
  | .hbm, ⟨63, _⟩ => ⟨S4096x8x1, .f32⟩
  | .hbm, ⟨64, _⟩ => ⟨S4096x8x128, .f32⟩
  | .hbm, ⟨65, _⟩ => ⟨S4096x8x128, .f32⟩
  | .hbm, ⟨66, _⟩ => ⟨S4096x8x1, .f32⟩
  | .hbm, ⟨67, _⟩ => ⟨S_, .f32⟩
  | .hbm, ⟨68, _⟩ => ⟨S4096x8x1, .f32⟩
  | .hbm, ⟨69, _⟩ => ⟨S4096x8x1, .f32⟩
  | .hbm, ⟨70, _⟩ => ⟨S_, .f32⟩
  | .hbm, ⟨71, _⟩ => ⟨S4096x8, .f32⟩
  | .hbm, ⟨72, _⟩ => ⟨S4096x8x128, .f32⟩
  | .hbm, ⟨73, _⟩ => ⟨S4096x8x128, .f32⟩
  | .hbm, ⟨74, _⟩ => ⟨S4096x8x128, .f32⟩
  | .hbm, ⟨75, _⟩ => ⟨S4096x8x128, .f32⟩
  | .hbm, ⟨76, _⟩ => ⟨S4096x8x128, .f32⟩
  | .hbm, ⟨77, _⟩ => ⟨S4096x1024, .f32⟩
  | .hbm, ⟨78, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== MixoutKernel.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1x512 : Shape := ⟨2, ![1, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S4096x512, .f32⟩
  | .hbm, ⟨9, _⟩ => ⟨S4096x512, .f32⟩
  | .hbm, ⟨10, _⟩ => ⟨S1x512, .f32⟩
  | .hbm, ⟨11, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x512, .f32⟩
  | .local _ .vmem, ⟨12, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v73 : BitVec 32 := Scalar.extui v72
  let c0_i32_31 : BitVec 32 := 0#32
  let v74 : BitVec 1 := Scalar.cmpi .ne v73 c0_i32_31
  v74

def k0_cond2 (i : grid0.Coords) : BitVec 1 :=
  let arg0 : BitVec 32 := BitVec.ofNat 32 (i 0).val
  let c0_i32_32 : BitVec 32 := 0#32
  let v75 : BitVec 1 := Scalar.cmpi .sgt arg0 c0_i32_32
  let v76 : BitVec 32 := Scalar.extui v75
  let c0_i32_33 : BitVec 32 := 0#32
  let v77 : BitVec 1 := Scalar.cmpi .ne v76 c0_i32_33
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixoutReferenceIdeal.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S_, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x512, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S512, .f32⟩
  | .hbm, ⟨65, _⟩ => ⟨S4096x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S4096x512, .f32⟩
  | .hbm, ⟨70, _⟩ => ⟨S4096x512, .f32⟩
  | .hbm, ⟨71, _⟩ => ⟨S_, .f32⟩
  | .hbm, ⟨72, _⟩ => ⟨S512, .f32⟩
  | .hbm, ⟨73, _⟩ => ⟨S4096x512, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x512, .f32⟩
  | .hbm, ⟨78, _⟩ => ⟨S4096x512, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x512, .f32⟩
  | .hbm, ⟨100, _⟩ => ⟨S4096x512, .f32⟩
  | .hbm, ⟨101, _⟩ => ⟨S1x512, .f32⟩
  | .hbm, ⟨102, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v26_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v26_1 : Ref sig .tc := ⟨.hbm, 49, rfl⟩
abbrev main_v26_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]
-- ==== RecKernel.lean ====
abbrev S4096x1024 : Shape := ⟨2, ![4096, 1024]⟩
abbrev S8x4096x64 : Shape := ⟨3, ![8, 4096, 64]⟩
abbrev S8x64 : Shape := ⟨2, ![8, 64]⟩
abbrev S64x64x8x128 : Shape := ⟨4, ![64, 64, 8, 128]⟩
abbrev S8x64x64x128 : Shape := ⟨4, ![8, 64, 64, 128]⟩
abbrev S8x64x1x1 : Shape := ⟨4, ![8, 64, 1, 1]⟩
abbrev S128x128 : Shape := ⟨2, ![128, 128]⟩
abbrev S_ : Shape := ⟨0, ![]⟩
abbrev S1x1x128x128 : Shape := ⟨4, ![1, 1, 128, 128]⟩
abbrev S8x64x128x128 : Shape := ⟨4, ![8, 64, 128, 128]⟩
abbrev S8x63x128x128 : Shape := ⟨4, ![8, 63, 128, 128]⟩
abbrev S8x62x128x128 : Shape := ⟨4, ![8, 62, 128, 128]⟩
abbrev S8x60x128x128 : Shape := ⟨4, ![8, 60, 128, 128]⟩
abbrev S8x56x128x128 : Shape := ⟨4, ![8, 56, 128, 128]⟩
abbrev S8x48x128x128 : Shape := ⟨4, ![8, 48, 128, 128]⟩
abbrev S8x32x128x128 : Shape := ⟨4, ![8, 32, 128, 128]⟩
abbrev S8x64x1 : Shape := ⟨3, ![8, 64, 1]⟩
abbrev S8x64x128 : Shape := ⟨3, ![8, 64, 128]⟩
abbrev S512x1024 : Shape := ⟨2, ![512, 1024]⟩
abbrev S8x512x64 : Shape := ⟨3, ![8, 512, 64]⟩
abbrev S8x8x128 : Shape := ⟨3, ![8, 8, 128]⟩
abbrev S8x8x128x128 : Shape := ⟨4, ![8, 8, 128, 128]⟩
abbrev S8x128x128 : Shape := ⟨3, ![8, 128, 128]⟩
abbrev S1x128x128 : Shape := ⟨3, ![1, 128, 128]⟩
abbrev S64x128 : Shape := ⟨2, ![64, 128]⟩
abbrev S1x64x64 : Shape := ⟨3, ![1, 64, 64]⟩
abbrev S64x64 : Shape := ⟨2, ![64, 64]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩

abbrev nBuf : Space → Nat
  | .hbm => 113
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S8x4096x64, .bf16⟩
  | .hbm, ⟨6, _⟩ => ⟨S8x64, .f32⟩
  | .hbm, ⟨7, _⟩ => ⟨S4096x1024, .f32⟩
  | .hbm, ⟨8, _⟩ => ⟨S64x64x8x128, .f32⟩
  | .hbm, ⟨9, _⟩ => ⟨S8x64x64x128, .f32⟩
  | .hbm, ⟨10, _⟩ => ⟨S64x64x8x128, .f32⟩
  | .hbm, ⟨11, _⟩ => ⟨S8x64x64x128, .f32⟩
  | .hbm, ⟨12, _⟩ => ⟨S4096x1024, .f32⟩
  | .hbm, ⟨13, _⟩ => ⟨S64x64x8x128, .f32⟩
  | .hbm, ⟨14, _⟩ => ⟨S8x64x64x128, .f32⟩
  | .hbm, ⟨15, _⟩ => ⟨S8x64x1x1, .f32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .f32⟩
  | .hbm, ⟨23, _⟩ => ⟨S1x1x128x128, .f32⟩
  | .hbm, ⟨24, _⟩ => ⟨S8x64x128x128, .f32⟩
  | .hbm, ⟨25, _⟩ => ⟨S8x64x128x128, .f32⟩
  | .hbm, ⟨26, _⟩ => ⟨S8x64x128x128, .f32⟩
  | .hbm, ⟨27, _⟩ => ⟨S8x64x128x128, .f32⟩
  | .hbm, ⟨28, _⟩ => ⟨S8x64x128x128, .f32⟩
  | .hbm, ⟨29, _⟩ => ⟨S8x64x128x128, .f32⟩
  | .hbm, ⟨30, _⟩ => ⟨S8x63x128x128, .f32⟩
  | .hbm, ⟨31, _⟩ => ⟨S_, .i32⟩
  | .hbm, ⟨32, _⟩ => ⟨S_, .f32⟩
  | .hbm, ⟨33, _⟩ => ⟨S8x64x128x128, .f32⟩
  | .hbm, ⟨34, _⟩ => ⟨S8x64x128x128, .f32⟩
  | .hbm, ⟨35, _⟩ => ⟨S8x64x128x128, .f32⟩
  | .hbm, ⟨36, _⟩ => ⟨S8x63x128x128, .f32⟩
  | .hbm, ⟨37, _⟩ => ⟨S_, .i32⟩
  | .hbm, ⟨38, _⟩ => ⟨S_, .f32⟩
  | .hbm, ⟨39, _⟩ => ⟨S8x64x128x128, .f32⟩
  | .hbm, ⟨40, _⟩ => ⟨S8x64x128x128, .f32⟩
  | .hbm, ⟨41, _⟩ => ⟨S8x62x128x128, .f32⟩
  | .hbm, ⟨42, _⟩ => ⟨S_, .i32⟩
  | .hbm, ⟨43, _⟩ => ⟨S_, .f32⟩
  | .hbm, ⟨44, _⟩ => ⟨S8x64x128x128, .f32⟩
  | .hbm, ⟨45, _⟩ => ⟨S8x64x128x128, .f32⟩
  | .hbm, ⟨46, _⟩ => ⟨S8x64x128x128, .f32⟩
  | .hbm, ⟨47, _⟩ => ⟨S8x62x128x128, .f32⟩
  | .hbm, ⟨48, _⟩ => ⟨S_, .i32⟩
  | .hbm, ⟨49, _⟩ => ⟨S_, .f32⟩
  | .hbm, ⟨50, _⟩ => ⟨S8x64x128x128, .f32⟩
  | .hbm, ⟨51, _⟩ => ⟨S8x64x128x128, .f32⟩
  | .hbm, ⟨52, _⟩ => ⟨S8x60x128x128, .f32⟩
  | .hbm, ⟨53, _⟩ => ⟨S_, .i32⟩
  | .hbm, ⟨54, _⟩ => ⟨S_, .f32⟩
  | .hbm, ⟨55, _⟩ => ⟨S8x64x128x128, .f32⟩
  | .hbm, ⟨56, _⟩ => ⟨S8x64x128x128, .f32⟩
  | .hbm, ⟨57, _⟩ => ⟨S8x64x128x128, .f32⟩
  | .hbm, ⟨58, _⟩ => ⟨S8x60x128x128, .f32⟩
  | .hbm, ⟨59, _⟩ => ⟨S_, .i32⟩
  | .hbm, ⟨60, _⟩ => ⟨S_, .f32⟩
  | .hbm, ⟨61, _⟩ => ⟨S8x64x128x128, .f32⟩
  | .hbm, ⟨62, _⟩ => ⟨S8x64x128x128, .f32⟩
  | .hbm, ⟨63, _⟩ => ⟨S8x56x128x128, .f32⟩
  | .hbm, ⟨64, _⟩ => ⟨S_, .i32⟩
  | .hbm, ⟨65, _⟩ => ⟨S_, .f32⟩
  | .hbm, ⟨66, _⟩ => ⟨S8x64x128x128, .f32⟩
  | .hbm, ⟨67, _⟩ => ⟨S8x64x128x128, .f32⟩
  | .hbm, ⟨68, _⟩ => ⟨S8x64x128x128, .f32⟩
  | .hbm, ⟨69, _⟩ => ⟨S8x56x128x128, .f32⟩
  | .hbm, ⟨70, _⟩ => ⟨S_, .i32⟩
  | .hbm, ⟨71, _⟩ => ⟨S_, .f32⟩
  | .hbm, ⟨72, _⟩ => ⟨S8x64x128x128, .f32⟩
  | .hbm, ⟨73, _⟩ => ⟨S8x64x128x128, .f32⟩
  | .hbm, ⟨74, _⟩ => ⟨S8x48x128x128, .f32⟩
  | .hbm, ⟨75, _⟩ => ⟨S_, .i32⟩
  | .hbm, ⟨76, _⟩ => ⟨S_, .f32⟩
  | .hbm, ⟨77, _⟩ => ⟨S8x64x128x128, .f32⟩
  | .hbm, ⟨78, _⟩ => ⟨S8x64x128x128, .f32⟩
  | .hbm, ⟨79, _⟩ => ⟨S8x64x128x128, .f32⟩
  | .hbm, ⟨80, _⟩ => ⟨S8x48x128x128, .f32⟩
  | .hbm, ⟨81, _⟩ => ⟨S_, .i32⟩
  | .hbm, ⟨82, _⟩ => ⟨S_, .f32⟩
  | .hbm, ⟨83, _⟩ => ⟨S8x64x128x128, .f32⟩
  | .hbm, ⟨84, _⟩ => ⟨S8x64x128x128, .f32⟩
  | .hbm, ⟨85, _⟩ => ⟨S8x32x128x128, .f32⟩
  | .hbm, ⟨86, _⟩ => ⟨S_, .i32⟩
  | .hbm, ⟨87, _⟩ => ⟨S_, .f32⟩
  | .hbm, ⟨88, _⟩ => ⟨S8x64x128x128, .f32⟩
  | .hbm, ⟨89, _⟩ => ⟨S8x64x128x128, .f32⟩
  | .hbm, ⟨90, _⟩ => ⟨S8x64x128x128, .f32⟩
  | .hbm, ⟨91, _⟩ => ⟨S8x32x128x128, .f32⟩
  | .hbm, ⟨92, _⟩ => ⟨S_, .i32⟩
  | .hbm, ⟨93, _⟩ => ⟨S_, .f32⟩
  | .hbm, ⟨94, _⟩ => ⟨S8x64x128x128, .f32⟩
  | .hbm, ⟨95, _⟩ => ⟨S8x64x128x128, .f32⟩
  | .hbm, ⟨96, _⟩ => ⟨S8x63x128x128, .f32⟩
  | .hbm, ⟨97, _⟩ => ⟨S_, .i32⟩
  | .hbm, ⟨98, _⟩ => ⟨S_, .f32⟩
  | .hbm, ⟨99, _⟩ => ⟨S8x64x128x128, .f32⟩
  | .hbm, ⟨100, _⟩ => ⟨S8x64x64x128, .f32⟩
  | .hbm, ⟨101, _⟩ => ⟨S8x64x64x128, .f32⟩
  | .hbm, ⟨102, _⟩ => ⟨S64x64x8x128, .f32⟩
  | .hbm, ⟨103, _⟩ => ⟨S4096x1024, .f32⟩
  | .hbm, ⟨104, _⟩ => ⟨S8x64x1, .f32⟩
  | .hbm, ⟨105, _⟩ => ⟨S8x64x128, .f32⟩
  | .hbm, ⟨106, _⟩ => ⟨S4096x1024, .bf16⟩
  | .hbm, ⟨107, _⟩ => ⟨S4096x1024, .bf16⟩
  | .hbm, ⟨108, _⟩ => ⟨S4096x1024, .bf16⟩
  | .hbm, ⟨109, _⟩ => ⟨S4096x1024, .f32⟩
  | .hbm, ⟨110, _⟩ => ⟨S4096x1024, .f32⟩
  | .hbm, ⟨111, _⟩ => ⟨S8x4096x64, .f32⟩
  | .hbm, ⟨112, _⟩ => ⟨S8x64x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x512x64, .bf16⟩
  | .local _ .vmem, ⟨9, _⟩ => ⟨S8x512x64, .bf16⟩
  | .local _ .vmem, ⟨10, _⟩ => ⟨S8x8x128, .f32⟩
  | .local _ .vmem, ⟨11, _⟩ => ⟨S8x8x128, .f32⟩
  | .local _ .vmem, ⟨12, _⟩ => ⟨S512x1024, .bf16⟩
  | .local _ .vmem, ⟨13, _⟩ => ⟨S512x1024, .bf16⟩
  | .local _ .vmem, ⟨14, _⟩ => ⟨S8x8x128x128, .f32⟩
  | .local _ .vmem, ⟨15, _⟩ => ⟨S8x8x128x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S8x512x64, .f32⟩
  | .local _ .vmem, ⟨25, _⟩ => ⟨S8x512x64, .f32⟩
  | .local _ .vmem, ⟨26, _⟩ => ⟨S8x8x128, .f32⟩
  | .local _ .vmem, ⟨27, _⟩ => ⟨S8x8x128, .f32⟩
  | .local _ .vmem, ⟨28, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_call1_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_call3_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_call4_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_call5_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_call6_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_call7_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_call8_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_call9_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_call10_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_call11_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_call12_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73_0 : Ref sig .tc := ⟨.hbm, 107, rfl⟩
abbrev main_v73_1 : Ref sig .tc := ⟨.hbm, 108, rfl⟩
abbrev main_v73_2 : Ref sig .tc := ⟨.hbm, 109, rfl⟩
abbrev main_v73_3 : Ref sig .tc := ⟨.hbm, 110, rfl⟩
abbrev main_v73_4 : Ref sig .tc := ⟨.hbm, 111, rfl⟩
abbrev main_v73_5 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RecReferenceIdeal.lean ====
abbrev S4096x1024 : Shape := ⟨2, ![4096, 1024]⟩
abbrev S8x4096x64 : Shape := ⟨3, ![8, 4096, 64]⟩
abbrev S8x64 : Shape := ⟨2, ![8, 64]⟩
abbrev S64x64x8x128 : Shape := ⟨4, ![64, 64, 8, 128]⟩
abbrev S8x64x64x128 : Shape := ⟨4, ![8, 64, 64, 128]⟩
abbrev S8x64x64x64 : Shape := ⟨4, ![8, 64, 64, 64]⟩
abbrev S64x8x64x128 : Shape := ⟨4, ![64, 8, 64, 128]⟩
abbrev S64x8x64x64 : Shape := ⟨4, ![64, 8, 64, 64]⟩
abbrev S64x8 : Shape := ⟨2, ![64, 8]⟩
abbrev S_ : Shape := ⟨0, ![]⟩
abbrev S8x128x128 : Shape := ⟨3, ![8, 128, 128]⟩
abbrev S64x8x128x128 : Shape := ⟨4, ![64, 8, 128, 128]⟩
abbrev S64x8x1x1 : Shape := ⟨4, ![64, 8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩
abbrev S8x64x1 : Shape := ⟨3, ![8, 64, 1]⟩

abbrev nBuf : Space → Nat
  | .hbm => 268
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .f32⟩
  | 3 => ⟨S4096x1024, .bf16⟩
  | 4 => ⟨S4096x1024, .bf16⟩
  | 5 => ⟨S8x4096x64, .bf16⟩
  | 6 => ⟨S8x64, .f32⟩
  | 7 => ⟨S4096x1024, .f32⟩
  | 8 => ⟨S4096x1024, .f32⟩
  | 9 => ⟨S4096x1024, .f32⟩
  | 10 => ⟨S8x4096x64, .f32⟩
  | 11 => ⟨S64x64x8x128, .f32⟩
  | 12 => ⟨S8x64x64x128, .f32⟩
  | 13 => ⟨S64x64x8x128, .f32⟩
  | 14 => ⟨S8x64x64x128, .f32⟩
  | 15 => ⟨S64x64x8x128, .f32⟩
  | 16 => ⟨S8x64x64x128, .f32⟩
  | 17 => ⟨S64x64x8x128, .f32⟩
  | 18 => ⟨S8x64x64x128, .f32⟩
  | 19 => ⟨S8x64x64x64, .f32⟩
  | 20 => ⟨S64x8x64x128, .f32⟩
  | 21 => ⟨S64x8x64x128, .f32⟩
  | 22 => ⟨S64x8x64x128, .f32⟩
  | 23 => ⟨S64x8x64x128, .f32⟩
  | 24 => ⟨S64x8x64x64, .f32⟩
  | 25 => ⟨S64x8, .f32⟩
  | 26 => ⟨S_, .f32⟩
  | 27 => ⟨S8x128x128, .f32⟩
  | 28 => ⟨S_, .f32⟩
  | 29 => ⟨S64x8x64x128, .f32⟩
  | 30 => ⟨S_, .f32⟩
  | 31 => ⟨S64x8x128x128, .f32⟩
  | 32 => ⟨S_, .f32⟩
  | 33 => ⟨S64x8x64x128, .f32⟩
  | 34 => ⟨S_, .f32⟩
  | 35 => ⟨S64x8x1x1, .f32⟩
  | 36 => ⟨S_, .i32⟩
  | 37 => ⟨S64x8x64x128, .f32⟩
  | 38 => ⟨S64x8x64x128, .f32⟩
  | 39 => ⟨S64x8x64x128, .f32⟩
  | 40 => ⟨S64x8x64x128, .f32⟩
  | 41 => ⟨S64x8x64x64, .f32⟩
  | 42 => ⟨S64x8, .f32⟩
  | 43 => ⟨S_, .i32⟩
  | 44 => ⟨S8x128x128, .f32⟩
  | 45 => ⟨S64x8x64x128, .f32⟩
  | 46 => ⟨S64x8x128x128, .f32⟩
  | 47 => ⟨S64x8x64x128, .f32⟩
  | 48 => ⟨S64x8x1x1, .f32⟩
  | 49 => ⟨S_, .i32⟩
  | 50 => ⟨S_, .i1⟩
  | 51 => ⟨S_, .i32⟩
  | 52 => ⟨S_, .i32⟩
  | 53 => ⟨S_, .i32⟩
  | 54 => ⟨S1x8x64x128, .f32⟩
  | 55 => ⟨S8x64x128, .f32⟩
  | 56 => ⟨S_, .i32⟩
  | 57 => ⟨S_, .i32⟩
  | 58 => ⟨S_, .i32⟩
  | 59 => ⟨S1x8x64x128, .f32⟩
  | 60 => ⟨S8x64x128, .f32⟩
  | 61 => ⟨S_, .i32⟩
  | 62 => ⟨S_, .i32⟩
  | 63 => ⟨S_, .i32⟩
  | 64 => ⟨S1x8x64x128, .f32⟩
  | 65 => ⟨S8x64x128, .f32⟩
  | 66 => ⟨S_, .i32⟩
  | 67 => ⟨S_, .i32⟩
  | 68 => ⟨S_, .i32⟩
  | 69 => ⟨S1x8x64x128, .f32⟩
  | 70 => ⟨S8x64x128, .f32⟩
  | 71 => ⟨S_, .i32⟩
  | 72 => ⟨S_, .i32⟩
  | 73 => ⟨S_, .i32⟩
  | 74 => ⟨S1x8x64x64, .f32⟩
  | 75 => ⟨S8x64x64, .f32⟩
  | 76 => ⟨S_, .i32⟩
  | 77 => ⟨S1x8, .f32⟩
  | 78 => ⟨S8, .f32⟩
  | 79 => ⟨S8x64x128, .f32⟩
  | 80 => ⟨S8x64x128, .f32⟩
  | 81 => ⟨S8x64x128, .f32⟩
  | 82 => ⟨S8x64x128, .f32⟩
  | 83 => ⟨S8x64x128, .f32⟩
  | 84 => ⟨S8x1x1, .f32⟩
  | 85 => ⟨S8x128x128, .f32⟩
  | 86 => ⟨S8x128x128, .f32⟩
  | 87 => ⟨S8x128x128, .f32⟩
  | 88 => ⟨S8x128x128, .f32⟩
  | 89 => ⟨S1x8x64x128, .f32⟩
  | 90 => ⟨S_, .i32⟩
  | 91 => ⟨S_, .i32⟩
  | 92 => ⟨S_, .i32⟩
  | 93 => ⟨S64x8x64x128, .f32⟩
  | 94 => ⟨S1x8x128x128, .f32⟩
  | 95 => ⟨S_, .i32⟩
  | 96 => ⟨S_, .i32⟩
  | 97 => ⟨S_, .i32⟩
  | 98 => ⟨S64x8x128x128, .f32⟩
  | 99 => ⟨S1x8x64x128, .f32⟩
  | 100 => ⟨S_, .i32⟩
  | 101 => ⟨S_, .i32⟩
  | 102 => ⟨S_, .i32⟩
  | 103 => ⟨S64x8x64x128, .f32⟩
  | 104 => ⟨S1x8x1x1, .f32⟩
  | 105 => ⟨S_, .i32⟩
  | 106 => ⟨S_, .i32⟩
  | 107 => ⟨S_, .i32⟩
  | 108 => ⟨S64x8x1x1, .f32⟩
  | 109 => ⟨S_, .i32⟩
  | 110 => ⟨S_, .i32⟩
  | 111 => ⟨S64x64x8x128, .f32⟩
  | 112 => ⟨S4096x1024, .f32⟩
  | 113 => ⟨S_, .f32⟩
  | 114 => ⟨S8x128x128, .f32⟩
  | 115 => ⟨S64x64x8x128, .f32⟩
  | 116 => ⟨S64x8x64x128, .f32⟩
  | 117 => ⟨S_, .f32⟩
  | 118 => ⟨S8x128x128, .f32⟩
  | 119 => ⟨S_, .f32⟩
  | 120 => ⟨S64x8x64x128, .f32⟩
  | 121 => ⟨S_, .f32⟩
  | 122 => ⟨S64x8x64x128, .f32⟩
  | 123 => ⟨S_, .f32⟩
  | 124 => ⟨S64x8x64x128, .f32⟩
  | 125 => ⟨S_, .f32⟩
  | 126 => ⟨S64x8x64x128, .f32⟩
  | 127 => ⟨S_, .f32⟩
  | _ => ⟨S4096x1024, .f32⟩

abbrev hbmTy0_1 (i : Nat) : BufTy := match i % 128 with
  | 0 => ⟨S64x8x64x64, .f32⟩
  | 1 => ⟨S_, .f32⟩
  | 2 => ⟨S64x8, .f32⟩
  | 3 => ⟨S_, .i32⟩
  | 4 => ⟨S64x8x64x128, .f32⟩
  | 5 => ⟨S64x8x128x128, .f32⟩
  | 6 => ⟨S64x8x64x128, .f32⟩
  | 7 => ⟨S64x8x64x128, .f32⟩
  | 8 => ⟨S64x8x64x128, .f32⟩
  | 9 => ⟨S64x8x64x64, .f32⟩
  | 10 => ⟨S64x8x1x1, .f32⟩
  | 11 => ⟨S64x8x64x128, .f32⟩
  | 12 => ⟨S_, .i32⟩
  | 13 => ⟨S8x128x128, .f32⟩
  | 14 => ⟨S64x8x64x128, .f32⟩
  | 15 => ⟨S64x8x64x128, .f32⟩
  | 16 => ⟨S64x8x64x128, .f32⟩
  | 17 => ⟨S64x8x64x128, .f32⟩
  | 18 => ⟨S64x8x64x64, .f32⟩
  | 19 => ⟨S64x8, .f32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x8x64x128, .f32⟩
  | 30 => ⟨S8x64x128, .f32⟩
  | 31 => ⟨S_, .i32⟩
  | 32 => ⟨S_, .i32⟩
  | 33 => ⟨S_, .i32⟩
  | 34 => ⟨S1x8x128x128, .f32⟩
  | 35 => ⟨S8x128x128, .f32⟩
  | 36 => ⟨S_, .i32⟩
  | 37 => ⟨S_, .i32⟩
  | 38 => ⟨S_, .i32⟩
  | 39 => ⟨S1x8x64x128, .f32⟩
  | 40 => ⟨S8x64x128, .f32⟩
  | 41 => ⟨S_, .i32⟩
  | 42 => ⟨S_, .i32⟩
  | 43 => ⟨S_, .i32⟩
  | 44 => ⟨S1x8x64x128, .f32⟩
  | 45 => ⟨S8x64x128, .f32⟩
  | 46 => ⟨S_, .i32⟩
  | 47 => ⟨S_, .i32⟩
  | 48 => ⟨S_, .i32⟩
  | 49 => ⟨S1x8x64x128, .f32⟩
  | 50 => ⟨S8x64x128, .f32⟩
  | 51 => ⟨S_, .i32⟩
  | 52 => ⟨S_, .i32⟩
  | 53 => ⟨S_, .i32⟩
  | 54 => ⟨S1x8x64x64, .f32⟩
  | 55 => ⟨S8x64x64, .f32⟩
  | 56 => ⟨S_, .i32⟩
  | 57 => ⟨S_, .i32⟩
  | 58 => ⟨S_, .i32⟩
  | 59 => ⟨S1x8x1x1, .f32⟩
  | 60 => ⟨S8x1x1, .f32⟩
  | 61 => ⟨S_, .i32⟩
  | 62 => ⟨S_, .i32⟩
  | 63 => ⟨S_, .i32⟩
  | 64 => ⟨S1x8x64x128, .f32⟩
  | 65 => ⟨S8x64x128, .f32⟩
  | 66 => ⟨S8x128x64, .f32⟩
  | 67 => ⟨S8x64x128, .f32⟩
  | 68 => ⟨S8x128x64, .f32⟩
  | 69 => ⟨S8x64x128, .f32⟩
  | 70 => ⟨S8x128x128, .f32⟩
  | 71 => ⟨S_, .f32⟩
  | 72 => ⟨S8, .f32⟩
  | 73 => ⟨S8x1x1, .f32⟩
  | 74 => ⟨S8x128x128, .f32⟩
  | 75 => ⟨S8x128x128, .f32⟩
  | 76 => ⟨S_, .f32⟩
  | 77 => ⟨S8, .f32⟩
  | 78 => ⟨S8x128x64, .f32⟩
  | 79 => ⟨S8x64x128, .f32⟩
  | 80 => ⟨S8x64x128, .f32⟩
  | 81 => ⟨S8x64x64, .f32⟩
  | 82 => ⟨S8x128x128, .f32⟩
  | 83 => ⟨S8x128x128, .f32⟩
  | 84 => ⟨S8x128x128, .f32⟩
  | 85 => ⟨S8x64x128, .f32⟩
  | 86 => ⟨S8x64x128, .f32⟩
  | 87 => ⟨S8x128x128, .f32⟩
  | 88 => ⟨S8x128x128, .f32⟩
  | 89 => ⟨S8x128x128, .f32⟩
  | 90 => ⟨S8x64x128, .f32⟩
  | 91 => ⟨S1x8x64x128, .f32⟩
  | 92 => ⟨S_, .i32⟩
  | 93 => ⟨S_, .i32⟩
  | 94 => ⟨S_, .i32⟩
  | 95 => ⟨S64x8x64x128, .f32⟩
  | 96 => ⟨S1x8x64x128, .f32⟩
  | 97 => ⟨S_, .i32⟩
  | 98 => ⟨S_, .i32⟩
  | 99 => ⟨S_, .i32⟩
  | 100 => ⟨S64x8x64x128, .f32⟩
  | 101 => ⟨S1x8x64x128, .f32⟩
  | 102 => ⟨S_, .i32⟩
  | 103 => ⟨S_, .i32⟩
  | 104 => ⟨S_, .i32⟩
  | 105 => ⟨S64x8x64x128, .f32⟩
  | 106 => ⟨S1x8x64x128, .f32⟩
  | 107 => ⟨S_, .i32⟩
  | 108 => ⟨S_, .i32⟩
  | 109 => ⟨S_, .i32⟩
  | 110 => ⟨S64x8x64x128, .f32⟩
  | 111 => ⟨S1x8x64x64, .f32⟩
  | 112 => ⟨S_, .i32⟩
  | 113 => ⟨S_, .i32⟩
  | 114 => ⟨S_, .i32⟩
  | 115 => ⟨S64x8x64x64, .f32⟩
  | 116 => ⟨S1x8, .f32⟩
  | 117 => ⟨S_, .i32⟩
  | 118 => ⟨S64x8, .f32⟩
  | 119 => ⟨S_, .i32⟩
  | 120 => ⟨S_, .i32⟩
  | 121 => ⟨S8x64, .f32⟩
  | 122 => ⟨S8x64x64x64, .f32⟩
  | 123 => ⟨S8x64x64x128, .f32⟩
  | 124 => ⟨S8x64x64x128, .f32⟩
  | 125 => ⟨S8x64x64x128, .f32⟩
  | 126 => ⟨S8x64x64x128, .f32⟩
  | 127 => ⟨S8x4096x64, .f32⟩
  | _ => ⟨S4096x1024, .f32⟩

abbrev hbmTy0_2 (i : Nat) : BufTy := match i % 128 with
  | 0 => ⟨S64x64x8x128, .f32⟩
  | 1 => ⟨S4096x1024, .f32⟩
  | 2 => ⟨S64x64x8x128, .f32⟩
  | 3 => ⟨S4096x1024, .f32⟩
  | 4 => ⟨S64x64x8x128, .f32⟩
  | 5 => ⟨S4096x1024, .f32⟩
  | 6 => ⟨S64x64x8x128, .f32⟩
  | 7 => ⟨S4096x1024, .f32⟩
  | 8 => ⟨S4096x1024, .bf16⟩
  | 9 => ⟨S4096x1024, .bf16⟩
  | 10 => ⟨S8x64x1, .f32⟩
  | 11 => ⟨S8x64x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_c : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev main_v24_6 : Ref sig .tc := ⟨.hbm, 43, rfl⟩
abbrev main_v24_7 : Ref sig .tc := ⟨.hbm, 44, rfl⟩
abbrev main_v24_8 : Ref sig .tc := ⟨.hbm, 45, rfl⟩
abbrev main_v24_9 : Ref sig .tc := ⟨.hbm, 46, rfl⟩
abbrev main_v24_10 : Ref sig .tc := ⟨.hbm, 47, rfl⟩
abbrev main_v24_11 : Ref sig .tc := ⟨.hbm, 48, rfl⟩
abbrev main_while0c_c_24 : Ref sig .tc := ⟨.hbm, 49, rfl⟩
abbrev main_while0c_v57 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_c_1 : Ref sig .tc := ⟨.hbm, 53, rfl⟩
abbrev main_while0b_call0_v0 : Ref sig .tc := ⟨.hbm, 54, rfl⟩
abbrev main_while0b_v57 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_v0 : Ref sig .tc := ⟨.hbm, 59, rfl⟩
abbrev main_while0b_v58 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_v0 : Ref sig .tc := ⟨.hbm, 64, rfl⟩
abbrev main_while0b_v59 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_v0 : Ref sig .tc := ⟨.hbm, 69, rfl⟩
abbrev main_while0b_v60 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_v0 : Ref sig .tc := ⟨.hbm, 74, rfl⟩
abbrev main_while0b_v61 : Ref sig .tc := ⟨.hbm, 75, rfl⟩
abbrev main_while0b_call5_c : Ref sig .tc := ⟨.hbm, 76, rfl⟩
abbrev main_while0b_call5_v0 : Ref sig .tc := ⟨.hbm, 77, rfl⟩
abbrev main_while0b_v62 : Ref sig .tc := ⟨.hbm, 78, rfl⟩
abbrev main_while0b_v63 : Ref sig .tc := ⟨.hbm, 79, rfl⟩
abbrev main_while0b_v64 : Ref sig .tc := ⟨.hbm, 80, rfl⟩
abbrev main_while0b_v65 : Ref sig .tc := ⟨.hbm, 81, rfl⟩
abbrev main_while0b_v66 : Ref sig .tc := ⟨.hbm, 82, rfl⟩
abbrev main_while0b_v67 : Ref sig .tc := ⟨.hbm, 83, rfl⟩
abbrev main_while0b_v68 : Ref sig .tc := ⟨.hbm, 84, rfl⟩
abbrev main_while0b_v69 : Ref sig .tc := ⟨.hbm, 85, rfl⟩
abbrev main_while0b_v70 : Ref sig .tc := ⟨.hbm, 86, rfl⟩
abbrev main_while0b_v71 : Ref sig .tc := ⟨.hbm, 87, rfl⟩
abbrev main_while0b_v72 : Ref sig .tc := ⟨.hbm, 88, rfl⟩
abbrev main_while0b_call6_v0 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_v73 : Ref sig .tc := ⟨.hbm, 93, rfl⟩
abbrev main_while0b_call7_v0 : Ref sig .tc := ⟨.hbm, 94, rfl⟩
abbrev main_while0b_call7_c : Ref sig .tc := ⟨.hbm, 95, rfl⟩
abbrev main_while0b_call7_c_0 : Ref sig .tc := ⟨.hbm, 96, rfl⟩
abbrev main_while0b_call7_c_1 : Ref sig .tc := ⟨.hbm, 97, rfl⟩
abbrev main_while0b_v74 : Ref sig .tc := ⟨.hbm, 98, rfl⟩
abbrev main_while0b_call8_v0 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_v75 : Ref sig .tc := ⟨.hbm, 103, rfl⟩
abbrev main_while0b_call9_v0 : Ref sig .tc := ⟨.hbm, 104, rfl⟩
abbrev main_while0b_call9_c : Ref sig .tc := ⟨.hbm, 105, rfl⟩
abbrev main_while0b_call9_c_0 : Ref sig .tc := ⟨.hbm, 106, rfl⟩
abbrev main_while0b_call9_c_1 : Ref sig .tc := ⟨.hbm, 107, rfl⟩
abbrev main_while0b_v76 : Ref sig .tc := ⟨.hbm, 108, rfl⟩
abbrev main_while0b_c_24 : Ref sig .tc := ⟨.hbm, 109, rfl⟩
abbrev main_while0b_v77 : Ref sig .tc := ⟨.hbm, 110, rfl⟩
abbrev main_v25 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_cst_5 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_cst_7 : Ref sig .tc := ⟨.hbm, 121, rfl⟩
abbrev main_v32 : Ref sig .tc := ⟨.hbm, 122, rfl⟩
abbrev main_cst_8 : Ref sig .tc := ⟨.hbm, 123, rfl⟩
abbrev main_v33 : Ref sig .tc := ⟨.hbm, 124, rfl⟩
abbrev main_cst_9 : Ref sig .tc := ⟨.hbm, 125, rfl⟩
abbrev main_v34 : Ref sig .tc := ⟨.hbm, 126, rfl⟩
abbrev main_cst_10 : Ref sig .tc := ⟨.hbm, 127, rfl⟩
abbrev main_v35 : Ref sig .tc := ⟨.hbm, 128, rfl⟩
abbrev main_cst_11 : Ref sig .tc := ⟨.hbm, 129, rfl⟩
abbrev main_v36 : Ref sig .tc := ⟨.hbm, 130, rfl⟩
abbrev main_c_12 : Ref sig .tc := ⟨.hbm, 131, rfl⟩
abbrev main_v37_0 : Ref sig .tc := ⟨.hbm, 132, rfl⟩
abbrev main_v37_1 : Ref sig .tc := ⟨.hbm, 133, rfl⟩
abbrev main_v37_2 : Ref sig .tc := ⟨.hbm, 134, rfl⟩
abbrev main_v37_3 : Ref sig .tc := ⟨.hbm, 135, rfl⟩
abbrev main_v37_4 : Ref sig .tc := ⟨.hbm, 136, rfl⟩
abbrev main_v37_5 : Ref sig .tc := ⟨.hbm, 137, rfl⟩
abbrev main_v37_6 : Ref sig .tc := ⟨.hbm, 138, rfl⟩
abbrev main_v37_7 : Ref sig .tc := ⟨.hbm, 139, rfl⟩
abbrev main_v37_8 : Ref sig .tc := ⟨.hbm, 140, rfl⟩
abbrev main_v37_9 : Ref sig .tc := ⟨.hbm, 141, rfl⟩
abbrev main_v37_10 : Ref sig .tc := ⟨.hbm, 142, rfl⟩
abbrev main_v37_11 : Ref sig .tc := ⟨.hbm, 143, rfl⟩
abbrev main_v37_12 : Ref sig .tc := ⟨.hbm, 144, rfl⟩
abbrev main_v37_13 : Ref sig .tc := ⟨.hbm, 145, rfl⟩
abbrev main_v37_14 : Ref sig .tc := ⟨.hbm, 146, rfl⟩
abbrev main_v37_15 : Ref sig .tc := ⟨.hbm, 147, rfl⟩
abbrev main_while1c_c_28 : Ref sig .tc := ⟨.hbm, 148, rfl⟩
abbrev main_while1c_v57 : Ref sig .tc := ⟨.hbm, 149, rfl⟩
abbrev main_while1b_c_28 : Ref sig .tc := ⟨.hbm, 150, rfl⟩
abbrev main_while1b_v57 : Ref sig .tc := ⟨.hbm, 151, rfl⟩
abbrev main_while1b_c_29 : Ref sig .tc := ⟨.hbm, 152, rfl⟩
abbrev main_while1b_v58 : Ref sig .tc := ⟨.hbm, 153, rfl⟩
abbrev main_while1b_call10_c : Ref sig .tc := ⟨.hbm, 154, rfl⟩
abbrev main_while1b_call10_c_0 : Ref sig .tc := ⟨.hbm, 155, rfl⟩
abbrev main_while1b_call10_c_1 : Ref sig .tc := ⟨.hbm, 156, rfl⟩
abbrev main_while1b_call10_v0 : Ref sig .tc := ⟨.hbm, 157, rfl⟩
abbrev main_while1b_v59 : Ref sig .tc := ⟨.hbm, 158, rfl⟩
abbrev main_while1b_call11_c : Ref sig .tc := ⟨.hbm, 159, rfl⟩
abbrev main_while1b_call11_c_0 : Ref sig .tc := ⟨.hbm, 160, rfl⟩
abbrev main_while1b_call11_c_1 : Ref sig .tc := ⟨.hbm, 161, rfl⟩
abbrev main_while1b_call11_v0 : Ref sig .tc := ⟨.hbm, 162, rfl⟩
abbrev main_while1b_v60 : Ref sig .tc := ⟨.hbm, 163, rfl⟩
abbrev main_while1b_call12_c : Ref sig .tc := ⟨.hbm, 164, rfl⟩
abbrev main_while1b_call12_c_0 : Ref sig .tc := ⟨.hbm, 165, rfl⟩
abbrev main_while1b_call12_c_1 : Ref sig .tc := ⟨.hbm, 166, rfl⟩
abbrev main_while1b_call12_v0 : Ref sig .tc := ⟨.hbm, 167, rfl⟩
abbrev main_while1b_v61 : Ref sig .tc := ⟨.hbm, 168, rfl⟩
abbrev main_while1b_call13_c : Ref sig .tc := ⟨.hbm, 169, rfl⟩
abbrev main_while1b_call13_c_0 : Ref sig .tc := ⟨.hbm, 170, rfl⟩
abbrev main_while1b_call13_c_1 : Ref sig .tc := ⟨.hbm, 171, rfl⟩
abbrev main_while1b_call13_v0 : Ref sig .tc := ⟨.hbm, 172, rfl⟩
abbrev main_while1b_v62 : Ref sig .tc := ⟨.hbm, 173, rfl⟩
abbrev main_while1b_call14_c : Ref sig .tc := ⟨.hbm, 174, rfl⟩
abbrev main_while1b_call14_c_0 : Ref sig .tc := ⟨.hbm, 175, rfl⟩
abbrev main_while1b_call14_c_1 : Ref sig .tc := ⟨.hbm, 176, rfl⟩
abbrev main_while1b_call14_v0 : Ref sig .tc := ⟨.hbm, 177, rfl⟩
abbrev main_while1b_v63 : Ref sig .tc := ⟨.hbm, 178, rfl⟩
abbrev main_while1b_call15_c : Ref sig .tc := ⟨.hbm, 179, rfl⟩
abbrev main_while1b_call15_c_0 : Ref sig .tc := ⟨.hbm, 180, rfl⟩
abbrev main_while1b_call15_c_1 : Ref sig .tc := ⟨.hbm, 181, rfl⟩
abbrev main_while1b_call15_v0 : Ref sig .tc := ⟨.hbm, 182, rfl⟩
abbrev main_while1b_v64 : Ref sig .tc := ⟨.hbm, 183, rfl⟩
abbrev main_while1b_call16_c : Ref sig .tc := ⟨.hbm, 184, rfl⟩
abbrev main_while1b_call16_c_0 : Ref sig .tc := ⟨.hbm, 185, rfl⟩
abbrev main_while1b_call16_c_1 : Ref sig .tc := ⟨.hbm, 186, rfl⟩
abbrev main_while1b_call16_v0 : Ref sig .tc := ⟨.hbm, 187, rfl⟩
abbrev main_while1b_v65 : Ref sig .tc := ⟨.hbm, 188, rfl⟩
abbrev main_while1b_call17_c : Ref sig .tc := ⟨.hbm, 189, rfl⟩
abbrev main_while1b_call17_c_0 : Ref sig .tc := ⟨.hbm, 190, rfl⟩
abbrev main_while1b_call17_c_1 : Ref sig .tc := ⟨.hbm, 191, rfl⟩
abbrev main_while1b_call17_v0 : Ref sig .tc := ⟨.hbm, 192, rfl⟩
abbrev main_while1b_v66 : Ref sig .tc := ⟨.hbm, 193, rfl⟩
abbrev main_while1b_v67 : Ref sig .tc := ⟨.hbm, 194, rfl⟩
abbrev main_while1b_v68 : Ref sig .tc := ⟨.hbm, 195, rfl⟩
abbrev main_while1b_v69 : Ref sig .tc := ⟨.hbm, 196, rfl⟩
abbrev main_while1b_v70 : Ref sig .tc := ⟨.hbm, 197, rfl⟩
abbrev main_while1b_v71 : Ref sig .tc := ⟨.hbm, 198, rfl⟩
abbrev main_while1b_cst_30 : Ref sig .tc := ⟨.hbm, 199, rfl⟩
abbrev main_while1b_v72 : Ref sig .tc := ⟨.hbm, 200, rfl⟩
abbrev main_while1b_v73 : Ref sig .tc := ⟨.hbm, 201, rfl⟩
abbrev main_while1b_v74 : Ref sig .tc := ⟨.hbm, 202, rfl⟩
abbrev main_while1b_v75 : Ref sig .tc := ⟨.hbm, 203, rfl⟩
abbrev main_while1b_cst_31 : Ref sig .tc := ⟨.hbm, 204, rfl⟩
abbrev main_while1b_v76 : Ref sig .tc := ⟨.hbm, 205, rfl⟩
abbrev main_while1b_v77 : Ref sig .tc := ⟨.hbm, 206, rfl⟩
abbrev main_while1b_v78 : Ref sig .tc := ⟨.hbm, 207, rfl⟩
abbrev main_while1b_v79 : Ref sig .tc := ⟨.hbm, 208, rfl⟩
abbrev main_while1b_v80 : Ref sig .tc := ⟨.hbm, 209, rfl⟩
abbrev main_while1b_v81 : Ref sig .tc := ⟨.hbm, 210, rfl⟩
abbrev main_while1b_v82 : Ref sig .tc := ⟨.hbm, 211, rfl⟩
abbrev main_while1b_v83 : Ref sig .tc := ⟨.hbm, 212, rfl⟩
abbrev main_while1b_v84 : Ref sig .tc := ⟨.hbm, 213, rfl⟩
abbrev main_while1b_v85 : Ref sig .tc := ⟨.hbm, 214, rfl⟩
abbrev main_while1b_v86 : Ref sig .tc := ⟨.hbm, 215, rfl⟩
abbrev main_while1b_v87 : Ref sig .tc := ⟨.hbm, 216, rfl⟩
abbrev main_while1b_v88 : Ref sig .tc := ⟨.hbm, 217, rfl⟩
abbrev main_while1b_v89 : Ref sig .tc := ⟨.hbm, 218, rfl⟩
abbrev main_while1b_call18_v0 : Ref sig .tc := ⟨.hbm, 219, rfl⟩
abbrev main_while1b_call18_c : Ref sig .tc := ⟨.hbm, 220, rfl⟩
abbrev main_while1b_call18_c_0 : Ref sig .tc := ⟨.hbm, 221, rfl⟩
abbrev main_while1b_call18_c_1 : Ref sig .tc := ⟨.hbm, 222, rfl⟩
abbrev main_while1b_v90 : Ref sig .tc := ⟨.hbm, 223, rfl⟩
abbrev main_while1b_call19_v0 : Ref sig .tc := ⟨.hbm, 224, rfl⟩
abbrev main_while1b_call19_c : Ref sig .tc := ⟨.hbm, 225, rfl⟩
abbrev main_while1b_call19_c_0 : Ref sig .tc := ⟨.hbm, 226, rfl⟩
abbrev main_while1b_call19_c_1 : Ref sig .tc := ⟨.hbm, 227, rfl⟩
abbrev main_while1b_v91 : Ref sig .tc := ⟨.hbm, 228, rfl⟩
abbrev main_while1b_call20_v0 : Ref sig .tc := ⟨.hbm, 229, rfl⟩
abbrev main_while1b_call20_c : Ref sig .tc := ⟨.hbm, 230, rfl⟩
abbrev main_while1b_call20_c_0 : Ref sig .tc := ⟨.hbm, 231, rfl⟩
abbrev main_while1b_call20_c_1 : Ref sig .tc := ⟨.hbm, 232, rfl⟩
abbrev main_while1b_v92 : Ref sig .tc := ⟨.hbm, 233, rfl⟩
abbrev main_while1b_call21_v0 : Ref sig .tc := ⟨.hbm, 234, rfl⟩
abbrev main_while1b_call21_c : Ref sig .tc := ⟨.hbm, 235, rfl⟩
abbrev main_while1b_call21_c_0 : Ref sig .tc := ⟨.hbm, 236, rfl⟩
abbrev main_while1b_call21_c_1 : Ref sig .tc := ⟨.hbm, 237, rfl⟩
abbrev main_while1b_v93 : Ref sig .tc := ⟨.hbm, 238, rfl⟩
abbrev main_while1b_call22_v0 : Ref sig .tc := ⟨.hbm, 239, rfl⟩
abbrev main_while1b_call22_c : Ref sig .tc := ⟨.hbm, 240, rfl⟩
abbrev main_while1b_call22_c_0 : Ref sig .tc := ⟨.hbm, 241, rfl⟩
abbrev main_while1b_call22_c_1 : Ref sig .tc := ⟨.hbm, 242, rfl⟩
abbrev main_while1b_v94 : Ref sig .tc := ⟨.hbm, 243, rfl⟩
abbrev main_while1b_call23_v0 : Ref sig .tc := ⟨.hbm, 244, rfl⟩
abbrev main_while1b_call23_c : Ref sig .tc := ⟨.hbm, 245, rfl⟩
abbrev main_while1b_v95 : Ref sig .tc := ⟨.hbm, 246, rfl⟩
abbrev main_while1b_c_32 : Ref sig .tc := ⟨.hbm, 247, rfl⟩
abbrev main_while1b_v96 : Ref sig .tc := ⟨.hbm, 248, rfl⟩
abbrev main_v38 : Ref sig .tc := ⟨.hbm, 249, rfl⟩
abbrev main_v39 : Ref sig .tc := ⟨.hbm, 250, rfl⟩
abbrev main_v40 : Ref sig .tc := ⟨.hbm, 251, rfl⟩
abbrev main_v41 : Ref sig .tc := ⟨.hbm, 252, rfl⟩
abbrev main_v42 : Ref sig .tc := ⟨.hbm, 253, rfl⟩
abbrev main_v43 : Ref sig .tc := ⟨.hbm, 254, rfl⟩
abbrev main_v44 : Ref sig .tc := ⟨.hbm, 255, rfl⟩
abbrev main_v45 : Ref sig .tc := ⟨.hbm, 256, rfl⟩
abbrev main_v46 : Ref sig .tc := ⟨.hbm, 257, rfl⟩
abbrev main_v47 : Ref sig .tc := ⟨.hbm, 258, rfl⟩
abbrev main_v48 : Ref sig .tc := ⟨.hbm, 259, rfl⟩
abbrev main_v49 : Ref sig .tc := ⟨.hbm, 260, rfl⟩
abbrev main_v50 : Ref sig .tc := ⟨.hbm, 261, rfl⟩
abbrev main_v51 : Ref sig .tc := ⟨.hbm, 262, rfl⟩
abbrev main_v52 : Ref sig .tc := ⟨.hbm, 263, rfl⟩
abbrev main_v53 : Ref sig .tc := ⟨.hbm, 264, rfl⟩
abbrev main_v54 : Ref sig .tc := ⟨.hbm, 265, rfl⟩
abbrev main_v55 : Ref sig .tc := ⟨.hbm, 266, rfl⟩
abbrev main_v56 : Ref sig .tc := ⟨.hbm, 267, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== GprojKernel.lean ====
abbrev S4096x1024 : Shape := ⟨2, ![4096, 1024]⟩
abbrev S1024 : Shape := ⟨1, ![1024]⟩
abbrev S1024x4112 : Shape := ⟨2, ![1024, 4112]⟩
abbrev S4096x16 : Shape := ⟨2, ![4096, 16]⟩
abbrev S1x1024 : Shape := ⟨2, ![1, 1024]⟩
abbrev S4096x4096 : Shape := ⟨2, ![4096, 4096]⟩
abbrev S256x1024 : Shape := ⟨2, ![256, 1024]⟩
abbrev S256x16 : Shape := ⟨2, ![256, 16]⟩
abbrev S256x4096 : Shape := ⟨2, ![256, 4096]⟩
abbrev S1024x1024 : Shape := ⟨2, ![1024, 1024]⟩
abbrev S1024x16 : Shape := ⟨2, ![1024, 16]⟩
abbrev S256 : Shape := ⟨1, ![256]⟩
abbrev S256x1 : Shape := ⟨2, ![256, 1]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x16, .f32⟩
  | .hbm, ⟨8, _⟩ => ⟨S4096x1024, .f32⟩
  | .hbm, ⟨9, _⟩ => ⟨S1x1024, .f32⟩
  | .hbm, ⟨10, _⟩ => ⟨S1024x4112, .bf16⟩
  | .hbm, ⟨11, _⟩ => ⟨S4096x1024, .f32⟩
  | .hbm, ⟨12, _⟩ => ⟨S1x1024, .f32⟩
  | .hbm, ⟨13, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4112, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x16, .f32⟩
  | .local _ .vmem, ⟨15, _⟩ => ⟨S256x16, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x4096, .bf16⟩
  | .local _ .vmem, ⟨20, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_42 : BitVec 32 := 0#32
  let v68 : BitVec 1 := Scalar.cmpi .ne v67 c0_i32_42
  v68

def k0_cond2 (i : grid0.Coords) : BitVec 1 :=
  let arg0 : BitVec 32 := BitVec.ofNat 32 (i 0).val
  let c0_i32_43 : BitVec 32 := 0#32
  let v69 : BitVec 1 := Scalar.cmpi .sgt arg0 c0_i32_43
  let v70 : BitVec 32 := Scalar.extui v69
  let c0_i32_44 : BitVec 32 := 0#32
  let v71 : BitVec 1 := Scalar.cmpi .ne v70 c0_i32_44
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GprojReferenceIdeal.lean ====
abbrev S4096x1024 : Shape := ⟨2, ![4096, 1024]⟩
abbrev S1024 : Shape := ⟨1, ![1024]⟩
abbrev S1024x4112 : Shape := ⟨2, ![1024, 4112]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4112 : Shape := ⟨2, ![4096, 4112]⟩
abbrev S4096x4096 : Shape := ⟨2, ![4096, 4096]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4112, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x16, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x4112, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x16, .f32⟩
  | .hbm, ⟨35, _⟩ => ⟨S_, .f32⟩
  | .hbm, ⟨36, _⟩ => ⟨S4096x4112, .f32⟩
  | .hbm, ⟨37, _⟩ => ⟨S_, .f32⟩
  | .hbm, ⟨38, _⟩ => ⟨S4096x4112, .f32⟩
  | .hbm, ⟨39, _⟩ => ⟨S4096x4112, .f32⟩
  | .hbm, ⟨40, _⟩ => ⟨S_, .f32⟩
  | .hbm, ⟨41, _⟩ => ⟨S4096x4112, .f32⟩
  | .hbm, ⟨42, _⟩ => ⟨S4096x4112, .f32⟩
  | .hbm, ⟨43, _⟩ => ⟨S_, .f32⟩
  | .hbm, ⟨44, _⟩ => ⟨S4096x4112, .f32⟩
  | .hbm, ⟨45, _⟩ => ⟨S4096x4112, .f32⟩
  | .hbm, ⟨46, _⟩ => ⟨S_, .f32⟩
  | .hbm, ⟨47, _⟩ => ⟨S4096x4112, .f32⟩
  | .hbm, ⟨48, _⟩ => ⟨S4096x4112, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x4096, .f32⟩
  | .hbm, ⟨78, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== FfnKernel.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S5632x1024 : Shape := ⟨2, ![5632, 1024]⟩
abbrev S2x4x704x1024 : Shape := ⟨4, ![2, 4, 704, 1024]⟩
abbrev S8x352x1024 : Shape := ⟨3, ![8, 352, 1024]⟩
abbrev S4x4096x1024 : Shape := ⟨3, ![4, 4096, 1024]⟩
abbrev S4x704x1024 : Shape := ⟨3, ![4, 704, 1024]⟩
abbrev S512x1024 : Shape := ⟨2, ![512, 1024]⟩
abbrev S1x512x704 : Shape := ⟨3, ![1, 512, 704]⟩
abbrev S2x1x704x1024 : Shape := ⟨4, ![2, 1, 704, 1024]⟩
abbrev S2x352x1024 : Shape := ⟨3, ![2, 352, 1024]⟩
abbrev S1x512x1024 : Shape := ⟨3, ![1, 512, 1024]⟩
abbrev S1x704x1024 : Shape := ⟨3, ![1, 704, 1024]⟩
abbrev S2x704x1024 : Shape := ⟨3, ![2, 704, 1024]⟩
abbrev S704x1024 : Shape := ⟨2, ![704, 1024]⟩
abbrev S512x704 : Shape := ⟨2, ![512, 704]⟩
abbrev S256x1024 : Shape := ⟨2, ![256, 1024]⟩
abbrev S256x704 : Shape := ⟨2, ![256, 704]⟩
abbrev S1x256x704 : Shape := ⟨3, ![1, 256, 704]⟩
abbrev S1x1x704x1024 : Shape := ⟨4, ![1, 1, 704, 1024]⟩
abbrev S1x256x1024 : Shape := ⟨3, ![1, 256, 1024]⟩

abbrev nBuf : Space → Nat
  | .hbm => 22
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S5632x1024, .f32⟩
  | .hbm, ⟨14, _⟩ => ⟨S2x4x704x1024, .f32⟩
  | .hbm, ⟨15, _⟩ => ⟨S2x4x704x1024, .bf16⟩
  | .hbm, ⟨16, _⟩ => ⟨S8x352x1024, .f32⟩
  | .hbm, ⟨17, _⟩ => ⟨S8x352x1024, .bf16⟩
  | .hbm, ⟨18, _⟩ => ⟨S4096x1024, .bf16⟩
  | .hbm, ⟨19, _⟩ => ⟨S4x4096x1024, .bf16⟩
  | .hbm, ⟨20, _⟩ => ⟨S2x4x704x1024, .bf16⟩
  | .hbm, ⟨21, _⟩ => ⟨S4x704x1024, .bf16⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S512x1024, .f32⟩
  | .local _ .vmem, ⟨7, _⟩ => ⟨S512x1024, .f32⟩
  | .local _ .vmem, ⟨8, _⟩ => ⟨S2x1x704x1024, .bf16⟩
  | .local _ .vmem, ⟨9, _⟩ => ⟨S2x1x704x1024, .bf16⟩
  | .local _ .vmem, ⟨10, _⟩ => ⟨S2x352x1024, .bf16⟩
  | .local _ .vmem, ⟨11, _⟩ => ⟨S2x352x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S2x1x704x1024, .bf16⟩
  | .local _ .vmem, ⟨15, _⟩ => ⟨S2x1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S2x704x1024, .f32⟩
  | .local _ .vmem, ⟨19, _⟩ => ⟨S704x1024, .f32⟩
  | .local _ .vmem, ⟨20, _⟩ => ⟨S512x1024, .bf16⟩
  | .local _ .vmem, ⟨21, _⟩ => ⟨S512x704, .bf16⟩
  | .local _ .vmem, ⟨22, _⟩ => ⟨S512x704, .bf16⟩
  | .local _ .vmem, ⟨23, _⟩ => ⟨S512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v128 : BitVec 1 := Scalar.cmpi .eq arg1 c7_i32
  let v129 : BitVec 32 := Scalar.extui v128
  let c0_i32_87 : BitVec 32 := 0#32
  let v130 : BitVec 1 := Scalar.cmpi .ne v129 c0_i32_87
  v130

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S4096x1024 : Shape := ⟨2, ![4096, 1024]⟩
abbrev S1024x5632 : Shape := ⟨2, ![1024, 5632]⟩
abbrev S2816x1024 : Shape := ⟨2, ![2816, 1024]⟩
abbrev S4x4096x1024 : Shape := ⟨3, ![4, 4096, 1024]⟩
abbrev S1024x2x4x704 : Shape := ⟨4, ![1024, 2, 4, 704]⟩
abbrev S1024x1x4x704 : Shape := ⟨4, ![1024, 1, 4, 704]⟩
abbrev S1024x4x704 : Shape := ⟨3, ![1024, 4, 704]⟩
abbrev S4x4096x704 : Shape := ⟨3, ![4, 4096, 704]⟩
abbrev S_ : Shape := ⟨0, ![]⟩
abbrev S4x704x1024 : Shape := ⟨3, ![4, 704, 1024]⟩
abbrev S4096x4x704 : Shape := ⟨3, ![4096, 4, 704]⟩
abbrev S5632x1024 : Shape := ⟨2, ![5632, 1024]⟩
abbrev S2x4x704x1024 : Shape := ⟨4, ![2, 4, 704, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4x4096x1024, .f32⟩
  | .hbm, ⟨5, _⟩ => ⟨S1024x2x4x704, .f32⟩
  | .hbm, ⟨6, _⟩ => ⟨S1024x1x4x704, .f32⟩
  | .hbm, ⟨7, _⟩ => ⟨S1024x4x704, .f32⟩
  | .hbm, ⟨8, _⟩ => ⟨S4x4096x704, .f32⟩
  | .hbm, ⟨9, _⟩ => ⟨S1024x1x4x704, .f32⟩
  | .hbm, ⟨10, _⟩ => ⟨S1024x4x704, .f32⟩
  | .hbm, ⟨11, _⟩ => ⟨S4x4096x704, .f32⟩
  | .hbm, ⟨12, _⟩ => ⟨S4x4096x704, .f32⟩
  | .hbm, ⟨13, _⟩ => ⟨S4x4096x704, .f32⟩
  | .hbm, ⟨14, _⟩ => ⟨S_, .f32⟩
  | .hbm, ⟨15, _⟩ => ⟨S4x4096x704, .f32⟩
  | .hbm, ⟨16, _⟩ => ⟨S4x4096x704, .f32⟩
  | .hbm, ⟨17, _⟩ => ⟨S_, .f32⟩
  | .hbm, ⟨18, _⟩ => ⟨S4x4096x704, .f32⟩
  | .hbm, ⟨19, _⟩ => ⟨S4x4096x704, .f32⟩
  | .hbm, ⟨20, _⟩ => ⟨S_, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S4x4096x704, .f32⟩
  | .hbm, ⟨25, _⟩ => ⟨S4x4096x704, .f32⟩
  | .hbm, ⟨26, _⟩ => ⟨S4x704x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S1024x4x704, .f32⟩
  | .hbm, ⟨35, _⟩ => ⟨S4x704x1024, .f32⟩
  | .hbm, ⟨36, _⟩ => ⟨S4096x4x704, .f32⟩
  | .hbm, ⟨37, _⟩ => ⟨S4x4096x704, .f32⟩
  | .hbm, ⟨38, _⟩ => ⟨S2816x1024, .f32⟩
  | .hbm, ⟨39, _⟩ => ⟨S4x4096x704, .f32⟩
  | .hbm, ⟨40, _⟩ => ⟨S4x4096x704, .f32⟩
  | .hbm, ⟨41, _⟩ => ⟨S4x4096x704, .f32⟩
  | .hbm, ⟨42, _⟩ => ⟨S4x4096x704, .f32⟩
  | .hbm, ⟨43, _⟩ => ⟨S4x4096x704, .f32⟩
  | .hbm, ⟨44, _⟩ => ⟨S4x4096x704, .f32⟩
  | .hbm, ⟨45, _⟩ => ⟨S4x704x1024, .f32⟩
  | .hbm, ⟨46, _⟩ => ⟨S1024x4x704, .f32⟩
  | .hbm, ⟨47, _⟩ => ⟨S4x4096x1024, .f32⟩
  | .hbm, ⟨48, _⟩ => ⟨S1024x1x4x704, .f32⟩
  | .hbm, ⟨49, _⟩ => ⟨S_, .f32⟩
  | .hbm, ⟨50, _⟩ => ⟨S1024x2x4x704, .f32⟩
  | .hbm, ⟨51, _⟩ => ⟨S4x704x1024, .f32⟩
  | .hbm, ⟨52, _⟩ => ⟨S1024x4x704, .f32⟩
  | .hbm, ⟨53, _⟩ => ⟨S4x4096x1024, .f32⟩
  | .hbm, ⟨54, _⟩ => ⟨S4x4096x1024, .f32⟩
  | .hbm, ⟨55, _⟩ => ⟨S1024x1x4x704, .f32⟩
  | .hbm, ⟨56, _⟩ => ⟨S_, .f32⟩
  | .hbm, ⟨57, _⟩ => ⟨S1024x2x4x704, .f32⟩
  | .hbm, ⟨58, _⟩ => ⟨S1024x2x4x704, .f32⟩
  | .hbm, ⟨59, _⟩ => ⟨S1024x5632, .f32⟩
  | .hbm, ⟨60, _⟩ => ⟨S5632x1024, .f32⟩
  | .hbm, ⟨61, _⟩ => ⟨S2x4x704x1024, .f32⟩
  | .hbm, ⟨62, _⟩ => ⟨S4x4096x1024, .bf16⟩
  | .hbm, ⟨63, _⟩ => ⟨S2x4x704x1024, .bf16⟩
  | .hbm, ⟨64, _⟩ => ⟨S4x704x1024, .f32⟩
  | .hbm, ⟨65, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.RealLift.lean ====
/-
Extended reals that are real numbers: the operations of the idealized programs on them.

Every claim of this certificate that needs finite arguments works the same way: a finite array is
`up f` for an array `f` of reals, each operation takes such arrays to such arrays, and what is left
is an equation between real numbers. This module has the arrays, the operations, the literals of
the programs and the reading of a finiteness precondition.
-/
module

public import Idealize.ShloMosaic.PureOps
public import Idealize.ShloMosaic.PureOps.Ideal.Laws
public import Idealize.ShloMosaic.Lib.ReduceAll
public import Idealize.ShloMosaic.Lib.Pointwise
public import Mathlib.Data.EReal.Operations

@[expose] public section

noncomputable section

namespace Cert.RealLift

open Idealize.ShloMosaic

/-- An array of reals as an array of extended reals. -/
def up {ι : Type*} (f : ι → ℝ) : ι → EReal := fun i => ((f i : ℝ) : EReal)

theorem up_apply {ι : Type*} (f : ι → ℝ) (i : ι) : up f i = ((f i : ℝ) : EReal) := rfl

/-- A sum of reals, read in the extended reals. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division by a real that is not zero. -/
theorem div_real {a b : ℝ} (hb : b ≠ 0) : Ideal.div (a : EReal) (b : EReal) = ((a / b : ℝ) : EReal) := by
  rw [Ideal.div_coe hb, ← EReal.coe_mul, mul_one_div]

/-- The reciprocal square root of a positive real. -/
theorem rsqrt_real {a : ℝ} (ha : 0 < a) : Ideal.rsqrt (a : EReal) = (((Real.sqrt a)⁻¹ : ℝ) : EReal) := by
  rw [Ideal.rsqrt_coe, if_neg (not_lt.2 ha.le), if_neg ha.ne']

/-- The logarithm of a positive real. -/
theorem log_real {a : ℝ} (ha : 0 < a) : Ideal.log (a : EReal) = ((Real.log a : ℝ) : EReal) := by
  rw [Ideal.log_coe, if_neg (not_le.2 ha)]

/-! ## Literals -/

theorem lit_1024 : Ideal.ofBits .f32 0x44800000#32 = ((1024 : ℝ) : EReal) := by
  simp [Ideal.ofBits, Ideal.ieee, ← EReal.coe_mul]; norm_num

theorem lit_neg_half : Ideal.ofBits .f32 0xBF000000#32 = ((-(1 / 2) : ℝ) : EReal) := by
  simp [Ideal.ofBits, Ideal.ieee, ← EReal.coe_mul]; norm_num

/-- Division by the literal 1024. -/
theorem div_1024 (a : ℝ) : Ideal.div (a : EReal) (Ideal.ofBits .f32 0x44800000#32) = ((a / 1024 : ℝ) : EReal) := by
  rw [lit_1024, div_real (by norm_num)]

/-- The norm's epsilon: the number the literal of `1e-6` denotes. -/
def eps : ℝ := (8388608 + 407485) * (2 : ℝ) ^ (-43 : ℤ)

theorem eps_pos : 0 < eps := by unfold eps; positivity

theorem lit_eps : Ideal.ofBits .f32 0x358637BD#32 = ((eps : ℝ) : EReal) := by
  simp [Ideal.ofBits, Ideal.ieee, eps, ← EReal.coe_mul]; norm_num

theorem lit_inf : Ideal.ofBits .f32 0x7F800000#32 = ⊤ := by
  simp [Ideal.ofBits, Ideal.ieee]

/-! ## Finite arrays -/

/-- `|x| < ∞` says `x` is a real number. -/
theorem real_of_abs_lt {x : EReal} (h : Ideal.cmp .olt (max x (-x)) ⊤ = 1#1) : ((x.toReal : ℝ) : EReal) = x := by
  have h' : max x (-x) < ⊤ := by
    by_contra hn
    simp [Ideal.cmp, hn] at h
  refine EReal.coe_toReal (fun e => ?_) fun e => ?_ <;> simp [e] at h'

/-- An array all of whose entries pass `|x| < ∞` is an array of reals. -/
theorem exists_up {s t u : Shape} {axes : List (Fin s.rank)} [Subsingleton t.Idx] (x : FVec Ideal s .f32)
    (hb : (⟨0, ![]⟩ : Shape).BroadcastsInDim s (![] : Fin 0 → Fin s.rank)) (init : u.Idx → BitVec 1) (hr : s.ReducesTo axes t)
    (hu : 0 < u.numel) (j : t.Idx)
    (h : Host.reduce IntOp.andi (cmpf .olt (Host.absf x) (broadcastInDim s ![] hb (constant (F := Ideal) ⟨0, ![]⟩ .f32 0x7F800000#32)))
      init hr hu j = 1#1) : ∃ f : s.Idx → ℝ, x = up f := by
  refine ⟨fun i => (x i).toReal, funext fun i => ?_⟩
  have hi := Host.reduce_andi_all _ _ _ _ j h i
  refine (real_of_abs_lt ?_).symm
  rw [← lit_inf]
  exact hi

end Cert.RealLift

end
-- ==== Proof.RmsGrad.lean ====
/-
The gradient of RMSNorm over the reals.

`rms x g k = x k · rstd x · g k` with `rstd x = (mean x² + ε)^(-1/2)`. The derivative along a
cotangent `dy` is `rmsDx`; the kernel's and the reference's ways of computing it are equal to it.
-/
module

public import proofs.«01_k».proof.Proof.RealLift

@[expose] public section

noncomputable section

namespace Cert.RmsGrad

open Cert.RealLift

variable {n : ℕ}

/-- The mean of the squares plus epsilon. -/
def ms (x : Fin n → ℝ) : ℝ := (∑ k, x k * x k) / n + eps

theorem ms_pos (x : Fin n → ℝ) : 0 < ms x :=
  add_pos_of_nonneg_of_pos (div_nonneg (Finset.sum_nonneg fun k _ => mul_self_nonneg (x k)) (Nat.cast_nonneg n)) eps_pos

/-- The reciprocal root of the mean square. -/
def rstd (x : Fin n → ℝ) : ℝ := (Real.sqrt (ms x))⁻¹

theorem rstd_mul (x : Fin n → ℝ) : rstd x * rstd x * ms x = 1 := by
  have h := ms_pos x
  have hs : Real.sqrt (ms x) ≠ 0 := (Real.sqrt_pos.2 h).ne'
  unfold rstd
  field_simp
  rw [sq, Real.mul_self_sqrt h.le]

theorem rstd_div (x : Fin n → ℝ) : rstd x / ms x = rstd x * rstd x * rstd x := by
  rw [div_eq_iff (ms_pos x).ne']
  linear_combination -(rstd x) * rstd_mul x

/-- The derivative of RMSNorm in its input, along the cotangent `dy`. -/
def rmsDx (x g dy : Fin n → ℝ) (k : Fin n) : ℝ :=
  rstd x * (dy k * g k - x k * rstd x * ((∑ l, dy l * g l * (x l * rstd x)) / n))

/-- The way the derivative of `rsqrt` and of the mean give it: the mean's part twice, once per factor of the square. -/
theorem rmsDx_eq (x g dy : Fin n → ℝ) (k : Fin n) :
    dy k * g k * rstd x + x k * ((∑ l, x l * (dy l * g l)) * (-(1 / 2) * (rstd x / ms x)) / n)
      + (∑ l, x l * (dy l * g l)) * (-(1 / 2) * (rstd x / ms x)) / n * x k = rmsDx x g dy k := by
  have hs : ∑ l, dy l * g l * (x l * rstd x) = (∑ l, x l * (dy l * g l)) * rstd x := by
    rw [Finset.sum_mul]
    exact Finset.sum_congr rfl fun l _ => by ring
  rw [rmsDx, hs, rstd_div]
  ring

end Cert.RmsGrad

end
-- ==== Proof.NormBlock.lean ====
/-
One block of the pre-norm's gradient: what the kernel's body computes from 512 rows of reals.
-/
module

public import proofs.«01_k».proof.Proof.RmsGrad
public import proofs.«01_k».proof.Proof.Gen.KernelIdeal.Value
public import Idealize.ShloMosaic.Lib.Pipeline.ValueKit

@[expose] public section

set_option maxRecDepth 16384

noncomputable section

namespace Cert.NormBlock

open Cert.RealLift Cert.RmsGrad Idealize.ShloMosaic Idealize.ShloMosaic.Pipeline
open Cert.KernelIdeal Cert.KernelIdeal.Gen

variable (x : S512x1024.Idx → ℝ) (g : S1x1024.Idx → ℝ) (p0 p1 p2 p3 : S1x512x1024.Idx → ℝ)

/-- A row of the block. -/
abbrev row (i : Fin 512) (k : Fin 1024) : ℝ := x (ix2 i k)

/-- The block's cotangent: the four parts added from the first on. -/
def ct (i : Fin 512) (k : Fin 1024) : ℝ := p0 (ix3 0 i k) + p1 (ix3 0 i k) + p2 (ix3 0 i k) + p3 (ix3 0 i k)

theorem ct_at (i : Fin 512) (k : Fin 1024) :
    k0_pay4 (F := Ideal) (up p0) (up p1) (up p2) (up p3) (ix2 i k) = ((ct p0 p1 p2 p3 i k : ℝ) : EReal) := by
  pointwise [k0_pay4]
  simp only [up_apply, ← EReal.coe_add]
  rfl

theorem rstd_at (i : Fin 512) (u : Fin 1) : k0_pay5 (F := Ideal) (up x) (ix2 i u) = ((rstd (row x i) : ℝ) : EReal) := by
  have h : ∀ a : ℝ, a = ms (row x i) → Ideal.rsqrt (a : EReal) = ((rstd (row x i) : ℝ) : EReal) := by
    rintro a rfl; rw [rsqrt_real (ms_pos _), rstd]
  pointwise [k0_pay5]
  simp only [up_apply, ← EReal.coe_mul, coe_sum, div_1024, lit_eps, ← EReal.coe_add]
  exact h _ (by simp only [ms, row, Nat.cast_ofNat])

theorem xh_at (i : Fin 512) (k : Fin 1024) : k0_pay6 (F := Ideal) (up x) (ix2 i k) = ((row x i k * rstd (row x i) : ℝ) : EReal) := by
  pointwise [k0_pay6]
  simp only [rstd_at, up_apply, ← EReal.coe_mul]

theorem inner_at (i : Fin 512) (k : Fin 1024) :
    k0_pay7 (F := Ideal) (up p0) (up p1) (up p2) (up p3) (up x) (up g) (ix2 i k)
      = ((ct p0 p1 p2 p3 i k * g (ix2 0 k) - row x i k * rstd (row x i)
          * ((∑ l, ct p0 p1 p2 p3 i l * g (ix2 0 l) * (row x i l * rstd (row x i))) / 1024) : ℝ) : EReal) := by
  pointwise [k0_pay7]
  simp only [ct_at, xh_at, up_apply, ← EReal.coe_mul, coe_sum, div_1024, ← EReal.coe_sub]

/-- The block of `dx`, on top of the residual's block `d`. -/
theorem dx_at (d : FVec Ideal S512x1024 .f32) (i : Fin 512) (k : Fin 1024) :
    k0_pay2 (F := Ideal) (k0_pay5 (up x)) (k0_pay7 (up p0) (up p1) (up p2) (up p3) (up x) (up g)) d (ix2 i k)
      = d (ix2 i k) + ((rmsDx (row x i) (fun k => g (ix2 0 k)) (ct p0 p1 p2 p3 i) k : ℝ) : EReal) := by
  pointwise [k0_pay2]
  simp only [rstd_at, inner_at, ← EReal.coe_mul, rmsDx, Nat.cast_ofNat]

/-- The block's part of `dg`. -/
theorem dg_at (u : Fin 1) (k : Fin 1024) :
    k0_pay1 (F := Ideal) (k0_pay4 (up p0) (up p1) (up p2) (up p3)) (k0_pay6 (up x)) (ix2 u k)
      = ((∑ i, row x i k * rstd (row x i) * ct p0 p1 p2 p3 i k : ℝ) : EReal) := by
  pointwise [k0_pay1]
  simp only [ct_at, xh_at, ← EReal.coe_mul, coe_sum]
  congr 1
  exact Finset.sum_congr rfl fun i _ => mul_comm _ _

theorem dg_step (v w : FVec Ideal S512x1024 .f32) (a : FVec Ideal S1x1024 .f32) (j : S1x1024.Idx) :
    k0_pay3 (F := Ideal) v w a j = a j + k0_pay1 v w j := by
  idx_vars j
  pointwise [k0_pay3]

end Cert.NormBlock

end
-- ==== Proof.NormKernel.lean ====
/-
The two result arrays of the pre-norm's gradient kernel, at arguments that are real numbers.
-/
module

public import proofs.«01_k».proof.Proof.NormBlock

@[expose] public section

set_option maxRecDepth 16384

noncomputable section

namespace Cert.NormKernel

open Cert.RealLift Cert.RmsGrad Idealize.ShloMosaic Idealize.ShloMosaic.Pipeline
open Cert.KernelIdeal Cert.KernelIdeal.Gen

variable (m : (ℓ : Loc nD τ sig) → Buf (Elt Ideal) ℓ)

theorem idx : ∀ t : Fin cfg0.N, win0_0.index t = ![t.val, 0] ∧ win0_1.index t = ![0, 0] ∧ win0_2.index t = ![0, t.val, 0]
    ∧ win0_3.index t = ![t.val, 0] ∧ win0_4.index t = ![t.val, 0] ∧ win0_5.index t = ![0, 0] :=
  (by decide +kernel : ∀ t : Fin grid0.N, _)

variable (x : S4096x1024.Idx → ℝ) (g : S1024.Idx → ℝ) (dy : S4x4096x1024.Idx → ℝ) (d : FVec Ideal S4096x1024 .f32)

/-- The arguments the gradient multiplies are these reals. -/
structure Args (c : Dev nD) : Prop where
  x : m ((c.tc : Thread nD τ).loc main_arg0) = up x
  g : m ((c.tc : Thread nD τ).loc main_arg1) = up g
  dy : m ((c.tc : Thread nD τ).loc main_arg2) = up dy
  d : m ((c.tc : Thread nD τ).loc main_arg3) = d

/-- Row `t · 512 + i` of the array. -/
def at_row (t : Fin cfg0.N) (i : Fin 512) : Fin 4096 :=
  ⟨t.val * 512 + i.val, by have := lt_of_lt_of_eq t.isLt N_0; have := i.isLt; omega⟩

/-! ## The blocks of a grid point -/

theorem blk0 (c : Dev nD) (t : Fin cfg0.N) (i : Fin 512) (k : Fin 1024) :
    iblk m c 0 t (ix2 i k) = m ((c.tc : Thread nD τ).loc main_arg0) (ix2 (at_row t i) k) := by
  blk_ext [iblk, V, idx t, at_row]

theorem blk1 (c : Dev nD) (t : Fin cfg0.N) (u : Fin 1) (k : Fin 1024) :
    iblk m c 1 t (ix2 u k) = m ((c.tc : Thread nD τ).loc main_arg1) (ix1 k) := by
  blk_point [iblk, V, idx t]

theorem blk2 (c : Dev nD) (t : Fin cfg0.N) (p : Fin 4) (i : Fin 512) (k : Fin 1024) :
    iblk m c 2 t (ix3 p i k) = m ((c.tc : Thread nD τ).loc main_arg2) (ix3 p (at_row t i) k) := by
  blk_ext [iblk, V, idx t, at_row]

theorem blk3 (c : Dev nD) (t : Fin cfg0.N) (i : Fin 512) (k : Fin 1024) :
    iblk m c 3 t (ix2 i k) = m ((c.tc : Thread nD τ).loc main_arg3) (ix2 (at_row t i) k) := by
  blk_ext [iblk, V, idx t, at_row]

/-- The rows of `x` a point works on. -/
def xb (t : Fin cfg0.N) : S512x1024.Idx → ℝ := fun y => x (ix2 (at_row t (y 0)) (y 1))
/-- The scale as a row. -/
def gb : S1x1024.Idx → ℝ := fun y => g (ix1 (y 1))
/-- The rows of one part of the cotangent. -/
def pb (p : Fin 4) (t : Fin cfg0.N) : S1x512x1024.Idx → ℝ := fun y => dy (ix3 p (at_row t (y 1)) (y 2))

variable {m x g dy d} {c : Dev nD} (h : Args m x g dy d c)
include h

theorem xb_eq (t : Fin cfg0.N) : (iblk m c 0 t : FVec Ideal S512x1024 .f32) = up (xb x t) := by
  funext y
  idx_vars y
  exact (blk0 m c t _ _).trans (congrFun h.x _)

theorem gb_eq (t : Fin cfg0.N) : (iblk m c 1 t : FVec Ideal S1x1024 .f32) = up (gb g) := by
  funext y
  idx_vars y
  exact (blk1 m c t _ _).trans (congrFun h.g _)

/-- One part's block of the cotangent, loaded out of the four. -/
theorem pb_eq (t : Fin cfg0.N) (p : Fin 4) (q : ℕ) (hq : q = p.val) (hb) :
    (View.ld (iblk m c 2 t) (Rect.unit (s := S4x512x1024) ![q, 0, 0] ![1, 512, 1024] hb) : FVec Ideal S1x512x1024 .bf16)
      = up (pb dy p t) := by
  funext y
  idx_vars y
  refine Eq.trans ?_ ((blk2 m c t p _ _).trans (congrFun h.dy _))
  refine congrArg (iblk m c 2 t : FVec Ideal S4x512x1024 .bf16) (funext fun a => Fin.ext ?_)
  fin_cases a
  · show q + 1 * y0.val = p.val; omega
  · show 0 + 1 * y1.val = y1.val; omega
  · show 0 + 1 * y2.val = y2.val; omega

omit h in
/-- The block's cotangent is the four parts' sum. -/
theorem ct_eq (t : Fin cfg0.N) (i : Fin 512) :
    NormBlock.ct (pb dy 0 t) (pb dy 1 t) (pb dy 2 t) (pb dy 3 t) i = fun k => ∑ p, dy (ix3 p (at_row t i) k) :=
  funext fun k => (Fin.sum_univ_four fun p => dy (ix3 p (at_row t i) k)).symm

theorem final4 : (dats m 0 c).arrAt 4 (cfgs 0).N = fun j => d j
    + ((rmsDx (fun k => x (ix2 (j 0) k)) (fun k => g (ix1 k)) (fun k => ∑ p, dy (ix3 p (j 0) k)) (j 1) : ℝ) : EReal) := by
  refine (dats m 0 c).arrAt_eq_of_covers 4 _ (by decide +kernel) fun t _ y => ?_
  have hj : ∀ (i : Fin 512) (k : Fin 1024), (win0_4.blk t).view.emb (ix2 i k) = (ix2 (at_row t i) k : S4096x1024.Idx) := fun i k => by
    blk_ext [idx t, at_row]
  have hpay : ∀ (i : Fin 512) (k : Fin 1024), (_ : EReal) = _ := fun i k =>
    (NormBlock.dx_at (xb x t) (gb g) (pb dy 0 t) (pb dy 1 t) (pb dy 2 t) (pb dy 3 t) (iblk m c 3 t) i k).trans
      (by rw [ct_eq, blk3, h.d])
  idx_vars y
  blk_simp
  rw [after0_4, hj]
  by_cases h0 : t.val % 8 = 0
  · rw [outsAt0_A m c t h0 (by have := lt_of_lt_of_eq t.isLt N_0; omega)]
    frame_out
    rw [pb_eq h t 0 0 rfl, pb_eq h t 1 1 rfl, pb_eq h t 2 2 rfl, pb_eq h t 3 3 rfl, xb_eq h, gb_eq h]
    exact hpay y0 y1
  · rw [outsAt0_B m c t h0 (by omega)]
    frame_out
    rw [pb_eq h t 0 0 rfl, pb_eq h t 1 1 rfl, pb_eq h t 2 2 rfl, pb_eq h t 3 3 rfl, xb_eq h, gb_eq h]
    exact hpay y0 y1

theorem final5 : (dats m 0 c).arrAt 5 (cfgs 0).N = fun j =>
    ((∑ r, x (ix2 r (j 1)) * rstd (fun k => x (ix2 r k)) * ∑ p, dy (ix3 p r (j 1)) : ℝ) : EReal) := by
  refine (dats m 0 c).arrAt_eq_of_after_last 5 t0_7 (by decide +kernel) _ fun j => ?_
  blk_simp
  idx_vars j
  rw [after0_5, Pipeline.eq_sum_fin_of_reset_step_apply_last (fun n h => (outsAt0 m c n h).2) 8 (fun _ => (0 : EReal))
    (fun p j => ((∑ i, NormBlock.row (xb x p) i (j 1) * rstd (NormBlock.row (xb x p) i)
      * NormBlock.ct (pb dy 0 p) (pb dy 1 p) (pb dy 2 p) (pb dy 3 p) i (j 1) : ℝ) : EReal))
    (fun t ht j => by
      rw [outsAt0_A m c t ht (by have := lt_of_lt_of_eq t.isLt N_0; omega)]; frame_out
      idx_vars j
      rw [pb_eq h t 0 0 rfl, pb_eq h t 1 1 rfl, pb_eq h t 2 2 rfl, pb_eq h t 3 3 rfl, xb_eq h, NormBlock.dg_at, zero_add])
    (fun t ht j => by
      rw [outsAt0_B m c t ht (by omega)]; frame_out
      rw [NormBlock.dg_step]
      idx_vars j
      rw [pb_eq h t 0 0 rfl, pb_eq h t 1 1 rfl, pb_eq h t 2 2 rfl, pb_eq h t 3 3 rfl, xb_eq h, NormBlock.dg_at])
    (le_of_eq N_0) t0_7 rfl, zero_add, coe_sum]
  refine congrArg (fun r : ℝ => (r : EReal)) ?_
  refine Fin.sum_mul_add_congr fun s k hl => ?_
  rw [ct_eq]
  rfl

end Cert.NormKernel

end
-- ==== Proof.NormRef.lean ====
/-
The reference of the pre-norm's gradient on arrays of reals: its two results.
-/
module

public import proofs.«01_k».proof.Proof.RmsGrad
public import proofs.«01_k».proof.Proof.Gen.ReferenceIdeal.Read

@[expose] public section

set_option maxRecDepth 16384

noncomputable section

namespace Cert.NormRef

open Cert.RealLift Cert.RmsGrad Idealize.ShloMosaic
open Cert.ReferenceIdeal (S4096x1024 S1024 S4x4096x1024 S1x1024)
open Cert.ReferenceIdeal.Read

variable (x : S4096x1024.Idx → ℝ) (g : S1024.Idx → ℝ) (dy : S4x4096x1024.Idx → ℝ)

/-- The cotangent: the four parts added. -/
def ct (r : Fin 4096) (k : Fin 1024) : ℝ := ∑ p : Fin 4, dy (ix3 p r k)

/-- A row of the activations. -/
abbrev row (r : Fin 4096) (k : Fin 1024) : ℝ := x (ix2 r k)

/-- The scale. -/
abbrev sc (k : Fin 1024) : ℝ := g (ix1 k)

theorem ct_at (r : Fin 4096) (k : Fin 1024) : val_main_v1 (F := Ideal) (up dy) (ix2 r k) = ((ct dy r k : ℝ) : EReal) := by
  pointwise [val_main_v1, val_main_v0, val_main_cst]
  simp only [up_apply, coe_sum, ct]

theorem ms_at (r : Fin 4096) (u : Fin 1) : val_main_v8 (F := Ideal) (up x) (ix2 r u) = ((ms (row x r) : ℝ) : EReal) := by
  pointwise [val_main_v8, val_main_v7, val_main_v6, val_main_v5, val_main_v4, val_main_v3, val_main_v2, val_main_cst_0, val_main_cst_1, val_main_cst_2]
  simp only [up_apply, ← EReal.coe_mul, coe_sum, div_1024, lit_eps, ← EReal.coe_add]
  simp only [ms, row, Nat.cast_ofNat]

theorem rstd_at (r : Fin 4096) (u : Fin 1) : val_main_v9 (F := Ideal) (up x) (ix2 r u) = ((rstd (row x r) : ℝ) : EReal) := by
  pointwise [val_main_v9]
  rw [ms_at, rsqrt_real (ms_pos _), rstd]

theorem cube_at (r : Fin 4096) (u : Fin 1) :
    val_main_v12 (F := Ideal) (up x) (ix2 r u) = ((-(1 / 2) * (rstd (row x r) / ms (row x r)) : ℝ) : EReal) := by
  pointwise [val_main_v12, val_main_v11, val_main_v10, val_main_cst_3]
  rw [ms_at, rstd_at, div_real (ms_pos _).ne', lit_neg_half, ← EReal.coe_mul]

theorem u_at (r : Fin 4096) (k : Fin 1024) :
    val_main_v22 (F := Ideal) (up g) (up dy) (ix2 r k) = ((ct dy r k * sc g k : ℝ) : EReal) := by
  pointwise [val_main_v22, val_main_v21, val_main_v15]
  rw [ct_at]
  rw [up_apply, ← EReal.coe_mul]

theorem dot_at (r : Fin 4096) (u : Fin 1) :
    val_main_v26 (F := Ideal) (up x) (up g) (up dy) (ix2 r u) = ((∑ l, row x r l * (ct dy r l * sc g l) : ℝ) : EReal) := by
  pointwise [val_main_v26, val_main_v25, val_main_v24, val_main_cst_6]
  simp only [u_at, up_apply, ← EReal.coe_mul, coe_sum]

theorem dx_at (d : FVec Ideal S4096x1024 .f32) (r : Fin 4096) (k : Fin 1024) :
    val_main_v38 (F := Ideal) (up x) (up g) (up dy) d (ix2 r k)
      = d (ix2 r k) + ((rmsDx (row x r) (sc g) (ct dy r) k : ℝ) : EReal) := by
  rw [← rmsDx_eq]
  pointwise [val_main_v38, val_main_v37, val_main_v36, val_main_v35, val_main_v34, val_main_v33, val_main_v32, val_main_v31,
    val_main_v30, val_main_v29, val_main_v28, val_main_v27, val_main_cst_7, val_main_cst_8]
  simp only [u_at, dot_at, cube_at, rstd_at]
  simp only [up_apply, ← EReal.coe_mul, coe_sum, div_1024, ← EReal.coe_add, Finset.univ_unique, Finset.sum_singleton, Nat.cast_ofNat]

theorem dg_at (u : Fin 1) (k : Fin 1024) :
    val_main_v39 (F := Ideal) (up x) (up dy) (ix2 u k)
      = ((∑ r, x (ix2 r k) * rstd (row x r) * ct dy r k : ℝ) : EReal) := by
  pointwise [val_main_v39, val_main_v23, val_main_v20, val_main_v19, val_main_v18, val_main_v14, val_main_v13, val_main_cst_4, val_main_cst_5]
  simp only [rstd_at, ct_at]
  simp only [up_apply, ← EReal.coe_mul, coe_sum, Finset.univ_unique, Finset.sum_singleton]

end Cert.NormRef

end
-- ==== Proof.Norm.lean ====
/-
The pre-norm's gradient: kernel and reference end with the same two arrays.
-/
module

public import proofs.«01_k».proof.Defs
public import proofs.«01_k».proof.Proof.NormKernel
public import proofs.«01_k».proof.Proof.NormRef
public import proofs.«01_k».proof.Proof.Gen.Pre_finite_norm
public import Idealize.ShloMosaic.Lib.Claim

@[expose] public section

set_option maxRecDepth 16384

noncomputable section

namespace Cert.Norm

open Cert.RealLift Cert.RmsGrad Idealize.ShloMosaic Idealize.SL.Sem

/-- The precondition: the arguments are arrays of reals. -/
theorem args_of_pre (m : (ℓ : Loc Cert.KernelIdeal.nD Cert.KernelIdeal.τ Cert.KernelIdeal.sig) → Buf (Elt Ideal) ℓ)
    (h : Cert.Pre_KernelIdeal_finite_norm m) (c : Dev Cert.KernelIdeal.nD) : ∃ x g dy d, NormKernel.Args m x g dy d c := by
  have hc := congrFun (h c) (fun a => a.elim0)
  have hc' : IntOp.andi (IntOp.andi _ _) _ = 1#1 := hc
  obtain ⟨h12, h3⟩ := IntOp.andi_eq_one.1 hc'
  obtain ⟨h1, h2⟩ := IntOp.andi_eq_one.1 h12
  haveI : Subsingleton Cert.Pre_finite_norm.S_.Idx := ⟨fun a b => funext fun k => k.elim0⟩
  obtain ⟨x, hx⟩ := exists_up _ _ _ _ _ _ h1
  obtain ⟨g, hg⟩ := exists_up _ _ _ _ _ _ h2
  obtain ⟨dy, hdy⟩ := exists_up _ _ _ _ _ _ h3
  exact ⟨x, g, dy, _, hx, hg, hdy, rfl⟩

theorem algebraic : Cert.algebraic_KernelIdeal_ReferenceIdeal_pre_finite_norm := by
  pair_intro
  · run_from Cert.KernelIdeal.Gen.run_main m g
  · run_from Cert.ReferenceIdeal.Value.run m' g'
    · obtain ⟨x, s, dy, d, h⟩ := args_of_pre m hpre c
      obtain ⟨h0, h1, h2, h3⟩ := hagree c
      rw [ReferenceIdeal.Read.val_main_v38_eq, h0, h1, h2, h3, h.x, h.g, h.dy, h.d, NormKernel.final4 h]
      funext j
      idx_vars j
      exact NormRef.dx_at x s dy d j0 j1
    · obtain ⟨x, s, dy, d, h⟩ := args_of_pre m hpre c
      rw [ReferenceIdeal.Read.val_main_v39_eq, h.x, h.dy, NormKernel.final5 h]
      funext j
      idx_vars j
      exact NormRef.dg_at x dy j0 j1

/-- The reference's frame: host operations, which leave the arguments alone, and no semaphore at all. -/
theorem frame_ref : Cert.quiescent_ReferenceIdeal := fun m ρ _ =>
  (θ_run Cert.ReferenceIdeal.defs _ _).mono (fun r h => And.intro (fun c => (h c).2.2) (sem_eq_zero_of_no_sems (by decide) r.2))
    (Cert.ReferenceIdeal.Value.run m ρ)

end Cert.Norm

end
-- ==== Proof.InverseGrad.lean ====
/-
The inverse of a unit lower triangular matrix by repeated squaring, and its derivative taken back through the squarings.
-/
module

public import Mathlib.LinearAlgebra.Matrix.Trace
public import Mathlib.LinearAlgebra.Matrix.NonsingularInverse
public import Mathlib.Data.Real.Basic
public import Mathlib.Data.Matrix.Basis
public import Mathlib.Tactic.NoncommRing

@[expose] public section

noncomputable section

namespace Cert.InverseGrad

open Matrix

variable {n : ℕ}

/-- Square matrices of reals. -/
abbrev Mat (n : ℕ) : Type := Matrix (Fin n) (Fin n) ℝ

/-- The entries of `A` less than `b` below the diagonal vanish. -/
def Below (b : ℕ) (A : Mat n) : Prop := ∀ i j : Fin n, i.val < j.val + b → A i j = 0

theorem Below.mul {a b : ℕ} {A B : Mat n} (hA : Below a A) (hB : Below b B) : Below (a + b) (A * B) := by
  intro i j h
  rw [Matrix.mul_apply]
  refine Finset.sum_eq_zero fun k _ => ?_
  rcases Nat.lt_or_ge i.val (k.val + a) with h1 | h1
  · rw [hA i k h1, zero_mul]
  · rw [hB k j (by omega), mul_zero]

theorem Below.add {a : ℕ} {A B : Mat n} (hA : Below a A) (hB : Below a B) : Below a (A + B) := fun i j h => by
  rw [Matrix.add_apply, hA i j h, hB i j h, add_zero]

theorem Below.eq_zero {A : Mat n} (hA : Below n A) : A = 0 := by
  ext i j
  exact hA i j (by have := i.isLt; omega)

/-- `A` to the power `2 ^ i`. -/
def pow2 (A : Mat n) : ℕ → Mat n
  | 0 => A
  | i + 1 => pow2 A i * pow2 A i

/-- The product of the `1 + A ^ (2 ^ l)`, `l ≤ i`. -/
def geom (A : Mat n) : ℕ → Mat n
  | 0 => 1 + A
  | i + 1 => geom A i + geom A i * pow2 A (i + 1)

/-- The directional derivative of `pow2` along `d`. -/
def dpow2 (A d : Mat n) : ℕ → Mat n
  | 0 => d
  | i + 1 => dpow2 A d i * pow2 A i + pow2 A i * dpow2 A d i

/-- The directional derivative of `geom` along `d`. -/
def dgeom (A d : Mat n) : ℕ → Mat n
  | 0 => d
  | i + 1 => dgeom A d i + dgeom A d i * pow2 A (i + 1) + geom A i * dpow2 A d (i + 1)

/-- The cotangents of `pow2 A i` and of `geom A i` taken back to one of `A`. -/
def back (A : Mat n) : ℕ → Mat n → Mat n → Mat n
  | 0, p, t => t + p
  | i + 1, p, t => back A i ((pow2 A i)ᵀ * (p + (geom A i)ᵀ * t) + (p + (geom A i)ᵀ * t) * (pow2 A i)ᵀ) (t + t * (pow2 A (i + 1))ᵀ)

theorem below_pow2 {A : Mat n} (hA : Below 1 A) : ∀ i, Below (2 ^ i) (pow2 A i)
  | 0 => hA
  | i + 1 => by
      have h := (below_pow2 hA i).mul (below_pow2 hA i)
      rwa [← two_mul, ← pow_succ'] at h

theorem below_dpow2 {A d : Mat n} (hA : Below 1 A) (hd : Below 1 d) : ∀ i, Below (2 ^ i) (dpow2 A d i)
  | 0 => hd
  | i + 1 => by
      have h := ((below_dpow2 hA hd i).mul (below_pow2 hA i)).add ((below_pow2 hA i).mul (below_dpow2 hA hd i))
      rwa [← two_mul, ← pow_succ'] at h

theorem one_sub_mul_geom (A : Mat n) : ∀ i, (1 - A) * geom A i = 1 - pow2 A (i + 1)
  | 0 => by simp only [geom, pow2]; noncomm_ring
  | i + 1 => by
      have h := one_sub_mul_geom A i
      rw [geom, mul_add, ← mul_assoc, h]
      conv_rhs => rw [pow2]
      noncomm_ring

theorem one_sub_mul_dgeom (A d : Mat n) : ∀ i, (1 - A) * dgeom A d i = d * geom A i - dpow2 A d (i + 1)
  | 0 => by simp only [dgeom, geom, dpow2, pow2]; noncomm_ring
  | i + 1 => by
      have h := one_sub_mul_dgeom A d i
      have hg := one_sub_mul_geom A i
      rw [dgeom, mul_add, mul_add, ← mul_assoc, ← mul_assoc, h, hg, geom]
      conv_rhs => rw [dpow2]
      noncomm_ring

/-- The pairing of two matrices. -/
def pair (X Y : Mat n) : ℝ := (Xᵀ * Y).trace

theorem pair_add_left (X Y Z : Mat n) : pair (X + Y) Z = pair X Z + pair Y Z := by
  simp only [pair, transpose_add, add_mul, trace_add]

theorem pair_add_right (X Y Z : Mat n) : pair X (Y + Z) = pair X Y + pair X Z := by
  simp only [pair, mul_add, trace_add]

theorem pair_mul_left (X Y Z : Mat n) : pair (Xᵀ * Y) Z = pair Y (X * Z) := by
  simp only [pair, transpose_mul, transpose_transpose, mul_assoc]

theorem pair_mul_right (X Y Z : Mat n) : pair (Y * Xᵀ) Z = pair Y (Z * X) := by
  simp only [pair, transpose_mul, transpose_transpose]
  rw [mul_assoc, trace_mul_comm, mul_assoc]

theorem pair_back (A d : Mat n) : ∀ i p t, pair (back A i p t) d = pair p (dpow2 A d i) + pair t (dgeom A d i)
  | 0, p, t => by rw [back, pair_add_left, add_comm]; rfl
  | i + 1, p, t => by
      rw [back, pair_back A d i]
      simp only [dpow2, dgeom, pair_add_left, pair_add_right, pair_mul_left, pair_mul_right, mul_add]
      ring

theorem pair_single (X : Mat n) (i j : Fin n) : pair X (Matrix.single i j 1) = X i j := by
  rw [pair, Matrix.trace_mul_single]
  simp

/-- With `A` strictly lower triangular and `2 ^ (k + 1)` at least its size, `geom A k` is the inverse of `1 - A`, so the
cotangent `g` of it gives `A` the cotangent of the inverse on the entries `A` has. -/
theorem back_apply {A : Mat n} (hA : Below 1 A) (k : ℕ) (hk : n ≤ 2 ^ (k + 1)) (g : Mat n) (i j : Fin n) (h : j.val < i.val) :
    back A k 0 g i j = ((geom A k)ᵀ * g * (geom A k)ᵀ) i j := by
  have hz : ∀ X : Mat n, Below (2 ^ (k + 1)) X → X = 0 := fun X hX =>
    Below.eq_zero fun a b hab => hX a b (by omega)
  have hd : Below 1 (Matrix.single i j (1 : ℝ)) := by
    intro a b hab
    rw [Matrix.single_apply, if_neg]
    rintro ⟨rfl, rfl⟩
    omega
  have h1 : (1 - A) * geom A k = 1 := by
    rw [one_sub_mul_geom, hz _ (below_pow2 hA _), sub_zero]
  have h2 : geom A k * (1 - A) = 1 := mul_eq_one_comm.1 h1
  have h3 : dgeom A (Matrix.single i j 1) k = geom A k * Matrix.single i j 1 * geom A k := by
    have h4 := one_sub_mul_dgeom A (Matrix.single i j 1) k
    rw [hz _ (below_dpow2 hA hd _), sub_zero] at h4
    calc dgeom A (Matrix.single i j 1) k = geom A k * ((1 - A) * dgeom A (Matrix.single i j 1) k) := by
          rw [← mul_assoc, h2, one_mul]
      _ = _ := by rw [h4, mul_assoc]
  have h5 := pair_back A (Matrix.single i j 1) k 0 g
  rw [pair_single, h3] at h5
  have h6 := pair_single ((geom A k)ᵀ * g * (geom A k)ᵀ) i j
  rw [pair_mul_right, pair_mul_left] at h6
  rw [h5, ← h6]
  simp only [pair, transpose_zero, zero_mul, trace_zero, zero_add, mul_assoc]

end Cert.InverseGrad

end
-- ==== Proof.DeltaSpec.lean ====
/-
A chunk of the gated delta rule over the reals: the arrays its forward lines make and the derivative
of those lines, written out.

A chunk is 64 positions of one head. Its keys, values, queries and gates give a strictly lower
triangular matrix `L`; the inverse of `1 + L` solves the chunk. The derivative of the inverse is the
one `InverseGrad` has; everything else is sums and products.
-/
module

public import proofs.«01_k».proof.Proof.InverseGrad
public import Mathlib.Analysis.SpecialFunctions.Log.Basic

@[expose] public section

noncomputable section

namespace Cert.DeltaSpec

open Cert.InverseGrad Matrix

/-- One chunk: scaled queries, keys, values, the write strength and the log decay of each position. -/
structure Chunk where
  q : Fin 64 → Fin 128 → ℝ
  k : Fin 64 → Fin 128 → ℝ
  v : Fin 64 → Fin 128 → ℝ
  β : Fin 64 → ℝ
  γ : Fin 64 → ℝ

/-- The cotangents of a chunk's six arrays. -/
structure Cot where
  du : Fin 64 → Fin 128 → ℝ
  dw : Fin 64 → Fin 128 → ℝ
  dq : Fin 64 → Fin 128 → ℝ
  dk : Fin 64 → Fin 128 → ℝ
  da : Fin 64 → Fin 64 → ℝ
  dl : ℝ

variable (c : Chunk) (e : Cot)

/-- The log decay from the chunk's start. -/
def G (i : Fin 64) : ℝ := ∑ j, if j ≤ i then c.γ j else 0

/-- The decay from position `j` to position `i`. -/
def dec (i j : Fin 64) : ℝ := if j ≤ i then Real.exp (G c i - G c j) else 0

/-- The keys by their write strength. -/
def kb (i : Fin 64) (d : Fin 128) : ℝ := c.k i d * c.β i

def vb (i : Fin 64) (d : Fin 128) : ℝ := c.v i d * c.β i

def kbe (i : Fin 64) (d : Fin 128) : ℝ := kb c i d * Real.exp (G c i)

def a1 (i j : Fin 64) : ℝ := ∑ d, kb c i d * c.k j d

def qk (i j : Fin 64) : ℝ := ∑ d, c.q i d * c.k j d

/-- The strictly lower triangular matrix of the chunk. -/
def L : Mat 64 := Matrix.of fun i j => if j < i then a1 c i j * dec c i j else 0

/-- The inverse of `1 + L`. -/
def T : Mat 64 := geom (-L c) 5

/-- The decay from a position to the chunk's end. -/
def tail (i : Fin 64) : ℝ := Real.exp (G c 63 - G c i)

def dqk (i j : Fin 64) : ℝ := e.da i j * dec c i j

def dvb (i : Fin 64) (d : Fin 128) : ℝ := ∑ a, T c a i * e.du a d

def dkbe (i : Fin 64) (d : Fin 128) : ℝ := ∑ a, T c a i * e.dw a d

/-- The cotangent of the inverse. -/
def dT : Mat 64 := Matrix.of fun i j => ∑ d, e.dw i d * kbe c j d + ∑ d, e.du i d * vb c j d

/-- The cotangent of `L`. -/
def dL (i j : Fin 64) : ℝ := if j < i then -((T c)ᵀ * dT c e * (T c)ᵀ) i j else 0

def dLd (i j : Fin 64) : ℝ := dL c e i j * dec c i j

/-- The cotangent of the scaled queries. -/
def gq (i : Fin 64) (d : Fin 128) : ℝ := e.dq i d * Real.exp (G c i) + ∑ j, dqk c e i j * c.k j d

/-- The cotangent of the keys by their write strength. -/
def dkb (i : Fin 64) (d : Fin 128) : ℝ := dkbe c e i d * Real.exp (G c i) + ∑ j, dLd c e i j * c.k j d

/-- The cotangent of the keys. -/
def gk (i : Fin 64) (d : Fin 128) : ℝ :=
  e.dk i d * tail c i + ∑ a, dqk c e a i * c.q a d + ∑ a, dLd c e a i * kb c a d + dkb c e i d * c.β i

/-- The cotangent of the values. -/
def gv (i : Fin 64) (d : Fin 128) : ℝ := dvb c e i d * c.β i

/-- The cotangent of the write strengths. -/
def gβ (i : Fin 64) : ℝ := ∑ d, c.v i d * dvb c e i d + ∑ d, c.k i d * dkb c e i d

/-- What the decay to the chunk's end sends to a position. -/
def tcol (i : Fin 64) : ℝ := (∑ d, c.k i d * e.dk i d) * tail c i

/-- What the decay over the whole chunk is sent. -/
def dend : ℝ := e.dl * Real.exp (G c 63) + ∑ i, tcol c e i

/-- The cotangent of the differences of the log decays. -/
def dd (i j : Fin 64) : ℝ := (qk c i j * e.da i j + a1 c i j * dL c e i j) * dec c i j

/-- The cotangent of the log decay from the chunk's start, without `dend`. -/
def dG (i : Fin 64) : ℝ :=
  -tcol c e i + (∑ d, c.q i d * e.dq i d) * Real.exp (G c i) + (∑ d, kb c i d * dkbe c e i d) * Real.exp (G c i)
    - ∑ a, dd c e a i + ∑ j, dd c e i j

/-- The cotangent of the log decays. -/
def gγ (i : Fin 64) : ℝ := (∑ j, if i ≤ j then dG c e j else 0) + dend c e

theorem dec_of_le {i j : Fin 64} (h : j ≤ i) : dec c i j = Real.exp (G c i - G c j) := if_pos h

theorem dec_of_lt {i j : Fin 64} (h : i < j) : dec c i j = 0 := if_neg (not_le.2 h)

theorem dL_of_le {i j : Fin 64} (h : i ≤ j) : dL c e i j = 0 := if_neg (not_lt.2 h)

theorem below_L : Below 1 (-L c) := by
  intro i j h
  have : ¬ j < i := by
    intro h'
    have := Fin.lt_def.1 h'
    omega
  simp [L, this]

/-- The log decay falls along the chunk. -/
theorem G_mono (h : ∀ j, c.γ j ≤ 0) {i j : Fin 64} (hij : j ≤ i) : G c i ≤ G c j := by
  refine Finset.sum_le_sum fun l _ => ?_
  by_cases h1 : l ≤ j
  · rw [if_pos h1, if_pos (h1.trans hij)]
  · rw [if_neg h1]
    split
    · exact h l
    · exact le_rfl

/-- With `dend` added to the last entry the sums from each position on take it up. -/
theorem gγ_eq (i : Fin 64) :
    (∑ j, if i ≤ j then dG c e j + (if j = 63 then dend c e else 0) else 0) = gγ c e i := by
  have h : ∀ j : Fin 64, (if i ≤ j then dG c e j + (if j = 63 then dend c e else 0) else 0)
      = (if i ≤ j then dG c e j else 0) + if j = 63 then dend c e else 0 := by
    intro j
    by_cases h1 : i ≤ j
    · simp [h1]
    · have : j ≠ 63 := by
        rintro rfl
        exact h1 (Fin.le_last i)
      simp [h1, this]
  simp only [h, Finset.sum_add_distrib, Finset.sum_ite_eq', Finset.mem_univ, if_true, gγ]

/-- The logistic function. -/
def sig (x : ℝ) : ℝ := 1 / (1 + Real.exp (-x))

/-- `log (1 + exp x)` as the programs compute it. -/
def softplus (x : ℝ) : ℝ := max x 0 + Real.log (1 + Real.exp (-|x|))

theorem softplus_eq (x : ℝ) : softplus x = Real.log (1 + Real.exp x) := by
  rw [softplus]
  rcases le_total x 0 with h | h
  · rw [max_eq_right h, abs_of_nonpos h, neg_neg, zero_add]
  · have h1 : 1 + Real.exp x = Real.exp x * (1 + Real.exp (-x)) := by
      rw [mul_add, mul_one, ← Real.exp_add, add_neg_cancel, Real.exp_zero, add_comm]
    rw [max_eq_left h, abs_of_nonneg h, h1, Real.log_mul (Real.exp_ne_zero x) (by positivity), Real.log_exp]

theorem softplus_nonneg (x : ℝ) : 0 ≤ softplus x := by
  rw [softplus_eq]
  exact Real.log_nonneg (by have := Real.exp_pos x; linarith)

/-- The derivative of `softplus` as the reference writes it. -/
theorem exp_sub_softplus (x : ℝ) : Real.exp (x - softplus x) = sig x := by
  rw [softplus_eq, Real.exp_sub, Real.exp_log (by positivity), sig, Real.exp_neg]
  have := (Real.exp_pos x).ne'
  field_simp
  ring

end Cert.DeltaSpec

end
-- ==== Proof.LocalData.lean ====
/-
The arrays of the gated delta rule's local part as arrays of reals, cut into chunks.
-/
module

public import proofs.«01_k».proof.Proof.RealLift
public import proofs.«01_k».proof.Proof.DeltaSpec

@[expose] public section

noncomputable section

namespace Cert.LocalData

open Cert.RealLift Cert.DeltaSpec Idealize.ShloMosaic

/-- The scale of the queries: the number the literal of `128 ^ (-1/2)` denotes. -/
def scale : ℝ := (8388608 + 3474675) * (2 : ℝ) ^ (-27 : ℤ)

theorem lit_scale : Ideal.ofBits .f32 0x3DB504F3#32 = ((scale : ℝ) : EReal) := by
  simp [Ideal.ofBits, Ideal.ieee, scale, ← EReal.coe_mul]; norm_num

theorem lit_one : Ideal.ofBits .f32 0x3F800000#32 = ((1 : ℝ) : EReal) := by
  simp [Ideal.ofBits, Ideal.ieee, ← EReal.coe_mul]; norm_num

theorem lit_zero : Ideal.ofBits .f32 0x00000000#32 = ((0 : ℝ) : EReal) := by
  simp [Ideal.ofBits, Ideal.ieee]

theorem lit_neg_inf : Ideal.ofBits .f32 0xFF800000#32 = ⊥ := by
  simp [Ideal.ofBits, Ideal.ieee]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem abs_real (a : ℝ) : max (a : EReal) (-(a : EReal)) = ((|a| : ℝ) : EReal) := by
  rw [← EReal.coe_neg, coe_max]; rfl

theorem coe_ite (p : Prop) [Decidable p] (a b : ℝ) : (if p then (a : EReal) else (b : EReal)) = ((if p then a else b : ℝ) : EReal) := by
  split <;> rfl

/-- Position `i` of chunk `n`. -/
def pos (n i : Fin 64) : Fin 4096 := ⟨n.val * 64 + i.val, by omega⟩

/-- Channel `d` of head `h`, in the queries, the keys and the values. -/
def chan (h : Fin 8) (d : Fin 128) : Fin 1024 := ⟨h.val * 128 + d.val, by omega⟩

/-- The queries, keys and values side by side. -/
abbrev Qkv : Type := (⟨2, ![4096, 3072]⟩ : Shape).Idx → ℝ

/-- The gates' inputs: the write strengths' and then the decays', per head. -/
abbrev Ba : Type := (⟨2, ![4096, 16]⟩ : Shape).Idx → ℝ

abbrev Heads : Type := (⟨1, ![8]⟩ : Shape).Idx → ℝ

abbrev Wide : Type := (⟨2, ![4096, 1024]⟩ : Shape).Idx → ℝ

abbrev Attn : Type := (⟨3, ![8, 4096, 64]⟩ : Shape).Idx → ℝ

abbrev Ends : Type := (⟨2, ![8, 64]⟩ : Shape).Idx → ℝ

variable (x0 : Qkv) (x1 : Ba) (x2 x3 : Heads) (x4 x5 x6 x7 : Wide) (x8 : Attn) (x9 : Ends)

/-- The write strength's gate. -/
def bet (r : Fin 4096) (h : Fin 8) : ℝ := sig (x1 (ix2 r (⟨h.val, by omega⟩ : Fin 16)))

/-- What the decay's gate is taken of. -/
def xa (r : Fin 4096) (h : Fin 8) : ℝ := x1 (ix2 r (⟨8 + h.val, by omega⟩ : Fin 16)) + x3 (ix1 h)

/-- The log decay of a position. -/
def gam (r : Fin 4096) (h : Fin 8) : ℝ := -Real.exp (x2 (ix1 h)) * softplus (xa x1 x3 r h)

theorem gam_nonpos (r : Fin 4096) (h : Fin 8) : gam x1 x2 x3 r h ≤ 0 := by
  have h1 := Real.exp_pos (x2 (ix1 h))
  have h2 := softplus_nonneg (xa x1 x3 r h)
  rw [gam]
  nlinarith

/-- Chunk `n` of head `h`. -/
def ch (h : Fin 8) (n : Fin 64) : Chunk where
  q i d := x0 (ix2 (pos n i) (⟨h.val * 128 + d.val, by omega⟩ : Fin 3072)) * scale
  k i d := x0 (ix2 (pos n i) (⟨1024 + (h.val * 128 + d.val), by omega⟩ : Fin 3072))
  v i d := x0 (ix2 (pos n i) (⟨2048 + (h.val * 128 + d.val), by omega⟩ : Fin 3072))
  β i := bet x1 (pos n i) h
  γ i := gam x1 x2 x3 (pos n i) h

/-- The cotangents of chunk `n` of head `h`. -/
def ct (h : Fin 8) (n : Fin 64) : Cot where
  du i d := x4 (ix2 (pos n i) (chan h d))
  dw i d := x5 (ix2 (pos n i) (chan h d))
  dq i d := x6 (ix2 (pos n i) (chan h d))
  dk i d := x7 (ix2 (pos n i) (chan h d))
  da i j := x8 (ix3 h (pos n i) j)
  dl := x9 (ix2 h n)

/-- The chunk a position is in, and its place there. -/
def chunkOf (r : Fin 4096) : Fin 64 := ⟨r.val / 64, by omega⟩

def rowOf (r : Fin 4096) : Fin 64 := ⟨r.val % 64, by omega⟩

/-- The head a channel belongs to, and its place there. -/
def headOf (c : Fin 1024) : Fin 8 := ⟨c.val / 128, by omega⟩

def dimOf (c : Fin 1024) : Fin 128 := ⟨c.val % 128, by omega⟩

/-- The cotangent of a position's log decay. -/
def dgam (r : Fin 4096) (h : Fin 8) : ℝ :=
  gγ (ch x0 x1 x2 x3 h (chunkOf r)) (ct x4 x5 x6 x7 x8 x9 h (chunkOf r)) (rowOf r)

/-- The cotangent of what the decay's gate is taken of. -/
def dxa (r : Fin 4096) (h : Fin 8) : ℝ :=
  -Real.exp (x2 (ix1 h)) * dgam x0 x1 x2 x3 x4 x5 x6 x7 x8 x9 r h * sig (xa x1 x3 r h)

/-- The cotangent of the write strength's gate's input. -/
def db (r : Fin 4096) (h : Fin 8) : ℝ :=
  gβ (ch x0 x1 x2 x3 h (chunkOf r)) (ct x4 x5 x6 x7 x8 x9 h (chunkOf r)) (rowOf r) * (bet x1 r h * (1 - bet x1 r h))

/-- The cotangent of the gates' inputs. -/
def dba (r : Fin 4096) (c : Fin 16) : ℝ :=
  if hc : c.val < 8 then db x0 x1 x2 x3 x4 x5 x6 x7 x8 x9 r ⟨c.val, hc⟩ else dxa x0 x1 x2 x3 x4 x5 x6 x7 x8 x9 r ⟨c.val - 8, by omega⟩

def dal (h : Fin 8) : ℝ :=
  -(∑ r, dgam x0 x1 x2 x3 x4 x5 x6 x7 x8 x9 r h * softplus (xa x1 x3 r h)) * Real.exp (x2 (ix1 h))

def ddt (h : Fin 8) : ℝ := ∑ r, dxa x0 x1 x2 x3 x4 x5 x6 x7 x8 x9 r h

end Cert.LocalData

end
-- ==== Proof.WindowSum.lean ====
/-
The running sums of the reference: a window sum over the last axis of 64, padded on one side.
-/
module

public import Idealize.ShloMosaic.PureOps
public import Idealize.ShloMosaic.PureOps.Ideal.Laws
public import Idealize.ShloMosaic.Lib.Pointwise
public import Mathlib.Data.EReal.Operations

@[expose] public section

noncomputable section

namespace Cert.WindowSum

open Idealize.ShloMosaic

/-- Stacks of 8 times 64 rows of 64. -/
abbrev Rows : Shape := ⟨3, ![8, 64, 64]⟩

theorem foldl_add {ι M : Type*} [AddCommMonoid M] (l : List ι) (g : ι → M) (a : M) :
    l.foldl (fun r n => r + g n) a = a + (l.map g).sum := by
  induction l generalizing a with
  | nil => simp
  | cons b l ih => rw [List.foldl_cons, ih, List.map_cons, List.sum_cons, add_assoc]

/-- A window of 1 × 1 × 64 read along its last axis. -/
def lastAxis : Fin 64 ≃ (⟨3, ![1, 1, 64]⟩ : Shape).Idx where
  toFun w := ix3 (0 : Fin 1) (0 : Fin 1) w
  invFun y := y 2
  left_inv w := rfl
  right_inv y := by
    funext a
    fin_cases a
    · exact (Subsingleton.elim (α := Fin 1) _ _)
    · exact (Subsingleton.elim (α := Fin 1) _ _)
    · rfl

/-- The window sum at an element: the entries the window meets. -/
theorem windowAdd_apply (lo hi : ℕ) (x : FVec Ideal Rows .f32) (z : (⟨0, ![]⟩ : Shape).Idx → Ideal .f32)
    (h : Rows.ReduceWindows ![1, 1, 64] ![1, 1, 1] ![0, 0, lo] ![0, 0, hi] Rows) (hu : 0 < (⟨0, ![]⟩ : Shape).numel)
    (hz : z (Shape.Idx.first hu) = (0 : EReal)) (a : Fin 8) (b i : Fin 64) :
    (Host.reduceWindowAdd ![1, 1, 64] ![1, 1, 1] ![0, 0, lo] ![0, 0, hi] x z h hu : FVec Ideal Rows .f32) (ix3 a b i)
      = ∑ w : Fin 64, if hin : lo ≤ i.val + w.val ∧ i.val + w.val - lo < 64 then (x (ix3 a b ⟨i.val + w.val - lo, hin.2⟩) : EReal) else 0 := by
  simp only [Host.reduceWindowAdd, Ideal.hostReduceWindowAdd_def, Ideal.hostReduceWindowAdd, Host.reduceWindow]
  rw [foldl_add, hz, zero_add, ← List.ofFn_eq_map, List.sum_ofFn,
    ← Equiv.sum_comp (lastAxis.trans (⟨3, ![1, 1, 64]⟩ : Shape).rowMajor)]
  refine Finset.sum_congr rfl fun w _ => ?_
  simp only [Equiv.trans_apply, Equiv.symm_apply_apply]
  have hiff : (∀ t : Fin Rows.rank, (![0, 0, lo] : Fin 3 → ℕ) t ≤ ((ix3 a b i : Rows.Idx) (t.cast h.1.symm)).val * (![1, 1, 1] : Fin 3 → ℕ) t + (lastAxis w t).val
      ∧ ((ix3 a b i : Rows.Idx) (t.cast h.1.symm)).val * (![1, 1, 1] : Fin 3 → ℕ) t + (lastAxis w t).val - (![0, 0, lo] : Fin 3 → ℕ) t < Rows.size t)
      ↔ (lo ≤ i.val + w.val ∧ i.val + w.val - lo < 64) := by
    constructor
    · intro H
      have := H (2 : Fin 3)
      have h1 : lo ≤ i.val * 1 + w.val ∧ i.val * 1 + w.val - lo < 64 := this
      rwa [mul_one] at h1
    · intro H t
      have ha := a.isLt
      have hb := b.isLt
      fin_cases t
      · show 0 ≤ a.val * 1 + 0 ∧ a.val * 1 + 0 - 0 < 8
        omega
      · show 0 ≤ b.val * 1 + 0 ∧ b.val * 1 + 0 - 0 < 64
        omega
      · show lo ≤ i.val * 1 + w.val ∧ i.val * 1 + w.val - lo < 64
        omega
  by_cases H : lo ≤ i.val + w.val ∧ i.val + w.val - lo < 64
  · rw [dif_pos (hiff.2 H), dif_pos H]
    refine congrArg x (funext fun t => Fin.ext ?_)
    fin_cases t
    · show a.val * 1 + 0 - 0 = a.val
      omega
    · show b.val * 1 + 0 - 0 = b.val
      omega
    · show i.val * 1 + w.val - lo = i.val + w.val - lo
      omega
  · rw [dif_neg (fun H' => H (hiff.1 H')), dif_neg H]

/-- Padded below: the sum of the entries up to this one. -/
theorem cumsum_apply (x : FVec Ideal Rows .f32) (z : (⟨0, ![]⟩ : Shape).Idx → Ideal .f32)
    (h : Rows.ReduceWindows ![1, 1, 64] ![1, 1, 1] ![0, 0, 63] ![0, 0, 0] Rows) (hu : 0 < (⟨0, ![]⟩ : Shape).numel)
    (hz : z (Shape.Idx.first hu) = (0 : EReal)) (a : Fin 8) (b i : Fin 64) :
    (Host.reduceWindowAdd ![1, 1, 64] ![1, 1, 1] ![0, 0, 63] ![0, 0, 0] x z h hu : FVec Ideal Rows .f32) (ix3 a b i)
      = ∑ j : Fin 64, if j ≤ i then (x (ix3 a b j) : EReal) else 0 := by
  rw [windowAdd_apply 63 0 x z h hu hz a b i]
  have h1 : ∀ w : Fin 64, (if hin : 63 ≤ i.val + w.val ∧ i.val + w.val - 63 < 64 then (x (ix3 a b ⟨i.val + w.val - 63, hin.2⟩) : EReal) else 0)
      = if 63 ≤ i.val + w.val then (x (ix3 a b (⟨(i.val + w.val - 63) % 64, Nat.mod_lt _ (by norm_num)⟩ : Fin 64)) : EReal) else 0 := by
    intro w
    by_cases hw : 63 ≤ i.val + w.val
    · rw [dif_pos ⟨hw, by omega⟩, if_pos hw]
      exact congrArg (fun j => (x (ix3 a b j) : EReal)) (Fin.ext (by simp only; omega))
    · rw [dif_neg (fun H => hw H.1), if_neg hw]
  rw [Finset.sum_congr rfl fun w _ => h1 w, ← Finset.sum_filter, ← Finset.sum_filter]
  refine Finset.sum_bij' (fun w _ => (⟨(i.val + w.val - 63) % 64, Nat.mod_lt _ (by norm_num)⟩ : Fin 64))
    (fun j _ => (⟨(j.val + 63 - i.val) % 64, Nat.mod_lt _ (by norm_num)⟩ : Fin 64)) ?_ ?_ ?_ ?_ ?_
  all_goals
    intro w hw
    simp only [Finset.mem_filter, Finset.mem_univ, true_and, Fin.le_def, Fin.ext_iff] at hw ⊢
    try omega

/-- Padded above: the sum of the entries from this one on. -/
theorem cumsumRev_apply (x : FVec Ideal Rows .f32) (z : (⟨0, ![]⟩ : Shape).Idx → Ideal .f32)
    (h : Rows.ReduceWindows ![1, 1, 64] ![1, 1, 1] ![0, 0, 0] ![0, 0, 63] Rows) (hu : 0 < (⟨0, ![]⟩ : Shape).numel)
    (hz : z (Shape.Idx.first hu) = (0 : EReal)) (a : Fin 8) (b i : Fin 64) :
    (Host.reduceWindowAdd ![1, 1, 64] ![1, 1, 1] ![0, 0, 0] ![0, 0, 63] x z h hu : FVec Ideal Rows .f32) (ix3 a b i)
      = ∑ j : Fin 64, if i ≤ j then (x (ix3 a b j) : EReal) else 0 := by
  rw [windowAdd_apply 0 63 x z h hu hz a b i]
  have h1 : ∀ w : Fin 64, (if hin : 0 ≤ i.val + w.val ∧ i.val + w.val - 0 < 64 then (x (ix3 a b ⟨i.val + w.val - 0, hin.2⟩) : EReal) else 0)
      = if i.val + w.val < 64 then (x (ix3 a b (⟨(i.val + w.val) % 64, Nat.mod_lt _ (by norm_num)⟩ : Fin 64)) : EReal) else 0 := by
    intro w
    by_cases hw : i.val + w.val < 64
    · rw [dif_pos ⟨Nat.zero_le _, by omega⟩, if_pos hw]
      exact congrArg (fun j => (x (ix3 a b j) : EReal)) (Fin.ext (by simp only; omega))
    · rw [dif_neg (fun H => hw (by omega)), if_neg hw]
  rw [Finset.sum_congr rfl fun w _ => h1 w, ← Finset.sum_filter, ← Finset.sum_filter]
  refine Finset.sum_bij' (fun w _ => (⟨(i.val + w.val) % 64, Nat.mod_lt _ (by norm_num)⟩ : Fin 64))
    (fun j _ => (⟨(j.val - i.val) % 64, Nat.mod_lt _ (by norm_num)⟩ : Fin 64)) ?_ ?_ ?_ ?_ ?_
  all_goals
    intro w hw
    simp only [Finset.mem_filter, Finset.mem_univ, true_and, Fin.le_def, Fin.ext_iff] at hw ⊢
    try omega

end Cert.WindowSum

end
-- ==== Proof.LocalRef.lean ====
/-
The forward lines of the reference of the delta rule's local part, on arrays of reals.
-/
module

public import proofs.«01_k».proof.Proof.LocalData
public import proofs.«01_k».proof.Proof.WindowSum
public import proofs.«01_k».proof.Proof.Gen.LocalReferenceIdeal.Read

@[expose] public section

set_option maxRecDepth 16384

noncomputable section

namespace Cert.LocalRef

open Cert.RealLift Cert.LocalData Cert.DeltaSpec Cert.InverseGrad Idealize.ShloMosaic
open Cert.LocalReferenceIdeal.Read

variable (x0 : Qkv) (x1 : Ba) (x2 x3 : Heads) (x4 x5 x6 x7 : Wide) (x8 : Attn) (x9 : Ends)

section Cot

variable (h : Fin 8) (n i : Fin 64)

theorem du_at (d : Fin 128) : (val_main_v3 (F := Ideal) (up x4)) (ix4 h n i d) = (((ct x4 x5 x6 x7 x8 x9 h n).du i d : ℝ) : EReal) := by
  pointwise [val_main_v3, val_main_v2, val_main_v1, val_main_v0]
  rfl

theorem dw_at (d : Fin 128) : (val_main_v7 (F := Ideal) (up x5)) (ix4 h n i d) = (((ct x4 x5 x6 x7 x8 x9 h n).dw i d : ℝ) : EReal) := by
  pointwise [val_main_v7, val_main_v6, val_main_v5, val_main_v4]
  rfl

theorem dq_at (d : Fin 128) : (val_main_v10 (F := Ideal) (up x6)) (ix4 h n i d) = (((ct x4 x5 x6 x7 x8 x9 h n).dq i d : ℝ) : EReal) := by
  pointwise [val_main_v10, val_main_v9, val_main_v8]
  rfl

theorem dk_at (d : Fin 128) : (val_main_v13 (F := Ideal) (up x7)) (ix4 h n i d) = (((ct x4 x5 x6 x7 x8 x9 h n).dk i d : ℝ) : EReal) := by
  pointwise [val_main_v13, val_main_v12, val_main_v11]
  rfl

theorem da_at (j : Fin 64) : (val_main_v14 (F := Ideal) (up x8)) (ix4 h n i j) = (((ct x4 x5 x6 x7 x8 x9 h n).da i j : ℝ) : EReal) := by
  pointwise [val_main_v14]
  rfl

end Cot

section Gates

variable (r : Fin 4096) (h : Fin 8)

theorem bet_at : (val_main_v27 (F := Ideal) (up x1)) (ix2 r h) = ((bet x1 r h : ℝ) : EReal) := by
  pointwise [val_main_v27, val_main_v26, val_main_cst_0, val_main_v25, val_main_v24, val_main_cst, val_main_v23, val_main_v22, val_main_v21]
  simp only [up_apply, ← EReal.coe_one, ← EReal.coe_neg, Ideal.exp_coe, ← EReal.coe_add]
  exact div_real (by positivity)

theorem xa_at : (val_main_v36 (F := Ideal) (up x1) (up x3)) (ix2 r h) = ((xa x1 x3 r h : ℝ) : EReal) := by
  pointwise [val_main_v36, val_main_v33, val_main_v35, val_main_v34]
  simp only [up_apply, ← EReal.coe_add]
  rfl

theorem sp_at : (val_main_v37_0 (F := Ideal) (up x1) (up x3)) (ix2 r h) = ((softplus (xa x1 x3 r h) : ℝ) : EReal) := by
  pointwise [val_main_v37_0, val_main_call0_v4, val_main_call0_v3, val_main_call0_v2, val_main_call0_cst, val_main_call0_v6, val_main_call0_v5, val_main_call0_v11, val_main_call0_v1, val_main_call0_v0, val_main_call0_v10, val_main_call0_v9, val_main_call0_v8, val_main_call0_v7]
  rw [xa_at, if_neg (not_not.2 rfl), Ideal.absf_def, abs_real, ← EReal.coe_neg, Ideal.exp_coe, Ideal.log1p,
    ← EReal.coe_one, ← EReal.coe_add, log_real (by positivity), ← EReal.coe_zero, coe_max, ← EReal.coe_add]
  rfl

theorem spd_at : (val_main_v37_1 (F := Ideal) (up x1) (up x3)) (ix2 r h) = ((sig (xa x1 x3 r h) : ℝ) : EReal) := by
  pointwise [val_main_v37_1, val_main_call0_v21, val_main_call0_v16, val_main_call0_v14, val_main_call0_v13, val_main_call0_cst_0, val_main_call0_v15, val_main_call0_cst_1, val_main_call0_v20, val_main_call0_v18, val_main_call0_v17, val_main_call0_cst_2, val_main_call0_v19, val_main_call0_cst_3]
  rw [xa_at, sp_at, lit_inf, if_neg (EReal.coe_ne_top _), if_neg (EReal.coe_ne_top _), ← EReal.coe_sub, Ideal.exp_coe,
    exp_sub_softplus]

theorem gam_at : (val_main_v40 (F := Ideal) (up x1) (up x2) (up x3)) (ix2 r h) = ((gam x1 x2 x3 r h : ℝ) : EReal) := by
  pointwise [val_main_v40, val_main_v39, val_main_v38, val_main_v32, val_main_v31]
  rw [sp_at]
  simp only [up_apply, ← EReal.coe_neg, Ideal.exp_coe, ← EReal.coe_mul]
  rfl

end Gates

variable (h : Fin 8) (n i : Fin 64)

theorem q_at (d : Fin 128) : (val_main_v44 (F := Ideal) (up x0)) (ix4 h n i d) = (((ch x0 x1 x2 x3 h n).q i d : ℝ) : EReal) := by
  pointwise [val_main_v44, val_main_v42, val_main_v41, val_main_v16, val_main_v15, val_main_v43, val_main_cst_2]
  simp only [up_apply, lit_scale, ← EReal.coe_mul]
  rfl

theorem k_at (d : Fin 128) : (val_main_v46 (F := Ideal) (up x0)) (ix4 h n i d) = (((ch x0 x1 x2 x3 h n).k i d : ℝ) : EReal) := by
  pointwise [val_main_v46, val_main_v45, val_main_v18, val_main_v17]
  rfl

theorem v_at (d : Fin 128) : (val_main_v48 (F := Ideal) (up x0)) (ix4 h n i d) = (((ch x0 x1 x2 x3 h n).v i d : ℝ) : EReal) := by
  pointwise [val_main_v48, val_main_v47, val_main_v20, val_main_v19]
  rfl

theorem β_at : (val_main_v50 (F := Ideal) (up x1)) (ix3 h n i) = (((ch x0 x1 x2 x3 h n).β i : ℝ) : EReal) := by
  pointwise [val_main_v50, val_main_v49]
  rw [bet_at]
  rfl

theorem γ_at : (val_main_v52 (F := Ideal) (up x1) (up x2) (up x3)) (ix3 h n i) = (((ch x0 x1 x2 x3 h n).γ i : ℝ) : EReal) := by
  pointwise [val_main_v52, val_main_v51]
  rw [gam_at]
  rfl

theorem G_at : (val_main_v53 (F := Ideal) (up x1) (up x2) (up x3)) (ix3 h n i) = ((G (ch x0 x1 x2 x3 h n) i : ℝ) : EReal) := by
  rw [val_main_v53]
  refine (WindowSum.cumsum_apply _ _ _ _ (by pointwise [val_main_v53, val_main_call1_call0_v0, val_main_call1_call0_cst]) h n i).trans ?_
  simp only [γ_at x0, ← EReal.coe_zero, coe_ite, coe_sum]
  rfl

theorem causal_at (j : Fin 64) : (val_main_v55 (F := Ideal) (ix2 i j) : BitVec 1) = if j ≤ i then 1#1 else 0#1 := by
  pointwise [val_main_v55, val_main_call2_v4, val_main_call2_v2, val_main_call2_v0, val_main_call2_v1, val_main_call2_c, val_main_call2_v3, val_main_v54, val_main_c, val_main_call2_v5, val_main_call2_c_0]
  simp only [Fin.le_def]
  revert i j
  decide +kernel

theorem strict_at (j : Fin 64) : (val_main_v57 (F := Ideal) (ix2 i j) : BitVec 1) = if j < i then 1#1 else 0#1 := by
  pointwise [val_main_v57, val_main_call3_v4, val_main_call3_v2, val_main_call3_v0, val_main_call3_v1, val_main_call3_c, val_main_call3_v3, val_main_v56, val_main_c_3, val_main_call3_v5, val_main_call3_c_0]
  simp only [Fin.lt_def]
  revert i j
  decide +kernel

theorem select_if (p : Prop) [Decidable p] (a b : EReal) : Scalar.select (if p then 1#1 else 0#1) a b = if p then a else b := by
  split <;> rfl

theorem dec_at (j : Fin 64) : (val_main_v64 (F := Ideal) (up x1) (up x2) (up x3)) (ix4 h n i j) = ((dec (ch x0 x1 x2 x3 h n) i j : ℝ) : EReal) := by
  pointwise [val_main_v64, val_main_v63_0, val_main_v63_1, val_main_v62, val_main_v60, val_main_v58, val_main_v61, val_main_v59, val_main_call4_v2, val_main_call4_v0, val_main_cst_4, id]
  rw [causal_at, G_at x0, G_at x0, select_if, dec, ← EReal.coe_sub, lit_neg_inf]
  split
  · rfl
  · exact EReal.coe_zero.symm

theorem kb_at (d : Fin 128) : (val_main_v67 (F := Ideal) (up x0) (up x1)) (ix4 h n i d) = ((kb (ch x0 x1 x2 x3 h n) i d : ℝ) : EReal) := by
  pointwise [val_main_v67, val_main_v66, val_main_v65]
  rw [k_at x0 x1 x2 x3, β_at x0 x1 x2 x3, ← EReal.coe_mul]
  rfl

theorem a1_at (j : Fin 64) : (val_main_v68 (F := Ideal) (up x0) (up x1)) (ix4 h n i j) = ((a1 (ch x0 x1 x2 x3 h n) i j : ℝ) : EReal) := by
  pointwise [val_main_v68]
  simp only [kb_at x0 x1 x2 x3, k_at x0 x1 x2 x3, ← EReal.coe_mul, coe_sum]
  rfl

theorem a1dec_at (j : Fin 64) : (val_main_v69 (F := Ideal) (up x0) (up x1) (up x2) (up x3)) (ix4 h n i j) = ((a1 (ch x0 x1 x2 x3 h n) i j * dec (ch x0 x1 x2 x3 h n) i j : ℝ) : EReal) := by
  pointwise [val_main_v69]
  rw [a1_at x0 x1 x2 x3, dec_at x0 x1 x2 x3, ← EReal.coe_mul]

theorem zero5_at (j : Fin 64) : val_main_call5_v2 (F := Ideal) (ix4 h n i j) = (0 : EReal) := by
  pointwise [val_main_call5_v2, val_main_call5_v0, val_main_cst_5, id]

theorem L_at (j : Fin 64) : (val_main_v70_0 (F := Ideal) (up x0) (up x1) (up x2) (up x3)) (ix4 h n i j) = ((L (ch x0 x1 x2 x3 h n) i j : ℝ) : EReal) := by
  pointwise [val_main_v70_0, val_main_v70_1]
  rw [strict_at, a1dec_at, zero5_at, select_if, ← EReal.coe_zero, coe_ite]
  rfl

theorem A_at (j : Fin 64) : (val_main_v71 (F := Ideal) (up x0) (up x1) (up x2) (up x3)) (ix4 h n i j) = (((-L (ch x0 x1 x2 x3 h n)) i j : ℝ) : EReal) := by
  rw [val_main_v71_apply, L_at x0 x1 x2 x3]
  exact (EReal.coe_neg _).symm

end Cert.LocalRef

end
-- ==== Proof.LocalInverse.lean ====
/-
The matrices of the reference: the inverse by repeated squaring, and its cotangent taken back.
-/
module

public import proofs.«01_k».proof.Proof.LocalRef

@[expose] public section

set_option maxRecDepth 16384

noncomputable section

namespace Cert.LocalRef

open Cert.RealLift Cert.LocalData Cert.DeltaSpec Cert.InverseGrad Idealize.ShloMosaic
open Cert.LocalReferenceIdeal.Read Cert.LocalReferenceIdeal Cert.LocalReferenceIdeal.Gen
open Matrix

section Products

/-- Sixty-four square matrices for each of the eight heads. -/
abbrev Mats : Type := FVec Ideal S8x64x64x64 .f32

/-- Sixty-four blocks of rows for each of the eight heads. -/
abbrev Rows : Type := FVec Ideal S8x64x64x128 .f32

variable (h : Fin 8) (n : Fin 64)

/-- The matrix at head `h`, chunk `n` is `X`. -/
def IsMat (a : Mats) (X : Mat 64) : Prop := ∀ i j : Fin 64, a (ix4 h n i j) = ((X i j : ℝ) : EReal)

/-- The rows at head `h`, chunk `n` are `X`. -/
def IsRows (a : Rows) (X : Fin 64 → Fin 128 → ℝ) : Prop := ∀ (i : Fin 64) (d : Fin 128), a (ix4 h n i d) = ((X i d : ℝ) : EReal)

variable {h n} {a b : Mats} {X Y : Mat 64} {u w : Rows} {U W : Fin 64 → Fin 128 → ℝ}

theorem IsMat.mul (ha : IsMat h n a X) (hb : IsMat h n b Y) :
    IsMat h n (Host.dotGeneral dot_S8x64x64x64_S8x64x64x64_S8x64x64x64_3_2_2_3_01_01 none a b) (X * Y) := by
  intro i j
  rw [Matrix.mul_apply, ← coe_sum]
  pointwise
  exact Finset.sum_congr rfl fun k _ => by rw [ha, hb, ← EReal.coe_mul]

theorem IsMat.mulT (ha : IsMat h n a X) (hb : IsMat h n b Y) :
    IsMat h n (Host.dotGeneral dot_S8x64x64x64_S8x64x64x64_S8x64x64x64_3_3_2_2_01_01 none a b) (X * Yᵀ) := by
  intro i j
  rw [Matrix.mul_apply, ← coe_sum]
  pointwise
  exact Finset.sum_congr rfl fun k _ => by rw [ha, hb, ← EReal.coe_mul, Matrix.transpose_apply]

theorem IsMat.Tmul (ha : IsMat h n a X) (hb : IsMat h n b Y) :
    IsMat h n (transpose S8x64x64x64 [0, 1, 3, 2] (Host.dotGeneral dot_S8x64x64x64_S8x64x64x64_S8x64x64x64_2_2_3_3_01_01 none a b)
      transposes_S8x64x64x64_S8x64x64x64_0_1_3_2) (Yᵀ * X) := by
  intro i j
  rw [Matrix.mul_apply, ← coe_sum]
  pointwise
  exact Finset.sum_congr rfl fun k _ => by rw [ha, hb, ← EReal.coe_mul, Matrix.transpose_apply, mul_comm]

theorem IsMat.add (ha : IsMat h n a X) (hb : IsMat h n b Y) : IsMat h n (addf a b) (X + Y) := by
  intro i j
  rw [Matrix.add_apply, EReal.coe_add, ← ha i j, ← hb i j]
  rfl

/-- A matrix by rows, contracting over the matrix' columns. -/
theorem IsMat.rows (ha : IsMat h n a X) (hu : IsRows h n u U) :
    IsRows h n (Host.dotGeneral dot_S8x64x64x64_S8x64x64x128_S8x64x64x128_3_2_2_3_01_01 none a u) fun i d => ∑ j, X i j * U j d := by
  intro i d
  rw [← coe_sum]
  pointwise
  exact Finset.sum_congr rfl fun k _ => by rw [ha, hu, ← EReal.coe_mul]

/-- A matrix by rows, contracting over the matrix' rows. -/
theorem IsMat.rowsT (ha : IsMat h n a X) (hu : IsRows h n u U) :
    IsRows h n (Host.dotGeneral dot_S8x64x64x64_S8x64x64x128_S8x64x64x128_2_2_3_3_01_01 none a u) fun i d => ∑ j, X j i * U j d := by
  intro i d
  rw [← coe_sum]
  pointwise
  exact Finset.sum_congr rfl fun k _ => by rw [ha, hu, ← EReal.coe_mul]

/-- The same with the operands in the other order. -/
theorem IsRows.Tmul (hu : IsRows h n u U) (ha : IsMat h n a X) :
    IsRows h n (transpose S8x64x64x128 [0, 1, 3, 2] (Host.dotGeneral dot_S8x64x64x128_S8x64x64x64_S8x64x128x64_2_2_3_3_01_01 none u a)
      transposes_S8x64x128x64_S8x64x64x128_0_1_3_2) fun i d => ∑ j, X j i * U j d := by
  intro i d
  rw [← coe_sum]
  pointwise
  exact Finset.sum_congr rfl fun k _ => by rw [ha, hu, ← EReal.coe_mul, mul_comm]

/-- The products of the rows of two blocks. -/
theorem IsRows.gram (hu : IsRows h n u U) (hw : IsRows h n w W) :
    IsMat h n (Host.dotGeneral dot_S8x64x64x128_S8x64x64x128_S8x64x64x64_3_3_2_2_01_01 none u w) (Matrix.of fun i j => ∑ d, U i d * W j d) := by
  intro i j
  rw [Matrix.of_apply, ← coe_sum]
  pointwise
  exact Finset.sum_congr rfl fun k _ => by rw [hu, hw, ← EReal.coe_mul]

theorem IsRows.add (hu : IsRows h n u U) (hw : IsRows h n w W) : IsRows h n (addf u w) fun i d => U i d + W i d := by
  intro i d
  rw [EReal.coe_add, ← hu i d, ← hw i d]
  rfl

theorem IsRows.mul (hu : IsRows h n u U) (hw : IsRows h n w W) : IsRows h n (mulf u w) fun i d => U i d * W i d := by
  intro i d
  rw [EReal.coe_mul, ← hu i d, ← hw i d]
  rfl

theorem IsMat.hadamard (ha : IsMat h n a X) (hb : IsMat h n b Y) : IsMat h n (mulf a b) (Matrix.of fun i j => X i j * Y i j) := by
  intro i j
  rw [Matrix.of_apply, EReal.coe_mul, ← ha i j, ← hb i j]
  rfl

end Products

variable (x0 : Qkv) (x1 : Ba) (x2 x3 : Heads) (x4 x5 x6 x7 : Wide) (x8 : Attn) (x9 : Ends)
variable (h : Fin 8) (n i : Fin 64)

section Forward

theorem eye_bit (i j : Fin 64) :
    IntOp.cmpi .eq (IntOp.addi (BitVec.ofNat 32 i.val) 0#32) (BitVec.ofNat 32 j.val) = if i = j then 1#1 else 0#1 := by
  simp only [Fin.ext_iff]
  revert i j
  decide +kernel

theorem eye_at : IsMat h n (val_main_v79 (F := Ideal)) 1 := by
  intro i j
  rw [Matrix.one_apply]
  pointwise [val_main_v79, val_main_v78, val_main_v77, val_main_v76, val_main_v75, val_main_v72, val_main_v74, val_main_c_6, val_main_v73]
  rw [eye_bit]
  split
  · exact (show (((1#1 : BitVec 1).toNat : ℝ) : EReal) = ((1 : ℝ) : EReal) from congrArg _ Nat.cast_one)
  · exact (show (((0#1 : BitVec 1).toNat : ℝ) : EReal) = ((0 : ℝ) : EReal) from congrArg _ Nat.cast_zero)

theorem P0_at : IsMat h n (val_main_v71 (F := Ideal) (up x0) (up x1) (up x2) (up x3)) (-L (ch x0 x1 x2 x3 h n)) := A_at x0 x1 x2 x3 h n

theorem T0_at : IsMat h n (val_main_v80 (F := Ideal) (up x0) (up x1) (up x2) (up x3)) (geom (-L (ch x0 x1 x2 x3 h n)) 0) := (eye_at h n).add (P0_at x0 x1 x2 x3 h n)

theorem P1_at : IsMat h n (val_main_v81 (F := Ideal) (up x0) (up x1) (up x2) (up x3)) (pow2 (-L (ch x0 x1 x2 x3 h n)) 1) := (P0_at x0 x1 x2 x3 h n).mul (P0_at x0 x1 x2 x3 h n)

theorem T1_at : IsMat h n (val_main_v83 (F := Ideal) (up x0) (up x1) (up x2) (up x3)) (geom (-L (ch x0 x1 x2 x3 h n)) 1) := (T0_at x0 x1 x2 x3 h n).add ((T0_at x0 x1 x2 x3 h n).mul (P1_at x0 x1 x2 x3 h n))

theorem P2_at : IsMat h n (val_main_v84 (F := Ideal) (up x0) (up x1) (up x2) (up x3)) (pow2 (-L (ch x0 x1 x2 x3 h n)) 2) := (P1_at x0 x1 x2 x3 h n).mul (P1_at x0 x1 x2 x3 h n)

theorem T2_at : IsMat h n (val_main_v86 (F := Ideal) (up x0) (up x1) (up x2) (up x3)) (geom (-L (ch x0 x1 x2 x3 h n)) 2) := (T1_at x0 x1 x2 x3 h n).add ((T1_at x0 x1 x2 x3 h n).mul (P2_at x0 x1 x2 x3 h n))

theorem P3_at : IsMat h n (val_main_v87 (F := Ideal) (up x0) (up x1) (up x2) (up x3)) (pow2 (-L (ch x0 x1 x2 x3 h n)) 3) := (P2_at x0 x1 x2 x3 h n).mul (P2_at x0 x1 x2 x3 h n)

theorem T3_at : IsMat h n (val_main_v89 (F := Ideal) (up x0) (up x1) (up x2) (up x3)) (geom (-L (ch x0 x1 x2 x3 h n)) 3) := (T2_at x0 x1 x2 x3 h n).add ((T2_at x0 x1 x2 x3 h n).mul (P3_at x0 x1 x2 x3 h n))

theorem P4_at : IsMat h n (val_main_v90 (F := Ideal) (up x0) (up x1) (up x2) (up x3)) (pow2 (-L (ch x0 x1 x2 x3 h n)) 4) := (P3_at x0 x1 x2 x3 h n).mul (P3_at x0 x1 x2 x3 h n)

theorem T4_at : IsMat h n (val_main_v92 (F := Ideal) (up x0) (up x1) (up x2) (up x3)) (geom (-L (ch x0 x1 x2 x3 h n)) 4) := (T3_at x0 x1 x2 x3 h n).add ((T3_at x0 x1 x2 x3 h n).mul (P4_at x0 x1 x2 x3 h n))

theorem P5_at : IsMat h n (val_main_v93 (F := Ideal) (up x0) (up x1) (up x2) (up x3)) (pow2 (-L (ch x0 x1 x2 x3 h n)) 5) := (P4_at x0 x1 x2 x3 h n).mul (P4_at x0 x1 x2 x3 h n)

theorem T5_at : IsMat h n (val_main_v95 (F := Ideal) (up x0) (up x1) (up x2) (up x3)) (T (ch x0 x1 x2 x3 h n)) := (T4_at x0 x1 x2 x3 h n).add ((T4_at x0 x1 x2 x3 h n).mul (P5_at x0 x1 x2 x3 h n))

end Forward

/-- One step of `back` as the reference writes it. -/
theorem back_step {a t P T Q : Mats} {A pa ta : Mat 64} {l : ℕ} (ha : IsMat h n a pa) (ht : IsMat h n t ta)
    (hP : IsMat h n P (pow2 A l)) (hT : IsMat h n T (geom A l)) :
    IsMat h n (addf a (transpose S8x64x64x64 [0, 1, 3, 2]
      (Host.dotGeneral dot_S8x64x64x64_S8x64x64x64_S8x64x64x64_2_2_3_3_01_01 none t T) transposes_S8x64x64x64_S8x64x64x64_0_1_3_2))
      (pa + (geom A l)ᵀ * ta) := ha.add (ht.Tmul hT)

theorem gat_at (d : Fin 128) : (val_main_v102 (F := Ideal) (up x1) (up x2) (up x3)) (ix4 h n i d) = ((Real.exp (G (ch x0 x1 x2 x3 h n) i) : ℝ) : EReal) := by
  pointwise [val_main_v102, val_main_v101, val_main_v100]
  rw [G_at x0 x1 x2 x3, Ideal.exp_coe]

theorem bea_at (d : Fin 128) : (val_main_v97 (F := Ideal) (up x1)) (ix4 h n i d) = ((((ch x0 x1 x2 x3 h n)).β i : ℝ) : EReal) := by
  pointwise [val_main_v97, val_main_v96]
  rw [β_at x0 x1 x2 x3]

theorem vb_at : IsRows h n (val_main_v98 (F := Ideal) (up x0) (up x1)) (vb (ch x0 x1 x2 x3 h n)) := (show IsRows h n (val_main_v48 (F := Ideal) (up x0)) _ from v_at x0 x1 x2 x3 h n).mul fun i d => bea_at x0 x1 x2 x3 h n i d

theorem kbe_at : IsRows h n (val_main_v103 (F := Ideal) (up x0) (up x1) (up x2) (up x3)) (kbe (ch x0 x1 x2 x3 h n)) := (show IsRows h n (val_main_v67 (F := Ideal) (up x0) (up x1)) _ from kb_at x0 x1 x2 x3 h n).mul fun i d => gat_at x0 x1 x2 x3 h n i d

theorem dT_at : IsMat h n (val_main_v167 (F := Ideal) (up x0) (up x1) (up x2) (up x3) (up x4) (up x5)) (dT (ch x0 x1 x2 x3 h n) (ct x4 x5 x6 x7 x8 x9 h n)) :=
  ((show IsRows h n (val_main_v7 (F := Ideal) (up x5)) _ from dw_at x4 x5 x6 x7 x8 x9 h n).gram (kbe_at x0 x1 x2 x3 h n)).add
    ((show IsRows h n (val_main_v3 (F := Ideal) (up x4)) _ from du_at x4 x5 x6 x7 x8 x9 h n).gram (vb_at x0 x1 x2 x3 h n))

theorem back_at : IsMat h n (val_main_v218 (F := Ideal) (up x0) (up x1) (up x2) (up x3) (up x4) (up x5)) (back (-L (ch x0 x1 x2 x3 h n)) 5 0 (dT (ch x0 x1 x2 x3 h n) (ct x4 x5 x6 x7 x8 x9 h n))) := by
  have t5 := dT_at x0 x1 x2 x3 x4 x5 x6 x7 x8 x9 h n
  have X5 : IsMat h n (val_main_v175 (F := Ideal) (up x0) (up x1) (up x2) (up x3) (up x4) (up x5)) _ := t5.Tmul (T4_at x0 x1 x2 x3 h n)
  have t4 : IsMat h n (val_main_v177 (F := Ideal) (up x0) (up x1) (up x2) (up x3) (up x4) (up x5)) _ := t5.add (t5.mulT (P5_at x0 x1 x2 x3 h n))
  have p4 : IsMat h n (val_main_v181 (F := Ideal) (up x0) (up x1) (up x2) (up x3) (up x4) (up x5)) _ := (X5.Tmul (P4_at x0 x1 x2 x3 h n)).add (X5.mulT (P4_at x0 x1 x2 x3 h n))
  have X4 : IsMat h n (val_main_v184 (F := Ideal) (up x0) (up x1) (up x2) (up x3) (up x4) (up x5)) _ := p4.add (t4.Tmul (T3_at x0 x1 x2 x3 h n))
  have t3 : IsMat h n (val_main_v186 (F := Ideal) (up x0) (up x1) (up x2) (up x3) (up x4) (up x5)) _ := t4.add (t4.mulT (P4_at x0 x1 x2 x3 h n))
  have p3 : IsMat h n (val_main_v190 (F := Ideal) (up x0) (up x1) (up x2) (up x3) (up x4) (up x5)) _ := (X4.Tmul (P3_at x0 x1 x2 x3 h n)).add (X4.mulT (P3_at x0 x1 x2 x3 h n))
  have X3 : IsMat h n (val_main_v193 (F := Ideal) (up x0) (up x1) (up x2) (up x3) (up x4) (up x5)) _ := p3.add (t3.Tmul (T2_at x0 x1 x2 x3 h n))
  have t2 : IsMat h n (val_main_v195 (F := Ideal) (up x0) (up x1) (up x2) (up x3) (up x4) (up x5)) _ := t3.add (t3.mulT (P3_at x0 x1 x2 x3 h n))
  have p2 : IsMat h n (val_main_v199 (F := Ideal) (up x0) (up x1) (up x2) (up x3) (up x4) (up x5)) _ := (X3.Tmul (P2_at x0 x1 x2 x3 h n)).add (X3.mulT (P2_at x0 x1 x2 x3 h n))
  have X2 : IsMat h n (val_main_v202 (F := Ideal) (up x0) (up x1) (up x2) (up x3) (up x4) (up x5)) _ := p2.add (t2.Tmul (T1_at x0 x1 x2 x3 h n))
  have t1 : IsMat h n (val_main_v204 (F := Ideal) (up x0) (up x1) (up x2) (up x3) (up x4) (up x5)) _ := t2.add (t2.mulT (P2_at x0 x1 x2 x3 h n))
  have p1 : IsMat h n (val_main_v208 (F := Ideal) (up x0) (up x1) (up x2) (up x3) (up x4) (up x5)) _ := (X2.Tmul (P1_at x0 x1 x2 x3 h n)).add (X2.mulT (P1_at x0 x1 x2 x3 h n))
  have X1 : IsMat h n (val_main_v211 (F := Ideal) (up x0) (up x1) (up x2) (up x3) (up x4) (up x5)) _ := p1.add (t1.Tmul (T0_at x0 x1 x2 x3 h n))
  have t0 : IsMat h n (val_main_v213 (F := Ideal) (up x0) (up x1) (up x2) (up x3) (up x4) (up x5)) _ := t1.add (t1.mulT (P1_at x0 x1 x2 x3 h n))
  have p0 : IsMat h n (val_main_v218 (F := Ideal) (up x0) (up x1) (up x2) (up x3) (up x4) (up x5)) _ := (t0.add (X1.Tmul (P0_at x0 x1 x2 x3 h n))).add (X1.mulT (P0_at x0 x1 x2 x3 h n))
  intro i j
  rw [p0 i j]
  simp only [back, zero_add, add_assoc, pow2]

theorem dL_at : IsMat h n (val_main_v220 (F := Ideal) (up x0) (up x1) (up x2) (up x3) (up x4) (up x5)) (Matrix.of (dL (ch x0 x1 x2 x3 h n) (ct x4 x5 x6 x7 x8 x9 h n))) := by
  intro i j
  rw [val_main_v220_apply]
  have h1 : val_main_call8_v0 (F := Ideal) (ix4 h n i j) = (0 : EReal) := by pointwise [val_main_call8_v0, val_main_call8_cst]
  have h2 : (val_main_v70_1 (F := Ideal) (ix4 h n i j) : BitVec 1) = if j < i then 1#1 else 0#1 := by
    pointwise [val_main_v70_1]
    exact strict_at i j
  rw [h1, h2, select_if, val_main_v219_apply, back_at x0 x1 x2 x3 x4 x5 x6 x7 x8 x9 h n i j, Matrix.of_apply, dL]
  split
  · rw [back_apply (below_L (ch x0 x1 x2 x3 h n)) 5 (by norm_num) _ _ _ (by assumption)]
    exact (EReal.coe_neg _).symm
  · exact EReal.coe_zero.symm

end Cert.LocalRef

end
-- ==== Proof.LocalEntry.lean ====
/-
What the kernel's host lines leave in the arrays of its region.
-/
module

public import proofs.«01_k».proof.Proof.LocalInverse
public import proofs.«01_k».proof.Proof.Gen.LocalKernelIdeal.Value
public import Idealize.ShloMosaic.Lib.Claim

@[expose] public section

set_option maxRecDepth 16384

noncomputable section

namespace Cert.LocalEntry

open Cert.RealLift Idealize.ShloMosaic
open Cert.LocalKernelIdeal Cert.LocalKernelIdeal.Gen

variable (m : (ℓ : Loc nD τ sig) → Buf (Elt Ideal) ℓ) (c : Dev nD)

/-- The decay parameters as a row. -/
theorem V_alog : V m c main_v79 = shapeCast S1x8 (m ((c.tc : Thread nD τ).loc main_arg2)) shapeCasts_S8_S1x8 := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The bias of the decay as a row. -/
theorem V_dt : V m c main_v80 = shapeCast S1x8 (m ((c.tc : Thread nD τ).loc main_arg3)) shapeCasts_S8_S1x8 := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The cotangent of the decay of a whole chunk, along lanes. -/
theorem V_dl : V m c main_v82 = broadcastInDim S8x64x128 ![0, 1, 2] bcast_S8x64x1_S8x64x128_0_1_2 (broadcastInDim S8x64x1 ![0, 1] bcast_S8x64_S8x64x1_0_1 (m ((c.tc : Thread nD τ).loc main_arg9))) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp

/-- The saved triangular inverse: the host lines that prepare it are the reference's own. -/
theorem V_tinv : V m c main_v78 = shapeCast S8x4096x64 (Cert.LocalReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3))) shapeCasts_S8x64x64x64_S8x4096x64 := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

end Cert.LocalEntry
-- ==== Proof.LocalTile.lean ====
/-
The tiles the kernel of the delta rule's local part computes on, as matrices of reals: what each operation makes of them.
-/
module

public import proofs.«01_k».proof.Proof.LocalData
public import proofs.«01_k».proof.Proof.Gen.LocalKernelIdeal.Value
public import Idealize.ShloMosaic.Lib.Pipeline.ValueKit

@[expose] public section

set_option maxRecDepth 16384

noncomputable section

namespace Cert.LocalTile

open Cert.RealLift Cert.LocalData Cert.DeltaSpec Cert.InverseGrad Idealize.ShloMosaic
open Cert.LocalKernelIdeal Cert.LocalKernelIdeal.Gen
open Matrix

/-- A square tile holds the matrix `X`. -/
def Sq {φ : FTy} (a : FVec Ideal S64x64 φ) (X : Mat 64) : Prop := ∀ i j : Fin 64, (a (ix2 i j) : EReal) = ((X i j : ℝ) : EReal)

/-- A tile of rows holds `X`. -/
def Wd {φ : FTy} (a : FVec Ideal S64x128 φ) (X : Fin 64 → Fin 128 → ℝ) : Prop :=
  ∀ (i : Fin 64) (d : Fin 128), (a (ix2 i d) : EReal) = ((X i d : ℝ) : EReal)

/-- A column holds `X`. -/
def Cl (a : FVec Ideal S64x1 .f32) (X : Fin 64 → ℝ) : Prop := ∀ (i : Fin 64) (u : Fin 1), (a (ix2 i u) : EReal) = ((X i : ℝ) : EReal)

/-- Every entry of a row is `x`. -/
def Rw (a : FVec Ideal S1x128 .f32) (x : ℝ) : Prop := ∀ (u : Fin 1) (d : Fin 128), (a (ix2 u d) : EReal) = ((x : ℝ) : EReal)

/-- A single entry is `x`. -/
def One (a : FVec Ideal S1x1 .f32) (x : ℝ) : Prop := ∀ u w : Fin 1, (a (ix2 u w) : EReal) = ((x : ℝ) : EReal)

variable {φ ψ : FTy} {a : FVec Ideal S64x64 φ} {b : FVec Ideal S64x64 ψ} {X Y : Mat 64}
variable {u : FVec Ideal S64x128 φ} {w : FVec Ideal S64x128 ψ} {U W : Fin 64 → Fin 128 → ℝ}
variable {s t : FVec Ideal S64x1 .f32} {s' t' : Fin 64 → ℝ} {r : FVec Ideal S1x128 .f32} {r' : ℝ}

section Products

theorem Wd.dotNt (hu : Wd u U) (hw : Wd w W) :
    Sq (matmul dot_S64x128_S64x128_S64x64_1_1_0_0_n_n none u w (constant S64x64 .f32 0x00000000#32)) (Matrix.of fun i j => ∑ d, U i d * W j d) := by
  intro i j
  rw [Matrix.of_apply, ← coe_sum]
  pointwise
  exact Finset.sum_congr rfl fun k _ => by rw [hu, hw, ← EReal.coe_mul]

theorem Sq.dotTn (ha : Sq a X) (hw : Wd w W) :
    Wd (matmul dot_S64x64_S64x128_S64x128_0_0_1_1_n_n none a w (constant S64x128 .f32 0x00000000#32)) fun i d => ∑ j, X j i * W j d := by
  intro i j
  rw [← coe_sum]
  pointwise
  exact Finset.sum_congr rfl fun k _ => by rw [ha, hw, ← EReal.coe_mul]

theorem Sq.dotNn (ha : Sq a X) (hw : Wd w W) :
    Wd (matmul dot_S64x64_S64x128_S64x128_1_0_0_1_n_n none a w (constant S64x128 .f32 0x00000000#32)) fun i d => ∑ j, X i j * W j d := by
  intro i j
  rw [← coe_sum]
  pointwise
  exact Finset.sum_congr rfl fun k _ => by rw [ha, hw, ← EReal.coe_mul]

theorem Sq.mul (ha : Sq a X) (hb : Sq b Y) :
    Sq (matmul dot_S64x64_S64x64_S64x64_1_0_0_1_n_n none a b (constant S64x64 .f32 0x00000000#32)) (X * Y) := by
  intro i j
  rw [Matrix.mul_apply, ← coe_sum]
  pointwise
  exact Finset.sum_congr rfl fun k _ => by rw [ha, hb, ← EReal.coe_mul]

end Products

section Entries

variable {a₁ a₂ : FVec Ideal S64x64 .f32} {u₁ u₂ : FVec Ideal S64x128 .f32}

theorem Sq.trunc (ha : Sq a₁ X) (h : FTy.bits .bf16 < FTy.bits .f32) : Sq (truncf .bf16 a₁ h) X := ha

theorem Wd.trunc (hu : Wd u₁ U) (h : FTy.bits .bf16 < FTy.bits .f32) : Wd (truncf .bf16 u₁ h) U := hu

theorem Sq.add (ha : Sq a₁ X) (hb : Sq a₂ Y) : Sq (addf a₁ a₂) (X + Y) := fun i j => by
  rw [Matrix.add_apply, EReal.coe_add, ← ha i j, ← hb i j]; rfl

theorem Sq.had (ha : Sq a₁ X) (hb : Sq a₂ Y) : Sq (mulf a₁ a₂) (Matrix.of fun i j => X i j * Y i j) := fun i j => by
  rw [Matrix.of_apply, EReal.coe_mul, ← ha i j, ← hb i j]; rfl

/-- What a tile loses when it is narrowed is nothing. -/
theorem Sq.low (ha : Sq a₁ X) (h h' : FTy.bits .bf16 < FTy.bits .f32) :
    Sq (truncf .bf16 (subf a₁ (extf .f32 (truncf .bf16 a₁ h) h)) h') 0 := fun i j => by
  have h1 : (a₁ (ix2 i j) : EReal) - (a₁ (ix2 i j) : EReal) = ((0 : ℝ) : EReal) := by
    rw [ha i j, ← EReal.coe_sub, sub_self]
  exact h1

theorem Sq.T (ha : Sq a₁ X) : Sq (transpose S64x64 [1, 0] a₁ transposes_S64x64_p1_0_S64x64) Xᵀ := fun i j => by
  pointwise
  rw [ha, Matrix.transpose_apply]

theorem Wd.add (hu : Wd u₁ U) (hw : Wd u₂ W) : Wd (addf u₁ u₂) fun i d => U i d + W i d := fun i d => by
  rw [EReal.coe_add, ← hu i d, ← hw i d]; rfl

theorem Wd.had (hu : Wd u₁ U) (hw : Wd u₂ W) : Wd (mulf u₁ u₂) fun i d => U i d * W i d := fun i d => by
  rw [EReal.coe_mul, ← hu i d, ← hw i d]; rfl

theorem Wd.exp (hu : Wd u₁ U) : Wd (exp u₁) fun i d => Real.exp (U i d) := fun i d => by
  pointwise
  rw [hu, Ideal.exp_coe]

theorem Wd.scaled (hu : Wd u₁ U) : Wd (mulf u₁ (broadcast S64x128 (Scalar.ofBits (F := Ideal) .f32 0x3DB504F3#32))) fun i d => U i d * scale := fun i d => by
  pointwise
  rw [hu, lit_scale, ← EReal.coe_mul]

theorem Wd.sub (hu : Wd u₁ U) (hw : Wd u₂ W) : Wd (subf u₁ u₂) fun i d => U i d - W i d := fun i d => by
  rw [EReal.coe_sub, ← hu i d, ← hw i d]; rfl

theorem Cl.add (hs : Cl s s') (ht : Cl t t') : Cl (addf s t) fun i => s' i + t' i := fun i v => by
  rw [EReal.coe_add, ← hs i v, ← ht i v]; rfl

theorem Cl.sub (hs : Cl s s') (ht : Cl t t') : Cl (subf s t) fun i => s' i - t' i := fun i v => by
  rw [EReal.coe_sub, ← hs i v, ← ht i v]; rfl

theorem Cl.had (hs : Cl s s') (ht : Cl t t') : Cl (mulf s t) fun i => s' i * t' i := fun i v => by
  rw [EReal.coe_mul, ← hs i v, ← ht i v]; rfl

theorem Cl.neg (hs : Cl s s') : Cl (subf (broadcast S64x1 (Scalar.ofBits (F := Ideal) .f32 0x00000000#32)) s) fun i => -s' i := fun i v => by
  pointwise
  rw [hs, ← EReal.coe_zero, ← EReal.coe_sub, zero_sub]

theorem Cl.wide (hs : Cl s s') : Wd (broadcastTo S64x128 s broadcasts_S64x1_S64x128) fun i _ => s' i := fun i d => by
  pointwise
  exact hs i _

theorem Wd.col (hu : Wd u₁ U) : Cl (extractStridedSlice S64x1 ![0, 0] u₁ slices_S64x128_o0_0_S64x1) fun i => U i 0 := fun i v => by
  pointwise
  exact hu i 0

theorem Wd.sq (hu : Wd u₁ U) : Sq (extractStridedSlice S64x64 ![0, 0] u₁ slices_S64x128_o0_0_S64x64)
    (Matrix.of fun i j => U i ⟨j.val, by omega⟩) := fun i j => by
  pointwise
  exact hu i _

theorem Wd.sums (hu : Wd u₁ U) : Cl (shapeCast S64x1 (multiReduction .add [1] S64 u₁ 0x00000000#32 reduces_S64x128_S64 (.inl rfl) rfl)
    shapeCasts_S64_S64x1) fun i => ∑ d, U i d := fun i v => by
  pointwise
  simp only [hu i, coe_sum]

theorem Sq.sums (ha : Sq a₁ X) : Cl (shapeCast S64x1 (multiReduction .add [1] S64 a₁ 0x00000000#32 reduces_S64x64_S64 (.inl rfl) rfl)
    shapeCasts_S64_S64x1) fun i => ∑ j, X i j := fun i v => by
  pointwise
  simp only [ha i, coe_sum]

theorem Rw.tall (hr : Rw r r') : Wd (broadcastTo S64x128 r broadcasts_S1x128_S64x128) fun _ _ => r' := fun i d => by
  pointwise
  exact hr _ d

theorem One.add {x y : FVec Ideal S1x1 .f32} {x' y' : ℝ} (hx : One x x') (hy : One y y') : One (addf x y) (x' + y') := fun v z => by
  rw [EReal.coe_add, ← hx v z, ← hy v z]; rfl

theorem One.had {x y : FVec Ideal S1x1 .f32} {x' y' : ℝ} (hx : One x x') (hy : One y y') : One (mulf x y) (x' * y') := fun v z => by
  rw [EReal.coe_mul, ← hx v z, ← hy v z]; rfl

theorem Cl.total (hs : Cl s s') : One (shapeCast S1x1 (multiReduction .add [0] S1 s 0x00000000#32 reduces_S64x1_S1 (.inl rfl) rfl)
    shapeCasts_S1_S1x1) (∑ i, s' i) := fun v z => by
  have h1 : ∀ i, s (ix2 i 0) = _ := fun i => hs i 0
  pointwise
  simp only [h1, coe_sum]

theorem One.tall {x : FVec Ideal S1x1 .f32} {x' : ℝ} (hx : One x x') :
    Cl (broadcastTo S64x1 (shapeCast S1x1 x shapeCasts_S1x1_S1x1) broadcasts_S1x1_S64x1) fun _ => x' := fun i v => by
  pointwise
  exact hx _ _

theorem Rw.exp (hr : Rw r r') : Rw (exp r) (Real.exp r') := fun v d => by
  pointwise
  rw [hr, Ideal.exp_coe]

theorem Rw.one (hr : Rw r r') : One (extractStridedSlice S1x1 ![0, 0] r slices_S1x128_o0_0_S1x1) r' := fun v z => by
  pointwise
  exact hr 0 0

end Entries

section Masks

theorem causal_at (i j : Fin 64) : (k0_pay17 (ix2 i j) : BitVec 1) = if j ≤ i then 1#1 else 0#1 := by
  pointwise [k0_pay17]
  simp only [Fin.le_def]
  revert i j
  decide +kernel

theorem strict_at (i j : Fin 64) : (k0_pay18 (ix2 i j) : BitVec 1) = if j < i then 1#1 else 0#1 := by
  pointwise [k0_pay18]
  simp only [Fin.lt_def]
  revert i j
  decide +kernel

theorem select_if (p : Prop) [Decidable p] (a b : EReal) : Scalar.select (if p then 1#1 else 0#1) a b = if p then a else b := by
  split <;> rfl

end Masks

/-- The arrays of one chunk: what the kernel reads, and the chunk of reals they hold. -/
structure Tile (C : Chunk) (E : Cot) (q k v : FVec Ideal S64x128 .f32) (β : FVec Ideal S64x1 .f32) (g : FVec Ideal S64x128 .f32)
    (gl : FVec Ideal S1x128 .f32) (ti : FVec Ideal S1x64x64 .f32) (du dw : FVec Ideal S64x128 .bf16) (dqd dkd : FVec Ideal S64x128 .f32)
    (dat : FVec Ideal S1x64x64 .f32) (dl : FVec Ideal S1x1x1 .f32) : Prop where
  neg : ∀ j, C.γ j ≤ 0
  q : Wd (k0_pay25 q) C.q
  k : Wd k C.k
  v : Wd v C.v
  β : Cl β C.β
  g : Wd g fun i _ => G C i
  gl : Rw gl (G C 63)
  ti : Sq (k0_pay33 ti) (T C)
  du : Wd du E.du
  dw : Wd dw E.dw
  dqd : Wd dqd E.dq
  dkd : Wd dkd E.dk
  dat : Sq (k0_pay35 dat) (Matrix.of E.da)
  dl : One (shapeCast S1x1 dl shapeCasts_S1x1x1_S1x1) E.dl

section Chunk

variable {C : Chunk} {E : Cot} {q k v : FVec Ideal S64x128 .f32} {β : FVec Ideal S64x1 .f32} {g : FVec Ideal S64x128 .f32}
  {gl : FVec Ideal S1x128 .f32} {ti : FVec Ideal S1x64x64 .f32} {du dw : FVec Ideal S64x128 .bf16} {dqd dkd : FVec Ideal S64x128 .f32}
  {dat : FVec Ideal S1x64x64 .f32} {dl : FVec Ideal S1x1x1 .f32}
variable (H : Tile C E q k v β g gl ti du dw dqd dkd dat dl)
include H

theorem ec_tile : Wd (k0_pay21 g) fun i _ => Real.exp (G C i) := H.g.exp

theorem dec_tile : Sq (k0_pay24 k0_pay17 g) (Matrix.of (dec C)) := by
  intro i j
  pointwise [k0_pay24]
  rw [causal_at, select_if, Matrix.of_apply]
  have h3 : ∀ a : Fin 64, g (ix2 a (⟨j.val, by omega⟩ : Fin 128)) = ((G C a : ℝ) : EReal) := fun a => H.g a _
  have h4 : ∀ a : Fin 64, g (ix2 a (⟨i.val, by omega⟩ : Fin 128)) = ((G C a : ℝ) : EReal) := fun a => H.g a _
  rw [h3 i, h4 j, ← EReal.coe_sub, ← EReal.coe_zero, coe_min, Ideal.exp_coe, coe_ite, dec]
  refine congrArg (fun r : ℝ => (r : EReal)) ?_
  split
  · rename_i h
    rw [min_eq_left (sub_nonpos.2 (G_mono C H.neg h))]
  · rfl

theorem kb_tile : Wd (k0_pay26 k β) (kb C) := H.k.had H.β.wide

theorem vb_tile : Wd (k0_pay27 v β) (vb C) := H.v.had H.β.wide

theorem kbe_tile : Wd (k0_pay28 k β g) (kbe C) := (kb_tile H).had (ec_tile H)

theorem a1_tile : Sq (k0_pay31 k β) (Matrix.of (a1 C)) := ((kb_tile H).trunc _).dotNt (H.k.trunc _)

theorem qk_tile : Sq (k0_pay32 q k) (Matrix.of (qk C)) := (H.q.trunc _).dotNt (H.k.trunc _)

theorem f2_tile : Wd (k0_pay22 g gl) fun i _ => tail C i := (H.gl.tall.sub H.g).exp

theorem dqk_tile : Sq (k0_pay42 (k0_pay24 k0_pay17 g) (k0_pay35 dat)) (Matrix.of (dqk C E)) := (H.dat.had (dec_tile H)).trunc _

/-- The cotangent of the queries. -/
theorem dq_tile : Wd (k0_pay48 (k0_pay24 k0_pay17 g) (k0_pay29 k) (k0_pay35 dat) (k0_pay36 g dqd)) fun i d => gq C E i d * scale :=
  ((H.dqd.had (ec_tile H)).add ((dqk_tile H).dotNn (H.k.trunc _))).scaled

theorem dkpart_tile : Wd (k0_pay44 (k0_pay22 g gl) (k0_pay24 k0_pay17 g) (k0_pay30 q) dkd (k0_pay35 dat))
    fun i d => E.dk i d * tail C i + ∑ a, dqk C E a i * C.q a d :=
  (H.dkd.had (f2_tile H)).add ((dqk_tile H).dotTn (H.q.trunc _))

theorem dtinv_tile : Sq (k0_pay45 (k0_pay27 v β) (k0_pay28 k β g) du dw) (dT C E) := by
  have h := (H.du.dotNt ((vb_tile H).trunc bitsLt_bf16_f32)).add (H.dw.dotNt ((kbe_tile H).trunc bitsLt_bf16_f32))
  rw [add_comm] at h
  exact h

theorem dvb_tile : Wd (k0_pay46 (k0_pay34 ti) du) (dvb C E) := (H.ti.trunc _).dotTn H.du

theorem dkbe_tile : Wd (k0_pay47 (k0_pay34 ti) dw) (dkbe C E) := (H.ti.trunc _).dotTn H.dw

/-- The cotangent of the values. -/
theorem dv_tile : Wd (k0_pay304 (k0_pay46 (k0_pay34 ti) du) β) (gv C E) := (dvb_tile H).had H.β.wide

omit H in
/-- A product of two tiles in three narrow products is their product. -/
theorem dot3 {a b : FVec Ideal S64x64 .f32} {X Y : Mat 64} (ha : Sq a X) (hb : Sq b Y) : Sq (k0_pay261 b a) (X * Y) := by
  have h1 := ((ha.trunc bitsLt_bf16_f32).mul (hb.trunc bitsLt_bf16_f32)).add
    (((ha.trunc bitsLt_bf16_f32).mul (hb.low bitsLt_bf16_f32 bitsLt_bf16_f32)).add
      ((ha.low bitsLt_bf16_f32 bitsLt_bf16_f32).mul (hb.trunc bitsLt_bf16_f32)))
  rw [mul_zero, zero_mul, add_zero, add_zero] at h1
  exact h1

theorem dL_tile : Sq (k0_pay278 k0_pay18 (k0_pay49 (k0_pay33 ti)) (k0_pay261 (k0_pay45 (k0_pay27 v β) (k0_pay28 k β g) du dw) (k0_pay49 (k0_pay33 ti))))
    (Matrix.of (dL C E)) := by
  have h1 := dot3 (dot3 H.ti.T (dtinv_tile H)) H.ti.T
  intro i j
  have h2 : k0_pay278 k0_pay18 (k0_pay49 (k0_pay33 ti))
      (k0_pay261 (k0_pay45 (k0_pay27 v β) (k0_pay28 k β g) du dw) (k0_pay49 (k0_pay33 ti))) (ix2 i j)
      = Scalar.select (k0_pay18 (ix2 i j)) ((Ideal.ofBits .f32 0x00000000#32 : EReal) -
        k0_pay261 (k0_pay49 (k0_pay33 ti)) (k0_pay261 (k0_pay45 (k0_pay27 v β) (k0_pay28 k β g) du dw) (k0_pay49 (k0_pay33 ti))) (ix2 i j))
        (Ideal.ofBits .f32 0x00000000#32 : EReal) := rfl
  refine h2.trans ?_
  rw [strict_at, select_if, lit_zero, Matrix.of_apply, dL]
  refine (congrArg (fun z : EReal => if j < i then ((0 : ℝ) : EReal) - z else ((0 : ℝ) : EReal)) (h1 i j)).trans ?_
  rw [← EReal.coe_sub, coe_ite, zero_sub]

section Back

variable {D : FVec Ideal S64x64 .f32} (hD : Sq D (Matrix.of (dL C E)))
include hD

theorem da1_tile : Sq (k0_pay386 (k0_pay24 k0_pay17 g) D) (Matrix.of (dLd C E)) := (hD.had (dec_tile H)).trunc _

theorem dkb_tile : Wd (k0_pay388 (k0_pay47 (k0_pay34 ti) dw) (k0_pay21 g) (k0_pay29 k) (k0_pay386 (k0_pay24 k0_pay17 g) D)) (dkb C E) := by
  have h := ((da1_tile H hD).dotNn (H.k.trunc bitsLt_bf16_f32)).add ((dkbe_tile H).had (ec_tile H))
  intro i d
  rw [dkb, add_comm (dkbe C E i d * _)]
  exact h i d

/-- The cotangent of the keys. -/
theorem dk_tile : Wd (k0_pay389 (k0_pay44 (k0_pay22 g gl) (k0_pay24 k0_pay17 g) (k0_pay30 q) dkd (k0_pay35 dat)) (k0_pay47 (k0_pay34 ti) dw) β
    (k0_pay21 g) (k0_pay29 k) (truncf .bf16 (k0_pay26 k β) bitsLt_bf16_f32) (k0_pay386 (k0_pay24 k0_pay17 g) D)) (gk C E) :=
  ((dkpart_tile H).add ((da1_tile H hD).dotTn ((kb_tile H).trunc _))).add ((dkb_tile H hD).had H.β.wide)

/-- The cotangent of the write strengths. -/
theorem dbeta_tile : Cl (k0_pay390 (k0_pay46 (k0_pay34 ti) du) (k0_pay47 (k0_pay34 ti) dw) k v
    (k0_pay21 g) (k0_pay29 k) (k0_pay386 (k0_pay24 k0_pay17 g) D)) (gβ C E) := by
  have h := ((dkb_tile H hD).had H.k).sums.add ((dvb_tile H).had H.v).sums
  intro i z
  have e : gβ C E i = ∑ d, dkb C E i d * C.k i d + ∑ d, dvb C E i d * C.v i d := by
    rw [gβ, add_comm]
    exact congrArg₂ _ (Finset.sum_congr rfl fun d _ => mul_comm _ _) (Finset.sum_congr rfl fun d _ => mul_comm _ _)
  rw [e]
  exact h i z

theorem dd_tile : Sq (mulf (addf (k0_pay43 (k0_pay32 q k) (k0_pay35 dat)) (mulf D (k0_pay31 k β))) (k0_pay24 k0_pay17 g)) (Matrix.of (dd C E)) := by
  have h := ((H.dat.had (qk_tile H)).add (hD.had (a1_tile H))).had (dec_tile H)
  intro i j
  have e : dd C E i j = (E.da i j * qk C i j + dL C E i j * a1 C i j) * dec C i j := by
    rw [dd, mul_comm (E.da i j), mul_comm (dL C E i j)]
  rw [Matrix.of_apply, e]
  exact h i j

omit hD in
theorem tcol_tile : Cl (k0_pay39 k (k0_pay22 g gl) dkd) (tcol C E) := by
  have h := (H.dkd.had H.k).sums.had (f2_tile H).col
  intro i z
  have e : tcol C E i = (∑ d, E.dk i d * C.k i d) * tail C i := by
    rw [tcol, Finset.sum_congr rfl fun d _ => mul_comm (C.k i d) (E.dk i d)]
  rw [e]
  exact h i z

/-- The cotangent of the log decays from the chunk's start. -/
theorem dG_tile : Cl (addf (k0_pay312 (k0_pay24 k0_pay17 g) (k0_pay31 k β) (k0_pay41 k (k0_pay22 g gl) dkd)
      (k0_pay43 (k0_pay32 q k) (k0_pay35 dat)) D)
    (mulf (addf (k0_pay38 (k0_pay37 q dqd))
        (shapeCast S64x1 (multiReduction .add [1] S64 (mulf (k0_pay47 (k0_pay34 ti) dw) (k0_pay26 k β)) 0x00000000#32 reduces_S64x128_S64 (.inl rfl) rfl)
          shapeCasts_S64_S64x1))
      (extractStridedSlice S64x1 ![0, 0] (k0_pay21 g) slices_S64x128_o0_0_S64x1))) (dG C E) := by
  have h := (((tcol_tile H).neg.add (dd_tile H hD).sums).sub (dd_tile H hD).T.sums).add
    (((H.dqd.had H.q).sums.add ((dkbe_tile H).had (kb_tile H)).sums).had (ec_tile H).col)
  intro i z
  have e : dG C E i = -tcol C E i + ∑ j, dd C E i j - ∑ a, dd C E a i
      + (∑ d, E.dq i d * C.q i d + ∑ d, dkbe C E i d * kb C i d) * Real.exp (G C i) := by
    rw [dG, Finset.sum_congr rfl fun d _ => mul_comm (C.q i d) (E.dq i d), Finset.sum_congr rfl fun d _ => mul_comm (kb C i d) (dkbe C E i d)]
    ring
  rw [e]
  exact h i z

omit hD in
/-- What the decay over the whole chunk is sent, down a column. -/
theorem dend_tile : Cl (k0_pay303 (k0_pay40 k (k0_pay22 g gl) (k0_pay23 gl) dkd dl)) fun _ => dend C E := by
  have h := ((tcol_tile H).total.add (H.dl.had H.gl.exp.one)).tall
  intro i z
  rw [dend, add_comm (E.dl * _)]
  exact h i z

end Back

end Chunk

end Cert.LocalTile

end
-- ==== Proof.LocalGates.lean ====
/-
The gates of a block of 512 positions and the running sums over its eight chunks of 64.
-/
module

public import proofs.«01_k».proof.Proof.LocalTile

@[expose] public section

set_option maxRecDepth 16384

noncomputable section

namespace Cert.LocalGates

open Cert.RealLift Cert.LocalData Cert.DeltaSpec Cert.LocalTile Idealize.ShloMosaic
open Cert.LocalKernelIdeal Cert.LocalKernelIdeal.Gen

section Sums

/-- The sum of the last `w` entries up to entry `i`. -/
def upTo (f : Fin 64 → ℝ) (w : ℕ) (i : Fin 64) : ℝ := ∑ j : Fin 64, if j.val ≤ i.val ∧ i.val < j.val + w then f j else 0

/-- The sum of the first `w` entries from entry `i` on. -/
def onFrom (f : Fin 64 → ℝ) (w : ℕ) (i : Fin 64) : ℝ := ∑ j : Fin 64, if i.val ≤ j.val ∧ j.val < i.val + w then f j else 0

theorem upTo_one (f : Fin 64 → ℝ) (i : Fin 64) : upTo f 1 i = f i := by
  rw [upTo, Finset.sum_eq_single i]
  · rw [if_pos ⟨le_rfl, by omega⟩]
  · intro j _ hj
    have := fun h => hj (Fin.ext h)
    exact if_neg (by omega)
  · exact fun h => absurd (Finset.mem_univ i) h

theorem onFrom_one (f : Fin 64 → ℝ) (i : Fin 64) : onFrom f 1 i = f i := by
  rw [onFrom, Finset.sum_eq_single i]
  · rw [if_pos ⟨le_rfl, by omega⟩]
  · intro j _ hj
    have := fun h => hj (Fin.ext h)
    exact if_neg (by omega)
  · exact fun h => absurd (Finset.mem_univ i) h

theorem upTo_all (f : Fin 64 → ℝ) (i : Fin 64) : upTo f 64 i = ∑ j, if j ≤ i then f j else 0 :=
  Finset.sum_congr rfl fun j _ => if_congr (by rw [Fin.le_def]; omega) rfl rfl

theorem onFrom_all (f : Fin 64 → ℝ) (i : Fin 64) : onFrom f 64 i = ∑ j, if i ≤ j then f j else 0 :=
  Finset.sum_congr rfl fun j _ => if_congr (by rw [Fin.le_def]; omega) rfl rfl

theorem upTo_step (f : Fin 64 → ℝ) (w : ℕ) (i : Fin 64) (h : w ≤ i.val) :
    upTo f w i + upTo f w ⟨i.val - w, by omega⟩ = upTo f (w + w) i := by
  rw [upTo, upTo, upTo, ← Finset.sum_add_distrib]
  refine Finset.sum_congr rfl fun j _ => ?_
  split_ifs <;> first | (exfalso; simp only at *; omega) | simp

theorem upTo_stop (f : Fin 64 → ℝ) (w : ℕ) (i : Fin 64) (h : ¬ w ≤ i.val) : upTo f w i = upTo f (w + w) i :=
  Finset.sum_congr rfl fun j _ => if_congr (by omega) rfl rfl

theorem onFrom_step (f : Fin 64 → ℝ) (w : ℕ) (i : Fin 64) (h : i.val + w < 64) :
    onFrom f w i + onFrom f w ⟨i.val + w, h⟩ = onFrom f (w + w) i := by
  rw [onFrom, onFrom, onFrom, ← Finset.sum_add_distrib]
  refine Finset.sum_congr rfl fun j _ => ?_
  split_ifs <;> first | (exfalso; simp only at *; omega) | simp

theorem onFrom_stop (f : Fin 64 → ℝ) (w : ℕ) (i : Fin 64) (h : ¬ i.val + w < 64) : onFrom f w i = onFrom f (w + w) i :=
  Finset.sum_congr rfl fun j _ => if_congr (by omega) rfl rfl

end Sums

/-- A row's chunk in its block, and its place there. -/
def cOf (r : Fin 512) : Fin 8 := ⟨r.val / 64, by omega⟩

def iOf (r : Fin 512) : Fin 64 := ⟨r.val % 64, by omega⟩

/-- Every lane of a block's row holds the row's number. -/
def Bw (a : FVec Ideal S512x128 .f32) (X : Fin 8 → Fin 64 → ℝ) : Prop :=
  ∀ (r : Fin 512) (d : Fin 128), (a (ix2 r d) : EReal) = ((X (cOf r) (iOf r) : ℝ) : EReal)

/-- A block's column. -/
def Bc (a : FVec Ideal S512x1 .f32) (X : Fin 8 → Fin 64 → ℝ) : Prop :=
  ∀ (r : Fin 512) (u : Fin 1), (a (ix2 r u) : EReal) = ((X (cOf r) (iOf r) : ℝ) : EReal)

theorem row_at (r : Fin 512) (d : Fin 128) : (k0_pay11 (ix2 r d) : BitVec 32) = BitVec.ofNat 32 (r.val % 64) := by
  pointwise [k0_pay11]
  revert r
  decide +kernel

theorem row_at' (r : Fin 512) (d : Fin 128) :
    (k0_pay395 (Scalar.select (Scalar.cmpi .eq 64#32 0#32) 1#32 64#32) k0_pay394 (ix2 r d) : BitVec 32) = BitVec.ofNat 32 (r.val % 64) := by
  pointwise [k0_pay395, k0_pay394]
  revert r
  decide +kernel

/-- One doubling of the running sums. -/
theorem Bw.up {a : FVec Ideal S512x128 .f32} {f : Fin 8 → Fin 64 → ℝ} (w : ℕ) (hw : w < 64)
    (hm : ∀ i : Fin 64, IntOp.cmpi .sge (BitVec.ofNat 32 i.val) (BitVec.ofNat 32 w) = if w ≤ i.val then 1#1 else 0#1)
    (ha : Bw a fun c => upTo (f c) w) {n : BitVec 32} (hn : n = BitVec.ofNat 32 w) {M : IVec S512x128 32}
    (hM : ∀ r d, (M (ix2 r d) : BitVec 32) = BitVec.ofNat 32 (r.val % 64)) :
    Bw (addf a (select (cmpi .sge M (broadcast S512x128 n)) (dynamicRotate 0 n none a rotates_S512x128_d0)
      (broadcast S512x128 (Scalar.ofBits (F := Ideal) .f32 0x00000000#32)))) fun c => upTo (f c) (w + w) := by
  subst hn
  intro r d
  have hn : (BitVec.ofNat 32 w).toNat = w := by rw [BitVec.toNat_ofNat]; omega
  pointwise
  rw [hM, hm ⟨r.val % 64, by omega⟩, select_if, ha, ha, ← EReal.coe_zero, coe_ite, ← EReal.coe_add]
  refine congrArg (fun z : ℝ => (z : EReal)) ?_
  by_cases h : w ≤ r.val % 64
  · rw [if_pos h]
    refine Eq.trans ?_ (upTo_step (f (cOf r)) w (iOf r) h)
    refine congrArg₂ (fun c i => upTo (f (cOf r)) w (iOf r) + upTo (f c) w i) (Fin.ext ?_) (Fin.ext ?_)
    · show (r.val + 512 - (BitVec.ofNat 32 w).toNat % 512) % 512 / 64 = r.val / 64
      omega
    · show (r.val + 512 - (BitVec.ofNat 32 w).toNat % 512) % 512 % 64 = r.val % 64 - w
      omega
  · rw [if_neg h, add_zero]
    exact upTo_stop _ w (iOf r) h

/-- One doubling of the running sums from the chunk's end. -/
theorem Bw.down {a : FVec Ideal S512x128 .f32} {f : Fin 8 → Fin 64 → ℝ} (w : ℕ) (hw : w < 64) {m : BitVec 32}
    (hm : ∀ i : Fin 64, IntOp.cmpi .slt (BitVec.ofNat 32 i.val) m = if i.val + w < 64 then 1#1 else 0#1)
    (ha : Bw a fun c => onFrom (f c) w) {n : BitVec 32} (hn : n = BitVec.ofNat 32 (512 - w)) {M : IVec S512x128 32}
    (hM : ∀ r d, (M (ix2 r d) : BitVec 32) = BitVec.ofNat 32 (r.val % 64)) :
    Bw (addf a (select (cmpi .slt M (broadcast S512x128 m)) (dynamicRotate 0 n none a rotates_S512x128_d0)
      (broadcast S512x128 (Scalar.ofBits (F := Ideal) .f32 0x00000000#32)))) fun c => onFrom (f c) (w + w) := by
  subst hn
  intro r d
  have hn : (BitVec.ofNat 32 (512 - w)).toNat = 512 - w := by rw [BitVec.toNat_ofNat]; omega
  pointwise
  rw [hM, hm ⟨r.val % 64, by omega⟩, select_if, ha, ha, ← EReal.coe_zero, coe_ite, ← EReal.coe_add]
  refine congrArg (fun z : ℝ => (z : EReal)) ?_
  by_cases h : r.val % 64 + w < 64
  · rw [if_pos h]
    refine Eq.trans ?_ (onFrom_step (f (cOf r)) w (iOf r) h)
    refine congrArg₂ (fun c i => onFrom (f (cOf r)) w (iOf r) + onFrom (f c) w i) (Fin.ext ?_) (Fin.ext ?_)
    · show (r.val + 512 - (BitVec.ofNat 32 (512 - w)).toNat % 512) % 512 / 64 = r.val / 64
      omega
    · show (r.val + 512 - (BitVec.ofNat 32 (512 - w)).toNat % 512) % 512 % 64 = r.val % 64 + w
      omega
  · rw [if_neg h, add_zero]
    exact onFrom_stop _ w (iOf r) h

theorem Bc.wide {a : FVec Ideal S512x1 .f32} {X : Fin 8 → Fin 64 → ℝ} (ha : Bc a X) :
    Bw (broadcastTo S512x128 (shapeCast S512x1 a shapeCasts_S512x1_S512x1) broadcasts_S512x1_S512x128) X := fun r d => by
  pointwise
  exact ha r _

theorem Bw.col {a : FVec Ideal S512x128 .f32} {X : Fin 8 → Fin 64 → ℝ} (ha : Bw a X) :
    Bc (extractStridedSlice S512x1 ![0, 0] a slices_S512x128_o0_0_S512x1) X := fun r u => by
  pointwise
  exact ha r 0

/-- Eight columns one under another. -/
theorem Bc.stack {f : Fin 8 → FVec Ideal S64x1 .f32} {X : Fin 8 → Fin 64 → ℝ} (hf : ∀ c, Cl (f c) (X c)) :
    Bc (concatenate S512x1 0 [⟨S64x1, f 0⟩, ⟨S64x1, f 1⟩, ⟨S64x1, f 2⟩, ⟨S64x1, f 3⟩, ⟨S64x1, f 4⟩, ⟨S64x1, f 5⟩, ⟨S64x1, f 6⟩, ⟨S64x1, f 7⟩]
      concatenates_S64x1_S64x1_S64x1_S64x1_S64x1_S64x1_S64x1_S64x1_S512x1_d0) X := fun r u => by
  refine (concatenate_ofFn_apply (t := S512x1) (s₁ := S64x1) 0 f concatenates_S64x1_S64x1_S64x1_S64x1_S64x1_S64x1_S64x1_S64x1_S512x1_d0
    rfl 64 rfl (ix2 r u) (cOf r) rfl (ix2 (iOf r) u) rfl fun b hb => ?_).trans (hf (cOf r) (iOf r) u)
  fin_cases b
  · exact absurd rfl hb
  · rfl

/-- The running sums of the log decays. -/
theorem sums_at {g : Fin 8 → Fin 64 → ℝ} {v0 : FVec Ideal S512x1 .f32} {v1 : FVec Ideal S1x1 .f32} {v2 : FVec Ideal S512x1 .f32}
    (hg : Bc (k0_pay10 v0 v1 v2) g) :
    Bw (k0_pay15 k0_pay11 (k0_pay12 v0 v1 v2) k0_pay13 (k0_pay14 v0 v1 v2) (Scalar.ofBits .f32 0x00000000#32))
      fun c => upTo (g c) 64 := by
  have h0 : Bw _ fun c => upTo (g c) 1 := fun r d => (hg.wide r d).trans (congrArg (fun z : ℝ => (z : EReal)) (upTo_one _ _).symm)
  exact ((((((h0.up 1 (by norm_num) (by decide) rfl row_at).up 2 (by norm_num) (by decide) rfl row_at).up 4 (by norm_num) (by decide) rfl row_at).up
    8 (by norm_num) (by decide) rfl row_at).up 16 (by norm_num) (by decide) rfl row_at).up 32 (by norm_num) (by decide) rfl row_at)

/-- The word the kernel divides positions by. -/
abbrev len : BitVec 32 := Scalar.select (Scalar.cmpi .eq 64#32 0#32) 1#32 64#32

/-- The running sums from the chunk's end, with a column added. -/
theorem sums_from {X Y : Fin 8 → Fin 64 → ℝ} {a : FVec Ideal S512x128 .f32} (ha : Bw a X) {f : Fin 8 → FVec Ideal S64x1 .f32}
    (hf : ∀ c, Cl (f c) (Y c)) :
    Bc (k0_pay397 (f 0) (f 1) (f 2) (f 3) (f 4) (f 5) (f 6) (f 7) (k0_pay395 len k0_pay394) (k0_pay396 a len k0_pay394))
      fun c i => onFrom (X c) 64 i + Y c i := by
  have h0 : Bw a fun c => onFrom (X c) 1 := fun r d => (ha r d).trans (congrArg (fun z : ℝ => (z : EReal)) (onFrom_one _ _).symm)
  have h1 := ((((((h0.down 1 (by norm_num) (m := 63#32) (by decide) rfl row_at').down 2 (by norm_num) (m := 62#32) (by decide) rfl row_at').down
    4 (by norm_num) (m := 60#32) (by decide) rfl row_at').down 8 (by norm_num) (m := 56#32) (by decide) rfl row_at').down
    16 (by norm_num) (m := 48#32) (by decide) rfl row_at').down 32 (by norm_num) (m := 32#32) (by decide) rfl row_at').col
  intro r u
  refine (congrArg₂ (fun x y : EReal => x + y) (h1 r u) (Bc.stack hf r u)).trans ?_
  exact (EReal.coe_add _ _).symm

section Point

variable {i : grid0.Coords} {h : Fin 8} (hi : (i 1).val = h.val)
include hi

theorem lane16 (l : Fin 16) : (IntOp.cmpi .eq (BitVec.ofNat 32 l.val) (BitVec.ofNat 32 (i 1).val) : BitVec 1)
    = if l.val = h.val then 1#1 else 0#1 := by
  rw [hi]
  clear hi
  revert l h
  decide +kernel

theorem lane16' (l : Fin 16) : (IntOp.cmpi .eq (BitVec.ofNat 32 l.val) (Scalar.addi 8#32 (BitVec.ofNat 32 (i 1).val)) : BitVec 1)
    = if l.val = 8 + h.val then 1#1 else 0#1 := by
  rw [hi]
  clear hi
  revert l h
  decide +kernel

theorem lane8 (l : Fin 8) : (IntOp.cmpi .eq (BitVec.ofNat 32 l.val) (BitVec.ofNat 32 (i 1).val) : BitVec 1)
    = if l.val = h.val then 1#1 else 0#1 := by
  rw [hi]
  clear hi
  revert l h
  decide +kernel

omit hi in
theorem pick {n : ℕ} (x : Fin n → ℝ) (k : Fin n) : (∑ l : Fin n, if l.val = k.val then ((x l : ℝ) : EReal) else ((0 : ℝ) : EReal)) = ((x k : ℝ) : EReal) := by
  rw [Finset.sum_eq_single k]
  · rw [if_pos rfl]
  · intro j _ hj
    rw [if_neg fun e => hj (Fin.ext e), EReal.coe_zero]
  · exact fun e => absurd (Finset.mem_univ k) e

variable {b : FVec Ideal S512x16 .f32} {B : Fin 512 → Fin 16 → ℝ} (hb : ∀ r l, (b (ix2 r l) : EReal) = ((B r l : ℝ) : EReal))
variable {a dt : FVec Ideal S1x8 .f32} {A D : Fin 8 → ℝ} (ha : ∀ l, (a (ix2 (0 : Fin 1) l) : EReal) = ((A l : ℝ) : EReal))
  (hd : ∀ l, (dt (ix2 (0 : Fin 1) l) : EReal) = ((D l : ℝ) : EReal))

include hb in
theorem raw_at (r : Fin 512) (u : Fin 1) : ((k0_pay4 (F := Ideal) i b) (ix2 r u) : EReal) = ((B r (⟨8 + h.val, by omega⟩ : Fin 16) : ℝ) : EReal) := by
  pointwise [k0_pay4]
  simp only [lane16' hi, select_if, hb]
  rw [← EReal.coe_zero]
  exact pick (B r) ⟨8 + h.val, by omega⟩

include hb in
theorem beta_at (r : Fin 512) (u : Fin 1) : ((k0_pay6 (F := Ideal) i b) (ix2 r u) : EReal) = ((sig (B r (⟨h.val, by omega⟩ : Fin 16)) : ℝ) : EReal) := by
  have h1 : (∑ l : Fin 16, if l.val = h.val then ((B r l : ℝ) : EReal) else ((0 : ℝ) : EReal)) = _ := pick (B r) ⟨h.val, by omega⟩
  rw [EReal.coe_zero] at h1
  pointwise [k0_pay6]
  simp only [lane16 hi, select_if, hb, h1]
  rw [← EReal.coe_zero, ← EReal.coe_sub, zero_sub, Ideal.exp_coe, ← EReal.coe_one, ← EReal.coe_add]
  exact div_real (by positivity)

include ha in
theorem alog_at (u w : Fin 1) : ((k0_pay5 (F := Ideal) i a) (ix2 u w) : EReal) = ((A h : ℝ) : EReal) := by
  have h1 := pick A h
  rw [EReal.coe_zero] at h1
  pointwise [k0_pay5]
  simp only [lane8 hi, select_if, ha, h1]

include hd in
theorem bias_at (r : Fin 512) (u : Fin 1) : ((k0_pay7 (F := Ideal) i dt) (ix2 r u) : EReal) = ((D h : ℝ) : EReal) := by
  have h1 := pick D h
  rw [EReal.coe_zero] at h1
  pointwise [k0_pay7]
  simp only [lane8 hi, select_if, hd, h1]

include ha hb hd in
theorem decay_at (r : Fin 512) (u : Fin 1) : (k0_pay10 (F := Ideal) (k0_pay4 (F := Ideal) i b) (k0_pay5 (F := Ideal) i a) (k0_pay7 (F := Ideal) i dt) (ix2 r u) : EReal)
    = ((-Real.exp (A h) * softplus (B r (⟨8 + h.val, by omega⟩ : Fin 16) + D h) : ℝ) : EReal) := by
  have h1 := alog_at hi ha
  have h2 := raw_at hi hb r u
  have h3 := bias_at hi hd r u
  generalize k0_pay4 (F := Ideal) i b = x at h2 ⊢
  generalize k0_pay5 (F := Ideal) i a = y at h1 ⊢
  generalize k0_pay7 (F := Ideal) i dt = z at h3 ⊢
  pointwise [k0_pay10, k0_pay8, k0_pay9]
  rw [h1, h2, h3, ← EReal.coe_add, Ideal.absf_def, abs_real, ← EReal.coe_zero, ← EReal.coe_sub, ← EReal.coe_one, Ideal.exp_coe, Ideal.exp_coe, ← EReal.coe_sub,
    ← EReal.coe_add, log_real (by positivity), coe_max, ← EReal.coe_add, ← EReal.coe_mul, zero_sub, zero_sub]
  rfl

end Point

section Back

variable {x : FVec Ideal S512x1 .f32} {e : FVec Ideal S1x1 .f32} {X DG Be DB G : Fin 8 → Fin 64 → ℝ} {E : ℝ} (hx : Bc x X)
  (he : (e (ix2 (0 : Fin 1) (0 : Fin 1)) : EReal) = ((E : ℝ) : EReal)) {f : Fin 8 → FVec Ideal S64x1 .f32} {M : IVec S512x128 32} {P : FVec Ideal S512x128 .f32}
  (hdg : Bc (k0_pay397 (f 0) (f 1) (f 2) (f 3) (f 4) (f 5) (f 6) (f 7) M P) DG)

include hx he hdg in
/-- The cotangent of what the decay's gate is taken of. -/
theorem dxa_at : Bc (k0_pay398 x e (f 0) (f 1) (f 2) (f 3) (f 4) (f 5) (f 6) (f 7) M P) fun c i => DG c i * -E * sig (X c i) := by
  intro r u
  have h1 := hdg r u
  have h2 := hx r u
  pointwise [k0_pay398]
  generalize k0_pay397 (f 0) (f 1) (f 2) (f 3) (f 4) (f 5) (f 6) (f 7) M P = d at h1 ⊢
  rw [h1, h2, he, ← EReal.coe_zero, ← EReal.coe_sub, ← EReal.coe_sub, zero_sub, zero_sub, Ideal.exp_coe, ← EReal.coe_one, ← EReal.coe_add,
    div_real (by positivity), ← EReal.coe_mul, ← EReal.coe_mul]
  rfl

variable {i : grid0.Coords} {h : Fin 8} (hi : (i 1).val = h.val) {β : FVec Ideal S512x1 .f32} (hβ : Bc β Be)
  {g : Fin 8 → FVec Ideal S64x1 .f32} (hg : ∀ c, Cl (g c) (DB c))
include hi

include hx he hdg hβ hg in
/-- What a head adds to the cotangent of the gates' inputs. -/
theorem dba_at (r : Fin 512) (l : Fin 16) : (k0_pay399 (BitVec.ofNat 32 (i 1).val) β x e (g 0) (f 0) (g 1) (f 1) (g 2) (f 2) (g 3) (f 3)
    (g 4) (f 4) (g 5) (f 5) (g 6) (f 6) (g 7) (f 7) M P (ix2 r l) : EReal)
    = (((if l.val = h.val then DB (cOf r) (iOf r) * Be (cOf r) (iOf r) * (1 - Be (cOf r) (iOf r)) else 0)
      + (if l.val = 8 + h.val then DG (cOf r) (iOf r) * -E * sig (X (cOf r) (iOf r)) else 0) : ℝ) : EReal) := by
  have h1 := dxa_at hx he hdg r 0
  have h2 := Bc.stack hg r 0
  have h3 := hβ r 0
  unfold k0_pay399
  generalize k0_pay398 x e (f 0) (f 1) (f 2) (f 3) (f 4) (f 5) (f 6) (f 7) M P = a at h1 ⊢
  generalize concatenate S512x1 0 [⟨S64x1, g 0⟩, ⟨S64x1, g 1⟩, ⟨S64x1, g 2⟩, ⟨S64x1, g 3⟩, ⟨S64x1, g 4⟩, ⟨S64x1, g 5⟩, ⟨S64x1, g 6⟩, ⟨S64x1, g 7⟩]
      concatenates_S64x1_S64x1_S64x1_S64x1_S64x1_S64x1_S64x1_S64x1_S512x1_d0 = b at h2 ⊢
  pointwise
  rw [lane16 hi, lane16' hi, select_if, select_if, h1, h2, h3, ← EReal.coe_zero, ← EReal.coe_one, ← EReal.coe_sub, ← EReal.coe_mul, ← EReal.coe_mul,
    coe_ite, coe_ite, ← EReal.coe_add]

omit hi in
theorem rows_sum (x : Fin 8 → Fin 64 → ℝ) : (∑ r : Fin 512, x (cOf r) (iOf r)) = ∑ c, ∑ i, x c i :=
  Fin.sum_divmod_congr fun _ _ _ => rfl

include hdg in
/-- What a head adds to the cotangent of the decays' logarithms. -/
theorem dal_at {γ : FVec Ideal S512x1 .f32} (hγ : Bc γ G) (u : Fin 1) (l : Fin 8) :
    (k0_pay402 (k0_pay400 (BitVec.ofNat 32 (i 1).val)) (k0_pay401 γ (f 0) (f 1) (f 2) (f 3) (f 4) (f 5) (f 6) (f 7) M P)
      (Scalar.ofBits .f32 0x00000000#32) (ix2 u l) : EReal) = ((if l.val = h.val then ∑ c, ∑ i, DG c i * G c i else 0 : ℝ) : EReal) := by
  have h1 : ∀ r, _ := fun r => hdg r 0
  have h2 : ∀ r, _ := fun r => hγ r 0
  unfold k0_pay402 k0_pay401 k0_pay400
  generalize k0_pay397 (f 0) (f 1) (f 2) (f 3) (f 4) (f 5) (f 6) (f 7) M P = d at h1 ⊢
  pointwise
  rw [lane8 hi, select_if]
  simp only [h1, h2, ← EReal.coe_mul, coe_sum]
  rw [← EReal.coe_zero, coe_ite, rows_sum fun c i => DG c i * G c i]

include hx he hdg in
/-- What a head adds to the cotangent of the decays' biases. -/
theorem ddt_at (u : Fin 1) (l : Fin 8) :
    (k0_pay403 (BitVec.ofNat 32 (i 1).val) (k0_pay398 x e (f 0) (f 1) (f 2) (f 3) (f 4) (f 5) (f 6) (f 7) M P)
      (iota .tc S1x8 32 [1] iota_S1x8_d1_w32) (ix2 u l) : EReal)
      = ((if l.val = h.val then ∑ c, ∑ i, DG c i * -E * sig (X c i) else 0 : ℝ) : EReal) := by
  have h1 : ∀ r, _ := fun r => dxa_at hx he hdg r 0
  unfold k0_pay403
  generalize k0_pay398 x e (f 0) (f 1) (f 2) (f 3) (f 4) (f 5) (f 6) (f 7) M P = a at h1 ⊢
  pointwise
  rw [lane8 hi, select_if]
  simp only [h1, coe_sum]
  rw [← EReal.coe_zero, coe_ite, rows_sum fun c i => DG c i * -E * sig (X c i)]

end Back

end Cert.LocalGates

end
-- ==== Proof.LocalBlocks.lean ====
/-
The blocks a grid point of the kernel works on: eight chunks of one head, as reals.
-/
module

public import proofs.«01_k».proof.Proof.LocalEntry
public import proofs.«01_k».proof.Proof.LocalTile
public import proofs.«01_k».proof.Proof.LocalGates
public import Idealize.ShloMosaic.Lib.Pipeline.ValueKit

@[expose] public section

set_option maxRecDepth 16384

noncomputable section

namespace Cert.LocalBlocks

open Cert.RealLift Cert.LocalData Cert.DeltaSpec Cert.InverseGrad Cert.LocalTile Cert.LocalGates Idealize.ShloMosaic
open Idealize.ShloMosaic.Pipeline
open Cert.LocalKernelIdeal Cert.LocalKernelIdeal.Gen

variable (m : (ℓ : Loc nD τ sig) → Buf (Elt Ideal) ℓ)

theorem idx : ∀ t : Fin cfg0.N, win0_0.index t = ![t.val / 8, t.val % 8] ∧ win0_1.index t = ![t.val / 8, 8 + t.val % 8]
    ∧ win0_2.index t = ![t.val / 8, 16 + t.val % 8] ∧ win0_3.index t = ![t.val / 8, 0] ∧ win0_4.index t = ![0, 0] ∧ win0_5.index t = ![0, 0]
    ∧ win0_6.index t = ![t.val % 8, t.val / 8, 0] ∧ win0_7.index t = ![t.val / 8, t.val % 8] ∧ win0_8.index t = ![t.val / 8, t.val % 8]
    ∧ win0_9.index t = ![t.val / 8, t.val % 8] ∧ win0_10.index t = ![t.val / 8, t.val % 8] ∧ win0_11.index t = ![t.val % 8, t.val / 8, 0]
    ∧ win0_12.index t = ![t.val % 8, t.val / 8, 0] ∧ win0_13.index t = ![t.val / 8, t.val % 8] ∧ win0_14.index t = ![t.val / 8, t.val % 8]
    ∧ win0_15.index t = ![t.val / 8, t.val % 8] ∧ win0_16.index t = ![t.val / 8, 0] ∧ win0_17.index t = ![0, 0] ∧ win0_18.index t = ![0, 0] :=
  (by decide +kernel : ∀ t : Fin grid0.N, _)

theorem point_head : ∀ t : Fin cfg0.N, (grid0.coords t 1).val = t.val % 8 :=
  (by decide +kernel : ∀ t : Fin grid0.N, _)

/-- The head a grid point works on. -/
def hd (t : Fin cfg0.N) : Fin 8 := ⟨t.val % 8, by omega⟩

/-- The row of the arrays that is row `r` of a grid point's block. -/
def at_row (t : Fin cfg0.N) (r : Fin 512) : Fin 4096 :=
  ⟨t.val / 8 * 512 + r.val, by have := lt_of_lt_of_eq t.isLt N_0; have := r.isLt; omega⟩

/-- The chunk that is chunk `k` of a grid point's block. -/
def chk (t : Fin cfg0.N) (k : Fin 8) : Fin 64 :=
  ⟨t.val / 8 * 8 + k.val, by have := lt_of_lt_of_eq t.isLt N_0; have := k.isLt; omega⟩

/-- Row `i` of chunk `k`, in a block. -/
def inb (k : Fin 8) (i : Fin 64) : Fin 512 := ⟨64 * k.val + i.val, by omega⟩

theorem at_row_inb (t : Fin cfg0.N) (k : Fin 8) (i : Fin 64) : at_row t (inb k i) = pos (chk t k) i :=
  Fin.ext (by simp only [at_row, inb, pos, chk]; omega)

theorem at_row_pos (t : Fin cfg0.N) (r : Fin 512) : at_row t r = pos (chk t (cOf r)) (iOf r) :=
  Fin.ext (by simp only [at_row, pos, chk, cOf, iOf]; omega)

/-! ## Loads of a chunk out of a block -/

section Loads

variable {e : EltTy} (k : Fin 8) (o : ℕ) (ho : o = 64 * k.val)

include ho in
theorem ld_wide (a : S512x128.Idx → Elt Ideal e) (hb) (i : Fin 64) (d : Fin 128) :
    (View.ld a (Rect.unit (s := S512x128) ![o, 0] ![64, 128] hb) : (S64x128).Idx → Elt Ideal e) (ix2 i d) = a (ix2 (inb k i) d) := by
  refine congrArg a (funext fun b => Fin.ext ?_)
  fin_cases b
  · show o + 1 * i.val = 64 * k.val + i.val; omega
  · show 0 + 1 * d.val = d.val; omega

include ho in
theorem ld_square (a : S1x512x64.Idx → Elt Ideal e) (hb) (u : Fin 1) (i j : Fin 64) :
    (View.ld a (Rect.unit (s := S1x512x64) ![0, o, 0] ![1, 64, 64] hb) : (S1x64x64).Idx → Elt Ideal e) (ix3 u i j) = a (ix3 0 (inb k i) j) := by
  refine congrArg a (funext fun b => Fin.ext ?_)
  fin_cases b
  · show 0 + 1 * u.val = 0; omega
  · show o + 1 * i.val = 64 * k.val + i.val; omega
  · show 0 + 1 * j.val = j.val; omega

theorem ld_one (a : S1x8x128.Idx → Elt Ideal e) (q : ℕ) (hq : q = k.val) (hb) (u v w : Fin 1) :
    (View.ld a (Rect.unit (s := S1x8x128) ![0, q, 0] ![1, 1, 1] hb) : (S1x1x1).Idx → Elt Ideal e) (ix3 u v w) = a (ix3 0 k 0) := by
  refine congrArg a (funext fun b => Fin.ext ?_)
  fin_cases b
  · show 0 + 1 * u.val = 0; omega
  · show q + 1 * v.val = k.val; omega
  · show 0 + 1 * w.val = 0; omega

end Loads

/-! ## The blocks of a grid point -/

section Reads

variable (c : Dev nD) (t : Fin cfg0.N)

theorem blk0 (r : Fin 512) (d : Fin 128) :
    iblk m c 0 t (ix2 r d) = m ((c.tc : Thread nD τ).loc main_arg0) (ix2 (at_row t r) (⟨(hd t).val * 128 + d.val, by omega⟩ : Fin 3072)) := by
  blk_ext [iblk, V_main_arg0, idx t, at_row, hd]

theorem blk1 (r : Fin 512) (d : Fin 128) :
    iblk m c 1 t (ix2 r d) = m ((c.tc : Thread nD τ).loc main_arg0) (ix2 (at_row t r) (⟨1024 + ((hd t).val * 128 + d.val), by omega⟩ : Fin 3072)) := by
  blk_ext [iblk, V_main_arg0, idx t, at_row, hd]

theorem blk2 (r : Fin 512) (d : Fin 128) :
    iblk m c 2 t (ix2 r d) = m ((c.tc : Thread nD τ).loc main_arg0) (ix2 (at_row t r) (⟨2048 + ((hd t).val * 128 + d.val), by omega⟩ : Fin 3072)) := by
  blk_ext [iblk, V_main_arg0, idx t, at_row, hd]

theorem blk3 (r : Fin 512) (l : Fin 16) : iblk m c 3 t (ix2 r l) = m ((c.tc : Thread nD τ).loc main_arg1) (ix2 (at_row t r) l) := by
  blk_ext [iblk, V_main_arg1, idx t, at_row]

theorem blk4 (u : Fin 1) (l : Fin 8) : iblk m c 4 t (ix2 u l) = V m c main_v79 (ix2 u l) := by
  unfold iblk
  generalize V m c = W
  blk_ext [idx t]

theorem blk5 (u : Fin 1) (l : Fin 8) : iblk m c 5 t (ix2 u l) = V m c main_v80 (ix2 u l) := by
  unfold iblk
  generalize V m c = W
  blk_ext [idx t]

theorem read6 (W : S8x4096x64.Idx → EReal) (u : Fin 1) (r : Fin 512) (j : Fin 64) :
    (((cfg0.win 6).blk t).view.read (Elt Ideal) W (ix3 u r j) : EReal) = W (ix3 (hd t) (at_row t r) j) := by
  blk_ext [idx t, at_row, hd]

theorem blk6 (u : Fin 1) (r : Fin 512) (j : Fin 64) : iblk m c 6 t (ix3 u r j) = V m c main_v78 (ix3 (hd t) (at_row t r) j) :=
  read6 t (V m c main_v78) u r j

theorem blk7 (r : Fin 512) (d : Fin 128) :
    iblk m c 7 t (ix2 r d) = m ((c.tc : Thread nD τ).loc main_arg4) (ix2 (at_row t r) (chan (hd t) d)) := by
  blk_ext [iblk, V_main_arg4, idx t, at_row, hd, chan]

theorem blk8 (r : Fin 512) (d : Fin 128) :
    iblk m c 8 t (ix2 r d) = m ((c.tc : Thread nD τ).loc main_arg5) (ix2 (at_row t r) (chan (hd t) d)) := by
  blk_ext [iblk, V_main_arg5, idx t, at_row, hd, chan]

theorem blk9 (r : Fin 512) (d : Fin 128) :
    iblk m c 9 t (ix2 r d) = m ((c.tc : Thread nD τ).loc main_arg6) (ix2 (at_row t r) (chan (hd t) d)) := by
  blk_ext [iblk, V_main_arg6, idx t, at_row, hd, chan]

theorem blk10 (r : Fin 512) (d : Fin 128) :
    iblk m c 10 t (ix2 r d) = m ((c.tc : Thread nD τ).loc main_arg7) (ix2 (at_row t r) (chan (hd t) d)) := by
  blk_ext [iblk, V_main_arg7, idx t, at_row, hd, chan]

theorem blk11 (u : Fin 1) (r : Fin 512) (j : Fin 64) :
    iblk m c 11 t (ix3 u r j) = m ((c.tc : Thread nD τ).loc main_arg8) (ix3 (hd t) (at_row t r) j) := by
  blk_ext [iblk, V_main_arg8, idx t, at_row, hd]

theorem blk12 (u : Fin 1) (k : Fin 8) (l : Fin 128) : iblk m c 12 t (ix3 u k l) = V m c main_v82 (ix3 (hd t) (chk t k) l) := by
  unfold iblk
  generalize V m c = W
  blk_ext [idx t, chk, hd]

end Reads

end Cert.LocalBlocks

end
-- ==== Proof.LocalChunk.lean ====
/-
What the loads of a grid point of the kernel hold, chunk by chunk: `LocalTile.Tile` at the chunk's reals.
-/
module

public import proofs.«01_k».proof.Proof.LocalBlocks

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable (m : (ℓ : Loc nD τ sig) → Buf (Elt Ideal) ℓ)
variable (x0 : Qkv) (x1 : Ba) (x2 x3 : Heads) (x4 x5 x6 x7 : Wide) (x8 : Attn) (x9 : Ends)

/-- The arguments are these reals. -/
structure Args (c : Dev nD) : Prop where
  x0 : m ((c.tc : Thread nD τ).loc main_arg0) = up x0
  x1 : m ((c.tc : Thread nD τ).loc main_arg1) = up x1
  x2 : m ((c.tc : Thread nD τ).loc main_arg2) = up x2
  x3 : m ((c.tc : Thread nD τ).loc main_arg3) = up x3
  x4 : m ((c.tc : Thread nD τ).loc main_arg4) = up x4
  x5 : m ((c.tc : Thread nD τ).loc main_arg5) = up x5
  x6 : m ((c.tc : Thread nD τ).loc main_arg6) = up x6
  x7 : m ((c.tc : Thread nD τ).loc main_arg7) = up x7
  x8 : m ((c.tc : Thread nD τ).loc main_arg8) = up x8
  x9 : m ((c.tc : Thread nD τ).loc main_arg9) = up x9

variable {m x0 x1 x2 x3 x4 x5 x6 x7 x8 x9} {c : Dev nD} (h : Args m x0 x1 x2 x3 x4 x5 x6 x7 x8 x9 c) (t : Fin cfg0.N)
include h

/-! ## The gates -/

theorem ba_at (r : Fin 512) (l : Fin 16) : ((iblk m c 3 t : FVec Ideal S512x16 .f32) (ix2 r l) : EReal) = ((x1 (ix2 (at_row t r) l) : ℝ) : EReal) :=
  (blk3 m c t r l).trans (congrFun h.x1 _)

theorem alog_in (l : Fin 8) : ((iblk m c 4 t : FVec Ideal S1x8 .f32) (ix2 (0 : Fin 1) l) : EReal) = ((x2 (ix1 l) : ℝ) : EReal) := by
  refine (blk4 m c t 0 l).trans ?_
  rw [V_alog, h.x2]
  pointwise
  rfl

theorem bias_in (l : Fin 8) : ((iblk m c 5 t : FVec Ideal S1x8 .f32) (ix2 (0 : Fin 1) l) : EReal) = ((x3 (ix1 l) : ℝ) : EReal) := by
  refine (blk5 m c t 0 l).trans ?_
  rw [V_dt, h.x3]
  pointwise
  rfl

/-- The raw decay gate, its bias, its logarithm and the write strength of a grid point's rows. -/
abbrev raw (m : (ℓ : Loc nD τ sig) → Buf (Elt Ideal) ℓ) (c : Dev nD) (t : Fin cfg0.N) : FVec Ideal S512x1 .f32 := k0_pay4 (grid0.coords t) (iblk m c 3 t)
abbrev alog (m : (ℓ : Loc nD τ sig) → Buf (Elt Ideal) ℓ) (c : Dev nD) (t : Fin cfg0.N) : FVec Ideal S1x1 .f32 := k0_pay5 (grid0.coords t) (iblk m c 4 t)
abbrev bias (m : (ℓ : Loc nD τ sig) → Buf (Elt Ideal) ℓ) (c : Dev nD) (t : Fin cfg0.N) : FVec Ideal S512x1 .f32 := k0_pay7 (grid0.coords t) (iblk m c 5 t)
abbrev beta (m : (ℓ : Loc nD τ sig) → Buf (Elt Ideal) ℓ) (c : Dev nD) (t : Fin cfg0.N) : FVec Ideal S512x1 .f32 := k0_pay6 (grid0.coords t) (iblk m c 3 t)

/-- The sums of the log decays from each chunk's start. -/
abbrev sums (m : (ℓ : Loc nD τ sig) → Buf (Elt Ideal) ℓ) (c : Dev nD) (t : Fin cfg0.N) : FVec Ideal S512x128 .f32 :=
  k0_pay15 k0_pay11 (k0_pay12 (raw m c t) (alog m c t) (bias m c t)) k0_pay13 (k0_pay14 (raw m c t) (alog m c t) (bias m c t))
    (Scalar.ofBits .f32 0x00000000#32)

theorem beta_in : Bc (beta m c t) fun k i => bet x1 (pos (chk t k) i) (hd t) := fun r u => by
  refine (beta_at (h := hd t) (point_head t) (B := fun r l => x1 (ix2 (at_row t r) l)) (ba_at h t) r u).trans ?_
  rw [at_row_pos]
  rfl

theorem decay_in : Bc (k0_pay10 (raw m c t) (alog m c t) (bias m c t)) fun k i => gam x1 x2 x3 (pos (chk t k) i) (hd t) := fun r u => by
  refine (decay_at (h := hd t) (point_head t) (B := fun r l => x1 (ix2 (at_row t r) l)) (A := fun l => x2 (ix1 l)) (D := fun l => x3 (ix1 l))
    (ba_at h t) (alog_in h t) (bias_in h t) r u).trans ?_
  rw [at_row_pos]
  rfl

theorem sums_in : Bw (sums m c t) fun k i => G (ch x0 x1 x2 x3 (hd t) (chk t k)) i := fun r d =>
  (sums_at (decay_in h t) r d).trans (congrArg (fun z : ℝ => (z : EReal)) (upTo_all _ _))

/-! ## A chunk -/

section Chunk

variable (k : Fin 8) (o : ℕ) (ho : o = 64 * k.val)
include ho

omit h in
theorem inb_c (i : Fin 64) : cOf (inb k i) = k ∧ iOf (inb k i) = i :=
  ⟨Fin.ext (by simp only [cOf, inb]; omega), Fin.ext (by simp only [iOf, inb]; omega)⟩

theorem ld_q (hb) : Wd (φ := .f32) (View.ld (iblk m c 0 t) (Rect.unit (s := S512x128) ![o, 0] ![64, 128] hb))
    fun i d => x0 (ix2 (pos (chk t k) i) (⟨(hd t).val * 128 + d.val, by omega⟩ : Fin 3072)) := fun i d => by
  refine (ld_wide k o ho (iblk m c 0 t) hb i d).trans ((blk0 m c t _ d).trans ((congrFun h.x0 _).trans ?_))
  rw [at_row_inb]; rfl

theorem ld_k (hb) : Wd (φ := .f32) (View.ld (iblk m c 1 t) (Rect.unit (s := S512x128) ![o, 0] ![64, 128] hb))
    (ch x0 x1 x2 x3 (hd t) (chk t k)).k := fun i d => by
  refine (ld_wide k o ho (iblk m c 1 t) hb i d).trans ((blk1 m c t _ d).trans ((congrFun h.x0 _).trans ?_))
  rw [at_row_inb]; rfl

theorem ld_v (hb) : Wd (φ := .f32) (View.ld (iblk m c 2 t) (Rect.unit (s := S512x128) ![o, 0] ![64, 128] hb))
    (ch x0 x1 x2 x3 (hd t) (chk t k)).v := fun i d => by
  refine (ld_wide k o ho (iblk m c 2 t) hb i d).trans ((blk2 m c t _ d).trans ((congrFun h.x0 _).trans ?_))
  rw [at_row_inb]; rfl

theorem ld_du (hb) : Wd (φ := .bf16) (View.ld (iblk m c 7 t) (Rect.unit (s := S512x128) ![o, 0] ![64, 128] hb))
    (ct x4 x5 x6 x7 x8 x9 (hd t) (chk t k)).du := fun i d => by
  refine (ld_wide k o ho (iblk m c 7 t) hb i d).trans ((blk7 m c t _ d).trans ((congrFun h.x4 _).trans ?_))
  rw [at_row_inb]; rfl

theorem ld_dw (hb) : Wd (φ := .bf16) (View.ld (iblk m c 8 t) (Rect.unit (s := S512x128) ![o, 0] ![64, 128] hb))
    (ct x4 x5 x6 x7 x8 x9 (hd t) (chk t k)).dw := fun i d => by
  refine (ld_wide k o ho (iblk m c 8 t) hb i d).trans ((blk8 m c t _ d).trans ((congrFun h.x5 _).trans ?_))
  rw [at_row_inb]; rfl

theorem ld_dqd (hb) : Wd (φ := .f32) (View.ld (iblk m c 9 t) (Rect.unit (s := S512x128) ![o, 0] ![64, 128] hb))
    (ct x4 x5 x6 x7 x8 x9 (hd t) (chk t k)).dq := fun i d => by
  refine (ld_wide k o ho (iblk m c 9 t) hb i d).trans ((blk9 m c t _ d).trans ((congrFun h.x6 _).trans ?_))
  rw [at_row_inb]; rfl

theorem ld_dkd (hb) : Wd (φ := .f32) (View.ld (iblk m c 10 t) (Rect.unit (s := S512x128) ![o, 0] ![64, 128] hb))
    (ct x4 x5 x6 x7 x8 x9 (hd t) (chk t k)).dk := fun i d => by
  refine (ld_wide k o ho (iblk m c 10 t) hb i d).trans ((blk10 m c t _ d).trans ((congrFun h.x7 _).trans ?_))
  rw [at_row_inb]; rfl

theorem ld_dat (hb) : Sq (k0_pay35 (View.ld (iblk m c 11 t) (Rect.unit (s := S1x512x64) ![0, o, 0] ![1, 64, 64] hb) : FVec Ideal S1x64x64 .f32))
    (Matrix.of (ct x4 x5 x6 x7 x8 x9 (hd t) (chk t k)).da) := fun i j => by
  have h1 : ∀ u : Fin 1, (View.ld (iblk m c 11 t) (Rect.unit (s := S1x512x64) ![0, o, 0] ![1, 64, 64] hb) : FVec Ideal S1x64x64 .f32) (ix3 u i j)
      = ((x8 (ix3 (hd t) (pos (chk t k) i) j) : ℝ) : EReal) := fun u => by
    refine (ld_square k o ho (iblk m c 11 t) hb u i j).trans ((blk11 m c t _ _ _).trans ((congrFun h.x8 _).trans ?_))
    rw [at_row_inb]; rfl
  generalize (View.ld (iblk m c 11 t) (Rect.unit (s := S1x512x64) ![0, o, 0] ![1, 64, 64] hb) : FVec Ideal S1x64x64 .f32) = a at h1 ⊢
  pointwise [k0_pay35]
  exact h1 _

theorem ld_ti (hb) : Sq (k0_pay33 (View.ld (iblk m c 6 t) (Rect.unit (s := S1x512x64) ![0, o, 0] ![1, 64, 64] hb) : FVec Ideal S1x64x64 .f32))
    (T (ch x0 x1 x2 x3 (hd t) (chk t k))) := fun i j => by
  have h1 : ∀ u : Fin 1, (View.ld (iblk m c 6 t) (Rect.unit (s := S1x512x64) ![0, o, 0] ![1, 64, 64] hb) : FVec Ideal S1x64x64 .f32) (ix3 u i j)
      = ((T (ch x0 x1 x2 x3 (hd t) (chk t k)) i j : ℝ) : EReal) := fun u => by
    refine (ld_square k o ho (iblk m c 6 t) hb u i j).trans ((blk6 m c t _ _ _).trans ?_)
    have h2 := LocalRef.T5_at x0 x1 x2 x3 (hd t) (chk t k) i j
    rw [V_tinv, h.x0, h.x1, h.x2, h.x3, at_row_inb]
    generalize LocalReferenceIdeal.Read.val_main_v95 (F := Ideal) (up x0) (up x1) (up x2) (up x3) = a at h2 ⊢
    refine Eq.trans ?_ h2
    pointwise
    refine congrArg a (funext fun b => Fin.ext ?_)
    fin_cases b
    · rfl
    · show (pos (chk t k) i).val / 64 = (chk t k).val
      simp only [pos]; omega
    · show (pos (chk t k) i).val % 64 = i.val
      simp only [pos]; omega
    · rfl
  generalize (View.ld (iblk m c 6 t) (Rect.unit (s := S1x512x64) ![0, o, 0] ![1, 64, 64] hb) : FVec Ideal S1x64x64 .f32) = a at h1 ⊢
  pointwise [k0_pay33]
  exact h1 _

omit ho in
theorem ld_dl (q : ℕ) (hq : q = k.val) (hb) : One (shapeCast S1x1 (View.ld (iblk m c 12 t) (Rect.unit (s := S1x8x128) ![0, q, 0] ![1, 1, 1] hb) : FVec Ideal S1x1x1 .f32)
    shapeCasts_S1x1x1_S1x1) (ct x4 x5 x6 x7 x8 x9 (hd t) (chk t k)).dl := fun u w => by
  have h1 : ∀ u v w : Fin 1, (View.ld (iblk m c 12 t) (Rect.unit (s := S1x8x128) ![0, q, 0] ![1, 1, 1] hb) : FVec Ideal S1x1x1 .f32) (ix3 u v w)
      = ((x9 (ix2 (hd t) (chk t k)) : ℝ) : EReal) := fun u v w => by
    refine (ld_one k (iblk m c 12 t) q hq hb u v w).trans ((blk12 m c t _ _ _).trans ?_)
    rw [V_dl, h.x9]
    pointwise
    rfl
  generalize (View.ld (iblk m c 12 t) (Rect.unit (s := S1x8x128) ![0, q, 0] ![1, 1, 1] hb) : FVec Ideal S1x1x1 .f32) = a at h1 ⊢
  pointwise
  exact h1 _ _ _

theorem cut_beta (hs) : Cl (extractStridedSlice S64x1 ![o, 0] (beta m c t) hs) (ch x0 x1 x2 x3 (hd t) (chk t k)).β := fun i u => by
  have h1 := beta_in h t (inb k i) u
  rw [(inb_c k o ho i).1, (inb_c k o ho i).2] at h1
  refine Eq.trans (congrArg (beta m c t) (funext fun b => Fin.ext ?_)) h1
  fin_cases b
  · show o + i.val = 64 * k.val + i.val; omega
  · show 0 + u.val = u.val; omega

theorem cut_sums (hs) : Wd (extractStridedSlice S64x128 ![o, 0] (sums m c t) hs) fun i _ => G (ch x0 x1 x2 x3 (hd t) (chk t k)) i := fun i d => by
  have h1 := sums_in h t (inb k i) d
  rw [(inb_c k o ho i).1, (inb_c k o ho i).2] at h1
  refine Eq.trans (congrArg (sums m c t) (funext fun b => Fin.ext ?_)) h1
  fin_cases b
  · show o + i.val = 64 * k.val + i.val; omega
  · show 0 + d.val = d.val; omega

omit ho in
theorem last_sums (q : ℕ) (hq : q = 64 * k.val + 63) (hb) (hb') : Rw (((View.whole cc0_scratch0).readCov (Val := Elt Ideal)
    [⟨Rect.unit (s := S512x128) ![0, 0] ![512, 128] hb, k0_pay16 k0_pay11 (k0_pay12 (raw m c t) (alog m c t) (bias m c t)) k0_pay13
      (k0_pay14 (raw m c t) (alog m c t) (bias m c t)) (Scalar.ofBits .f32 0x00000000#32)⟩]
    (Rect.unit (s := S512x128) ![q, 0] ![1, 128] hb').toLoadRect : (Rect.unit (s := S512x128) ![q, 0] ![1, 128] hb').shape.Idx → Elt Ideal .f32) : FVec Ideal S1x128 .f32) (G (ch x0 x1 x2 x3 (hd t) (chk t k)) 63) := fun u d => by
  have h1 := sums_in h t (inb k 63) d
  rw [(inb_c k _ rfl 63).1, (inb_c k _ rfl 63).2] at h1
  refine (congrFun (View.readCov_eq_canon' _ _ _) _).trans ?_
  refine (congrFun (View.canon_unit_zero (S := S512x128) (by funext a; fin_cases a <;> rfl) hb _) _).trans ?_
  refine Eq.trans ?_ h1
  refine Eq.trans (congrFun (shapeCast_id (sums m c t) shapeCasts_S512x128_S512x128) _) ?_
  refine congrArg (sums m c t) (funext fun b => Fin.ext ?_)
  fin_cases b
  · show q + 1 * u.val = 64 * k.val + 63; omega
  · show 0 + 1 * d.val = d.val; omega

/-- What a chunk's loads hold. -/
theorem tile (q : ℕ) (hq : q = k.val) (e : ℕ) (he : e = 64 * k.val + 63) (h0 h1 h2 h3 h4 h5 h6 h7 h8 h9 h10 h11 h12 h13) :
    Tile (ch x0 x1 x2 x3 (hd t) (chk t k)) (ct x4 x5 x6 x7 x8 x9 (hd t) (chk t k))
      (View.ld (iblk m c 0 t) (Rect.unit (s := S512x128) ![o, 0] ![64, 128] h0))
      (View.ld (iblk m c 1 t) (Rect.unit (s := S512x128) ![o, 0] ![64, 128] h1))
      (View.ld (iblk m c 2 t) (Rect.unit (s := S512x128) ![o, 0] ![64, 128] h2))
      (extractStridedSlice S64x1 ![o, 0] (beta m c t) h3)
      (extractStridedSlice S64x128 ![o, 0] (sums m c t) h4)
      ((View.whole cc0_scratch0).readCov (Val := Elt Ideal)
        [⟨Rect.unit (s := S512x128) ![0, 0] ![512, 128] h5, k0_pay16 k0_pay11 (k0_pay12 (raw m c t) (alog m c t) (bias m c t)) k0_pay13
          (k0_pay14 (raw m c t) (alog m c t) (bias m c t)) (Scalar.ofBits .f32 0x00000000#32)⟩]
        (Rect.unit (s := S512x128) ![e, 0] ![1, 128] h6).toLoadRect)
      (View.ld (iblk m c 6 t) (Rect.unit (s := S1x512x64) ![0, o, 0] ![1, 64, 64] h7))
      (View.ld (iblk m c 7 t) (Rect.unit (s := S512x128) ![o, 0] ![64, 128] h8))
      (View.ld (iblk m c 8 t) (Rect.unit (s := S512x128) ![o, 0] ![64, 128] h9))
      (View.ld (iblk m c 9 t) (Rect.unit (s := S512x128) ![o, 0] ![64, 128] h10))
      (View.ld (iblk m c 10 t) (Rect.unit (s := S512x128) ![o, 0] ![64, 128] h11))
      (View.ld (iblk m c 11 t) (Rect.unit (s := S1x512x64) ![0, o, 0] ![1, 64, 64] h12))
      (View.ld (iblk m c 12 t) (Rect.unit (s := S1x8x128) ![0, q, 0] ![1, 1, 1] h13)) where
  neg j := gam_nonpos x1 x2 x3 (pos (chk t k) j) (hd t)
  q := (ld_q h t k o ho h0).scaled
  k := ld_k h t k o ho h1
  v := ld_v h t k o ho h2
  β := cut_beta h t k o ho h3
  g := cut_sums h t k o ho h4
  gl := last_sums h t k e he h5 h6
  ti := ld_ti h t k o ho h7
  du := ld_du h t k o ho h8
  dw := ld_dw h t k o ho h9
  dqd := ld_dqd h t k o ho h10
  dkd := ld_dkd h t k o ho h11
  dat := ld_dat h t k o ho h12
  dl := ld_dl h t k q hq h13

end Chunk

end Cert.LocalBlocks

end
-- ==== Proof.LocalPiece.lean ====
/-
Places in a grid point's block and in the arrays: the chunk, the row, the head and the channel.
-/
module

public import proofs.«01_k».proof.Proof.LocalChunk

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)

/-- The three kinds of grid points: the first, one of a later head, a later one of the first head. -/
theorem point_case : (t.val % 8 = 0 ∧ ¬1 ≤ t.val % 8 ∧ t.val % 64 = 0 ∧ ¬1 ≤ t.val) ∨ (¬t.val % 8 = 0 ∧ 1 ≤ t.val % 8 ∧ ¬t.val % 64 = 0 ∧ 1 ≤ t.val)
    ∨ (t.val % 8 = 0 ∧ ¬1 ≤ t.val % 8 ∧ ¬t.val % 64 = 0 ∧ 1 ≤ t.val) := by
  have hN := lt_of_lt_of_eq t.isLt N_0
  omega

theorem chunk_at (r : Fin 512) : chunkOf (at_row t r) = chk t (cOf r) := Fin.ext (by simp only [chunkOf, at_row, chk, cOf]; omega)

theorem row_at (r : Fin 512) : rowOf (at_row t r) = iOf r := Fin.ext (by simp only [rowOf, at_row, iOf]; omega)

theorem head_at (h : Fin 8) (d : Fin 128) : headOf (chan h d) = h := Fin.ext (by simp only [headOf, chan]; omega)

theorem dim_at (h : Fin 8) (d : Fin 128) : dimOf (chan h d) = d := Fin.ext (by simp only [dimOf, chan]; omega)

/-- A block at a place in chunk `k`, whose rows are the matrix `X k`. -/
theorem piece (X : Fin 8 → Fin 64 → Fin 128 → ℝ) (k : Fin 8) {a : FVec Ideal S64x128 .f32} (ha : Wd a (X k)) (x : S64x128.Idx) (y : S512x128.Idx)
    (h0 : (y 0).val = 64 * k.val + (x 0).val) (h1 : (y 1).val = (x 1).val) : a x = ((X (cOf (y 0)) (iOf (y 0)) (y 1) : ℝ) : EReal) := by
  idx_vars x
  have e0 : (y 0).val = 64 * k.val + x0.val := h0
  have e4 : x0.val < 64 := x0.isLt
  have e1 : y 1 = x1 := Fin.ext h1
  have e2 : cOf (y 0) = k := Fin.ext (by show (y 0).val / 64 = k.val; omega)
  have e3 : iOf (y 0) = x0 := Fin.ext (by show (y 0).val % 64 = x0.val; omega)
  rw [e1, e2, e3]
  exact ha x0 x1

end Cert.LocalBlocks

end
-- ==== Proof.LocalDq.lean ====
/-
The kernel's query gradient: a grid point's block, chunk by chunk, and the array.
-/
module

public import proofs.«01_k».proof.Proof.LocalPiece

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)

include h

/-- The query gradient of a block's rows. -/
theorem dq_block (y : S512x128.Idx) : ((outsAt0 m c t.val t.isLt).1 : FVec Ideal S512x128 .f32) y
    = (((fun i d => gq (ch x0 x1 x2 x3 (hd t) (chk t (cOf (y 0)))) (ct x4 x5 x6 x7 x8 x9 (hd t) (chk t (cOf (y 0)))) i d * scale) (iOf (y 0)) (y 1) : ℝ) : EReal) := by
  have hp : ∀ (k : Fin 8) (o : ℕ) (ho : o = 64 * k.val) (q : ℕ) (hq : q = k.val) (e : ℕ) (he : e = 64 * k.val + 63)
      (b0 b1 b2 b3 b4 b5 b6 b7 b8 b9 b10 b11 b12 b13), _ := fun k o ho q hq e he b0 b1 b2 b3 b4 b5 b6 b7 b8 b9 b10 b11 b12 b13 =>
    dq_tile (tile h t k o ho q hq e he b0 b1 b2 b3 b4 b5 b6 b7 b8 b9 b10 b11 b12 b13)
  let X : Fin 8 → Fin 64 → Fin 128 → ℝ := fun k => fun i d => gq (ch x0 x1 x2 x3 (hd t) (chk t k)) (ct x4 x5 x6 x7 x8 x9 (hd t) (chk t k)) i d * scale
  rcases point_case t with ⟨h0, h1, h2, h3⟩ | ⟨h0, h1, h2, h3⟩ | ⟨h0, h1, h2, h3⟩
  on_goal 1 => rw [outsAt0_A m c t h0 h1 h2 h3]; frame_out
  on_goal 2 => rw [outsAt0_B m c t h0 h1 h2 h3]; frame_out
  on_goal 3 => rw [outsAt0_C m c t h0 h1 h2 h3]; frame_out
  all_goals
    canon_tiles x h
    case piece0 => exact piece X 7 (hp 7 448 rfl 7 rfl 511 rfl (by decide) (by decide) (by decide) (by decide) (by decide) (by decide) (by decide) (by decide) (by decide) (by decide) (by decide) (by decide) (by decide) (by decide)) x y h0 h1
    case piece1 => exact piece X 6 (hp 6 384 rfl 6 rfl 447 rfl (by decide) (by decide) (by decide) (by decide) (by decide) (by decide) (by decide) (by decide) (by decide) (by decide) (by decide) (by decide) (by decide) (by decide)) x y h0 h1
    case piece2 => exact piece X 5 (hp 5 320 rfl 5 rfl 383 rfl (by decide) (by decide) (by decide) (by decide) (by decide) (by decide) (by decide) (by decide) (by decide) (by decide) (by decide) (by decide) (by decide) (by decide)) x y h0 h1
    case piece3 => exact piece X 4 (hp 4 256 rfl 4 rfl 319 rfl (by decide) (by decide) (by decide) (by decide) (by decide) (by decide) (by decide) (by decide) (by decide) (by decide) (by decide) (by decide) (by decide) (by decide)) x y h0 h1
    case piece4 => exact piece X 3 (hp 3 192 rfl 3 rfl 255 rfl (by decide) (by decide) (by decide) (by decide) (by decide) (by decide) (by decide) (by decide) (by decide) (by decide) (by decide) (by decide) (by decide) (by decide)) x y h0 h1
    case piece5 => exact piece X 2 (hp 2 128 rfl 2 rfl 191 rfl (by decide) (by decide) (by decide) (by decide) (by decide) (by decide) (by decide) (by decide) (by decide) (by decide) (by decide) (by decide) (by decide) (by decide)) x y h0 h1
    case piece6 => exact piece X 1 (hp 1 64 rfl 1 rfl 127 rfl (by decide) (by decide) (by decide) (by decide) (by decide) (by decide) (by decide) (by decide) (by decide) (by decide) (by decide) (by decide) (by decide) (by decide)) x y h0 h1
    case piece7 => exact piece X 0 (hp 0 0 rfl 0 rfl 63 rfl (by decide) (by decide) (by decide) (by decide) (by decide) (by decide) (by decide) (by decide) (by decide) (by decide) (by decide) (by decide) (by decide) (by decide)) x y (by simpa using h0) h1

theorem final13 : (dats m 0 c).arrAt 13 (cfgs 0).N = fun j : S4096x1024.Idx =>
    (((fun i d => gq (ch x0 x1 x2 x3 (headOf (j 1)) (chunkOf (j 0))) (ct x4 x5 x6 x7 x8 x9 (headOf (j 1)) (chunkOf (j 0))) i d * scale) (rowOf (j 0)) (dimOf (j 1)) : ℝ) : EReal) := by
  refine (dats m 0 c).arrAt_eq_of_covers 13 _ (by decide +kernel) fun t _ y => ?_
  idx_vars y
  have hj : (win0_13.blk t).view.emb (ix2 y0 y1) = (ix2 (at_row t y0) (chan (hd t) y1) : S4096x1024.Idx) := by
    blk_ext [idx t, at_row, chan, hd]
  blk_simp
  rw [after0_13, hj]
  refine (dq_block h t (ix2 y0 y1)).trans ?_
  show _ = (((fun i d => gq (ch x0 x1 x2 x3 (headOf (chan (hd t) y1)) (chunkOf (at_row t y0))) (ct x4 x5 x6 x7 x8 x9 (headOf (chan (hd t) y1)) (chunkOf (at_row t y0))) i d * scale) (rowOf (at_row t y0)) (dimOf (chan (hd t) y1)) : ℝ) : EReal)
  rw [chunk_at, row_at, head_at, dim_at]
  rfl

end Cert.LocalBlocks

end
-- ==== Proof.LocalDk.lean ====
/-
The kernel's key gradient: a grid point's block, chunk by chunk, and the array.
-/
module

public import proofs.«01_k».proof.Proof.LocalPiece

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)

include h

/-- The key gradient of a block's rows. -/
theorem dk_block (y : S512x128.Idx) : ((outsAt0 m c t.val t.isLt).2.1 : FVec Ideal S512x128 .f32) y
    = ((gk (ch x0 x1 x2 x3 (hd t) (chk t (cOf (y 0)))) (ct x4 x5 x6 x7 x8 x9 (hd t) (chk t (cOf (y 0)))) (iOf (y 0)) (y 1) : ℝ) : EReal) := by
  have hp : ∀ (k : Fin 8) (o : ℕ) (ho : o = 64 * k.val) (q : ℕ) (hq : q = k.val) (e : ℕ) (he : e = 64 * k.val + 63)
      (b0 b1 b2 b3 b4 b5 b6 b7 b8 b9 b10 b11 b12 b13), _ := fun k o ho q hq e he b0 b1 b2 b3 b4 b5 b6 b7 b8 b9 b10 b11 b12 b13 =>
    tile h t k o ho q hq e he b0 b1 b2 b3 b4 b5 b6 b7 b8 b9 b10 b11 b12 b13
  let X : Fin 8 → Fin 64 → Fin 128 → ℝ := fun k => gk (ch x0 x1 x2 x3 (hd t) (chk t k)) (ct x4 x5 x6 x7 x8 x9 (hd t) (chk t k))
  rcases point_case t with ⟨h0, h1, h2, h3⟩ | ⟨h0, h1, h2, h3⟩ | ⟨h0, h1, h2, h3⟩
  on_goal 1 => rw [outsAt0_A m c t h0 h1 h2 h3]; frame_out
  on_goal 2 => rw [outsAt0_B m c t h0 h1 h2 h3]; frame_out
  on_goal 3 => rw [outsAt0_C m c t h0 h1 h2 h3]; frame_out
  all_goals
    canon_tiles x h
    case piece0 =>
      refine piece X 7 (dk_tile (hp 7 448 rfl 7 rfl 511 rfl (by decide) (by decide) (by decide) (by decide) (by decide) (by decide) (by decide) (by decide) (by decide) (by decide) (by decide) (by decide) (by decide) (by decide)) ?_) x y h0 h1
      exact dL_tile (hp 7 448 rfl 7 rfl 511 rfl (by decide) (by decide) (by decide) (by decide) (by decide) (by decide) (by decide) (by decide) (by decide) (by decide) (by decide) (by decide) (by decide) (by decide))
    case piece1 =>
      refine piece X 6 (dk_tile (hp 6 384 rfl 6 rfl 447 rfl (by decide) (by decide) (by decide) (by decide) (by decide) (by decide) (by decide) (by decide) (by decide) (by decide) (by decide) (by decide) (by decide) (by decide)) ?_) x y h0 h1
      exact dL_tile (hp 6 384 rfl 6 rfl 447 rfl (by decide) (by decide) (by decide) (by decide) (by decide) (by decide) (by decide) (by decide) (by decide) (by decide) (by decide) (by decide) (by decide) (by decide))
    case piece2 =>
      refine piece X 5 (dk_tile (hp 5 320 rfl 5 rfl 383 rfl (by decide) (by decide) (by decide) (by decide) (by decide) (by decide) (by decide) (by decide) (by decide) (by decide) (by decide) (by decide) (by decide) (by decide)) ?_) x y h0 h1
      exact dL_tile (hp 5 320 rfl 5 rfl 383 rfl (by decide) (by decide) (by decide) (by decide) (by decide) (by decide) (by decide) (by decide) (by decide) (by decide) (by decide) (by decide) (by decide) (by decide))
    case piece3 =>
      refine piece X 4 (dk_tile (hp 4 256 rfl 4 rfl 319 rfl (by decide) (by decide) (by decide) (by decide) (by decide) (by decide) (by decide) (by decide) (by decide) (by decide) (by decide) (by decide) (by decide) (by decide)) ?_) x y h0 h1
      exact dL_tile (hp 4 256 rfl 4 rfl 319 rfl (by decide) (by decide) (by decide) (by decide) (by decide) (by decide) (by decide) (by decide) (by decide) (by decide) (by decide) (by decide) (by decide) (by decide))
    case piece4 =>
      refine piece X 3 (dk_tile (hp 3 192 rfl 3 rfl 255 rfl (by decide) (by decide) (by decide) (by decide) (by decide) (by decide) (by decide) (by decide) (by decide) (by decide) (by decide) (by decide) (by decide) (by decide)) ?_) x y h0 h1
      exact dL_tile (hp 3 192 rfl 3 rfl 255 rfl (by decide) (by decide) (by decide) (by decide) (by decide) (by decide) (by decide) (by decide) (by decide) (by decide) (by decide) (by decide) (by decide) (by decide))
    case piece5 =>
      refine piece X 2 (dk_tile (hp 2 128 rfl 2 rfl 191 rfl (by decide) (by decide) (by decide) (by decide) (by decide) (by decide) (by decide) (by decide) (by decide) (by decide) (by decide) (by decide) (by decide) (by decide)) ?_) x y h0 h1
      exact dL_tile (hp 2 128 rfl 2 rfl 191 rfl (by decide) (by decide) (by decide) (by decide) (by decide) (by decide) (by decide) (by decide) (by decide) (by decide) (by decide) (by decide) (by decide) (by decide))
    case piece6 =>
      refine piece X 1 (dk_tile (hp 1 64 rfl 1 rfl 127 rfl (by decide) (by decide) (by decide) (by decide) (by decide) (by decide) (by decide) (by decide) (by decide) (by decide) (by decide) (by decide) (by decide) (by decide)) ?_) x y h0 h1
      exact dL_tile (hp 1 64 rfl 1 rfl 127 rfl (by decide) (by decide) (by decide) (by decide) (by decide) (by decide) (by decide) (by decide) (by decide) (by decide) (by decide) (by decide) (by decide) (by decide))
    case piece7 =>
      refine piece X 0 (dk_tile (hp 0 0 rfl 0 rfl 63 rfl (by decide) (by decide) (by decide) (by decide) (by decide) (by decide) (by decide) (by decide) (by decide) (by decide) (by decide) (by decide) (by decide) (by decide)) ?_) x y (by simpa using h0) h1
      exact dL_tile (hp 0 0 rfl 0 rfl 63 rfl (by decide) (by decide) (by decide) (by decide) (by decide) (by decide) (by decide) (by decide) (by decide) (by decide) (by decide) (by decide) (by decide) (by decide))

theorem final14 : (dats m 0 c).arrAt 14 (cfgs 0).N = fun j : S4096x1024.Idx =>
    ((gk (ch x0 x1 x2 x3 (headOf (j 1)) (chunkOf (j 0))) (ct x4 x5 x6 x7 x8 x9 (headOf (j 1)) (chunkOf (j 0))) (rowOf (j 0)) (dimOf (j 1)) : ℝ) : EReal) := by
  refine (dats m 0 c).arrAt_eq_of_covers 14 _ (by decide +kernel) fun t _ y => ?_
  idx_vars y
  have hj : (win0_14.blk t).view.emb (ix2 y0 y1) = (ix2 (at_row t y0) (chan (hd t) y1) : S4096x1024.Idx) := by
    blk_ext [idx t, at_row, chan, hd]
  blk_simp
  rw [after0_14, hj]
  refine (dk_block h t (ix2 y0 y1)).trans ?_
  show _ = ((gk (ch x0 x1 x2 x3 (headOf (chan (hd t) y1)) (chunkOf (at_row t y0))) (ct x4 x5 x6 x7 x8 x9 (headOf (chan (hd t) y1)) (chunkOf (at_row t y0))) (rowOf (at_row t y0)) (dimOf (chan (hd t) y1)) : ℝ) : EReal)
  rw [chunk_at, row_at, head_at, dim_at]
  rfl

end Cert.LocalBlocks

end
-- ==== Proof.LocalDv.lean ====
/-
The kernel's value gradient: a grid point's block, chunk by chunk, and the array.
-/
module

public import proofs.«01_k».proof.Proof.LocalPiece

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)

include h

/-- The value gradient of a block's rows. -/
theorem dv_block (y : S512x128.Idx) : ((outsAt0 m c t.val t.isLt).2.2.1 : FVec Ideal S512x128 .f32) y
    = ((gv (ch x0 x1 x2 x3 (hd t) (chk t (cOf (y 0)))) (ct x4 x5 x6 x7 x8 x9 (hd t) (chk t (cOf (y 0)))) (iOf (y 0)) (y 1) : ℝ) : EReal) := by
  have hp : ∀ (k : Fin 8) (o : ℕ) (ho : o = 64 * k.val) (q : ℕ) (hq : q = k.val) (e : ℕ) (he : e = 64 * k.val + 63)
      (b0 b1 b2 b3 b4 b5 b6 b7 b8 b9 b10 b11 b12 b13), _ := fun k o ho q hq e he b0 b1 b2 b3 b4 b5 b6 b7 b8 b9 b10 b11 b12 b13 =>
    dv_tile (tile h t k o ho q hq e he b0 b1 b2 b3 b4 b5 b6 b7 b8 b9 b10 b11 b12 b13)
  let X : Fin 8 → Fin 64 → Fin 128 → ℝ := fun k => gv (ch x0 x1 x2 x3 (hd t) (chk t k)) (ct x4 x5 x6 x7 x8 x9 (hd t) (chk t k))
  rcases point_case t with ⟨h0, h1, h2, h3⟩ | ⟨h0, h1, h2, h3⟩ | ⟨h0, h1, h2, h3⟩
  on_goal 1 => rw [outsAt0_A m c t h0 h1 h2 h3]; frame_out
  on_goal 2 => rw [outsAt0_B m c t h0 h1 h2 h3]; frame_out
  on_goal 3 => rw [outsAt0_C m c t h0 h1 h2 h3]; frame_out
  all_goals
    canon_tiles x h
    case piece0 => exact piece X 7 (hp 7 448 rfl 7 rfl 511 rfl (by decide) (by decide) (by decide) (by decide) (by decide) (by decide) (by decide) (by decide) (by decide) (by decide) (by decide) (by decide) (by decide) (by decide)) x y h0 h1
    case piece1 => exact piece X 6 (hp 6 384 rfl 6 rfl 447 rfl (by decide) (by decide) (by decide) (by decide) (by decide) (by decide) (by decide) (by decide) (by decide) (by decide) (by decide) (by decide) (by decide) (by decide)) x y h0 h1
    case piece2 => exact piece X 5 (hp 5 320 rfl 5 rfl 383 rfl (by decide) (by decide) (by decide) (by decide) (by decide) (by decide) (by decide) (by decide) (by decide) (by decide) (by decide) (by decide) (by decide) (by decide)) x y h0 h1
    case piece3 => exact piece X 4 (hp 4 256 rfl 4 rfl 319 rfl (by decide) (by decide) (by decide) (by decide) (by decide) (by decide) (by decide) (by decide) (by decide) (by decide) (by decide) (by decide) (by decide) (by decide)) x y h0 h1
    case piece4 => exact piece X 3 (hp 3 192 rfl 3 rfl 255 rfl (by decide) (by decide) (by decide) (by decide) (by decide) (by decide) (by decide) (by decide) (by decide) (by decide) (by decide) (by decide) (by decide) (by decide)) x y h0 h1
    case piece5 => exact piece X 2 (hp 2 128 rfl 2 rfl 191 rfl (by decide) (by decide) (by decide) (by decide) (by decide) (by decide) (by decide) (by decide) (by decide) (by decide) (by decide) (by decide) (by decide) (by decide)) x y h0 h1
    case piece6 => exact piece X 1 (hp 1 64 rfl 1 rfl 127 rfl (by decide) (by decide) (by decide) (by decide) (by decide) (by decide) (by decide) (by decide) (by decide) (by decide) (by decide) (by decide) (by decide) (by decide)) x y h0 h1
    case piece7 => exact piece X 0 (hp 0 0 rfl 0 rfl 63 rfl (by decide) (by decide) (by decide) (by decide) (by decide) (by decide) (by decide) (by decide) (by decide) (by decide) (by decide) (by decide) (by decide) (by decide)) x y (by simpa using h0) h1

theorem final15 : (dats m 0 c).arrAt 15 (cfgs 0).N = fun j : S4096x1024.Idx =>
    ((gv (ch x0 x1 x2 x3 (headOf (j 1)) (chunkOf (j 0))) (ct x4 x5 x6 x7 x8 x9 (headOf (j 1)) (chunkOf (j 0))) (rowOf (j 0)) (dimOf (j 1)) : ℝ) : EReal) := by
  refine (dats m 0 c).arrAt_eq_of_covers 15 _ (by decide +kernel) fun t _ y => ?_
  idx_vars y
  have hj : (win0_15.blk t).view.emb (ix2 y0 y1) = (ix2 (at_row t y0) (chan (hd t) y1) : S4096x1024.Idx) := by
    blk_ext [idx t, at_row, chan, hd]
  blk_simp
  rw [after0_15, hj]
  refine (dv_block h t (ix2 y0 y1)).trans ?_
  show _ = ((gv (ch x0 x1 x2 x3 (headOf (chan (hd t) y1)) (chunkOf (at_row t y0))) (ct x4 x5 x6 x7 x8 x9 (headOf (chan (hd t) y1)) (chunkOf (at_row t y0))) (rowOf (at_row t y0)) (dimOf (chan (hd t) y1)) : ℝ) : EReal)
  rw [chunk_at, row_at, head_at, dim_at]
  rfl

end Cert.LocalBlocks

end
-- ==== Proof.LocalCols.lean ====
/-
The gradients of the gates at a grid point, from the columns of its eight chunks.
-/
module

public import proofs.«01_k».proof.Proof.LocalPiece

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

/-! ## Eight columns -/

section Columns

variable {d0 d1 d2 d3 d4 d5 d6 d7 : FVec Ideal S64x1 .f32} {X Y : Fin 8 → Fin 64 → ℝ}

theorem eight (h0 : Cl d0 (X 0)) (h1 : Cl d1 (X 1)) (h2 : Cl d2 (X 2)) (h3 : Cl d3 (X 3)) (h4 : Cl d4 (X 4)) (h5 : Cl d5 (X 5)) (h6 : Cl d6 (X 6))
    (h7 : Cl d7 (X 7)) : ∀ c, Cl ((![d0, d1, d2, d3, d4, d5, d6, d7] : Fin 8 → FVec Ideal S64x1 .f32) c) (X c) := fun c => by
  fin_cases c
  exacts [h0, h1, h2, h3, h4, h5, h6, h7]

/-- Eight columns one above the other, along the lanes. -/
theorem stacked (h : ∀ c, Cl ((![d0, d1, d2, d3, d4, d5, d6, d7] : Fin 8 → FVec Ideal S64x1 .f32) c) (X c)) :
    Bw (broadcastTo S512x128 (shapeCast S512x1 (concatenate S512x1 0 [⟨S64x1, d0⟩, ⟨S64x1, d1⟩, ⟨S64x1, d2⟩, ⟨S64x1, d3⟩, ⟨S64x1, d4⟩, ⟨S64x1, d5⟩, ⟨S64x1, d6⟩, ⟨S64x1, d7⟩]
      concatenates_S64x1_S64x1_S64x1_S64x1_S64x1_S64x1_S64x1_S64x1_S512x1_d0) shapeCasts_S512x1_S512x1) broadcasts_S512x1_S512x128) X :=
  (Bc.stack h).wide

variable {f0 f1 f2 f3 f4 f5 f6 f7 : FVec Ideal S64x1 .f32} {a : FVec Ideal S512x128 .f32}

/-- Sums to the chunk's end of columns stacked in `a`, plus each chunk's end. -/
theorem ends (ha : Bw a X) (h : ∀ c, Cl ((![f0, f1, f2, f3, f4, f5, f6, f7] : Fin 8 → FVec Ideal S64x1 .f32) c) (Y c)) :
    Bc (k0_pay397 f0 f1 f2 f3 f4 f5 f6 f7 (k0_pay395 len k0_pay394) (k0_pay396 a len k0_pay394)) fun c i => onFrom (X c) 64 i + Y c i :=
  sums_from ha h

end Columns

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)
include h

theorem pre_in : Bc (k0_pay8 (raw m c t) (bias m c t)) fun k i => xa x1 x3 (pos (chk t k) i) (hd t) := fun r u => by
  have h1 := raw_at (h := hd t) (point_head t) (B := fun r l => x1 (ix2 (at_row t r) l)) (ba_at h t) r u
  have h2 := bias_at (h := hd t) (point_head t) (D := fun l => x3 (ix1 l)) (bias_in h t) r u
  refine (congrArg₂ (fun x y : EReal => x + y) h1 h2).trans ?_
  rw [← EReal.coe_add, at_row_pos]
  rfl

theorem rate_in : (k0_pay9 (alog m c t) (ix2 (0 : Fin 1) (0 : Fin 1)) : EReal) = ((Real.exp (x2 (ix1 (hd t))) : ℝ) : EReal) := by
  refine (congrArg Ideal.exp (alog_at (h := hd t) (point_head t) (A := fun l => x2 (ix1 l)) (alog_in h t) 0 0)).trans ?_
  exact Ideal.exp_coe _

/-- The cotangent of a chunk's log decays. -/
def dgC (x0 : Qkv) (x1 : Ba) (x2 x3 : Heads) (x4 x5 x6 x7 : Wide) (x8 : Attn) (x9 : Ends) (t : Fin cfg0.N) (k : Fin 8) (i : Fin 64) : ℝ :=
  gγ (ch x0 x1 x2 x3 (hd t) (chk t k)) (ct x4 x5 x6 x7 x8 x9 (hd t) (chk t k)) i

omit h in
/-- A reshape to the same shape, added to. -/
theorem add_at {s : Shape} {φ : FTy} {x y : FVec Ideal s φ} (hs : s.ShapeCasts s) (i : s.Idx) : addf (shapeCast s x hs) y i = x i + y i := by
  rw [shapeCast_id]; rfl

section Point

/-- What a grid point adds to the cotangent of the gates' inputs. -/
def dbaP (x0 : Qkv) (x1 : Ba) (x2 x3 : Heads) (x4 x5 x6 x7 : Wide) (x8 : Attn) (x9 : Ends) (t : Fin cfg0.N) (r : Fin 512) (l : Fin 16) : ℝ :=
  (if l.val = (hd t).val then gβ (ch x0 x1 x2 x3 (hd t) (chk t (cOf r))) (ct x4 x5 x6 x7 x8 x9 (hd t) (chk t (cOf r))) (iOf r)
      * bet x1 (pos (chk t (cOf r)) (iOf r)) (hd t) * (1 - bet x1 (pos (chk t (cOf r)) (iOf r)) (hd t)) else 0)
    + (if l.val = 8 + (hd t).val then dgC x0 x1 x2 x3 x4 x5 x6 x7 x8 x9 t (cOf r) (iOf r) * -Real.exp (x2 (ix1 (hd t)))
      * sig (xa x1 x3 (pos (chk t (cOf r)) (iOf r)) (hd t)) else 0)

/-- What a grid point adds to the cotangent of the decays' logarithms. -/
def dalP (x0 : Qkv) (x1 : Ba) (x2 x3 : Heads) (x4 x5 x6 x7 : Wide) (x8 : Attn) (x9 : Ends) (t : Fin cfg0.N) (l : Fin 8) : ℝ :=
  if l.val = (hd t).val then ∑ k, ∑ i, dgC x0 x1 x2 x3 x4 x5 x6 x7 x8 x9 t k i * gam x1 x2 x3 (pos (chk t k) i) (hd t) else 0

/-- What a grid point adds to the cotangent of the decays' biases. -/
def ddtP (x0 : Qkv) (x1 : Ba) (x2 x3 : Heads) (x4 x5 x6 x7 : Wide) (x8 : Attn) (x9 : Ends) (t : Fin cfg0.N) (l : Fin 8) : ℝ :=
  if l.val = (hd t).val then ∑ k, ∑ i, dgC x0 x1 x2 x3 x4 x5 x6 x7 x8 x9 t k i * -Real.exp (x2 (ix1 (hd t))) * sig (xa x1 x3 (pos (chk t k) i) (hd t)) else 0

variable {f0 f1 f2 f3 f4 f5 f6 f7 g0 g1 g2 g3 g4 g5 g6 g7 : FVec Ideal S64x1 .f32} {a : FVec Ideal S512x128 .f32} {M : IVec S512x128 32} {P : FVec Ideal S512x128 .f32}

omit h in
/-- The cotangents of the log decays, from the chunks' columns. -/
theorem point_ends (ha : Bw a fun k => dG (ch x0 x1 x2 x3 (hd t) (chk t k)) (ct x4 x5 x6 x7 x8 x9 (hd t) (chk t k)))
    (hf : ∀ k, Cl ((![f0, f1, f2, f3, f4, f5, f6, f7] : Fin 8 → FVec Ideal S64x1 .f32) k) fun _ => dend (ch x0 x1 x2 x3 (hd t) (chk t k)) (ct x4 x5 x6 x7 x8 x9 (hd t) (chk t k))) :
    Bc (k0_pay397 f0 f1 f2 f3 f4 f5 f6 f7 (k0_pay395 len k0_pay394) (k0_pay396 a len k0_pay394)) (dgC x0 x1 x2 x3 x4 x5 x6 x7 x8 x9 t) := fun r u => by
  refine (ends ha hf r u).trans ?_
  exact congrArg (fun z : ℝ => (z : EReal)) (congrArg₂ (fun a b : ℝ => a + b) (onFrom_all _ _) rfl)

variable (hdg : Bc (k0_pay397 f0 f1 f2 f3 f4 f5 f6 f7 M P) (dgC x0 x1 x2 x3 x4 x5 x6 x7 x8 x9 t))
include hdg

theorem point_dba (hg : ∀ k, Cl ((![g0, g1, g2, g3, g4, g5, g6, g7] : Fin 8 → FVec Ideal S64x1 .f32) k) (gβ (ch x0 x1 x2 x3 (hd t) (chk t k)) (ct x4 x5 x6 x7 x8 x9 (hd t) (chk t k))))
    (r : Fin 512) (l : Fin 16) : (k0_pay399 (BitVec.ofNat 32 (grid0.coords t 1).val) (beta m c t) (k0_pay8 (raw m c t) (bias m c t)) (k0_pay9 (alog m c t))
      g0 f0 g1 f1 g2 f2 g3 f3 g4 f4 g5 f5 g6 f6 g7 f7 M P (ix2 r l) : EReal)
    = ((dbaP x0 x1 x2 x3 x4 x5 x6 x7 x8 x9 t r l : ℝ) : EReal) :=
  dba_at (f := ![f0, f1, f2, f3, f4, f5, f6, f7]) (g := ![g0, g1, g2, g3, g4, g5, g6, g7]) (pre_in h t) (rate_in h t) hdg (point_head t) (beta_in h t) hg r l

theorem point_dal (u : Fin 1) (l : Fin 8) : (k0_pay402 (k0_pay400 (BitVec.ofNat 32 (grid0.coords t 1).val))
      (k0_pay401 (k0_pay10 (raw m c t) (alog m c t) (bias m c t)) f0 f1 f2 f3 f4 f5 f6 f7 M P) (Scalar.ofBits .f32 0x00000000#32) (ix2 u l) : EReal)
    = ((dalP x0 x1 x2 x3 x4 x5 x6 x7 x8 x9 t l : ℝ) : EReal) :=
  dal_at (f := ![f0, f1, f2, f3, f4, f5, f6, f7]) hdg (point_head t) (decay_in h t) u l

theorem point_ddt (u : Fin 1) (l : Fin 8) : (k0_pay403 (BitVec.ofNat 32 (grid0.coords t 1).val)
      (k0_pay398 (k0_pay8 (raw m c t) (bias m c t)) (k0_pay9 (alog m c t)) f0 f1 f2 f3 f4 f5 f6 f7 M P)
      (iota .tc S1x8 32 [1] iota_S1x8_d1_w32) (ix2 u l) : EReal)
    = ((ddtP x0 x1 x2 x3 x4 x5 x6 x7 x8 x9 t l : ℝ) : EReal) :=
  ddt_at (f := ![f0, f1, f2, f3, f4, f5, f6, f7]) (pre_in h t) (rate_in h t) hdg (point_head t) u l

end Point

end Cert.LocalBlocks

end
-- ==== Proof.LocalDba.lean ====
/-
What a grid point leaves of the cotangent of the gates' inputs.
-/
module

public import proofs.«01_k».proof.Proof.LocalCols

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)
include h

set_option maxHeartbeats 4000000 in
/-- What a grid point leaves of the gates' inputs' cotangent: its own part, at a later head on top of what was there. -/
theorem out16 (r : Fin 512) (l : Fin 16) :
    ((outsAt0 m c t.val t.isLt).2.2.2.1 : FVec Ideal S512x16 .f32) (ix2 r l) = (if t.val % 8 = 0 then 0
      else ((outsAt0 m c (t.val - 1) (lt_of_le_of_lt (Nat.sub_le _ _) t.isLt)).2.2.2.1 : FVec Ideal S512x16 .f32) (ix2 r l)) + ((dbaP x0 x1 x2 x3 x4 x5 x6 x7 x8 x9 t r l : ℝ) : EReal) := by
  have T0 := tile h t 0 0 rfl 0 rfl 63 rfl (by decide) (by decide) (by decide) (by decide) (by decide) (by decide) (by decide) (by decide) (by decide) (by decide) (by decide) (by decide) (by decide) (by decide)
  have T1 := tile h t 1 64 rfl 1 rfl 127 rfl (by decide) (by decide) (by decide) (by decide) (by decide) (by decide) (by decide) (by decide) (by decide) (by decide) (by decide) (by decide) (by decide) (by decide)
  have T2 := tile h t 2 128 rfl 2 rfl 191 rfl (by decide) (by decide) (by decide) (by decide) (by decide) (by decide) (by decide) (by decide) (by decide) (by decide) (by decide) (by decide) (by decide) (by decide)
  have T3 := tile h t 3 192 rfl 3 rfl 255 rfl (by decide) (by decide) (by decide) (by decide) (by decide) (by decide) (by decide) (by decide) (by decide) (by decide) (by decide) (by decide) (by decide) (by decide)
  have T4 := tile h t 4 256 rfl 4 rfl 319 rfl (by decide) (by decide) (by decide) (by decide) (by decide) (by decide) (by decide) (by decide) (by decide) (by decide) (by decide) (by decide) (by decide) (by decide)
  have T5 := tile h t 5 320 rfl 5 rfl 383 rfl (by decide) (by decide) (by decide) (by decide) (by decide) (by decide) (by decide) (by decide) (by decide) (by decide) (by decide) (by decide) (by decide) (by decide)
  have T6 := tile h t 6 384 rfl 6 rfl 447 rfl (by decide) (by decide) (by decide) (by decide) (by decide) (by decide) (by decide) (by decide) (by decide) (by decide) (by decide) (by decide) (by decide) (by decide)
  have T7 := tile h t 7 448 rfl 7 rfl 511 rfl (by decide) (by decide) (by decide) (by decide) (by decide) (by decide) (by decide) (by decide) (by decide) (by decide) (by decide) (by decide) (by decide) (by decide)
  rcases point_case t with ⟨h0, h1, h2, h3⟩ | ⟨h0, h1, h2, h3⟩ | ⟨h0, h1, h2, h3⟩
  on_goal 1 => rw [outsAt0_A m c t h0 h1 h2 h3, if_pos h0, zero_add]; frame_out
  on_goal 2 => rw [outsAt0_B m c t h0 h1 h2 h3, if_neg h0]; frame_out; refine (add_at _ _).trans (congrArg (fun z : EReal => _ + z) ?_)
  on_goal 3 => rw [outsAt0_C m c t h0 h1 h2 h3, if_pos h0, zero_add]; frame_out
  all_goals
    refine point_dba h t ?_ ?_ r l
    · refine point_ends t (stacked (eight ?_ ?_ ?_ ?_ ?_ ?_ ?_ ?_)) (eight ?_ ?_ ?_ ?_ ?_ ?_ ?_ ?_)
      · refine dG_tile T0 ?_; exact dL_tile T0
      · refine dG_tile T1 ?_; exact dL_tile T1
      · refine dG_tile T2 ?_; exact dL_tile T2
      · refine dG_tile T3 ?_; exact dL_tile T3
      · refine dG_tile T4 ?_; exact dL_tile T4
      · refine dG_tile T5 ?_; exact dL_tile T5
      · refine dG_tile T6 ?_; exact dL_tile T6
      · refine dG_tile T7 ?_; exact dL_tile T7
      · exact dend_tile T0
      · exact dend_tile T1
      · exact dend_tile T2
      · exact dend_tile T3
      · exact dend_tile T4
      · exact dend_tile T5
      · exact dend_tile T6
      · exact dend_tile T7
    · refine eight ?_ ?_ ?_ ?_ ?_ ?_ ?_ ?_
      · refine dbeta_tile T0 ?_; exact dL_tile T0
      · refine dbeta_tile T1 ?_; exact dL_tile T1
      · refine dbeta_tile T2 ?_; exact dL_tile T2
      · refine dbeta_tile T3 ?_; exact dL_tile T3
      · refine dbeta_tile T4 ?_; exact dL_tile T4
      · refine dbeta_tile T5 ?_; exact dL_tile T5
      · refine dbeta_tile T6 ?_; exact dL_tile T6
      · refine dbeta_tile T7 ?_; exact dL_tile T7

end Cert.LocalBlocks

end
-- ==== Proof.LocalDal.lean ====
/-
What a grid point leaves of the cotangent of the decays' logarithms.
-/
module

public import proofs.«01_k».proof.Proof.LocalCols

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)
include h

set_option maxHeartbeats 4000000 in
/-- What a grid point leaves of the decays' logarithms' cotangent: its own part on top of what was there. -/
theorem out17 (u : Fin 1) (l : Fin 8) :
    ((outsAt0 m c t.val t.isLt).2.2.2.2.1 : FVec Ideal S1x8 .f32) (ix2 u l) = (if t.val % 64 = 0 then 0
      else ((outsAt0 m c (t.val - 1) (lt_of_le_of_lt (Nat.sub_le _ _) t.isLt)).2.2.2.2.1 : FVec Ideal S1x8 .f32) (ix2 u l)) + ((dalP x0 x1 x2 x3 x4 x5 x6 x7 x8 x9 t l : ℝ) : EReal) := by
  have T0 := tile h t 0 0 rfl 0 rfl 63 rfl (by decide) (by decide) (by decide) (by decide) (by decide) (by decide) (by decide) (by decide) (by decide) (by decide) (by decide) (by decide) (by decide) (by decide)
  have T1 := tile h t 1 64 rfl 1 rfl 127 rfl (by decide) (by decide) (by decide) (by decide) (by decide) (by decide) (by decide) (by decide) (by decide) (by decide) (by decide) (by decide) (by decide) (by decide)
  have T2 := tile h t 2 128 rfl 2 rfl 191 rfl (by decide) (by decide) (by decide) (by decide) (by decide) (by decide) (by decide) (by decide) (by decide) (by decide) (by decide) (by decide) (by decide) (by decide)
  have T3 := tile h t 3 192 rfl 3 rfl 255 rfl (by decide) (by decide) (by decide) (by decide) (by decide) (by decide) (by decide) (by decide) (by decide) (by decide) (by decide) (by decide) (by decide) (by decide)
  have T4 := tile h t 4 256 rfl 4 rfl 319 rfl (by decide) (by decide) (by decide) (by decide) (by decide) (by decide) (by decide) (by decide) (by decide) (by decide) (by decide) (by decide) (by decide) (by decide)
  have T5 := tile h t 5 320 rfl 5 rfl 383 rfl (by decide) (by decide) (by decide) (by decide) (by decide) (by decide) (by decide) (by decide) (by decide) (by decide) (by decide) (by decide) (by decide) (by decide)
  have T6 := tile h t 6 384 rfl 6 rfl 447 rfl (by decide) (by decide) (by decide) (by decide) (by decide) (by decide) (by decide) (by decide) (by decide) (by decide) (by decide) (by decide) (by decide) (by decide)
  have T7 := tile h t 7 448 rfl 7 rfl 511 rfl (by decide) (by decide) (by decide) (by decide) (by decide) (by decide) (by decide) (by decide) (by decide) (by decide) (by decide) (by decide) (by decide) (by decide)
  rcases point_case t with ⟨h0, h1, h2, h3⟩ | ⟨h0, h1, h2, h3⟩ | ⟨h0, h1, h2, h3⟩
  on_goal 1 => rw [outsAt0_A m c t h0 h1 h2 h3, if_pos h2, zero_add]; frame_out
  on_goal 2 => rw [outsAt0_B m c t h0 h1 h2 h3, if_neg h2]; frame_out; refine (add_at _ _).trans (congrArg (fun z : EReal => _ + z) ?_)
  on_goal 3 => rw [outsAt0_C m c t h0 h1 h2 h3, if_neg h2]; frame_out; refine (add_at _ _).trans (congrArg (fun z : EReal => _ + z) ?_)
  all_goals
    refine point_dal h t ?_ u l
    refine point_ends t (stacked (eight ?_ ?_ ?_ ?_ ?_ ?_ ?_ ?_)) (eight ?_ ?_ ?_ ?_ ?_ ?_ ?_ ?_)
    · refine dG_tile T0 ?_; exact dL_tile T0
    · refine dG_tile T1 ?_; exact dL_tile T1
    · refine dG_tile T2 ?_; exact dL_tile T2
    · refine dG_tile T3 ?_; exact dL_tile T3
    · refine dG_tile T4 ?_; exact dL_tile T4
    · refine dG_tile T5 ?_; exact dL_tile T5
    · refine dG_tile T6 ?_; exact dL_tile T6
    · refine dG_tile T7 ?_; exact dL_tile T7
    · exact dend_tile T0
    · exact dend_tile T1
    · exact dend_tile T2
    · exact dend_tile T3
    · exact dend_tile T4
    · exact dend_tile T5
    · exact dend_tile T6
    · exact dend_tile T7

end Cert.LocalBlocks

end
-- ==== Proof.LocalDdt.lean ====
/-
What a grid point leaves of the cotangent of the decays' biases.
-/
module

public import proofs.«01_k».proof.Proof.LocalCols

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)
include h

set_option maxHeartbeats 4000000 in
/-- What a grid point leaves of the decays' biases' cotangent: its own part on top of what was there. -/
theorem out18 (u : Fin 1) (l : Fin 8) :
    ((outsAt0 m c t.val t.isLt).2.2.2.2.2 : FVec Ideal S1x8 .f32) (ix2 u l) = (if t.val % 64 = 0 then 0
      else ((outsAt0 m c (t.val - 1) (lt_of_le_of_lt (Nat.sub_le _ _) t.isLt)).2.2.2.2.2 : FVec Ideal S1x8 .f32) (ix2 u l)) + ((ddtP x0 x1 x2 x3 x4 x5 x6 x7 x8 x9 t l : ℝ) : EReal) := by
  have T0 := tile h t 0 0 rfl 0 rfl 63 rfl (by decide) (by decide) (by decide) (by decide) (by decide) (by decide) (by decide) (by decide) (by decide) (by decide) (by decide) (by decide) (by decide) (by decide)
  have T1 := tile h t 1 64 rfl 1 rfl 127 rfl (by decide) (by decide) (by decide) (by decide) (by decide) (by decide) (by decide) (by decide) (by decide) (by decide) (by decide) (by decide) (by decide) (by decide)
  have T2 := tile h t 2 128 rfl 2 rfl 191 rfl (by decide) (by decide) (by decide) (by decide) (by decide) (by decide) (by decide) (by decide) (by decide) (by decide) (by decide) (by decide) (by decide) (by decide)
  have T3 := tile h t 3 192 rfl 3 rfl 255 rfl (by decide) (by decide) (by decide) (by decide) (by decide) (by decide) (by decide) (by decide) (by decide) (by decide) (by decide) (by decide) (by decide) (by decide)
  have T4 := tile h t 4 256 rfl 4 rfl 319 rfl (by decide) (by decide) (by decide) (by decide) (by decide) (by decide) (by decide) (by decide) (by decide) (by decide) (by decide) (by decide) (by decide) (by decide)
  have T5 := tile h t 5 320 rfl 5 rfl 383 rfl (by decide) (by decide) (by decide) (by decide) (by decide) (by decide) (by decide) (by decide) (by decide) (by decide) (by decide) (by decide) (by decide) (by decide)
  have T6 := tile h t 6 384 rfl 6 rfl 447 rfl (by decide) (by decide) (by decide) (by decide) (by decide) (by decide) (by decide) (by decide) (by decide) (by decide) (by decide) (by decide) (by decide) (by decide)
  have T7 := tile h t 7 448 rfl 7 rfl 511 rfl (by decide) (by decide) (by decide) (by decide) (by decide) (by decide) (by decide) (by decide) (by decide) (by decide) (by decide) (by decide) (by decide) (by decide)
  rcases point_case t with ⟨h0, h1, h2, h3⟩ | ⟨h0, h1, h2, h3⟩ | ⟨h0, h1, h2, h3⟩
  on_goal 1 => rw [outsAt0_A m c t h0 h1 h2 h3, if_pos h2, zero_add]; frame_out
  on_goal 2 => rw [outsAt0_B m c t h0 h1 h2 h3, if_neg h2]; frame_out; refine (add_at _ _).trans (congrArg (fun z : EReal => _ + z) ?_)
  on_goal 3 => rw [outsAt0_C m c t h0 h1 h2 h3, if_neg h2]; frame_out; refine (add_at _ _).trans (congrArg (fun z : EReal => _ + z) ?_)
  all_goals
    refine point_ddt h t ?_ u l
    refine point_ends t (stacked (eight ?_ ?_ ?_ ?_ ?_ ?_ ?_ ?_)) (eight ?_ ?_ ?_ ?_ ?_ ?_ ?_ ?_)
    · refine dG_tile T0 ?_; exact dL_tile T0
    · refine dG_tile T1 ?_; exact dL_tile T1
    · refine dG_tile T2 ?_; exact dL_tile T2
    · refine dG_tile T3 ?_; exact dL_tile T3
    · refine dG_tile T4 ?_; exact dL_tile T4
    · refine dG_tile T5 ?_; exact dL_tile T5
    · refine dG_tile T6 ?_; exact dL_tile T6
    · refine dG_tile T7 ?_; exact dL_tile T7
    · exact dend_tile T0
    · exact dend_tile T1
    · exact dend_tile T2
    · exact dend_tile T3
    · exact dend_tile T4
    · exact dend_tile T5
    · exact dend_tile T6
    · exact dend_tile T7

end Cert.LocalBlocks

end
-- ==== Proof.LocalSums.lean ====
/-
The gates' gradients: the arrays that the grid points' parts add up to.
-/
module

public import proofs.«01_k».proof.Proof.LocalDba
public import proofs.«01_k».proof.Proof.LocalDal
public import proofs.«01_k».proof.Proof.LocalDdt

@[expose] public section

set_option maxRecDepth 16384

noncomputable section

namespace Cert.LocalBlocks

open Cert.RealLift Cert.LocalData Cert.DeltaSpec Cert.InverseGrad Cert.LocalTile Cert.LocalGates Cert.LocalEntry Idealize.ShloMosaic
open Idealize.ShloMosaic.Pipeline
open Cert.LocalKernelIdeal Cert.LocalKernelIdeal.Gen

variable {m : (ℓ : Loc nD τ sig) → Buf (Elt Ideal) ℓ}
variable {x0 : Qkv} {x1 : Ba} {x2 x3 : Heads} {x4 x5 x6 x7 : Wide} {x8 : Attn} {x9 : Ends}
variable {c : Dev nD} (h : Args m x0 x1 x2 x3 x4 x5 x6 x7 x8 x9 c) (t : Fin cfg0.N)

omit h in
theorem dgC_at (k : Fin 8) (i : Fin 64) : dgC x0 x1 x2 x3 x4 x5 x6 x7 x8 x9 t k i = dgam x0 x1 x2 x3 x4 x5 x6 x7 x8 x9 (pos (chk t k) i) (hd t) := by
  have e1 : chunkOf (pos (chk t k) i) = chk t k := Fin.ext (by simp only [chunkOf, pos]; omega)
  have e2 : rowOf (pos (chk t k) i) = i := Fin.ext (by simp only [rowOf, pos]; omega)
  rw [dgam, e1, e2]
  rfl

omit h in
theorem dbaP_at (r : Fin 512) (l : Fin 16) : dbaP x0 x1 x2 x3 x4 x5 x6 x7 x8 x9 t r l = (if l.val = (hd t).val then db x0 x1 x2 x3 x4 x5 x6 x7 x8 x9 (at_row t r) (hd t) else 0)
    + (if l.val = 8 + (hd t).val then dxa x0 x1 x2 x3 x4 x5 x6 x7 x8 x9 (at_row t r) (hd t) else 0) := by
  rw [dbaP, dgC_at, ← at_row_pos, ← chunk_at, ← row_at, db, dxa, mul_assoc]
  refine congrArg₂ (fun a b : ℝ => a + b) rfl (if_congr Iff.rfl ?_ rfl)
  ring

/-- A sum over a grid point's rows, chunk by chunk. -/
theorem rows_point (F : Fin 4096 → ℝ) : (∑ k, ∑ i, F (pos (chk t k) i)) = ∑ r, F (at_row t r) := by
  rw [← rows_sum fun k i => F (pos (chk t k) i)]
  exact Finset.sum_congr rfl fun r _ => congrArg F (at_row_pos t r).symm

/-- A sum over the points of one head is a sum over all rows. -/
theorem head_points (F : Fin 4096 → ℝ) (l : Fin 8) : (∑ p : Fin cfg0.N, if l.val = (hd p).val then ∑ r, F (at_row p r) else 0) = ∑ R, F R := by
  rw [Fin.sum_divmod_congr (A := 8) (S := 8) (f := fun a s => if l = s then ∑ r : Fin 512, F ⟨a.val * 512 + r.val, by omega⟩ else 0)
    (fun p ha hs => if_congr (by rw [Fin.ext_iff]; rfl) rfl rfl) N_0]
  simp only [Finset.sum_ite_eq, Finset.mem_univ, if_true]
  refine (Fin.sum_divmod_congr (A := 8) (S := 512) fun R ha hs => congrArg F (Fin.ext ?_)).symm
  show R.val = R.val / 512 * 512 + R.val % 512
  omega

omit h in
theorem dalP_sum (l : Fin 8) : (∑ p, dalP x0 x1 x2 x3 x4 x5 x6 x7 x8 x9 p l) = dal x0 x1 x2 x3 x4 x5 x6 x7 x8 x9 l := by
  have e : ∀ p, dalP x0 x1 x2 x3 x4 x5 x6 x7 x8 x9 p l = if l.val = (hd p).val then ∑ r, (fun R => dgam x0 x1 x2 x3 x4 x5 x6 x7 x8 x9 R l * gam x1 x2 x3 R l) (at_row p r) else 0 := fun p => by
    rw [dalP]
    refine if_ctx_congr Iff.rfl (fun hl => ?_) fun _ => rfl
    have hl' : hd p = l := Fin.ext hl.symm
    refine Eq.trans ?_ (rows_point p (fun R => dgam x0 x1 x2 x3 x4 x5 x6 x7 x8 x9 R l * gam x1 x2 x3 R l))
    simp only [dgC_at, hl']
  rw [Finset.sum_congr rfl fun p _ => e p, head_points (fun R => dgam x0 x1 x2 x3 x4 x5 x6 x7 x8 x9 R l * gam x1 x2 x3 R l) l, dal, neg_mul, Finset.sum_mul, ← Finset.sum_neg_distrib]
  refine Finset.sum_congr rfl fun R _ => ?_
  simp only [gam]
  ring

omit h in
theorem ddtP_sum (l : Fin 8) : (∑ p, ddtP x0 x1 x2 x3 x4 x5 x6 x7 x8 x9 p l) = ddt x0 x1 x2 x3 x4 x5 x6 x7 x8 x9 l := by
  have e : ∀ p, ddtP x0 x1 x2 x3 x4 x5 x6 x7 x8 x9 p l = if l.val = (hd p).val then ∑ r, (fun R => dxa x0 x1 x2 x3 x4 x5 x6 x7 x8 x9 R l) (at_row p r) else 0 := fun p => by
    rw [ddtP]
    refine if_ctx_congr Iff.rfl (fun hl => ?_) fun _ => rfl
    have hl' : hd p = l := Fin.ext hl.symm
    refine Eq.trans ?_ (rows_point p (fun R => dxa x0 x1 x2 x3 x4 x5 x6 x7 x8 x9 R l))
    refine Finset.sum_congr rfl fun k _ => Finset.sum_congr rfl fun i _ => ?_
    rw [dgC_at, dxa, hl']
    ring
  rw [Finset.sum_congr rfl fun p _ => e p, head_points (fun R => dxa x0 x1 x2 x3 x4 x5 x6 x7 x8 x9 R l) l, ddt]

include h

theorem final16 : (dats m 0 c).arrAt 16 (cfgs 0).N = fun j : S4096x16.Idx => ((dba x0 x1 x2 x3 x4 x5 x6 x7 x8 x9 (j 0) (j 1) : ℝ) : EReal) := by
  refine (dats m 0 c).arrAt_eq_of_covers 16 _ (by decide +kernel) fun t hf y => ?_
  have hr := (flush0_16 t).mp hf
  idx_vars y
  have hj : (win0_16.blk t).view.emb (ix2 y0 y1) = (ix2 (at_row t y0) y1 : S4096x16.Idx) := by
    blk_ext [idx t, at_row]
  blk_simp
  rw [after0_16, hj, Pipeline.eq_sum_fin_of_reset_step_apply_of_flush (fun n hn => (outsAt0 m c n hn).2.2.2.1) 8 (fun _ => (0 : EReal))
    (fun p (j : S512x16.Idx) => ((dbaP x0 x1 x2 x3 x4 x5 x6 x7 x8 x9 p (j 0) (j 1) : ℝ) : EReal))
    (fun t ht j => by
      idx_vars j
      refine (out16 h t j0 j1).trans ?_
      rw [if_pos ht])
    (fun t ht j => by
      idx_vars j
      refine (out16 h t j0 j1).trans ?_
      rw [if_neg ht])
    t hr _, zero_add, coe_sum]
  refine congrArg (fun z : ℝ => (z : EReal)) ?_
  have e : ∀ s : Fin 8, dbaP x0 x1 x2 x3 x4 x5 x6 x7 x8 x9 ⟨8 * (t.val / 8) + s.val, Pipeline.run_point_lt_of_flush t hr s⟩ y0 y1
      = (if y1.val = s.val then db x0 x1 x2 x3 x4 x5 x6 x7 x8 x9 (at_row t y0) s else 0) + (if y1.val = 8 + s.val then dxa x0 x1 x2 x3 x4 x5 x6 x7 x8 x9 (at_row t y0) s else 0) := fun s => by
    have e1 : hd ⟨8 * (t.val / 8) + s.val, Pipeline.run_point_lt_of_flush t hr s⟩ = s := Fin.ext (by simp only [hd]; omega)
    have e2 : at_row ⟨8 * (t.val / 8) + s.val, Pipeline.run_point_lt_of_flush t hr s⟩ y0 = at_row t y0 := Fin.ext (by simp only [at_row]; omega)
    rw [dbaP_at, e1, e2]
  refine (Finset.sum_congr rfl fun s _ => e s).trans ?_
  show _ = dba x0 x1 x2 x3 x4 x5 x6 x7 x8 x9 (at_row t y0) y1
  rw [Finset.sum_add_distrib, dba]
  split_ifs with hy
  · rw [Finset.sum_eq_single (⟨y1.val, hy⟩ : Fin 8) (fun s _ hs => if_neg fun hh => hs (Fin.ext hh.symm)) (fun hh => absurd (Finset.mem_univ _) hh), if_pos rfl,
      Finset.sum_eq_zero fun s _ => if_neg (by omega), add_zero]
  · have hy' : y1.val < 16 := y1.isLt
    rw [Finset.sum_eq_zero fun s _ => if_neg (by omega), zero_add, Finset.sum_eq_single (⟨y1.val - 8, by omega⟩ : Fin 8)
      (fun s _ hs => if_neg fun hh => hs (Fin.ext (by show s.val = y1.val - 8; omega))) (fun hh => absurd (Finset.mem_univ _) hh), if_pos (by show y1.val = 8 + (y1.val - 8); omega)]

/-- The last grid point. -/
def lastPoint : Fin cfg0.N := ⟨63, lt_of_lt_of_eq (by decide : 63 < 64) N_0.symm⟩

theorem final17 : (dats m 0 c).arrAt 17 (cfgs 0).N = fun j : S1x8.Idx => ((dal x0 x1 x2 x3 x4 x5 x6 x7 x8 x9 (j 1) : ℝ) : EReal) := by
  refine (dats m 0 c).arrAt_eq_of_after_last 17 lastPoint (by decide +kernel) _ fun j => ?_
  blk_simp
  idx_vars j
  rw [after0_17, Pipeline.eq_sum_fin_of_reset_step_apply_last (fun n hn => (outsAt0 m c n hn).2.2.2.2.1) 64 (fun _ => (0 : EReal))
    (fun p (j : S1x8.Idx) => ((dalP x0 x1 x2 x3 x4 x5 x6 x7 x8 x9 p (j 1) : ℝ) : EReal))
    (fun t ht j => by
      idx_vars j
      refine (out17 h t j0 j1).trans ?_
      rw [if_pos ht])
    (fun t ht j => by
      idx_vars j
      refine (out17 h t j0 j1).trans ?_
      rw [if_neg ht])
    (le_of_eq N_0) lastPoint rfl, zero_add, coe_sum]
  exact congrArg (fun z : ℝ => (z : EReal)) (dalP_sum j1)

theorem final18 : (dats m 0 c).arrAt 18 (cfgs 0).N = fun j : S1x8.Idx => ((ddt x0 x1 x2 x3 x4 x5 x6 x7 x8 x9 (j 1) : ℝ) : EReal) := by
  refine (dats m 0 c).arrAt_eq_of_after_last 18 lastPoint (by decide +kernel) _ fun j => ?_
  blk_simp
  idx_vars j
  rw [after0_18, Pipeline.eq_sum_fin_of_reset_step_apply_last (fun n hn => (outsAt0 m c n hn).2.2.2.2.2) 64 (fun _ => (0 : EReal))
    (fun p (j : S1x8.Idx) => ((ddtP x0 x1 x2 x3 x4 x5 x6 x7 x8 x9 p (j 1) : ℝ) : EReal))
    (fun t ht j => by
      idx_vars j
      refine (out18 h t j0 j1).trans ?_
      rw [if_pos ht])
    (fun t ht j => by
      idx_vars j
      refine (out18 h t j0 j1).trans ?_
      rw [if_neg ht])
    (le_of_eq N_0) lastPoint rfl, zero_add, coe_sum]
  exact congrArg (fun z : ℝ => (z : EReal)) (ddtP_sum j1)

end Cert.LocalBlocks

end
-- ==== Proof.LocalBack.lean ====
/-
The backward lines of the reference of the delta rule's local part, on arrays of reals.
-/
module

public import proofs.«01_k».proof.Proof.LocalInverse

@[expose] public section

set_option maxRecDepth 16384

noncomputable section

namespace Cert.LocalRef

open Cert.RealLift Cert.LocalData Cert.DeltaSpec Cert.InverseGrad Idealize.ShloMosaic
open Cert.LocalReferenceIdeal.Read Cert.LocalReferenceIdeal Cert.LocalReferenceIdeal.Gen
open Matrix

variable (x0 : Qkv) (x1 : Ba) (x2 x3 : Heads) (x4 x5 x6 x7 : Wide) (x8 : Attn) (x9 : Ends)
variable (h : Fin 8) (n : Fin 64)

section Rows

theorem q_rows : IsRows h n (val_main_v44 (F := Ideal) (up x0)) ((ch x0 x1 x2 x3 h n)).q := q_at x0 x1 x2 x3 h n

theorem k_rows : IsRows h n (val_main_v46 (F := Ideal) (up x0)) ((ch x0 x1 x2 x3 h n)).k := k_at x0 x1 x2 x3 h n

theorem v_rows : IsRows h n (val_main_v48 (F := Ideal) (up x0)) ((ch x0 x1 x2 x3 h n)).v := v_at x0 x1 x2 x3 h n

theorem kb_rows : IsRows h n (val_main_v67 (F := Ideal) (up x0) (up x1)) (kb (ch x0 x1 x2 x3 h n)) := kb_at x0 x1 x2 x3 h n

theorem dq_rows : IsRows h n (val_main_v10 (F := Ideal) (up x6)) ((ct x4 x5 x6 x7 x8 x9 h n)).dq := dq_at x4 x5 x6 x7 x8 x9 h n

theorem dk_rows : IsRows h n (val_main_v13 (F := Ideal) (up x7)) ((ct x4 x5 x6 x7 x8 x9 h n)).dk := dk_at x4 x5 x6 x7 x8 x9 h n

theorem qk_at : IsMat h n (val_main_v105 (F := Ideal) (up x0)) (Matrix.of (qk (ch x0 x1 x2 x3 h n))) := (q_rows x0 x1 x2 x3 h n).gram (k_rows x0 x1 x2 x3 h n)

theorem tail_at (i : Fin 64) : (val_main_v117 (F := Ideal) (up x1) (up x2) (up x3)) (ix3 h n i) = ((tail (ch x0 x1 x2 x3 h n) i : ℝ) : EReal) := by
  pointwise [val_main_v117, val_main_v116, val_main_v115, val_main_v114, val_main_v113, val_main_v112]
  rw [G_at x0 x1 x2 x3 h n i]
  refine (congrArg (fun z => Ideal.exp (z - _)) (G_at x0 x1 x2 x3 h n 63)).trans ?_
  rw [← EReal.coe_sub, Ideal.exp_coe]
  rfl

theorem tail_rows : IsRows h n (val_main_v126 (F := Ideal) (up x1) (up x2) (up x3)) (fun i _ => tail (ch x0 x1 x2 x3 h n) i) := by
  intro i d
  pointwise [val_main_v126, val_main_v118]
  exact tail_at x0 x1 x2 x3 h n i

theorem end_at : (val_main_v122 (F := Ideal) (up x1) (up x2) (up x3) (up x9)) (ix2 h n) = ((((ct x4 x5 x6 x7 x8 x9 h n)).dl * Real.exp (G (ch x0 x1 x2 x3 h n) 63) : ℝ) : EReal) := by
  pointwise [val_main_v122, val_main_v121, val_main_v113, val_main_v112]
  refine (congrArg (fun z => _ * Ideal.exp z) (G_at x0 x1 x2 x3 h n 63)).trans ?_
  rw [Ideal.exp_coe, up_apply, ← EReal.coe_mul]
  rfl

theorem tcol_at (i : Fin 64) : (val_main_v129 (F := Ideal) (up x0) (up x1) (up x2) (up x3) (up x7)) (ix3 h n i) = ((tcol (ch x0 x1 x2 x3 h n) (ct x4 x5 x6 x7 x8 x9 h n) i : ℝ) : EReal) := by
  pointwise [val_main_v129, val_main_v128, val_main_v125, val_main_v124, val_main_v123, val_main_cst_8, val_main_cst_9]
  simp only [k_at x0 x1 x2 x3, dk_at x4 x5 x6 x7 x8 x9, tail_at x0 x1 x2 x3, ← EReal.coe_mul, coe_sum, Finset.univ_unique, Finset.sum_singleton]
  rfl

theorem dend_at : (val_main_v134 (F := Ideal) (up x0) (up x1) (up x2) (up x3) (up x7) (up x9)) (ix2 h n) = ((dend (ch x0 x1 x2 x3 h n) (ct x4 x5 x6 x7 x8 x9 h n) : ℝ) : EReal) := by
  pointwise [val_main_v134, val_main_v133, val_main_v131, val_main_v130, val_main_cst_10, val_main_cst_11]
  simp only [end_at x0 x1 x2 x3 x4 x5 x6 x7 x8 x9, tcol_at x0 x1 x2 x3 x4 x5 x6 x7 x8 x9, coe_sum, Finset.univ_unique, Finset.sum_singleton, ← EReal.coe_add]
  rfl

theorem pad_at (i : Fin 64) : (val_main_v136 (F := Ideal) (up x0) (up x1) (up x2) (up x3) (up x7) (up x9)) (ix3 h n i) = ((if i = 63 then dend (ch x0 x1 x2 x3 h n) (ct x4 x5 x6 x7 x8 x9 h n) else 0 : ℝ) : EReal) := by
  pointwise [val_main_v136, val_main_v135, val_main_cst_12]
  by_cases hi : i = 63
  · subst hi
    rw [dif_pos ⟨le_rfl, by norm_num⟩, if_pos rfl]
    exact dend_at x0 x1 x2 x3 x4 x5 x6 x7 x8 x9 h n
  · rw [dif_neg (fun H => hi (Fin.ext (by have h1 := H.1; have h2 : (63 : Fin 64).val = 63 := rfl; omega))), if_neg hi, EReal.coe_zero]

theorem expG_rows : IsRows h n (val_main_v141 (F := Ideal) (up x1) (up x2) (up x3)) (fun i _ => Real.exp (G (ch x0 x1 x2 x3 h n) i)) := by
  intro i d
  pointwise [val_main_v141, val_main_v109, val_main_v108]
  rw [G_at x0 x1 x2 x3, Ideal.exp_coe]

theorem qdq_at (i : Fin 64) : (val_main_v144 (F := Ideal) (up x0) (up x1) (up x2) (up x3) (up x6)) (ix3 h n i) = (((∑ d, ((ch x0 x1 x2 x3 h n)).q i d * ((ct x4 x5 x6 x7 x8 x9 h n)).dq i d) * Real.exp (G (ch x0 x1 x2 x3 h n) i) : ℝ) : EReal) := by
  pointwise [val_main_v144, val_main_v143, val_main_v140, val_main_v139, val_main_v138, val_main_cst_13, val_main_cst_14, val_main_v108]
  simp only [q_at x0 x1 x2 x3, dq_at x4 x5 x6 x7 x8 x9, G_at x0 x1 x2 x3, Ideal.exp_coe, ← EReal.coe_mul, coe_sum, Finset.univ_unique, Finset.sum_singleton]

theorem mda_at : IsMat h n (val_main_v146 (F := Ideal) (up x8)) (Matrix.of fun i j => if j ≤ i then ((ct x4 x5 x6 x7 x8 x9 h n)).da i j else 0) := by
  intro i j
  rw [val_main_v146_apply]
  have h1 : val_main_call7_v0 (F := Ideal) (ix4 h n i j) = (0 : EReal) := by pointwise [val_main_call7_v0, val_main_call7_cst]
  have h2 : (val_main_v107_1 (F := Ideal) (ix4 h n i j) : BitVec 1) = if j ≤ i then 1#1 else 0#1 := by
    pointwise [val_main_v107_1]
    exact causal_at i j
  rw [h1, h2, select_if, da_at x4 x5 x6 x7 x8 x9, ← EReal.coe_zero, coe_ite, Matrix.of_apply]

theorem dqk_at : IsMat h n (val_main_v148 (F := Ideal) (up x1) (up x2) (up x3) (up x8)) (Matrix.of (dqk (ch x0 x1 x2 x3 h n) (ct x4 x5 x6 x7 x8 x9 h n))) := by
  intro i j
  refine ((mda_at x4 x5 x6 x7 x8 x9 h n).hadamard (fun i j => dec_at x0 x1 x2 x3 h n i j : IsMat h n (val_main_v64 (F := Ideal) (up x1) (up x2) (up x3)) (Matrix.of (dec (ch x0 x1 x2 x3 h n)))) i j).trans ?_
  refine congrArg _ ?_
  simp only [Matrix.of_apply, dqk]
  split
  · rfl
  · rw [dec_of_lt _ (by omega), mul_zero, mul_zero]

theorem gq_at : IsRows h n (val_main_v152 (F := Ideal) (up x0) (up x1) (up x2) (up x3) (up x6) (up x8)) (gq (ch x0 x1 x2 x3 h n) (ct x4 x5 x6 x7 x8 x9 h n)) :=
  ((dq_rows x4 x5 x6 x7 x8 x9 h n).mul (expG_rows x0 x1 x2 x3 h n)).add ((dqk_at x0 x1 x2 x3 x4 x5 x6 x7 x8 x9 h n).rows (k_rows x0 x1 x2 x3 h n))

theorem dkbe_at : IsRows h n (val_main_v154 (F := Ideal) (up x0) (up x1) (up x2) (up x3) (up x5)) (dkbe (ch x0 x1 x2 x3 h n) (ct x4 x5 x6 x7 x8 x9 h n)) := IsRows.Tmul (show IsRows h n (val_main_v7 (F := Ideal) (up x5)) _ from dw_at x4 x5 x6 x7 x8 x9 h n) (T5_at x0 x1 x2 x3 h n)

theorem kbdkbe_at (i : Fin 64) :
    (val_main_v162 (F := Ideal) (up x0) (up x1) (up x2) (up x3) (up x5)) (ix3 h n i) = (((∑ d, kb (ch x0 x1 x2 x3 h n) i d * dkbe (ch x0 x1 x2 x3 h n) (ct x4 x5 x6 x7 x8 x9 h n) i d) * Real.exp (G (ch x0 x1 x2 x3 h n) i) : ℝ) : EReal) := by
  have h1 := dkbe_at x0 x1 x2 x3 x4 x5 x6 x7 x8 x9 h n
  unfold IsRows at h1
  pointwise [val_main_v162, val_main_v161, val_main_v158, val_main_v157, val_main_v156, val_main_cst_15, val_main_cst_16, val_main_v100]
  simp only [kb_at x0 x1 x2 x3, h1, G_at x0 x1 x2 x3, Ideal.exp_coe, ← EReal.coe_mul, coe_sum, Finset.univ_unique, Finset.sum_singleton]

theorem dvb_at : IsRows h n (val_main_v165 (F := Ideal) (up x0) (up x1) (up x2) (up x3) (up x4)) (dvb (ch x0 x1 x2 x3 h n) (ct x4 x5 x6 x7 x8 x9 h n)) := IsRows.Tmul (show IsRows h n (val_main_v3 (F := Ideal) (up x4)) _ from du_at x4 x5 x6 x7 x8 x9 h n) (T5_at x0 x1 x2 x3 h n)

theorem β_rows : IsRows h n (val_main_v171 (F := Ideal) (up x1)) (fun i _ => ((ch x0 x1 x2 x3 h n)).β i) := by
  intro i d
  pointwise [val_main_v171, val_main_v96]
  exact β_at x0 x1 x2 x3 h n i

theorem gv_at : IsRows h n (val_main_v172 (F := Ideal) (up x0) (up x1) (up x2) (up x3) (up x4)) (gv (ch x0 x1 x2 x3 h n) (ct x4 x5 x6 x7 x8 x9 h n)) := (dvb_at x0 x1 x2 x3 x4 x5 x6 x7 x8 x9 h n).mul (β_rows x0 x1 x2 x3 h n)

theorem vdvb_at (i : Fin 64) : (val_main_v173 (F := Ideal) (up x0) (up x1) (up x2) (up x3) (up x4)) (ix3 h n i) = ((∑ d, ((ch x0 x1 x2 x3 h n)).v i d * dvb (ch x0 x1 x2 x3 h n) (ct x4 x5 x6 x7 x8 x9 h n) i d : ℝ) : EReal) := by
  have h1 := dvb_at x0 x1 x2 x3 x4 x5 x6 x7 x8 x9 h n
  unfold IsRows at h1
  pointwise [val_main_v173, val_main_v170, val_main_v169, val_main_v168, val_main_cst_17, val_main_cst_18]
  simp only [v_at x0 x1 x2 x3, h1, ← EReal.coe_mul, coe_sum, Finset.univ_unique, Finset.sum_singleton]

theorem dec_mat : IsMat h n (val_main_v64 (F := Ideal) (up x1) (up x2) (up x3)) (Matrix.of (dec (ch x0 x1 x2 x3 h n))) := dec_at x0 x1 x2 x3 h n

theorem dLd_at : IsMat h n (val_main_v223 (F := Ideal) (up x0) (up x1) (up x2) (up x3) (up x4) (up x5)) (Matrix.of (dLd (ch x0 x1 x2 x3 h n) (ct x4 x5 x6 x7 x8 x9 h n))) := (dL_at x0 x1 x2 x3 x4 x5 x6 x7 x8 x9 h n).hadamard (dec_mat x0 x1 x2 x3 h n)

theorem expG_rows' : IsRows h n (val_main_v159 (F := Ideal) (up x1) (up x2) (up x3)) (fun i _ => Real.exp (G (ch x0 x1 x2 x3 h n) i)) := by
  intro i d
  pointwise [val_main_v159, val_main_v101, val_main_v100]
  rw [G_at x0 x1 x2 x3, Ideal.exp_coe]

theorem dkb_at : IsRows h n (val_main_v227 (F := Ideal) (up x0) (up x1) (up x2) (up x3) (up x4) (up x5)) (dkb (ch x0 x1 x2 x3 h n) (ct x4 x5 x6 x7 x8 x9 h n)) :=
  ((dkbe_at x0 x1 x2 x3 x4 x5 x6 x7 x8 x9 h n).mul (expG_rows' x0 x1 x2 x3 h n)).add ((dLd_at x0 x1 x2 x3 x4 x5 x6 x7 x8 x9 h n).rows (k_rows x0 x1 x2 x3 h n))

theorem β_rows' : IsRows h n (val_main_v231 (F := Ideal) (up x1)) (fun i _ => ((ch x0 x1 x2 x3 h n)).β i) := by
  intro i d
  pointwise [val_main_v231, val_main_v65]
  exact β_at x0 x1 x2 x3 h n i

theorem gk_at : IsRows h n (val_main_v233 (F := Ideal) (up x0) (up x1) (up x2) (up x3) (up x4) (up x5) (up x7) (up x8)) (gk (ch x0 x1 x2 x3 h n) (ct x4 x5 x6 x7 x8 x9 h n)) :=
  ((((dk_rows x4 x5 x6 x7 x8 x9 h n).mul (tail_rows x0 x1 x2 x3 h n)).add ((dqk_at x0 x1 x2 x3 x4 x5 x6 x7 x8 x9 h n).rowsT (q_rows x0 x1 x2 x3 h n))).add
    ((dLd_at x0 x1 x2 x3 x4 x5 x6 x7 x8 x9 h n).rowsT (kb_rows x0 x1 x2 x3 h n))).add ((dkb_at x0 x1 x2 x3 x4 x5 x6 x7 x8 x9 h n).mul (β_rows' x0 x1 x2 x3 h n))

theorem gβ_at (i : Fin 64) : (val_main_v235 (F := Ideal) (up x0) (up x1) (up x2) (up x3) (up x4) (up x5)) (ix3 h n i) = ((gβ (ch x0 x1 x2 x3 h n) (ct x4 x5 x6 x7 x8 x9 h n) i : ℝ) : EReal) := by
  have h1 := dkb_at x0 x1 x2 x3 x4 x5 x6 x7 x8 x9 h n
  unfold IsRows at h1
  pointwise [val_main_v235, val_main_v234, val_main_v230, val_main_v229, val_main_v228, val_main_cst_19, val_main_cst_20]
  simp only [vdvb_at x0 x1 x2 x3 x4 x5 x6 x7 x8 x9, k_at x0 x1 x2 x3, h1, ← EReal.coe_mul, coe_sum, Finset.univ_unique, Finset.sum_singleton, ← EReal.coe_add]
  rfl

theorem dd_at : IsMat h n (val_main_v237 (F := Ideal) (up x0) (up x1) (up x2) (up x3) (up x4) (up x5) (up x8)) (Matrix.of (dd (ch x0 x1 x2 x3 h n) (ct x4 x5 x6 x7 x8 x9 h n))) := by
  intro i j
  have h1 := ((((qk_at x0 x1 x2 x3 h n).hadamard (mda_at x4 x5 x6 x7 x8 x9 h n)).add
    ((show IsMat h n (val_main_v68 (F := Ideal) (up x0) (up x1)) (Matrix.of (a1 (ch x0 x1 x2 x3 h n))) from a1_at x0 x1 x2 x3 h n).hadamard (dL_at x0 x1 x2 x3 x4 x5 x6 x7 x8 x9 h n))).hadamard (dec_mat x0 x1 x2 x3 h n)) i j
  have h3 : val_main_call9_v0 (F := Ideal) (ix4 h n i j) = (0 : EReal) := by pointwise [val_main_call9_v0, val_main_call9_cst]
  have h2 : (val_main_v63_1 (F := Ideal) (ix4 h n i j) : BitVec 1) = if j ≤ i then 1#1 else 0#1 := by
    pointwise [val_main_v63_1]
    exact causal_at i j
  rw [val_main_v237_apply, h3, h2, select_if, Matrix.of_apply, dd]
  split
  · rename_i hij
    refine (show (val_main_v236 (F := Ideal) (up x0) (up x1) (up x2) (up x3) (up x4) (up x5) (up x8)) (ix4 h n i j) = _ from h1).trans (congrArg _ ?_)
    simp only [Matrix.of_apply, Matrix.add_apply, if_pos hij]
  · rw [dec_of_lt _ (by omega), mul_zero, EReal.coe_zero]

theorem ddsum_at (i : Fin 64) : (val_main_v243 (F := Ideal) (up x0) (up x1) (up x2) (up x3) (up x4) (up x5) (up x8)) (ix3 h n i) = ((-∑ a, dd (ch x0 x1 x2 x3 h n) (ct x4 x5 x6 x7 x8 x9 h n) a i : ℝ) : EReal) := by
  have h1 := dd_at x0 x1 x2 x3 x4 x5 x6 x7 x8 x9 h n
  unfold IsMat at h1
  pointwise [val_main_v243, val_main_v242, val_main_v241, val_main_v240, val_main_cst_22, val_main_cst_23]
  simp only [h1, ← EReal.coe_neg, coe_sum, Finset.univ_unique, Finset.sum_singleton, Matrix.of_apply, Finset.sum_neg_distrib]

theorem ddrow_at (i : Fin 64) : (val_main_v245 (F := Ideal) (up x0) (up x1) (up x2) (up x3) (up x4) (up x5) (up x8)) (ix3 h n i) = ((∑ j, dd (ch x0 x1 x2 x3 h n) (ct x4 x5 x6 x7 x8 x9 h n) i j : ℝ) : EReal) := by
  have h1 := dd_at x0 x1 x2 x3 x4 x5 x6 x7 x8 x9 h n
  unfold IsMat at h1
  pointwise [val_main_v245, val_main_v239, val_main_v238, val_main_cst_21, val_main_cst_24]
  simp only [h1, coe_sum, Finset.univ_unique, Finset.sum_singleton, Matrix.of_apply]

theorem dG_at (i : Fin 64) :
    (val_main_v246 (F := Ideal) (up x0) (up x1) (up x2) (up x3) (up x4) (up x5) (up x6) (up x7) (up x8) (up x9)) (ix3 h n i) = ((dG (ch x0 x1 x2 x3 h n) (ct x4 x5 x6 x7 x8 x9 h n) i + (if i = 63 then dend (ch x0 x1 x2 x3 h n) (ct x4 x5 x6 x7 x8 x9 h n) else 0) : ℝ) : EReal) := by
  pointwise [val_main_v246, val_main_v244, val_main_v163, val_main_v145, val_main_v137, val_main_v132]
  simp only [tcol_at x0 x1 x2 x3 x4 x5 x6 x7 x8 x9, pad_at x0 x1 x2 x3 x4 x5 x6 x7 x8 x9, qdq_at x0 x1 x2 x3 x4 x5 x6 x7 x8 x9, kbdkbe_at x0 x1 x2 x3 x4 x5 x6 x7 x8 x9, ddsum_at x0 x1 x2 x3 x4 x5 x6 x7 x8 x9, ddrow_at x0 x1 x2 x3 x4 x5 x6 x7 x8 x9,
    ← EReal.coe_neg, ← EReal.coe_add]
  refine congrArg _ ?_
  rw [dG]
  ring

theorem gγ_at (i : Fin 64) : (val_main_v247 (F := Ideal) (up x0) (up x1) (up x2) (up x3) (up x4) (up x5) (up x6) (up x7) (up x8) (up x9)) (ix3 h n i) = ((gγ (ch x0 x1 x2 x3 h n) (ct x4 x5 x6 x7 x8 x9 h n) i : ℝ) : EReal) := by
  rw [val_main_v247]
  refine (WindowSum.cumsumRev_apply _ _ _ _ (by pointwise [val_main_v247, val_main_call10_call0_v0, val_main_call10_call0_cst]) h n i).trans ?_
  simp only [dG_at x0 x1 x2 x3 x4 x5 x6 x7 x8 x9, ← EReal.coe_zero, coe_ite, coe_sum, gγ_eq]

end Rows

section Results

variable (r : Fin 4096)

theorem gq_out (c : Fin 1024) : (val_main_v284 (F := Ideal) (up x0) (up x1) (up x2) (up x3) (up x4) (up x5) (up x6) (up x7) (up x8)) (ix2 r c)
    = ((gq (ch x0 x1 x2 x3 (headOf c) (chunkOf r)) (ct x4 x5 x6 x7 x8 x9 (headOf c) (chunkOf r)) (rowOf r) (dimOf c) * scale : ℝ) : EReal) := by
  have h1 := gq_at x0 x1 x2 x3 x4 x5 x6 x7 x8 x9 (headOf c) (chunkOf r) (rowOf r) (dimOf c)
  pointwise [val_main_v284, val_main_v283, val_main_v280, val_main_v277, val_main_v276, val_main_v253, val_main_v252, val_main_cst_32, val_main_v279, val_main_v278, val_main_v255, val_main_v254, val_main_cst_33, val_main_v282, val_main_v281, val_main_v259, val_main_v258, val_main_v257, val_main_v256, val_main_cst_25, val_main_cst_34]
  rw [dif_neg (by omega), dif_neg (fun H => H.1), add_zero, zero_add, lit_scale, EReal.coe_mul]
  exact congrArg (fun z : EReal => z * ((scale : ℝ) : EReal)) h1

theorem gk_out (c : Fin 1024) : (val_main_v285 (F := Ideal) (up x0) (up x1) (up x2) (up x3) (up x4) (up x5) (up x6) (up x7) (up x8)) (ix2 r c)
    = ((gk (ch x0 x1 x2 x3 (headOf c) (chunkOf r)) (ct x4 x5 x6 x7 x8 x9 (headOf c) (chunkOf r)) (rowOf r) (dimOf c) : ℝ) : EReal) := by
  have h1 := gk_at x0 x1 x2 x3 x4 x5 x6 x7 x8 x9 (headOf c) (chunkOf r) (rowOf r) (dimOf c)
  pointwise [val_main_v285, val_main_v283, val_main_v280, val_main_v277, val_main_v276, val_main_v253, val_main_v252, val_main_cst_32, val_main_v279, val_main_v278, val_main_v255, val_main_v254, val_main_cst_33, val_main_v282, val_main_v281, val_main_v259, val_main_v258, val_main_v257, val_main_v256, val_main_cst_25, val_main_cst_34]
  rw [dif_neg (by omega), zero_add]
  exact h1

theorem gv_out (c : Fin 1024) : (val_main_v286 (F := Ideal) (up x0) (up x1) (up x2) (up x3) (up x4) (up x5) (up x6) (up x7) (up x8)) (ix2 r c)
    = ((gv (ch x0 x1 x2 x3 (headOf c) (chunkOf r)) (ct x4 x5 x6 x7 x8 x9 (headOf c) (chunkOf r)) (rowOf r) (dimOf c) : ℝ) : EReal) := by
  have h1 := gv_at x0 x1 x2 x3 x4 x5 x6 x7 x8 x9 (headOf c) (chunkOf r) (rowOf r) (dimOf c)
  pointwise [val_main_v286, val_main_v283, val_main_v280, val_main_v277, val_main_v276, val_main_v253, val_main_v252, val_main_cst_32, val_main_v279, val_main_v278, val_main_v255, val_main_v254, val_main_cst_33, val_main_v282, val_main_v281, val_main_v259, val_main_v258, val_main_v257, val_main_v256, val_main_cst_25, val_main_cst_34]
  rw [dif_neg (by omega), dif_neg (by omega), add_zero, add_zero]
  exact h1

theorem gγ_row (h : Fin 8) : (val_main_v249 (F := Ideal) (up x0) (up x1) (up x2) (up x3) (up x4) (up x5) (up x6) (up x7) (up x8) (up x9)) (ix2 r h) = ((gγ (ch x0 x1 x2 x3 h (chunkOf r)) (ct x4 x5 x6 x7 x8 x9 h (chunkOf r)) (rowOf r) : ℝ) : EReal) := by
  pointwise [val_main_v249, val_main_v248]
  exact gγ_at x0 x1 x2 x3 x4 x5 x6 x7 x8 x9 h (chunkOf r) (rowOf r)

theorem gβ_row (h : Fin 8) : (val_main_v251 (F := Ideal) (up x0) (up x1) (up x2) (up x3) (up x4) (up x5)) (ix2 r h) = ((gβ (ch x0 x1 x2 x3 h (chunkOf r)) (ct x4 x5 x6 x7 x8 x9 h (chunkOf r)) (rowOf r) : ℝ) : EReal) := by
  pointwise [val_main_v251, val_main_v250]
  exact gβ_at x0 x1 x2 x3 x4 x5 x6 x7 x8 x9 h (chunkOf r) (rowOf r)

theorem dxa_row (h : Fin 8) : (val_main_v266 (F := Ideal) (up x0) (up x1) (up x2) (up x3) (up x4) (up x5) (up x6) (up x7) (up x8) (up x9)) (ix2 r h) = ((dxa x0 x1 x2 x3 x4 x5 x6 x7 x8 x9 r h : ℝ) : EReal) := by
  pointwise [val_main_v266, val_main_v261, val_main_v260, val_main_v38, val_main_v32, val_main_v31]
  rw [gγ_row x0 x1 x2 x3 x4 x5 x6 x7 x8 x9, spd_at]
  simp only [up_apply, Ideal.exp_coe, ← EReal.coe_neg, ← EReal.coe_mul]
  rfl

theorem db_row (h : Fin 8) : (val_main_v273 (F := Ideal) (up x0) (up x1) (up x2) (up x3) (up x4) (up x5)) (ix2 r h) = ((db x0 x1 x2 x3 x4 x5 x6 x7 x8 x9 r h : ℝ) : EReal) := by
  pointwise [val_main_v273, val_main_v30, val_main_v29, val_main_v28, val_main_cst_1]
  rw [gβ_row x0 x1 x2 x3 x4 x5 x6 x7 x8 x9, bet_at, ← EReal.coe_one, ← EReal.coe_sub, ← EReal.coe_mul, ← EReal.coe_mul]
  rfl

theorem dba_out (c : Fin 16) : (val_main_v275 (F := Ideal) (up x0) (up x1) (up x2) (up x3) (up x4) (up x5) (up x6) (up x7) (up x8) (up x9)) (ix2 r c) = ((dba x0 x1 x2 x3 x4 x5 x6 x7 x8 x9 r c : ℝ) : EReal) := by
  pointwise [val_main_v275, val_main_v270, val_main_cst_30, val_main_v274, val_main_cst_31]
  by_cases hc : c.val < 8
  · rw [dif_neg (by omega), dif_pos hc, zero_add, db_row, dba, dif_pos hc]
  · rw [dif_pos ⟨by omega, by omega⟩, dif_neg hc, add_zero, dxa_row, dba, dif_neg hc]

theorem dal_out (u : Fin 1) (h : Fin 8) : (val_main_v287 (F := Ideal) (up x0) (up x1) (up x2) (up x3) (up x4) (up x5) (up x6) (up x7) (up x8) (up x9)) (ix2 u h) = ((dal x0 x1 x2 x3 x4 x5 x6 x7 x8 x9 h : ℝ) : EReal) := by
  pointwise [val_main_v287, val_main_v272, val_main_v271, val_main_v265, val_main_v264, val_main_v263, val_main_v262, val_main_cst_26, val_main_cst_27, val_main_v31]
  simp only [Finset.univ_unique, Finset.sum_singleton, gγ_row x0 x1 x2 x3 x4 x5 x6 x7 x8 x9, sp_at, up_apply, Ideal.exp_coe, ← EReal.coe_mul, coe_sum, ← EReal.coe_neg]
  rfl

theorem ddt_out (u : Fin 1) (h : Fin 8) : (val_main_v288 (F := Ideal) (up x0) (up x1) (up x2) (up x3) (up x4) (up x5) (up x6) (up x7) (up x8) (up x9)) (ix2 u h) = ((ddt x0 x1 x2 x3 x4 x5 x6 x7 x8 x9 h : ℝ) : EReal) := by
  pointwise [val_main_v288, val_main_v269, val_main_v268, val_main_v267, val_main_cst_28, val_main_cst_29]
  simp only [Finset.univ_unique, Finset.sum_singleton, dxa_row, coe_sum]
  rfl

end Results

end Cert.LocalRef

end
-- ==== Proof.Local.lean ====
/-
The chunks' gradient: kernel and reference end with the same six arrays.
-/
module

public import proofs.«01_k».proof.Defs
public import proofs.«01_k».proof.Proof.LocalDq
public import proofs.«01_k».proof.Proof.LocalDk
public import proofs.«01_k».proof.Proof.LocalDv
public import proofs.«01_k».proof.Proof.LocalSums
public import proofs.«01_k».proof.Proof.LocalBack
public import proofs.«01_k».proof.Proof.Gen.Pre_finite_local
public import Idealize.ShloMosaic.Lib.Claim

@[expose] public section

set_option maxRecDepth 16384

noncomputable section

namespace Cert.Local

open Cert.RealLift Idealize.ShloMosaic Idealize.SL.Sem

/-- The precondition: the arguments are arrays of reals. -/
theorem args_of_pre (m : (ℓ : Loc Cert.LocalKernelIdeal.nD Cert.LocalKernelIdeal.τ Cert.LocalKernelIdeal.sig) → Buf (Elt Ideal) ℓ)
    (h : Cert.Pre_LocalKernelIdeal_finite_local m) (c : Dev Cert.LocalKernelIdeal.nD) :
    ∃ x0 x1 x2 x3 x4 x5 x6 x7 x8 x9, LocalBlocks.Args m x0 x1 x2 x3 x4 x5 x6 x7 x8 x9 c := by
  have hc := congrFun (h c) (fun a => a.elim0)
  have hc' : IntOp.andi (IntOp.andi (IntOp.andi (IntOp.andi (IntOp.andi (IntOp.andi (IntOp.andi (IntOp.andi (IntOp.andi _ _) _) _) _) _) _) _) _) _ = 1#1 := hc
  obtain ⟨k8, h9⟩ := IntOp.andi_eq_one.1 hc'
  obtain ⟨k7, h8⟩ := IntOp.andi_eq_one.1 k8
  obtain ⟨k6, h7⟩ := IntOp.andi_eq_one.1 k7
  obtain ⟨k5, h6⟩ := IntOp.andi_eq_one.1 k6
  obtain ⟨k4, h5⟩ := IntOp.andi_eq_one.1 k5
  obtain ⟨k3, h4⟩ := IntOp.andi_eq_one.1 k4
  obtain ⟨k2, h3⟩ := IntOp.andi_eq_one.1 k3
  obtain ⟨k1, h2⟩ := IntOp.andi_eq_one.1 k2
  obtain ⟨h0, h1⟩ := IntOp.andi_eq_one.1 k1
  haveI : Subsingleton Cert.Pre_finite_local.S_.Idx := ⟨fun a b => funext fun k => k.elim0⟩
  obtain ⟨x0, e0⟩ := exists_up _ _ _ _ _ _ h0
  obtain ⟨x1, e1⟩ := exists_up _ _ _ _ _ _ h1
  obtain ⟨x2, e2⟩ := exists_up _ _ _ _ _ _ h2
  obtain ⟨x3, e3⟩ := exists_up _ _ _ _ _ _ h3
  obtain ⟨x4, e4⟩ := exists_up _ _ _ _ _ _ h4
  obtain ⟨x5, e5⟩ := exists_up _ _ _ _ _ _ h5
  obtain ⟨x6, e6⟩ := exists_up _ _ _ _ _ _ h6
  obtain ⟨x7, e7⟩ := exists_up _ _ _ _ _ _ h7
  obtain ⟨x8, e8⟩ := exists_up _ _ _ _ _ _ h8
  obtain ⟨x9, e9⟩ := exists_up _ _ _ _ _ _ h9
  exact ⟨x0, x1, x2, x3, x4, x5, x6, x7, x8, x9, e0, e1, e2, e3, e4, e5, e6, e7, e8, e9⟩

/-- The run leaves the six windows' arrays. -/
theorem results (m : (ℓ : Loc Cert.LocalKernelIdeal.nD Cert.LocalKernelIdeal.τ Cert.LocalKernelIdeal.sig) → Buf (Elt Ideal) ℓ)
    (g : Dev Cert.LocalKernelIdeal.nD → PrngReg) :
    θ_run (Cert.LocalKernelIdeal.defs (F := Ideal)) (onTc (τ := Cert.LocalKernelIdeal.τ) (Cert.LocalKernelIdeal.main (F := Ideal))) ⟨m, fun _ => 0, g⟩ (fun r => ∀ c : Dev Cert.LocalKernelIdeal.nD,
      r.2.mem ((c.tc : Thread Cert.LocalKernelIdeal.nD Cert.LocalKernelIdeal.τ).loc Cert.LocalKernelIdeal.main_v83_0) = (Cert.LocalKernelIdeal.Gen.dats m 0 c).arrAt 13 (Cert.LocalKernelIdeal.cfgs 0).N
      ∧ r.2.mem ((c.tc : Thread Cert.LocalKernelIdeal.nD Cert.LocalKernelIdeal.τ).loc Cert.LocalKernelIdeal.main_v83_1) = (Cert.LocalKernelIdeal.Gen.dats m 0 c).arrAt 14 (Cert.LocalKernelIdeal.cfgs 0).N
      ∧ r.2.mem ((c.tc : Thread Cert.LocalKernelIdeal.nD Cert.LocalKernelIdeal.τ).loc Cert.LocalKernelIdeal.main_v83_2) = (Cert.LocalKernelIdeal.Gen.dats m 0 c).arrAt 15 (Cert.LocalKernelIdeal.cfgs 0).N
      ∧ r.2.mem ((c.tc : Thread Cert.LocalKernelIdeal.nD Cert.LocalKernelIdeal.τ).loc Cert.LocalKernelIdeal.main_v83_3) = (Cert.LocalKernelIdeal.Gen.dats m 0 c).arrAt 16 (Cert.LocalKernelIdeal.cfgs 0).N
      ∧ r.2.mem ((c.tc : Thread Cert.LocalKernelIdeal.nD Cert.LocalKernelIdeal.τ).loc Cert.LocalKernelIdeal.main_v83_4) = (Cert.LocalKernelIdeal.Gen.dats m 0 c).arrAt 17 (Cert.LocalKernelIdeal.cfgs 0).N
      ∧ r.2.mem ((c.tc : Thread Cert.LocalKernelIdeal.nD Cert.LocalKernelIdeal.τ).loc Cert.LocalKernelIdeal.main_v83_5) = (Cert.LocalKernelIdeal.Gen.dats m 0 c).arrAt 18 (Cert.LocalKernelIdeal.cfgs 0).N) :=
  (θ_run _ _ _).mono (fun _ h c => ⟨(h c).1 13, (h c).1 14, (h c).1 15, (h c).1 16, (h c).1 17, (h c).1 18⟩) (Cert.LocalKernelIdeal.Gen.run_main m g)

set_option maxHeartbeats 8000000 in
theorem algebraic : Cert.algebraic_LocalKernelIdeal_LocalReferenceIdeal_pre_finite_local := by
  pair_intro
  · run_from (results m g) & (Cert.LocalKernelIdeal.Gen.unchanged m g)
  · run_from Cert.LocalReferenceIdeal.Value.run m' g' <;>
      (obtain ⟨x0, x1, x2, x3, x4, x5, x6, x7, x8, x9, h⟩ := args_of_pre m hpre c
       obtain ⟨h0, h1, h2, h3, h4, h5, h6, h7, h8, h9⟩ := hagree c
       have e0 : StableHlo.launchContents m' c (Proc.tc.devRef LocalReferenceIdeal.main_arg0) = up x0 := h0.trans h.x0
       have e1 : StableHlo.launchContents m' c (Proc.tc.devRef LocalReferenceIdeal.main_arg1) = up x1 := h1.trans h.x1
       have e2 : StableHlo.launchContents m' c (Proc.tc.devRef LocalReferenceIdeal.main_arg2) = up x2 := h2.trans h.x2
       have e3 : StableHlo.launchContents m' c (Proc.tc.devRef LocalReferenceIdeal.main_arg3) = up x3 := h3.trans h.x3
       have e4 : StableHlo.launchContents m' c (Proc.tc.devRef LocalReferenceIdeal.main_arg4) = up x4 := h4.trans h.x4
       have e5 : StableHlo.launchContents m' c (Proc.tc.devRef LocalReferenceIdeal.main_arg5) = up x5 := h5.trans h.x5
       have e6 : StableHlo.launchContents m' c (Proc.tc.devRef LocalReferenceIdeal.main_arg6) = up x6 := h6.trans h.x6
       have e7 : StableHlo.launchContents m' c (Proc.tc.devRef LocalReferenceIdeal.main_arg7) = up x7 := h7.trans h.x7
       have e8 : StableHlo.launchContents m' c (Proc.tc.devRef LocalReferenceIdeal.main_arg8) = up x8 := h8.trans h.x8
       have e9 : StableHlo.launchContents m' c (Proc.tc.devRef LocalReferenceIdeal.main_arg9) = up x9 := h9.trans h.x9)
    · rw [LocalReferenceIdeal.Read.val_main_v284_eq, e0, e1, e2, e3, e4, e5, e6, e7, e8, LocalBlocks.final13 h]
      funext j
      idx_vars j
      exact LocalRef.gq_out x0 x1 x2 x3 x4 x5 x6 x7 x8 x9 j0 j1
    · rw [LocalReferenceIdeal.Read.val_main_v285_eq, e0, e1, e2, e3, e4, e5, e6, e7, e8, LocalBlocks.final14 h]
      funext j
      idx_vars j
      exact LocalRef.gk_out x0 x1 x2 x3 x4 x5 x6 x7 x8 x9 j0 j1
    · rw [LocalReferenceIdeal.Read.val_main_v286_eq, e0, e1, e2, e3, e4, e5, e6, e7, e8, LocalBlocks.final15 h]
      funext j
      idx_vars j
      exact LocalRef.gv_out x0 x1 x2 x3 x4 x5 x6 x7 x8 x9 j0 j1
    · rw [LocalReferenceIdeal.Read.val_main_v275_eq, e0, e1, e2, e3, e4, e5, e6, e7, e8, e9, LocalBlocks.final16 h]
      funext j
      idx_vars j
      exact LocalRef.dba_out x0 x1 x2 x3 x4 x5 x6 x7 x8 x9 j0 j1
    · rw [LocalReferenceIdeal.Read.val_main_v287_eq, e0, e1, e2, e3, e4, e5, e6, e7, e8, e9, LocalBlocks.final17 h]
      funext j
      idx_vars j
      exact LocalRef.dal_out x0 x1 x2 x3 x4 x5 x6 x7 x8 x9 j0 j1
    · rw [LocalReferenceIdeal.Read.val_main_v288_eq, e0, e1, e2, e3, e4, e5, e6, e7, e8, e9, LocalBlocks.final18 h]
      funext j
      idx_vars j
      exact LocalRef.ddt_out x0 x1 x2 x3 x4 x5 x6 x7 x8 x9 j0 j1

theorem frame_ref : Cert.quiescent_LocalReferenceIdeal := fun m ρ _ =>
  (θ_run Cert.LocalReferenceIdeal.defs _ _).mono (fun r h => And.intro (fun c => (h c).2.2.2.2.2.2) (sem_eq_zero_of_no_sems (by decide) r.2))
    (Cert.LocalReferenceIdeal.Value.run m ρ)

end Cert.Local

end
-- ==== Proof.Literals.lean ====
/-
More literals of the programs, as real numbers.
-/
module

public import proofs.«01_k».proof.Proof.RealLift

@[expose] public section

noncomputable section

namespace Cert.RealLift

open Idealize.ShloMosaic

theorem lit_half : Ideal.ofBits .f32 0x3F000000#32 = ((1 / 2 : ℝ) : EReal) := by
  simp [Ideal.ofBits, Ideal.ieee, ← EReal.coe_mul]; norm_num

theorem lit_two : Ideal.ofBits .f32 0x40000000#32 = ((2 : ℝ) : EReal) := by
  simp [Ideal.ofBits, Ideal.ieee, ← EReal.coe_mul]; norm_num

theorem lit_inv1024 : Ideal.ofBits .f32 0x3A800000#32 = ((1 / 1024 : ℝ) : EReal) := by
  simp [Ideal.ofBits, Ideal.ieee, ← EReal.coe_mul]; norm_num

theorem lit_128 : Ideal.ofBits .f32 0x43000000#32 = ((128 : ℝ) : EReal) := by
  simp [Ideal.ofBits, Ideal.ieee, ← EReal.coe_mul]; norm_num

theorem lit_512 : Ideal.ofBits .f32 0x44000000#32 = ((512 : ℝ) : EReal) := by
  simp [Ideal.ofBits, Ideal.ieee, ← EReal.coe_mul]; norm_num

/-- Division by the literal 128. -/
theorem div_128 (a : ℝ) : Ideal.div (a : EReal) (Ideal.ofBits .f32 0x43000000#32) = ((a / 128 : ℝ) : EReal) := by
  rw [lit_128, div_real (by norm_num)]

/-- Division by the literal 512. -/
theorem div_512 (a : ℝ) : Ideal.div (a : EReal) (Ideal.ofBits .f32 0x44000000#32) = ((a / 512 : ℝ) : EReal) := by
  rw [lit_512, div_real (by norm_num)]

end Cert.RealLift

end
-- ==== Proof.LossRef.lean ====
/-
The reference of the loss and its gradient on arrays of reals.
-/
module

public import proofs.«01_k».proof.Proof.RmsGrad
public import proofs.«01_k».proof.Proof.Literals
public import proofs.«01_k».proof.Proof.Gen.LossReferenceIdeal.Read

@[expose] public section

set_option maxRecDepth 16384

noncomputable section

namespace Cert.LossRef

open Cert.RealLift Cert.RmsGrad Idealize.ShloMosaic
open Cert.LossReferenceIdeal (S4096x1024 S1024 S1x1024 S8x128)
open Cert.LossReferenceIdeal.Read

/-- A row's error: the normalised row less the target. -/
def err {n : ℕ} (x g t : Fin n → ℝ) (k : Fin n) : ℝ := x k * rstd x * g k - t k

variable (x : S4096x1024.Idx → ℝ) (g : S1024.Idx → ℝ) (t : S4096x1024.Idx → ℝ)

/-- A row of an array. -/
abbrev row (x : S4096x1024.Idx → ℝ) (r : Fin 4096) (k : Fin 1024) : ℝ := x (ix2 r k)

/-- The scale. -/
abbrev sc (k : Fin 1024) : ℝ := g (ix1 k)

/-- The error at a row. -/
abbrev er (r : Fin 4096) (k : Fin 1024) : ℝ := err (row x r) (sc g) (row t r) k

theorem ms_at (r : Fin 4096) (u : Fin 1) : val_main_v6 (F := Ideal) (up x) (ix2 r u) = ((ms (row x r) : ℝ) : EReal) := by
  pointwise [val_main_v6, val_main_v5, val_main_v4, val_main_v3, val_main_v2, val_main_v1, val_main_v0, val_main_cst, val_main_cst_0, val_main_cst_1]
  simp only [up_apply, ← EReal.coe_mul, coe_sum, div_1024, lit_eps, ← EReal.coe_add]
  simp only [ms, row, Nat.cast_ofNat]

theorem rstd_at (r : Fin 4096) (u : Fin 1) : val_main_v7 (F := Ideal) (up x) (ix2 r u) = ((rstd (row x r) : ℝ) : EReal) := by
  pointwise [val_main_v7]
  rw [ms_at, rsqrt_real (ms_pos _), rstd]

theorem cube_at (r : Fin 4096) (u : Fin 1) :
    val_main_v10 (F := Ideal) (up x) (ix2 r u) = ((-(1 / 2) * (rstd (row x r) / ms (row x r)) : ℝ) : EReal) := by
  pointwise [val_main_v10, val_main_v9, val_main_v8, val_main_cst_2]
  rw [ms_at, rstd_at, div_real (ms_pos _).ne', lit_neg_half, ← EReal.coe_mul]

theorem err_at (r : Fin 4096) (k : Fin 1024) :
    val_main_v16 (F := Ideal) (up x) (up g) (up t) (ix2 r k) = ((er x g t r k : ℝ) : EReal) := by
  pointwise [val_main_v16, val_main_v15, val_main_v14, val_main_v13, val_main_v12, val_main_v11]
  simp only [rstd_at, up_apply, ← EReal.coe_mul, ← EReal.coe_sub, err]

theorem ct_at (r : Fin 4096) (k : Fin 1024) :
    val_main_v30 (F := Ideal) (up x) (up g) (up t) (ix2 r k) = ((er x g t r k / 1024 : ℝ) : EReal) := by
  pointwise [val_main_v30, val_main_v29, val_main_v28, val_main_v27, val_main_v26, val_main_v25, val_main_v19, val_main_v18, val_main_cst_3, val_main_cst_8, val_main_cst_9, val_main_cst_10]
  rw [err_at, lit_half, lit_two, div_1024, ← EReal.coe_mul, ← EReal.coe_mul]
  congr 1
  ring

theorem u_at (r : Fin 4096) (k : Fin 1024) :
    val_main_v35 (F := Ideal) (up x) (up g) (up t) (ix2 r k) = ((er x g t r k / 1024 * sc g k : ℝ) : EReal) := by
  pointwise [val_main_v35, val_main_v34, val_main_v13]
  rw [ct_at, up_apply, ← EReal.coe_mul]

theorem dot_at (r : Fin 4096) (u : Fin 1) :
    val_main_v39 (F := Ideal) (up x) (up g) (up t) (ix2 r u) = ((∑ l, row x r l * (er x g t r l / 1024 * sc g l) : ℝ) : EReal) := by
  pointwise [val_main_v39, val_main_v38, val_main_v37, val_main_cst_13]
  simp only [u_at, up_apply, ← EReal.coe_mul, coe_sum]

theorem dx_at (r : Fin 4096) (k : Fin 1024) :
    val_main_v50 (F := Ideal) (up x) (up g) (up t) (ix2 r k)
      = ((rmsDx (row x r) (sc g) (fun k => er x g t r k / 1024) k : ℝ) : EReal) := by
  rw [← rmsDx_eq]
  pointwise [val_main_v50, val_main_v49, val_main_v48, val_main_v47, val_main_v46, val_main_v45, val_main_v44, val_main_v43,
    val_main_v42, val_main_v41, val_main_v40, val_main_cst_14, val_main_cst_15]
  simp only [u_at, dot_at, cube_at, rstd_at]
  simp only [up_apply, ← EReal.coe_mul, coe_sum, div_1024, ← EReal.coe_add, Finset.univ_unique, Finset.sum_singleton, Nat.cast_ofNat]

theorem dg_at (u : Fin 1) (k : Fin 1024) :
    val_main_v51 (F := Ideal) (up x) (up g) (up t) (ix2 u k)
      = ((∑ r, x (ix2 r k) * rstd (row x r) * (er x g t r k / 1024) : ℝ) : EReal) := by
  pointwise [val_main_v51, val_main_v36, val_main_v33, val_main_v32, val_main_v31, val_main_v12, val_main_v11, val_main_cst_11, val_main_cst_12]
  simp only [rstd_at, ct_at]
  simp only [up_apply, ← EReal.coe_mul, coe_sum, Finset.univ_unique, Finset.sum_singleton]

theorem loss_at (a : Fin 8) (b : Fin 128) :
    val_main_v52 (F := Ideal) (up x) (up g) (up t) (ix2 a b)
      = ((∑ r, 1 / 2 * ((∑ k, er x g t r k * er x g t r k) / 1024) : ℝ) : EReal) := by
  pointwise [val_main_v52, val_main_v24, val_main_v23, val_main_v22, val_main_v21, val_main_v20, val_main_v17, val_main_cst_4, val_main_cst_5, val_main_cst_6, val_main_cst_7]
  simp only [err_at, lit_half, ← EReal.coe_mul, coe_sum, div_1024, Finset.mul_sum]

end Cert.LossRef

end
-- ==== Proof.LossBlock.lean ====
/-
One block of the loss and its gradient: what the kernel's body computes from 512 rows of reals.
-/
module

public import proofs.«01_k».proof.Proof.LossRef
public import proofs.«01_k».proof.Proof.Gen.LossKernelIdeal.Value
public import Idealize.ShloMosaic.Lib.Pipeline.ValueKit

@[expose] public section

set_option maxRecDepth 16384

noncomputable section

namespace Cert.LossBlock

open Cert.RealLift Cert.RmsGrad Cert.LossRef Idealize.ShloMosaic Idealize.ShloMosaic.Pipeline
open Cert.LossKernelIdeal Cert.LossKernelIdeal.Gen

variable (x : S512x1024.Idx → ℝ) (g : S1x1024.Idx → ℝ) (t : S512x1024.Idx → ℝ)

/-- A row of the block. -/
abbrev rowB (x : S512x1024.Idx → ℝ) (i : Fin 512) (k : Fin 1024) : ℝ := x (ix2 i k)

/-- The scale. -/
abbrev scB (k : Fin 1024) : ℝ := g (ix2 0 k)

/-- The error at a row of the block. -/
abbrev erB (i : Fin 512) (k : Fin 1024) : ℝ := err (rowB x i) (scB g) (rowB t i) k

theorem root (i : Fin 512) (a : ℝ) (h : a = ms (rowB x i)) : Ideal.rsqrt (a : EReal) = ((rstd (rowB x i) : ℝ) : EReal) := by
  subst h; rw [rsqrt_real (ms_pos _), rstd]

theorem err_at (i : Fin 512) (k : Fin 1024) :
    k0_pay7 (F := Ideal) (up x) (up g) (up t) (ix2 i k) = ((erB x g t i k : ℝ) : EReal) := by
  pointwise [k0_pay7, k0_pay6]
  simp only [up_apply, ← EReal.coe_mul, coe_sum, div_1024, lit_eps, ← EReal.coe_add]
  rw [root x i _ (by simp only [ms, rowB, Nat.cast_ofNat])]
  simp only [← EReal.coe_mul, ← EReal.coe_sub, err]

theorem loss_at (u v : Fin 1) : k0_pay8 (F := Ideal) (up x) (up g) (up t) (ix2 u v)
    = ((∑ i, 1 / 2 * ((∑ k, erB x g t i k * erB x g t i k) / 1024) : ℝ) : EReal) := by
  pointwise [k0_pay8]
  simp only [err_at, lit_half, ← EReal.coe_mul, coe_sum, div_1024, Finset.mul_sum]

theorem ct_at (i : Fin 512) (k : Fin 1024) :
    k0_pay9 (F := Ideal) (up x) (up g) (up t) (ix2 i k) = ((erB x g t i k / 1024 : ℝ) : EReal) := by
  pointwise [k0_pay9]
  rw [err_at, lit_inv1024, ← EReal.coe_mul, mul_one_div]

theorem rstd_at (i : Fin 512) (u : Fin 1) : k0_pay10 (F := Ideal) (up x) (ix2 i u) = ((rstd (rowB x i) : ℝ) : EReal) := by
  pointwise [k0_pay10]
  simp only [up_apply, ← EReal.coe_mul, coe_sum, div_1024, lit_eps, ← EReal.coe_add]
  exact root x i _ (by simp only [ms, rowB, Nat.cast_ofNat])

theorem xh_at (i : Fin 512) (k : Fin 1024) : k0_pay11 (F := Ideal) (up x) (ix2 i k) = ((rowB x i k * rstd (rowB x i) : ℝ) : EReal) := by
  pointwise [k0_pay11]
  simp only [rstd_at, up_apply, ← EReal.coe_mul]

theorem u_at (i : Fin 512) (k : Fin 1024) :
    k0_pay12 (F := Ideal) (up x) (up g) (up t) (ix2 i k) = ((erB x g t i k / 1024 * scB g k : ℝ) : EReal) := by
  pointwise [k0_pay12, k0_pay6]
  simp only [ct_at, up_apply, ← EReal.coe_mul]

theorem ux_at (i : Fin 512) (k : Fin 1024) : k0_pay13 (F := Ideal) (up x) (up g) (up t) (ix2 i k)
    = ((erB x g t i k / 1024 * scB g k * (rowB x i k * rstd (rowB x i)) : ℝ) : EReal) := by
  pointwise [k0_pay13]
  simp only [u_at, xh_at, ← EReal.coe_mul]

/-- The block of the gradient in the trunk's output. -/
theorem dx_at (i : Fin 512) (k : Fin 1024) :
    k0_pay1 (F := Ideal) (k0_pay10 (up x)) (k0_pay11 (up x)) (k0_pay12 (up x) (up g) (up t)) (k0_pay13 (up x) (up g) (up t)) (ix2 i k)
      = ((rmsDx (rowB x i) (scB g) (fun k => erB x g t i k / 1024) k : ℝ) : EReal) := by
  pointwise [k0_pay1]
  simp only [rstd_at, xh_at, u_at, ux_at, ← EReal.coe_mul, coe_sum, div_1024, ← EReal.coe_sub, rmsDx, Nat.cast_ofNat]

/-- The block's part of the scale's gradient. -/
theorem dg_at (u : Fin 1) (k : Fin 1024) :
    k0_pay2 (F := Ideal) (k0_pay9 (up x) (up g) (up t)) (k0_pay11 (up x)) (ix2 u k)
      = ((∑ i, rowB x i k * rstd (rowB x i) * (erB x g t i k / 1024) : ℝ) : EReal) := by
  pointwise [k0_pay2]
  simp only [ct_at, xh_at, ← EReal.coe_mul, coe_sum]
  congr 1
  exact Finset.sum_congr rfl fun i _ => mul_comm _ _

/-- The block's part of the loss, in every entry of the tile. -/
theorem part_at (a : Fin 8) (b : Fin 128) : k0_pay3 (F := Ideal) (k0_pay8 (up x) (up g) (up t)) (ix2 a b)
    = ((∑ i, 1 / 2 * ((∑ k, erB x g t i k * erB x g t i k) / 1024) : ℝ) : EReal) := by
  pointwise [k0_pay3]
  rw [loss_at]

theorem dg_step (v w : FVec Ideal S512x1024 .f32) (a : FVec Ideal S1x1024 .f32) (j : S1x1024.Idx) :
    k0_pay4 (F := Ideal) v w a j = a j + k0_pay2 v w j := by
  idx_vars j
  pointwise [k0_pay4]

theorem part_step (v : FVec Ideal S1x1 .f32) (a : FVec Ideal S8x128 .f32) (j : S8x128.Idx) :
    k0_pay5 (F := Ideal) v a j = a j + k0_pay3 v j := by
  idx_vars j
  pointwise [k0_pay5]

end Cert.LossBlock

end
-- ==== Proof.LossKernel.lean ====
/-
The three result arrays of the loss kernel, at arguments that are real numbers.
-/
module

public import proofs.«01_k».proof.Proof.LossBlock

@[expose] public section

set_option maxRecDepth 16384

noncomputable section

namespace Cert.LossKernel

open Cert.RealLift Cert.RmsGrad Cert.LossRef Cert.LossBlock Idealize.ShloMosaic Idealize.ShloMosaic.Pipeline
open Cert.LossKernelIdeal Cert.LossKernelIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

variable (x : S4096x1024.Idx → ℝ) (g : S1024.Idx → ℝ) (t : S4096x1024.Idx → ℝ)

/-- The arguments are these reals. -/
structure Args (c : Dev nD) : Prop where
  x : m ((c.tc : Thread nD τ).loc main_arg0) = up x
  g : m ((c.tc : Thread nD τ).loc main_arg1) = up g
  t : m ((c.tc : Thread nD τ).loc main_arg2) = up t

/-- Row `p · 512 + i` of the array. -/
def at_row (p : Fin cfg0.N) (i : Fin 512) : Fin 4096 :=
  ⟨p.val * 512 + i.val, by have := lt_of_lt_of_eq p.isLt N_0; have := i.isLt; omega⟩

theorem blk0 (c : Dev nD) (p : Fin cfg0.N) (i : Fin 512) (k : Fin 1024) :
    iblk m c 0 p (ix2 i k) = m ((c.tc : Thread nD τ).loc main_arg0) (ix2 (at_row p i) k) := by
  blk_ext [iblk, V, idx p, at_row]

theorem blk1 (c : Dev nD) (p : Fin cfg0.N) (u : Fin 1) (k : Fin 1024) :
    iblk m c 1 p (ix2 u k) = m ((c.tc : Thread nD τ).loc main_arg1) (ix1 k) := by
  blk_point [iblk, V, idx p]

theorem blk2 (c : Dev nD) (p : Fin cfg0.N) (i : Fin 512) (k : Fin 1024) :
    iblk m c 2 p (ix2 i k) = m ((c.tc : Thread nD τ).loc main_arg2) (ix2 (at_row p i) k) := by
  blk_ext [iblk, V, idx p, at_row]

/-- The rows of an array that a point works on. -/
def rb (x : S4096x1024.Idx → ℝ) (p : Fin cfg0.N) : S512x1024.Idx → ℝ := fun y => x (ix2 (at_row p (y 0)) (y 1))
/-- The scale as a row. -/
def gb : S1x1024.Idx → ℝ := fun y => g (ix1 (y 1))

variable {m x g t} {c : Dev nD} (h : Args m x g t c)
include h

theorem x_eq (p : Fin cfg0.N) : (iblk m c 0 p : FVec Ideal S512x1024 .f32) = up (rb x p) := by
  funext y
  idx_vars y
  exact (blk0 m c p _ _).trans (congrFun h.x _)

theorem g_eq (p : Fin cfg0.N) : (iblk m c 1 p : FVec Ideal S1x1024 .f32) = up (gb g) := by
  funext y
  idx_vars y
  exact (blk1 m c p _ _).trans (congrFun h.g _)

theorem t_eq (p : Fin cfg0.N) : (iblk m c 2 p : FVec Ideal S512x1024 .f32) = up (rb t p) := by
  funext y
  idx_vars y
  exact (blk2 m c p _ _).trans (congrFun h.t _)

theorem final3 : (dats m 0 c).arrAt 3 (cfgs 0).N = fun j : S4096x1024.Idx =>
    ((rmsDx (row x (j 0)) (sc g) (fun k => er x g t (j 0) k / 1024) (j 1) : ℝ) : EReal) := by
  refine (dats m 0 c).arrAt_eq_of_covers 3 _ (by decide +kernel) fun p _ y => ?_
  have hj : ∀ (i : Fin 512) (k : Fin 1024), (win0_3.blk p).view.emb (ix2 i k) = (ix2 (at_row p i) k : S4096x1024.Idx) := fun i k => by
    blk_ext [idx p, at_row]
  idx_vars y
  blk_simp
  rw [after0_3, hj]
  by_cases h0 : p.val % 8 = 0
  · rw [outsAt0_A m c p h0 (by have := lt_of_lt_of_eq p.isLt N_0; omega)]
    frame_out
    rw [x_eq h, g_eq h, t_eq h]
    exact dx_at (rb x p) (gb g) (rb t p) y0 y1
  · rw [outsAt0_B m c p h0 (by omega)]
    frame_out
    rw [x_eq h, g_eq h, t_eq h]
    exact dx_at (rb x p) (gb g) (rb t p) y0 y1

theorem final4 : (dats m 0 c).arrAt 4 (cfgs 0).N = fun j : S1x1024.Idx =>
    ((∑ r, x (ix2 r (j 1)) * rstd (row x r) * (er x g t r (j 1) / 1024) : ℝ) : EReal) := by
  refine (dats m 0 c).arrAt_eq_of_after_last 4 t0_7 (by decide +kernel) _ fun j => ?_
  blk_simp
  idx_vars j
  rw [after0_4, Pipeline.eq_sum_fin_of_reset_step_apply_last (fun n h => (outsAt0 m c n h).2.1) 8 (fun _ => (0 : EReal))
    (fun p j => ((∑ i, rowB (rb x p) i (j 1) * rstd (rowB (rb x p) i) * (erB (rb x p) (gb g) (rb t p) i (j 1) / 1024) : ℝ) : EReal))
    (fun p hp j => by
      rw [outsAt0_A m c p hp (by have := lt_of_lt_of_eq p.isLt N_0; omega)]; frame_out
      idx_vars j
      rw [x_eq h, g_eq h, t_eq h, LossBlock.dg_at, zero_add])
    (fun p hp j => by
      rw [outsAt0_B m c p hp (by omega)]; frame_out
      rw [dg_step]
      idx_vars j
      rw [x_eq h, g_eq h, t_eq h, LossBlock.dg_at])
    (le_of_eq N_0) t0_7 rfl, zero_add, coe_sum]
  refine congrArg (fun r : ℝ => (r : EReal)) ?_
  refine Fin.sum_mul_add_congr fun s k hl => ?_
  rfl

theorem final5 : (dats m 0 c).arrAt 5 (cfgs 0).N = fun _ : S8x128.Idx =>
    ((∑ r, 1 / 2 * ((∑ k, er x g t r k * er x g t r k) / 1024) : ℝ) : EReal) := by
  refine (dats m 0 c).arrAt_eq_of_after_last 5 t0_7 (by decide +kernel) _ fun j => ?_
  blk_simp
  idx_vars j
  rw [after0_5, Pipeline.eq_sum_fin_of_reset_step_apply_last (fun n h => (outsAt0 m c n h).2.2) 8 (fun _ => (0 : EReal))
    (fun p _ => ((∑ i, 1 / 2 * ((∑ k, erB (rb x p) (gb g) (rb t p) i k * erB (rb x p) (gb g) (rb t p) i k) / 1024) : ℝ) : EReal))
    (fun p hp j => by
      rw [outsAt0_A m c p hp (by have := lt_of_lt_of_eq p.isLt N_0; omega)]; frame_out
      idx_vars j
      rw [x_eq h, g_eq h, t_eq h, part_at, zero_add])
    (fun p hp j => by
      rw [outsAt0_B m c p hp (by omega)]; frame_out
      rw [part_step]
      idx_vars j
      rw [x_eq h, g_eq h, t_eq h, part_at])
    (le_of_eq N_0) t0_7 rfl, zero_add, coe_sum]
  refine congrArg (fun r : ℝ => (r : EReal)) ?_
  refine Fin.sum_mul_add_congr fun s k hl => ?_
  rfl

end Cert.LossKernel

end
-- ==== Proof.Loss.lean ====
/-
The loss and its gradient: kernel and reference end with the same three arrays.
-/
module

public import proofs.«01_k».proof.Defs
public import proofs.«01_k».proof.Proof.LossKernel
public import proofs.«01_k».proof.Proof.Gen.Pre_finite_loss
public import Idealize.ShloMosaic.Lib.Claim

@[expose] public section

set_option maxRecDepth 16384

noncomputable section

namespace Cert.Loss

open Cert.RealLift Idealize.ShloMosaic Idealize.SL.Sem

/-- The precondition: the arguments are arrays of reals. -/
theorem args_of_pre (m : (ℓ : Loc Cert.LossKernelIdeal.nD Cert.LossKernelIdeal.τ Cert.LossKernelIdeal.sig) → Buf (Elt Ideal) ℓ)
    (h : Cert.Pre_LossKernelIdeal_finite_loss m) (c : Dev Cert.LossKernelIdeal.nD) : ∃ x g t, LossKernel.Args m x g t c := by
  have hc := congrFun (h c) (fun a => a.elim0)
  have hc' : IntOp.andi (IntOp.andi _ _) _ = 1#1 := hc
  obtain ⟨k2, h2⟩ := IntOp.andi_eq_one.1 hc'
  obtain ⟨h0, h1⟩ := IntOp.andi_eq_one.1 k2
  haveI : Subsingleton Cert.Pre_finite_loss.S_.Idx := ⟨fun a b => funext fun k => k.elim0⟩
  obtain ⟨x, e0⟩ := exists_up _ _ _ _ _ _ h0
  obtain ⟨g, e1⟩ := exists_up _ _ _ _ _ _ h1
  obtain ⟨t, e2⟩ := exists_up _ _ _ _ _ _ h2
  exact ⟨x, g, t, e0, e1, e2⟩

/-- The loss, its gradient in the trunk's output and its gradient in the scale. -/
theorem algebraic : Cert.algebraic_LossKernelIdeal_LossReferenceIdeal_pre_finite_loss := by
  pair_intro
  · run_from Cert.LossKernelIdeal.Gen.run_main m g
  · run_from Cert.LossReferenceIdeal.Value.run m' g' <;>
      (obtain ⟨x, g, t, h⟩ := args_of_pre m hpre c
       obtain ⟨h0, h1, h2⟩ := hagree c)
    · rw [LossReferenceIdeal.Read.val_main_v50_eq, h0, h1, h2, h.x, h.g, h.t, LossKernel.final3 h]
      funext j
      idx_vars j
      exact LossRef.dx_at x g t j0 j1
    · rw [LossReferenceIdeal.Read.val_main_v51_eq, h.x, h.g, h.t, LossKernel.final4 h]
      funext j
      idx_vars j
      exact LossRef.dg_at x g t j0 j1
    · rw [LossReferenceIdeal.Read.val_main_v52_eq, h.x, h.g, h.t, LossKernel.final5 h]
      funext j
      idx_vars j
      exact LossRef.loss_at x g t j0 j1

/-- The reference's frame: host operations, which leave the arguments alone, and no semaphore at all. -/
theorem frame_ref : Cert.quiescent_LossReferenceIdeal := fun m ρ _ =>
  (θ_run Cert.LossReferenceIdeal.defs _ _).mono (fun r h => And.intro (fun c => (h c).2.2.2) (sem_eq_zero_of_no_sems (by decide) r.2))
    (Cert.LossReferenceIdeal.Value.run m ρ)

end Cert.Loss

end
-- ==== Proof.LayerGrad.lean ====
/-
The gradients of LayerNorm and of silu over the reals.

LayerNorm is RMSNorm of the centred row; its gradient in the row is that of RMSNorm, centred again.
-/
module

public import proofs.«01_k».proof.Proof.RmsGrad
public import proofs.«01_k».proof.Proof.DeltaSpec

@[expose] public section

set_option maxRecDepth 16384

noncomputable section

namespace Cert.LayerGrad

open Cert.RealLift Cert.RmsGrad Cert.DeltaSpec Idealize.ShloMosaic

/-- The derivative of `x · sig x`. -/
def dsilu (x : ℝ) : ℝ := sig x * (1 + x * (1 - sig x))

/-- The logistic function as the programs compute it. -/
theorem sig_real (x : ℝ) : Ideal.div ((1 : ℝ) : EReal) (((1 : ℝ) : EReal) + Ideal.exp ((-x : ℝ) : EReal)) = ((sig x : ℝ) : EReal) := by
  rw [Ideal.exp_coe, ← EReal.coe_add]
  exact div_real (by positivity)

variable {n : ℕ}

/-- A row less its mean. -/
def cen (x : Fin n → ℝ) (k : Fin n) : ℝ := x k - (∑ l, x l) / n

/-- LayerNorm of a row. -/
def ln (x g b : Fin n → ℝ) (k : Fin n) : ℝ := cen x k * rstd (cen x) * g k + b k

/-- The cotangent of LayerNorm's result when silu follows, at the cotangent `d` of silu's result. -/
def lnDy (x g b d : Fin n → ℝ) (k : Fin n) : ℝ := d k * dsilu (ln x g b k)

/-- The derivative of LayerNorm in its row, along the cotangent `dy`. -/
def lnDx (x g dy : Fin n → ℝ) (k : Fin n) : ℝ :=
  rstd (cen x) * (dy k * g k - (∑ l, dy l * g l) / n - cen x k * rstd (cen x) * ((∑ l, dy l * g l * (cen x l * rstd (cen x))) / n))

theorem sum_cen [NeZero n] (x : Fin n → ℝ) : ∑ k, cen x k = 0 := by
  have hn : (n : ℝ) ≠ 0 := Nat.cast_ne_zero.2 (NeZero.ne n)
  simp only [cen, Finset.sum_sub_distrib, Finset.sum_const, Finset.card_univ, Fintype.card_fin, nsmul_eq_mul]
  field_simp
  ring

/-- The gradient through the centring: RMSNorm's, plus the mean of its negative. -/
theorem lnDx_eq [NeZero n] (x g dy : Fin n → ℝ) (k : Fin n) :
    rmsDx (cen x) g dy k + (∑ l, -rmsDx (cen x) g dy l) / n = lnDx x g dy k := by
  have h : ∑ l, rmsDx (cen x) g dy l = rstd (cen x) * ∑ l, dy l * g l := by
    simp only [rmsDx, ← Finset.mul_sum, Finset.sum_sub_distrib, ← Finset.sum_mul, sum_cen, zero_mul, sub_zero]
  rw [Finset.sum_neg_distrib, h, lnDx, rmsDx]
  ring

end Cert.LayerGrad

end
-- ==== Proof.GateRef.lean ====
/-
What the reference of the gated norm behind the delta rule computes, at arguments that are real numbers.
-/
module

public import proofs.«01_k».proof.Proof.LayerGrad
public import proofs.«01_k».proof.Proof.Literals
public import proofs.«01_k».proof.Proof.Gen.GateReferenceIdeal.Read

@[expose] public section

set_option maxRecDepth 16384

noncomputable section

namespace Cert.GateRef

open Cert.RealLift Cert.RmsGrad Cert.DeltaSpec Cert.LayerGrad Idealize.ShloMosaic
open Cert.GateReferenceIdeal Cert.GateReferenceIdeal.Read

variable (d o z : S4096x1024.Idx → ℝ) (g : S128.Idx → ℝ) (w : S1024x1024.Idx → ℝ)

/-- The column of a head's channel. -/
def col (h : Fin 8) (k : Fin 128) : Fin 1024 := ⟨h.val * 128 + k.val, by omega⟩

/-- A head's row. -/
abbrev hrow (o : S4096x1024.Idx → ℝ) (r : Fin 4096) (h : Fin 8) (k : Fin 128) : ℝ := o (ix2 r (col h k))

/-- A vector over a head's channels. -/
abbrev vec (g : S128.Idx → ℝ) (k : Fin 128) : ℝ := g (ix1 k)

/-- The cotangent behind the output projection. -/
abbrev back (r : Fin 4096) (k : Fin 1024) : ℝ := ∑ l : Fin 1024, d (ix2 r l) * w (ix2 k l)

/-- The cotangent of the norm's result. -/
abbrev dy (r : Fin 4096) (h : Fin 8) (k : Fin 128) : ℝ := back d w r (col h k) * (hrow z r h k * sig (hrow z r h k))

/-- The gate's gradient. -/
def dz (r : Fin 4096) (h : Fin 8) (k : Fin 128) : ℝ :=
  back d w r (col h k) * (hrow o r h k * rstd (hrow o r h) * vec g k) * dsilu (hrow z r h k)

theorem o_at (r : Fin 4096) (h : Fin 8) (k : Fin 128) : val_main_v0 (F := Ideal) (up o) (ix3 r h k) = ((hrow o r h k : ℝ) : EReal) := by
  pointwise [val_main_v0]
  rfl

theorem z_at (r : Fin 4096) (h : Fin 8) (k : Fin 128) : val_main_v17 (F := Ideal) (up z) (ix3 r h k) = ((hrow z r h k : ℝ) : EReal) :=
  o_at z r h k

theorem ms_at (r : Fin 4096) (h : Fin 8) (u : Fin 1) : val_main_v7 (F := Ideal) (up o) (ix3 r h u) = ((ms (hrow o r h) : ℝ) : EReal) := by
  pointwise [val_main_v7, val_main_v6, val_main_v5, val_main_v4, val_main_v3, val_main_v2, val_main_v1, val_main_cst, val_main_cst_0, val_main_cst_1]
  simp only [o_at, ← EReal.coe_mul, coe_sum, div_128, lit_eps, ← EReal.coe_add]
  simp only [ms, Nat.cast_ofNat]

theorem rstd_at (r : Fin 4096) (h : Fin 8) (u : Fin 1) : val_main_v8 (F := Ideal) (up o) (ix3 r h u) = ((rstd (hrow o r h) : ℝ) : EReal) := by
  pointwise [val_main_v8]
  rw [ms_at, rsqrt_real (ms_pos _), rstd]

theorem cube_at (r : Fin 4096) (h : Fin 8) (u : Fin 1) : val_main_v11 (F := Ideal) (up o) (ix3 r h u)
    = ((-(1 / 2) * (rstd (hrow o r h) / ms (hrow o r h)) : ℝ) : EReal) := by
  pointwise [val_main_v11, val_main_v10, val_main_v9, val_main_cst_2]
  rw [ms_at, rstd_at, div_real (ms_pos _).ne', lit_neg_half, ← EReal.coe_mul]

theorem oh_at (r : Fin 4096) (h : Fin 8) (k : Fin 128) :
    val_main_v13 (F := Ideal) (up o) (ix3 r h k) = ((hrow o r h k * rstd (hrow o r h) : ℝ) : EReal) := by
  pointwise [val_main_v13, val_main_v12]
  rw [o_at, rstd_at, ← EReal.coe_mul]

theorem ohg_at (r : Fin 4096) (h : Fin 8) (k : Fin 128) :
    val_main_v16 (F := Ideal) (up o) (up g) (ix3 r h k) = ((hrow o r h k * rstd (hrow o r h) * vec g k : ℝ) : EReal) := by
  pointwise [val_main_v16, val_main_v15, val_main_v14]
  rw [oh_at, up_apply, ← EReal.coe_mul]

theorem sig_at (r : Fin 4096) (h : Fin 8) (k : Fin 128) :
    val_main_v18_2 (F := Ideal) (up z) (ix3 r h k) = ((sig (hrow z r h k) : ℝ) : EReal) := by
  pointwise [val_main_v18_2, val_main_call0_v4, val_main_call0_v3, val_main_call0_v2, val_main_call0_v1, val_main_call0_v0, val_main_call0_cst, val_main_call0_cst_0]
  rw [z_at, ← EReal.coe_neg, ← EReal.coe_one, sig_real]

theorem back_at (r : Fin 4096) (k : Fin 1024) : val_main_v22 (F := Ideal) (up d) (up w) (ix2 r k) = ((back d w r k : ℝ) : EReal) := by
  pointwise [val_main_v22]
  simp only [up_apply, ← EReal.coe_mul, coe_sum]

theorem dout_at (r : Fin 4096) (h : Fin 8) (k : Fin 128) :
    val_main_v23 (F := Ideal) (up d) (up w) (ix3 r h k) = ((back d w r (col h k) : ℝ) : EReal) := by
  pointwise [val_main_v23]
  exact back_at d w r (col h k)

theorem dz3_at (r : Fin 4096) (h : Fin 8) (k : Fin 128) :
    val_main_v26 (F := Ideal) (up d) (up o) (up z) (up g) (up w) (ix3 r h k) = ((dz d o z g w r h k : ℝ) : EReal) := by
  pointwise [val_main_v26, val_main_call1_v2, val_main_call1_v1, val_main_call1_v0, val_main_v24, val_main_v18_1, val_main_call0_v7, val_main_call0_v6, val_main_call0_cst_1]
  rw [dout_at, sig_at, ohg_at, z_at, ← EReal.coe_one, ← EReal.coe_sub]
  simp only [← EReal.coe_mul, ← EReal.coe_add]
  refine congrArg (fun r : ℝ => (r : EReal)) ?_
  rw [dz, dsilu]
  ring

theorem dy_at (r : Fin 4096) (h : Fin 8) (k : Fin 128) :
    val_main_v25 (F := Ideal) (up d) (up z) (up w) (ix3 r h k) = ((dy d z w r h k : ℝ) : EReal) := by
  pointwise [val_main_v25, val_main_v18_0]
  rw [dout_at, sig_at, z_at, ← EReal.coe_mul, ← EReal.coe_mul]

/-- The host's sum over the first two of three axes. -/
theorem sum_first_two {n0 n1 n2 : ℕ} (h : (⟨3, ![n0, n1, n2]⟩ : Shape).ReducesTo [0, 1] (⟨1, ![n2]⟩ : Shape))
    (v : (⟨3, ![n0, n1, n2]⟩ : Shape).Idx → EReal) (init : EReal) (k : Fin n2) :
    Ideal.hostReduceAdd h v init (ix1 k) = init + ∑ a : Fin n0, ∑ b : Fin n1, v (ix3 a b k) := by
  have hf : ∀ i : (⟨3, ![n0, n1, n2]⟩ : Shape).Idx, h.drop i = ix1 k ↔ ∃ p : Fin n0 × Fin n1, (ix3 p.1 p.2 k : (⟨3, ![n0, n1, n2]⟩ : Shape).Idx) = i := by
    intro i
    constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  refine congrArg (init + ·) ?_
  refine (Finset.sum_filter_eq_sum_of_fiber _ (fun p : Fin n0 × Fin n1 => (ix3 p.1 p.2 k : (⟨3, ![n0, n1, n2]⟩ : Shape).Idx))
    (fun _ _ e => Prod.ext (congrFun e 0) (congrFun e 1)) hf v).trans ?_
  simp only [Fintype.sum_prod_type]

theorem dg_at (k : Fin 128) : val_main_v29 (F := Ideal) (up d) (up o) (up z) (up w) (ix1 k)
    = ((∑ r, ∑ h, hrow o r h k * rstd (hrow o r h) * dy d z w r h k : ℝ) : EReal) := by
  have hm : ∀ (r : Fin 4096) (h : Fin 8), val_main_v28 (F := Ideal) (up d) (up o) (up z) (up w) (ix3 r h k)
      = ((hrow o r h k * rstd (hrow o r h) * dy d z w r h k : ℝ) : EReal) := fun r h => by
    pointwise [val_main_v28]
    rw [oh_at, dy_at, ← EReal.coe_mul]
  pointwise [val_main_v29, val_main_cst_3]
  rw [sum_first_two, zero_add]
  simp only [hm, coe_sum]

theorem u_at (r : Fin 4096) (h : Fin 8) (k : Fin 128) :
    val_main_v32 (F := Ideal) (up d) (up z) (up g) (up w) (ix3 r h k) = ((dy d z w r h k * vec g k : ℝ) : EReal) := by
  pointwise [val_main_v32, val_main_v31, val_main_v14]
  rw [dy_at, up_apply, ← EReal.coe_mul]

theorem dot_at (r : Fin 4096) (h : Fin 8) (u : Fin 1) : val_main_v36 (F := Ideal) (up d) (up o) (up z) (up g) (up w) (ix3 r h u)
    = ((∑ l, hrow o r h l * (dy d z w r h l * vec g l) : ℝ) : EReal) := by
  pointwise [val_main_v36, val_main_v35, val_main_v34, val_main_cst_5]
  simp only [u_at, o_at, ← EReal.coe_mul, coe_sum]

theorem do3_at (r : Fin 4096) (h : Fin 8) (k : Fin 128) : val_main_v47 (F := Ideal) (up d) (up o) (up z) (up g) (up w) (ix3 r h k)
    = ((rmsDx (hrow o r h) (vec g) (dy d z w r h) k : ℝ) : EReal) := by
  rw [← rmsDx_eq]
  pointwise [val_main_v47, val_main_v46, val_main_v45, val_main_v44, val_main_v43, val_main_v42, val_main_v41, val_main_v40, val_main_v39,
    val_main_v38, val_main_v37, val_main_cst_6, val_main_cst_7]
  simp only [u_at, dot_at, cube_at, rstd_at, o_at]
  simp only [← EReal.coe_mul, coe_sum, div_128, ← EReal.coe_add, Finset.univ_unique, Finset.sum_singleton, Nat.cast_ofNat]

/-- The head of a column. -/
def hd (c : Fin 1024) : Fin 8 := ⟨c.val / 128, by omega⟩
/-- The channel of a column within its head. -/
def chn (c : Fin 1024) : Fin 128 := ⟨c.val % 128, by omega⟩

theorem do_at (r : Fin 4096) (c : Fin 1024) : val_main_v48 (F := Ideal) (up d) (up o) (up z) (up g) (up w) (ix2 r c)
    = ((rmsDx (hrow o r (hd c)) (vec g) (dy d z w r (hd c)) (chn c) : ℝ) : EReal) := by
  pointwise [val_main_v48]
  exact do3_at d o z g w r (hd c) (chn c)

theorem dz_at (r : Fin 4096) (c : Fin 1024) : val_main_v27 (F := Ideal) (up d) (up o) (up z) (up g) (up w) (ix2 r c)
    = ((dz d o z g w r (hd c) (chn c) : ℝ) : EReal) := by
  pointwise [val_main_v27]
  exact dz3_at d o z g w r (hd c) (chn c)

theorem dgv_at (u : Fin 1) (k : Fin 128) : val_main_v49 (F := Ideal) (up d) (up o) (up z) (up w) (ix2 u k)
    = ((∑ r, ∑ h, hrow o r h k * rstd (hrow o r h) * dy d z w r h k : ℝ) : EReal) := by
  have hm : ∀ a b : Fin 1, val_main_v30 (F := Ideal) (up d) (up o) (up z) (up w) (ix3 a b k)
      = ((∑ r, ∑ h, hrow o r h k * rstd (hrow o r h) * dy d z w r h k : ℝ) : EReal) := fun a b => by
    pointwise [val_main_v30]
    exact dg_at d o z w k
  pointwise [val_main_v49, val_main_v33, val_main_cst_4]
  rw [sum_first_two, zero_add]
  simp only [hm, Finset.univ_unique, Finset.sum_singleton]

end Cert.GateRef

end
-- ==== Proof.GateBlock.lean ====
/-
What one block of 512 rows of the kernel of the gated norm computes in one head, at blocks of real numbers.
-/
module

public import proofs.«01_k».proof.Proof.GateRef
public import proofs.«01_k».proof.Proof.Gen.GateKernelIdeal.Value
public import Idealize.ShloMosaic.Lib.Pipeline.ValueKit

@[expose] public section

set_option maxRecDepth 16384

noncomputable section

namespace Cert.GateBlock

open Cert.RealLift Cert.RmsGrad Cert.DeltaSpec Cert.LayerGrad Idealize.ShloMosaic Idealize.ShloMosaic.Pipeline
open Cert.GateKernelIdeal Cert.GateKernelIdeal.Gen

variable (o z c : S512x128.Idx → ℝ) (g : S1x128.Idx → ℝ)

/-- A row of one head. -/
abbrev rowB (o : S512x128.Idx → ℝ) (i : Fin 512) (k : Fin 128) : ℝ := o (ix2 i k)

/-- A vector over the channels. -/
abbrev vecB (g : S1x128.Idx → ℝ) (k : Fin 128) : ℝ := g (ix2 0 k)

/-- The cotangent of the norm's result. -/
abbrev dyB (i : Fin 512) (k : Fin 128) : ℝ := c (ix2 i k) * (z (ix2 i k) * sig (z (ix2 i k)))

/-- The gate's gradient. -/
abbrev dzB (i : Fin 512) (k : Fin 128) : ℝ := c (ix2 i k) * (o (ix2 i k) * rstd (rowB o i) * vecB g k) * dsilu (z (ix2 i k))

/-- One head's part of the gain's gradient. -/
abbrev dgB (k : Fin 128) : ℝ := ∑ i, o (ix2 i k) * rstd (rowB o i) * dyB z c i k

theorem rstd_at (i : Fin 512) (u : Fin 1) : k0_pay6 (F := Ideal) (up o) (ix2 i u) = ((rstd (rowB o i) : ℝ) : EReal) := by
  have h : (∑ k, rowB o i k * rowB o i k) / 128 + eps = ms (rowB o i) := by simp only [ms, Nat.cast_ofNat]
  pointwise [k0_pay6]
  simp only [up_apply, ← EReal.coe_mul, coe_sum, div_128, lit_eps, ← EReal.coe_add]
  rw [h, rsqrt_real (ms_pos _), rstd]

theorem oh_at (i : Fin 512) (k : Fin 128) : k0_pay7 (F := Ideal) (up o) (ix2 i k) = ((o (ix2 i k) * rstd (rowB o i) : ℝ) : EReal) := by
  pointwise [k0_pay7]
  rw [rstd_at, up_apply, ← EReal.coe_mul]

theorem sig_at (i : Fin 512) (k : Fin 128) : k0_pay8 (F := Ideal) (up z) (ix2 i k) = ((sig (z (ix2 i k)) : ℝ) : EReal) := by
  pointwise [k0_pay8]
  rw [up_apply, ← EReal.coe_zero, ← EReal.coe_sub, zero_sub, ← EReal.coe_one, sig_real]

theorem dy_at (i : Fin 512) (k : Fin 128) : k0_pay9 (F := Ideal) (up z) (up c) (ix2 i k) = ((dyB z c i k : ℝ) : EReal) := by
  pointwise [k0_pay9]
  rw [sig_at, up_apply, up_apply, ← EReal.coe_mul, ← EReal.coe_mul]

theorem dz_at (i : Fin 512) (k : Fin 128) :
    k0_pay11 (F := Ideal) (up z) (k0_pay8 (up z)) (k0_pay10 (up g) (up o) (up c)) (ix2 i k) = ((dzB o z c g i k : ℝ) : EReal) := by
  pointwise [k0_pay11, k0_pay10, k0_pay3]
  rw [sig_at, oh_at, up_apply, up_apply, up_apply, ← EReal.coe_one]
  simp only [← EReal.coe_mul, ← EReal.coe_add, ← EReal.coe_sub]
  rfl

theorem dg_at (v : FVec Ideal S1x128 .f32) (u : Fin 1) (k : Fin 128) :
    k0_pay12 (F := Ideal) v (k0_pay7 (up o)) (k0_pay9 (up z) (up c)) (ix2 u k) = v (ix2 u k) + ((dgB o z c k : ℝ) : EReal) := by
  pointwise [k0_pay12]
  simp only [oh_at, dy_at, ← EReal.coe_mul, coe_sum]
  exact congrArg (fun r : ℝ => v (ix2 u k) + (r : EReal)) (Finset.sum_congr rfl fun i _ => mul_comm _ _)

theorem do_at (i : Fin 512) (k : Fin 128) :
    k0_pay13 (F := Ideal) (k0_pay3 (up g)) (k0_pay6 (up o)) (k0_pay7 (up o)) (k0_pay9 (up z) (up c)) (ix2 i k)
      = ((rmsDx (rowB o i) (vecB g) (dyB z c i) k : ℝ) : EReal) := by
  pointwise [k0_pay13, k0_pay3]
  simp only [dy_at, oh_at, rstd_at, up_apply, ← EReal.coe_mul, coe_sum, div_128, ← EReal.coe_sub]
  simp only [rmsDx, Nat.cast_ofNat]

end Cert.GateBlock

end
-- ==== Proof.GateKernel.lean ====
/-
The three result arrays of the kernel of the gated norm, at arguments that are real numbers.
-/
module

public import proofs.«01_k».proof.Proof.GateBlock

@[expose] public section

set_option maxRecDepth 16384

noncomputable section

namespace Cert.GateKernel

open Cert.RealLift Cert.RmsGrad Cert.LayerGrad Cert.GateRef Cert.GateBlock Idealize.ShloMosaic Idealize.ShloMosaic.Pipeline
open Cert.GateKernelIdeal Cert.GateKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] :=
  (by decide +kernel : ∀ t : Fin grid0.N, _)

variable (d o z : S4096x1024.Idx → ℝ) (g : S128.Idx → ℝ) (w : S1024x1024.Idx → ℝ)

/-- The arguments are these reals. -/
structure Args (c : Dev nD) : Prop where
  d : m ((c.tc : Thread nD τ).loc main_arg0) = up d
  o : m ((c.tc : Thread nD τ).loc main_arg1) = up o
  z : m ((c.tc : Thread nD τ).loc main_arg2) = up z
  g : m ((c.tc : Thread nD τ).loc main_arg3) = up g
  w : m ((c.tc : Thread nD τ).loc main_arg4) = up w

/-- Row `p · 512 + i` of the array. -/
def at_row (p : Fin cfg0.N) (i : Fin 512) : Fin 4096 :=
  ⟨p.val * 512 + i.val, by have := lt_of_lt_of_eq p.isLt N_0; have := i.isLt; omega⟩

theorem blk0 (c : Dev nD) (p : Fin cfg0.N) (i : Fin 512) (k : Fin 1024) :
    iblk m c 0 p (ix2 i k) = m ((c.tc : Thread nD τ).loc main_arg0) (ix2 (at_row p i) k) := by
  blk_ext [iblk, V, idx p, at_row]

theorem blk1 (c : Dev nD) (p : Fin cfg0.N) (i : Fin 512) (k : Fin 1024) :
    iblk m c 1 p (ix2 i k) = m ((c.tc : Thread nD τ).loc main_arg1) (ix2 (at_row p i) k) := by
  blk_ext [iblk, V, idx p, at_row]

theorem blk2 (c : Dev nD) (p : Fin cfg0.N) (i : Fin 512) (k : Fin 1024) :
    iblk m c 2 p (ix2 i k) = m ((c.tc : Thread nD τ).loc main_arg2) (ix2 (at_row p i) k) := by
  blk_ext [iblk, V, idx p, at_row]

theorem blk3 (c : Dev nD) (p : Fin cfg0.N) (u : Fin 1) (k : Fin 128) :
    iblk m c 3 p (ix2 u k) = m ((c.tc : Thread nD τ).loc main_arg3) (ix1 k) := by
  blk_point [iblk, V, idx p]

theorem blk4 (c : Dev nD) (p : Fin cfg0.N) (i k : Fin 1024) :
    iblk m c 4 p (ix2 i k) = m ((c.tc : Thread nD τ).loc main_arg4) (ix2 i k) := by
  blk_point [iblk, V, idx p]

/-- The rows of an array that a point works on. -/
def rb (x : S4096x1024.Idx → ℝ) (p : Fin cfg0.N) : S512x1024.Idx → ℝ := fun y => x (ix2 (at_row p (y 0)) (y 1))
/-- A vector as a row. -/
def vb (g : S128.Idx → ℝ) : S1x128.Idx → ℝ := fun y => g (ix1 (y 1))
/-- The cotangent behind the output projection, in a point's rows. -/
def cb (d : S4096x1024.Idx → ℝ) (w : S1024x1024.Idx → ℝ) (p : Fin cfg0.N) : S512x1024.Idx → ℝ := fun y => back d w (at_row p (y 0)) (y 1)
/-- A head's columns of a block. -/
def hs (x : S512x1024.Idx → ℝ) (h : Fin 8) : S512x128.Idx → ℝ := fun y => x (ix2 (y 0) (col h (y 1)))

/-- The load of a head's columns. -/
theorem ld_h (x : S512x1024.Idx → ℝ) (h : Fin 8) (q : ℕ) (hq : q = h.val * 128) (hb) :
    (View.ld (Val := Elt Ideal) (e' := .f32) (up x) (Rect.unit (s := S512x1024) ![0, q] ![512, 128] hb) : FVec Ideal S512x128 .f32)
      = up (hs x h) := by
  subst hq
  funext y
  idx_vars y
  pointwise
  rfl

/-- The load of a head's columns of the scratch. -/
theorem rc_h (x : S512x1024.Idx → ℝ) (h : Fin 8) (q : ℕ) (hq : q = h.val * 128) (ha hb) :
    ((View.whole cc0_scratch0).readCov (Val := Elt Ideal) [⟨Rect.unit (s := S512x1024) ![0, 0] ![512, 1024] ha, up x⟩] (Rect.unit (s := S512x1024) ![0, q] ![512, 128] hb).toLoadRect : FVec Ideal S512x128 .f32)
      = up (hs x h) := by
  refine Eq.trans ?_ (ld_h x h q hq hb)
  funext y
  refine (congrFun (View.readCov_eq_canon' _ _ _) _).trans ?_
  exact congrFun (View.canon_unit_zero (S := S512x1024) (by funext a; fin_cases a <;> rfl) ha _) _

theorem head_at (k : Fin 8) (q : ℕ) (hq : q = k.val * 128) (i j : ℕ) (hi : j = q + i) (hi' : i < 128) (hj : j < 1024) :
    hd ⟨j, hj⟩ = k ∧ chn ⟨j, hj⟩ = ⟨i, hi'⟩ := by
  subst hq hi
  exact ⟨Fin.ext (by show (k.val * 128 + i) / 128 = k.val; omega), Fin.ext (by show (k.val * 128 + i) % 128 = i; omega)⟩

/-- The state's gradient in one head's columns. -/
theorem do_piece (o z e : S512x1024.Idx → ℝ) (g : S1x128.Idx → ℝ) (k : Fin 8) (q : ℕ) (hq : q = k.val * 128) (ha hb)
    (x : S512x128.Idx) (y : S512x1024.Idx) (h0 : (y 0).val = (x 0).val) (h1 : (y 1).val = q + (x 1).val) :
    k0_pay13 (F := Ideal) (k0_pay3 (up g)) (k0_pay6 (View.ld (Val := Elt Ideal) (e' := .f32) (up o) (Rect.unit (s := S512x1024) ![0, q] ![512, 128] hb)))
        (k0_pay7 (View.ld (Val := Elt Ideal) (e' := .f32) (up o) (Rect.unit (s := S512x1024) ![0, q] ![512, 128] hb)))
        (k0_pay9 (View.ld (Val := Elt Ideal) (e' := .f32) (up z) (Rect.unit (s := S512x1024) ![0, q] ![512, 128] hb))
          ((View.whole cc0_scratch0).readCov (Val := Elt Ideal) [⟨Rect.unit (s := S512x1024) ![0, 0] ![512, 1024] ha, up e⟩] (Rect.unit (s := S512x1024) ![0, q] ![512, 128] hb).toLoadRect)) x
      = ((rmsDx (rowB (hs o (hd (y 1))) (y 0)) (vecB g) (dyB (hs z (hd (y 1))) (hs e (hd (y 1))) (y 0)) (chn (y 1)) : ℝ) : EReal) := by
  rw [ld_h o k q hq hb, ld_h z k q hq hb, rc_h e k q hq ha hb]
  obtain ⟨e1, e2⟩ := head_at k q hq (x 1).val (y 1).val h1 (x 1).isLt (y 1).isLt
  have e0 : (y 0 : Fin 512) = x 0 := Fin.ext h0
  have e1' : hd (y 1) = k := e1
  have e2' : chn (y 1) = x 1 := e2
  rw [e0, e1', e2']
  idx_vars x
  exact GateBlock.do_at (hs o k) (hs z k) (hs e k) g x0 x1

/-- The gate's gradient in one head's columns. -/
theorem dz_piece (o z e : S512x1024.Idx → ℝ) (g : S1x128.Idx → ℝ) (k : Fin 8) (q : ℕ) (hq : q = k.val * 128) (ha hb)
    (x : S512x128.Idx) (y : S512x1024.Idx) (h0 : (y 0).val = (x 0).val) (h1 : (y 1).val = q + (x 1).val) :
    k0_pay11 (F := Ideal) (View.ld (Val := Elt Ideal) (e' := .f32) (up z) (Rect.unit (s := S512x1024) ![0, q] ![512, 128] hb))
        (k0_pay8 (View.ld (Val := Elt Ideal) (e' := .f32) (up z) (Rect.unit (s := S512x1024) ![0, q] ![512, 128] hb)))
        (k0_pay10 (up g) (View.ld (Val := Elt Ideal) (e' := .f32) (up o) (Rect.unit (s := S512x1024) ![0, q] ![512, 128] hb))
          ((View.whole cc0_scratch0).readCov (Val := Elt Ideal) [⟨Rect.unit (s := S512x1024) ![0, 0] ![512, 1024] ha, up e⟩] (Rect.unit (s := S512x1024) ![0, q] ![512, 128] hb).toLoadRect)) x
      = ((dzB (hs o (hd (y 1))) (hs z (hd (y 1))) (hs e (hd (y 1))) g (y 0) (chn (y 1)) : ℝ) : EReal) := by
  rw [ld_h o k q hq hb, ld_h z k q hq hb, rc_h e k q hq ha hb]
  obtain ⟨e1, e2⟩ := head_at k q hq (x 1).val (y 1).val h1 (x 1).isLt (y 1).isLt
  have e0 : (y 0 : Fin 512) = x 0 := Fin.ext h0
  have e1' : hd (y 1) = k := e1
  have e2' : chn (y 1) = x 1 := e2
  rw [e0, e1', e2']
  idx_vars x
  exact GateBlock.dz_at (hs o k) (hs z k) (hs e k) g x0 x1

/-- One head's addition to the gain's gradient. -/
theorem dg_piece (o z e : S512x1024.Idx → ℝ) (k : Fin 8) (q : ℕ) (hq : q = k.val * 128) (ha hb) (v : FVec Ideal S1x128 .f32) (y : S1x128.Idx) :
    k0_pay12 (F := Ideal) v (k0_pay7 (View.ld (Val := Elt Ideal) (e' := .f32) (up o) (Rect.unit (s := S512x1024) ![0, q] ![512, 128] hb)))
        (k0_pay9 (View.ld (Val := Elt Ideal) (e' := .f32) (up z) (Rect.unit (s := S512x1024) ![0, q] ![512, 128] hb))
          ((View.whole cc0_scratch0).readCov (Val := Elt Ideal) [⟨Rect.unit (s := S512x1024) ![0, 0] ![512, 1024] ha, up e⟩] (Rect.unit (s := S512x1024) ![0, q] ![512, 128] hb).toLoadRect)) y
      = v y + ((dgB (hs o k) (hs z k) (hs e k) (y 1) : ℝ) : EReal) := by
  rw [ld_h o k q hq hb, ld_h z k q hq hb, rc_h e k q hq ha hb]
  idx_vars y
  exact GateBlock.dg_at (hs o k) (hs z k) (hs e k) v y0 y1

/-- A head's columns lie in the block. -/
theorem inb (k : Fin 8) : ∀ a, (![0, k.val * 128] : Fin 2 → ℕ) a + (![512, 128] : Fin 2 → ℕ) a ≤ S512x1024.size a := fun a => by
  fin_cases a
  · show 0 + 512 ≤ 512; omega
  · show k.val * 128 + 128 ≤ 1024; omega

/-- The gain's gradient with one head added. -/
def addHead (o z e : S512x1024.Idx → ℝ) (k : Fin 8) (v : FVec Ideal S1x128 .f32) : FVec Ideal S1x128 .f32 :=
  k0_pay12 (F := Ideal) v (k0_pay7 (View.ld (Val := Elt Ideal) (e' := .f32) (up o) (Rect.unit (s := S512x1024) ![0, k.val * 128] ![512, 128] (inb k))))
    (k0_pay9 (View.ld (Val := Elt Ideal) (e' := .f32) (up z) (Rect.unit (s := S512x1024) ![0, k.val * 128] ![512, 128] (inb k)))
      ((View.whole cc0_scratch0).readCov (Val := Elt Ideal) [⟨Rect.unit (s := S512x1024) ![0, 0] ![512, 1024] inb_S512x1024_S512x1024_0_0, up e⟩]
        (Rect.unit (s := S512x1024) ![0, k.val * 128] ![512, 128] (inb k)).toLoadRect))

/-- Eight additions, one after the other. -/
theorem chain (f : Fin 8 → FVec Ideal S1x128 .f32 → FVec Ideal S1x128 .f32) (a : Fin 8 → ℝ) (y : S1x128.Idx)
    (hf : ∀ k v, f k v y = v y + ((a k : ℝ) : EReal)) (v : FVec Ideal S1x128 .f32) :
    f 7 (f 6 (f 5 (f 4 (f 3 (f 2 (f 1 (f 0 v))))))) y = v y + ((∑ k, a k : ℝ) : EReal) := by
  rw [hf, hf, hf, hf, hf, hf, hf, hf, Fin.sum_univ_eight]
  simp only [EReal.coe_add, add_assoc]

theorem step_at (v a : FVec Ideal S1x128 .f32) (j : S1x128.Idx) : k0_pay2 (F := Ideal) v a j = a j + v j := by
  idx_vars j
  pointwise [k0_pay2]

variable {m d o z g w} {c : Dev nD} (h : Args m d o z g w c)
include h

theorem d_eq (p : Fin cfg0.N) : (iblk m c 0 p : FVec Ideal S512x1024 .f32) = up (rb d p) := by
  funext y
  idx_vars y
  exact (blk0 m c p _ _).trans (congrFun h.d _)

theorem o_eq (p : Fin cfg0.N) : (iblk m c 1 p : FVec Ideal S512x1024 .f32) = up (rb o p) := by
  funext y
  idx_vars y
  exact (blk1 m c p _ _).trans (congrFun h.o _)

theorem z_eq (p : Fin cfg0.N) : (iblk m c 2 p : FVec Ideal S512x1024 .f32) = up (rb z p) := by
  funext y
  idx_vars y
  exact (blk2 m c p _ _).trans (congrFun h.z _)

theorem g_eq (p : Fin cfg0.N) : (iblk m c 3 p : FVec Ideal S1x128 .f32) = up (vb g) := by
  funext y
  idx_vars y
  exact (blk3 m c p _ _).trans (congrFun h.g _)

theorem w_eq (p : Fin cfg0.N) : (iblk m c 4 p : FVec Ideal S1024x1024 .bf16) = up w := by
  funext y
  idx_vars y
  exact (blk4 m c p _ _).trans (congrFun h.w _)

omit h in
theorem back_eq (p : Fin cfg0.N) : k0_pay4 (F := Ideal) (up (rb d p)) (up w) = up (cb d w p) := by
  funext y
  idx_vars y
  pointwise [k0_pay4]
  simp only [up_apply, ← EReal.coe_mul, coe_sum]
  rfl

theorem do_block (p : Fin cfg0.N) (y : S512x1024.Idx) : (outsAt0 m c p.val p.isLt).1 y
    = ((rmsDx (rowB (hs (rb o p) (hd (y 1))) (y 0)) (vecB (vb g)) (dyB (hs (rb z p) (hd (y 1))) (hs (cb d w p) (hd (y 1))) (y 0)) (chn (y 1)) : ℝ) : EReal) := by
  by_cases h0 : p.val % 8 = 0
  on_goal 1 => rw [outsAt0_A m c p h0 (by have := lt_of_lt_of_eq p.isLt N_0; omega)]; frame_out
  on_goal 2 => rw [outsAt0_B m c p h0 (by omega)]; frame_out
  all_goals
    rw [d_eq h, o_eq h, z_eq h, g_eq h, w_eq h, back_eq]
    canon_tiles x h
    case piece0 => exact do_piece (rb o p) (rb z p) (cb d w p) (vb g) 7 896 rfl _ _ x y h0 h1
    case piece1 => exact do_piece (rb o p) (rb z p) (cb d w p) (vb g) 6 768 rfl _ _ x y h0 h1
    case piece2 => exact do_piece (rb o p) (rb z p) (cb d w p) (vb g) 5 640 rfl _ _ x y h0 h1
    case piece3 => exact do_piece (rb o p) (rb z p) (cb d w p) (vb g) 4 512 rfl _ _ x y h0 h1
    case piece4 => exact do_piece (rb o p) (rb z p) (cb d w p) (vb g) 3 384 rfl _ _ x y h0 h1
    case piece5 => exact do_piece (rb o p) (rb z p) (cb d w p) (vb g) 2 256 rfl _ _ x y h0 h1
    case piece6 => exact do_piece (rb o p) (rb z p) (cb d w p) (vb g) 1 128 rfl _ _ x y h0 h1
    case piece7 => exact do_piece (rb o p) (rb z p) (cb d w p) (vb g) 0 0 rfl _ _ x y h0 (by simpa using h1)

theorem dz_block (p : Fin cfg0.N) (y : S512x1024.Idx) : (outsAt0 m c p.val p.isLt).2.1 y
    = ((dzB (hs (rb o p) (hd (y 1))) (hs (rb z p) (hd (y 1))) (hs (cb d w p) (hd (y 1))) (vb g) (y 0) (chn (y 1)) : ℝ) : EReal) := by
  by_cases h0 : p.val % 8 = 0
  on_goal 1 => rw [outsAt0_A m c p h0 (by have := lt_of_lt_of_eq p.isLt N_0; omega)]; frame_out
  on_goal 2 => rw [outsAt0_B m c p h0 (by omega)]; frame_out
  all_goals
    rw [d_eq h, o_eq h, z_eq h, g_eq h, w_eq h, back_eq]
    canon_tiles x h
    case piece0 => exact dz_piece (rb o p) (rb z p) (cb d w p) (vb g) 7 896 rfl _ _ x y h0 h1
    case piece1 => exact dz_piece (rb o p) (rb z p) (cb d w p) (vb g) 6 768 rfl _ _ x y h0 h1
    case piece2 => exact dz_piece (rb o p) (rb z p) (cb d w p) (vb g) 5 640 rfl _ _ x y h0 h1
    case piece3 => exact dz_piece (rb o p) (rb z p) (cb d w p) (vb g) 4 512 rfl _ _ x y h0 h1
    case piece4 => exact dz_piece (rb o p) (rb z p) (cb d w p) (vb g) 3 384 rfl _ _ x y h0 h1
    case piece5 => exact dz_piece (rb o p) (rb z p) (cb d w p) (vb g) 2 256 rfl _ _ x y h0 h1
    case piece6 => exact dz_piece (rb o p) (rb z p) (cb d w p) (vb g) 1 128 rfl _ _ x y h0 h1
    case piece7 => exact dz_piece (rb o p) (rb z p) (cb d w p) (vb g) 0 0 rfl _ _ x y h0 (by simpa using h1)

theorem dg_block (p : Fin cfg0.N) (hp : p.val % 8 = 0) (y : S1x128.Idx) : (outsAt0 m c p.val p.isLt).2.2 y
    = 0 + ((∑ k, dgB (hs (rb o p) k) (hs (rb z p) k) (hs (cb d w p) k) (y 1) : ℝ) : EReal) := by
  rw [outsAt0_A m c p hp (by have := lt_of_lt_of_eq p.isLt N_0; omega)]; frame_out
  rw [d_eq h, o_eq h, z_eq h, w_eq h, back_eq]
  exact (chain (addHead (rb o p) (rb z p) (cb d w p)) _ y (fun k v => dg_piece (rb o p) (rb z p) (cb d w p) k _ rfl _ _ v y) _).trans
    (congrArg (· + _) (by idx_vars y; pointwise [k0_pay5]))

theorem dg_step (p : Fin cfg0.N) (hp : ¬p.val % 8 = 0) (y : S1x128.Idx) : (outsAt0 m c p.val p.isLt).2.2 y
    = (outsAt0 m c (p.val - 1) (lt_of_le_of_lt (Nat.sub_le _ _) p.isLt)).2.2 y + ((∑ k, dgB (hs (rb o p) k) (hs (rb z p) k) (hs (cb d w p) k) (y 1) : ℝ) : EReal) := by
  rw [outsAt0_B m c p hp (by omega)]; frame_out
  rw [d_eq h, o_eq h, z_eq h, w_eq h, back_eq]
  rw [step_at]
  exact congrArg (_ + ·) ((chain (addHead (rb o p) (rb z p) (cb d w p)) _ y (fun k v => dg_piece (rb o p) (rb z p) (cb d w p) k _ rfl _ _ v y) k0_pay5).trans
    ((congrArg (· + _) (by idx_vars y; pointwise [k0_pay5])).trans (zero_add _)))

theorem final5 : (dats m 0 c).arrAt 5 (cfgs 0).N = fun j : S4096x1024.Idx =>
    ((rmsDx (hrow o (j 0) (hd (j 1))) (vec g) (dy d z w (j 0) (hd (j 1))) (chn (j 1)) : ℝ) : EReal) := by
  refine (dats m 0 c).arrAt_eq_of_covers 5 _ (by decide +kernel) fun p _ y => ?_
  have hj : ∀ (i : Fin 512) (k : Fin 1024), (win0_5.blk p).view.emb (ix2 i k) = (ix2 (at_row p i) k : S4096x1024.Idx) := fun i k => by
    blk_ext [idx p, at_row]
  idx_vars y
  blk_simp
  rw [after0_5, hj]
  exact do_block h p (ix2 y0 y1)

theorem final6 : (dats m 0 c).arrAt 6 (cfgs 0).N = fun j : S4096x1024.Idx => ((dz d o z g w (j 0) (hd (j 1)) (chn (j 1)) : ℝ) : EReal) := by
  refine (dats m 0 c).arrAt_eq_of_covers 6 _ (by decide +kernel) fun p _ y => ?_
  have hj : ∀ (i : Fin 512) (k : Fin 1024), (win0_6.blk p).view.emb (ix2 i k) = (ix2 (at_row p i) k : S4096x1024.Idx) := fun i k => by
    blk_ext [idx p, at_row]
  idx_vars y
  blk_simp
  rw [after0_6, hj]
  exact dz_block h p (ix2 y0 y1)

theorem final7 : (dats m 0 c).arrAt 7 (cfgs 0).N = fun j : S1x128.Idx =>
    ((∑ r, ∑ k, hrow o r k (j 1) * rstd (hrow o r k) * dy d z w r k (j 1) : ℝ) : EReal) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => (0 : EReal))
    (fun p j => ((∑ k, dgB (hs (rb o p) k) (hs (rb z p) k) (hs (cb d w p) k) (j 1) : ℝ) : EReal))
    (fun p hp j => dg_block h p hp j) (fun p hp j => dg_step h p hp j)
    (le_of_eq N_0) t0_7 rfl, zero_add, coe_sum]
  refine congrArg (fun r : ℝ => (r : EReal)) ?_
  simp only [dgB]
  conv_lhs => enter [2, p]; rw [Finset.sum_comm]
  refine Fin.sum_mul_add_congr fun s k hl => ?_
  rfl

end Cert.GateKernel

end
-- ==== Proof.Gate.lean ====
/-
The gradient of the gated norm behind the delta rule: kernel and reference end with the same three arrays.
-/
module

public import proofs.«01_k».proof.Defs
public import proofs.«01_k».proof.Proof.GateKernel
public import proofs.«01_k».proof.Proof.Gen.Pre_finite_gate
public import Idealize.ShloMosaic.Lib.Claim

@[expose] public section

set_option maxRecDepth 16384

noncomputable section

namespace Cert.Gate

open Cert.RealLift Idealize.ShloMosaic Idealize.SL.Sem

/-- The precondition: the arguments are arrays of reals. -/
theorem args_of_pre (m : (ℓ : Loc Cert.GateKernelIdeal.nD Cert.GateKernelIdeal.τ Cert.GateKernelIdeal.sig) → Buf (Elt Ideal) ℓ)
    (h : Cert.Pre_GateKernelIdeal_finite_gate m) (c : Dev Cert.GateKernelIdeal.nD) : ∃ d o z g w, GateKernel.Args m d o z g w c := by
  have hc := congrFun (h c) (fun a => a.elim0)
  have hc' : IntOp.andi (IntOp.andi (IntOp.andi (IntOp.andi _ _) _) _) _ = 1#1 := hc
  obtain ⟨k4, h4⟩ := IntOp.andi_eq_one.1 hc'
  obtain ⟨k3, h3⟩ := IntOp.andi_eq_one.1 k4
  obtain ⟨k2, h2⟩ := IntOp.andi_eq_one.1 k3
  obtain ⟨h0, h1⟩ := IntOp.andi_eq_one.1 k2
  haveI : Subsingleton Cert.Pre_finite_gate.S_.Idx := ⟨fun a b => funext fun k => k.elim0⟩
  obtain ⟨d, e0⟩ := exists_up _ _ _ _ _ _ h0
  obtain ⟨o, e1⟩ := exists_up _ _ _ _ _ _ h1
  obtain ⟨z, e2⟩ := exists_up _ _ _ _ _ _ h2
  obtain ⟨g, e3⟩ := exists_up _ _ _ _ _ _ h3
  obtain ⟨w, e4⟩ := exists_up _ _ _ _ _ _ h4
  exact ⟨d, o, z, g, w, e0, e1, e2, e3, e4⟩

/-- The gradients in the delta rule's output, in the gate and in the norm's scale. -/
theorem algebraic : Cert.algebraic_GateKernelIdeal_GateReferenceIdeal_pre_finite_gate := by
  pair_intro
  · run_from Cert.GateKernelIdeal.Gen.run_main m g
  · run_from Cert.GateReferenceIdeal.Value.run m' g' <;>
      (obtain ⟨d, o, z, g, w, h⟩ := args_of_pre m hpre c
       obtain ⟨h0, h1, h2, h3, h4⟩ := hagree c)
    · rw [GateReferenceIdeal.Read.val_main_v48_eq]
      simp only [h0, h1, h2, h3, h4, h.d, h.o, h.z, h.g, h.w]
      rw [GateKernel.final5 h]
      funext j
      idx_vars j
      exact GateRef.do_at d o z g w j0 j1
    · rw [GateReferenceIdeal.Read.val_main_v27_eq]
      simp only [h0, h1, h2, h3, h4, h.d, h.o, h.z, h.g, h.w]
      rw [GateKernel.final6 h]
      funext j
      idx_vars j
      exact GateRef.dz_at d o z g w j0 j1
    · rw [GateReferenceIdeal.Read.val_main_v49_eq]
      simp only [h0, h1, h2, h4, h.d, h.o, h.z, h.w]
      rw [GateKernel.final7 h]
      funext j
      idx_vars j
      exact GateRef.dgv_at d o z w j0 j1

/-- The reference's frame: host operations, which leave the arguments alone, and no semaphore at all. -/
theorem frame_ref : Cert.quiescent_GateReferenceIdeal := fun m ρ _ =>
  (θ_run Cert.GateReferenceIdeal.defs _ _).mono (fun r h => And.intro (fun c => (h c).2.2.2) (sem_eq_zero_of_no_sems (by decide) r.2))
    (Cert.GateReferenceIdeal.Value.run m ρ)

end Cert.Gate

end
-- ==== Proof.MixRef.lean ====
/-
What the reference of the hybrid mixer's output computes, at arguments that are real numbers.
-/
module

public import proofs.«01_k».proof.Proof.LayerGrad
public import proofs.«01_k».proof.Proof.Literals
public import proofs.«01_k».proof.Proof.Gen.MixoutReferenceIdeal.Read

@[expose] public section

set_option maxRecDepth 16384

noncomputable section

namespace Cert.MixRef

open Cert.RealLift Cert.RmsGrad Cert.DeltaSpec Cert.LayerGrad Idealize.ShloMosaic
open Cert.MixoutReferenceIdeal Cert.MixoutReferenceIdeal.Read

variable (d : S4096x1024.Idx → ℝ) (x : S4096x512.Idx → ℝ) (g b : S512.Idx → ℝ) (w : S1024x1024.Idx → ℝ)

/-- A row of the convolution's output. -/
abbrev row (x : S4096x512.Idx → ℝ) (r : Fin 4096) (k : Fin 512) : ℝ := x (ix2 r k)

/-- A vector over the channels. -/
abbrev vec (g : S512.Idx → ℝ) (k : Fin 512) : ℝ := g (ix1 k)

/-- The cotangent behind the output projection, at a column of the joined attention and convolution. -/
abbrev back (r : Fin 4096) (k : Fin 1024) : ℝ := ∑ l : Fin 1024, d (ix2 r l) * w (ix2 k l)

/-- Its columns of the attention. -/
def da (r : Fin 4096) (k : Fin 512) : ℝ := back d w r (⟨k.val, by omega⟩ : Fin 1024)

/-- Its columns of the convolution. -/
abbrev dcn (r : Fin 4096) (k : Fin 512) : ℝ := back d w r (⟨512 + k.val, by omega⟩ : Fin 1024)

/-- The cotangent of LayerNorm's result. -/
abbrev dy (r : Fin 4096) (k : Fin 512) : ℝ := lnDy (row x r) (vec g) (vec b) (dcn d w r) k

theorem cen_at (r : Fin 4096) (k : Fin 512) : val_main_v6 (F := Ideal) (up x) (ix2 r k) = ((cen (row x r) k : ℝ) : EReal) := by
  pointwise [val_main_v6, val_main_v5, val_main_v4, val_main_v3, val_main_v2, val_main_v1, val_main_cst_0, val_main_cst_1]
  simp only [up_apply, coe_sum, div_512, ← EReal.coe_sub, cen, row, Nat.cast_ofNat]

theorem ms_at (r : Fin 4096) (u : Fin 1) : val_main_v13 (F := Ideal) (up x) (ix2 r u) = ((ms (cen (row x r)) : ℝ) : EReal) := by
  pointwise [val_main_v13, val_main_v12, val_main_v11, val_main_v10, val_main_v9, val_main_v8, val_main_v7, val_main_cst_2, val_main_cst_3, val_main_cst_4]
  simp only [cen_at, ← EReal.coe_mul, coe_sum, div_512, lit_eps, ← EReal.coe_add]
  simp only [ms, Nat.cast_ofNat]

theorem rstd_at (r : Fin 4096) (u : Fin 1) : val_main_v14 (F := Ideal) (up x) (ix2 r u) = ((rstd (cen (row x r)) : ℝ) : EReal) := by
  pointwise [val_main_v14]
  rw [ms_at, rsqrt_real (ms_pos _), rstd]

theorem cube_at (r : Fin 4096) (u : Fin 1) : val_main_v17 (F := Ideal) (up x) (ix2 r u)
    = ((-(1 / 2) * (rstd (cen (row x r)) / ms (cen (row x r))) : ℝ) : EReal) := by
  pointwise [val_main_v17, val_main_v16, val_main_v15, val_main_cst_5]
  rw [ms_at, rstd_at, div_real (ms_pos _).ne', lit_neg_half, ← EReal.coe_mul]

theorem xh_at (r : Fin 4096) (k : Fin 512) :
    val_main_v19 (F := Ideal) (up x) (ix2 r k) = ((cen (row x r) k * rstd (cen (row x r)) : ℝ) : EReal) := by
  pointwise [val_main_v19, val_main_v18]
  rw [cen_at, rstd_at, ← EReal.coe_mul]

theorem y_at (r : Fin 4096) (k : Fin 512) :
    val_main_v25 (F := Ideal) (up x) (up g) (up b) (ix2 r k) = ((ln (row x r) (vec g) (vec b) k : ℝ) : EReal) := by
  pointwise [val_main_v25, val_main_v24, val_main_v23, val_main_v22, val_main_v21, val_main_v20]
  rw [xh_at, up_apply, up_apply, ← EReal.coe_mul, ← EReal.coe_add, ln]

theorem sig_at (r : Fin 4096) (k : Fin 512) :
    val_main_v26_2 (F := Ideal) (up x) (up g) (up b) (ix2 r k) = ((sig (ln (row x r) (vec g) (vec b) k) : ℝ) : EReal) := by
  pointwise [val_main_v26_2, val_main_call0_v4, val_main_call0_v3, val_main_call0_v2, val_main_call0_v1, val_main_call0_v0, val_main_call0_cst, val_main_call0_cst_0]
  rw [y_at, ← EReal.coe_neg, ← EReal.coe_one, sig_real]

theorem back_at (r : Fin 4096) (k : Fin 1024) : val_main_v29 (F := Ideal) (up d) (up w) (ix2 r k) = ((back d w r k : ℝ) : EReal) := by
  pointwise [val_main_v29]
  simp only [up_apply, ← EReal.coe_mul, coe_sum]

theorem da_at (r : Fin 4096) (k : Fin 512) :
    val_main_v30 (F := Ideal) (up d) (up w) (ix2 r k) = ((da d w r k : ℝ) : EReal) := by
  pointwise [val_main_v30]
  exact back_at d w r _

theorem dcn_at (r : Fin 4096) (k : Fin 512) : val_main_v31 (F := Ideal) (up d) (up w) (ix2 r k) = ((dcn d w r k : ℝ) : EReal) := by
  pointwise [val_main_v31]
  exact back_at d w r _

theorem dy_at (r : Fin 4096) (k : Fin 512) :
    val_main_v32 (F := Ideal) (up d) (up x) (up g) (up b) (up w) (ix2 r k) = ((dy d x g b w r k : ℝ) : EReal) := by
  pointwise [val_main_v32, val_main_call1_v2, val_main_call1_v1, val_main_call1_v0, val_main_v26_1, val_main_call0_v7, val_main_call0_v6, val_main_call0_cst_1]
  rw [dcn_at, sig_at, y_at, ← EReal.coe_one, ← EReal.coe_sub, ← EReal.coe_mul, ← EReal.coe_mul, ← EReal.coe_mul, ← EReal.coe_mul, ← EReal.coe_add]
  refine congrArg (fun r : ℝ => (r : EReal)) ?_
  rw [dy, lnDy, dsilu]
  ring

theorem db_at (u : Fin 1) (k : Fin 512) :
    val_main_v65 (F := Ideal) (up d) (up x) (up g) (up b) (up w) (ix2 u k) = ((∑ r, dy d x g b w r k : ℝ) : EReal) := by
  pointwise [val_main_v65, val_main_v35, val_main_v34, val_main_v33, val_main_cst_6, val_main_cst_7]
  simp only [dy_at, coe_sum, Finset.univ_unique, Finset.sum_singleton]

theorem dg_at (u : Fin 1) (k : Fin 512) : val_main_v64 (F := Ideal) (up d) (up x) (up g) (up b) (up w) (ix2 u k)
    = ((∑ r, cen (row x r) k * rstd (cen (row x r)) * dy d x g b w r k : ℝ) : EReal) := by
  pointwise [val_main_v64, val_main_v41, val_main_v38, val_main_v37, val_main_v36, val_main_cst_8, val_main_cst_9]
  simp only [xh_at, dy_at, ← EReal.coe_mul, coe_sum, Finset.univ_unique, Finset.sum_singleton]

theorem u_at (r : Fin 4096) (k : Fin 512) :
    val_main_v40 (F := Ideal) (up d) (up x) (up g) (up b) (up w) (ix2 r k) = ((dy d x g b w r k * vec g k : ℝ) : EReal) := by
  pointwise [val_main_v40, val_main_v39, val_main_v20]
  rw [dy_at, up_apply, ← EReal.coe_mul]

theorem dot_at (r : Fin 4096) (u : Fin 1) : val_main_v44 (F := Ideal) (up d) (up x) (up g) (up b) (up w) (ix2 r u)
    = ((∑ l, cen (row x r) l * (dy d x g b w r l * vec g l) : ℝ) : EReal) := by
  pointwise [val_main_v44, val_main_v43, val_main_v42, val_main_cst_10]
  simp only [u_at, cen_at, ← EReal.coe_mul, coe_sum]

theorem rms_at (r : Fin 4096) (k : Fin 512) : val_main_v55 (F := Ideal) (up d) (up x) (up g) (up b) (up w) (ix2 r k)
    = ((rmsDx (cen (row x r)) (vec g) (dy d x g b w r) k : ℝ) : EReal) := by
  rw [← rmsDx_eq]
  pointwise [val_main_v55, val_main_v54, val_main_v53, val_main_v52, val_main_v51, val_main_v50, val_main_v49, val_main_v48,
    val_main_v47, val_main_v46, val_main_v45, val_main_cst_11, val_main_cst_12]
  simp only [u_at, dot_at, cube_at, rstd_at, cen_at]
  simp only [← EReal.coe_mul, coe_sum, div_512, ← EReal.coe_add, Finset.univ_unique, Finset.sum_singleton, Nat.cast_ofNat]

theorem dc_at (r : Fin 4096) (k : Fin 512) : val_main_v63 (F := Ideal) (up d) (up x) (up g) (up b) (up w) (ix2 r k)
    = ((lnDx (row x r) (vec g) (dy d x g b w r) k : ℝ) : EReal) := by
  rw [← lnDx_eq]
  pointwise [val_main_v63, val_main_v62, val_main_v61, val_main_v60, val_main_v59, val_main_v58, val_main_v57, val_main_v56, val_main_cst_13, val_main_cst_14, val_main_cst_15]
  simp only [rms_at, ← EReal.coe_neg, coe_sum, div_512, ← EReal.coe_add, Finset.univ_unique, Finset.sum_singleton, Nat.cast_ofNat]

end Cert.MixRef

end
-- ==== Proof.MixBlock.lean ====
/-
What one block of 512 rows of the kernel of the hybrid mixer's output computes, at blocks of real numbers.
-/
module

public import proofs.«01_k».proof.Proof.MixRef
public import proofs.«01_k».proof.Proof.Gen.MixoutKernelIdeal.Value
public import Idealize.ShloMosaic.Lib.Pipeline.ValueKit

@[expose] public section

set_option maxRecDepth 16384

noncomputable section

namespace Cert.MixBlock

open Cert.RealLift Cert.RmsGrad Cert.DeltaSpec Cert.LayerGrad Idealize.ShloMosaic Idealize.ShloMosaic.Pipeline
open Cert.MixoutKernelIdeal Cert.MixoutKernelIdeal.Gen

variable (d : S512x1024.Idx → ℝ) (x : S512x512.Idx → ℝ) (g b : S1x512.Idx → ℝ) (w : S512x1024.Idx → ℝ)

/-- A row of the block. -/
abbrev rowB (x : S512x512.Idx → ℝ) (i : Fin 512) (k : Fin 512) : ℝ := x (ix2 i k)

/-- A vector over the channels. -/
abbrev vecB (g : S1x512.Idx → ℝ) (k : Fin 512) : ℝ := g (ix2 0 k)

/-- The cotangent behind half of the output projection. -/
abbrev backB (i : Fin 512) (k : Fin 512) : ℝ := ∑ l : Fin 1024, d (ix2 i l) * w (ix2 k l)

/-- The cotangent of LayerNorm's result. -/
abbrev dyB (i : Fin 512) (k : Fin 512) : ℝ := lnDy (rowB x i) (vecB g) (vecB b) (backB d w i) k

theorem da_at (i k : Fin 512) : k0_pay4 (F := Ideal) (up d) (up w) (ix2 i k) = ((backB d w i k : ℝ) : EReal) := by
  pointwise [k0_pay4, k0_pay3]
  simp only [up_apply, ← EReal.coe_mul, coe_sum]

theorem dcn_at (i k : Fin 512) : k0_pay5 (F := Ideal) (up d) (up w) (ix2 i k) = ((backB d w i k : ℝ) : EReal) := by
  pointwise [k0_pay5, k0_pay3]
  simp only [up_apply, ← EReal.coe_mul, coe_sum]

theorem cen_at (i k : Fin 512) : k0_pay7 (F := Ideal) (up x) (ix2 i k) = ((cen (rowB x i) k : ℝ) : EReal) := by
  pointwise [k0_pay7]
  simp only [up_apply, coe_sum, div_512, ← EReal.coe_sub, cen, rowB, Nat.cast_ofNat]

theorem rstd_at (i : Fin 512) (u : Fin 1) : k0_pay8 (F := Ideal) (up x) (ix2 i u) = ((rstd (cen (rowB x i)) : ℝ) : EReal) := by
  have h : (∑ k, cen (rowB x i) k * cen (rowB x i) k) / 512 + eps = ms (cen (rowB x i)) := by simp only [ms, Nat.cast_ofNat]
  pointwise [k0_pay8]
  simp only [cen_at, ← EReal.coe_mul, coe_sum, div_512, lit_eps, ← EReal.coe_add]
  rw [h, rsqrt_real (ms_pos _), rstd]

theorem xh_at (i k : Fin 512) : k0_pay9 (F := Ideal) (up x) (ix2 i k) = ((cen (rowB x i) k * rstd (cen (rowB x i)) : ℝ) : EReal) := by
  pointwise [k0_pay9]
  rw [cen_at, rstd_at, ← EReal.coe_mul]

theorem y_at (i k : Fin 512) : k0_pay10 (F := Ideal) (up g) (up x) (up b) (ix2 i k) = ((ln (rowB x i) (vecB g) (vecB b) k : ℝ) : EReal) := by
  pointwise [k0_pay10, k0_pay6]
  rw [xh_at, up_apply, up_apply, ← EReal.coe_mul, ← EReal.coe_add, ln]

theorem neg_at (i k : Fin 512) :
    k0_pay11 (F := Ideal) (up g) (up x) (up b) (ix2 i k) = ((-ln (rowB x i) (vecB g) (vecB b) k : ℝ) : EReal) := by
  pointwise [k0_pay11]
  rw [y_at, ← EReal.coe_zero, ← EReal.coe_sub, zero_sub]

theorem dy_at (i k : Fin 512) :
    k0_pay12 (F := Ideal) (k0_pay5 (up d) (up w)) (k0_pay10 (up g) (up x) (up b)) (k0_pay11 (up g) (up x) (up b)) (ix2 i k)
      = ((dyB d x g b w i k : ℝ) : EReal) := by
  pointwise [k0_pay12]
  rw [dcn_at, y_at, neg_at, ← EReal.coe_one, sig_real, ← EReal.coe_sub, ← EReal.coe_mul, ← EReal.coe_add, ← EReal.coe_mul, ← EReal.coe_mul]
  rfl

theorem dc_at (i k : Fin 512) :
    k0_pay13 (F := Ideal) (k0_pay5 (up d) (up w)) (k0_pay6 (up g)) (k0_pay8 (up x)) (k0_pay9 (up x)) (k0_pay10 (up g) (up x) (up b))
        (k0_pay11 (up g) (up x) (up b)) (ix2 i k)
      = ((lnDx (rowB x i) (vecB g) (dyB d x g b w i) k : ℝ) : EReal) := by
  pointwise [k0_pay13, k0_pay6]
  simp only [dy_at, xh_at, rstd_at, up_apply, ← EReal.coe_mul, coe_sum, div_512, ← EReal.coe_sub]
  simp only [lnDx, Nat.cast_ofNat]

theorem dg_at (u : Fin 1) (k : Fin 512) :
    k0_pay14 (F := Ideal) (k0_pay5 (up d) (up w)) (k0_pay9 (up x)) (k0_pay10 (up g) (up x) (up b)) (k0_pay11 (up g) (up x) (up b)) (ix2 u k)
      = ((∑ i, cen (rowB x i) k * rstd (cen (rowB x i)) * dyB d x g b w i k : ℝ) : EReal) := by
  pointwise [k0_pay14]
  simp only [dy_at, xh_at, ← EReal.coe_mul, coe_sum]
  exact congrArg (fun r : ℝ => (r : EReal)) (Finset.sum_congr rfl fun i _ => mul_comm _ _)

theorem db_at (u : Fin 1) (k : Fin 512) :
    k0_pay15 (F := Ideal) (k0_pay5 (up d) (up w)) (k0_pay10 (up g) (up x) (up b)) (k0_pay11 (up g) (up x) (up b)) (ix2 u k)
      = ((∑ i, dyB d x g b w i k : ℝ) : EReal) := by
  pointwise [k0_pay15]
  simp only [dy_at, coe_sum]

theorem dg_step (v a : FVec Ideal S1x512 .f32) (j : S1x512.Idx) : k0_pay1 (F := Ideal) v a j = a j + v j := by
  idx_vars j
  pointwise [k0_pay1]

theorem db_step (v a : FVec Ideal S1x512 .f32) (j : S1x512.Idx) : k0_pay2 (F := Ideal) v a j = a j + v j := by
  idx_vars j
  pointwise [k0_pay2]

end Cert.MixBlock

end
-- ==== Proof.MixKernel.lean ====
/-
The four result arrays of the kernel of the hybrid mixer's output, at arguments that are real numbers.
-/
module

public import proofs.«01_k».proof.Proof.MixBlock

@[expose] public section

set_option maxRecDepth 16384

noncomputable section

namespace Cert.MixKernel

open Cert.RealLift Cert.RmsGrad Cert.LayerGrad Cert.MixRef Cert.MixBlock Idealize.ShloMosaic Idealize.ShloMosaic.Pipeline
open Cert.MixoutKernelIdeal Cert.MixoutKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

variable (d : S4096x1024.Idx → ℝ) (x : S4096x512.Idx → ℝ) (g b : S512.Idx → ℝ) (w : S1024x1024.Idx → ℝ)

/-- The arguments are these reals. -/
structure Args (c : Dev nD) : Prop where
  d : m ((c.tc : Thread nD τ).loc main_arg0) = up d
  x : m ((c.tc : Thread nD τ).loc main_arg1) = up x
  g : m ((c.tc : Thread nD τ).loc main_arg2) = up g
  b : m ((c.tc : Thread nD τ).loc main_arg3) = up b
  w : m ((c.tc : Thread nD τ).loc main_arg4) = up w

/-- Row `p · 512 + i` of the array. -/
def at_row (p : Fin cfg0.N) (i : Fin 512) : Fin 4096 :=
  ⟨p.val * 512 + i.val, by have := lt_of_lt_of_eq p.isLt N_0; have := i.isLt; omega⟩

theorem blk0 (c : Dev nD) (p : Fin cfg0.N) (i : Fin 512) (k : Fin 1024) :
    iblk m c 0 p (ix2 i k) = m ((c.tc : Thread nD τ).loc main_arg0) (ix2 (at_row p i) k) := by
  blk_ext [iblk, V, idx p, at_row]

theorem blk1 (c : Dev nD) (p : Fin cfg0.N) (i k : Fin 512) :
    iblk m c 1 p (ix2 i k) = m ((c.tc : Thread nD τ).loc main_arg1) (ix2 (at_row p i) k) := by
  blk_ext [iblk, V, idx p, at_row]

theorem blk2 (c : Dev nD) (p : Fin cfg0.N) (u : Fin 1) (k : Fin 512) :
    iblk m c 2 p (ix2 u k) = m ((c.tc : Thread nD τ).loc main_arg2) (ix1 k) := by
  blk_point [iblk, V, idx p]

theorem blk3 (c : Dev nD) (p : Fin cfg0.N) (u : Fin 1) (k : Fin 512) :
    iblk m c 3 p (ix2 u k) = m ((c.tc : Thread nD τ).loc main_arg3) (ix1 k) := by
  blk_point [iblk, V, idx p]

theorem blk4 (c : Dev nD) (p : Fin cfg0.N) (i k : Fin 1024) :
    iblk m c 4 p (ix2 i k) = m ((c.tc : Thread nD τ).loc main_arg4) (ix2 i k) := by
  blk_point [iblk, V, idx p]

/-- The rows of an array that a point works on. -/
def rb {n : ℕ} (x : (⟨2, ![4096, n]⟩ : Shape).Idx → ℝ) (p : Fin cfg0.N) : (⟨2, ![512, n]⟩ : Shape).Idx → ℝ := fun y => x (ix2 (at_row p (y 0)) (y 1))
/-- A vector as a row. -/
def vb (g : S512.Idx → ℝ) : S1x512.Idx → ℝ := fun y => g (ix1 (y 1))
/-- The half of the weight's rows that belongs to the attention. -/
def wa : S512x1024.Idx → ℝ := fun y => w (ix2 (⟨(y 0).val, by have : (y 0).val < 512 := (y 0).isLt; omega⟩ : Fin 1024) (y 1))
/-- The half of the weight's rows that belongs to the convolution. -/
def wc : S512x1024.Idx → ℝ := fun y => w (ix2 (⟨512 + (y 0).val, by have : (y 0).val < 512 := (y 0).isLt; omega⟩ : Fin 1024) (y 1))

/-- The load of the attention's half. -/
theorem ld_a (hb) : (View.ld (Val := Elt Ideal) (e' := .bf16) (up w) (Rect.unit (s := S1024x1024) ![0, 0] ![512, 1024] hb) : FVec Ideal S512x1024 .bf16)
    = up (wa w) := by
  funext y
  idx_vars y
  pointwise
  rfl

/-- The load of the convolution's half. -/
theorem ld_c (hb) : (View.ld (Val := Elt Ideal) (e' := .bf16) (up w) (Rect.unit (s := S1024x1024) ![512, 0] ![512, 1024] hb) : FVec Ideal S512x1024 .bf16)
    = up (wc w) := by
  funext y
  idx_vars y
  pointwise
  rfl

variable {m d x g b w} {c : Dev nD} (h : Args m d x g b w c)
include h

theorem d_eq (p : Fin cfg0.N) : (iblk m c 0 p : FVec Ideal S512x1024 .f32) = up (rb d p) := by
  funext y
  idx_vars y
  exact (blk0 m c p _ _).trans (congrFun h.d _)

theorem x_eq (p : Fin cfg0.N) : (iblk m c 1 p : FVec Ideal S512x512 .f32) = up (rb x p) := by
  funext y
  idx_vars y
  exact (blk1 m c p _ _).trans (congrFun h.x _)

theorem g_eq (p : Fin cfg0.N) : (iblk m c 2 p : FVec Ideal S1x512 .f32) = up (vb g) := by
  funext y
  idx_vars y
  exact (blk2 m c p _ _).trans (congrFun h.g _)

theorem b_eq (p : Fin cfg0.N) : (iblk m c 3 p : FVec Ideal S1x512 .f32) = up (vb b) := by
  funext y
  idx_vars y
  exact (blk3 m c p _ _).trans (congrFun h.b _)

theorem w_eq (p : Fin cfg0.N) : (iblk m c 4 p : FVec Ideal S1024x1024 .bf16) = up w := by
  funext y
  idx_vars y
  exact (blk4 m c p _ _).trans (congrFun h.w _)

theorem final5 : (dats m 0 c).arrAt 5 (cfgs 0).N = fun j : S4096x512.Idx =>
    ((da d w (j 0) (j 1) : ℝ) : EReal) := by
  refine (dats m 0 c).arrAt_eq_of_covers 5 _ (by decide +kernel) fun p _ y => ?_
  have hj : ∀ i k : Fin 512, (win0_5.blk p).view.emb (ix2 i k) = (ix2 (at_row p i) k : S4096x512.Idx) := fun i k => by
    blk_ext [idx p, at_row]
  idx_vars y
  blk_simp
  rw [after0_5, hj]
  by_cases h0 : p.val % 8 = 0
  · rw [outsAt0_A m c p h0 (by have := lt_of_lt_of_eq p.isLt N_0; omega)]
    frame_out
    rw [d_eq h, w_eq h, ld_a]
    exact da_at (rb d p) (wa w) y0 y1
  · rw [outsAt0_B m c p h0 (by omega)]
    frame_out
    rw [d_eq h, w_eq h, ld_a]
    exact da_at (rb d p) (wa w) y0 y1

theorem final6 : (dats m 0 c).arrAt 6 (cfgs 0).N = fun j : S4096x512.Idx =>
    ((lnDx (row x (j 0)) (vec g) (dy d x g b w (j 0)) (j 1) : ℝ) : EReal) := by
  refine (dats m 0 c).arrAt_eq_of_covers 6 _ (by decide +kernel) fun p _ y => ?_
  have hj : ∀ i k : Fin 512, (win0_6.blk p).view.emb (ix2 i k) = (ix2 (at_row p i) k : S4096x512.Idx) := fun i k => by
    blk_ext [idx p, at_row]
  idx_vars y
  blk_simp
  rw [after0_6, hj]
  by_cases h0 : p.val % 8 = 0
  · rw [outsAt0_A m c p h0 (by have := lt_of_lt_of_eq p.isLt N_0; omega)]
    frame_out
    rw [d_eq h, x_eq h, g_eq h, b_eq h, w_eq h, ld_c]
    exact dc_at (rb d p) (rb x p) (vb g) (vb b) (wc w) y0 y1
  · rw [outsAt0_B m c p h0 (by omega)]
    frame_out
    rw [d_eq h, x_eq h, g_eq h, b_eq h, w_eq h, ld_c]
    exact dc_at (rb d p) (rb x p) (vb g) (vb b) (wc w) y0 y1

theorem final7 : (dats m 0 c).arrAt 7 (cfgs 0).N = fun j : S1x512.Idx =>
    ((∑ r, cen (row x r) (j 1) * rstd (cen (row x r)) * dy d x g b w r (j 1) : ℝ) : EReal) := by
  refine (dats m 0 c).arrAt_eq_of_after_last 7 t0_7 (by decide +kernel) _ fun j => ?_
  blk_simp
  idx_vars j
  rw [after0_7, Pipeline.eq_sum_fin_of_reset_step_apply_last (fun n h => (outsAt0 m c n h).2.2.1) 8 (fun _ => (0 : EReal))
    (fun p j => ((∑ i, cen (rowB (rb x p) i) (j 1) * rstd (cen (rowB (rb x p) i)) * dyB (rb d p) (rb x p) (vb g) (vb b) (wc w) i (j 1) : ℝ) : EReal))
    (fun p hp j => by
      rw [outsAt0_A m c p hp (by have := lt_of_lt_of_eq p.isLt N_0; omega)]; frame_out
      idx_vars j
      rw [d_eq h, x_eq h, g_eq h, b_eq h, w_eq h, ld_c, zero_add]
      exact MixBlock.dg_at (rb d p) (rb x p) (vb g) (vb b) (wc w) j0 j1)
    (fun p hp j => by
      rw [outsAt0_B m c p hp (by omega)]; frame_out
      rw [dg_step]
      idx_vars j
      rw [d_eq h, x_eq h, g_eq h, b_eq h, w_eq h, ld_c]
      exact congrArg (_ + ·) (MixBlock.dg_at (rb d p) (rb x p) (vb g) (vb b) (wc w) j0 j1))
    (le_of_eq N_0) t0_7 rfl, zero_add, coe_sum]
  refine congrArg (fun r : ℝ => (r : EReal)) ?_
  refine Fin.sum_mul_add_congr fun s k hl => ?_
  rfl

theorem final8 : (dats m 0 c).arrAt 8 (cfgs 0).N = fun j : S1x512.Idx => ((∑ r, dy d x g b w r (j 1) : ℝ) : EReal) := by
  refine (dats m 0 c).arrAt_eq_of_after_last 8 t0_7 (by decide +kernel) _ fun j => ?_
  blk_simp
  idx_vars j
  rw [after0_8, Pipeline.eq_sum_fin_of_reset_step_apply_last (fun n h => (outsAt0 m c n h).2.2.2) 8 (fun _ => (0 : EReal))
    (fun p j => ((∑ i, dyB (rb d p) (rb x p) (vb g) (vb b) (wc w) i (j 1) : ℝ) : EReal))
    (fun p hp j => by
      rw [outsAt0_A m c p hp (by have := lt_of_lt_of_eq p.isLt N_0; omega)]; frame_out
      idx_vars j
      rw [d_eq h, x_eq h, g_eq h, b_eq h, w_eq h, ld_c, zero_add]
      exact MixBlock.db_at (rb d p) (rb x p) (vb g) (vb b) (wc w) j0 j1)
    (fun p hp j => by
      rw [outsAt0_B m c p hp (by omega)]; frame_out
      rw [db_step]
      idx_vars j
      rw [d_eq h, x_eq h, g_eq h, b_eq h, w_eq h, ld_c]
      exact congrArg (_ + ·) (MixBlock.db_at (rb d p) (rb x p) (vb g) (vb b) (wc w) j0 j1))
    (le_of_eq N_0) t0_7 rfl, zero_add, coe_sum]
  refine congrArg (fun r : ℝ => (r : EReal)) ?_
  refine Fin.sum_mul_add_congr fun s k hl => ?_
  rfl

end Cert.MixKernel

end
-- ==== Proof.Mix.lean ====
/-
The gradient of the hybrid mixer's output: kernel and reference end with the same four arrays.
-/
module

public import proofs.«01_k».proof.Defs
public import proofs.«01_k».proof.Proof.MixKernel
public import proofs.«01_k».proof.Proof.Gen.Pre_finite_mixout
public import Idealize.ShloMosaic.Lib.Claim

@[expose] public section

set_option maxRecDepth 16384

noncomputable section

namespace Cert.Mix

open Cert.RealLift Idealize.ShloMosaic Idealize.SL.Sem

/-- The precondition: the arguments are arrays of reals. -/
theorem args_of_pre (m : (ℓ : Loc Cert.MixoutKernelIdeal.nD Cert.MixoutKernelIdeal.τ Cert.MixoutKernelIdeal.sig) → Buf (Elt Ideal) ℓ)
    (h : Cert.Pre_MixoutKernelIdeal_finite_mixout m) (c : Dev Cert.MixoutKernelIdeal.nD) : ∃ d x g b w, MixKernel.Args m d x g b w c := by
  have hc := congrFun (h c) (fun a => a.elim0)
  have hc' : IntOp.andi (IntOp.andi (IntOp.andi (IntOp.andi _ _) _) _) _ = 1#1 := hc
  obtain ⟨k4, h4⟩ := IntOp.andi_eq_one.1 hc'
  obtain ⟨k3, h3⟩ := IntOp.andi_eq_one.1 k4
  obtain ⟨k2, h2⟩ := IntOp.andi_eq_one.1 k3
  obtain ⟨h0, h1⟩ := IntOp.andi_eq_one.1 k2
  haveI : Subsingleton Cert.Pre_finite_mixout.S_.Idx := ⟨fun a b => funext fun k => k.elim0⟩
  obtain ⟨d, e0⟩ := exists_up _ _ _ _ _ _ h0
  obtain ⟨x, e1⟩ := exists_up _ _ _ _ _ _ h1
  obtain ⟨g, e2⟩ := exists_up _ _ _ _ _ _ h2
  obtain ⟨b, e3⟩ := exists_up _ _ _ _ _ _ h3
  obtain ⟨w, e4⟩ := exists_up _ _ _ _ _ _ h4
  exact ⟨d, x, g, b, w, e0, e1, e2, e3, e4⟩

/-- The gradients in the attention, in the convolution and in LayerNorm's scale and shift. -/
theorem algebraic : Cert.algebraic_MixoutKernelIdeal_MixoutReferenceIdeal_pre_finite_mixout := by
  pair_intro
  · run_from Cert.MixoutKernelIdeal.Gen.run_main m g
  · run_from Cert.MixoutReferenceIdeal.Value.run m' g' <;>
      (obtain ⟨d, x, g, b, w, h⟩ := args_of_pre m hpre c
       obtain ⟨h0, h1, h2, h3, h4⟩ := hagree c)
    · rw [MixoutReferenceIdeal.Read.val_main_v30_eq]
      simp only [h0, h4, h.d, h.w]
      rw [MixKernel.final5 h]
      funext j
      idx_vars j
      exact MixRef.da_at d w j0 j1
    · rw [MixoutReferenceIdeal.Read.val_main_v63_eq]
      simp only [h0, h1, h2, h3, h4, h.d, h.x, h.g, h.b, h.w]
      rw [MixKernel.final6 h]
      funext j
      idx_vars j
      exact MixRef.dc_at d x g b w j0 j1
    · rw [MixoutReferenceIdeal.Read.val_main_v64_eq]
      simp only [h0, h1, h2, h3, h4, h.d, h.x, h.g, h.b, h.w]
      rw [MixKernel.final7 h]
      funext j
      idx_vars j
      exact MixRef.dg_at d x g b w j0 j1
    · rw [MixoutReferenceIdeal.Read.val_main_v65_eq]
      simp only [h0, h1, h2, h3, h4, h.d, h.x, h.g, h.b, h.w]
      rw [MixKernel.final8 h]
      funext j
      idx_vars j
      exact MixRef.db_at d x g b w j0 j1

/-- The reference's frame: host operations, which leave the arguments alone, and no semaphore at all. -/
theorem frame_ref : Cert.quiescent_MixoutReferenceIdeal := fun m ρ _ =>
  (θ_run Cert.MixoutReferenceIdeal.defs _ _).mono (fun r h => And.intro (fun c => (h c).2.2.2.2) (sem_eq_zero_of_no_sems (by decide) r.2))
    (Cert.MixoutReferenceIdeal.Value.run m ρ)

end Cert.Mix

end
-- ==== Proof.RecSpec.lean ====
module

public import Mathlib.Data.Real.Basic
public import Mathlib.Algebra.BigOperators.Fin

/-!
The scan of the delta rule over its chunks, and its derivative, on real numbers. A chunk `n` of a
head `h` has 64 rows; its state is 128 by 128.
-/

@[expose] public section

noncomputable section

namespace Cert.RecSpec

/-- Rows of every chunk and head. -/
abbrev Rows : Type := Fin 64 → Fin 8 → Fin 64 → Fin 128 → ℝ

/-- A matrix per head. -/
abbrev State : Type := Fin 8 → Fin 128 → Fin 128 → ℝ

/-- The rows of one chunk. -/
abbrev Chunk : Type := Fin 8 → Fin 64 → Fin 128 → ℝ

/-- What the scan reads: `o` is the cotangent of its output. -/
structure Data where
  w : Rows
  u : Rows
  q : Rows
  k : Rows
  o : Rows
  a : Fin 64 → Fin 8 → Fin 64 → Fin 64 → ℝ
  e : Fin 64 → Fin 8 → ℝ

variable (x : Data)

/-- A chunk's new values, from the state before it. -/
def value (n : Fin 64) (s : State) : Chunk := fun h i v =>
  x.u n h i v - ∑ k, x.w n h i k * s h k v

/-- The state after a chunk. -/
def next (n : Fin 64) (s : State) : State := fun h k v =>
  s h k v * x.e n h + ∑ i, x.k n h i k * value x n s h i v

/-- The chunk of a number. -/
abbrev chunk (n : ℕ) : Fin 64 := Fin.ofNat 64 n

theorem chunk_val (n : Fin 64) : chunk n.val = n := Fin.ext (Nat.mod_eq_of_lt n.isLt)

theorem chunk_of_lt {n : ℕ} (h : n < 64) : chunk n = ⟨n, h⟩ := Fin.ext (Nat.mod_eq_of_lt h)

/-- The state before chunk `n`. -/
def state : ℕ → State
  | 0 => fun _ _ _ => 0
  | n + 1 => next x (chunk n) (state n)

/-- The new values of chunk `n`. -/
def values (n : Fin 64) : Chunk := value x n (state x n.val)

/-- The gradient of a chunk's values, from the gradient `d` of the state after it. -/
def gradV (n : Fin 64) (d : State) : Chunk := fun h i v =>
  ∑ k, x.k n h i k * d h k v + ∑ j, x.a n h j i * x.o n h j v

/-- The gradient of the state before a chunk. -/
def prev (n : Fin 64) (d : State) : State := fun h k v =>
  d h k v * x.e n h + (∑ i, x.q n h i k * x.o n h i v - ∑ i, x.w n h i k * gradV x n d h i v)

/-- The gradient of the state after the last `k` chunks are taken back. -/
def gradAt : ℕ → State
  | 0 => fun _ _ _ => 0
  | k + 1 => prev x (chunk (63 - k)) (gradAt k)

/-- The gradient of the state after chunk `n`. -/
def after (n : Fin 64) : State := gradAt x (63 - n.val)

/-- The six gradients. -/
def du (n : Fin 64) : Chunk := gradV x n (after x n)

def dw (n : Fin 64) : Chunk := fun h i k => -∑ v, du x n h i v * state x n.val h k v

def dq (n : Fin 64) : Chunk := fun h i k => ∑ v, x.o n h i v * state x n.val h k v

def dk (n : Fin 64) : Chunk := fun h i k => ∑ v, values x n h i v * after x n h k v

def da (n : Fin 64) : Fin 8 → Fin 64 → Fin 64 → ℝ := fun h i j => ∑ v, x.o n h i v * values x n h j v

def de (n : Fin 64) : Fin 8 → ℝ := fun h => ∑ k, ∑ v, after x n h k v * state x n.val h k v

theorem gradAt_succ (k : ℕ) : gradAt x (k + 1) = prev x (chunk (63 - k)) (gradAt x k) := rfl

theorem state_succ (n : ℕ) : state x (n + 1) = next x (chunk n) (state x n) := rfl

end Cert.RecSpec

end
-- ==== Proof.RecDouble.lean ====
/-
The states of a linear recurrence by doubling: after the level of distance `p`, a state is an affine image of the state `p` chunks before.
-/
module

public import proofs.«01_k».proof.Proof.RecSpec
public import Mathlib.Data.Matrix.Mul
public import Mathlib.Tactic.Ring

@[expose] public section

noncomputable section

namespace Cert.RecDouble

open Cert.RecSpec

/-- A matrix per chunk and head. -/
abbrev Stack : Type := Fin 64 → Fin 8 → Matrix (Fin 128) (Fin 128) ℝ

/-- The stack `p` chunks later, zero in front. -/
def later (p : ℕ) (X : Stack) : Stack := fun n h =>
  if n.val < p then 0 else X ⟨n.val - p, lt_of_le_of_lt (Nat.sub_le _ _) n.isLt⟩ h

/-- One level: the linear parts and the constants. -/
def linear (p : ℕ) (A : Stack) : Stack := fun n h => A n h * later p A n h

def const (p : ℕ) (A S : Stack) : Stack := fun n h => S n h + A n h * later p S n h

variable (x : Data)

/-- The state after chunk `n`. -/
def end_ (n : Fin 64) (h : Fin 8) : Matrix (Fin 128) (Fin 128) ℝ := Matrix.of (state x (n.val + 1) h)

/-- The states are affine in those `p` chunks before. -/
def Affine (p : ℕ) (A S : Stack) : Prop := ∀ n h, end_ x n h = S n h + A n h * later p (end_ x) n h

theorem later_later (p q : ℕ) (X : Stack) : later p (later q X) = later (p + q) X := by
  funext n h
  unfold later
  by_cases h1 : n.val < p
  · rw [if_pos h1, if_pos (by omega)]
  · rw [if_neg h1]
    by_cases h2 : n.val < p + q
    · rw [if_pos h2, if_pos (show n.val - p < q by omega)]
    · rw [if_neg h2, if_neg (show ¬n.val - p < q by omega)]
      exact congrArg (X · h) (Fin.ext (show n.val - p - q = n.val - (p + q) by omega))

theorem later_affine (p : ℕ) (A S E : Stack) (H : ∀ n h, E n h = S n h + A n h * later p E n h) (n : Fin 64) (h : Fin 8) :
    later p E n h = later p S n h + later p A n h * later p (later p E) n h := by
  by_cases h1 : n.val < p
  · simp [later, h1]
  · have e := H ⟨n.val - p, lt_of_le_of_lt (Nat.sub_le _ _) n.isLt⟩ h
    simp only [later, if_neg h1] at e ⊢
    exact e

theorem Affine.double {p : ℕ} {A S : Stack} (H : Affine x p A S) : Affine x (p + p) (linear p A) (const p A S) := by
  intro n h
  rw [← later_later]
  have e := later_affine p A S (end_ x) H n h
  calc end_ x n h = S n h + A n h * later p (end_ x) n h := H n h
    _ = S n h + A n h * (later p S n h + later p A n h * later p (later p (end_ x)) n h) := by rw [← e]
    _ = _ := by
      unfold linear const
      rw [mul_add, ← mul_assoc, add_assoc]

/-- From distance 64 on there is nothing left to add. -/
theorem Affine.all {A S : Stack} (H : Affine x 64 A S) : S = end_ x := by
  funext n h
  rw [H n h, later, if_pos n.isLt, mul_zero, add_zero]

/-- A chunk's linear part and its constant. -/
def step : Stack := fun n h => Matrix.of fun k l => x.e n h * (if k = l then 1 else 0) - ∑ i, x.k n h i k * x.w n h i l

def push : Stack := fun n h => Matrix.of fun k v => ∑ i, x.k n h i k * x.u n h i v

theorem next_eq (n : Fin 64) (s : State) (h : Fin 8) (k v : Fin 128) :
    next x n s h k v = push x n h k v + ∑ l, step x n h k l * s h l v := by
  have e1 : ∀ i, x.k n h i k * value x n s h i v = x.k n h i k * x.u n h i v - ∑ l, x.k n h i k * x.w n h i l * s h l v := fun i => by
    unfold value
    rw [mul_sub, Finset.mul_sum]
    simp only [mul_assoc]
  have e2 : ∀ l, step x n h k l * s h l v = (if k = l then x.e n h * s h l v else 0) - ∑ i, x.k n h i k * x.w n h i l * s h l v := fun l => by
    show (x.e n h * (if k = l then 1 else 0) - ∑ i, x.k n h i k * x.w n h i l) * s h l v = _
    rw [sub_mul, Finset.sum_mul]
    congr 1
    split <;> simp
  unfold next
  simp only [e1, e2, Finset.sum_sub_distrib, Finset.sum_ite_eq, Finset.mem_univ, if_true]
  rw [Finset.sum_comm (f := fun l i => x.k n h i k * x.w n h i l * s h l v)]
  show _ = (∑ i, x.k n h i k * x.u n h i v) + _
  ring

theorem later_end (n : Fin 64) (h : Fin 8) : later 1 (end_ x) n h = Matrix.of (state x n.val h) := by
  unfold later
  by_cases h1 : n.val < 1
  · rw [if_pos h1, show n.val = 0 by omega]; rfl
  · rw [if_neg h1]
    unfold end_
    rw [show n.val - 1 + 1 = n.val by omega]

theorem affine_one : Affine x 1 (step x) (push x) := by
  intro n h
  rw [later_end]
  unfold end_
  rw [state_succ, chunk_val]
  funext k v
  exact next_eq x n _ h k v

/-- The linear part and the constants after `l` levels. -/
def levels : ℕ → Stack × Stack
  | 0 => (step x, push x)
  | l + 1 => (linear (2 ^ l) (levels l).1, const (2 ^ l) (levels l).1 (levels l).2)

theorem affine_levels : ∀ l, Affine x (2 ^ l) (levels x l).1 (levels x l).2
  | 0 => affine_one x
  | l + 1 => by
    rw [pow_succ, mul_two]
    exact (affine_levels l).double

/-- Six levels give every state. -/
theorem levels_six (n : Fin 64) (h : Fin 8) : later 1 (levels x 6).2 n h = Matrix.of (state x n.val h) := by
  rw [(affine_levels x 6).all, later_end]

end Cert.RecDouble

end
-- ==== Proof.TwoLoops.lean ====
module

public import Idealize.ShloMosaic.Lib.StableHlo.RunLoop

/-!
A program that runs two counted loops, with stretches of operations before, between and after
them, ends with its buffers at the operations' fold: a loop of `n` trips is `n` times its
condition's and its body's operations and the condition's once more. Each loop is described by a
record, and of its condition one fact is asked: it holds exactly on the trips below `n`.
-/

@[expose] public section

noncomputable section

namespace Cert.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs)
open TcCoe

variable {nD : Nat} {τ : Topo} {sig : RefSig} {F : FTy → Type} {Λ₀ : Idealize.SL.Sem.Labels} {nL : Nat}

local notation "𝕄" => MT nD τ sig Unit (Elt F) ℕ (Option PUnit) ℕ

variable {pcs : Fin 0 → PCfg sig Λ₀ (Elt F)} (defs₀ : Defs nD τ sig (Elt F) Λ₀)
  (loops : Fin nL → Prog (TpuEff nD τ sig (Elt F)
    (HostLoop.Sig (Pipeline.Sig Λ₀ (Fin 0) fun p => (pcs p).Adm) nL) .tc) PUnit)

/-- One counted loop: its label, its two programs and the operations they run. -/
structure Counted where
  label : Fin nL
  cond : Prog (TpuEff nD τ sig (Elt F)
    (HostLoop.Sig (Pipeline.Sig Λ₀ (Fin 0) fun p => (pcs p).Adm) nL) .tc) (Elt F .i1)
  body : Prog (TpuEff nD τ sig (Elt F)
    (HostLoop.Sig (Pipeline.Sig Λ₀ (Fin 0) fun p => (pcs p).Adm) nL) .tc) PUnit
  step : loops label = HostLoop.step label cond body
  test : List (HloOp τ sig (Elt F))
  trip : List (List (HloOp τ sig (Elt F)))
  plain : Plain trip
  run : body = Pipeline.chain (trip.map fun ops => (seq ops : Prog _ PUnit))
  trips : ℕ

variable {loops}

/-- The buffers after a loop entered with `W`. -/
def Counted.leave (l : Counted loops) (W : Dev nD → Valuation τ sig (Elt F)) (c : Dev nD) :
    Valuation τ sig (Elt F) :=
  after l.test (atTrip l.test l.trip W l.trips c)

/-- The loop's condition is true exactly on the trips below `trips`. -/
abbrev Counted.Holds (l : Counted loops) (W : Dev nD → Valuation τ sig (Elt F)) : Prop :=
  CondSpec pcs defs₀ loops l.cond l.test l.trip W l.trips

variable (pcs) in
/-- There is no pipeline to admit. -/
private abbrev none' : (p : Fin 0) → (pcs p).Adm := fun p => p.elim0

/-- What every core keeps beside its buffers. -/
private abbrev Kept (c : Dev nD) : sProp 𝕄 :=
  iprop(∃ W, owes (c : Thread nD τ) (0 : CellTallies nD τ sig Unit) W)

private theorem Counted.Holds.framed {l : Counted loops} {W : Dev nD → Valuation τ sig (Elt F)}
    (h : l.Holds defs₀ W) :
    LoopCond pcs defs₀ Variants.none loops Kept l.cond l.test l.trip W l.trips := by
  intro k hk c bd
  have aside : ∀ v : Elt F .i1,
      iprop(iprop(⌜v = 1#1 ↔ k < l.trips⌝ ∗ boundary (c : Thread nD τ)
          ∗ held (c : Thread nD τ) (ucRefs τ sig) (after l.test (atTrip l.test l.trip W k c)))
        ∗ Kept c)
      ⊢ iprop(⌜v = 1#1 ↔ k < l.trips⌝ ∗ boundary (c : Thread nD τ)
          ∗ held (c : Thread nD τ) (ucRefs τ sig) (after l.test (atTrip l.test l.trip W k c))
          ∗ Kept c) := by
    intro v
    iintro ⟨⟨%hv, Hb, Hh⟩, HR⟩
    isplitr
    · ipureintro; exact hv
    isplitl [Hb]
    · iexact Hb
    isplitl [Hh] <;> iassumption
  refine BIBase.Entails.trans ?_
    (((sep_mono_left (h k hk c bd)).trans (wp_frame_r _ _ _)).trans (wp_mono _ _ _ aside))
  iintro ⟨Hb, Hh, HR⟩
  isplitl [Hb Hh]
  · isplitl [Hb] <;> iassumption
  iexact HR

section

variable {defs₀} (l l' : Counted loops) (pre mid post : List (List (HloOp τ sig (Elt F))))
  (m : (ℓ : Loc nD τ sig) → Buf (Elt F) ℓ)

/-- The buffers when the first loop is entered. -/
abbrev first (c : Dev nD) : Valuation τ sig (Elt F) := afterL pre (launchContents m c)

/-- The buffers when the second loop is entered. -/
abbrev second (c : Dev nD) : Valuation τ sig (Elt F) := afterL mid (l.leave (first pre m) c)

/-- The buffers at the end. -/
abbrev final (c : Dev nD) : Valuation τ sig (Elt F) :=
  afterL post (l'.leave (second l pre mid m) c)

variable {l l' pre mid post m}
  (hpre : Plain pre) (hmid : Plain mid) (hpost : Plain post)
  (h : l.Holds defs₀ (first pre m)) (h' : l'.Holds defs₀ (second l pre mid m))

private abbrev levels : GSem nD τ sig → Finset Unit := fun _ => ∅
private abbrev level : GSem nD τ sig → Unit → ℕ := fun _ _ => 0
variable (pcs) in
private abbrev tickets : Fin 0 → Ticket (Ix := Unit) (Name := ℕ) (U := Option PUnit) (Lvl := ℕ)
    (nD := nD) (τ := τ) pcs (none' pcs) := fun j => j.elim0

/-- The segments of the whole run. -/
private def parts : List (CSeg pcs (none' pcs) defs₀ Variants.none levels level loops (tickets pcs)) :=
  segsOf _ _ _ _ _ _ _ _ Kept pre hpre (launchContents m)
    ++ loopSeg _ _ _ _ _ _ _ _ l.label l.cond l.body l.step l.test l.trip l.plain l.run l.trips
        (first pre m) Kept h.framed
      :: (segsOf _ _ _ _ _ _ _ _ Kept mid hmid (l.leave (first pre m))
        ++ loopSeg _ _ _ _ _ _ _ _ l'.label l'.cond l'.body l'.step l'.test l'.trip l'.plain l'.run
            l'.trips (second l pre mid m) Kept h'.framed
          :: segsOf _ _ _ _ _ _ _ _ Kept post hpost (l'.leave (second l pre mid m)))

private theorem parts_prog :
    (parts (defs₀ := defs₀) hpre hmid hpost h h').map CSeg.prog
      = (pre.map fun ops => (seq ops : Prog _ PUnit)) ++ HostLoop.enter l.label
        :: ((mid.map fun ops => (seq ops : Prog _ PUnit)) ++ HostLoop.enter l'.label
          :: post.map fun ops => (seq ops : Prog _ PUnit)) := by
  unfold parts
  rw [List.map_append, List.map_cons, List.map_append, List.map_cons, segsOf_prog, segsOf_prog,
    segsOf_prog]
  rfl

private theorem parts_chain :
    CSeg.Chains (fun c => iprop(held (c : Thread nD τ) (ucRefs τ sig) (launchContents m c) ∗ Kept c))
      (parts (defs₀ := defs₀) hpre hmid hpost h h')
      (fun c => iprop(iprop(held (c : Thread nD τ) (ucRefs τ sig) (final l l' pre mid post m c))
        ∗ ∃ W, owes (c : Thread nD τ) (0 : CellTallies nD τ sig Unit) W)) := by
  unfold parts
  exact CSeg.Chains.append (segsOf_chains _ _ _ _ _ _ _ _ Kept pre hpre _)
    ⟨fun _ => .rfl, CSeg.Chains.append (segsOf_chains _ _ _ _ _ _ _ _ Kept mid hmid _)
      ⟨fun _ => .rfl, segsOf_chains _ _ _ _ _ _ _ _ Kept post hpost _⟩⟩

end

/-- From any memory with zero counters the program ends with every buffer at `final`. -/
theorem run_two [∀ e, Nonempty (Elt F e)]
    (main : Dev nD → Prog (TpuEff nD τ sig (Elt F)
      (HostLoop.Sig (Pipeline.Sig Λ₀ (Fin 0) fun p => (pcs p).Adm) nL) .tc) PUnit)
    (l l' : Counted loops) (pre mid post : List (List (HloOp τ sig (Elt F))))
    (hpre : Plain pre) (hmid : Plain mid) (hpost : Plain post)
    (hmain : ∀ c, main c = Pipeline.chain ((pre.map fun ops => (seq ops : Prog _ PUnit))
      ++ HostLoop.enter l.label :: ((mid.map fun ops => (seq ops : Prog _ PUnit))
        ++ HostLoop.enter l'.label :: post.map fun ops => (seq ops : Prog _ PUnit))))
    (m : (ℓ : Loc nD τ sig) → Buf (Elt F) ℓ) (ρ : Dev nD → PrngReg)
    (h : l.Holds defs₀ (first pre m)) (h' : l'.Holds defs₀ (second l pre mid m)) :
    θ_run (HostLoop.defs loops (Pipeline.defs pcs defs₀)) (onTc (τ := τ) main) ⟨m, fun _ => 0, ρ⟩
      (fun r => ∀ (c : Dev nD) (b : Ref sig .tc),
        (Proc.devRef .tc b : DevRef τ sig).isScoped = false →
        r.2.mem ((c.tc : Thread nD τ).loc b) = final l l' pre mid post m c (Proc.devRef .tc b)) :=
  Pipeline.θ_run_regions_loop_kit (Ix := Unit) (Name := ℕ) (U := Option PUnit) (Lvl := ℕ)
    (J := Fin 0) (P := Fin 0) (Val := Elt F)
    pcs (none' pcs) (fun k => k.1.elim0) defs₀ Variants.none levels level loops (tickets pcs) m ρ main
    (parts hpre hmid hpost h h')
    (fun c Q => by
      rw [hmain c]
      show wp _ _ _ (Pipeline.chain ((parts hpre hmid hpost h h').map CSeg.prog)) Q ⊢ _
      rw [parts_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄))
          from by rw [BI.bigSep_emp_const])
        iempintro)
    (T₀ := fun c => iprop(held (c : Thread nD τ) (ucRefs τ sig) (launchContents m c) ∗ Kept c))
    (Tₙ := fun c => iprop(held (c : Thread nD τ) (ucRefs τ sig) (final l l' pre mid post m c)))
    (hch := parts_chain hpre hmid hpost h h')
    (hinit := by
      refine Pipeline.initEach levels level fun c => ?_
      rw [show unscopedBufs c (fun b => m ((c : Thread nD τ).loc b))
        = held (c : Thread nD τ) (ucRefs τ sig) (launchContents m c)
        from Pipeline.unscopedBufs_held c (launchContents m c)]
      iintro ⟨⟨Hh, -, HO, -, -, -⟩, -⟩
      imodintro
      isplitl [Hh]
      · iexact Hh
      iexists ∅; iexact HO)
    (QY := fun c s => ∀ b ∈ ucRefs τ sig, s.mem ((c : Dev nD), b) = final l l' pre mid post m c b)
    (hfin := fun c s' => by
      unfold held
      iintro ⟨Hh, HS⟩
      ihave Hr := (pointsTo_read_all (ucRefs τ sig) (fun b => ((c : Dev nD), b))
        (fun b => final l l' pre mid post m c b) s') $$ [Hh HS]
      · isplitl [Hh] <;> iassumption
      icases Hr with ⟨%e, HS⟩
      imodintro
      isplitr
      · ipureintro; exact e
      iexact HS)
    (hQ := fun _ e c b hb => e c _ (devRef_mem_ucRefs b hb))

end Cert.TwoLoops

end
-- ==== Proof.RecOps.lean ====
module

public import proofs.«01_k».proof.Proof.Gen.RecReferenceIdeal
public import Idealize.ShloMosaic.Lib.StableHlo.RunLoop
public import Idealize.ShloMosaic.Lib.StableHlo.RunClose
public import Idealize.ShloMosaic.Lib.StableHlo.RunRead

/-!
The operations of the scan's derivative, as the reference program runs them: what stands before
the first loop, one trip of the first loop (the states, chunk by chunk), what stands between the
loops, one trip of the second loop (the gradients, from the last chunk to the first) and what
stands after it.
-/

@[expose] public section

set_option maxRecDepth 16384

noncomputable section

namespace Cert.RecOps

open Cert.RecReferenceIdeal Cert.RecReferenceIdeal.Gen
open Idealize.ShloMosaic Idealize.ShloMosaic.TcCoe Idealize.SL.Sem Idealize.ShloMosaic.StableHlo

variable {F : FTy → Type} [FloatOps F]

/-- The chunks of the six operands, the zero state and the empty stacks. -/
abbrev prepare : List (HloOp τ sig (Elt F)) :=
  ( unary main_arg1 main_v0 ((extf .f32 · bitsLt_bf16_f32) : (⟨S4096x1024, .bf16⟩ : BufTy).Contents (Elt F) → (⟨S4096x1024, .f32⟩ : BufTy).Contents (Elt F))
  :: unary main_arg3 main_v1 ((extf .f32 · bitsLt_bf16_f32) : (⟨S4096x1024, .bf16⟩ : BufTy).Contents (Elt F) → (⟨S4096x1024, .f32⟩ : BufTy).Contents (Elt F))
  :: unary main_arg4 main_v2 ((extf .f32 · bitsLt_bf16_f32) : (⟨S4096x1024, .bf16⟩ : BufTy).Contents (Elt F) → (⟨S4096x1024, .f32⟩ : BufTy).Contents (Elt F))
  :: unary main_arg5 main_v3 ((extf .f32 · bitsLt_bf16_f32) : (⟨S8x4096x64, .bf16⟩ : BufTy).Contents (Elt F) → (⟨S8x4096x64, .f32⟩ : BufTy).Contents (Elt F))
  :: reshape main_v0 main_v4 (rfl : (.f32 : EltTy) = .f32) shapeCasts_S4096x1024_S64x64x8x128
  :: unary main_v4 main_v5 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F))
  :: reshape main_arg2 main_v6 (rfl : (.f32 : EltTy) = .f32) shapeCasts_S4096x1024_S64x64x8x128
  :: unary main_v6 main_v7 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F))
  :: reshape main_v1 main_v8 (rfl : (.f32 : EltTy) = .f32) shapeCasts_S4096x1024_S64x64x8x128
  :: unary main_v8 main_v9 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F))
  :: reshape main_v2 main_v10 (rfl : (.f32 : EltTy) = .f32) shapeCasts_S4096x1024_S64x64x8x128
  :: unary main_v10 main_v11 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F))
  :: reshape main_v3 main_v12 (rfl : (.f32 : EltTy) = .f32) shapeCasts_S8x4096x64_S8x64x64x64
  :: unary main_v5 main_v13 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F))
  :: unary main_v7 main_v14 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F))
  :: unary main_v9 main_v15 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F))
  :: unary main_v11 main_v16 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F))
  :: unary main_v12 main_v17 ((transpose S64x8x64x64 [1, 0, 2, 3] · transposes_S8x64x64x64_S64x8x64x64_1_0_2_3) : (⟨S8x64x64x64, .f32⟩ : BufTy).Contents (Elt F) → (⟨S64x8x64x64, .f32⟩ : BufTy).Contents (Elt F))
  :: unary main_arg6 main_v18 ((transpose S64x8 [1, 0] · transposes_S8x64_S64x8_1_0) : (⟨S8x64, .f32⟩ : BufTy).Contents (Elt F) → (⟨S64x8, .f32⟩ : BufTy).Contents (Elt F))
  :: nullary main_cst (constant S_ .f32 0x00000000#32)
  :: unary main_cst main_v19 (broadcastInDim S8x128x128 ![] bcast_S_S8x128x128 : (⟨S_, .f32⟩ : BufTy).Contents (Elt F) → (⟨S8x128x128, .f32⟩ : BufTy).Contents (Elt F))
  :: nullary main_cst_0 (constant S_ .f32 0x00000000#32)
  :: unary main_cst_0 main_v20 (broadcastInDim S64x8x64x128 ![] bcast_S_S64x8x64x128 : (⟨S_, .f32⟩ : BufTy).Contents (Elt F) → (⟨S64x8x64x128, .f32⟩ : BufTy).Contents (Elt F))
  :: nullary main_cst_1 (constant S_ .f32 0x00000000#32)
  :: unary main_cst_1 main_v21 (broadcastInDim S64x8x128x128 ![] bcast_S_S64x8x128x128 : (⟨S_, .f32⟩ : BufTy).Contents (Elt F) → (⟨S64x8x128x128, .f32⟩ : BufTy).Contents (Elt F))
  :: nullary main_cst_2 (constant S_ .f32 0x00000000#32)
  :: unary main_cst_2 main_v22 (broadcastInDim S64x8x64x128 ![] bcast_S_S64x8x64x128 : (⟨S_, .f32⟩ : BufTy).Contents (Elt F) → (⟨S64x8x64x128, .f32⟩ : BufTy).Contents (Elt F))
  :: nullary main_cst_3 (constant S_ .f32 0x00000000#32)
  :: unary main_cst_3 main_v23 (broadcastInDim S64x8x1x1 ![] bcast_S_S64x8x1x1 : (⟨S_, .f32⟩ : BufTy).Contents (Elt F) → (⟨S64x8x1x1, .f32⟩ : BufTy).Contents (Elt F))
  :: nullary main_c (constantI S_ 32 0#32)
  :: unary main_v13 main_v24_0 id
  :: unary main_v14 main_v24_1 id
  :: unary main_v15 main_v24_2 id
  :: unary main_v16 main_v24_3 id
  :: unary main_v17 main_v24_4 id
  :: unary main_v18 main_v24_5 id
  :: unary main_c main_v24_6 id
  :: unary main_v19 main_v24_7 id
  :: unary main_v20 main_v24_8 id
  :: unary main_v21 main_v24_9 id
  :: unary main_v22 main_v24_10 id
  :: unary main_v23 main_v24_11 id
  :: [] )

theorem prepare_sub : (prepare : List (HloOp τ sig (Elt F))).Forall fun op => op.bufs ⊆ tcRefs τ sig :=
  ⟨unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- Between the two loops: the cotangent cut into chunks and the empty gradient stacks. -/
abbrev between : List (HloOp τ sig (Elt F)) :=
  [ unary main_v24_8 main_v25 ((transpose S64x64x8x128 [0, 2, 1, 3] · transposes_S64x8x64x128_S64x64x8x128_0_2_1_3) : (⟨S64x8x64x128, .f32⟩ : BufTy).Contents (Elt F) → (⟨S64x64x8x128, .f32⟩ : BufTy).Contents (Elt F)),
    reshape main_v25 main_v26 (rfl : (.f32 : EltTy) = .f32) shapeCasts_S64x64x8x128_S4096x1024,
    nullary main_cst_4 (constant S_ .f32 0x00000000#32),
    unary main_cst_4 main_v27 (broadcastInDim S8x128x128 ![] bcast_S_S8x128x128 : (⟨S_, .f32⟩ : BufTy).Contents (Elt F) → (⟨S8x128x128, .f32⟩ : BufTy).Contents (Elt F)),
    reshape main_arg0 main_v28 (rfl : (.f32 : EltTy) = .f32) shapeCasts_S4096x1024_S64x64x8x128,
    unary main_v28 main_v29 ((transpose S64x8x64x128 [0, 2, 1, 3] · transposes_S64x64x8x128_S64x8x64x128_0_2_1_3) : (⟨S64x64x8x128, .f32⟩ : BufTy).Contents (Elt F) → (⟨S64x8x64x128, .f32⟩ : BufTy).Contents (Elt F)),
    nullary main_cst_5 (constant S_ .f32 0x00000000#32),
    unary main_cst_5 main_v30 (broadcastInDim S8x128x128 ![] bcast_S_S8x128x128 : (⟨S_, .f32⟩ : BufTy).Contents (Elt F) → (⟨S8x128x128, .f32⟩ : BufTy).Contents (Elt F)),
    nullary main_cst_6 (constant S_ .f32 0x00000000#32),
    unary main_cst_6 main_v31 (broadcastInDim S64x8x64x128 ![] bcast_S_S64x8x64x128 : (⟨S_, .f32⟩ : BufTy).Contents (Elt F) → (⟨S64x8x64x128, .f32⟩ : BufTy).Contents (Elt F)),
    nullary main_cst_7 (constant S_ .f32 0x00000000#32),
    unary main_cst_7 main_v32 (broadcastInDim S64x8x64x128 ![] bcast_S_S64x8x64x128 : (⟨S_, .f32⟩ : BufTy).Contents (Elt F) → (⟨S64x8x64x128, .f32⟩ : BufTy).Contents (Elt F)),
    nullary main_cst_8 (constant S_ .f32 0x00000000#32),
    unary main_cst_8 main_v33 (broadcastInDim S64x8x64x128 ![] bcast_S_S64x8x64x128 : (⟨S_, .f32⟩ : BufTy).Contents (Elt F) → (⟨S64x8x64x128, .f32⟩ : BufTy).Contents (Elt F)),
    nullary main_cst_9 (constant S_ .f32 0x00000000#32),
    unary main_cst_9 main_v34 (broadcastInDim S64x8x64x128 ![] bcast_S_S64x8x64x128 : (⟨S_, .f32⟩ : BufTy).Contents (Elt F) → (⟨S64x8x64x128, .f32⟩ : BufTy).Contents (Elt F)),
    nullary main_cst_10 (constant S_ .f32 0x00000000#32) ]

theorem between_sub : (between : List (HloOp τ sig (Elt F))).Forall fun op => op.bufs ⊆ tcRefs τ sig :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub ..⟩

/-- Between the two loops, continued: the copies the second loop carries. -/
abbrev between2 : List (HloOp τ sig (Elt F)) :=
  [ unary main_cst_10 main_v35 (broadcastInDim S64x8x64x64 ![] bcast_S_S64x8x64x64 : (⟨S_, .f32⟩ : BufTy).Contents (Elt F) → (⟨S64x8x64x64, .f32⟩ : BufTy).Contents (Elt F)),
    nullary main_cst_11 (constant S_ .f32 0x00000000#32),
    unary main_cst_11 main_v36 (broadcastInDim S64x8 ![] bcast_S_S64x8 : (⟨S_, .f32⟩ : BufTy).Contents (Elt F) → (⟨S64x8, .f32⟩ : BufTy).Contents (Elt F)),
    nullary main_c_12 (constantI S_ 32 0#32),
    unary main_v29 main_v37_0 id,
    unary main_v24_9 main_v37_1 id,
    unary main_v13 main_v37_2 id,
    unary main_v15 main_v37_3 id,
    unary main_v24_10 main_v37_4 id,
    unary main_v17 main_v37_5 id,
    unary main_v24_11 main_v37_6 id,
    unary main_v16 main_v37_7 id,
    unary main_c_12 main_v37_8 id,
    unary main_v30 main_v37_9 id,
    unary main_v31 main_v37_10 id,
    unary main_v32 main_v37_11 id,
    unary main_v33 main_v37_12 id,
    unary main_v34 main_v37_13 id,
    unary main_v35 main_v37_14 id,
    unary main_v36 main_v37_15 id ]

theorem between2_sub : (between2 : List (HloOp τ sig (Elt F))).Forall fun op => op.bufs ⊆ tcRefs τ sig :=
  ⟨unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- After the loops: the gradients laid out as rows, rounded where the operands were. -/
abbrev finish : List (HloOp τ sig (Elt F)) :=
  [ unary main_v37_15 main_v38 ((transpose S8x64 [1, 0] · transposes_S64x8_S8x64_1_0) : (⟨S64x8, .f32⟩ : BufTy).Contents (Elt F) → (⟨S8x64, .f32⟩ : BufTy).Contents (Elt F)),
    unary main_v37_14 main_v39 ((transpose S8x64x64x64 [1, 0, 2, 3] · transposes_S64x8x64x64_S8x64x64x64_1_0_2_3) : (⟨S64x8x64x64, .f32⟩ : BufTy).Contents (Elt F) → (⟨S8x64x64x64, .f32⟩ : BufTy).Contents (Elt F)),
    unary main_v37_13 main_v40 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    unary main_v37_12 main_v41 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    unary main_v37_11 main_v42 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    unary main_v37_10 main_v43 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    reshape main_v39 main_v44 (rfl : (.f32 : EltTy) = .f32) shapeCasts_S8x64x64x64_S8x4096x64,
    unary main_v40 main_v45 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    reshape main_v45 main_v46 (rfl : (.f32 : EltTy) = .f32) shapeCasts_S64x64x8x128_S4096x1024,
    unary main_v41 main_v47 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    reshape main_v47 main_v48 (rfl : (.f32 : EltTy) = .f32) shapeCasts_S64x64x8x128_S4096x1024,
    unary main_v42 main_v49 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    reshape main_v49 main_v50 (rfl : (.f32 : EltTy) = .f32) shapeCasts_S64x64x8x128_S4096x1024,
    unary main_v43 main_v51 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    reshape main_v51 main_v52 (rfl : (.f32 : EltTy) = .f32) shapeCasts_S64x64x8x128_S4096x1024,
    unary main_v50 main_v53 ((truncf .bf16 · bitsLt_bf16_f32) : (⟨S4096x1024, .f32⟩ : BufTy).Contents (Elt F) → (⟨S4096x1024, .bf16⟩ : BufTy).Contents (Elt F)),
    unary main_v52 main_v54 ((truncf .bf16 · bitsLt_bf16_f32) : (⟨S4096x1024, .f32⟩ : BufTy).Contents (Elt F) → (⟨S4096x1024, .bf16⟩ : BufTy).Contents (Elt F)),
    unary main_v38 main_v55 (broadcastInDim S8x64x1 ![0, 1] bcast_S8x64_S8x64x1_0_1 : (⟨S8x64, .f32⟩ : BufTy).Contents (Elt F) → (⟨S8x64x1, .f32⟩ : BufTy).Contents (Elt F)),
    unary main_v55 main_v56 (broadcastInDim S8x64x128 ![0, 1, 2] bcast_S8x64x1_S8x64x128_0_1_2 : (⟨S8x64x1, .f32⟩ : BufTy).Contents (Elt F) → (⟨S8x64x128, .f32⟩ : BufTy).Contents (Elt F)) ]

theorem finish_sub : (finish : List (HloOp τ sig (Elt F))).Forall fun op => op.bufs ⊆ tcRefs τ sig :=
  ⟨unary_bufs_sub .., unary_bufs_sub .., unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub ..⟩

/-- Operations of one trip of the first loop, part 0. -/
abbrev fwd0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v24_0 : TRef sig ⟨S64x8x64x128, .f32⟩) ![(.of main_v24_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call0_v0 : TRef sig ⟨S1x8x64x128, .f32⟩) (.of main_while0b_v57 : TRef sig ⟨S8x64x128, .f32⟩) (rfl : (.f32 : EltTy) = .f32) shapeCasts_S1x8x64x128_S8x64x128 ]

theorem fwd0_sub : (fwd0 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the first loop, part 1. -/
abbrev fwd1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v24_1 : TRef sig ⟨S64x8x64x128, .f32⟩) ![(.of main_v24_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call1_v0 : TRef sig ⟨S1x8x64x128, .f32⟩) (.of main_while0b_v58 : TRef sig ⟨S8x64x128, .f32⟩) (rfl : (.f32 : EltTy) = .f32) shapeCasts_S1x8x64x128_S8x64x128 ]

theorem fwd1_sub : (fwd1 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the first loop, part 2. -/
abbrev fwd2 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v24_2 : TRef sig ⟨S64x8x64x128, .f32⟩) ![(.of main_v24_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call2_v0 : TRef sig ⟨S1x8x64x128, .f32⟩) (.of main_while0b_v59 : TRef sig ⟨S8x64x128, .f32⟩) (rfl : (.f32 : EltTy) = .f32) shapeCasts_S1x8x64x128_S8x64x128 ]

theorem fwd2_sub : (fwd2 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the first loop, part 3. -/
abbrev fwd3 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v24_3 : TRef sig ⟨S64x8x64x128, .f32⟩) ![(.of main_v24_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call3_v0 : TRef sig ⟨S1x8x64x128, .f32⟩) (.of main_while0b_v60 : TRef sig ⟨S8x64x128, .f32⟩) (rfl : (.f32 : EltTy) = .f32) shapeCasts_S1x8x64x128_S8x64x128 ]

theorem fwd3_sub : (fwd3 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the first loop, part 4. -/
abbrev fwd4 : List (HloOp τ sig (Elt F)) :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v24_4 : TRef sig ⟨S64x8x64x64, .f32⟩) ![(.of main_v24_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x8x64x64, .f32⟩) (fun x i => Host.dynamicSlice S1x8x64x64 x (fun k => (i k (Shape.Idx.first h_S_)).toInt) sliceFits_S64x8x64x64_S1x8x64x64),
    TRef.reshape (.of main_while0b_call4_v0 : TRef sig ⟨S1x8x64x64, .f32⟩) (.of main_while0b_v61 : TRef sig ⟨S8x64x64, .f32⟩) (rfl : (.f32 : EltTy) = .f32) shapeCasts_S1x8x64x64_S8x64x64 ]

theorem fwd4_sub : (fwd4 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the first loop, part 5. -/
abbrev fwd5 : List (HloOp τ sig (Elt F)) :=
  [ TRef.nullary (.of main_while0b_call5_c : TRef sig ⟨S_, .i32⟩) (constantI S_ 32 0#32),
    TRef.unaryIndexed (.of main_v24_5 : TRef sig ⟨S64x8, .f32⟩) ![(.of main_v24_6 : TRef sig ⟨S_, .i32⟩), (.of main_while0b_call5_c : TRef sig ⟨S_, .i32⟩)] (.of main_while0b_call5_v0 : TRef sig ⟨S1x8, .f32⟩) (fun x i => Host.dynamicSlice S1x8 x (fun k => (i k (Shape.Idx.first h_S_)).toInt) sliceFits_S64x8_S1x8),
    TRef.reshape (.of main_while0b_call5_v0 : TRef sig ⟨S1x8, .f32⟩) (.of main_while0b_v62 : TRef sig ⟨S8, .f32⟩) (rfl : (.f32 : EltTy) = .f32) shapeCasts_S1x8_S8 ]

theorem fwd5_sub : (fwd5 : List (HloOp τ sig (Elt F))).Forall fun op => op.bufs ⊆ tcRefs τ sig :=
  ⟨nullary_bufs_sub .., unaryIndexed_bufs_sub .., reshape_bufs_sub ..⟩

/-- Operations of one trip of the first loop, part 6. -/
abbrev fwd6 : List (HloOp τ sig (Elt F)) :=
  [ binary main_while0b_v57 main_v24_7 main_while0b_v63 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    binary main_while0b_v58 main_while0b_v63 main_while0b_v64 (subf : (⟨S8x64x128, .f32⟩ : BufTy).Contents (Elt F) → (⟨S8x64x128, .f32⟩ : BufTy).Contents (Elt F) → (⟨S8x64x128, .f32⟩ : BufTy).Contents (Elt F)),
    binary main_while0b_v59 main_v24_7 main_while0b_v65 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    binary main_while0b_v61 main_while0b_v64 main_while0b_v66 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    binary main_while0b_v65 main_while0b_v66 main_while0b_v67 (addf : (⟨S8x64x128, .f32⟩ : BufTy).Contents (Elt F) → (⟨S8x64x128, .f32⟩ : BufTy).Contents (Elt F) → (⟨S8x64x128, .f32⟩ : BufTy).Contents (Elt F)),
    unary main_while0b_v62 main_while0b_v68 (broadcastInDim S8x1x1 ![0] bcast_S8_S8x1x1_0 : (⟨S8, .f32⟩ : BufTy).Contents (Elt F) → (⟨S8x1x1, .f32⟩ : BufTy).Contents (Elt F)),
    unary main_while0b_v68 main_while0b_v69 (broadcastInDim S8x128x128 ![0, 1, 2] bcast_S8x1x1_S8x128x128_0_1_2 : (⟨S8x1x1, .f32⟩ : BufTy).Contents (Elt F) → (⟨S8x128x128, .f32⟩ : BufTy).Contents (Elt F)),
    binary main_v24_7 main_while0b_v69 main_while0b_v70 (mulf : (⟨S8x128x128, .f32⟩ : BufTy).Contents (Elt F) → (⟨S8x128x128, .f32⟩ : BufTy).Contents (Elt F) → (⟨S8x128x128, .f32⟩ : BufTy).Contents (Elt F)),
    binary main_while0b_v60 main_while0b_v64 main_while0b_v71 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    binary main_while0b_v70 main_while0b_v71 main_while0b_v72 (addf : (⟨S8x128x128, .f32⟩ : BufTy).Contents (Elt F) → (⟨S8x128x128, .f32⟩ : BufTy).Contents (Elt F) → (⟨S8x128x128, .f32⟩ : BufTy).Contents (Elt F)) ]

theorem fwd6_sub : (fwd6 : List (HloOp τ sig (Elt F))).Forall fun op => op.bufs ⊆ tcRefs τ sig :=
  ⟨binary_bufs_sub .., binary_bufs_sub .., binary_bufs_sub .., binary_bufs_sub .., binary_bufs_sub .., unary_bufs_sub .., unary_bufs_sub .., binary_bufs_sub .., binary_bufs_sub .., binary_bufs_sub ..⟩

/-- Operations of one trip of the first loop, part 7. -/
abbrev fwd7 : List (HloOp τ sig (Elt F)) :=
  [ TRef.unary (.of main_while0b_v67 : TRef sig ⟨S8x64x128, .f32⟩) (.of main_while0b_call6_v0 : TRef sig ⟨S1x8x64x128, .f32⟩) (broadcastInDim S1x8x64x128 ![1, 2, 3] bcast_S8x64x128_S1x8x64x128_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v24_8 : TRef sig ⟨S64x8x64x128, .f32⟩) (.of main_while0b_call6_v0 : TRef sig ⟨S1x8x64x128, .f32⟩) ![(.of main_v24_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v73 : TRef sig ⟨S64x8x64x128, .f32⟩) (fun x u i => Host.dynamicUpdateSlice x u (fun k => (i k (Shape.Idx.first h_S_)).toInt) updateFits_S64x8x64x128_S1x8x64x128) ]

theorem fwd7_sub : (fwd7 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the first loop, part 8. -/
abbrev fwd8 : List (HloOp τ sig (Elt F)) :=
  [ TRef.unary (.of main_v24_7 : TRef sig ⟨S8x128x128, .f32⟩) (.of main_while0b_call7_v0 : TRef sig ⟨S1x8x128x128, .f32⟩) (broadcastInDim S1x8x128x128 ![1, 2, 3] bcast_S8x128x128_S1x8x128x128_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v24_9 : TRef sig ⟨S64x8x128x128, .f32⟩) (.of main_while0b_call7_v0 : TRef sig ⟨S1x8x128x128, .f32⟩) ![(.of main_v24_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v74 : TRef sig ⟨S64x8x128x128, .f32⟩) (fun x u i => Host.dynamicUpdateSlice x u (fun k => (i k (Shape.Idx.first h_S_)).toInt) updateFits_S64x8x128x128_S1x8x128x128) ]

theorem fwd8_sub : (fwd8 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the first loop, part 9. -/
abbrev fwd9 : List (HloOp τ sig (Elt F)) :=
  [ TRef.unary (.of main_while0b_v64 : TRef sig ⟨S8x64x128, .f32⟩) (.of main_while0b_call8_v0 : TRef sig ⟨S1x8x64x128, .f32⟩) (broadcastInDim S1x8x64x128 ![1, 2, 3] bcast_S8x64x128_S1x8x64x128_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v24_10 : TRef sig ⟨S64x8x64x128, .f32⟩) (.of main_while0b_call8_v0 : TRef sig ⟨S1x8x64x128, .f32⟩) ![(.of main_v24_6 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v75 : TRef sig ⟨S64x8x64x128, .f32⟩) (fun x u i => Host.dynamicUpdateSlice x u (fun k => (i k (Shape.Idx.first h_S_)).toInt) updateFits_S64x8x64x128_S1x8x64x128) ]

theorem fwd9_sub : (fwd9 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the first loop, part 10. -/
abbrev fwd10 : List (HloOp τ sig (Elt F)) :=
  [ TRef.unary (.of main_while0b_v68 : TRef sig ⟨S8x1x1, .f32⟩) (.of main_while0b_call9_v0 : TRef sig ⟨S1x8x1x1, .f32⟩) (broadcastInDim S1x8x1x1 ![1, 2, 3] bcast_S8x1x1_S1x8x1x1_1_2_3),
    TRef.nullary (.of main_while0b_call9_c : TRef sig ⟨S_, .i32⟩) (constantI S_ 32 0#32),
    TRef.nullary (.of main_while0b_call9_c_0 : TRef sig ⟨S_, .i32⟩) (constantI S_ 32 0#32),
    TRef.nullary (.of main_while0b_call9_c_1 : TRef sig ⟨S_, .i32⟩) (constantI S_ 32 0#32),
    TRef.binaryIndexed (.of main_v24_11 : TRef sig ⟨S64x8x1x1, .f32⟩) (.of main_while0b_call9_v0 : TRef sig ⟨S1x8x1x1, .f32⟩) ![(.of main_v24_6 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩)] (.of main_while0b_v76 : TRef sig ⟨S64x8x1x1, .f32⟩) (fun x u i => Host.dynamicUpdateSlice x u (fun k => (i k (Shape.Idx.first h_S_)).toInt) updateFits_S64x8x1x1_S1x8x1x1) ]

theorem fwd10_sub : (fwd10 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the first loop, part 11. -/
abbrev fwd11 : List (HloOp τ sig (Elt F)) :=
  [ nullary main_while0b_c_24 (constantI S_ 32 1#32),
    binary main_v24_6 main_while0b_c_24 main_while0b_v77 (addi : (⟨S_, .i32⟩ : BufTy).Contents (Elt F) → (⟨S_, .i32⟩ : BufTy).Contents (Elt F) → (⟨S_, .i32⟩ : BufTy).Contents (Elt F)),
    unary main_while0b_v77 main_v24_6 id,
    unary main_while0b_v72 main_v24_7 id,
    unary main_while0b_v73 main_v24_8 id,
    unary main_while0b_v74 main_v24_9 id,
    unary main_while0b_v75 main_v24_10 id,
    unary main_while0b_v76 main_v24_11 id ]

theorem fwd11_sub : (fwd11 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩

/-- Operations of one trip of the second loop, part 0. -/
abbrev bwd0 : List (HloOp τ sig (Elt F)) :=
  [ nullary main_while1b_c_28 (constantI S_ 32 64#32),
    binary main_while1b_c_28 main_v37_8 main_while1b_v57 (subi : (⟨S_, .i32⟩ : BufTy).Contents (Elt F) → (⟨S_, .i32⟩ : BufTy).Contents (Elt F) → (⟨S_, .i32⟩ : BufTy).Contents (Elt F)),
    nullary main_while1b_c_29 (constantI S_ 32 1#32),
    binary main_while1b_v57 main_while1b_c_29 main_while1b_v58 (subi : (⟨S_, .i32⟩ : BufTy).Contents (Elt F) → (⟨S_, .i32⟩ : BufTy).Contents (Elt F) → (⟨S_, .i32⟩ : BufTy).Contents (Elt F)) ]

theorem bwd0_sub : (bwd0 : List (HloOp τ sig (Elt F))).Forall fun op => op.bufs ⊆ tcRefs τ sig :=
  ⟨nullary_bufs_sub .., binary_bufs_sub .., nullary_bufs_sub .., binary_bufs_sub ..⟩

/-- Operations of one trip of the second loop, part 1. -/
abbrev bwd1 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v37_0 : TRef sig ⟨S64x8x64x128, .f32⟩) ![(.of main_while1b_v58 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call10_v0 : TRef sig ⟨S1x8x64x128, .f32⟩) (.of main_while1b_v59 : TRef sig ⟨S8x64x128, .f32⟩) (rfl : (.f32 : EltTy) = .f32) shapeCasts_S1x8x64x128_S8x64x128 ]

theorem bwd1_sub : (bwd1 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 2. -/
abbrev bwd2 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v37_1 : TRef sig ⟨S64x8x128x128, .f32⟩) ![(.of main_while1b_v58 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x8x128x128, .f32⟩) (fun x i => Host.dynamicSlice S1x8x128x128 x (fun k => (i k (Shape.Idx.first h_S_)).toInt) sliceFits_S64x8x128x128_S1x8x128x128),
    TRef.reshape (.of main_while1b_call11_v0 : TRef sig ⟨S1x8x128x128, .f32⟩) (.of main_while1b_v60 : TRef sig ⟨S8x128x128, .f32⟩) (rfl : (.f32 : EltTy) = .f32) shapeCasts_S1x8x128x128_S8x128x128 ]

theorem bwd2_sub : (bwd2 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 3. -/
abbrev bwd3 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v37_2 : TRef sig ⟨S64x8x64x128, .f32⟩) ![(.of main_while1b_v58 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call12_v0 : TRef sig ⟨S1x8x64x128, .f32⟩) (.of main_while1b_v61 : TRef sig ⟨S8x64x128, .f32⟩) (rfl : (.f32 : EltTy) = .f32) shapeCasts_S1x8x64x128_S8x64x128 ]

theorem bwd3_sub : (bwd3 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 4. -/
abbrev bwd4 : List (HloOp τ sig (Elt F)) :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v37_3 : TRef sig ⟨S64x8x64x128, .f32⟩) ![(.of main_while1b_v58 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call13_v0 : TRef sig ⟨S1x8x64x128, .f32⟩) (.of main_while1b_v62 : TRef sig ⟨S8x64x128, .f32⟩) (rfl : (.f32 : EltTy) = .f32) shapeCasts_S1x8x64x128_S8x64x128 ]

theorem bwd4_sub : (bwd4 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 5. -/
abbrev bwd5 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v37_4 : TRef sig ⟨S64x8x64x128, .f32⟩) ![(.of main_while1b_v58 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call14_v0 : TRef sig ⟨S1x8x64x128, .f32⟩) (.of main_while1b_v63 : TRef sig ⟨S8x64x128, .f32⟩) (rfl : (.f32 : EltTy) = .f32) shapeCasts_S1x8x64x128_S8x64x128 ]

theorem bwd5_sub : (bwd5 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 6. -/
abbrev bwd6 : List (HloOp τ sig (Elt F)) :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v37_5 : TRef sig ⟨S64x8x64x64, .f32⟩) ![(.of main_while1b_v58 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : TRef sig ⟨S1x8x64x64, .f32⟩) (fun x i => Host.dynamicSlice S1x8x64x64 x (fun k => (i k (Shape.Idx.first h_S_)).toInt) sliceFits_S64x8x64x64_S1x8x64x64),
    TRef.reshape (.of main_while1b_call15_v0 : TRef sig ⟨S1x8x64x64, .f32⟩) (.of main_while1b_v64 : TRef sig ⟨S8x64x64, .f32⟩) (rfl : (.f32 : EltTy) = .f32) shapeCasts_S1x8x64x64_S8x64x64 ]

theorem bwd6_sub : (bwd6 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 7. -/
abbrev bwd7 : List (HloOp τ sig (Elt F)) :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v37_6 : TRef sig ⟨S64x8x1x1, .f32⟩) ![(.of main_while1b_v58 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : TRef sig ⟨S1x8x1x1, .f32⟩) (fun x i => Host.dynamicSlice S1x8x1x1 x (fun k => (i k (Shape.Idx.first h_S_)).toInt) sliceFits_S64x8x1x1_S1x8x1x1),
    TRef.reshape (.of main_while1b_call16_v0 : TRef sig ⟨S1x8x1x1, .f32⟩) (.of main_while1b_v65 : TRef sig ⟨S8x1x1, .f32⟩) (rfl : (.f32 : EltTy) = .f32) shapeCasts_S1x8x1x1_S8x1x1 ]

theorem bwd7_sub : (bwd7 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 8. -/
abbrev bwd8 : List (HloOp τ sig (Elt F)) :=
  [ TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.unaryIndexed (.of main_v37_7 : TRef sig ⟨S64x8x64x128, .f32⟩) ![(.of main_while1b_v58 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_call17_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call17_v0 : TRef sig ⟨S1x8x64x128, .f32⟩) (.of main_while1b_v66 : TRef sig ⟨S8x64x128, .f32⟩) (rfl : (.f32 : EltTy) = .f32) shapeCasts_S1x8x64x128_S8x64x128 ]

theorem bwd8_sub : (bwd8 : List (HloOp τ sig (Elt F))).Forall fun op => op.bufs ⊆ tcRefs τ sig :=
  ⟨nullary_bufs_sub .., nullary_bufs_sub .., nullary_bufs_sub .., unaryIndexed_bufs_sub .., reshape_bufs_sub ..⟩

/-- Operations of one trip of the second loop, part 9. -/
abbrev bwd9 : List (HloOp τ sig (Elt F)) :=
  [ binary main_v37_9 main_while1b_v66 main_while1b_v67 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    unary main_while1b_v67 main_while1b_v68 ((transpose S8x64x128 [0, 2, 1] · transposes_S8x128x64_S8x64x128_0_2_1) : (⟨S8x128x64, .f32⟩ : BufTy).Contents (Elt F) → (⟨S8x64x128, .f32⟩ : BufTy).Contents (Elt F)),
    binary main_v37_9 main_while1b_v63 main_while1b_v69 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    unary main_while1b_v69 main_while1b_v70 ((transpose S8x64x128 [0, 2, 1] · transposes_S8x128x64_S8x64x128_0_2_1) : (⟨S8x128x64, .f32⟩ : BufTy).Contents (Elt F) → (⟨S8x64x128, .f32⟩ : BufTy).Contents (Elt F)),
    binary main_while1b_v60 main_v37_9 main_while1b_v71 (mulf : (⟨S8x128x128, .f32⟩ : BufTy).Contents (Elt F) → (⟨S8x128x128, .f32⟩ : BufTy).Contents (Elt F) → (⟨S8x128x128, .f32⟩ : BufTy).Contents (Elt F)),
    nullary main_while1b_cst_30 (constant S_ .f32 0x00000000#32),
    binary main_while1b_v71 main_while1b_cst_30 main_while1b_v72 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    reshape main_while1b_v72 main_while1b_v73 (rfl : (.f32 : EltTy) = .f32) shapeCasts_S8_S8x1x1,
    unary main_while1b_v65 main_while1b_v74 (broadcastInDim S8x128x128 ![0, 1, 2] bcast_S8x1x1_S8x128x128_0_1_2 : (⟨S8x1x1, .f32⟩ : BufTy).Contents (Elt F) → (⟨S8x128x128, .f32⟩ : BufTy).Contents (Elt F)),
    binary main_v37_9 main_while1b_v74 main_while1b_v75 (mulf : (⟨S8x128x128, .f32⟩ : BufTy).Contents (Elt F) → (⟨S8x128x128, .f32⟩ : BufTy).Contents (Elt F) → (⟨S8x128x128, .f32⟩ : BufTy).Contents (Elt F)),
    nullary main_while1b_cst_31 (constant S_ .f32 0x00000000#32),
    binary main_while1b_v73 main_while1b_cst_31 main_while1b_v76 ((fun x v => Host.reduceAdd x v reducesTo_S8x1x1_S8_d1_2 h_S_) : (⟨S8x1x1, .f32⟩ : BufTy).Contents (Elt F) → (⟨S_, .f32⟩ : BufTy).Contents (Elt F) → (⟨S8, .f32⟩ : BufTy).Contents (Elt F)),
    binary main_while1b_v59 main_while1b_v64 main_while1b_v77 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    unary main_while1b_v77 main_while1b_v78 ((transpose S8x64x128 [0, 2, 1] · transposes_S8x128x64_S8x64x128_0_2_1) : (⟨S8x128x64, .f32⟩ : BufTy).Contents (Elt F) → (⟨S8x64x128, .f32⟩ : BufTy).Contents (Elt F)),
    binary main_while1b_v68 main_while1b_v78 main_while1b_v79 (addf : (⟨S8x64x128, .f32⟩ : BufTy).Contents (Elt F) → (⟨S8x64x128, .f32⟩ : BufTy).Contents (Elt F) → (⟨S8x64x128, .f32⟩ : BufTy).Contents (Elt F)),
    binary main_while1b_v59 main_while1b_v63 main_while1b_v80 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    binary main_while1b_v59 main_while1b_v62 main_while1b_v81 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    unary main_while1b_v81 main_while1b_v82 ((transpose S8x128x128 [0, 2, 1] · transposes_S8x128x128_S8x128x128_0_2_1) : (⟨S8x128x128, .f32⟩ : BufTy).Contents (Elt F) → (⟨S8x128x128, .f32⟩ : BufTy).Contents (Elt F)),
    binary main_while1b_v75 main_while1b_v82 main_while1b_v83 (addf : (⟨S8x128x128, .f32⟩ : BufTy).Contents (Elt F) → (⟨S8x128x128, .f32⟩ : BufTy).Contents (Elt F) → (⟨S8x128x128, .f32⟩ : BufTy).Contents (Elt F)),
    binary main_while1b_v59 main_while1b_v60 main_while1b_v84 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    unary main_while1b_v79 main_while1b_v85 (Host.negf : (⟨S8x64x128, .f32⟩ : BufTy).Contents (Elt F) → (⟨S8x64x128, .f32⟩ : BufTy).Contents (Elt F)),
    binary main_while1b_v85 main_while1b_v61 main_while1b_v86 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    unary main_while1b_v86 main_while1b_v87 ((transpose S8x128x128 [0, 2, 1] · transposes_S8x128x128_S8x128x128_0_2_1) : (⟨S8x128x128, .f32⟩ : BufTy).Contents (Elt F) → (⟨S8x128x128, .f32⟩ : BufTy).Contents (Elt F)),
    binary main_while1b_v83 main_while1b_v87 main_while1b_v88 (addf : (⟨S8x128x128, .f32⟩ : BufTy).Contents (Elt F) → (⟨S8x128x128, .f32⟩ : BufTy).Contents (Elt F) → (⟨S8x128x128, .f32⟩ : BufTy).Contents (Elt F)),
    binary main_while1b_v85 main_while1b_v60 main_while1b_v89 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]

theorem bwd9_sub : (bwd9 : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩

/-- Operations of one trip of the second loop, part 10. -/
abbrev bwd10 : List (HloOp τ sig (Elt F)) :=
  [ TRef.unary (.of main_while1b_v89 : TRef sig ⟨S8x64x128, .f32⟩) (.of main_while1b_call18_v0 : TRef sig ⟨S1x8x64x128, .f32⟩) (broadcastInDim S1x8x64x128 ![1, 2, 3] bcast_S8x64x128_S1x8x64x128_1_2_3),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.binaryIndexed (.of main_v37_10 : TRef sig ⟨S64x8x64x128, .f32⟩) (.of main_while1b_call18_v0 : TRef sig ⟨S1x8x64x128, .f32⟩) ![(.of main_while1b_v58 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_v90 : TRef sig ⟨S64x8x64x128, .f32⟩) (fun x u i => Host.dynamicUpdateSlice x u (fun k => (i k (Shape.Idx.first h_S_)).toInt) updateFits_S64x8x64x128_S1x8x64x128) ]

theorem bwd10_sub : (bwd10 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the second loop, part 11. -/
abbrev bwd11 : List (HloOp τ sig (Elt F)) :=
  [ TRef.unary (.of main_while1b_v79 : TRef sig ⟨S8x64x128, .f32⟩) (.of main_while1b_call19_v0 : TRef sig ⟨S1x8x64x128, .f32⟩) (broadcastInDim S1x8x64x128 ![1, 2, 3] bcast_S8x64x128_S1x8x64x128_1_2_3),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.binaryIndexed (.of main_v37_11 : TRef sig ⟨S64x8x64x128, .f32⟩) (.of main_while1b_call19_v0 : TRef sig ⟨S1x8x64x128, .f32⟩) ![(.of main_while1b_v58 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v91 : TRef sig ⟨S64x8x64x128, .f32⟩) (fun x u i => Host.dynamicUpdateSlice x u (fun k => (i k (Shape.Idx.first h_S_)).toInt) updateFits_S64x8x64x128_S1x8x64x128) ]

theorem bwd11_sub : (bwd11 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the second loop, part 12. -/
abbrev bwd12 : List (HloOp τ sig (Elt F)) :=
  [ TRef.unary (.of main_while1b_v84 : TRef sig ⟨S8x64x128, .f32⟩) (.of main_while1b_call20_v0 : TRef sig ⟨S1x8x64x128, .f32⟩) (broadcastInDim S1x8x64x128 ![1, 2, 3] bcast_S8x64x128_S1x8x64x128_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v37_12 : TRef sig ⟨S64x8x64x128, .f32⟩) (.of main_while1b_call20_v0 : TRef sig ⟨S1x8x64x128, .f32⟩) ![(.of main_while1b_v58 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v92 : TRef sig ⟨S64x8x64x128, .f32⟩) (fun x u i => Host.dynamicUpdateSlice x u (fun k => (i k (Shape.Idx.first h_S_)).toInt) updateFits_S64x8x64x128_S1x8x64x128) ]

theorem bwd12_sub : (bwd12 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the second loop, part 13. -/
abbrev bwd13 : List (HloOp τ sig (Elt F)) :=
  [ TRef.unary (.of main_while1b_v70 : TRef sig ⟨S8x64x128, .f32⟩) (.of main_while1b_call21_v0 : TRef sig ⟨S1x8x64x128, .f32⟩) (broadcastInDim S1x8x64x128 ![1, 2, 3] bcast_S8x64x128_S1x8x64x128_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v37_13 : TRef sig ⟨S64x8x64x128, .f32⟩) (.of main_while1b_call21_v0 : TRef sig ⟨S1x8x64x128, .f32⟩) ![(.of main_while1b_v58 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v93 : TRef sig ⟨S64x8x64x128, .f32⟩) (fun x u i => Host.dynamicUpdateSlice x u (fun k => (i k (Shape.Idx.first h_S_)).toInt) updateFits_S64x8x64x128_S1x8x64x128) ]

theorem bwd13_sub : (bwd13 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the second loop, part 14. -/
abbrev bwd14 : List (HloOp τ sig (Elt F)) :=
  [ TRef.unary (.of main_while1b_v80 : TRef sig ⟨S8x64x64, .f32⟩) (.of main_while1b_call22_v0 : TRef sig ⟨S1x8x64x64, .f32⟩) (broadcastInDim S1x8x64x64 ![1, 2, 3] bcast_S8x64x64_S1x8x64x64_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v37_14 : TRef sig ⟨S64x8x64x64, .f32⟩) (.of main_while1b_call22_v0 : TRef sig ⟨S1x8x64x64, .f32⟩) ![(.of main_while1b_v58 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v94 : TRef sig ⟨S64x8x64x64, .f32⟩) (fun x u i => Host.dynamicUpdateSlice x u (fun k => (i k (Shape.Idx.first h_S_)).toInt) updateFits_S64x8x64x64_S1x8x64x64) ]

theorem bwd14_sub : (bwd14 : List (HloOp τ sig (Elt F))).Forall fun op => op.bufs ⊆ tcRefs τ sig :=
  ⟨unary_bufs_sub .., nullary_bufs_sub .., nullary_bufs_sub .., nullary_bufs_sub .., binaryIndexed_bufs_sub ..⟩

/-- Operations of one trip of the second loop, part 15. -/
abbrev bwd15 : List (HloOp τ sig (Elt F)) :=
  [ TRef.unary (.of main_while1b_v76 : TRef sig ⟨S8, .f32⟩) (.of main_while1b_call23_v0 : TRef sig ⟨S1x8, .f32⟩) (broadcastInDim S1x8 ![1] bcast_S8_S1x8_1),
    TRef.nullary (.of main_while1b_call23_c : TRef sig ⟨S_, .i32⟩) (constantI S_ 32 0#32),
    TRef.binaryIndexed (.of main_v37_15 : TRef sig ⟨S64x8, .f32⟩) (.of main_while1b_call23_v0 : TRef sig ⟨S1x8, .f32⟩) ![(.of main_while1b_v58 : TRef sig ⟨S_, .i32⟩), (.of main_while1b_call23_c : TRef sig ⟨S_, .i32⟩)] (.of main_while1b_v95 : TRef sig ⟨S64x8, .f32⟩) (fun x u i => Host.dynamicUpdateSlice x u (fun k => (i k (Shape.Idx.first h_S_)).toInt) updateFits_S64x8_S1x8) ]

theorem bwd15_sub : (bwd15 : List (HloOp τ sig (Elt F))).Forall fun op => op.bufs ⊆ tcRefs τ sig :=
  ⟨unary_bufs_sub .., nullary_bufs_sub .., binaryIndexed_bufs_sub ..⟩

/-- Operations of one trip of the second loop, part 16. -/
abbrev bwd16 : List (HloOp τ sig (Elt F)) :=
  [ nullary main_while1b_c_32 (constantI S_ 32 1#32),
    binary main_v37_8 main_while1b_c_32 main_while1b_v96 (addi : (⟨S_, .i32⟩ : BufTy).Contents (Elt F) → (⟨S_, .i32⟩ : BufTy).Contents (Elt F) → (⟨S_, .i32⟩ : BufTy).Contents (Elt F)),
    unary main_while1b_v96 main_v37_8 id,
    unary main_while1b_v88 main_v37_9 id,
    unary main_while1b_v90 main_v37_10 id,
    unary main_while1b_v91 main_v37_11 id,
    unary main_while1b_v92 main_v37_12 id,
    unary main_while1b_v93 main_v37_13 id,
    unary main_while1b_v94 main_v37_14 id,
    unary main_while1b_v95 main_v37_15 id ]

theorem bwd16_sub : (bwd16 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub ..⟩

/-- The trip of the first loop, in order. -/
abbrev fwd : List (List (HloOp τ sig (Elt F))) := [fwd0, fwd1, fwd2, fwd3, fwd4, fwd5, fwd6, fwd7, fwd8, fwd9, fwd10, fwd11]

/-- The trip of the second loop, in order. -/
abbrev bwd : List (List (HloOp τ sig (Elt F))) := [bwd0, bwd1, bwd2, bwd3, bwd4, bwd5, bwd6, bwd7, bwd8, bwd9, bwd10, bwd11, bwd12, bwd13, bwd14, bwd15, bwd16]

/-- What a trip of the first loop writes. -/
abbrev fwdWrites : List (Ref sig .tc) :=
  [main_while0b_call0_c, main_while0b_call0_c_0, main_while0b_call0_c_1, main_while0b_call0_v0,
   main_while0b_v57, main_while0b_call1_c, main_while0b_call1_c_0, main_while0b_call1_c_1,
   main_while0b_call1_v0, main_while0b_v58, main_while0b_call2_c, main_while0b_call2_c_0,
   main_while0b_call2_c_1, main_while0b_call2_v0, main_while0b_v59, main_while0b_call3_c,
   main_while0b_call3_c_0, main_while0b_call3_c_1, main_while0b_call3_v0, main_while0b_v60,
   main_while0b_call4_c, main_while0b_call4_c_0, main_while0b_call4_c_1, main_while0b_call4_v0,
   main_while0b_v61, main_while0b_call5_c, main_while0b_call5_v0, main_while0b_v62,
   main_while0b_v63, main_while0b_v64, main_while0b_v65, main_while0b_v66, main_while0b_v67,
   main_while0b_v68, main_while0b_v69, main_while0b_v70, main_while0b_v71, main_while0b_v72,
   main_while0b_call6_v0, main_while0b_call6_c, main_while0b_call6_c_0, main_while0b_call6_c_1,
   main_while0b_v73, main_while0b_call7_v0, main_while0b_call7_c, main_while0b_call7_c_0,
   main_while0b_call7_c_1, main_while0b_v74, main_while0b_call8_v0, main_while0b_call8_c,
   main_while0b_call8_c_0, main_while0b_call8_c_1, main_while0b_v75, main_while0b_call9_v0,
   main_while0b_call9_c, main_while0b_call9_c_0, main_while0b_call9_c_1, main_while0b_v76,
   main_while0b_c_24, main_while0b_v77, main_v24_6, main_v24_7, main_v24_8, main_v24_9,
   main_v24_10, main_v24_11]

/-- What a trip of the second loop writes. -/
abbrev bwdWrites : List (Ref sig .tc) :=
  [main_while1b_c_28, main_while1b_v57, main_while1b_c_29, main_while1b_v58,
   main_while1b_call10_c, main_while1b_call10_c_0, main_while1b_call10_c_1,
   main_while1b_call10_v0, main_while1b_v59, main_while1b_call11_c, main_while1b_call11_c_0,
   main_while1b_call11_c_1, main_while1b_call11_v0, main_while1b_v60, main_while1b_call12_c,
   main_while1b_call12_c_0, main_while1b_call12_c_1, main_while1b_call12_v0, main_while1b_v61,
   main_while1b_call13_c, main_while1b_call13_c_0, main_while1b_call13_c_1,
   main_while1b_call13_v0, main_while1b_v62, main_while1b_call14_c, main_while1b_call14_c_0,
   main_while1b_call14_c_1, main_while1b_call14_v0, main_while1b_v63, main_while1b_call15_c,
   main_while1b_call15_c_0, main_while1b_call15_c_1, main_while1b_call15_v0, main_while1b_v64,
   main_while1b_call16_c, main_while1b_call16_c_0, main_while1b_call16_c_1,
   main_while1b_call16_v0, main_while1b_v65, main_while1b_call17_c, main_while1b_call17_c_0,
   main_while1b_call17_c_1, main_while1b_call17_v0, main_while1b_v66, main_while1b_v67,
   main_while1b_v68, main_while1b_v69, main_while1b_v70, main_while1b_v71, main_while1b_cst_30,
   main_while1b_v72, main_while1b_v73, main_while1b_v74, main_while1b_v75, main_while1b_cst_31,
   main_while1b_v76, main_while1b_v77, main_while1b_v78, main_while1b_v79, main_while1b_v80,
   main_while1b_v81, main_while1b_v82, main_while1b_v83, main_while1b_v84, main_while1b_v85,
   main_while1b_v86, main_while1b_v87, main_while1b_v88, main_while1b_v89,
   main_while1b_call18_v0, main_while1b_call18_c, main_while1b_call18_c_0,
   main_while1b_call18_c_1, main_while1b_v90, main_while1b_call19_v0, main_while1b_call19_c,
   main_while1b_call19_c_0, main_while1b_call19_c_1, main_while1b_v91, main_while1b_call20_v0,
   main_while1b_call20_c, main_while1b_call20_c_0, main_while1b_call20_c_1, main_while1b_v92,
   main_while1b_call21_v0, main_while1b_call21_c, main_while1b_call21_c_0,
   main_while1b_call21_c_1, main_while1b_v93, main_while1b_call22_v0, main_while1b_call22_c,
   main_while1b_call22_c_0, main_while1b_call22_c_1, main_while1b_v94, main_while1b_call23_v0,
   main_while1b_call23_c, main_while1b_v95, main_while1b_c_32, main_while1b_v96, main_v37_8,
   main_v37_9, main_v37_10, main_v37_11, main_v37_12, main_v37_13, main_v37_14, main_v37_15]

/-- What stands before the loops writes. -/
abbrev prepareWrites : List (Ref sig .tc) :=
  [main_v0, main_v1, main_v2, main_v3, main_v4, main_v5, main_v6, main_v7, main_v8, main_v9,
   main_v10, main_v11, main_v12, main_v13, main_v14, main_v15, main_v16, main_v17, main_v18,
   main_cst, main_v19, main_cst_0, main_v20, main_cst_1, main_v21, main_cst_2, main_v22,
   main_cst_3, main_v23, main_c, main_v24_0, main_v24_1, main_v24_2, main_v24_3, main_v24_4,
   main_v24_5, main_v24_6, main_v24_7, main_v24_8, main_v24_9, main_v24_10, main_v24_11]

/-- What stands between the loops writes. -/
abbrev betweenWrites : List (Ref sig .tc) :=
  [main_v25, main_v26, main_cst_4, main_v27, main_v28, main_v29, main_cst_5, main_v30,
   main_cst_6, main_v31, main_cst_7, main_v32, main_cst_8, main_v33, main_cst_9, main_v34,
   main_cst_10, main_v35, main_cst_11, main_v36, main_c_12, main_v37_0, main_v37_1, main_v37_2,
   main_v37_3, main_v37_4, main_v37_5, main_v37_6, main_v37_7, main_v37_8, main_v37_9,
   main_v37_10, main_v37_11, main_v37_12, main_v37_13, main_v37_14, main_v37_15]

/-- What stands after the loops writes. -/
abbrev finishWrites : List (Ref sig .tc) :=
  [main_v38, main_v39, main_v40, main_v41, main_v42, main_v43, main_v44, main_v45, main_v46,
   main_v47, main_v48, main_v49, main_v50, main_v51, main_v52, main_v53, main_v54, main_v55,
   main_v56]

theorem fwd_chain : main_while0_body (F := F)
    = Pipeline.chain (fwd.map fun ops => (seq ops : Prog _ PUnit)) := by
  show main_while0_body (F := F) = Pipeline.chain [seq fwd0, seq fwd1, seq fwd2, seq fwd3, seq fwd4, seq fwd5, seq fwd6, seq fwd7, seq fwd8, seq fwd9, seq fwd10, seq fwd11]
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem bwd_chain : main_while1_body (F := F)
    = Pipeline.chain (bwd.map fun ops => (seq ops : Prog _ PUnit)) := by
  show main_while1_body (F := F) = Pipeline.chain [seq bwd0, seq bwd1, seq bwd2, seq bwd3, seq bwd4, seq bwd5, seq bwd6, seq bwd7, seq bwd8, seq bwd9, seq bwd10, seq bwd11, seq bwd12, seq bwd13, seq bwd14, seq bwd15, seq bwd16]
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

theorem part0_chain (c : Dev nD) : main_part0 (F := F) c = (Pipeline.chainK
  [seq prepare, HostLoop.enter 0] (seq between) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem part1_chain (c : Dev nD) : main_part1 (F := F) c = (Pipeline.chain
  [seq between2, HostLoop.enter 1, seq finish] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- The program is its stretches and its two loops in order. -/
theorem main_chain (c : Dev nD) : main (F := F) c = (Pipeline.chain
  [seq prepare, HostLoop.enter 0, seq between, seq between2, HostLoop.enter 1, seq finish] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_chain, part0_chain, Pipeline.chainK_bind_chain]
  chain_rfl

end Cert.RecOps

end
-- ==== Proof.RecTrip.lean ====
module

public import proofs.«01_k».proof.Proof.RecOps

/-!
What one trip of each loop does to the buffers it carries, as one term per buffer over the
buffers before the trip: the slice of an operand at the trip's chunk, the products, and the
results put back into their stacks at that chunk.
-/

@[expose] public section

set_option maxRecDepth 16384

noncomputable section

namespace Cert.RecTrip

open Cert.RecOps Cert.RecReferenceIdeal Cert.RecReferenceIdeal.Gen
open Idealize.ShloMosaic Idealize.ShloMosaic.TcCoe Idealize.SL.Sem Idealize.ShloMosaic.StableHlo

variable {F : FTy → Type} [FloatOps F]

/-- The contents of a tensor buffer of floats. -/
abbrev Arr (F : FTy → Type) (S : Shape) : Type := (⟨S, .f32⟩ : BufTy).Contents (Elt F)

/-- The contents of a counter. -/
abbrev Num (F : FTy → Type) : Type := (⟨S_, .i32⟩ : BufTy).Contents (Elt F)

/-- A place in a stack of chunks: chunk `n`, from its start. -/
abbrev place4 (n : Num F) (k : Fin 4) : ℤ :=
  BitVec.toInt ((![n, constantI S_ 32 0#32, constantI S_ 32 0#32, constantI S_ 32 0#32] :
    Fin 4 → Num F) k (Shape.Idx.first h_S_))

/-- A place in a table of chunks and heads. -/
abbrev place2 (n : Num F) (k : Fin 2) : ℤ :=
  BitVec.toInt ((![n, constantI S_ 32 0#32] : Fin 2 → Num F) k (Shape.Idx.first h_S_))

def rowsAt (x : Arr F S64x8x64x128) (n : Num F) : Arr F S8x64x128 :=
  shapeCast _ (Host.dynamicSlice S1x8x64x128 x (place4 n) sliceFits_S64x8x64x128_S1x8x64x128)
    shapeCasts_S1x8x64x128_S8x64x128

def statesAt (x : Arr F S64x8x128x128) (n : Num F) : Arr F S8x128x128 :=
  shapeCast _ (Host.dynamicSlice S1x8x128x128 x (place4 n) sliceFits_S64x8x128x128_S1x8x128x128)
    shapeCasts_S1x8x128x128_S8x128x128

def squareAt (x : Arr F S64x8x64x64) (n : Num F) : Arr F S8x64x64 :=
  shapeCast _ (Host.dynamicSlice S1x8x64x64 x (place4 n) sliceFits_S64x8x64x64_S1x8x64x64)
    shapeCasts_S1x8x64x64_S8x64x64

def decayAt (x : Arr F S64x8x1x1) (n : Num F) : Arr F S8x1x1 :=
  shapeCast _ (Host.dynamicSlice S1x8x1x1 x (place4 n) sliceFits_S64x8x1x1_S1x8x1x1)
    shapeCasts_S1x8x1x1_S8x1x1

def factorAt (x : Arr F S64x8) (n : Num F) : Arr F S8 :=
  shapeCast _ (Host.dynamicSlice S1x8 x (place2 n) sliceFits_S64x8_S1x8) shapeCasts_S1x8_S8

def setRows (x : Arr F S64x8x64x128) (n : Num F) (u : Arr F S8x64x128) : Arr F S64x8x64x128 :=
  Host.dynamicUpdateSlice x (broadcastInDim S1x8x64x128 ![1, 2, 3] bcast_S8x64x128_S1x8x64x128_1_2_3 u)
    (place4 n) updateFits_S64x8x64x128_S1x8x64x128

def setStates (x : Arr F S64x8x128x128) (n : Num F) (u : Arr F S8x128x128) : Arr F S64x8x128x128 :=
  Host.dynamicUpdateSlice x
    (broadcastInDim S1x8x128x128 ![1, 2, 3] bcast_S8x128x128_S1x8x128x128_1_2_3 u)
    (place4 n) updateFits_S64x8x128x128_S1x8x128x128

def setSquare (x : Arr F S64x8x64x64) (n : Num F) (u : Arr F S8x64x64) : Arr F S64x8x64x64 :=
  Host.dynamicUpdateSlice x (broadcastInDim S1x8x64x64 ![1, 2, 3] bcast_S8x64x64_S1x8x64x64_1_2_3 u)
    (place4 n) updateFits_S64x8x64x64_S1x8x64x64

def setDecay (x : Arr F S64x8x1x1) (n : Num F) (u : Arr F S8x1x1) : Arr F S64x8x1x1 :=
  Host.dynamicUpdateSlice x (broadcastInDim S1x8x1x1 ![1, 2, 3] bcast_S8x1x1_S1x8x1x1_1_2_3 u)
    (place4 n) updateFits_S64x8x1x1_S1x8x1x1

def setFactor (x : Arr F S64x8) (n : Num F) (u : Arr F S8) : Arr F S64x8 :=
  Host.dynamicUpdateSlice x (broadcastInDim S1x8 ![1] bcast_S8_S1x8_1 u) (place2 n)
    updateFits_S64x8_S1x8

/-! ## The first loop -/

/-- The chunk's new values: `u − w S`. -/
def values (w u : Arr F S8x64x128) (s : Arr F S8x128x128) : Arr F S8x64x128 :=
  subf u (Host.dotGeneral dot_S8x64x128_S8x128x128_S8x64x128_2_1_1_2_0_0 none w s)

/-- The chunk's decay on a unit square. -/
def unit (e : Arr F S8) : Arr F S8x1x1 := broadcastInDim S8x1x1 ![0] bcast_S8_S8x1x1_0 e

/-- The next state: `S` decayed, and the values on their keys. -/
def nextState (k v : Arr F S8x64x128) (e : Arr F S8x1x1) (s : Arr F S8x128x128) :
    Arr F S8x128x128 :=
  addf (mulf s (broadcastInDim S8x128x128 ![0, 1, 2] bcast_S8x1x1_S8x128x128_0_1_2 e))
    (Host.dotGeneral dot_S8x64x128_S8x64x128_S8x128x128_1_1_2_2_0_0 none k v)

section First

variable (V : Valuation τ sig (Elt F))

/-- The trip's chunk. -/
abbrev n0 : Num F := V (Proc.devRef .tc main_v24_6)

/-- The trip's new values. -/
abbrev v0 : Arr F S8x64x128 :=
  values (rowsAt (V (Proc.devRef .tc main_v24_0)) (n0 V)) (rowsAt (V (Proc.devRef .tc main_v24_1)) (n0 V))
    (V (Proc.devRef .tc main_v24_7))

set_option maxHeartbeats 4000000 in
theorem fwd_count : afterL fwd V (Proc.devRef .tc main_v24_6)
    = addi (V (Proc.devRef .tc main_v24_6)) (constantI S_ 32 1#32) := by
  simp only [afterL_cons, afterL_nil]
  after_results_simp
  rfl

set_option maxHeartbeats 4000000 in
theorem fwd_state : afterL fwd V (Proc.devRef .tc main_v24_7)
    = nextState (rowsAt (V (Proc.devRef .tc main_v24_3)) (n0 V)) (v0 V) (unit (factorAt (V (Proc.devRef .tc main_v24_5)) (n0 V)))
        (V (Proc.devRef .tc main_v24_7)) := by
  simp only [afterL_cons, afterL_nil]
  after_results_entrywise []

set_option maxHeartbeats 4000000 in
theorem fwd_states : afterL fwd V (Proc.devRef .tc main_v24_9)
    = setStates (V (Proc.devRef .tc main_v24_9)) (n0 V) (V (Proc.devRef .tc main_v24_7)) := by
  simp only [afterL_cons, afterL_nil]
  after_results_entrywise []

set_option maxHeartbeats 4000000 in
theorem fwd_values : afterL fwd V (Proc.devRef .tc main_v24_10)
    = setRows (V (Proc.devRef .tc main_v24_10)) (n0 V) (v0 V) := by
  simp only [afterL_cons, afterL_nil]
  after_results_entrywise []

set_option maxHeartbeats 4000000 in
theorem fwd_decays : afterL fwd V (Proc.devRef .tc main_v24_11)
    = setDecay (V (Proc.devRef .tc main_v24_11)) (n0 V)
        (unit (factorAt (V (Proc.devRef .tc main_v24_5)) (n0 V))) := by
  simp only [afterL_cons, afterL_nil]
  after_results_entrywise []

theorem fwd_keeps {r : Ref sig .tc} (h : r ∉ fwdWrites) :
    afterL fwd V (Proc.devRef .tc r) = V (Proc.devRef .tc r) := by
  rw [afterL_eq_after_flatten]
  exact after_of_writes_sub _ V (forall_writes_sub_of_map rfl) h

end First

/-! ## The second loop -/

/-- The gradient of a chunk's values: through the keys' state and through the chunk's own rows. -/
def gradV (o k : Arr F S8x64x128) (a : Arr F S8x64x64) (d : Arr F S8x128x128) : Arr F S8x64x128 :=
  addf (transpose S8x64x128 [0, 2, 1]
      (Host.dotGeneral dot_S8x128x128_S8x64x128_S8x128x64_1_2_2_1_0_0 none d k)
      transposes_S8x128x64_S8x64x128_0_2_1)
    (transpose S8x64x128 [0, 2, 1]
      (Host.dotGeneral dot_S8x64x128_S8x64x64_S8x128x64_1_1_2_2_0_0 none o a)
      transposes_S8x128x64_S8x64x128_0_2_1)

def gradK (v : Arr F S8x64x128) (d : Arr F S8x128x128) : Arr F S8x64x128 :=
  transpose S8x64x128 [0, 2, 1]
    (Host.dotGeneral dot_S8x128x128_S8x64x128_S8x128x64_2_2_1_1_0_0 none d v)
    transposes_S8x128x64_S8x64x128_0_2_1

def gradE (s d : Arr F S8x128x128) : Arr F S8 :=
  Host.reduceAdd (shapeCast S8x1x1 (Host.reduceAdd (mulf s d) (constant S_ .f32 0x00000000#32)
      reducesTo_S8x128x128_S8_d1_2 h_S_) shapeCasts_S8_S8x1x1)
    (constant S_ .f32 0x00000000#32) reducesTo_S8x1x1_S8_d1_2 h_S_

def gradA (o v : Arr F S8x64x128) : Arr F S8x64x64 :=
  Host.dotGeneral dot_S8x64x128_S8x64x128_S8x64x64_2_2_1_1_0_0 none o v

def gradQ (o : Arr F S8x64x128) (s : Arr F S8x128x128) : Arr F S8x64x128 :=
  Host.dotGeneral dot_S8x64x128_S8x128x128_S8x64x128_2_2_1_1_0_0 none o s

def gradW (dv : Arr F S8x64x128) (s : Arr F S8x128x128) : Arr F S8x64x128 :=
  gradQ (Host.negf dv) s

/-- The gradient of the state before the chunk. -/
def prevGrad (o q w dv : Arr F S8x64x128) (e : Arr F S8x1x1) (d : Arr F S8x128x128) :
    Arr F S8x128x128 :=
  addf (addf (mulf d (broadcastInDim S8x128x128 ![0, 1, 2] bcast_S8x1x1_S8x128x128_0_1_2 e))
      (transpose S8x128x128 [0, 2, 1]
        (Host.dotGeneral dot_S8x64x128_S8x64x128_S8x128x128_1_1_2_2_0_0 none o q)
        transposes_S8x128x128_S8x128x128_0_2_1))
    (transpose S8x128x128 [0, 2, 1]
      (Host.dotGeneral dot_S8x64x128_S8x64x128_S8x128x128_1_1_2_2_0_0 none (Host.negf dv) w)
      transposes_S8x128x128_S8x128x128_0_2_1)

section Second

variable (V : Valuation τ sig (Elt F))

/-- The trip's chunk, counted from the last. -/
abbrev n1 : Num F :=
  subi (subi (constantI S_ 32 64#32) (V (Proc.devRef .tc main_v37_8))) (constantI S_ 32 1#32)

/-- The trip's gradient of the values. -/
abbrev dv1 : Arr F S8x64x128 :=
  gradV (rowsAt (V (Proc.devRef .tc main_v37_0)) (n1 V)) (rowsAt (V (Proc.devRef .tc main_v37_7)) (n1 V))
    (squareAt (V (Proc.devRef .tc main_v37_5)) (n1 V)) (V (Proc.devRef .tc main_v37_9))

set_option maxHeartbeats 4000000 in
theorem bwd_count : afterL bwd V (Proc.devRef .tc main_v37_8)
    = addi (V (Proc.devRef .tc main_v37_8)) (constantI S_ 32 1#32) := by
  simp only [afterL_cons, afterL_nil]
  after_results_simp
  rfl

set_option maxHeartbeats 4000000 in
theorem bwd_state : afterL bwd V (Proc.devRef .tc main_v37_9)
    = prevGrad (rowsAt (V (Proc.devRef .tc main_v37_0)) (n1 V)) (rowsAt (V (Proc.devRef .tc main_v37_3)) (n1 V))
        (rowsAt (V (Proc.devRef .tc main_v37_2)) (n1 V)) (dv1 V)
        (decayAt (V (Proc.devRef .tc main_v37_6)) (n1 V)) (V (Proc.devRef .tc main_v37_9)) := by
  simp only [afterL_cons, afterL_nil]
  after_results_entrywise []

set_option maxHeartbeats 4000000 in
theorem bwd_dw : afterL bwd V (Proc.devRef .tc main_v37_10)
    = setRows (V (Proc.devRef .tc main_v37_10)) (n1 V)
        (gradW (dv1 V) (statesAt (V (Proc.devRef .tc main_v37_1)) (n1 V))) := by
  simp only [afterL_cons, afterL_nil]
  after_results_entrywise []

set_option maxHeartbeats 4000000 in
theorem bwd_du : afterL bwd V (Proc.devRef .tc main_v37_11)
    = setRows (V (Proc.devRef .tc main_v37_11)) (n1 V) (dv1 V) := by
  simp only [afterL_cons, afterL_nil]
  after_results_entrywise []

set_option maxHeartbeats 4000000 in
theorem bwd_dq : afterL bwd V (Proc.devRef .tc main_v37_12)
    = setRows (V (Proc.devRef .tc main_v37_12)) (n1 V)
        (gradQ (rowsAt (V (Proc.devRef .tc main_v37_0)) (n1 V)) (statesAt (V (Proc.devRef .tc main_v37_1)) (n1 V))) := by
  simp only [afterL_cons, afterL_nil]
  after_results_entrywise []

set_option maxHeartbeats 4000000 in
theorem bwd_dk : afterL bwd V (Proc.devRef .tc main_v37_13)
    = setRows (V (Proc.devRef .tc main_v37_13)) (n1 V)
        (gradK (rowsAt (V (Proc.devRef .tc main_v37_4)) (n1 V)) (V (Proc.devRef .tc main_v37_9))) := by
  simp only [afterL_cons, afterL_nil]
  after_results_entrywise []

set_option maxHeartbeats 4000000 in
theorem bwd_da : afterL bwd V (Proc.devRef .tc main_v37_14)
    = setSquare (V (Proc.devRef .tc main_v37_14)) (n1 V)
        (gradA (rowsAt (V (Proc.devRef .tc main_v37_0)) (n1 V)) (rowsAt (V (Proc.devRef .tc main_v37_4)) (n1 V))) := by
  simp only [afterL_cons, afterL_nil]
  after_results_entrywise []

set_option maxHeartbeats 4000000 in
theorem bwd_de : afterL bwd V (Proc.devRef .tc main_v37_15)
    = setFactor (V (Proc.devRef .tc main_v37_15)) (n1 V)
        (gradE (statesAt (V (Proc.devRef .tc main_v37_1)) (n1 V)) (V (Proc.devRef .tc main_v37_9))) := by
  simp only [afterL_cons, afterL_nil]
  after_results_entrywise []

theorem bwd_keeps {r : Ref sig .tc} (h : r ∉ bwdWrites) :
    afterL bwd V (Proc.devRef .tc r) = V (Proc.devRef .tc r) := by
  rw [afterL_eq_after_flatten]
  exact after_of_writes_sub _ V (forall_writes_sub_of_map rfl) h

end Second

end Cert.RecTrip

end
-- ==== Proof.RecRun.lean ====
module

public import proofs.«01_k».proof.Defs
public import proofs.«01_k».proof.Proof.TwoLoops
public import proofs.«01_k».proof.Proof.RecTrip
public import Idealize.ShloMosaic.Lib.WordCmp

/-!
The run of the scan's derivative: both loops make 64 trips, so the program ends with its buffers
at the fold of its operations, its arguments as they were.
-/

@[expose] public section

set_option maxRecDepth 16384

noncomputable section

namespace Cert.RecRun

open Cert.RecOps Cert.RecTrip Cert.TwoLoops Cert.RecReferenceIdeal Cert.RecReferenceIdeal.Gen
open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs)
open TcCoe

variable {F : FTy → Type} [FloatOps F]

/-- The first loop's test: its counter is below 64. -/
abbrev test0 : List (HloOp τ sig (Elt F)) :=
  [nullary main_while0c_c_24 (constantI S_ 32 64#32),
   binary main_v24_6 main_while0c_c_24 main_while0c_v57 (cmpi .slt : (⟨S_, .i32⟩ : BufTy).Contents (Elt F) → (⟨S_, .i32⟩ : BufTy).Contents (Elt F) → (⟨S_, .i1⟩ : BufTy).Contents (Elt F))]

/-- The second loop's test. -/
abbrev test1 : List (HloOp τ sig (Elt F)) :=
  [nullary main_while1c_c_28 (constantI S_ 32 64#32),
   binary main_v37_8 main_while1c_c_28 main_while1c_v57 (cmpi .slt : (⟨S_, .i32⟩ : BufTy).Contents (Elt F) → (⟨S_, .i32⟩ : BufTy).Contents (Elt F) → (⟨S_, .i1⟩ : BufTy).Contents (Elt F))]

theorem test0_keeps (V : Valuation τ sig (Elt F)) {r : Ref sig .tc}
    (h : r ∉ [main_while0c_c_24, main_while0c_v57]) :
    after test0 V (Proc.devRef .tc r) = V (Proc.devRef .tc r) :=
  after_of_writes_sub test0 V (forall_writes_sub_of_map rfl) h

theorem test1_keeps (V : Valuation τ sig (Elt F)) {r : Ref sig .tc}
    (h : r ∉ [main_while1c_c_28, main_while1c_v57]) :
    after test1 V (Proc.devRef .tc r) = V (Proc.devRef .tc r) :=
  after_of_writes_sub test1 V (forall_writes_sub_of_map rfl) h

/-- No operation of a list with these fresh sets allocates. -/
theorem no_fresh {ops : List (HloOp τ sig (Elt F))}
    (h : ops.map HloOp.fresh = ops.map fun _ => (∅ : Finset (DevRef τ sig))) :
    ∀ op ∈ ops, op.fresh = ∅ := List.forall_iff_forall_mem.mp (forall_fresh_of_map h)

theorem fwd_plain : Plain (fwd (F := F)) :=
  .cons fwd0_sub (.cons fwd1_sub (.cons fwd2_sub (.cons fwd3_sub (.cons fwd4_sub (.cons fwd5_sub
    (.cons fwd6_sub (.cons fwd7_sub (.cons fwd8_sub (.cons fwd9_sub (.cons fwd10_sub
    (.cons fwd11_sub .nil (no_fresh rfl)) (no_fresh rfl)) (no_fresh rfl)) (no_fresh rfl))
    (no_fresh rfl)) (no_fresh rfl)) (no_fresh rfl)) (no_fresh rfl)) (no_fresh rfl)) (no_fresh rfl))
    (no_fresh rfl)) (no_fresh rfl)

theorem bwd_plain : Plain (bwd (F := F)) :=
  .cons bwd0_sub (.cons bwd1_sub (.cons bwd2_sub (.cons bwd3_sub (.cons bwd4_sub (.cons bwd5_sub
    (.cons bwd6_sub (.cons bwd7_sub (.cons bwd8_sub (.cons bwd9_sub (.cons bwd10_sub
    (.cons bwd11_sub (.cons bwd12_sub (.cons bwd13_sub (.cons bwd14_sub (.cons bwd15_sub
    (.cons bwd16_sub .nil (no_fresh rfl)) (no_fresh rfl)) (no_fresh rfl)) (no_fresh rfl))
    (no_fresh rfl)) (no_fresh rfl)) (no_fresh rfl)) (no_fresh rfl)) (no_fresh rfl)) (no_fresh rfl))
    (no_fresh rfl)) (no_fresh rfl)) (no_fresh rfl)) (no_fresh rfl)) (no_fresh rfl)) (no_fresh rfl))
    (no_fresh rfl)

/-- The loop of the states. -/
def forward : Counted (pcs := pcfgs (F := F)) (loops (F := F)) where
  label := 0
  cond := main_while0_cond
  body := main_while0_body
  step := rfl
  test := test0
  trip := fwd
  plain := fwd_plain
  run := fwd_chain
  trips := 64

/-- The loop of the gradients. -/
def backward : Counted (pcs := pcfgs (F := F)) (loops (F := F)) where
  label := 1
  cond := main_while1_cond
  body := main_while1_body
  step := rfl
  test := test1
  trip := bwd
  plain := bwd_plain
  run := bwd_chain
  trips := 64

variable (W : Dev nD → Valuation τ sig (Elt F))

/-- The first loop's buffers before its `k`-th test. -/
abbrev at0 (k : ℕ) (c : Dev nD) : Valuation τ sig (Elt F) := atTrip test0 fwd W k c

/-- The second loop's buffers before its `k`-th test. -/
abbrev at1 (k : ℕ) (c : Dev nD) : Valuation τ sig (Elt F) := atTrip test1 bwd W k c

theorem at0_keeps {r : Ref sig .tc} (h : r ∉ fwdWrites)
    (h' : r ∉ [main_while0c_c_24, main_while0c_v57]) (c : Dev nD) :
    ∀ k, at0 W k c (Proc.devRef .tc r) = W c (Proc.devRef .tc r)
  | 0 => rfl
  | k + 1 => (fwd_keeps _ h).trans ((test0_keeps _ h').trans (at0_keeps h h' c k))

theorem at1_keeps {r : Ref sig .tc} (h : r ∉ bwdWrites)
    (h' : r ∉ [main_while1c_c_28, main_while1c_v57]) (c : Dev nD) :
    ∀ k, at1 W k c (Proc.devRef .tc r) = W c (Proc.devRef .tc r)
  | 0 => rfl
  | k + 1 => (bwd_keeps _ h).trans ((test1_keeps _ h').trans (at1_keeps h h' c k))

/-- The first loop's counter, started at zero. -/
theorem at0_count (c : Dev nD) (h : W c (Proc.devRef .tc main_v24_6) = constantI S_ 32 0#32) :
    ∀ k, at0 W k c (Proc.devRef .tc main_v24_6) = constantI S_ 32 (BitVec.ofNat 32 k)
  | 0 => h
  | k + 1 => by
    refine (fwd_count _).trans ?_
    rw [test0_keeps _ (by decide +kernel)]
    refine (congrArg (fun x => addi x (constantI S_ 32 1#32)) (at0_count c h k)).trans ?_
    funext _
    show BitVec.ofNat 32 k + 1#32 = BitVec.ofNat 32 (k + 1)
    rw [BitVec.ofNat_add]

theorem at1_count (c : Dev nD) (h : W c (Proc.devRef .tc main_v37_8) = constantI S_ 32 0#32) :
    ∀ k, at1 W k c (Proc.devRef .tc main_v37_8) = constantI S_ 32 (BitVec.ofNat 32 k)
  | 0 => h
  | k + 1 => by
    refine (bwd_count _).trans ?_
    rw [test1_keeps _ (by decide +kernel)]
    refine (congrArg (fun x => addi x (constantI S_ 32 1#32)) (at1_count c h k)).trans ?_
    funext _
    show BitVec.ofNat 32 k + 1#32 = BitVec.ofNat 32 (k + 1)
    rw [BitVec.ofNat_add]

/-- A counter at most 64 is below 64 when its trip is. -/
theorem below (k : ℕ) (hk : k ≤ 64) :
    IntOp.cmpi .slt (BitVec.ofNat 32 k) 64#32 = 1#1 ↔ k < 64 := by
  rw [WordCmp.cmpi_slt_ofNat (w := 32) (a := k) (b := 64) (by omega) (by omega)]
  by_cases h : k < 64 <;> simp [h]

set_option backward.isDefEq.respectTransparency.types false in
theorem forward_holds (hW : ∀ c, W c (Proc.devRef .tc main_v24_6) = constantI S_ 32 0#32) :
    (forward (F := F)).Holds defs₀ W := by
  intro k hk c bd
  have hctr := at0_count W c (hW c) k
  show _ ⊢ wp frame _ _ main_while0_cond _
  unfold main_while0_cond
  rw [wp_bind]
  iintro ⟨Hb, Hh⟩
  iapply (wp_hlo_within (Variants.lift Variants.none) (c : Thread nD τ) bd Set.univ
    (sub_ucRefs _ (nullary_bufs_sub ..))) $$ [Hb Hh]
  · isplitl [Hb]
    · iexact Hb
    iexact Hh
  iintro ⟨Hb, Hh⟩
  rw [wp_ret]
  imodintro
  iapply (wp_hlo_within (Variants.lift Variants.none) (c : Thread nD τ) bd Set.univ
    (sub_ucRefs _ (binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt
      (HloOp.result (nullary main_while0c_c_24 (constantI S_ 32 64#32)) (at0 W k c)
        (Proc.devRef .tc main_v24_6) HostLoop.idx0)
      (HloOp.result (nullary main_while0c_c_24 (constantI S_ 32 64#32)) (at0 W k c)
        (Proc.devRef .tc main_while0c_c_24) HostLoop.idx0) = 1#1) (k < 64)
    rw [nullary_result_ne _ _ _ _ (by decide), nullary_result, hctr]
    exact below k hk
  isplitl [Hb]
  · iexact Hb
  have e : after forward.test (atTrip forward.test forward.trip W k c) = HloOp.result (binary main_v24_6 main_while0c_c_24 main_while0c_v57
      (cmpi .slt : (⟨S_, .i32⟩ : BufTy).Contents (Elt F) → (⟨S_, .i32⟩ : BufTy).Contents (Elt F) → (⟨S_, .i1⟩ : BufTy).Contents (Elt F)))
      (HloOp.result (nullary main_while0c_c_24 (constantI S_ 32 64#32)) (at0 W k c)) := by
    show after test0 (at0 W k c) = _
    rw [after_cons, after_cons, after_nil]
  rw [e]
  iexact Hh

set_option backward.isDefEq.respectTransparency.types false in
theorem backward_holds (hW : ∀ c, W c (Proc.devRef .tc main_v37_8) = constantI S_ 32 0#32) :
    (backward (F := F)).Holds defs₀ W := by
  intro k hk c bd
  have hctr := at1_count W c (hW c) k
  show _ ⊢ wp frame _ _ main_while1_cond _
  unfold main_while1_cond
  rw [wp_bind]
  iintro ⟨Hb, Hh⟩
  iapply (wp_hlo_within (Variants.lift Variants.none) (c : Thread nD τ) bd Set.univ
    (sub_ucRefs _ (nullary_bufs_sub ..))) $$ [Hb Hh]
  · isplitl [Hb]
    · iexact Hb
    iexact Hh
  iintro ⟨Hb, Hh⟩
  rw [wp_ret]
  imodintro
  iapply (wp_hlo_within (Variants.lift Variants.none) (c : Thread nD τ) bd Set.univ
    (sub_ucRefs _ (binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt
      (HloOp.result (nullary main_while1c_c_28 (constantI S_ 32 64#32)) (at1 W k c)
        (Proc.devRef .tc main_v37_8) HostLoop.idx0)
      (HloOp.result (nullary main_while1c_c_28 (constantI S_ 32 64#32)) (at1 W k c)
        (Proc.devRef .tc main_while1c_c_28) HostLoop.idx0) = 1#1) (k < 64)
    rw [nullary_result_ne _ _ _ _ (by decide), nullary_result, hctr]
    exact below k hk
  isplitl [Hb]
  · iexact Hb
  have e : after backward.test (atTrip backward.test backward.trip W k c) = HloOp.result (binary main_v37_8 main_while1c_c_28 main_while1c_v57
      (cmpi .slt : (⟨S_, .i32⟩ : BufTy).Contents (Elt F) → (⟨S_, .i32⟩ : BufTy).Contents (Elt F) → (⟨S_, .i1⟩ : BufTy).Contents (Elt F)))
      (HloOp.result (nullary main_while1c_c_28 (constantI S_ 32 64#32)) (at1 W k c)) := by
    show after test1 (at1 W k c) = _
    rw [after_cons, after_cons, after_nil]
  rw [e]
  iexact Hh

/-! ## The whole run -/

section Whole

variable (m : (ℓ : Loc nD τ sig) → Buf (Elt F) ℓ)

/-- The buffers when the first loop is entered. -/
abbrev entry0 (c : Dev nD) : Valuation τ sig (Elt F) := afterL [prepare] (launchContents m c)

/-- The buffers when the first loop is left. -/
abbrev left0 (c : Dev nD) : Valuation τ sig (Elt F) := after test0 (at0 (entry0 m) 64 c)

/-- The buffers when the second loop is entered. -/
abbrev entry1 (c : Dev nD) : Valuation τ sig (Elt F) := afterL [between, between2] (left0 m c)

/-- The buffers when the second loop is left. -/
abbrev left1 (c : Dev nD) : Valuation τ sig (Elt F) := after test1 (at1 (entry1 m) 64 c)

/-- The buffers at the end. -/
abbrev ending (c : Dev nD) : Valuation τ sig (Elt F) := afterL [finish] (left1 m c)

set_option maxHeartbeats 4000000 in
theorem entry0_count (c : Dev nD) :
    entry0 m c (Proc.devRef .tc main_v24_6) = constantI S_ 32 0#32 := by
  simp only [afterL_cons, afterL_nil]
  after_results_simp
  rfl

set_option maxHeartbeats 4000000 in
theorem entry1_count (c : Dev nD) :
    entry1 m c (Proc.devRef .tc main_v37_8) = constantI S_ 32 0#32 := by
  simp only [afterL_cons, afterL_nil]
  after_results_simp
  rfl

theorem entry0_keeps (c : Dev nD) {r : Ref sig .tc} (h : r ∉ prepareWrites) :
    entry0 m c (Proc.devRef .tc r) = launchContents m c (Proc.devRef .tc r) := by
  rw [entry0, afterL_eq_after_flatten]
  exact after_of_writes_sub _ _ (forall_writes_sub_of_map rfl) h

theorem entry1_keeps (c : Dev nD) {r : Ref sig .tc} (h : r ∉ betweenWrites) :
    entry1 m c (Proc.devRef .tc r) = left0 m c (Proc.devRef .tc r) := by
  rw [entry1, afterL_eq_after_flatten]
  exact after_of_writes_sub _ _ (forall_writes_sub_of_map rfl) h

theorem ending_keeps (c : Dev nD) {r : Ref sig .tc} (h : r ∉ finishWrites) :
    ending m c (Proc.devRef .tc r) = left1 m c (Proc.devRef .tc r) := by
  rw [ending, afterL_eq_after_flatten]
  exact after_of_writes_sub _ _ (forall_writes_sub_of_map rfl) h

/-- A buffer no operation writes ends as it was. -/
theorem untouched (c : Dev nD) {r : Ref sig .tc}
    (h : r ∉ prepareWrites ++ fwdWrites ++ [main_while0c_c_24, main_while0c_v57] ++ betweenWrites
      ++ bwdWrites ++ [main_while1c_c_28, main_while1c_v57] ++ finishWrites) :
    ending m c (Proc.devRef .tc r) = launchContents m c (Proc.devRef .tc r) := by
  simp only [List.mem_append, not_or] at h
  obtain ⟨⟨⟨⟨⟨⟨h1, h2⟩, h3⟩, h4⟩, h5⟩, h6⟩, h7⟩ := h
  exact (ending_keeps m c h7).trans ((test1_keeps _ h6).trans ((at1_keeps _ h5 h6 c 64).trans
    ((entry1_keeps m c h4).trans ((test0_keeps _ h3).trans ((at0_keeps _ h2 h3 c 64).trans
      (entry0_keeps m c h1))))))

theorem plain_one {ops : List (HloOp τ sig (Elt F))}
    (h : ops.Forall fun op => op.bufs ⊆ tcRefs τ sig)
    (hf : ops.map HloOp.fresh = ops.map fun _ => (∅ : Finset (DevRef τ sig))) : Plain [ops] :=
  .cons h .nil (no_fresh hf)

/-- The program ends with every buffer of the device at the operations' fold. -/
theorem run (ρ : Dev nD → PrngReg) :
    θ_run (defs (F := F)) (onTc (τ := τ) (main (F := F))) ⟨m, fun _ => 0, ρ⟩
      (fun r => ∀ (c : Dev nD) (b : Ref sig .tc),
        (Proc.devRef .tc b : DevRef τ sig).isScoped = false →
        r.2.mem ((c.tc : Thread nD τ).loc b) = ending m c (Proc.devRef .tc b)) :=
  run_two defs₀ main forward backward [prepare] [between, between2] [finish]
    (plain_one prepare_sub rfl) (.cons between_sub (plain_one between2_sub rfl) (no_fresh rfl))
    (plain_one finish_sub rfl) main_chain m ρ
    (forward_holds _ (entry0_count m)) (backward_holds _ (entry1_count m))

end Whole

/-- The run leaves the arguments and the counters as they were. -/
theorem frame_ref : Cert.quiescent_RecReferenceIdeal := fun m ρ _ =>
  (θ_run (defs (F := Ideal)) _ _).mono (fun r h => And.intro
    (fun c => ⟨(h c main_arg0 rfl).trans (untouched m c (by decide +kernel)),
      (h c main_arg1 rfl).trans (untouched m c (by decide +kernel)),
      (h c main_arg2 rfl).trans (untouched m c (by decide +kernel)),
      (h c main_arg3 rfl).trans (untouched m c (by decide +kernel)),
      (h c main_arg4 rfl).trans (untouched m c (by decide +kernel)),
      (h c main_arg5 rfl).trans (untouched m c (by decide +kernel)),
      (h c main_arg6 rfl).trans (untouched m c (by decide +kernel))⟩)
    (sem_eq_zero_of_no_sems (by decide) r.2)) (run m ρ)

end Cert.RecRun

end
-- ==== Proof.RecRead.lean ====
module

public import proofs.«01_k».proof.Proof.RecTrip
public import proofs.«01_k».proof.Proof.RecSpec
public import proofs.«01_k».proof.Proof.RealLift

/-!
The operations of a trip on arrays of real numbers: which chunk is read, which is replaced, and
what the products sum.
-/

@[expose] public section

set_option maxRecDepth 16384

noncomputable section

namespace Cert.RecRead

open Cert.RealLift Cert.RecTrip Cert.RecReferenceIdeal Cert.RecReferenceIdeal.Gen
open Idealize.ShloMosaic

/-- A stack of rows. -/
def rows4 (f : Fin 64 → Fin 8 → Fin 64 → Fin 128 → ℝ) : Arr Ideal S64x8x64x128 :=
  fun y => ((f (y 0) (y 1) (y 2) (y 3) : ℝ) : EReal)

def states4 (f : Fin 64 → Fin 8 → Fin 128 → Fin 128 → ℝ) : Arr Ideal S64x8x128x128 :=
  fun y => ((f (y 0) (y 1) (y 2) (y 3) : ℝ) : EReal)

def square4 (f : Fin 64 → Fin 8 → Fin 64 → Fin 64 → ℝ) : Arr Ideal S64x8x64x64 :=
  fun y => ((f (y 0) (y 1) (y 2) (y 3) : ℝ) : EReal)

def decay4 (f : Fin 64 → Fin 8 → ℝ) : Arr Ideal S64x8x1x1 := fun y => ((f (y 0) (y 1) : ℝ) : EReal)

def factor2 (f : Fin 64 → Fin 8 → ℝ) : Arr Ideal S64x8 := fun y => ((f (y 0) (y 1) : ℝ) : EReal)

def rows3 (f : Fin 8 → Fin 64 → Fin 128 → ℝ) : Arr Ideal S8x64x128 :=
  fun y => ((f (y 0) (y 1) (y 2) : ℝ) : EReal)

def states3 (f : Fin 8 → Fin 128 → Fin 128 → ℝ) : Arr Ideal S8x128x128 :=
  fun y => ((f (y 0) (y 1) (y 2) : ℝ) : EReal)

def square3 (f : Fin 8 → Fin 64 → Fin 64 → ℝ) : Arr Ideal S8x64x64 :=
  fun y => ((f (y 0) (y 1) (y 2) : ℝ) : EReal)

def decay3 (f : Fin 8 → ℝ) : Arr Ideal S8x1x1 := fun y => ((f (y 0) : ℝ) : EReal)

def factor1 (f : Fin 8 → ℝ) : Arr Ideal S8 := fun y => ((f (y 0) : ℝ) : EReal)

section At

theorem rows4_at (f : Fin 64 → Fin 8 → Fin 64 → Fin 128 → ℝ) (n h i c) : rows4 f (ix4 n h i c) = ((f n h i c : ℝ) : EReal) := rfl
theorem states4_at (f : Fin 64 → Fin 8 → Fin 128 → Fin 128 → ℝ) (n h i c) : states4 f (ix4 n h i c) = ((f n h i c : ℝ) : EReal) := rfl
theorem square4_at (f : Fin 64 → Fin 8 → Fin 64 → Fin 64 → ℝ) (n h i c) : square4 f (ix4 n h i c) = ((f n h i c : ℝ) : EReal) := rfl
theorem decay4_at (f : Fin 64 → Fin 8 → ℝ) (n h i c) : decay4 f (ix4 n h i c) = ((f n h : ℝ) : EReal) := rfl
theorem factor2_at (f : Fin 64 → Fin 8 → ℝ) (n h) : factor2 f (ix2 n h) = ((f n h : ℝ) : EReal) := rfl
theorem rows3_at (f : Fin 8 → Fin 64 → Fin 128 → ℝ) (h i c) : rows3 f (ix3 h i c) = ((f h i c : ℝ) : EReal) := rfl
theorem states3_at (f : Fin 8 → Fin 128 → Fin 128 → ℝ) (h i c) : states3 f (ix3 h i c) = ((f h i c : ℝ) : EReal) := rfl
theorem square3_at (f : Fin 8 → Fin 64 → Fin 64 → ℝ) (h i c) : square3 f (ix3 h i c) = ((f h i c : ℝ) : EReal) := rfl
theorem decay3_at (f : Fin 8 → ℝ) (h i c) : decay3 f (ix3 h i c) = ((f h : ℝ) : EReal) := rfl
theorem factor1_at (f : Fin 8 → ℝ) (h) : factor1 f (ix1 h) = ((f h : ℝ) : EReal) := rfl

end At

/-- The counter of a chunk. -/
abbrev num (n : Fin 64) : Num Ideal := constantI S_ 32 (BitVec.ofNat 32 n.val)

theorem num_toInt (n : Fin 64) : (BitVec.ofNat 32 n.val).toInt = (n.val : ℤ) := by
  rw [BitVec.toInt_eq_toNat_of_lt] <;> rw [BitVec.toNat_ofNat] <;> omega

/-- The first coordinate of a place is the chunk, if the chunk is in the stack. -/
theorem first_place {s t : Shape} (ht : t.rank = s.rank) (start : Fin s.rank → ℤ) (a : Fin s.rank) (n : Fin 64)
    (hk : start a = (BitVec.ofNat 32 n.val).toInt) (hle : 63 + t.size (a.cast ht.symm) ≤ s.size a) :
    Host.clampedStart s t ht start a = n.val :=
  Host.clampedStart_of_le ht start a _ (hk.trans (num_toInt n)) (by omega)

/-- The other coordinates start at zero. -/
theorem other_place {s t : Shape} (ht : t.rank = s.rank) (start : Fin s.rank → ℤ) (a : Fin s.rank)
    (hk : start a = 0) (hle : t.size (a.cast ht.symm) ≤ s.size a) : Host.clampedStart s t ht start a = 0 :=
  Host.clampedStart_of_le ht start a 0 hk (by omega)

theorem rowsAt_num (f : Fin 64 → Fin 8 → Fin 64 → Fin 128 → ℝ) (n : Fin 64) : rowsAt (rows4 f) (num n) = rows3 (f n) := by
  funext j
  idx_vars j
  pointwise [rowsAt]
  simp only [first_place (s := S64x8x64x128) (t := S1x8x64x128) rfl (place4 (num n)) 0 n rfl (by decide),
    other_place (s := S64x8x64x128) (t := S1x8x64x128) rfl (place4 (num n)) 1 rfl (by decide),
    other_place (s := S64x8x64x128) (t := S1x8x64x128) rfl (place4 (num n)) 2 rfl (by decide),
    other_place (s := S64x8x64x128) (t := S1x8x64x128) rfl (place4 (num n)) 3 rfl (by decide),
    zero_add]
  rfl

theorem setRows_num (f : Fin 64 → Fin 8 → Fin 64 → Fin 128 → ℝ) (g : Fin 8 → Fin 64 → Fin 128 → ℝ) (n : Fin 64) :
    setRows (rows4 f) (num n) (rows3 g) = rows4 (fun m => if m = n then g else f m) := by
  funext j
  idx_vars j
  pointwise [setRows]
  simp only [first_place (s := S64x8x64x128) (t := S1x8x64x128) rfl (place4 (num n)) 0 n rfl (by decide),
    other_place (s := S64x8x64x128) (t := S1x8x64x128) rfl (place4 (num n)) 1 rfl (by decide),
    other_place (s := S64x8x64x128) (t := S1x8x64x128) rfl (place4 (num n)) 2 rfl (by decide),
    other_place (s := S64x8x64x128) (t := S1x8x64x128) rfl (place4 (num n)) 3 rfl (by decide),
    Nat.zero_le, and_true, Nat.sub_zero]
  by_cases h : j0 = n
  · rw [dif_pos (by subst h; first | omega | simp), rows3_at, rows4_at, if_pos h]
  · rw [dif_neg (fun e => h (Fin.ext (by omega))), rows4_at, rows4_at, if_neg h]

theorem statesAt_num (f : Fin 64 → Fin 8 → Fin 128 → Fin 128 → ℝ) (n : Fin 64) : statesAt (states4 f) (num n) = states3 (f n) := by
  funext j
  idx_vars j
  pointwise [statesAt]
  simp only [first_place (s := S64x8x128x128) (t := S1x8x128x128) rfl (place4 (num n)) 0 n rfl (by decide),
    other_place (s := S64x8x128x128) (t := S1x8x128x128) rfl (place4 (num n)) 1 rfl (by decide),
    other_place (s := S64x8x128x128) (t := S1x8x128x128) rfl (place4 (num n)) 2 rfl (by decide),
    other_place (s := S64x8x128x128) (t := S1x8x128x128) rfl (place4 (num n)) 3 rfl (by decide),
    zero_add]
  rfl

theorem setStates_num (f : Fin 64 → Fin 8 → Fin 128 → Fin 128 → ℝ) (g : Fin 8 → Fin 128 → Fin 128 → ℝ) (n : Fin 64) :
    setStates (states4 f) (num n) (states3 g) = states4 (fun m => if m = n then g else f m) := by
  funext j
  idx_vars j
  pointwise [setStates]
  simp only [first_place (s := S64x8x128x128) (t := S1x8x128x128) rfl (place4 (num n)) 0 n rfl (by decide),
    other_place (s := S64x8x128x128) (t := S1x8x128x128) rfl (place4 (num n)) 1 rfl (by decide),
    other_place (s := S64x8x128x128) (t := S1x8x128x128) rfl (place4 (num n)) 2 rfl (by decide),
    other_place (s := S64x8x128x128) (t := S1x8x128x128) rfl (place4 (num n)) 3 rfl (by decide),
    Nat.zero_le, and_true, Nat.sub_zero]
  by_cases h : j0 = n
  · rw [dif_pos (by subst h; first | omega | simp), states3_at, states4_at, if_pos h]
  · rw [dif_neg (fun e => h (Fin.ext (by omega))), states4_at, states4_at, if_neg h]

theorem squareAt_num (f : Fin 64 → Fin 8 → Fin 64 → Fin 64 → ℝ) (n : Fin 64) : squareAt (square4 f) (num n) = square3 (f n) := by
  funext j
  idx_vars j
  pointwise [squareAt]
  simp only [first_place (s := S64x8x64x64) (t := S1x8x64x64) rfl (place4 (num n)) 0 n rfl (by decide),
    other_place (s := S64x8x64x64) (t := S1x8x64x64) rfl (place4 (num n)) 1 rfl (by decide),
    other_place (s := S64x8x64x64) (t := S1x8x64x64) rfl (place4 (num n)) 2 rfl (by decide),
    other_place (s := S64x8x64x64) (t := S1x8x64x64) rfl (place4 (num n)) 3 rfl (by decide),
    zero_add]
  rfl

theorem setSquare_num (f : Fin 64 → Fin 8 → Fin 64 → Fin 64 → ℝ) (g : Fin 8 → Fin 64 → Fin 64 → ℝ) (n : Fin 64) :
    setSquare (square4 f) (num n) (square3 g) = square4 (fun m => if m = n then g else f m) := by
  funext j
  idx_vars j
  pointwise [setSquare]
  simp only [first_place (s := S64x8x64x64) (t := S1x8x64x64) rfl (place4 (num n)) 0 n rfl (by decide),
    other_place (s := S64x8x64x64) (t := S1x8x64x64) rfl (place4 (num n)) 1 rfl (by decide),
    other_place (s := S64x8x64x64) (t := S1x8x64x64) rfl (place4 (num n)) 2 rfl (by decide),
    other_place (s := S64x8x64x64) (t := S1x8x64x64) rfl (place4 (num n)) 3 rfl (by decide),
    Nat.zero_le, and_true, Nat.sub_zero]
  by_cases h : j0 = n
  · rw [dif_pos (by subst h; first | omega | simp), square3_at, square4_at, if_pos h]
  · rw [dif_neg (fun e => h (Fin.ext (by omega))), square4_at, square4_at, if_neg h]

theorem decayAt_num (f : Fin 64 → Fin 8 → ℝ) (n : Fin 64) : decayAt (decay4 f) (num n) = decay3 (f n) := by
  funext j
  idx_vars j
  pointwise [decayAt]
  simp only [first_place (s := S64x8x1x1) (t := S1x8x1x1) rfl (place4 (num n)) 0 n rfl (by decide),
    other_place (s := S64x8x1x1) (t := S1x8x1x1) rfl (place4 (num n)) 1 rfl (by decide),
    other_place (s := S64x8x1x1) (t := S1x8x1x1) rfl (place4 (num n)) 2 rfl (by decide),
    other_place (s := S64x8x1x1) (t := S1x8x1x1) rfl (place4 (num n)) 3 rfl (by decide),
    zero_add]
  rfl

theorem setDecay_num (f : Fin 64 → Fin 8 → ℝ) (g : Fin 8 → ℝ) (n : Fin 64) :
    setDecay (decay4 f) (num n) (decay3 g) = decay4 (fun m => if m = n then g else f m) := by
  funext j
  idx_vars j
  pointwise [setDecay]
  simp only [first_place (s := S64x8x1x1) (t := S1x8x1x1) rfl (place4 (num n)) 0 n rfl (by decide),
    other_place (s := S64x8x1x1) (t := S1x8x1x1) rfl (place4 (num n)) 1 rfl (by decide),
    other_place (s := S64x8x1x1) (t := S1x8x1x1) rfl (place4 (num n)) 2 rfl (by decide),
    other_place (s := S64x8x1x1) (t := S1x8x1x1) rfl (place4 (num n)) 3 rfl (by decide),
    Nat.zero_le, and_true, Nat.sub_zero]
  by_cases h : j0 = n
  · rw [dif_pos (by subst h; first | omega | simp), decay3_at, decay4_at, if_pos h]
  · rw [dif_neg (fun e => h (Fin.ext (by omega))), decay4_at, decay4_at, if_neg h]

theorem factorAt_num (f : Fin 64 → Fin 8 → ℝ) (n : Fin 64) : factorAt (factor2 f) (num n) = factor1 (f n) := by
  funext j
  idx_vars j
  pointwise [factorAt]
  simp only [first_place (s := S64x8) (t := S1x8) rfl (place2 (num n)) 0 n rfl (by decide),
    other_place (s := S64x8) (t := S1x8) rfl (place2 (num n)) 1 rfl (by decide),
    zero_add]
  rfl

theorem setFactor_num (f : Fin 64 → Fin 8 → ℝ) (g : Fin 8 → ℝ) (n : Fin 64) :
    setFactor (factor2 f) (num n) (factor1 g) = factor2 (fun m => if m = n then g else f m) := by
  funext j
  idx_vars j
  pointwise [setFactor]
  simp only [first_place (s := S64x8) (t := S1x8) rfl (place2 (num n)) 0 n rfl (by decide),
    other_place (s := S64x8) (t := S1x8) rfl (place2 (num n)) 1 rfl (by decide),
    Nat.zero_le, and_true, Nat.sub_zero]
  by_cases h : j0 = n
  · rw [dif_pos (by subst h; first | omega | simp), factor1_at, factor2_at, if_pos h]
  · rw [dif_neg (fun e => h (Fin.ext (by omega))), factor2_at, factor2_at, if_neg h]

section Trip

variable (w u q k o v : Fin 8 → Fin 64 → Fin 128 → ℝ) (a : Fin 8 → Fin 64 → Fin 64 → ℝ) (e : Fin 8 → ℝ)
  (s d : Fin 8 → Fin 128 → Fin 128 → ℝ)

theorem values_num : RecTrip.values (rows3 w) (rows3 u) (states3 s)
    = rows3 (fun h i v => u h i v - ∑ k, w h i k * s h k v) := by
  funext j
  idx_vars j
  pointwise [RecTrip.values]
  simp only [rows3_at, states3_at, ← EReal.coe_mul, coe_sum, ← EReal.coe_sub]

theorem unit_num : unit (factor1 e) = decay3 e := by
  funext j
  idx_vars j
  pointwise [unit]
  rfl

theorem nextState_num : nextState (rows3 k) (rows3 v) (decay3 e) (states3 s)
    = states3 (fun h a b => s h a b * e h + ∑ i, k h i a * v h i b) := by
  funext j
  idx_vars j
  pointwise [nextState]
  simp only [rows3_at, states3_at, decay3_at, ← EReal.coe_mul, coe_sum, ← EReal.coe_add]

theorem gradV_num : RecTrip.gradV (rows3 o) (rows3 k) (square3 a) (states3 d)
    = rows3 (fun h i v => ∑ l, k h i l * d h l v + ∑ j, a h j i * o h j v) := by
  funext j
  idx_vars j
  pointwise [RecTrip.gradV]
  simp only [rows3_at, states3_at, square3_at, ← EReal.coe_mul, coe_sum, ← EReal.coe_add, mul_comm (d _ _ _),
    mul_comm (o _ _ _)]

theorem gradK_num : gradK (rows3 v) (states3 d) = rows3 (fun h i k => ∑ l, v h i l * d h k l) := by
  funext j
  idx_vars j
  pointwise [gradK]
  simp only [rows3_at, states3_at, ← EReal.coe_mul, coe_sum, mul_comm (d _ _ _)]

theorem gradA_num : gradA (rows3 o) (rows3 v) = square3 (fun h i j => ∑ l, o h i l * v h j l) := by
  funext j
  idx_vars j
  pointwise [gradA]
  simp only [rows3_at, square3_at, ← EReal.coe_mul, coe_sum]

theorem gradQ_num : gradQ (rows3 o) (states3 s) = rows3 (fun h i k => ∑ l, o h i l * s h k l) := by
  funext j
  idx_vars j
  pointwise [gradQ]
  simp only [rows3_at, states3_at, ← EReal.coe_mul, coe_sum]

theorem neg_num : Host.negf (F := Ideal) (φ := .f32) (s := S8x64x128) (rows3 v) = rows3 (fun h i c => -v h i c) := by
  funext j
  idx_vars j
  pointwise []
  simp only [rows3_at, ← EReal.coe_neg]

theorem gradW_num : gradW (rows3 v) (states3 s) = rows3 (fun h i k => -∑ l, v h i l * s h k l) := by
  rw [gradW, neg_num, gradQ_num]
  simp only [neg_mul, Finset.sum_neg_distrib]

theorem prevGrad_num : prevGrad (rows3 o) (rows3 q) (rows3 w) (rows3 v) (decay3 e) (states3 d)
    = states3 (fun h k l => d h k l * e h + (∑ i, q h i k * o h i l - ∑ i, w h i k * v h i l)) := by
  funext j
  idx_vars j
  pointwise [prevGrad]
  simp only [rows3_at, states3_at, decay3_at, ← EReal.coe_mul, coe_sum, ← EReal.coe_neg, ← EReal.coe_add,
    mul_comm (o _ _ _), neg_mul, Finset.sum_neg_distrib, mul_comm (v _ _ _)]
  rw [add_assoc, sub_eq_add_neg]

theorem gradE_num : gradE (states3 s) (states3 d) = factor1 (fun h => ∑ k, ∑ v, d h k v * s h k v) := by
  funext j
  idx_vars j
  pointwise [gradE]
  simp only [Finset.univ_unique, Finset.sum_singleton, states3_at, factor1_at, ← EReal.coe_mul, coe_sum, mul_comm (s _ _ _)]

end Trip

end Cert.RecRead

end
-- ==== Proof.RecLoop.lean ====
module

public import proofs.«01_k».proof.Proof.RecRun
public import proofs.«01_k».proof.Proof.RecRead

/-!
The two loops on real numbers: after `k` trips the first has run the scan through `k` chunks and
stacked its states and values, the second has taken the last `k` chunks back.
-/

@[expose] public section

set_option maxRecDepth 16384

noncomputable section

namespace Cert.RecLoop

open Cert.RealLift Cert.RecTrip Cert.RecRun Cert.RecRead Cert.RecOps Cert.RecSpec
open Cert.RecReferenceIdeal Cert.RecReferenceIdeal.Gen
open Idealize.ShloMosaic Idealize.ShloMosaic.TcCoe Idealize.SL.Sem Idealize.ShloMosaic.StableHlo

/-- A stack filled up to chunk `k`. -/
abbrev upTo {α : Type} [Zero α] (g : Fin 64 → α) (k : ℕ) (n : Fin 64) : α := if n.val < k then g n else 0

/-- A stack filled in its last `k` chunks. -/
abbrev downTo {α : Type} [Zero α] (g : Fin 64 → α) (k : ℕ) (n : Fin 64) : α := if 64 - k ≤ n.val then g n else 0

theorem upTo_succ {α : Type} [Zero α] (g : Fin 64 → α) {k : ℕ} (hk : k < 64) :
    (fun n => if n = chunk k then g (chunk k) else upTo g k n) = upTo g (k + 1) := by
  funext n
  rw [chunk_of_lt hk]
  by_cases h : n = ⟨k, hk⟩
  · subst h
    simp [upTo]
  · have h' : n.val ≠ k := fun e => h (Fin.ext e)
    rw [if_neg h, upTo, upTo]
    by_cases h2 : n.val < k
    · rw [if_pos h2, if_pos (by omega)]
    · rw [if_neg h2, if_neg (by omega)]

theorem downTo_succ {α : Type} [Zero α] (g : Fin 64 → α) {k : ℕ} (hk : k < 64) :
    (fun n => if n = chunk (63 - k) then g (chunk (63 - k)) else downTo g k n) = downTo g (k + 1) := by
  funext n
  have hk' : 63 - k < 64 := by omega
  rw [chunk_of_lt hk']
  by_cases h : n = ⟨63 - k, hk'⟩
  · subst h
    rw [if_pos rfl, downTo, if_pos (show 64 - (k + 1) ≤ 63 - k by omega)]
  · have h' : n.val ≠ 63 - k := fun e => h (Fin.ext e)
    rw [if_neg h, downTo, downTo]
    by_cases h2 : 64 - k ≤ n.val
    · rw [if_pos h2, if_pos (by omega)]
    · rw [if_neg h2, if_neg (by omega)]

theorem upTo_all {α : Type} [Zero α] (g : Fin 64 → α) : upTo g 64 = g := funext fun n => if_pos n.isLt

theorem downTo_all {α : Type} [Zero α] (g : Fin 64 → α) : downTo g 64 = g := funext fun n => if_pos (by omega)

theorem upTo_zero {α : Type} [Zero α] (g : Fin 64 → α) : upTo g 0 = fun _ => 0 := funext fun n => if_neg (by omega)

theorem downTo_zero {α : Type} [Zero α] (g : Fin 64 → α) : downTo g 0 = fun _ => 0 := funext fun n => if_neg (by omega)

variable (D : Data)

/-! ## The first loop -/

/-- The buffers the first loop is entered with. -/
structure Before (V : Valuation τ sig (Elt Ideal)) : Prop where
  w : V (Proc.devRef .tc main_v24_0) = rows4 D.w
  u : V (Proc.devRef .tc main_v24_1) = rows4 D.u
  k : V (Proc.devRef .tc main_v24_3) = rows4 D.k
  e : V (Proc.devRef .tc main_v24_5) = factor2 D.e
  count : V (Proc.devRef .tc main_v24_6) = constantI S_ 32 0#32
  state : V (Proc.devRef .tc main_v24_7) = states3 fun _ _ _ => 0
  states : V (Proc.devRef .tc main_v24_9) = states4 fun _ => 0
  values : V (Proc.devRef .tc main_v24_10) = rows4 fun _ => 0
  decays : V (Proc.devRef .tc main_v24_11) = decay4 fun _ => 0

variable {D} {W : Dev nD → Valuation τ sig (Elt Ideal)} {c : Dev nD}

section First

variable (h : Before D (W c))

/-- The buffers a trip of the first loop starts from. -/
abbrev start0 (W : Dev nD → Valuation τ sig (Elt Ideal)) (k : ℕ) (c : Dev nD) : Valuation τ sig (Elt Ideal) :=
  StableHlo.after test0 (at0 W k c)

include h

theorem start0_num {k : ℕ} (hk : k < 64) : n0 (start0 W k c) = num (chunk k) := by
  show StableHlo.after test0 (at0 W k c) (Proc.devRef .tc main_v24_6) = _
  rw [test0_keeps _ (by decide +kernel), at0_count W c h.count k, chunk_of_lt hk]

theorem start0_w (k : ℕ) : start0 W k c (Proc.devRef .tc main_v24_0) = rows4 D.w := by
  rw [start0, test0_keeps _ (by decide +kernel), at0_keeps W (by decide +kernel) (by decide +kernel), h.w]

theorem start0_u (k : ℕ) : start0 W k c (Proc.devRef .tc main_v24_1) = rows4 D.u := by
  rw [start0, test0_keeps _ (by decide +kernel), at0_keeps W (by decide +kernel) (by decide +kernel), h.u]

theorem start0_k (k : ℕ) : start0 W k c (Proc.devRef .tc main_v24_3) = rows4 D.k := by
  rw [start0, test0_keeps _ (by decide +kernel), at0_keeps W (by decide +kernel) (by decide +kernel), h.k]

theorem start0_e (k : ℕ) : start0 W k c (Proc.devRef .tc main_v24_5) = factor2 D.e := by
  rw [start0, test0_keeps _ (by decide +kernel), at0_keeps W (by decide +kernel) (by decide +kernel), h.e]

/-- The values of a trip that starts from the scan's state. -/
theorem start0_values {k : ℕ} (hk : k < 64)
    (hs : at0 W k c (Proc.devRef .tc main_v24_7) = states3 (state D k)) :
    v0 (start0 W k c) = rows3 (value D (chunk k) (state D k)) := by
  unfold v0
  rw [start0_num h hk, start0_w h, start0_u h, rowsAt_num, rowsAt_num,
    show start0 W k c (Proc.devRef .tc main_v24_7) = states3 (state D k) from
      (test0_keeps _ (by decide +kernel)).trans hs, values_num]
  rfl

theorem state_at : ∀ k, k ≤ 64 → at0 W k c (Proc.devRef .tc main_v24_7) = states3 (state D k)
  | 0, _ => h.state
  | k + 1, hk => by
    have hs := state_at k (by omega)
    refine (fwd_state (start0 W k c)).trans ?_
    rw [start0_values h (by omega) hs, start0_num h (by omega), start0_k h, start0_e h, rowsAt_num, factorAt_num,
      unit_num, show start0 W k c (Proc.devRef .tc main_v24_7) = states3 (state D k) from
      (test0_keeps _ (by decide +kernel)).trans hs, nextState_num]
    rfl

theorem states_at : ∀ k, k ≤ 64 →
    at0 W k c (Proc.devRef .tc main_v24_9) = states4 (upTo (fun n => state D n.val) k)
  | 0, _ => by rw [upTo_zero]; exact h.states
  | k + 1, hk => by
    have hs := state_at h k (by omega)
    refine (fwd_states (start0 W k c)).trans ?_
    rw [start0_num h (by omega), show start0 W k c (Proc.devRef .tc main_v24_7) = states3 (state D k) from
      (test0_keeps _ (by decide +kernel)).trans hs,
      show start0 W k c (Proc.devRef .tc main_v24_9) = _ from
      (test0_keeps _ (by decide +kernel)).trans (states_at k (by omega)), setStates_num,
      ← upTo_succ (fun n => state D n.val) (show k < 64 by omega)]
    simp only [chunk_of_lt (show k < 64 by omega)]

theorem values_at : ∀ k, k ≤ 64 →
    at0 W k c (Proc.devRef .tc main_v24_10) = rows4 (upTo (values D) k)
  | 0, _ => by rw [upTo_zero]; exact h.values
  | k + 1, hk => by
    have hs := state_at h k (by omega)
    refine (fwd_values (start0 W k c)).trans ?_
    rw [start0_values h (by omega) hs, start0_num h (by omega),
      show start0 W k c (Proc.devRef .tc main_v24_10) = _ from
      (test0_keeps _ (by decide +kernel)).trans (values_at k (by omega)), setRows_num,
      ← upTo_succ (values D) (show k < 64 by omega)]
    simp only [RecSpec.values, chunk_of_lt (show k < 64 by omega)]

theorem decays_at : ∀ k, k ≤ 64 →
    at0 W k c (Proc.devRef .tc main_v24_11) = decay4 (upTo D.e k)
  | 0, _ => by rw [upTo_zero]; exact h.decays
  | k + 1, hk => by
    refine (fwd_decays (start0 W k c)).trans ?_
    rw [start0_num h (by omega), start0_e h, factorAt_num, unit_num,
      show start0 W k c (Proc.devRef .tc main_v24_11) = _ from
      (test0_keeps _ (by decide +kernel)).trans (decays_at k (by omega)), setDecay_num,
      ← upTo_succ D.e (show k < 64 by omega)]

end First

/-! ## The second loop -/

variable (D) in
/-- The buffers the second loop is entered with. -/
structure Between (V : Valuation τ sig (Elt Ideal)) : Prop where
  o : V (Proc.devRef .tc main_v37_0) = rows4 D.o
  s : V (Proc.devRef .tc main_v37_1) = states4 fun n => state D n.val
  w : V (Proc.devRef .tc main_v37_2) = rows4 D.w
  q : V (Proc.devRef .tc main_v37_3) = rows4 D.q
  v : V (Proc.devRef .tc main_v37_4) = rows4 (values D)
  a : V (Proc.devRef .tc main_v37_5) = square4 D.a
  e : V (Proc.devRef .tc main_v37_6) = decay4 D.e
  k : V (Proc.devRef .tc main_v37_7) = rows4 D.k
  count : V (Proc.devRef .tc main_v37_8) = constantI S_ 32 0#32
  grad : V (Proc.devRef .tc main_v37_9) = states3 fun _ _ _ => 0
  dw : V (Proc.devRef .tc main_v37_10) = rows4 fun _ => 0
  du : V (Proc.devRef .tc main_v37_11) = rows4 fun _ => 0
  dq : V (Proc.devRef .tc main_v37_12) = rows4 fun _ => 0
  dk : V (Proc.devRef .tc main_v37_13) = rows4 fun _ => 0
  da : V (Proc.devRef .tc main_v37_14) = square4 fun _ => 0
  de : V (Proc.devRef .tc main_v37_15) = factor2 fun _ => 0

section Second

variable (h : Between D (W c))

/-- The buffers a trip of the second loop starts from. -/
abbrev start1 (W : Dev nD → Valuation τ sig (Elt Ideal)) (k : ℕ) (c : Dev nD) : Valuation τ sig (Elt Ideal) :=
  StableHlo.after test1 (at1 W k c)

theorem start1_of {k : ℕ} {r : Ref sig .tc} {x : _} (hr : r ∉ [main_while1c_c_28, main_while1c_v57])
    (e : at1 W k c (Proc.devRef .tc r) = x) : start1 W k c (Proc.devRef .tc r) = x :=
  (test1_keeps _ hr).trans e

include h

theorem start1_num {k : ℕ} (hk : k < 64) : n1 (start1 W k c) = num (chunk (63 - k)) := by
  unfold n1
  rw [show start1 W k c (Proc.devRef .tc main_v37_8) = _ from
    (test1_keeps _ (by decide +kernel)).trans (at1_count W c h.count k), chunk_of_lt (show 63 - k < 64 by omega)]
  funext _
  show 64#32 - BitVec.ofNat 32 k - 1#32 = BitVec.ofNat 32 (63 - k)
  apply BitVec.eq_of_toNat_eq
  simp only [BitVec.toNat_sub, BitVec.toNat_ofNat]
  omega

theorem start1_o (k : ℕ) : start1 W k c (Proc.devRef .tc main_v37_0) = rows4 D.o := by
  rw [start1, test1_keeps _ (by decide +kernel), at1_keeps W (by decide +kernel) (by decide +kernel), h.o]

theorem start1_s (k : ℕ) : start1 W k c (Proc.devRef .tc main_v37_1) = states4 fun n => state D n.val := by
  rw [start1, test1_keeps _ (by decide +kernel), at1_keeps W (by decide +kernel) (by decide +kernel), h.s]

theorem start1_w (k : ℕ) : start1 W k c (Proc.devRef .tc main_v37_2) = rows4 D.w := by
  rw [start1, test1_keeps _ (by decide +kernel), at1_keeps W (by decide +kernel) (by decide +kernel), h.w]

theorem start1_q (k : ℕ) : start1 W k c (Proc.devRef .tc main_v37_3) = rows4 D.q := by
  rw [start1, test1_keeps _ (by decide +kernel), at1_keeps W (by decide +kernel) (by decide +kernel), h.q]

theorem start1_v (k : ℕ) : start1 W k c (Proc.devRef .tc main_v37_4) = rows4 (values D) := by
  rw [start1, test1_keeps _ (by decide +kernel), at1_keeps W (by decide +kernel) (by decide +kernel), h.v]

theorem start1_a (k : ℕ) : start1 W k c (Proc.devRef .tc main_v37_5) = square4 D.a := by
  rw [start1, test1_keeps _ (by decide +kernel), at1_keeps W (by decide +kernel) (by decide +kernel), h.a]

theorem start1_e (k : ℕ) : start1 W k c (Proc.devRef .tc main_v37_6) = decay4 D.e := by
  rw [start1, test1_keeps _ (by decide +kernel), at1_keeps W (by decide +kernel) (by decide +kernel), h.e]

theorem start1_k (k : ℕ) : start1 W k c (Proc.devRef .tc main_v37_7) = rows4 D.k := by
  rw [start1, test1_keeps _ (by decide +kernel), at1_keeps W (by decide +kernel) (by decide +kernel), h.k]

/-- The gradient of the values in a trip that starts from the gradient of the state. -/
theorem start1_dv {k : ℕ} (hk : k < 64)
    (hd : at1 W k c (Proc.devRef .tc main_v37_9) = states3 (gradAt D k)) :
    dv1 (start1 W k c) = rows3 (RecSpec.gradV D (chunk (63 - k)) (gradAt D k)) := by
  unfold dv1
  rw [start1_num h hk, start1_o h, start1_k h, start1_a h, rowsAt_num, rowsAt_num, squareAt_num,
    start1_of (by decide +kernel) hd, gradV_num]
  rfl

theorem grad_at : ∀ k, k ≤ 64 → at1 W k c (Proc.devRef .tc main_v37_9) = states3 (gradAt D k)
  | 0, _ => h.grad
  | k + 1, hk => by
    have hd := grad_at k (by omega)
    refine (bwd_state (start1 W k c)).trans ?_
    rw [start1_dv h (by omega) hd, start1_num h (by omega), start1_o h, start1_q h, start1_w h, start1_e h, rowsAt_num,
      rowsAt_num, rowsAt_num, decayAt_num, start1_of (by decide +kernel) hd, prevGrad_num]
    rfl

omit h in
/-- The gradient of the state after the trip's chunk. -/
theorem after_chunk {k : ℕ} (hk : k < 64) : RecSpec.after D (chunk (63 - k)) = gradAt D k := by
  rw [RecSpec.after, chunk_of_lt (show 63 - k < 64 by omega)]
  congr 1
  show 63 - (63 - k) = k
  omega

theorem du_at : ∀ k, k ≤ 64 → at1 W k c (Proc.devRef .tc main_v37_11) = rows4 (downTo (RecSpec.du D) k)
  | 0, _ => by rw [downTo_zero]; exact h.du
  | k + 1, hk => by
    have hd := grad_at h k (by omega)
    have hi := du_at k (by omega)
    have ha := after_chunk (D := D) (k := k) (by omega)
    refine (bwd_du (start1 W k c)).trans ?_
    rw [start1_dv h (by omega) hd, start1_num h (by omega),
      start1_of (by decide +kernel) hi, setRows_num, ← downTo_succ (RecSpec.du D) (show k < 64 by omega)]
    rw [← ha]
    rfl

theorem dw_at : ∀ k, k ≤ 64 → at1 W k c (Proc.devRef .tc main_v37_10) = rows4 (downTo (RecSpec.dw D) k)
  | 0, _ => by rw [downTo_zero]; exact h.dw
  | k + 1, hk => by
    have hd := grad_at h k (by omega)
    have hi := dw_at k (by omega)
    have ha := after_chunk (D := D) (k := k) (by omega)
    refine (bwd_dw (start1 W k c)).trans ?_
    rw [start1_dv h (by omega) hd, start1_s h, start1_num h (by omega), statesAt_num, gradW_num,
      start1_of (by decide +kernel) hi, setRows_num, ← downTo_succ (RecSpec.dw D) (show k < 64 by omega)]
    rw [← ha]
    rfl

theorem dq_at : ∀ k, k ≤ 64 → at1 W k c (Proc.devRef .tc main_v37_12) = rows4 (downTo (RecSpec.dq D) k)
  | 0, _ => by rw [downTo_zero]; exact h.dq
  | k + 1, hk => by
    have hd := grad_at h k (by omega)
    have hi := dq_at k (by omega)
    refine (bwd_dq (start1 W k c)).trans ?_
    rw [start1_o h, start1_s h, start1_num h (by omega), rowsAt_num, statesAt_num, gradQ_num,
      start1_of (by decide +kernel) hi, setRows_num, ← downTo_succ (RecSpec.dq D) (show k < 64 by omega)]
    rfl

theorem dk_at : ∀ k, k ≤ 64 → at1 W k c (Proc.devRef .tc main_v37_13) = rows4 (downTo (RecSpec.dk D) k)
  | 0, _ => by rw [downTo_zero]; exact h.dk
  | k + 1, hk => by
    have hd := grad_at h k (by omega)
    have hi := dk_at k (by omega)
    have ha := after_chunk (D := D) (k := k) (by omega)
    refine (bwd_dk (start1 W k c)).trans ?_
    rw [start1_v h, start1_of (by decide +kernel) hd, start1_num h (by omega), rowsAt_num, gradK_num,
      start1_of (by decide +kernel) hi, setRows_num, ← downTo_succ (RecSpec.dk D) (show k < 64 by omega)]
    rw [← ha]
    rfl

theorem da_at : ∀ k, k ≤ 64 → at1 W k c (Proc.devRef .tc main_v37_14) = square4 (downTo (RecSpec.da D) k)
  | 0, _ => by rw [downTo_zero]; exact h.da
  | k + 1, hk => by
    have hd := grad_at h k (by omega)
    have hi := da_at k (by omega)
    refine (bwd_da (start1 W k c)).trans ?_
    rw [start1_o h, start1_v h, start1_num h (by omega), rowsAt_num, rowsAt_num, gradA_num,
      start1_of (by decide +kernel) hi, setSquare_num, ← downTo_succ (RecSpec.da D) (show k < 64 by omega)]
    rfl

theorem de_at : ∀ k, k ≤ 64 → at1 W k c (Proc.devRef .tc main_v37_15) = factor2 (downTo (RecSpec.de D) k)
  | 0, _ => by rw [downTo_zero]; exact h.de
  | k + 1, hk => by
    have hd := grad_at h k (by omega)
    have hi := de_at k (by omega)
    have ha := after_chunk (D := D) (k := k) (by omega)
    refine (bwd_de (start1 W k c)).trans ?_
    rw [start1_s h, start1_of (by decide +kernel) hd, start1_num h (by omega), statesAt_num, gradE_num,
      start1_of (by decide +kernel) hi, setFactor_num, ← downTo_succ (RecSpec.de D) (show k < 64 by omega)]
    rw [← ha]
    rfl

end Second

end Cert.RecLoop

end
-- ==== Proof.RecRef.lean ====
module

public import proofs.«01_k».proof.Proof.RecLoop

/-!
What the derivative of the scan computes at arguments that are real numbers.
-/

@[expose] public section

set_option maxRecDepth 16384

noncomputable section

namespace Cert.RecRef

open Cert.RealLift Cert.RecTrip Cert.RecRun Cert.RecRead Cert.RecOps Cert.RecSpec Cert.RecLoop
open Cert.RecReferenceIdeal Cert.RecReferenceIdeal.Gen
open Idealize.ShloMosaic Idealize.ShloMosaic.TcCoe Idealize.SL.Sem Idealize.ShloMosaic.StableHlo

/-- The row of a chunk. -/
def row (n i : Fin 64) : Fin 4096 := ⟨n.val * 64 + i.val, by omega⟩

/-- The column of a head. -/
def col (h : Fin 8) (k : Fin 128) : Fin 1024 := ⟨h.val * 128 + k.val, by omega⟩

/-- A token matrix cut into chunks and heads. -/
abbrev cut (f : S4096x1024.Idx → ℝ) : Rows := fun n h i c => f (ix2 (row n i) (col h c))

/-- The scan's data in the argument arrays. -/
def data (o w u q k : S4096x1024.Idx → ℝ) (a : S8x4096x64.Idx → ℝ) (e : S8x64.Idx → ℝ) : Data where
  w := cut w
  u := cut u
  q := cut q
  k := cut k
  o := cut o
  a := fun n h i j => a (ix3 h (row n i) j)
  e := fun n h => e (ix2 h n)

/-- Chunks and heads laid out as a token matrix. -/
def laid (f : Rows) : S4096x1024.Idx → ℝ := fun y =>
  f ⟨(y 0).val / 64, by have e : (y 0).val < 4096 := (y 0).isLt; omega⟩
    ⟨(y 1).val / 128, by have e : (y 1).val < 1024 := (y 1).isLt; omega⟩
    ⟨(y 0).val % 64, by omega⟩ ⟨(y 1).val % 128, by omega⟩

/-- The squares of the chunks, one under the other. -/
def laidSquare (f : Fin 64 → Fin 8 → Fin 64 → Fin 64 → ℝ) : S8x4096x64.Idx → ℝ := fun y =>
  f ⟨(y 1).val / 64, by have e : (y 1).val < 4096 := (y 1).isLt; omega⟩ (y 0) ⟨(y 1).val % 64, by omega⟩ (y 2)

/-- The factors of the chunks, each along a row. -/
def laidFactor (f : Fin 64 → Fin 8 → ℝ) : S8x64x128.Idx → ℝ := fun y => f (y 1) (y 0)

variable (m : (ℓ : Loc nD τ sig) → Buf (Elt Ideal) ℓ) (c : Dev nD)
  {o w u q k : S4096x1024.Idx → ℝ} {a : S8x4096x64.Idx → ℝ} {e : S8x64.Idx → ℝ}

/-- The program is launched with these arrays. -/
structure Args (m : (ℓ : Loc nD τ sig) → Buf (Elt Ideal) ℓ) (c : Dev nD)
    (o w u q k : S4096x1024.Idx → ℝ) (a : S8x4096x64.Idx → ℝ) (e : S8x64.Idx → ℝ) : Prop where
  o : launchContents m c (Proc.devRef .tc main_arg0) = up o
  w : launchContents m c (Proc.devRef .tc main_arg1) = up w
  u : launchContents m c (Proc.devRef .tc main_arg2) = up u
  q : launchContents m c (Proc.devRef .tc main_arg3) = up q
  k : launchContents m c (Proc.devRef .tc main_arg4) = up k
  a : launchContents m c (Proc.devRef .tc main_arg5) = up a
  e : launchContents m c (Proc.devRef .tc main_arg6) = up e

variable {m c}

section Entry

variable (h : Args m c o w u q k a e)

include h

set_option maxHeartbeats 4000000 in
theorem entry_w : entry0 m c (Proc.devRef .tc main_v24_0) = rows4 (cut w) := by
  simp only [afterL_cons, afterL_nil]
  after_results_simp
  rw [h.w]
  funext j
  idx_vars j
  pointwise [id]
  rfl

set_option maxHeartbeats 4000000 in
theorem entry_u : entry0 m c (Proc.devRef .tc main_v24_1) = rows4 (cut u) := by
  simp only [afterL_cons, afterL_nil]
  after_results_simp
  rw [h.u]
  funext j
  idx_vars j
  pointwise [id]
  rfl

set_option maxHeartbeats 4000000 in
theorem entry_k : entry0 m c (Proc.devRef .tc main_v24_3) = rows4 (cut k) := by
  simp only [afterL_cons, afterL_nil]
  after_results_simp
  rw [h.k]
  funext j
  idx_vars j
  pointwise [id]
  rfl

set_option maxHeartbeats 4000000 in
theorem entry_e : entry0 m c (Proc.devRef .tc main_v24_5) = factor2 (data o w u q k a e).e := by
  simp only [afterL_cons, afterL_nil]
  after_results_simp
  rw [h.e]
  funext j
  idx_vars j
  pointwise [id]
  rfl

set_option maxHeartbeats 4000000 in
theorem entry_w' : entry0 m c (Proc.devRef .tc main_v13) = rows4 (cut w) := by
  simp only [afterL_cons, afterL_nil]
  after_results_simp
  rw [h.w]
  funext j
  idx_vars j
  pointwise [id]
  rfl

set_option maxHeartbeats 4000000 in
theorem entry_q : entry0 m c (Proc.devRef .tc main_v15) = rows4 (cut q) := by
  simp only [afterL_cons, afterL_nil]
  after_results_simp
  rw [h.q]
  funext j
  idx_vars j
  pointwise [id]
  rfl

set_option maxHeartbeats 4000000 in
theorem entry_k' : entry0 m c (Proc.devRef .tc main_v16) = rows4 (cut k) := by
  simp only [afterL_cons, afterL_nil]
  after_results_simp
  rw [h.k]
  funext j
  idx_vars j
  pointwise [id]
  rfl

set_option maxHeartbeats 4000000 in
theorem entry_a : entry0 m c (Proc.devRef .tc main_v17) = square4 (data o w u q k a e).a := by
  simp only [afterL_cons, afterL_nil]
  after_results_simp
  rw [h.a]
  funext j
  idx_vars j
  pointwise [id]
  rfl

omit h

set_option maxHeartbeats 4000000 in
theorem zero_state : entry0 m c (Proc.devRef .tc main_v24_7) = states3 fun _ _ _ => 0 := by
  simp only [afterL_cons, afterL_nil]
  after_results_simp
  funext j
  idx_vars j
  pointwise [id]
  exact EReal.coe_zero.symm

set_option maxHeartbeats 4000000 in
theorem zero_states : entry0 m c (Proc.devRef .tc main_v24_9) = states4 fun _ => 0 := by
  simp only [afterL_cons, afterL_nil]
  after_results_simp
  funext j
  idx_vars j
  pointwise [id]
  exact EReal.coe_zero.symm

set_option maxHeartbeats 4000000 in
theorem zero_values : entry0 m c (Proc.devRef .tc main_v24_10) = rows4 fun _ => 0 := by
  simp only [afterL_cons, afterL_nil]
  after_results_simp
  funext j
  idx_vars j
  pointwise [id]
  exact EReal.coe_zero.symm

set_option maxHeartbeats 4000000 in
theorem zero_decays : entry0 m c (Proc.devRef .tc main_v24_11) = decay4 fun _ => 0 := by
  simp only [afterL_cons, afterL_nil]
  after_results_simp
  funext j
  idx_vars j
  pointwise [id]
  exact EReal.coe_zero.symm

include h

theorem before : Before (data o w u q k a e) (entry0 m c) :=
  ⟨entry_w h, entry_u h, entry_k h, entry_e h, entry0_count m c, zero_state, zero_states, zero_values, zero_decays⟩

/-! ## Between the loops -/

theorem left_states : left0 m c (Proc.devRef .tc main_v24_9) = states4 fun n => state (data o w u q k a e) n.val := by
  rw [left0, test0_keeps _ (by decide +kernel), states_at (before h) 64 le_rfl, upTo_all]

theorem left_values : left0 m c (Proc.devRef .tc main_v24_10) = rows4 (RecSpec.values (data o w u q k a e)) := by
  rw [left0, test0_keeps _ (by decide +kernel), values_at (before h) 64 le_rfl, upTo_all]

theorem left_decays : left0 m c (Proc.devRef .tc main_v24_11) = decay4 (data o w u q k a e).e := by
  rw [left0, test0_keeps _ (by decide +kernel), decays_at (before h) 64 le_rfl, upTo_all]

omit h in
theorem left_keeps {r : Ref sig .tc} (hr : r ∉ fwdWrites) (hr' : r ∉ [main_while0c_c_24, main_while0c_v57]) :
    left0 m c (Proc.devRef .tc r) = entry0 m c (Proc.devRef .tc r) := by
  rw [left0, test0_keeps _ hr', at0_keeps _ hr hr']

omit h

set_option maxHeartbeats 4000000 in
theorem copy_o {V : Valuation τ sig (Elt Ideal)} (hV : V (Proc.devRef .tc main_arg0) = up o) :
    afterL [RecOps.between, between2] V (Proc.devRef .tc main_v37_0) = rows4 (cut o) := by
  simp only [afterL_cons, afterL_nil]
  after_results_simp
  rw [hV]
  funext j
  idx_vars j
  pointwise [id]
  rfl

set_option maxHeartbeats 4000000 in
theorem copy_s {x : Arr Ideal S64x8x128x128} {V : Valuation τ sig (Elt Ideal)} (hV : V (Proc.devRef .tc main_v24_9) = x) :
    afterL [RecOps.between, between2] V (Proc.devRef .tc main_v37_1) = x := by
  simp only [afterL_cons, afterL_nil]
  after_results_simp
  exact hV

set_option maxHeartbeats 4000000 in
theorem copy_w {x : Arr Ideal S64x8x64x128} {V : Valuation τ sig (Elt Ideal)} (hV : V (Proc.devRef .tc main_v13) = x) :
    afterL [RecOps.between, between2] V (Proc.devRef .tc main_v37_2) = x := by
  simp only [afterL_cons, afterL_nil]
  after_results_simp
  exact hV

set_option maxHeartbeats 4000000 in
theorem copy_q {x : Arr Ideal S64x8x64x128} {V : Valuation τ sig (Elt Ideal)} (hV : V (Proc.devRef .tc main_v15) = x) :
    afterL [RecOps.between, between2] V (Proc.devRef .tc main_v37_3) = x := by
  simp only [afterL_cons, afterL_nil]
  after_results_simp
  exact hV

set_option maxHeartbeats 4000000 in
theorem copy_v {x : Arr Ideal S64x8x64x128} {V : Valuation τ sig (Elt Ideal)} (hV : V (Proc.devRef .tc main_v24_10) = x) :
    afterL [RecOps.between, between2] V (Proc.devRef .tc main_v37_4) = x := by
  simp only [afterL_cons, afterL_nil]
  after_results_simp
  exact hV

set_option maxHeartbeats 4000000 in
theorem copy_a {x : Arr Ideal S64x8x64x64} {V : Valuation τ sig (Elt Ideal)} (hV : V (Proc.devRef .tc main_v17) = x) :
    afterL [RecOps.between, between2] V (Proc.devRef .tc main_v37_5) = x := by
  simp only [afterL_cons, afterL_nil]
  after_results_simp
  exact hV

set_option maxHeartbeats 4000000 in
theorem copy_e {x : Arr Ideal S64x8x1x1} {V : Valuation τ sig (Elt Ideal)} (hV : V (Proc.devRef .tc main_v24_11) = x) :
    afterL [RecOps.between, between2] V (Proc.devRef .tc main_v37_6) = x := by
  simp only [afterL_cons, afterL_nil]
  after_results_simp
  exact hV

set_option maxHeartbeats 4000000 in
theorem copy_k {x : Arr Ideal S64x8x64x128} {V : Valuation τ sig (Elt Ideal)} (hV : V (Proc.devRef .tc main_v16) = x) :
    afterL [RecOps.between, between2] V (Proc.devRef .tc main_v37_7) = x := by
  simp only [afterL_cons, afterL_nil]
  after_results_simp
  exact hV

set_option maxHeartbeats 4000000 in
theorem zero_grad (V : Valuation τ sig (Elt Ideal)) : afterL [RecOps.between, between2] V (Proc.devRef .tc main_v37_9) = states3 fun _ _ _ => 0 := by
  simp only [afterL_cons, afterL_nil]
  after_results_simp
  funext j
  idx_vars j
  pointwise [id]
  exact EReal.coe_zero.symm

set_option maxHeartbeats 4000000 in
theorem zero_dw (V : Valuation τ sig (Elt Ideal)) : afterL [RecOps.between, between2] V (Proc.devRef .tc main_v37_10) = rows4 fun _ => 0 := by
  simp only [afterL_cons, afterL_nil]
  after_results_simp
  funext j
  idx_vars j
  pointwise [id]
  exact EReal.coe_zero.symm

set_option maxHeartbeats 4000000 in
theorem zero_du (V : Valuation τ sig (Elt Ideal)) : afterL [RecOps.between, between2] V (Proc.devRef .tc main_v37_11) = rows4 fun _ => 0 := by
  simp only [afterL_cons, afterL_nil]
  after_results_simp
  funext j
  idx_vars j
  pointwise [id]
  exact EReal.coe_zero.symm

set_option maxHeartbeats 4000000 in
theorem zero_dq (V : Valuation τ sig (Elt Ideal)) : afterL [RecOps.between, between2] V (Proc.devRef .tc main_v37_12) = rows4 fun _ => 0 := by
  simp only [afterL_cons, afterL_nil]
  after_results_simp
  funext j
  idx_vars j
  pointwise [id]
  exact EReal.coe_zero.symm

set_option maxHeartbeats 4000000 in
theorem zero_dk (V : Valuation τ sig (Elt Ideal)) : afterL [RecOps.between, between2] V (Proc.devRef .tc main_v37_13) = rows4 fun _ => 0 := by
  simp only [afterL_cons, afterL_nil]
  after_results_simp
  funext j
  idx_vars j
  pointwise [id]
  exact EReal.coe_zero.symm

set_option maxHeartbeats 4000000 in
theorem zero_da (V : Valuation τ sig (Elt Ideal)) : afterL [RecOps.between, between2] V (Proc.devRef .tc main_v37_14) = square4 fun _ => 0 := by
  simp only [afterL_cons, afterL_nil]
  after_results_simp
  funext j
  idx_vars j
  pointwise [id]
  exact EReal.coe_zero.symm

set_option maxHeartbeats 4000000 in
theorem zero_de (V : Valuation τ sig (Elt Ideal)) : afterL [RecOps.between, between2] V (Proc.devRef .tc main_v37_15) = factor2 fun _ => 0 := by
  simp only [afterL_cons, afterL_nil]
  after_results_simp
  funext j
  idx_vars j
  pointwise [id]
  exact EReal.coe_zero.symm

include h

theorem between : Between (data o w u q k a e) (entry1 m c) :=
  ⟨copy_o ((left_keeps (by decide +kernel) (by decide +kernel)).trans ((entry0_keeps m c (by decide +kernel)).trans h.o)),
    copy_s (left_states h),
    copy_w ((left_keeps (by decide +kernel) (by decide +kernel)).trans (entry_w' h)),
    copy_q ((left_keeps (by decide +kernel) (by decide +kernel)).trans (entry_q h)),
    copy_v (left_values h),
    copy_a ((left_keeps (by decide +kernel) (by decide +kernel)).trans (entry_a h)),
    copy_e (left_decays h),
    copy_k ((left_keeps (by decide +kernel) (by decide +kernel)).trans (entry_k' h)),
    entry1_count m c, zero_grad _, zero_dw _, zero_du _, zero_dq _, zero_dk _, zero_da _, zero_de _⟩

end Entry

/-! ## The results -/

section Finish

variable {V : Valuation τ sig (Elt Ideal)}

set_option maxHeartbeats 4000000 in
theorem finish_du {f : Rows} (hV : V (Proc.devRef .tc main_v37_11) = rows4 f) :
    afterL [finish] V (Proc.devRef .tc main_v53) = up (laid f) := by
  simp only [afterL_cons, afterL_nil]
  after_results_simp
  rw [hV]
  funext j
  idx_vars j
  pointwise [id]
  rfl

set_option maxHeartbeats 4000000 in
theorem finish_dw {f : Rows} (hV : V (Proc.devRef .tc main_v37_10) = rows4 f) :
    afterL [finish] V (Proc.devRef .tc main_v54) = up (laid f) := by
  simp only [afterL_cons, afterL_nil]
  after_results_simp
  rw [hV]
  funext j
  idx_vars j
  pointwise [id]
  rfl

set_option maxHeartbeats 4000000 in
theorem finish_dq {f : Rows} (hV : V (Proc.devRef .tc main_v37_12) = rows4 f) :
    afterL [finish] V (Proc.devRef .tc main_v48) = up (laid f) := by
  simp only [afterL_cons, afterL_nil]
  after_results_simp
  rw [hV]
  funext j
  idx_vars j
  pointwise [id]
  rfl

set_option maxHeartbeats 4000000 in
theorem finish_dk {f : Rows} (hV : V (Proc.devRef .tc main_v37_13) = rows4 f) :
    afterL [finish] V (Proc.devRef .tc main_v46) = up (laid f) := by
  simp only [afterL_cons, afterL_nil]
  after_results_simp
  rw [hV]
  funext j
  idx_vars j
  pointwise [id]
  rfl

set_option maxHeartbeats 4000000 in
theorem finish_da {f : Fin 64 → Fin 8 → Fin 64 → Fin 64 → ℝ} (hV : V (Proc.devRef .tc main_v37_14) = square4 f) :
    afterL [finish] V (Proc.devRef .tc main_v44) = up (laidSquare f) := by
  simp only [afterL_cons, afterL_nil]
  after_results_simp
  rw [hV]
  funext j
  idx_vars j
  pointwise [id]
  rfl

set_option maxHeartbeats 4000000 in
theorem finish_de {f : Fin 64 → Fin 8 → ℝ} (hV : V (Proc.devRef .tc main_v37_15) = factor2 f) :
    afterL [finish] V (Proc.devRef .tc main_v56) = up (laidFactor f) := by
  simp only [afterL_cons, afterL_nil]
  after_results_simp
  rw [hV]
  funext j
  idx_vars j
  pointwise [id]
  rfl

end Finish

variable (h : Args m c o w u q k a e)

include h

theorem result_du : ending m c (Proc.devRef .tc main_v53) = up (laid (RecSpec.du (data o w u q k a e))) :=
  finish_du (by rw [left1, test1_keeps _ (by decide +kernel), du_at (between h) 64 le_rfl, downTo_all])

theorem result_dw : ending m c (Proc.devRef .tc main_v54) = up (laid (RecSpec.dw (data o w u q k a e))) :=
  finish_dw (by rw [left1, test1_keeps _ (by decide +kernel), dw_at (between h) 64 le_rfl, downTo_all])

theorem result_dq : ending m c (Proc.devRef .tc main_v48) = up (laid (RecSpec.dq (data o w u q k a e))) :=
  finish_dq (by rw [left1, test1_keeps _ (by decide +kernel), dq_at (between h) 64 le_rfl, downTo_all])

theorem result_dk : ending m c (Proc.devRef .tc main_v46) = up (laid (RecSpec.dk (data o w u q k a e))) :=
  finish_dk (by rw [left1, test1_keeps _ (by decide +kernel), dk_at (between h) 64 le_rfl, downTo_all])

theorem result_da : ending m c (Proc.devRef .tc main_v44) = up (laidSquare (RecSpec.da (data o w u q k a e))) :=
  finish_da (by rw [left1, test1_keeps _ (by decide +kernel), da_at (between h) 64 le_rfl, downTo_all])

theorem result_de : ending m c (Proc.devRef .tc main_v56) = up (laidFactor (RecSpec.de (data o w u q k a e))) :=
  finish_de (by rw [left1, test1_keeps _ (by decide +kernel), de_at (between h) 64 le_rfl, downTo_all])

end Cert.RecRef

end
-- ==== Proof.RecEntry.lean ====
/-
What the kernel's host lines leave in the arrays of its region: the states by doubling, the new values and the decay along lanes.
-/
module

public import proofs.«01_k».proof.Proof.RecDouble
public import proofs.«01_k».proof.Proof.RecRef
public import proofs.«01_k».proof.Proof.RealLift
public import proofs.«01_k».proof.Proof.Gen.RecKernelIdeal.Value
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384

noncomputable section

namespace Cert.RecEntry

open Cert.RealLift Cert.RecSpec Cert.RecDouble Idealize.ShloMosaic
open Cert.RecRef (row col cut laid data)
open Cert.RecKernelIdeal Cert.RecKernelIdeal.Gen

/-- A matrix per head and chunk. -/
abbrev Arr : Type := FVec Ideal S8x64x128x128 .f32

/-- The products of the matrices. -/
def mul (a b : Arr) : Arr :=
  Host.dotGeneral dot_S8x64x128x128_S8x64x128x128_S8x64x128x128_3_2_2_3_01_01 none a b

def zero : FVec Ideal S_ .f32 := sitofp .f32 (constantI S_ 32 0#32)

/-- The matrices `2 ^ l` chunks later. -/
def shift : ℕ → Arr → Arr
  | 0, a => pad S8x64x128x128 ![0, 1, 0, 0] ![0, 0, 0, 0] ![0, 0, 0, 0] (extractStridedSlice S8x63x128x128 ![0, 0, 0, 0] a slices_S8x64x128x128_S8x63x128x128_0_0_0_0) zero pads_S8x63x128x128_S8x64x128x128_000_100_000_000 (by decide)
  | 1, a => pad S8x64x128x128 ![0, 2, 0, 0] ![0, 0, 0, 0] ![0, 0, 0, 0] (extractStridedSlice S8x62x128x128 ![0, 0, 0, 0] a slices_S8x64x128x128_S8x62x128x128_0_0_0_0) zero pads_S8x62x128x128_S8x64x128x128_000_200_000_000 (by decide)
  | 2, a => pad S8x64x128x128 ![0, 4, 0, 0] ![0, 0, 0, 0] ![0, 0, 0, 0] (extractStridedSlice S8x60x128x128 ![0, 0, 0, 0] a slices_S8x64x128x128_S8x60x128x128_0_0_0_0) zero pads_S8x60x128x128_S8x64x128x128_000_400_000_000 (by decide)
  | 3, a => pad S8x64x128x128 ![0, 8, 0, 0] ![0, 0, 0, 0] ![0, 0, 0, 0] (extractStridedSlice S8x56x128x128 ![0, 0, 0, 0] a slices_S8x64x128x128_S8x56x128x128_0_0_0_0) zero pads_S8x56x128x128_S8x64x128x128_000_800_000_000 (by decide)
  | 4, a => pad S8x64x128x128 ![0, 16, 0, 0] ![0, 0, 0, 0] ![0, 0, 0, 0] (extractStridedSlice S8x48x128x128 ![0, 0, 0, 0] a slices_S8x64x128x128_S8x48x128x128_0_0_0_0) zero pads_S8x48x128x128_S8x64x128x128_000_1600_000_000 (by decide)
  | 5, a => pad S8x64x128x128 ![0, 32, 0, 0] ![0, 0, 0, 0] ![0, 0, 0, 0] (extractStridedSlice S8x32x128x128 ![0, 0, 0, 0] a slices_S8x64x128x128_S8x32x128x128_0_0_0_0) zero pads_S8x32x128x128_S8x64x128x128_000_3200_000_000 (by decide)
  | _, a => a

/-- The rows of a wide array, per head and chunk. -/
def rows (a : FVec Ideal S4096x1024 .f32) : FVec Ideal S8x64x64x128 .f32 :=
  transpose S8x64x64x128 [2, 0, 1, 3] (shapeCast S64x64x8x128 a shapeCasts_S4096x1024_S64x64x8x128) transposes_S64x64x8x128_S8x64x64x128_2_0_1_3

/-- The unit matrix. -/
def unit : FVec Ideal S128x128 .f32 :=
  uitofp .f32 (cmpi .eq (addi (iotaInDim S128x128 32 0) (broadcastInDim S128x128 ![] bcast_S_S128x128 (constantI S_ 32 0#32))) (iotaInDim S128x128 32 1))

variable (w k : FVec Ideal S4096x1024 .bf16) (u : FVec Ideal S4096x1024 .f32) (e : FVec Ideal S8x64 .f32)

/-- The linear part and the constant of each chunk. -/
def lin : Arr :=
  subf (mulf (broadcastInDim S8x64x128x128 ![0, 1, 2, 3] bcast_S8x64x1x1_S8x64x128x128_0_1_2_3 (broadcastInDim S8x64x1x1 ![0, 1] bcast_S8x64_S8x64x1x1_0_1 e))
      (broadcastInDim S8x64x128x128 ![0, 1, 2, 3] bcast_S1x1x128x128_S8x64x128x128_0_1_2_3 (broadcastInDim S1x1x128x128 ![2, 3] bcast_S128x128_S1x1x128x128_2_3 unit)))
    (Host.dotGeneral dot_S8x64x64x128_S8x64x64x128_S8x64x128x128_2_2_3_3_01_01 none (rows (extf .f32 k bitsLt_bf16_f32)) (rows (extf .f32 w bitsLt_bf16_f32)))

def con : Arr :=
  Host.dotGeneral dot_S8x64x64x128_S8x64x64x128_S8x64x128x128_2_2_3_3_01_01 none (rows (extf .f32 k bitsLt_bf16_f32)) (rows u)

/-- The two after `l` levels. -/
def lv : ℕ → Arr × Arr
  | 0 => (lin w k e, con k u)
  | l + 1 => (mul (lv l).1 (shift l (lv l).1), addf (lv l).2 (mul (lv l).1 (shift l (lv l).2)))

/-- The states before the chunks. -/
def before : Arr := shift 0 (lv w k u e 6).2

/-- The new values, laid as rows. -/
def newValues : FVec Ideal S4096x1024 .bf16 :=
  truncf .bf16 (shapeCast S4096x1024 (transpose S64x64x8x128 [1, 2, 0, 3]
    (subf (rows u) (Host.dotGeneral dot_S8x64x64x128_S8x64x128x128_S8x64x64x128_3_2_2_3_01_01 none (rows (extf .f32 w bitsLt_bf16_f32)) (before w k u e)))
    transposes_S8x64x64x128_S64x64x8x128_1_2_0_3) shapeCasts_S64x64x8x128_S4096x1024) bitsLt_bf16_f32

variable (m : (ℓ : Loc nD τ sig) → Buf (Elt Ideal) ℓ) (c : Dev nD)

theorem V_states : V m c main_v65 = before (m ((c.tc : Thread nD τ).loc main_arg1)) (m ((c.tc : Thread nD τ).loc main_arg4))
    (m ((c.tc : Thread nD τ).loc main_arg2)) (m ((c.tc : Thread nD τ).loc main_arg6)) := by
  unfold V
  sl_kernel_rfl

theorem V_newValues : V m c main_v72 = newValues (m ((c.tc : Thread nD τ).loc main_arg1)) (m ((c.tc : Thread nD τ).loc main_arg4))
    (m ((c.tc : Thread nD τ).loc main_arg2)) (m ((c.tc : Thread nD τ).loc main_arg6)) := by
  unfold V
  sl_kernel_rfl

/-- The decay repeated along lanes. -/
def lanes : FVec Ideal S8x64x128 .f32 :=
  broadcastInDim S8x64x128 ![0, 1, 2] bcast_S8x64x1_S8x64x128_0_1_2 (broadcastInDim S8x64x1 ![0, 1] bcast_S8x64_S8x64x1_0_1 e)

theorem V_lanes : V m c main_v71 = lanes (m ((c.tc : Thread nD τ).loc main_arg6)) := by
  unfold V
  sl_kernel_rfl

/-! At real numbers. -/

/-- A stack as an array. -/
def stackArr (X : Stack) : Arr := up fun y => X (y 1) (y 0) (y 2) (y 3)

theorem stackArr_at (X : Stack) (h : Fin 8) (n : Fin 64) (k l : Fin 128) :
    stackArr X (ix4 h n k l) = ((X n h k l : ℝ) : EReal) := rfl

theorem mul_up (X Y : Stack) : mul (stackArr X) (stackArr Y) = stackArr fun n h => X n h * Y n h := by
  funext j
  idx_vars j
  pointwise [mul]
  simp only [stackArr_at, Matrix.mul_apply, ← EReal.coe_mul, coe_sum]

theorem zero_at (i : S_.Idx) : zero i = ((0 : ℝ) : EReal) := by
  show ((((0#32 : BitVec 32).toInt : ℤ) : ℝ) : EReal) = _
  simp

/-- Moved by `p` chunks: the first `n = 64 - p` chunks, behind `p` zero ones. -/
theorem pad_slice (p n : ℕ) (hn : p + n = 64) (X : Stack) (hs : S8x64x128x128.Slices ![0, 0, 0, 0] ⟨4, ![8, n, 128, 128]⟩)
    (hp : (⟨4, ![8, n, 128, 128]⟩ : Shape).Pads ![0, p, 0, 0] ![0, 0, 0, 0] ![0, 0, 0, 0] S8x64x128x128) (hu : 0 < S_.numel) :
    pad S8x64x128x128 ![0, p, 0, 0] ![0, 0, 0, 0] ![0, 0, 0, 0]
      (extractStridedSlice ⟨4, ![8, n, 128, 128]⟩ ![0, 0, 0, 0] (stackArr X) hs) zero hp hu = stackArr (later p X) := by
  funext j
  obtain ⟨h, c, k, l, rfl⟩ : ∃ h c k l, j = ix4 h c k l := ⟨j 0, j 1, j 2, j 3, by funext a; fin_cases a <;> rfl⟩
  rw [stackArr_at]
  unfold later
  by_cases hc : c.val < p
  · refine (pad_apply_of_not_inside _ _ _ _ _ hp hu (ix4 h c k l) 1 fun e => absurd e.1 (show ¬p ≤ c.val by omega)).trans ?_
    rw [zero_at, if_pos hc]
    rfl
  · have hlt : c.val - p < n := by omega
    refine (pad_apply_of_inside _ _ _ _ _ hp hu (ix4 h c k l) (ix4 h ⟨c.val - p, hlt⟩ k l) fun a => ?_).trans
      ((extractStridedSlice_apply _ _ hs _ (ix4 h ⟨c.val - p, by omega⟩ k l) fun a => ?_).trans ?_)
    · fin_cases a
      · show h.val = 0 + h.val * 1; omega
      · show c.val = p + (c.val - p) * 1; omega
      · show k.val = 0 + k.val * 1; omega
      · show l.val = 0 + l.val * 1; omega
    · fin_cases a
      · show h.val = 0 + h.val; omega
      · show c.val - p = 0 + (c.val - p); omega
      · show k.val = 0 + k.val; omega
      · show l.val = 0 + l.val; omega
    · rw [if_neg hc]
      rfl

theorem shift_up (X : Stack) : ∀ l < 6, shift l (stackArr X) = stackArr (later (2 ^ l) X)
  | 0, _ => pad_slice 1 63 rfl X slices_S8x64x128x128_S8x63x128x128_0_0_0_0 pads_S8x63x128x128_S8x64x128x128_000_100_000_000 (by decide)
  | 1, _ => pad_slice 2 62 rfl X slices_S8x64x128x128_S8x62x128x128_0_0_0_0 pads_S8x62x128x128_S8x64x128x128_000_200_000_000 (by decide)
  | 2, _ => pad_slice 4 60 rfl X slices_S8x64x128x128_S8x60x128x128_0_0_0_0 pads_S8x60x128x128_S8x64x128x128_000_400_000_000 (by decide)
  | 3, _ => pad_slice 8 56 rfl X slices_S8x64x128x128_S8x56x128x128_0_0_0_0 pads_S8x56x128x128_S8x64x128x128_000_800_000_000 (by decide)
  | 4, _ => pad_slice 16 48 rfl X slices_S8x64x128x128_S8x48x128x128_0_0_0_0 pads_S8x48x128x128_S8x64x128x128_000_1600_000_000 (by decide)
  | 5, _ => pad_slice 32 32 rfl X slices_S8x64x128x128_S8x32x128x128_0_0_0_0 pads_S8x32x128x128_S8x64x128x128_000_3200_000_000 (by decide)

theorem rows_up (f : S4096x1024.Idx → ℝ) (h : Fin 8) (n i : Fin 64) (c : Fin 128) :
    rows (up f) (ix4 h n i c) = ((cut f n h i c : ℝ) : EReal) := by
  pointwise [rows]
  rfl

theorem unit_at (k l : Fin 128) : unit (ix2 k l) = (((if k = l then 1 else 0 : ℝ) : ℝ) : EReal) := by
  show ((((IntOp.cmpi .eq (BitVec.ofNat 32 k.val + 0#32) (BitVec.ofNat 32 l.val)).toNat : ℕ) : ℝ) : EReal) = _
  rw [BitVec.add_zero, WordCmp.cmpi_eq_ofNat (by omega) (by omega)]
  by_cases h : k = l
  · subst h; simp
  · rw [if_neg h, decide_eq_false (fun e => h (Fin.ext e))]; simp

variable {o fw fu q fk : S4096x1024.Idx → ℝ} {a : S8x4096x64.Idx → ℝ} {fe : S8x64.Idx → ℝ}

theorem lin_up : lin (up fw) (up fk) (up fe) = stackArr (step (data o fw fu q fk a fe)) := by
  have hw : (extf .f32 (up fw : FVec Ideal S4096x1024 .bf16) bitsLt_bf16_f32 : FVec Ideal S4096x1024 .f32) = up fw := rfl
  have hk : (extf .f32 (up fk : FVec Ideal S4096x1024 .bf16) bitsLt_bf16_f32 : FVec Ideal S4096x1024 .f32) = up fk := rfl
  unfold lin
  rw [hw, hk]
  funext j
  idx_vars j
  pointwise
  simp only [stackArr_at, rows_up, unit_at, up_apply, ← EReal.coe_mul, coe_sum, ← EReal.coe_sub]
  rfl

theorem con_up : con (up fk) (up fu) = stackArr (push (data o fw fu q fk a fe)) := by
  have hk : (extf .f32 (up fk : FVec Ideal S4096x1024 .bf16) bitsLt_bf16_f32 : FVec Ideal S4096x1024 .f32) = up fk := rfl
  unfold con
  rw [hk]
  funext j
  idx_vars j
  pointwise
  simp only [stackArr_at, rows_up, up_apply, ← EReal.coe_mul, coe_sum]
  rfl

theorem add_up (X Y : Stack) : (addf (stackArr X) (stackArr Y) : Arr) = stackArr fun n h => X n h + Y n h := by
  funext j
  idx_vars j
  pointwise
  simp only [stackArr_at, ← EReal.coe_add]
  rfl

theorem lv_up : ∀ l ≤ 6, lv (up fw) (up fk) (up fu) (up fe) l
    = (stackArr (levels (data o fw fu q fk a fe) l).1, stackArr (levels (data o fw fu q fk a fe) l).2)
  | 0, _ => Prod.ext lin_up con_up
  | l + 1, hl => by
    have ih := lv_up l (by omega)
    show (mul (lv _ _ _ _ l).1 (shift l (lv _ _ _ _ l).1), addf (lv _ _ _ _ l).2 (mul (lv _ _ _ _ l).1 (shift l (lv _ _ _ _ l).2))) = _
    rw [ih]
    simp only []
    rw [shift_up _ l (by omega), shift_up _ l (by omega), mul_up, mul_up, add_up]
    rfl

theorem before_up : before (up fw) (up fk) (up fu) (up fe)
    = stackArr fun n h => Matrix.of (state (data o fw fu q fk a fe) n.val h) := by
  unfold before
  rw [lv_up (o := o) (q := q) (a := a) 6 le_rfl]
  simp only []
  rw [shift_up _ 0 (by omega)]
  refine congrArg stackArr (funext fun n => funext fun h => ?_)
  exact levels_six _ n h

theorem newValues_up : newValues (up fw) (up fk) (up fu) (up fe) = up (laid (values (data o fw fu q fk a fe))) := by
  have hw : (extf .f32 (up fw : FVec Ideal S4096x1024 .bf16) bitsLt_bf16_f32 : FVec Ideal S4096x1024 .f32) = up fw := rfl
  unfold newValues
  rw [hw, before_up (o := o) (q := q) (a := a)]
  funext j
  idx_vars j
  pointwise
  simp only [stackArr_at, rows_up, up_apply, ← EReal.coe_mul, coe_sum, ← EReal.coe_sub]
  rfl

theorem lanes_up : lanes (up fe) = up fun y => (data o fw fu q fk a fe).e (y 1) (y 0) := by
  funext j
  idx_vars j
  pointwise [lanes]
  rfl

end Cert.RecEntry

end
-- ==== Proof.RecBlock.lean ====
/-
The body of the backward recurrence at one grid point, as eight steps per head over the blocks it reads.
-/
module

public import proofs.«01_k».proof.Proof.RealLift
public import proofs.«01_k».proof.Proof.Gen.RecKernelIdeal.Value
public import Idealize.ShloMosaic.Lib.Pipeline.ValueKit

@[expose] public section

set_option maxRecDepth 16384

noncomputable section

namespace Cert.RecBlock

open Cert.RealLift Idealize.ShloMosaic Idealize.ShloMosaic.Pipeline
open Cert.RecKernelIdeal Cert.RecKernelIdeal.Gen

/-- The blocks a grid point reads: the cotangent, the three wide operands, the square one, the decay, the new values and the states. -/
structure Blocks where
  o : Vec Ideal S512x1024 .f32
  w : Vec Ideal S512x1024 .bf16
  q : Vec Ideal S512x1024 .bf16
  k : Vec Ideal S512x1024 .bf16
  a : Vec Ideal S8x512x64 .bf16
  e : Vec Ideal S8x8x128 .f32
  v : Vec Ideal S512x1024 .bf16
  s : Vec Ideal S8x8x128x128 .f32

/-- Where step `j` of head `h` lies in a wide block. -/
theorem in_wide (j h : ℕ) : ∀ x : Fin 2, (![(7 - j) * 64, h % 8 * 128] : Fin 2 → ℕ) x + (![64, 128] : Fin 2 → ℕ) x ≤ S512x1024.size x :=
  Fin.forall_fin_two.2 ⟨show (7 - j) * 64 + 64 ≤ 512 by omega, show h % 8 * 128 + 128 ≤ 1024 by omega⟩

theorem in_square (j h : ℕ) : ∀ x : Fin 3, (![h % 8, (7 - j) * 64, 0] : Fin 3 → ℕ) x + (![1, 64, 64] : Fin 3 → ℕ) x ≤ S8x512x64.size x := by
  intro x; fin_cases x
  · show h % 8 + 1 ≤ 8; omega
  · show (7 - j) * 64 + 64 ≤ 512; omega
  · show 0 + 64 ≤ 64; omega

theorem in_decay (j h : ℕ) : ∀ x : Fin 3, (![h % 8, 7 - j, 0] : Fin 3 → ℕ) x + (![1, 1, 128] : Fin 3 → ℕ) x ≤ S8x8x128.size x := by
  intro x; fin_cases x
  · show h % 8 + 1 ≤ 8; omega
  · show 7 - j + 1 ≤ 8; omega
  · show 0 + 128 ≤ 128; omega

theorem in_states (j h : ℕ) : ∀ x : Fin 4, (![h % 8, 7 - j, 0, 0] : Fin 4 → ℕ) x + (![1, 1, 128, 128] : Fin 4 → ℕ) x ≤ S8x8x128x128.size x := by
  intro x; fin_cases x
  · show h % 8 + 1 ≤ 8; omega
  · show 7 - j + 1 ≤ 8; omega
  · show 0 + 128 ≤ 128; omega
  · show 0 + 128 ≤ 128; omega

theorem in_carry (h : ℕ) : ∀ x : Fin 3, (![h % 8, 0, 0] : Fin 3 → ℕ) x + (![1, 128, 128] : Fin 3 → ℕ) x ≤ S8x128x128.size x := by
  intro x; fin_cases x
  · show h % 8 + 1 ≤ 8; omega
  · show 0 + 128 ≤ 128; omega
  · show 0 + 128 ≤ 128; omega

/-- The 64 rows of step `j` in head `h`'s columns. -/
abbrev wide {φ : EltTy} (x : Vec Ideal S512x1024 φ) (j h : ℕ) : Vec Ideal S64x128 φ :=
  View.ld x (Rect.unit (s := S512x1024) ![(7 - j) * 64, h % 8 * 128] ![64, 128] (in_wide j h))

abbrev square {φ : EltTy} (x : Vec Ideal S8x512x64 φ) (j h : ℕ) : Vec Ideal S1x64x64 φ :=
  View.ld x (Rect.unit (s := S8x512x64) ![h % 8, (7 - j) * 64, 0] ![1, 64, 64] (in_square j h))

abbrev decay (x : Vec Ideal S8x8x128 .f32) (j h : ℕ) : Vec Ideal S1x1x128 .f32 :=
  View.ld x (Rect.unit (s := S8x8x128) ![h % 8, 7 - j, 0] ![1, 1, 128] (in_decay j h))

abbrev states (x : Vec Ideal S8x8x128x128 .f32) (j h : ℕ) : Vec Ideal S1x1x128x128 .f32 :=
  View.ld x (Rect.unit (s := S8x8x128x128) ![h % 8, 7 - j, 0, 0] ![1, 1, 128, 128] (in_states j h))

abbrev carry (x : Vec Ideal S8x128x128 .f32) (h : ℕ) : Vec Ideal S1x128x128 .f32 :=
  View.ld x (Rect.unit (s := S8x128x128) ![h % 8, 0, 0] ![1, 128, 128] (in_carry h))

variable (b : Blocks) (first : ℕ → Vec Ideal S1x128x128 .f32)

/-- The gradient of the values at step `j`, when the gradient of the state after the chunk is `d`. -/
def stepV (d : FVec Ideal S128x128 .f32) (j h : ℕ) : FVec Ideal S64x128 .bf16 :=
  k0_pay178 (k0_pay138 d) (k0_pay162 (wide b.o j h)) (wide b.k j h) (square b.a j h)

/-- The gradient of the state after `j` steps. -/
def carried (h : ℕ) : ℕ → FVec Ideal S128x128 .f32
  | 0 => k0_pay4 (first h)
  | j + 1 => k0_pay111 (k0_pay96 (k0_pay162 (wide b.o j h)) (stepV b (carried h j) j h) (wide b.q j h) (wide b.w j h))
      (k0_pay110 (carried h j) (decay b.e j h))

/-- The gradients of a step: the values', the wide operands', the square one's, the decay's. -/
def tileU (j h : ℕ) : FVec Ideal S64x128 .bf16 := stepV b (carried b first h j) j h

def tileW (j h : ℕ) : FVec Ideal S64x128 .bf16 := k0_pay109 (k0_pay76 (k0_pay28 (states b.s j h)) (tileU b first j h))

def tileQ (j h : ℕ) : FVec Ideal S64x128 .f32 := k0_pay76 (k0_pay28 (states b.s j h)) (k0_pay162 (wide b.o j h))

def tileK (j h : ℕ) : FVec Ideal S64x128 .f32 := k0_pay62 (k0_pay138 (carried b first h j)) (k0_pay45 (wide b.v j h))

def tileA (j h : ℕ) : FVec Ideal S1x64x64 .f32 := k0_pay104 (k0_pay84 (k0_pay162 (wide b.o j h)) (k0_pay45 (wide b.v j h)))

def tileE (j h : ℕ) : FVec Ideal S1x1x128 .f32 := k0_pay103 (carried b first h j) (k0_pay20 (states b.s j h))

/-- Sixty-four stores into a wide block, the last first. -/
abbrev wideStores {φ : EltTy} (f : ℕ → ℕ → Vec Ideal S64x128 φ) : List (View.Piece (Elt Ideal) S512x1024 φ) :=
  List.ofFn fun i : Fin 64 => ⟨Rect.unit (s := S512x1024) ![(7 - (7 - i.val / 8)) * 64, (7 - i.val % 8) % 8 * 128] ![64, 128] (in_wide _ _),
    f (7 - i.val / 8) (7 - i.val % 8)⟩

abbrev squareStores (f : ℕ → ℕ → Vec Ideal S1x64x64 .f32) : List (View.Piece (Elt Ideal) S8x512x64 .f32) :=
  List.ofFn fun i : Fin 64 => ⟨Rect.unit (s := S8x512x64) ![(7 - i.val % 8) % 8, (7 - (7 - i.val / 8)) * 64, 0] ![1, 64, 64] (in_square _ _),
    f (7 - i.val / 8) (7 - i.val % 8)⟩

abbrev decayStores (f : ℕ → ℕ → Vec Ideal S1x1x128 .f32) : List (View.Piece (Elt Ideal) S8x8x128 .f32) :=
  List.ofFn fun i : Fin 64 => ⟨Rect.unit (s := S8x8x128) ![(7 - i.val % 8) % 8, 7 - (7 - i.val / 8), 0] ![1, 1, 128] (in_decay _ _),
    f (7 - i.val / 8) (7 - i.val % 8)⟩

/-- The eight stores of the carried gradient, the last head first. -/
abbrev carryStores : List (View.Piece (Elt Ideal) S8x128x128 .f32) :=
  List.ofFn fun i : Fin 8 => ⟨Rect.unit (s := S8x128x128) ![(7 - i.val) % 8, 0, 0] ![1, 128, 128] (in_carry _),
    k0_pay1 (carried b first (7 - i.val) 8)⟩

/-- The whole of the carried block. -/
theorem in_all : ∀ x : Fin 3, (![0, 0, 0] : Fin 3 → ℕ) x + (![8, 128, 128] : Fin 3 → ℕ) x ≤ S8x128x128.size x := by
  intro x; fin_cases x
  · exact le_refl 8
  · exact le_refl 128
  · exact le_refl 128

/-- The first point's store of zero to the carried block. -/
abbrev zeroed : View.Piece (Elt Ideal) S8x128x128 .f32 :=
  ⟨Rect.unit (s := S8x128x128) ![0, 0, 0] ![8, 128, 128] in_all, k0_pay3 (F := Ideal)⟩

/-- What a point leaves: the six blocks and the carried gradient. -/
abbrev left (z : List (View.Piece (Elt Ideal) S8x128x128 .f32)) :=
  (View.canon (wideStores (φ := .bf16) (tileU b first)), View.canon (wideStores (φ := .bf16) (tileW b first)), View.canon (wideStores (φ := .f32) (tileQ b)),
    View.canon (wideStores (φ := .f32) (tileK b first)), View.canon (squareStores (tileA b)), View.canon (decayStores (tileE b first)),
    View.canon (carryStores b first ++ z))

variable (m : (ℓ : Loc nD τ sig) → Buf (Elt Ideal) ℓ)

/-- The blocks of a point. -/
def at_point (c : Dev nD) (p : Fin cfg0.N) : Blocks where
  o := iblk m c 0 p
  w := iblk m c 1 p
  q := iblk m c 2 p
  k := iblk m c 3 p
  a := iblk m c 4 p
  e := iblk m c 5 p
  v := iblk m c 6 p
  s := iblk m c 7 p

end Cert.RecBlock

end
-- ==== Proof.RecStores.lean ====
/-
A grid point of the backward recurrence leaves the stores of `RecBlock`: at the first point from zero, at a later one from what the
point before carried.
-/
module

public import proofs.«01_k».proof.Proof.RecBlock
public import Idealize.ShloMosaic.Lib.Pipeline.ReadBack

@[expose] public section

set_option maxRecDepth 16384

noncomputable section

namespace Cert.RecStores

open Cert.RecBlock Idealize.ShloMosaic Idealize.ShloMosaic.Pipeline
open Cert.RecKernelIdeal Cert.RecKernelIdeal.Gen

variable (m : (ℓ : Loc nD τ sig) → Buf (Elt Ideal) ℓ)

set_option maxHeartbeats 8000000 in
theorem later_point (c : Dev nD) (p : Fin cfg0.N) (h0 : ¬ p.val % 8 = 0) : outsAt0 m c p.val p.isLt
    = left (at_point m c p) (carry (outsAt0 m c (p.val - 1) (lt_of_le_of_lt (Nat.sub_le _ _) p.isLt)).2.2.2.2.2.2) [] := by
  rw [outsAt0_B m c p h0]; frame_out
  generalize hX : View.read (Elt Ideal) (View.whole cc0_scratch0) _ = X
  obtain rfl := hX.symm.trans (Memref.IsWhole.read_unread _ _)
  sl_kernel_rfl

set_option maxHeartbeats 8000000 in
theorem first_stores (c : Dev nD) (p : Fin cfg0.N) (h0 : p.val % 8 = 0) : outsAt0 m c p.val p.isLt
    = left (at_point m c p) (fun h => View.readCov (Val := Elt Ideal) (View.whole cc0_scratch0) [zeroed]
        (Rect.unit (s := S8x128x128) ![h % 8, 0, 0] ![1, 128, 128] (in_carry h)).toLoadRect) [zeroed] := by
  rw [outsAt0_A m c p h0]; frame_out
  sl_kernel_rfl

theorem first_point (c : Dev nD) (p : Fin cfg0.N) (h0 : p.val % 8 = 0) : outsAt0 m c p.val p.isLt
    = left (at_point m c p) (carry (k0_pay3 (F := Ideal))) [zeroed] := by
  rw [first_stores m c p h0, show (fun h => View.readCov (Val := Elt Ideal) (View.whole cc0_scratch0) [zeroed]
    (Rect.unit (s := S8x128x128) ![h % 8, 0, 0] ![1, 128, 128] (in_carry h)).toLoadRect) = carry (k0_pay3 (F := Ideal)) from funext fun h =>
      View.readCov_fill (View.whole cc0_scratch0) in_all _ [] _ (by intro x; fin_cases x <;> rfl)]

end Cert.RecStores

end
-- ==== Proof.RecTile.lean ====
/-
The steps of the backward recurrence at real numbers: the carried gradient after `j` steps of point `p`, and the six gradients of each step.
-/
module

public import proofs.«01_k».proof.Proof.RecBlock
public import proofs.«01_k».proof.Proof.RecSpec

@[expose] public section

set_option maxRecDepth 16384

noncomputable section

namespace Cert.RecTile

open Cert.RealLift Cert.RecBlock Cert.RecSpec Idealize.ShloMosaic Idealize.ShloMosaic.Pipeline
open Cert.RecKernelIdeal Cert.RecKernelIdeal.Gen

/-- A matrix of reals as an array. -/
abbrev mat {a c : ℕ} (f : Fin a → Fin c → ℝ) : (⟨2, ![a, c]⟩ : Shape).Idx → EReal := up fun y => f (y 0) (y 1)

/-- A matrix under one unit axis, and under two. -/
abbrev mat1 {a c : ℕ} (f : Fin a → Fin c → ℝ) : (⟨3, ![1, a, c]⟩ : Shape).Idx → EReal := up fun y => f (y 1) (y 2)

abbrev mat2 {a c : ℕ} (f : Fin a → Fin c → ℝ) : (⟨4, ![1, 1, a, c]⟩ : Shape).Idx → EReal := up fun y => f (y 2) (y 3)

/-- The head of a number. -/
abbrev hd (h : ℕ) : Fin 8 := Fin.ofNat 8 h

/-- The chunk step `j` of point `p` works on: the chunks are taken from the last. -/
abbrev cn (p j : ℕ) : Fin 64 := chunk (63 - (p * 8 + j))

variable (b : Blocks) (first : ℕ → Vec Ideal S1x128x128 .f32) (x : Data) (p : ℕ)

/-- The blocks of point `p` hold the rows of its eight chunks. -/
structure Reads : Prop where
  o : ∀ j < 8, ∀ h, wide b.o j h = mat (x.o (cn p j) (hd h))
  w : ∀ j < 8, ∀ h, wide b.w j h = mat (x.w (cn p j) (hd h))
  q : ∀ j < 8, ∀ h, wide b.q j h = mat (x.q (cn p j) (hd h))
  k : ∀ j < 8, ∀ h, wide b.k j h = mat (x.k (cn p j) (hd h))
  a : ∀ j < 8, ∀ h, square b.a j h = mat1 (x.a (cn p j) (hd h))
  e : ∀ j < 8, ∀ h, decay b.e j h = up fun _ => x.e (cn p j) (hd h)
  v : ∀ j < 8, ∀ h, wide b.v j h = mat (values x (cn p j) (hd h))
  s : ∀ j < 8, ∀ h, states b.s j h = mat2 (state x (cn p j).val (hd h))
  first : ∀ h, first h = mat1 (gradAt x (p * 8) (hd h))

theorem v_at (o : Fin 64 → Fin 128 → ℝ) (k : Fin 64 → Fin 128 → ℝ) (a : Fin 64 → Fin 64 → ℝ) (d : Fin 128 → Fin 128 → ℝ)
    (i : Fin 64) (v : Fin 128) :
    k0_pay178 (F := Ideal) (k0_pay138 (mat d)) (k0_pay162 (mat o)) (mat k) (mat1 a) (ix2 i v)
      = ((∑ l, k i l * d l v + ∑ j, a j i * o j v : ℝ) : EReal) := by
  pointwise [k0_pay178, k0_pay138, k0_pay162]
  simp only [up_apply, ← EReal.coe_mul, coe_sum, ← EReal.coe_add]
  rfl

theorem next_at (o w q g : Fin 64 → Fin 128 → ℝ) (d : Fin 128 → Fin 128 → ℝ) (e : ℝ) (k v : Fin 128) :
    k0_pay111 (F := Ideal) (k0_pay96 (k0_pay162 (mat o)) (mat g) (mat q) (mat w)) (k0_pay110 (mat d) (up fun _ => e)) (ix2 k v)
      = ((d k v * e + (∑ i, q i k * o i v - ∑ i, w i k * g i v) : ℝ) : EReal) := by
  pointwise [k0_pay111, k0_pay96, k0_pay162, k0_pay110]
  simp only [up_apply, ← EReal.coe_mul, coe_sum, ← EReal.coe_add, ← EReal.coe_sub]
  rfl

theorem first_at (d : Fin 128 → Fin 128 → ℝ) (k v : Fin 128) :
    k0_pay4 (F := Ideal) (mat1 d) (ix2 k v) = ((d k v : ℝ) : EReal) := by
  pointwise [k0_pay4]
  rfl

theorem w_at (s : Fin 128 → Fin 128 → ℝ) (g : Fin 64 → Fin 128 → ℝ) (i : Fin 64) (k : Fin 128) :
    k0_pay109 (F := Ideal) (k0_pay76 (k0_pay28 (mat2 s)) (mat g)) (ix2 i k) = ((-∑ v, g i v * s k v : ℝ) : EReal) := by
  pointwise [k0_pay109, k0_pay76, k0_pay28, k0_pay20]
  simp only [up_apply, ← EReal.coe_mul, coe_sum, zero_sub, EReal.coe_neg]
  rfl

theorem q_at (s : Fin 128 → Fin 128 → ℝ) (o : Fin 64 → Fin 128 → ℝ) (i : Fin 64) (k : Fin 128) :
    k0_pay76 (F := Ideal) (k0_pay28 (mat2 s)) (k0_pay162 (mat o)) (ix2 i k) = ((∑ v, o i v * s k v : ℝ) : EReal) := by
  pointwise [k0_pay76, k0_pay28, k0_pay20, k0_pay162]
  simp only [up_apply, ← EReal.coe_mul, coe_sum]
  rfl

theorem k_at (d : Fin 128 → Fin 128 → ℝ) (n : Fin 64 → Fin 128 → ℝ) (i : Fin 64) (k : Fin 128) :
    k0_pay62 (F := Ideal) (k0_pay138 (mat d)) (k0_pay45 (mat n)) (ix2 i k) = ((∑ v, n i v * d k v : ℝ) : EReal) := by
  pointwise [k0_pay62, k0_pay138, k0_pay45]
  simp only [up_apply, ← EReal.coe_mul, coe_sum]
  rfl

theorem a_at (o n : Fin 64 → Fin 128 → ℝ) (u : Fin 1) (i j : Fin 64) :
    k0_pay104 (F := Ideal) (k0_pay84 (k0_pay162 (mat o)) (k0_pay45 (mat n))) (ix3 u i j) = ((∑ v, o i v * n j v : ℝ) : EReal) := by
  pointwise [k0_pay104, k0_pay84, k0_pay162, k0_pay45]
  simp only [up_apply, ← EReal.coe_mul, coe_sum]
  rfl

theorem e_at (d s : Fin 128 → Fin 128 → ℝ) (u u' : Fin 1) (l : Fin 128) :
    k0_pay103 (F := Ideal) (mat d) (k0_pay20 (mat2 s)) (ix3 u u' l) = ((∑ k, ∑ v, d k v * s k v : ℝ) : EReal) := by
  pointwise [k0_pay103, k0_pay20]
  simp only [up_apply, ← EReal.coe_mul, coe_sum]
  rfl

theorem carry_at (d : Fin 128 → Fin 128 → ℝ) (u : Fin 1) (k v : Fin 128) :
    k0_pay1 (F := Ideal) (mat d) (ix3 u k v) = ((d k v : ℝ) : EReal) := by
  pointwise [k0_pay1]
  rfl

variable {b first x p} (r : Reads b first x p)
include r

theorem stepV_eq {j : ℕ} (hj : j < 8) (h : ℕ) {d : FVec Ideal S128x128 .f32} (D : State) (hd' : d = mat (D (hd h))) :
    stepV b d j h = mat (gradV x (cn p j) D (hd h)) := by
  unfold stepV
  rw [r.o j hj, r.k j hj, r.a j hj, hd']
  funext y
  idx_vars y
  exact v_at _ _ _ _ _ _

theorem carried_eq (h : ℕ) : ∀ j ≤ 8, carried b first h j = mat (gradAt x (p * 8 + j) (hd h))
  | 0, _ => by
    show k0_pay4 (first h) = _
    rw [r.first]
    funext y
    idx_vars y
    exact first_at _ _ _
  | j + 1, hj => by
    have e := carried_eq h j (by omega)
    show k0_pay111 (k0_pay96 (k0_pay162 (wide b.o j h)) (stepV b (carried b first h j) j h) (wide b.q j h) (wide b.w j h))
      (k0_pay110 (carried b first h j) (decay b.e j h)) = _
    rw [stepV_eq r (by omega) h _ e, e, r.o j (by omega), r.q j (by omega), r.w j (by omega), r.e j (by omega)]
    funext y
    idx_vars y
    exact next_at _ _ _ _ _ _ _ _

omit r in
/-- The state gradient of the chunk step `j` works on. -/
theorem after_cn (hp : p < 8) {j : ℕ} (hj : j < 8) : after x (cn p j) = gradAt x (p * 8 + j) := by
  unfold after
  have e : (cn p j).val = 63 - (p * 8 + j) := Nat.mod_eq_of_lt (by omega)
  rw [e]
  congr 1
  omega

theorem carried_after (hp : p < 8) {j : ℕ} (hj : j < 8) (h : ℕ) : carried b first h j = mat (after x (cn p j) (hd h)) := by
  rw [carried_eq r h j (by omega), after_cn hp hj]

variable (hp : p < 8)
include hp

theorem tileU_eq {j : ℕ} (hj : j < 8) (h : ℕ) : tileU b first j h = mat (du x (cn p j) (hd h)) :=
  stepV_eq r hj h _ (carried_after r hp hj h)

theorem tileW_eq {j : ℕ} (hj : j < 8) (h : ℕ) : tileW b first j h = mat (dw x (cn p j) (hd h)) := by
  unfold tileW
  rw [tileU_eq r hp hj, r.s j hj]
  funext y
  idx_vars y
  exact w_at _ _ _ _

theorem tileQ_eq {j : ℕ} (hj : j < 8) (h : ℕ) : tileQ b j h = mat (dq x (cn p j) (hd h)) := by
  unfold tileQ
  rw [r.s j hj, r.o j hj]
  funext y
  idx_vars y
  exact q_at _ _ _ _

theorem tileK_eq {j : ℕ} (hj : j < 8) (h : ℕ) : tileK b first j h = mat (dk x (cn p j) (hd h)) := by
  unfold tileK
  rw [carried_after r hp hj, r.v j hj]
  funext y
  idx_vars y
  exact k_at _ _ _ _

theorem tileA_eq {j : ℕ} (hj : j < 8) (h : ℕ) : tileA b j h = mat1 (da x (cn p j) (hd h)) := by
  unfold tileA
  rw [r.o j hj, r.v j hj]
  funext y
  idx_vars y
  exact a_at _ _ _ _ _

theorem tileE_eq {j : ℕ} (hj : j < 8) (h : ℕ) : tileE b first j h = up fun _ => de x (cn p j) (hd h) := by
  unfold tileE
  rw [carried_after r hp hj, r.s j hj]
  funext y
  idx_vars y
  exact e_at _ _ _ _ _

omit hp in
theorem carry_eq (h : ℕ) : k0_pay1 (carried b first h 8) = mat1 (gradAt x ((p + 1) * 8) (hd h)) := by
  rw [carried_eq r h 8 le_rfl, show p * 8 + 8 = (p + 1) * 8 by omega]
  funext y
  idx_vars y
  exact carry_at _ _ _ _

end Cert.RecTile

end
-- ==== Proof.RecCanon.lean ====
/-
The blocks the steps' stores leave, read at an index: row `y` of a wide block of point `p` is a row of chunk `(7 - p) · 8 + y / 64`.
-/
module

public import proofs.«01_k».proof.Proof.RecTile
public import Idealize.ShloMosaic.Lib.Pipeline.CanonAppend

@[expose] public section

set_option maxRecDepth 16384

noncomputable section

namespace Cert.RecCanon

open Cert.RealLift Cert.RecBlock Cert.RecSpec Cert.RecTile Idealize.ShloMosaic Idealize.ShloMosaic.Pipeline
open Cert.RecKernelIdeal Cert.RecKernelIdeal.Gen

/-- The chunk of row `i` of point `p`'s block. -/
abbrev rowChunk (p i : ℕ) : Fin 64 := chunk ((7 - p) * 8 + i / 64)

theorem cn_row {p j i : ℕ} (hp : p < 8) (hj : j < 8) (hi : i / 64 = 7 - j) : cn p j = rowChunk p i := by
  unfold cn rowChunk
  rw [hi]
  congr 1
  omega

theorem wide_canon {φ : EltTy} (f : ℕ → ℕ → Vec Ideal S64x128 φ) (G : Rows) (val : ℝ → Elt Ideal φ) {p : ℕ} (hp : p < 8)
    (H : ∀ j < 8, ∀ h, f j h = fun y => val (G (cn p j) (hd h) (y 0) (y 1))) (y : S512x1024.Idx) :
    View.canon (wideStores f) y = val (G (rowChunk p (y 0).val) (hd ((y 1).val / 128)) (Fin.ofNat 64 (y 0).val) (Fin.ofNat 128 (y 1).val)) := by
  have e0 : (y 0).val < 512 := (y 0).isLt
  have e1 : (y 1).val < 1024 := (y 1).isLt
  refine View.canon_ofFn_unit_eq_of_forall _ _ _ _ y _ ⟨⟨(y 0).val / 64 * 8 + (7 - (y 1).val / 128), by omega⟩, ?_⟩ fun i => ?_
  · refine Fin.forall_fin_two.2 ⟨?_, ?_⟩
    · show (7 - (7 - ((y 0).val / 64 * 8 + (7 - (y 1).val / 128)) / 8)) * 64 ≤ (y 0).val ∧
        (y 0).val < (7 - (7 - ((y 0).val / 64 * 8 + (7 - (y 1).val / 128)) / 8)) * 64 + 64
      omega
    · show (7 - ((y 0).val / 64 * 8 + (7 - (y 1).val / 128)) % 8) % 8 * 128 ≤ (y 1).val ∧
        (y 1).val < (7 - ((y 0).val / 64 * 8 + (7 - (y 1).val / 128)) % 8) % 8 * 128 + 128
      omega
  · intro x hx
    have hi := i.isLt
    have h0 : (y 0).val = (7 - (7 - i.val / 8)) * 64 + (x 0).val := hx 0
    have h1 : (y 1).val = (7 - i.val % 8) % 8 * 128 + (x 1).val := hx 1
    have x0 : (x 0).val < 64 := (x 0).isLt
    have x1 : (x 1).val < 128 := (x 1).isLt
    rw [H _ (by omega), cn_row hp (by omega) (show (y 0).val / 64 = 7 - (7 - i.val / 8) by omega),
      show hd (7 - i.val % 8) = hd ((y 1).val / 128) from by unfold hd; congr 1; omega]
    exact congrArg val (congrArg₂ (G _ _) (Fin.ext (by show (x 0).val = (y 0).val % 64; omega)) (Fin.ext (by show (x 1).val = (y 1).val % 128; omega)))

theorem square_canon (f : ℕ → ℕ → Vec Ideal S1x64x64 .f32) (G : Fin 64 → Fin 8 → Fin 64 → Fin 64 → ℝ) {p : ℕ} (hp : p < 8)
    (H : ∀ j < 8, ∀ h, f j h = mat1 (G (cn p j) (hd h))) (y : S8x512x64.Idx) :
    View.canon (squareStores f) y = ((G (rowChunk p (y 1).val) (y 0) (Fin.ofNat 64 (y 1).val) (y 2) : ℝ) : EReal) := by
  have e0 : (y 0).val < 8 := (y 0).isLt
  have e1 : (y 1).val < 512 := (y 1).isLt
  have e2 : (y 2).val < 64 := (y 2).isLt
  refine View.canon_ofFn_unit_eq_of_forall _ _ _ _ y _ ⟨⟨(y 1).val / 64 * 8 + (7 - (y 0).val), by omega⟩, ?_⟩ fun i => ?_
  · intro a
    fin_cases a
    · show (7 - ((y 1).val / 64 * 8 + (7 - (y 0).val)) % 8) % 8 ≤ (y 0).val ∧
        (y 0).val < (7 - ((y 1).val / 64 * 8 + (7 - (y 0).val)) % 8) % 8 + 1
      omega
    · show (7 - (7 - ((y 1).val / 64 * 8 + (7 - (y 0).val)) / 8)) * 64 ≤ (y 1).val ∧
        (y 1).val < (7 - (7 - ((y 1).val / 64 * 8 + (7 - (y 0).val)) / 8)) * 64 + 64
      omega
    · show 0 ≤ (y 2).val ∧ (y 2).val < 0 + 64
      omega
  · intro x hx
    have hi := i.isLt
    have h0 : (y 0).val = (7 - i.val % 8) % 8 + (x 0).val := hx 0
    have h1 : (y 1).val = (7 - (7 - i.val / 8)) * 64 + (x 1).val := hx 1
    have h2 : (y 2).val = 0 + (x 2).val := hx 2
    have x0 : (x 0).val < 1 := (x 0).isLt
    have x1 : (x 1).val < 64 := (x 1).isLt
    rw [H _ (by omega), cn_row hp (by omega) (show (y 1).val / 64 = 7 - (7 - i.val / 8) by omega),
      show hd (7 - i.val % 8) = y 0 from Fin.ext (by show (7 - i.val % 8) % 8 = (y 0).val; omega)]
    exact congrArg (fun t : ℝ => (t : EReal)) (congrArg₂ (G _ _) (Fin.ext (by show (x 1).val = (y 1).val % 64; omega)) (Fin.ext (by show (x 2).val = (y 2).val; omega)))

theorem decay_canon (f : ℕ → ℕ → Vec Ideal S1x1x128 .f32) (G : Fin 64 → Fin 8 → ℝ) {p : ℕ} (hp : p < 8)
    (H : ∀ j < 8, ∀ h, f j h = up fun _ => G (cn p j) (hd h)) (y : S8x8x128.Idx) :
    View.canon (decayStores f) y = ((G (chunk ((7 - p) * 8 + (y 1).val)) (y 0) : ℝ) : EReal) := by
  have e0 : (y 0).val < 8 := (y 0).isLt
  have e1 : (y 1).val < 8 := (y 1).isLt
  have e2 : (y 2).val < 128 := (y 2).isLt
  refine View.canon_ofFn_unit_eq_of_forall _ _ _ _ y _ ⟨⟨(y 1).val * 8 + (7 - (y 0).val), by omega⟩, ?_⟩ fun i => ?_
  · intro a
    fin_cases a
    · show (7 - ((y 1).val * 8 + (7 - (y 0).val)) % 8) % 8 ≤ (y 0).val ∧
        (y 0).val < (7 - ((y 1).val * 8 + (7 - (y 0).val)) % 8) % 8 + 1
      omega
    · show 7 - (7 - ((y 1).val * 8 + (7 - (y 0).val)) / 8) ≤ (y 1).val ∧
        (y 1).val < 7 - (7 - ((y 1).val * 8 + (7 - (y 0).val)) / 8) + 1
      omega
    · show 0 ≤ (y 2).val ∧ (y 2).val < 0 + 128
      omega
  · intro x hx
    have hi := i.isLt
    have h0 : (y 0).val = (7 - i.val % 8) % 8 + (x 0).val := hx 0
    have h1 : (y 1).val = 7 - (7 - i.val / 8) + (x 1).val := hx 1
    have x0 : (x 0).val < 1 := (x 0).isLt
    have x1 : (x 1).val < 1 := (x 1).isLt
    rw [H _ (by omega)]
    exact congrArg (fun t : ℝ => (t : EReal)) (congrArg₂ G (by unfold cn; congr 1; omega)
      (Fin.ext (by show (7 - i.val % 8) % 8 = (y 0).val; omega)))

theorem carry_canon (b : Blocks) (first : ℕ → Vec Ideal S1x128x128 .f32) (z : List (View.Piece (Elt Ideal) S8x128x128 .f32)) (D : State)
    (H : ∀ h, k0_pay1 (carried b first h 8) = mat1 (D (hd h))) :
    View.canon (carryStores b first ++ z) = up fun y => D (y 0) (y 1) (y 2) := by
  funext y
  have e0 : (y 0).val < 8 := (y 0).isLt
  have e1 : (y 1).val < 128 := (y 1).isLt
  have e2 : (y 2).val < 128 := (y 2).isLt
  refine View.canon_append_of_pieces (up fun y => D (y 0) (y 1) (y 2)) z _ (fun q hq x => ?_) y ?_
  · obtain ⟨i, rfl⟩ := (List.mem_ofFn).mp hq
    have hi := i.isLt
    show k0_pay1 (carried b first (7 - i.val) 8) x = _
    rw [H]
    have x0 : (x 0).val < 1 := (x 0).isLt
    refine congrArg (fun t : ℝ => (t : EReal)) ?_
    have a0 : hd (7 - i.val) = (Rect.unit (s := S8x128x128) ![(7 - i.val) % 8, 0, 0] ![1, 128, 128] (in_carry _)).emb x 0 :=
      Fin.ext (by show (7 - i.val) % 8 = (7 - i.val) % 8 + 1 * (x 0).val; omega)
    have a1 : x 1 = (Rect.unit (s := S8x128x128) ![(7 - i.val) % 8, 0, 0] ![1, 128, 128] (in_carry _)).emb x 1 :=
      Fin.ext (by show (x 1).val = 0 + 1 * (x 1).val; omega)
    have a2 : x 2 = (Rect.unit (s := S8x128x128) ![(7 - i.val) % 8, 0, 0] ![1, 128, 128] (in_carry _)).emb x 2 :=
      Fin.ext (by show (x 2).val = 0 + 1 * (x 2).val; omega)
    exact (congrFun (congrFun (congrArg D a0) _) _).trans (congrArg₂ (D _) a1 a2)
  · refine ⟨_, (List.mem_ofFn).mpr ⟨⟨7 - (y 0).val, by omega⟩, rfl⟩, (Rect.mem_set_unit (inb := in_carry _)).mpr ?_⟩
    intro a
    fin_cases a
    · show (7 - (7 - (y 0).val)) % 8 ≤ (y 0).val ∧ (y 0).val < (7 - (7 - (y 0).val)) % 8 + 1
      omega
    · show 0 ≤ (y 1).val ∧ (y 1).val < 0 + 128
      omega
    · show 0 ≤ (y 2).val ∧ (y 2).val < 0 + 128
      omega

end Cert.RecCanon

end
-- ==== Proof.RecArrays.lean ====
/-
The six result arrays of the kernel of the backward recurrence, at arguments that are real numbers.
-/
module

public import proofs.«01_k».proof.Proof.RecEntry
public import proofs.«01_k».proof.Proof.RecStores
public import proofs.«01_k».proof.Proof.RecCanon

@[expose] public section

set_option maxRecDepth 16384

noncomputable section

namespace Cert.RecArrays

open Cert.RealLift Cert.RecSpec Cert.RecEntry Cert.RecBlock Cert.RecStores Cert.RecTile Cert.RecCanon
open Idealize.ShloMosaic Idealize.ShloMosaic.Pipeline
open Cert.RecKernelIdeal Cert.RecKernelIdeal.Gen
open Cert.RecRef (row col cut laid laidSquare laidFactor data)

variable (m : (ℓ : Loc nD τ sig) → Buf (Elt Ideal) ℓ)

/-- Point `t` works on the rows and chunks of block `7 - t`. -/
theorem idx : ∀ t : Fin cfg0.N, (win0_0.index t = ![7 - t.val, 0] ∧ win0_1.index t = ![7 - t.val, 0] ∧ win0_2.index t = ![7 - t.val, 0]
    ∧ win0_3.index t = ![7 - t.val, 0] ∧ win0_4.index t = ![0, 7 - t.val, 0] ∧ win0_5.index t = ![0, 7 - t.val, 0]
    ∧ win0_6.index t = ![7 - t.val, 0] ∧ win0_7.index t = ![0, 7 - t.val, 0, 0]) ∧ win0_8.index t = ![7 - t.val, 0]
    ∧ win0_9.index t = ![7 - t.val, 0] ∧ win0_10.index t = ![7 - t.val, 0] ∧ win0_11.index t = ![7 - t.val, 0]
    ∧ win0_12.index t = ![0, 7 - t.val, 0] ∧ win0_13.index t = ![0, 7 - t.val, 0] :=
  (by decide +kernel : ∀ t : Fin grid0.N, _)

variable {o w u q k : S4096x1024.Idx → ℝ} {a : S8x4096x64.Idx → ℝ} {e : S8x64.Idx → ℝ}

/-- The arguments are these reals. -/
structure Args (c : Dev nD) (o w u q k : S4096x1024.Idx → ℝ) (a : S8x4096x64.Idx → ℝ) (e : S8x64.Idx → ℝ) : Prop where
  o : m ((c.tc : Thread nD τ).loc main_arg0) = up o
  w : m ((c.tc : Thread nD τ).loc main_arg1) = up w
  u : m ((c.tc : Thread nD τ).loc main_arg2) = up u
  q : m ((c.tc : Thread nD τ).loc main_arg3) = up q
  k : m ((c.tc : Thread nD τ).loc main_arg4) = up k
  a : m ((c.tc : Thread nD τ).loc main_arg5) = up a
  e : m ((c.tc : Thread nD τ).loc main_arg6) = up e

/-- Row `i` of the point's block. -/
def at_row (t : Fin cfg0.N) (i : Fin 512) : Fin 4096 := ⟨(7 - t.val) * 512 + i.val, by omega⟩

/-- Chunk `i` of the point's block. -/
def at_chunk (t : Fin cfg0.N) (i : Fin 8) : Fin 64 := ⟨(7 - t.val) * 8 + i.val, by omega⟩

theorem lt8 (t : Fin cfg0.N) : t.val < 8 := lt_of_lt_of_eq t.isLt N_0

section Reads

variable (t : Fin cfg0.N) (W : S4096x1024.Idx → EReal) (i : Fin 512) (l : Fin 1024)

theorem read0 : (((cfg0.win 0).blk t).view.read (Elt Ideal) W (ix2 i l) : EReal) = W (ix2 (at_row t i) l) := by blk_ext [idx t, at_row]
theorem read1 : (((cfg0.win 1).blk t).view.read (Elt Ideal) W (ix2 i l) : EReal) = W (ix2 (at_row t i) l) := by blk_ext [idx t, at_row]
theorem read2 : (((cfg0.win 2).blk t).view.read (Elt Ideal) W (ix2 i l) : EReal) = W (ix2 (at_row t i) l) := by blk_ext [idx t, at_row]
theorem read3 : (((cfg0.win 3).blk t).view.read (Elt Ideal) W (ix2 i l) : EReal) = W (ix2 (at_row t i) l) := by blk_ext [idx t, at_row]
theorem read6 : (((cfg0.win 6).blk t).view.read (Elt Ideal) W (ix2 i l) : EReal) = W (ix2 (at_row t i) l) := by blk_ext [idx t, at_row]

theorem read4 (W : S8x4096x64.Idx → EReal) (h : Fin 8) (i : Fin 512) (l : Fin 64) :
    (((cfg0.win 4).blk t).view.read (Elt Ideal) W (ix3 h i l) : EReal) = W (ix3 h (at_row t i) l) := by blk_ext [idx t, at_row]

theorem read5 (W : S8x64x128.Idx → EReal) (h i : Fin 8) (l : Fin 128) :
    (((cfg0.win 5).blk t).view.read (Elt Ideal) W (ix3 h i l) : EReal) = W (ix3 h (at_chunk t i) l) := by blk_ext [idx t, at_chunk]

theorem read7 (W : S8x64x128x128.Idx → EReal) (h i : Fin 8) (r l : Fin 128) :
    (((cfg0.win 7).blk t).view.read (Elt Ideal) W (ix4 h i r l) : EReal) = W (ix4 h (at_chunk t i) r l) := by blk_ext [idx t, at_chunk]

end Reads

section Cuts

variable (t : Fin cfg0.N) {j : ℕ} (hj : j < 8) (h : ℕ)
include hj

/-- Step `j` of a block of rows is the rows of its chunk. -/
theorem wide_rows (X : FVec Ideal S512x1024 .f32) (G : Rows) (hX : ∀ i l, X (ix2 i l) = up (laid G) (ix2 (at_row t i) l)) :
    wide (φ := .f32) X j h = mat (G (cn t.val j) (hd h)) := by
  have ht := lt8 t
  funext y
  idx_vars y
  refine (congrArg X (a₂ := ix2 ⟨(7 - j) * 64 + 1 * y0.val, by omega⟩ ⟨h % 8 * 128 + 1 * y1.val, by omega⟩) (funext fun z => by fin_cases z <;> rfl)).trans ((hX _ _).trans (congrArg (fun r : ℝ => (r : EReal)) ?_))
  show G ⟨((7 - t.val) * 512 + ((7 - j) * 64 + 1 * y0.val)) / 64, _⟩ ⟨(h % 8 * 128 + 1 * y1.val) / 128, _⟩
    ⟨((7 - t.val) * 512 + ((7 - j) * 64 + 1 * y0.val)) % 64, _⟩ ⟨(h % 8 * 128 + 1 * y1.val) % 128, _⟩ = G (cn t.val j) (hd h) y0 y1
  congr 1
  · exact Fin.ext (show ((7 - t.val) * 512 + ((7 - j) * 64 + 1 * y0.val)) / 64 = (63 - (t.val * 8 + j)) % 64 by omega)
  · exact Fin.ext (show (h % 8 * 128 + 1 * y1.val) / 128 = h % 8 by omega)
  · exact Fin.ext (show ((7 - t.val) * 512 + ((7 - j) * 64 + 1 * y0.val)) % 64 = y0.val by omega)
  · exact Fin.ext (show (h % 8 * 128 + 1 * y1.val) % 128 = y1.val by omega)

theorem square_rows (X : FVec Ideal S8x512x64 .f32) (a : S8x4096x64.Idx → ℝ) (hX : ∀ g i l, X (ix3 g i l) = up a (ix3 g (at_row t i) l)) :
    square (φ := .f32) X j h = mat1 fun i l => a (ix3 (hd h) (row (cn t.val j) i) l) := by
  have ht := lt8 t
  funext y
  idx_vars y
  refine (congrArg X (a₂ := ix3 ⟨h % 8 + 1 * y0.val, by omega⟩ ⟨(7 - j) * 64 + 1 * y1.val, by omega⟩ ⟨0 + 1 * y2.val, by omega⟩) (funext fun z => by fin_cases z <;> rfl)).trans ((hX _ _ _).trans
    (congrArg (fun r : ℝ => (r : EReal)) (congrArg a ?_)))
  show ix3 _ _ _ = ix3 (hd h) (row (cn t.val j) y1) y2
  congr 1
  · exact Fin.ext (show h % 8 + 1 * y0.val = h % 8 by omega)
  · exact Fin.ext (show (7 - t.val) * 512 + ((7 - j) * 64 + 1 * y1.val) = (63 - (t.val * 8 + j)) % 64 * 64 + y1.val by omega)
  · exact Fin.ext (show 0 + 1 * y2.val = y2.val by omega)

theorem decay_rows (X : FVec Ideal S8x8x128 .f32) (f : Fin 64 → Fin 8 → ℝ)
    (hX : ∀ g i l, X (ix3 g i l) = up (fun y : S8x64x128.Idx => f (y 1) (y 0)) (ix3 g (at_chunk t i) l)) :
    decay X j h = up fun _ => f (cn t.val j) (hd h) := by
  have ht := lt8 t
  funext y
  idx_vars y
  refine (congrArg X (a₂ := ix3 ⟨h % 8 + 1 * y0.val, by omega⟩ ⟨7 - j + 1 * y1.val, by omega⟩ ⟨0 + 1 * y2.val, by omega⟩) (funext fun z => by fin_cases z <;> rfl)).trans ((hX _ _ _).trans
    (congrArg (fun r : ℝ => (r : EReal)) ?_))
  exact congrArg₂ f (Fin.ext (show (7 - t.val) * 8 + (7 - j + 1 * y1.val) = (63 - (t.val * 8 + j)) % 64 by omega))
    (Fin.ext (show h % 8 + 1 * y0.val = h % 8 by omega))

theorem states_rows (X : FVec Ideal S8x8x128x128 .f32) (f : Fin 64 → Fin 8 → Fin 128 → Fin 128 → ℝ)
    (hX : ∀ g i r l, X (ix4 g i r l) = up (fun y : S8x64x128x128.Idx => f (y 1) (y 0) (y 2) (y 3)) (ix4 g (at_chunk t i) r l)) :
    states X j h = mat2 (f (cn t.val j) (hd h)) := by
  have ht := lt8 t
  funext y
  idx_vars y
  refine (congrArg X (a₂ := ix4 ⟨h % 8 + 1 * y0.val, by omega⟩ ⟨7 - j + 1 * y1.val, by omega⟩ ⟨0 + 1 * y2.val, by omega⟩ ⟨0 + 1 * y3.val, by omega⟩) (funext fun z => by fin_cases z <;> rfl)).trans ((hX _ _ _ _).trans
    (congrArg (fun r : ℝ => (r : EReal)) ?_))
  show f _ _ _ _ = f (cn t.val j) (hd h) y2 y3
  congr 1
  · exact Fin.ext (show (7 - t.val) * 8 + (7 - j + 1 * y1.val) = (63 - (t.val * 8 + j)) % 64 by omega)
  · exact Fin.ext (show h % 8 + 1 * y0.val = h % 8 by omega)
  · exact Fin.ext (show 0 + 1 * y2.val = y2.val by omega)
  · exact Fin.ext (show 0 + 1 * y3.val = y3.val by omega)

end Cuts

theorem carry_of (D : State) (h : ℕ) : carry (up fun y : S8x128x128.Idx => D (y 0) (y 1) (y 2)) h = mat1 (D (hd h)) := by
  funext y
  idx_vars y
  refine congrArg (fun r : ℝ => (r : EReal)) ?_
  show D _ _ _ = D (hd h) y1 y2
  congr 1
  · exact Fin.ext (show h % 8 + 1 * y0.val = h % 8 by omega)
  · exact Fin.ext (show 0 + 1 * y1.val = y1.val by omega)
  · exact Fin.ext (show 0 + 1 * y2.val = y2.val by omega)

theorem laid_cut (f : S4096x1024.Idx → ℝ) : laid (cut f) = f := by
  funext y
  idx_vars y
  show f (ix2 _ _) = _
  congr 2
  · exact Fin.ext (show y0.val / 64 * 64 + y0.val % 64 = y0.val by omega)
  · exact Fin.ext (show y1.val / 128 * 128 + y1.val % 128 = y1.val by omega)

variable {m} {c : Dev nD} (H : Args m c o w u q k a e)
include H

set_option maxHeartbeats 2000000 in
/-- The blocks of a point hold the data of its chunks. -/
theorem reads_at (t : Fin cfg0.N) (first : ℕ → Vec Ideal S1x128x128 .f32)
    (hf : ∀ h, first h = mat1 (gradAt (data o w u q k a e) (t.val * 8) (hd h))) :
    Reads (at_point m c t) first (data o w u q k a e) t.val where
  o j hj h := wide_rows t hj h _ _ fun i l => (read0 t (V m c main_arg0) i l).trans
    (congrFun ((V_main_arg0 m c).trans (H.o.trans (congrArg up (laid_cut o).symm))) _)
  w j hj h := wide_rows t hj h _ _ fun i l => (read1 t (V m c main_arg1) i l).trans
    (congrFun ((V_main_arg1 m c).trans (H.w.trans (congrArg up (laid_cut w).symm))) _)
  q j hj h := wide_rows t hj h _ _ fun i l => (read2 t (V m c main_arg3) i l).trans
    (congrFun ((V_main_arg3 m c).trans (H.q.trans (congrArg up (laid_cut q).symm))) _)
  k j hj h := wide_rows t hj h _ _ fun i l => (read3 t (V m c main_arg4) i l).trans
    (congrFun ((V_main_arg4 m c).trans (H.k.trans (congrArg up (laid_cut k).symm))) _)
  a j hj h := square_rows t hj h _ _ fun g i l => (read4 t (V m c main_arg5) g i l).trans
    (congrFun ((V_main_arg5 m c).trans H.a) _)
  e j hj h := decay_rows t hj h _ _ fun g i l => (read5 t (V m c main_v71) g i l).trans
    (congrFun ((V_lanes m c).trans (by rw [H.e, lanes_up (o := o) (fw := w) (fu := u) (q := q) (fk := k) (a := a)])) _)
  v j hj h := wide_rows t hj h _ _ fun i l => (read6 t (V m c main_v72) i l).trans
    (congrFun ((V_newValues m c).trans (by rw [H.w, H.k, H.u, H.e, newValues_up (o := o) (q := q) (a := a)])) _)
  s j hj h := states_rows t hj h _ (fun n h => state (data o w u q k a e) n.val h) fun g i r l => (read7 t (V m c main_v65) g i r l).trans
    (congrFun ((V_states m c).trans (by rw [H.w, H.k, H.u, H.e, before_up (o := o) (q := q) (a := a)]; rfl)) _)
  first := hf

/-- What a point leaves carried, if it starts from the gradient before it. -/
theorem carries (t : Fin cfg0.N) (first : ℕ → Vec Ideal S1x128x128 .f32) (z : List (View.Piece (Elt Ideal) S8x128x128 .f32))
    (hf : ∀ h, first h = mat1 (gradAt (data o w u q k a e) (t.val * 8) (hd h))) :
    View.canon (carryStores (at_point m c t) first ++ z) = up fun y : S8x128x128.Idx => gradAt (data o w u q k a e) ((t.val + 1) * 8) (y 0) (y 1) (y 2) :=
  carry_canon _ _ _ (gradAt (data o w u q k a e) ((t.val + 1) * 8)) fun h => carry_eq (reads_at H t first hf) h

omit H in
theorem zero_first (h : ℕ) : carry (k0_pay3 (F := Ideal)) h = mat1 (gradAt (data o w u q k a e) 0 (hd h)) := by
  rw [← carry_of]
  congr 1
  funext y
  idx_vars y
  pointwise [k0_pay3]
  rfl

theorem after_first (t : Fin cfg0.N) (h0 : t.val % 8 = 0) : (outsAt0 m c t.val t.isLt).2.2.2.2.2.2
    = up fun y : S8x128x128.Idx => gradAt (data o w u q k a e) ((t.val + 1) * 8) (y 0) (y 1) (y 2) := by
  have h8 := lt8 t
  rw [first_point m c t h0]
  refine carries H t _ _ fun h => ?_
  rw [show t.val * 8 = 0 by omega]
  exact zero_first h

theorem after_later (t : Fin cfg0.N) (h0 : ¬t.val % 8 = 0)
    (ih : (outsAt0 m c (t.val - 1) (lt_of_le_of_lt (Nat.sub_le _ _) t.isLt)).2.2.2.2.2.2
      = up fun y : S8x128x128.Idx => gradAt (data o w u q k a e) ((t.val - 1 + 1) * 8) (y 0) (y 1) (y 2)) :
    (outsAt0 m c t.val t.isLt).2.2.2.2.2.2
      = up fun y : S8x128x128.Idx => gradAt (data o w u q k a e) ((t.val + 1) * 8) (y 0) (y 1) (y 2) := by
  rw [later_point m c t h0]
  refine carries H t _ _ fun h => ?_
  rw [ih, show (t.val - 1 + 1) * 8 = t.val * 8 by omega]
  exact carry_of _ h

theorem carried_after : ∀ (n : ℕ) (hn : n < cfg0.N), (outsAt0 m c n hn).2.2.2.2.2.2
    = up fun y : S8x128x128.Idx => gradAt (data o w u q k a e) ((n + 1) * 8) (y 0) (y 1) (y 2)
  | 0, hn => after_first H ⟨0, hn⟩ rfl
  | n + 1, hn => after_later H ⟨n + 1, hn⟩
    (by have h8 : n + 1 < 8 := lt_of_lt_of_eq hn N_0
        show ¬(n + 1) % 8 = 0
        omega) (carried_after n (Nat.lt_of_succ_lt hn))

/-- A point's results are those of its stores, and its blocks hold the data. -/
theorem point (t : Fin cfg0.N) : ∃ first z, outsAt0 m c t.val t.isLt = left (at_point m c t) first z
    ∧ Reads (at_point m c t) first (data o w u q k a e) t.val := by
  have h8 := lt8 t
  by_cases h0 : t.val % 8 = 0
  · refine ⟨_, _, first_point m c t h0, reads_at H t _ fun h => ?_⟩
    rw [show t.val * 8 = 0 by omega]
    exact zero_first h
  · refine ⟨_, _, later_point m c t h0, reads_at H t _ fun h => ?_⟩
    rw [carried_after H (t.val - 1), show (t.val - 1 + 1) * 8 = t.val * 8 by omega]
    exact carry_of _ h

omit H in
theorem laid_at (G : Rows) (t : Fin cfg0.N) (i : Fin 512) (l : Fin 1024) :
    G (rowChunk t.val i.val) (hd (l.val / 128)) (Fin.ofNat 64 i.val) (Fin.ofNat 128 l.val) = laid G (ix2 (at_row t i) l) := by
  have ht := lt8 t
  unfold laid
  congr 1
  · exact Fin.ext (show ((7 - t.val) * 8 + i.val / 64) % 64 = ((7 - t.val) * 512 + i.val) / 64 by omega)
  · exact Fin.ext (show l.val / 128 % 8 = l.val / 128 by omega)
  · exact Fin.ext (show i.val % 64 = ((7 - t.val) * 512 + i.val) % 64 by omega)

theorem final8 : (dats m 0 c).arrAt 8 (cfgs 0).N = up (laid (du (data o w u q k a e))) := by
  refine (dats m 0 c).arrAt_eq_of_covers 8 _ (by decide +kernel) fun p _ y => ?_
  have hj : ∀ (i : Fin 512) (l : Fin 1024), (win0_8.blk p).view.emb (ix2 i l) = (ix2 (at_row p i) l : S4096x1024.Idx) := fun i l => by
    blk_ext [idx p, at_row]
  obtain ⟨first, z, hE, r⟩ := point H p
  idx_vars y
  blk_simp
  rw [after0_8, hj, hE]
  refine (wide_canon (φ := .bf16) _ (du (data o w u q k a e)) (fun r => (r : EReal)) (lt8 p) (fun j hj h => tileU_eq r (lt8 p) hj h) (ix2 y0 y1)).trans ?_
  exact congrArg (fun r : ℝ => (r : EReal)) (laid_at _ p y0 y1)

theorem final9 : (dats m 0 c).arrAt 9 (cfgs 0).N = up (laid (dw (data o w u q k a e))) := by
  refine (dats m 0 c).arrAt_eq_of_covers 9 _ (by decide +kernel) fun p _ y => ?_
  have hj : ∀ (i : Fin 512) (l : Fin 1024), (win0_9.blk p).view.emb (ix2 i l) = (ix2 (at_row p i) l : S4096x1024.Idx) := fun i l => by
    blk_ext [idx p, at_row]
  obtain ⟨first, z, hE, r⟩ := point H p
  idx_vars y
  blk_simp
  rw [after0_9, hj, hE]
  refine (wide_canon (φ := .bf16) _ (dw (data o w u q k a e)) (fun r => (r : EReal)) (lt8 p) (fun j hj h => tileW_eq r (lt8 p) hj h) (ix2 y0 y1)).trans ?_
  exact congrArg (fun r : ℝ => (r : EReal)) (laid_at _ p y0 y1)

theorem final10 : (dats m 0 c).arrAt 10 (cfgs 0).N = up (laid (dq (data o w u q k a e))) := by
  refine (dats m 0 c).arrAt_eq_of_covers 10 _ (by decide +kernel) fun p _ y => ?_
  have hj : ∀ (i : Fin 512) (l : Fin 1024), (win0_10.blk p).view.emb (ix2 i l) = (ix2 (at_row p i) l : S4096x1024.Idx) := fun i l => by
    blk_ext [idx p, at_row]
  obtain ⟨first, z, hE, r⟩ := point H p
  idx_vars y
  blk_simp
  rw [after0_10, hj, hE]
  refine (wide_canon (φ := .f32) _ (dq (data o w u q k a e)) (fun r => (r : EReal)) (lt8 p) (fun j hj h => tileQ_eq r (lt8 p) hj h) (ix2 y0 y1)).trans ?_
  exact congrArg (fun r : ℝ => (r : EReal)) (laid_at _ p y0 y1)

theorem final11 : (dats m 0 c).arrAt 11 (cfgs 0).N = up (laid (dk (data o w u q k a e))) := by
  refine (dats m 0 c).arrAt_eq_of_covers 11 _ (by decide +kernel) fun p _ y => ?_
  have hj : ∀ (i : Fin 512) (l : Fin 1024), (win0_11.blk p).view.emb (ix2 i l) = (ix2 (at_row p i) l : S4096x1024.Idx) := fun i l => by
    blk_ext [idx p, at_row]
  obtain ⟨first, z, hE, r⟩ := point H p
  idx_vars y
  blk_simp
  rw [after0_11, hj, hE]
  refine (wide_canon (φ := .f32) _ (dk (data o w u q k a e)) (fun r => (r : EReal)) (lt8 p) (fun j hj h => tileK_eq r (lt8 p) hj h) (ix2 y0 y1)).trans ?_
  exact congrArg (fun r : ℝ => (r : EReal)) (laid_at _ p y0 y1)

set_option maxHeartbeats 4000000 in
theorem final12 : (dats m 0 c).arrAt 12 (cfgs 0).N = up (laidSquare (da (data o w u q k a e))) := by
  refine (dats m 0 c).arrAt_eq_of_covers 12 _ (by decide +kernel) fun p _ y => ?_
  have hj : ∀ (g : Fin 8) (i : Fin 512) (l : Fin 64), (win0_12.blk p).view.emb (ix3 g i l) = (ix3 g (at_row p i) l : S8x4096x64.Idx) := fun g i l => by
    blk_ext [idx p, at_row]
  obtain ⟨first, z, hE, r⟩ := point H p
  have hp := lt8 p
  idx_vars y
  blk_simp
  rw [after0_12, hj, hE]
  refine (square_canon _ (da (data o w u q k a e)) (lt8 p) (fun j hj h => tileA_eq r (lt8 p) hj h) (ix3 y0 y1 y2)).trans ?_
  refine congrArg (fun r : ℝ => (r : EReal)) ?_
  unfold laidSquare
  show da _ (rowChunk p.val y1.val) y0 (Fin.ofNat 64 y1.val) y2 = da _ _ y0 _ y2
  congr 1
  · exact Fin.ext (show ((7 - p.val) * 8 + y1.val / 64) % 64 = ((7 - p.val) * 512 + y1.val) / 64 by omega)
  · exact Fin.ext (show y1.val % 64 = ((7 - p.val) * 512 + y1.val) % 64 by omega)

set_option maxHeartbeats 4000000 in
theorem final13 : (dats m 0 c).arrAt 13 (cfgs 0).N = up (laidFactor (de (data o w u q k a e))) := by
  refine (dats m 0 c).arrAt_eq_of_covers 13 _ (by decide +kernel) fun p _ y => ?_
  have hj : ∀ (g i : Fin 8) (l : Fin 128), (win0_13.blk p).view.emb (ix3 g i l) = (ix3 g (at_chunk p i) l : S8x64x128.Idx) := fun g i l => by
    blk_ext [idx p, at_chunk]
  obtain ⟨first, z, hE, r⟩ := point H p
  have hp := lt8 p
  idx_vars y
  blk_simp
  rw [after0_13, hj, hE]
  refine (decay_canon _ (de (data o w u q k a e)) (lt8 p) (fun j hj h => tileE_eq r (lt8 p) hj h) (ix3 y0 y1 y2)).trans ?_
  exact congrArg (fun r : ℝ => (r : EReal)) (congrArg (fun n => de _ n y0)
    (Fin.ext (show ((7 - p.val) * 8 + y1.val) % 64 = (7 - p.val) * 8 + y1.val by omega)))

end Cert.RecArrays

end
-- ==== Proof.Rec.lean ====
/-
The gradient of the scan over the chunks: kernel and reference end with the same six arrays.
-/
module

public import proofs.«01_k».proof.Defs
public import proofs.«01_k».proof.Proof.RecArrays
public import proofs.«01_k».proof.Proof.RecRef
public import proofs.«01_k».proof.Proof.Gen.Pre_finite_rec
public import Idealize.ShloMosaic.Lib.Claim

@[expose] public section

set_option maxRecDepth 16384

noncomputable section

namespace Cert.Rec

open Cert.RealLift Idealize.ShloMosaic Idealize.SL.Sem

/-- The precondition: the arguments are arrays of reals. -/
theorem args_of_pre (m : (ℓ : Loc Cert.RecKernelIdeal.nD Cert.RecKernelIdeal.τ Cert.RecKernelIdeal.sig) → Buf (Elt Ideal) ℓ)
    (h : Cert.Pre_RecKernelIdeal_finite_rec m) (c : Dev Cert.RecKernelIdeal.nD) :
    ∃ o w u q k a e, RecArrays.Args m c o w u q k a e := by
  have hc := congrFun (h c) (fun a => a.elim0)
  have hc' : IntOp.andi (IntOp.andi (IntOp.andi (IntOp.andi (IntOp.andi (IntOp.andi _ _) _) _) _) _) _ = 1#1 := hc
  obtain ⟨k5, h6⟩ := IntOp.andi_eq_one.1 hc'
  obtain ⟨k4, h5⟩ := IntOp.andi_eq_one.1 k5
  obtain ⟨k3, h4⟩ := IntOp.andi_eq_one.1 k4
  obtain ⟨k2, h3⟩ := IntOp.andi_eq_one.1 k3
  obtain ⟨k1, h2⟩ := IntOp.andi_eq_one.1 k2
  obtain ⟨h0, h1⟩ := IntOp.andi_eq_one.1 k1
  haveI : Subsingleton Cert.Pre_finite_rec.S_.Idx := ⟨fun a b => funext fun k => k.elim0⟩
  obtain ⟨x0, e0⟩ := exists_up _ _ _ _ _ _ h0
  obtain ⟨x1, e1⟩ := exists_up _ _ _ _ _ _ h1
  obtain ⟨x2, e2⟩ := exists_up _ _ _ _ _ _ h2
  obtain ⟨x3, e3⟩ := exists_up _ _ _ _ _ _ h3
  obtain ⟨x4, e4⟩ := exists_up _ _ _ _ _ _ h4
  obtain ⟨x5, e5⟩ := exists_up _ _ _ _ _ _ h5
  obtain ⟨x6, e6⟩ := exists_up _ _ _ _ _ _ h6
  exact ⟨x0, x1, x2, x3, x4, x5, x6, e0, e1, e2, e3, e4, e5, e6⟩

/-- The run leaves the six windows' arrays. -/
theorem results (m : (ℓ : Loc Cert.RecKernelIdeal.nD Cert.RecKernelIdeal.τ Cert.RecKernelIdeal.sig) → Buf (Elt Ideal) ℓ) (g : Dev Cert.RecKernelIdeal.nD → PrngReg) :
    θ_run (Cert.RecKernelIdeal.defs (F := Ideal)) (onTc (τ := Cert.RecKernelIdeal.τ) (Cert.RecKernelIdeal.main (F := Ideal))) ⟨m, fun _ => 0, g⟩ (fun r => ∀ c : Dev Cert.RecKernelIdeal.nD,
      r.2.mem ((c.tc : Thread Cert.RecKernelIdeal.nD Cert.RecKernelIdeal.τ).loc Cert.RecKernelIdeal.main_v73_0) = (Cert.RecKernelIdeal.Gen.dats m 0 c).arrAt 8 (Cert.RecKernelIdeal.cfgs 0).N
      ∧ r.2.mem ((c.tc : Thread Cert.RecKernelIdeal.nD Cert.RecKernelIdeal.τ).loc Cert.RecKernelIdeal.main_v73_1) = (Cert.RecKernelIdeal.Gen.dats m 0 c).arrAt 9 (Cert.RecKernelIdeal.cfgs 0).N
      ∧ r.2.mem ((c.tc : Thread Cert.RecKernelIdeal.nD Cert.RecKernelIdeal.τ).loc Cert.RecKernelIdeal.main_v73_2) = (Cert.RecKernelIdeal.Gen.dats m 0 c).arrAt 10 (Cert.RecKernelIdeal.cfgs 0).N
      ∧ r.2.mem ((c.tc : Thread Cert.RecKernelIdeal.nD Cert.RecKernelIdeal.τ).loc Cert.RecKernelIdeal.main_v73_3) = (Cert.RecKernelIdeal.Gen.dats m 0 c).arrAt 11 (Cert.RecKernelIdeal.cfgs 0).N
      ∧ r.2.mem ((c.tc : Thread Cert.RecKernelIdeal.nD Cert.RecKernelIdeal.τ).loc Cert.RecKernelIdeal.main_v73_4) = (Cert.RecKernelIdeal.Gen.dats m 0 c).arrAt 12 (Cert.RecKernelIdeal.cfgs 0).N
      ∧ r.2.mem ((c.tc : Thread Cert.RecKernelIdeal.nD Cert.RecKernelIdeal.τ).loc Cert.RecKernelIdeal.main_v73_5) = (Cert.RecKernelIdeal.Gen.dats m 0 c).arrAt 13 (Cert.RecKernelIdeal.cfgs 0).N) :=
  (θ_run _ _ _).mono (fun _ h c => ⟨(h c).1 8, (h c).1 9, (h c).1 10, (h c).1 11, (h c).1 12, (h c).1 13⟩) (Cert.RecKernelIdeal.Gen.run_main m g)

/-- The reference's run leaves its six results. -/
theorem results_ref (m : (ℓ : Loc Cert.RecReferenceIdeal.nD Cert.RecReferenceIdeal.τ Cert.RecReferenceIdeal.sig) → Buf (Elt Ideal) ℓ)
    (g : Dev Cert.RecReferenceIdeal.nD → PrngReg) :
    θ_run (Cert.RecReferenceIdeal.defs (F := Ideal)) (onTc (τ := Cert.RecReferenceIdeal.τ) (Cert.RecReferenceIdeal.main (F := Ideal))) ⟨m, fun _ => 0, g⟩
      (fun r => ∀ c : Dev Cert.RecReferenceIdeal.nD,
      r.2.mem ((c.tc : Thread Cert.RecReferenceIdeal.nD Cert.RecReferenceIdeal.τ).loc Cert.RecReferenceIdeal.main_v53) = RecRun.ending m c (Proc.devRef .tc Cert.RecReferenceIdeal.main_v53)
      ∧ r.2.mem ((c.tc : Thread Cert.RecReferenceIdeal.nD Cert.RecReferenceIdeal.τ).loc Cert.RecReferenceIdeal.main_v54) = RecRun.ending m c (Proc.devRef .tc Cert.RecReferenceIdeal.main_v54)
      ∧ r.2.mem ((c.tc : Thread Cert.RecReferenceIdeal.nD Cert.RecReferenceIdeal.τ).loc Cert.RecReferenceIdeal.main_v48) = RecRun.ending m c (Proc.devRef .tc Cert.RecReferenceIdeal.main_v48)
      ∧ r.2.mem ((c.tc : Thread Cert.RecReferenceIdeal.nD Cert.RecReferenceIdeal.τ).loc Cert.RecReferenceIdeal.main_v46) = RecRun.ending m c (Proc.devRef .tc Cert.RecReferenceIdeal.main_v46)
      ∧ r.2.mem ((c.tc : Thread Cert.RecReferenceIdeal.nD Cert.RecReferenceIdeal.τ).loc Cert.RecReferenceIdeal.main_v44) = RecRun.ending m c (Proc.devRef .tc Cert.RecReferenceIdeal.main_v44)
      ∧ r.2.mem ((c.tc : Thread Cert.RecReferenceIdeal.nD Cert.RecReferenceIdeal.τ).loc Cert.RecReferenceIdeal.main_v56) = RecRun.ending m c (Proc.devRef .tc Cert.RecReferenceIdeal.main_v56)) :=
  (θ_run _ _ _).mono (fun _ h c => ⟨h c _ rfl, h c _ rfl, h c _ rfl, h c _ rfl, h c _ rfl, h c _ rfl⟩) (RecRun.run m g)

/-- What an argument of the reference holds when the run begins. -/
theorem begins (m' : (ℓ : Loc Cert.RecReferenceIdeal.nD Cert.RecReferenceIdeal.τ Cert.RecReferenceIdeal.sig) → Buf (Elt Ideal) ℓ) (c : Dev Cert.RecReferenceIdeal.nD) (r : Ref Cert.RecReferenceIdeal.sig .tc) :
    StableHlo.launchContents m' c (Proc.devRef .tc r) = m' ((c.tc : Thread Cert.RecReferenceIdeal.nD Cert.RecReferenceIdeal.τ).loc r) := rfl

/-- The reference's arguments are the kernel's. -/
theorem args_ref {m : (ℓ : Loc Cert.RecKernelIdeal.nD Cert.RecKernelIdeal.τ Cert.RecKernelIdeal.sig) → Buf (Elt Ideal) ℓ} {m' : (ℓ : Loc Cert.RecReferenceIdeal.nD Cert.RecReferenceIdeal.τ Cert.RecReferenceIdeal.sig) → Buf (Elt Ideal) ℓ} {c : Dev Cert.RecKernelIdeal.nD}
    {o w u q k a e} (h : RecArrays.Args m c o w u q k a e)
    (h0 : m' ((c.tc : Thread Cert.RecReferenceIdeal.nD Cert.RecReferenceIdeal.τ).loc Cert.RecReferenceIdeal.main_arg0) = m ((c.tc : Thread Cert.RecKernelIdeal.nD Cert.RecKernelIdeal.τ).loc Cert.RecKernelIdeal.main_arg0))
    (h1 : m' ((c.tc : Thread Cert.RecReferenceIdeal.nD Cert.RecReferenceIdeal.τ).loc Cert.RecReferenceIdeal.main_arg1) = m ((c.tc : Thread Cert.RecKernelIdeal.nD Cert.RecKernelIdeal.τ).loc Cert.RecKernelIdeal.main_arg1))
    (h2 : m' ((c.tc : Thread Cert.RecReferenceIdeal.nD Cert.RecReferenceIdeal.τ).loc Cert.RecReferenceIdeal.main_arg2) = m ((c.tc : Thread Cert.RecKernelIdeal.nD Cert.RecKernelIdeal.τ).loc Cert.RecKernelIdeal.main_arg2))
    (h3 : m' ((c.tc : Thread Cert.RecReferenceIdeal.nD Cert.RecReferenceIdeal.τ).loc Cert.RecReferenceIdeal.main_arg3) = m ((c.tc : Thread Cert.RecKernelIdeal.nD Cert.RecKernelIdeal.τ).loc Cert.RecKernelIdeal.main_arg3))
    (h4 : m' ((c.tc : Thread Cert.RecReferenceIdeal.nD Cert.RecReferenceIdeal.τ).loc Cert.RecReferenceIdeal.main_arg4) = m ((c.tc : Thread Cert.RecKernelIdeal.nD Cert.RecKernelIdeal.τ).loc Cert.RecKernelIdeal.main_arg4))
    (h5 : m' ((c.tc : Thread Cert.RecReferenceIdeal.nD Cert.RecReferenceIdeal.τ).loc Cert.RecReferenceIdeal.main_arg5) = m ((c.tc : Thread Cert.RecKernelIdeal.nD Cert.RecKernelIdeal.τ).loc Cert.RecKernelIdeal.main_arg5))
    (h6 : m' ((c.tc : Thread Cert.RecReferenceIdeal.nD Cert.RecReferenceIdeal.τ).loc Cert.RecReferenceIdeal.main_arg6) = m ((c.tc : Thread Cert.RecKernelIdeal.nD Cert.RecKernelIdeal.τ).loc Cert.RecKernelIdeal.main_arg6)) :
    RecRef.Args m' c o w u q k a e where
  o := by
    rw [begins]
    exact h0.trans h.o
  w := by
    rw [begins]
    exact h1.trans h.w
  u := by
    rw [begins]
    exact h2.trans h.u
  q := by
    rw [begins]
    exact h3.trans h.q
  k := by
    rw [begins]
    exact h4.trans h.k
  a := by
    rw [begins]
    exact h5.trans h.a
  e := by
    rw [begins]
    exact h6.trans h.e

theorem same_du {m : (ℓ : Loc Cert.RecKernelIdeal.nD Cert.RecKernelIdeal.τ Cert.RecKernelIdeal.sig) → Buf (Elt Ideal) ℓ} {m' : (ℓ : Loc Cert.RecReferenceIdeal.nD Cert.RecReferenceIdeal.τ Cert.RecReferenceIdeal.sig) → Buf (Elt Ideal) ℓ} {c : Dev Cert.RecKernelIdeal.nD} {o w u q k a e}
    (h : RecArrays.Args m c o w u q k a e) (h' : RecRef.Args m' c o w u q k a e) :
    RecRun.ending m' c (Proc.devRef .tc Cert.RecReferenceIdeal.main_v53) = (Cert.RecKernelIdeal.Gen.dats m 0 c).arrAt 8 (Cert.RecKernelIdeal.cfgs 0).N :=
  (RecRef.result_du h').trans (RecArrays.final8 h).symm

theorem same_dw {m : (ℓ : Loc Cert.RecKernelIdeal.nD Cert.RecKernelIdeal.τ Cert.RecKernelIdeal.sig) → Buf (Elt Ideal) ℓ} {m' : (ℓ : Loc Cert.RecReferenceIdeal.nD Cert.RecReferenceIdeal.τ Cert.RecReferenceIdeal.sig) → Buf (Elt Ideal) ℓ} {c : Dev Cert.RecKernelIdeal.nD} {o w u q k a e}
    (h : RecArrays.Args m c o w u q k a e) (h' : RecRef.Args m' c o w u q k a e) :
    RecRun.ending m' c (Proc.devRef .tc Cert.RecReferenceIdeal.main_v54) = (Cert.RecKernelIdeal.Gen.dats m 0 c).arrAt 9 (Cert.RecKernelIdeal.cfgs 0).N :=
  (RecRef.result_dw h').trans (RecArrays.final9 h).symm

theorem same_dq {m : (ℓ : Loc Cert.RecKernelIdeal.nD Cert.RecKernelIdeal.τ Cert.RecKernelIdeal.sig) → Buf (Elt Ideal) ℓ} {m' : (ℓ : Loc Cert.RecReferenceIdeal.nD Cert.RecReferenceIdeal.τ Cert.RecReferenceIdeal.sig) → Buf (Elt Ideal) ℓ} {c : Dev Cert.RecKernelIdeal.nD} {o w u q k a e}
    (h : RecArrays.Args m c o w u q k a e) (h' : RecRef.Args m' c o w u q k a e) :
    RecRun.ending m' c (Proc.devRef .tc Cert.RecReferenceIdeal.main_v48) = (Cert.RecKernelIdeal.Gen.dats m 0 c).arrAt 10 (Cert.RecKernelIdeal.cfgs 0).N :=
  (RecRef.result_dq h').trans (RecArrays.final10 h).symm

theorem same_dk {m : (ℓ : Loc Cert.RecKernelIdeal.nD Cert.RecKernelIdeal.τ Cert.RecKernelIdeal.sig) → Buf (Elt Ideal) ℓ} {m' : (ℓ : Loc Cert.RecReferenceIdeal.nD Cert.RecReferenceIdeal.τ Cert.RecReferenceIdeal.sig) → Buf (Elt Ideal) ℓ} {c : Dev Cert.RecKernelIdeal.nD} {o w u q k a e}
    (h : RecArrays.Args m c o w u q k a e) (h' : RecRef.Args m' c o w u q k a e) :
    RecRun.ending m' c (Proc.devRef .tc Cert.RecReferenceIdeal.main_v46) = (Cert.RecKernelIdeal.Gen.dats m 0 c).arrAt 11 (Cert.RecKernelIdeal.cfgs 0).N :=
  (RecRef.result_dk h').trans (RecArrays.final11 h).symm

theorem same_da {m : (ℓ : Loc Cert.RecKernelIdeal.nD Cert.RecKernelIdeal.τ Cert.RecKernelIdeal.sig) → Buf (Elt Ideal) ℓ} {m' : (ℓ : Loc Cert.RecReferenceIdeal.nD Cert.RecReferenceIdeal.τ Cert.RecReferenceIdeal.sig) → Buf (Elt Ideal) ℓ} {c : Dev Cert.RecKernelIdeal.nD} {o w u q k a e}
    (h : RecArrays.Args m c o w u q k a e) (h' : RecRef.Args m' c o w u q k a e) :
    RecRun.ending m' c (Proc.devRef .tc Cert.RecReferenceIdeal.main_v44) = (Cert.RecKernelIdeal.Gen.dats m 0 c).arrAt 12 (Cert.RecKernelIdeal.cfgs 0).N :=
  (RecRef.result_da h').trans (RecArrays.final12 h).symm

theorem same_de {m : (ℓ : Loc Cert.RecKernelIdeal.nD Cert.RecKernelIdeal.τ Cert.RecKernelIdeal.sig) → Buf (Elt Ideal) ℓ} {m' : (ℓ : Loc Cert.RecReferenceIdeal.nD Cert.RecReferenceIdeal.τ Cert.RecReferenceIdeal.sig) → Buf (Elt Ideal) ℓ} {c : Dev Cert.RecKernelIdeal.nD} {o w u q k a e}
    (h : RecArrays.Args m c o w u q k a e) (h' : RecRef.Args m' c o w u q k a e) :
    RecRun.ending m' c (Proc.devRef .tc Cert.RecReferenceIdeal.main_v56) = (Cert.RecKernelIdeal.Gen.dats m 0 c).arrAt 13 (Cert.RecKernelIdeal.cfgs 0).N :=
  (RecRef.result_de h').trans (RecArrays.final13 h).symm

/-- The reference's results are the kernel's. -/
theorem results_same (m : (ℓ : Loc Cert.RecKernelIdeal.nD Cert.RecKernelIdeal.τ Cert.RecKernelIdeal.sig) → Buf (Elt Ideal) ℓ) (m' : (ℓ : Loc Cert.RecReferenceIdeal.nD Cert.RecReferenceIdeal.τ Cert.RecReferenceIdeal.sig) → Buf (Elt Ideal) ℓ)
    (g' : Dev Cert.RecReferenceIdeal.nD → PrngReg) (hpre : Cert.Pre_RecKernelIdeal_finite_rec m) (hagree : ∀ c : Dev Cert.RecKernelIdeal.nD,
      m' ((c.tc : Thread Cert.RecReferenceIdeal.nD Cert.RecReferenceIdeal.τ).loc Cert.RecReferenceIdeal.main_arg0) = m ((c.tc : Thread Cert.RecKernelIdeal.nD Cert.RecKernelIdeal.τ).loc Cert.RecKernelIdeal.main_arg0) ∧
      m' ((c.tc : Thread Cert.RecReferenceIdeal.nD Cert.RecReferenceIdeal.τ).loc Cert.RecReferenceIdeal.main_arg1) = m ((c.tc : Thread Cert.RecKernelIdeal.nD Cert.RecKernelIdeal.τ).loc Cert.RecKernelIdeal.main_arg1) ∧
      m' ((c.tc : Thread Cert.RecReferenceIdeal.nD Cert.RecReferenceIdeal.τ).loc Cert.RecReferenceIdeal.main_arg2) = m ((c.tc : Thread Cert.RecKernelIdeal.nD Cert.RecKernelIdeal.τ).loc Cert.RecKernelIdeal.main_arg2) ∧
      m' ((c.tc : Thread Cert.RecReferenceIdeal.nD Cert.RecReferenceIdeal.τ).loc Cert.RecReferenceIdeal.main_arg3) = m ((c.tc : Thread Cert.RecKernelIdeal.nD Cert.RecKernelIdeal.τ).loc Cert.RecKernelIdeal.main_arg3) ∧
      m' ((c.tc : Thread Cert.RecReferenceIdeal.nD Cert.RecReferenceIdeal.τ).loc Cert.RecReferenceIdeal.main_arg4) = m ((c.tc : Thread Cert.RecKernelIdeal.nD Cert.RecKernelIdeal.τ).loc Cert.RecKernelIdeal.main_arg4) ∧
      m' ((c.tc : Thread Cert.RecReferenceIdeal.nD Cert.RecReferenceIdeal.τ).loc Cert.RecReferenceIdeal.main_arg5) = m ((c.tc : Thread Cert.RecKernelIdeal.nD Cert.RecKernelIdeal.τ).loc Cert.RecKernelIdeal.main_arg5) ∧
      m' ((c.tc : Thread Cert.RecReferenceIdeal.nD Cert.RecReferenceIdeal.τ).loc Cert.RecReferenceIdeal.main_arg6) = m ((c.tc : Thread Cert.RecKernelIdeal.nD Cert.RecKernelIdeal.τ).loc Cert.RecKernelIdeal.main_arg6)) :
    θ_run (Cert.RecReferenceIdeal.defs (F := Ideal)) (onTc (τ := Cert.RecReferenceIdeal.τ) (Cert.RecReferenceIdeal.main (F := Ideal))) ⟨m', fun _ => 0, g'⟩ (fun r => ∀ c : Dev Cert.RecKernelIdeal.nD,
      r.2.mem ((c.tc : Thread Cert.RecReferenceIdeal.nD Cert.RecReferenceIdeal.τ).loc Cert.RecReferenceIdeal.main_v53) = (Cert.RecKernelIdeal.Gen.dats m 0 c).arrAt 8 (Cert.RecKernelIdeal.cfgs 0).N ∧
      r.2.mem ((c.tc : Thread Cert.RecReferenceIdeal.nD Cert.RecReferenceIdeal.τ).loc Cert.RecReferenceIdeal.main_v54) = (Cert.RecKernelIdeal.Gen.dats m 0 c).arrAt 9 (Cert.RecKernelIdeal.cfgs 0).N ∧
      r.2.mem ((c.tc : Thread Cert.RecReferenceIdeal.nD Cert.RecReferenceIdeal.τ).loc Cert.RecReferenceIdeal.main_v48) = (Cert.RecKernelIdeal.Gen.dats m 0 c).arrAt 10 (Cert.RecKernelIdeal.cfgs 0).N ∧
      r.2.mem ((c.tc : Thread Cert.RecReferenceIdeal.nD Cert.RecReferenceIdeal.τ).loc Cert.RecReferenceIdeal.main_v46) = (Cert.RecKernelIdeal.Gen.dats m 0 c).arrAt 11 (Cert.RecKernelIdeal.cfgs 0).N ∧
      r.2.mem ((c.tc : Thread Cert.RecReferenceIdeal.nD Cert.RecReferenceIdeal.τ).loc Cert.RecReferenceIdeal.main_v44) = (Cert.RecKernelIdeal.Gen.dats m 0 c).arrAt 12 (Cert.RecKernelIdeal.cfgs 0).N ∧
      r.2.mem ((c.tc : Thread Cert.RecReferenceIdeal.nD Cert.RecReferenceIdeal.τ).loc Cert.RecReferenceIdeal.main_v56) = (Cert.RecKernelIdeal.Gen.dats m 0 c).arrAt 13 (Cert.RecKernelIdeal.cfgs 0).N) := by
  refine (θ_run _ _ _).mono (fun r hr c => ?_) (results_ref m' g')
  obtain ⟨o, w, u, q, k, a, e, h⟩ := args_of_pre m hpre c
  obtain ⟨h0, h1, h2, h3, h4, h5, h6⟩ := hagree c
  have h' := args_ref (m := m) (m' := m') (c := c) h h0 h1 h2 h3 h4 h5 h6
  obtain ⟨r0, r1, r2, r3, r4, r5⟩ := hr c
  exact ⟨r0.trans (same_du h h'), r1.trans (same_dw h h'), r2.trans (same_dq h h'), r3.trans (same_dk h h'), r4.trans (same_da h h'), r5.trans (same_de h h')⟩

theorem algebraic : Cert.algebraic_RecKernelIdeal_RecReferenceIdeal_pre_finite_rec := by
  pair_intro
  · run_from (results m g) & (Cert.RecKernelIdeal.Gen.unchanged m g)
  · run_from (results_same m m' g' hpre hagree) & RecRun.frame_ref m' g' True.intro

theorem frame_ref : Cert.quiescent_RecReferenceIdeal := RecRun.frame_ref

end Cert.Rec

end
-- ==== Proof.GprojBlock.lean ====
/-
One block of the gradient of a pre-norm and the projection behind it: what the kernel's body computes from 256 rows of
reals.
-/
module

public import proofs.«01_k».proof.Proof.RmsGrad
public import proofs.«01_k».proof.Proof.Gen.GprojKernelIdeal.Value
public import Idealize.ShloMosaic.Lib.Pipeline.ValueKit

@[expose] public section

set_option maxRecDepth 16384

noncomputable section

namespace Cert.GprojBlock

open Cert.RealLift Cert.RmsGrad Idealize.ShloMosaic Idealize.ShloMosaic.Pipeline
open Cert.GprojKernelIdeal Cert.GprojKernelIdeal.Gen

variable (x : S256x1024.Idx → ℝ) (g : S1x1024.Idx → ℝ) (p0 p1 p2 p3 : S256x1024.Idx → ℝ) (b : S256x16.Idx → ℝ)
  (w0 w1 w2 w3 : S1024x1024.Idx → ℝ) (wb : S1024x16.Idx → ℝ)

/-- A row of the block. -/
abbrev row (i : Fin 256) (k : Fin 1024) : ℝ := x (ix2 i k)

/-- A product with some of the weight's columns. -/
def part (p : S256x1024.Idx → ℝ) (w : S1024x1024.Idx → ℝ) (i : Fin 256) (k : Fin 1024) : ℝ := ∑ l, p (ix2 i l) * w (ix2 k l)

/-- The product with the gates' columns. -/
def last (i : Fin 256) (k : Fin 1024) : ℝ := ∑ l, b (ix2 i l) * wb (ix2 k l)

/-- The block's cotangent behind the projection. -/
def ct (i : Fin 256) (k : Fin 1024) : ℝ := part p0 w0 i k + part p1 w1 i k + part p2 w2 i k + part p3 w3 i k + last b wb i k

/-- The block's cotangent as the body forms it. -/
abbrev ctPay : FVec Ideal S256x1024 .f32 :=
  k0_pay8 (F := Ideal) (k0_pay5 (up p0) (up w0) (up p1) (up w1) (up p2) (up w2)) (k0_pay6 (up p3)) (k0_pay7 (up w3)) (up b) (up wb)

theorem three_at (i : Fin 256) (k : Fin 1024) : k0_pay5 (F := Ideal) (up p0) (up w0) (up p1) (up w1) (up p2) (up w2) (ix2 i k)
    = ((part p0 w0 i k + part p1 w1 i k + part p2 w2 i k : ℝ) : EReal) := by
  pointwise [k0_pay5, k0_pay2, k0_pay3, k0_pay4]
  simp only [up_apply, ← EReal.coe_mul, coe_sum, zero_add, ← EReal.coe_add, part]

theorem ct_at (i : Fin 256) (k : Fin 1024) : ctPay p0 p1 p2 p3 b w0 w1 w2 w3 wb (ix2 i k) = ((ct p0 p1 p2 p3 b w0 w1 w2 w3 wb i k : ℝ) : EReal) := by
  pointwise [ctPay, k0_pay8, k0_pay6, k0_pay7]
  simp only [three_at]
  simp only [up_apply, ← EReal.coe_mul, coe_sum, ← EReal.coe_add]
  rfl

theorem rstd_at (i : Fin 256) (u : Fin 1) : k0_pay9 (F := Ideal) (up x) (ix2 i u) = ((rstd (row x i) : ℝ) : EReal) := by
  have h : ∀ a : ℝ, a = ms (row x i) → Ideal.rsqrt (a : EReal) = ((rstd (row x i) : ℝ) : EReal) := by
    rintro a rfl; rw [rsqrt_real (ms_pos _), rstd]
  pointwise [k0_pay9]
  simp only [up_apply, ← EReal.coe_mul, coe_sum, div_1024, lit_eps, ← EReal.coe_add]
  exact h _ (by simp only [ms, row, Nat.cast_ofNat])

theorem xh_at (i : Fin 256) (k : Fin 1024) : k0_pay10 (F := Ideal) (up x) (ix2 i k) = ((row x i k * rstd (row x i) : ℝ) : EReal) := by
  pointwise [k0_pay10]
  simp only [rstd_at, up_apply, ← EReal.coe_mul]

/-- The block of `dx`, on top of the residual's block `d`. -/
theorem dx_at (d : FVec Ideal S256x1024 .f32) (i : Fin 256) (k : Fin 1024) :
    k0_pay12 (F := Ideal) (k0_pay5 (up p0) (up w0) (up p1) (up w1) (up p2) (up w2)) (k0_pay6 (up p3)) (k0_pay7 (up w3)) (up b) (up wb)
        (up x) (up g) d (ix2 i k)
      = d (ix2 i k) + ((rmsDx (row x i) (fun k => g (ix2 0 k)) (ct p0 p1 p2 p3 b w0 w1 w2 w3 wb i) k : ℝ) : EReal) := by
  have e : ∀ l, k0_pay8 (F := Ideal) (k0_pay5 (up p0) (up w0) (up p1) (up w1) (up p2) (up w2)) (k0_pay6 (up p3)) (k0_pay7 (up w3)) (up b) (up wb)
      (ix2 i l) = _ := fun l => ct_at p0 p1 p2 p3 b w0 w1 w2 w3 wb i l
  pointwise [k0_pay12]
  simp only [e, xh_at, rstd_at]
  simp only [up_apply, ← EReal.coe_mul, coe_sum, div_1024, ← EReal.coe_sub]
  simp only [rmsDx, Nat.cast_ofNat]

/-- The block's part of `dg`. -/
theorem dg_at (u : Fin 1) (k : Fin 1024) :
    k0_pay11 (F := Ideal) (k0_pay5 (up p0) (up w0) (up p1) (up w1) (up p2) (up w2)) (k0_pay6 (up p3)) (k0_pay7 (up w3)) (up b) (up wb)
        (up x) (ix2 u k)
      = ((∑ i, row x i k * rstd (row x i) * ct p0 p1 p2 p3 b w0 w1 w2 w3 wb i k : ℝ) : EReal) := by
  have e : ∀ i l, k0_pay8 (F := Ideal) (k0_pay5 (up p0) (up w0) (up p1) (up w1) (up p2) (up w2)) (k0_pay6 (up p3)) (k0_pay7 (up w3)) (up b) (up wb)
      (ix2 i l) = _ := fun i l => ct_at p0 p1 p2 p3 b w0 w1 w2 w3 wb i l
  pointwise [k0_pay11]
  simp only [e, xh_at, ← EReal.coe_mul, coe_sum]
  congr 1
  exact Finset.sum_congr rfl fun i _ => mul_comm _ _

theorem dg_step (v a : FVec Ideal S1x1024 .f32) (j : S1x1024.Idx) : k0_pay1 (F := Ideal) v a j = a j + v j := by
  idx_vars j
  pointwise [k0_pay1]

end Cert.GprojBlock

end
-- ==== Proof.GprojRef.lean ====
/-
The reference of the gradient of a pre-norm and the projection behind it, on arrays of reals: its three results.

The cotangent of the projection is the sum of five arrays, each in its own columns and zero elsewhere; its product with
the weight is the sum of five products (`sum_padded`).
-/
module

public import proofs.«01_k».proof.Proof.RmsGrad
public import Idealize.ShloMosaic.Lib.KernelVsHost
public import Idealize.ShloMosaic.Lib.Pipeline.Value
public import proofs.«01_k».proof.Proof.Gen.GprojReferenceIdeal.Read

@[expose] public section

set_option maxRecDepth 16384

noncomputable section

namespace Cert.GprojRef

open Cert.RealLift Cert.RmsGrad Idealize.ShloMosaic
open Cert.GprojReferenceIdeal (S4096x1024 S1024 S1024x4112 S4096x16 S1x1024 S4096x4112 S4096x4096 S_)
open Cert.GprojReferenceIdeal.Read

/-! ## An array in some of the columns -/

/-- `x` in the columns from `lo` on, zero elsewhere. -/
def padded {n : ℕ} (lo : ℕ) (x : Fin n → ℝ) (k : Fin 4112) : ℝ :=
  if h : lo ≤ k.val ∧ k.val < lo + n then x ⟨k.val - lo, by omega⟩ else 0

/-- Only these columns count in a sum. -/
theorem sum_padded {n lo : ℕ} (h : lo + n ≤ 4112) (x : Fin n → ℝ) (w : Fin 4112 → ℝ) :
    ∑ k, padded lo x k * w k = ∑ l : Fin n, x l * w ⟨lo + l.val, by omega⟩ := by
  let e : Fin n ↪ Fin 4112 := ⟨fun l => ⟨lo + l.val, by omega⟩, fun a b hab => Fin.ext (by
    have := congrArg Fin.val hab
    change lo + a.val = lo + b.val at this
    omega)⟩
  rw [← Finset.sum_subset (Finset.subset_univ (Finset.univ.map e)) fun k _ hk => ?_, Finset.sum_map]
  · refine Finset.sum_congr rfl fun l _ => ?_
    have hl : padded lo x (e l) = x l := by
      unfold padded
      rw [dif_pos ⟨show lo ≤ lo + l.val by omega, show lo + l.val < lo + n by omega⟩]
      exact congrArg x (Fin.ext (show lo + l.val - lo = l.val by omega))
    rw [hl]
    rfl
  · unfold padded
    rw [dif_neg, zero_mul]
    rintro ⟨h1, h2⟩
    refine hk (Finset.mem_map.2 ⟨⟨k.val - lo, by omega⟩, Finset.mem_univ _, Fin.ext ?_⟩)
    show lo + (k.val - lo) = k.val
    omega

theorem pad_at {n lo hi : ℕ} (h : lo + n ≤ 4112) (y : (⟨2, ![4096, n]⟩ : Shape).Idx → ℝ) (z : S_.Idx → EReal) (hz : ∀ i, z i = 0)
    (hp : (⟨2, ![4096, n]⟩ : Shape).Pads ![0, lo] ![0, hi] ![0, 0] S4096x4112) (hu : 0 < S_.numel) (r : Fin 4096) (k : Fin 4112) :
    pad S4096x4112 ![0, lo] ![0, hi] ![0, 0] (up y) z hp hu (ix2 r k) = ((padded lo (fun l : Fin n => y (ix2 r l)) k : ℝ) : EReal) := by
  unfold padded
  by_cases hc : lo ≤ k.val ∧ k.val < lo + n
  · rw [dif_pos hc]
    refine pad_apply_of_inside _ _ _ _ _ hp hu (ix2 r k) (ix2 r ⟨k.val - lo, by omega⟩) fun a => ?_
    fin_cases a
    · show r.val = 0 + r.val * 1; omega
    · show k.val = lo + (k.val - lo) * 1; omega
  · rw [dif_neg hc]
    refine (pad_apply_of_not_inside _ _ _ _ _ hp hu (ix2 r k) 1 fun e => hc ⟨e.1, ?_⟩).trans (hz _)
    have h1 : lo ≤ k.val := e.1
    have h2 : (k.val - lo) / 1 < n := e.2.2
    omega

/-! ## The cotangent of the norm's result -/

variable (x : S4096x1024.Idx → ℝ) (g : S1024.Idx → ℝ) (w : S1024x4112.Idx → ℝ) (p0 p1 p2 p3 : S4096x1024.Idx → ℝ) (b : S4096x16.Idx → ℝ)

/-- The product of one of the wide cotangents with its columns of the weight. -/
def wide (p : S4096x1024.Idx → ℝ) (q : ℕ) (hq : q + 1024 ≤ 4112) (r : Fin 4096) (k : Fin 1024) : ℝ :=
  ∑ l : Fin 1024, p (ix2 r l) * w (ix2 k ⟨q + l.val, by omega⟩)

/-- The product of the gates' cotangent with its columns of the weight. -/
def narrow (r : Fin 4096) (k : Fin 1024) : ℝ := ∑ l : Fin 16, b (ix2 r l) * w (ix2 k ⟨4096 + l.val, by omega⟩)

/-- The cotangent of the norm's result. -/
def ct (r : Fin 4096) (k : Fin 1024) : ℝ :=
  wide w p0 0 (by omega) r k + wide w p1 1024 (by omega) r k + wide w p2 2048 (by omega) r k + wide w p3 3072 (by omega) r k + narrow w b r k

/-- A row of the activations. -/
abbrev row (r : Fin 4096) (k : Fin 1024) : ℝ := x (ix2 r k)

/-- The scale. -/
abbrev sc (k : Fin 1024) : ℝ := g (ix1 k)

theorem zero_lit : FloatOps.ofBits (F := Ideal) .f32 0x00000000#32 = (0 : EReal) := by
  show Ideal.ofBits .f32 0x00000000#32 = 0
  simp [Ideal.ofBits, Ideal.ieee]

theorem joint_at (r : Fin 4096) (k : Fin 4112) : val_main_v30 (F := Ideal) (up p0) (up p1) (up p2) (up p3) (up b) (ix2 r k)
    = ((padded 4096 (fun l : Fin 16 => b (ix2 r l)) k + padded 3072 (fun l : Fin 1024 => p3 (ix2 r l)) k
        + padded 2048 (fun l : Fin 1024 => p2 (ix2 r l)) k + padded 1024 (fun l : Fin 1024 => p1 (ix2 r l)) k
        + padded 0 (fun l : Fin 1024 => p0 (ix2 r l)) k : ℝ) : EReal) := by
  have e22 : val_main_v22 (F := Ideal) (up b) (ix2 r k) = _ := pad_at (by omega) b _ (fun _ => zero_lit) _ _ r k
  have e23 : val_main_v23 (F := Ideal) (up p3) (ix2 r k) = _ := pad_at (by omega) p3 _ (fun _ => zero_lit) _ _ r k
  have e25 : val_main_v25 (F := Ideal) (up p2) (ix2 r k) = _ := pad_at (by omega) p2 _ (fun _ => zero_lit) _ _ r k
  have e27 : val_main_v27 (F := Ideal) (up p1) (ix2 r k) = _ := pad_at (by omega) p1 _ (fun _ => zero_lit) _ _ r k
  have e29 : val_main_v29 (F := Ideal) (up p0) (ix2 r k) = _ := pad_at (by omega) p0 _ (fun _ => zero_lit) _ _ r k
  rw [val_main_v30_apply, val_main_v28_apply, val_main_v26_apply, val_main_v24_apply, e22, e23, e25, e27, e29]
  simp only [EReal.coe_add]
  rfl

theorem ct_at (r : Fin 4096) (k : Fin 1024) :
    val_main_v31 (F := Ideal) (up w) (up p0) (up p1) (up p2) (up p3) (up b) (ix2 r k) = ((ct w p0 p1 p2 p3 b r k : ℝ) : EReal) := by
  rw [val_main_v31_apply]
  have e : ∀ c : Fin 4112, val_main_v30 (F := Ideal) (up p0) (up p1) (up p2) (up p3) (up b) (lidx_main_v31 (ix2 r k) c)
      * up w (ridx_main_v31 (ix2 r k) c) = _ := fun c =>
    congrArg₂ (fun a b : EReal => a * b)
      ((congrArg _ (by funext a; fin_cases a <;> rfl)).trans (joint_at p0 p1 p2 p3 b r c))
      ((congrArg (up w) (show ridx_main_v31 (ix2 r k) c = ix2 k c by funext a; fin_cases a <;> rfl)).trans (up_apply w _))
  rw [Finset.sum_congr rfl fun c _ => e c]
  simp only [← EReal.coe_mul, coe_sum, add_mul, Finset.sum_add_distrib]
  rw [sum_padded (by omega) _ fun c => w (ix2 k c), sum_padded (by omega) _ fun c => w (ix2 k c), sum_padded (by omega) _ fun c => w (ix2 k c),
    sum_padded (by omega) _ fun c => w (ix2 k c), sum_padded (by omega) _ fun c => w (ix2 k c)]
  refine congrArg (fun r : ℝ => (r : EReal)) ?_
  unfold ct wide narrow
  ring

/-! ## The norm -/

theorem ms_at (r : Fin 4096) (u : Fin 1) : val_main_v6 (F := Ideal) (up x) (ix2 r u) = ((ms (row x r) : ℝ) : EReal) := by
  pointwise [val_main_v6, val_main_v5, val_main_v4, val_main_v3, val_main_v2, val_main_v1, val_main_v0, val_main_cst, val_main_cst_0, val_main_cst_1]
  simp only [up_apply, ← EReal.coe_mul, coe_sum, div_1024, lit_eps, ← EReal.coe_add]
  simp only [ms, row, Nat.cast_ofNat]

theorem rstd_at (r : Fin 4096) (u : Fin 1) : val_main_v7 (F := Ideal) (up x) (ix2 r u) = ((rstd (row x r) : ℝ) : EReal) := by
  pointwise [val_main_v7]
  rw [ms_at, rsqrt_real (ms_pos _), rstd]

theorem cube_at (r : Fin 4096) (u : Fin 1) :
    val_main_v10 (F := Ideal) (up x) (ix2 r u) = ((-(1 / 2) * (rstd (row x r) / ms (row x r)) : ℝ) : EReal) := by
  pointwise [val_main_v10, val_main_v9, val_main_v8, val_main_cst_2]
  rw [ms_at, rstd_at, div_real (ms_pos _).ne', lit_neg_half, ← EReal.coe_mul]

theorem u_at (r : Fin 4096) (k : Fin 1024) : val_main_v36 (F := Ideal) (up g) (up w) (up p0) (up p1) (up p2) (up p3) (up b) (ix2 r k)
    = ((ct w p0 p1 p2 p3 b r k * sc g k : ℝ) : EReal) := by
  pointwise [val_main_v36, val_main_v35, val_main_v13]
  rw [ct_at]
  rw [up_apply, ← EReal.coe_mul]

theorem dot_at (r : Fin 4096) (u : Fin 1) : val_main_v40 (F := Ideal) (up x) (up g) (up w) (up p0) (up p1) (up p2) (up p3) (up b) (ix2 r u)
    = ((∑ l, row x r l * (ct w p0 p1 p2 p3 b r l * sc g l) : ℝ) : EReal) := by
  pointwise [val_main_v40, val_main_v39, val_main_v38, val_main_cst_10]
  simp only [u_at, up_apply, ← EReal.coe_mul, coe_sum]

theorem dx_at (d : FVec Ideal S4096x1024 .f32) (r : Fin 4096) (k : Fin 1024) :
    val_main_v52 (F := Ideal) (up x) (up g) (up w) (up p0) (up p1) (up p2) (up p3) (up b) d (ix2 r k)
      = d (ix2 r k) + ((rmsDx (row x r) (sc g) (ct w p0 p1 p2 p3 b r) k : ℝ) : EReal) := by
  rw [← rmsDx_eq]
  pointwise [val_main_v52, val_main_v51, val_main_v50, val_main_v49, val_main_v48, val_main_v47, val_main_v46, val_main_v45,
    val_main_v44, val_main_v43, val_main_v42, val_main_v41, val_main_cst_11, val_main_cst_12]
  simp only [u_at, dot_at, cube_at, rstd_at]
  simp only [up_apply, ← EReal.coe_mul, coe_sum, div_1024, ← EReal.coe_add, Finset.univ_unique, Finset.sum_singleton, Nat.cast_ofNat]

theorem dg_at (u : Fin 1) (k : Fin 1024) :
    val_main_v53 (F := Ideal) (up x) (up w) (up p0) (up p1) (up p2) (up p3) (up b) (ix2 u k)
      = ((∑ r, x (ix2 r k) * rstd (row x r) * ct w p0 p1 p2 p3 b r k : ℝ) : EReal) := by
  pointwise [val_main_v53, val_main_v37, val_main_v34, val_main_v33, val_main_v32, val_main_v12, val_main_v11, val_main_cst_8, val_main_cst_9]
  simp only [rstd_at, ct_at]
  simp only [up_apply, ← EReal.coe_mul, coe_sum, Finset.univ_unique, Finset.sum_singleton]

/-- The four wide cotangents side by side. -/
def beside (k : Fin 4) : S4096x1024.Idx → ℝ := ![p0, p1, p2, p3] k

theorem dproj_at (r : Fin 4096) (k : Fin 4096) : val_main_v55 (F := Ideal) (up p0) (up p1) (up p2) (up p3) (ix2 r k)
    = ((beside p0 p1 p2 p3 ⟨k.val / 1024, by omega⟩ (ix2 r ⟨k.val % 1024, by omega⟩) : ℝ) : EReal) := by
  rw [val_main_v55_apply]
  exact concatenate_ofFn_apply (t := S4096x4096) (s₁ := S4096x1024) 1 (fun k : Fin 4 => up (beside p0 p1 p2 p3 k))
    (show Shape.Concatenates [S4096x1024, S4096x1024, S4096x1024, S4096x1024] S4096x4096 1 by decide) rfl 1024 rfl (ix2 r k)
    ⟨k.val / 1024, by omega⟩ rfl (ix2 r ⟨k.val % 1024, by omega⟩) rfl
    (fun a ha => by fin_cases a; · rfl
                    · exact absurd rfl ha)

end Cert.GprojRef

end
-- ==== Proof.GprojArrays.lean ====
/-
The three result arrays of the kernel of the pre-norm's and the projection's gradient, at arguments that are real numbers.
-/
module

public import proofs.«01_k».proof.Proof.GprojBlock
public import proofs.«01_k».proof.Proof.GprojRef

@[expose] public section

set_option maxRecDepth 16384

noncomputable section

namespace Cert.GprojArrays

open Cert.RealLift Cert.RmsGrad Cert.GprojBlock Idealize.ShloMosaic Idealize.ShloMosaic.Pipeline
open Cert.GprojRef (beside)
open Cert.GprojKernelIdeal Cert.GprojKernelIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![t.val, 0] :=
  (by decide +kernel : ∀ t : Fin grid0.N, _)

variable (x : S4096x1024.Idx → ℝ) (g : S1024.Idx → ℝ) (w : S1024x4112.Idx → ℝ) (p0 p1 p2 p3 : S4096x1024.Idx → ℝ)
  (b : S4096x16.Idx → ℝ) (d : FVec Ideal S4096x1024 .f32)

/-- The arguments the gradient multiplies are these reals. -/
structure Args (c : Dev nD) : Prop where
  x : m ((c.tc : Thread nD τ).loc main_arg0) = up x
  g : m ((c.tc : Thread nD τ).loc main_arg1) = up g
  w : m ((c.tc : Thread nD τ).loc main_arg2) = up w
  p0 : m ((c.tc : Thread nD τ).loc main_arg3) = up p0
  p1 : m ((c.tc : Thread nD τ).loc main_arg4) = up p1
  p2 : m ((c.tc : Thread nD τ).loc main_arg5) = up p2
  p3 : m ((c.tc : Thread nD τ).loc main_arg6) = up p3
  b : m ((c.tc : Thread nD τ).loc main_arg7) = up b
  d : m ((c.tc : Thread nD τ).loc main_arg8) = d

/-- Row `t · 256 + i` of the array. -/
def at_row (t : Fin cfg0.N) (i : Fin 256) : Fin 4096 :=
  ⟨t.val * 256 + i.val, by have := lt_of_lt_of_eq t.isLt N_0; have := i.isLt; omega⟩

/-! ## The blocks of a grid point -/

theorem blk0 (c : Dev nD) (t : Fin cfg0.N) (i : Fin 256) (k : Fin 1024) :
    iblk m c 0 t (ix2 i k) = m ((c.tc : Thread nD τ).loc main_arg0) (ix2 (at_row t i) k) := by
  blk_ext [iblk, V, idx t, at_row]

theorem blk1 (c : Dev nD) (t : Fin cfg0.N) (u : Fin 1) (k : Fin 1024) :
    iblk m c 1 t (ix2 u k) = m ((c.tc : Thread nD τ).loc main_arg1) (ix1 k) := by
  blk_point [iblk, V, idx t]

theorem blk2 (c : Dev nD) (t : Fin cfg0.N) (i : Fin 1024) (k : Fin 4112) :
    iblk m c 2 t (ix2 i k) = m ((c.tc : Thread nD τ).loc main_arg2) (ix2 i k) := by
  blk_point [iblk, V, idx t]

theorem blk3 (c : Dev nD) (t : Fin cfg0.N) (i : Fin 256) (k : Fin 1024) :
    iblk m c 3 t (ix2 i k) = m ((c.tc : Thread nD τ).loc main_arg8) (ix2 (at_row t i) k) := by
  blk_ext [iblk, V, idx t, at_row]

theorem blk4 (c : Dev nD) (t : Fin cfg0.N) (i : Fin 256) (k : Fin 1024) :
    iblk m c 4 t (ix2 i k) = m ((c.tc : Thread nD τ).loc main_arg3) (ix2 (at_row t i) k) := by
  blk_ext [iblk, V, idx t, at_row]

theorem blk5 (c : Dev nD) (t : Fin cfg0.N) (i : Fin 256) (k : Fin 1024) :
    iblk m c 5 t (ix2 i k) = m ((c.tc : Thread nD τ).loc main_arg4) (ix2 (at_row t i) k) := by
  blk_ext [iblk, V, idx t, at_row]

theorem blk6 (c : Dev nD) (t : Fin cfg0.N) (i : Fin 256) (k : Fin 1024) :
    iblk m c 6 t (ix2 i k) = m ((c.tc : Thread nD τ).loc main_arg5) (ix2 (at_row t i) k) := by
  blk_ext [iblk, V, idx t, at_row]

theorem blk7 (c : Dev nD) (t : Fin cfg0.N) (i : Fin 256) (k : Fin 1024) :
    iblk m c 7 t (ix2 i k) = m ((c.tc : Thread nD τ).loc main_arg6) (ix2 (at_row t i) k) := by
  blk_ext [iblk, V, idx t, at_row]

theorem blk8 (c : Dev nD) (t : Fin cfg0.N) (i : Fin 256) (k : Fin 16) :
    iblk m c 8 t (ix2 i k) = m ((c.tc : Thread nD τ).loc main_arg7) (ix2 (at_row t i) k) := by
  blk_ext [iblk, V, idx t, at_row]

/-- The rows of an array that a point works on. -/
def rb (x : S4096x1024.Idx → ℝ) (t : Fin cfg0.N) : S256x1024.Idx → ℝ := fun y => x (ix2 (at_row t (y 0)) (y 1))
/-- The same of the gates' array. -/
def nb (b : S4096x16.Idx → ℝ) (t : Fin cfg0.N) : S256x16.Idx → ℝ := fun y => b (ix2 (at_row t (y 0)) (y 1))
/-- The scale as a row. -/
def gb (g : S1024.Idx → ℝ) : S1x1024.Idx → ℝ := fun y => g (ix1 (y 1))
/-- 1024 columns of the weight. -/
def ws (w : S1024x4112.Idx → ℝ) (q : ℕ) (hq : q + 1024 ≤ 4112) : S1024x1024.Idx → ℝ :=
  fun y => w (ix2 (y 0) ⟨q + (y 1).val, lt_of_lt_of_le (Nat.add_lt_add_left (y 1).isLt q) hq⟩)
/-- The last 16 columns of the weight. -/
def wl (w : S1024x4112.Idx → ℝ) : S1024x16.Idx → ℝ := fun y => w (ix2 (y 0) ⟨4096 + (y 1).val, Nat.add_lt_add_left (y 1).isLt 4096⟩)

theorem ld_w (q : ℕ) (hq : q + 1024 ≤ 4112) (hb) :
    (View.ld (Val := Elt Ideal) (e' := .bf16) (up w) (Rect.unit (s := S1024x4112) ![0, q] ![1024, 1024] hb) : FVec Ideal S1024x1024 .bf16)
      = up (ws w q hq) := by
  funext y
  idx_vars y
  refine congrArg (up w) (funext fun a => Fin.ext ?_)
  fin_cases a
  · show 0 + 1 * y0.val = y0.val; omega
  · show q + 1 * y1.val = q + y1.val; omega

theorem ld_l (hb) :
    (View.ld (Val := Elt Ideal) (e' := .bf16) (up w) (Rect.unit (s := S1024x4112) ![0, 4096] ![1024, 16] hb) : FVec Ideal S1024x16 .bf16)
      = up (wl w) := by
  funext y
  idx_vars y
  refine congrArg (up w) (funext fun a => Fin.ext ?_)
  fin_cases a
  · show 0 + 1 * y0.val = y0.val; omega
  · show 4096 + 1 * y1.val = 4096 + y1.val; omega

/-- The four wide cotangents side by side. -/
def joined (p0 p1 p2 p3 : S4096x1024.Idx → ℝ) (r k : Fin 4096) : ℝ := beside p0 p1 p2 p3 ⟨k.val / 1024, by omega⟩ (ix2 r ⟨k.val % 1024, by omega⟩)

/-- The block's cotangent is the array's, in the block's rows. -/
theorem ct_eq (t : Fin cfg0.N) (i : Fin 256) :
    GprojBlock.ct (rb p0 t) (rb p1 t) (rb p2 t) (rb p3 t) (nb b t) (ws w 0 (by omega)) (ws w 1024 (by omega)) (ws w 2048 (by omega))
        (ws w 3072 (by omega)) (wl w) i
      = GprojRef.ct w p0 p1 p2 p3 b (at_row t i) := rfl

variable {m x g w p0 p1 p2 p3 b d} {c : Dev nD} (h : Args m x g w p0 p1 p2 p3 b d c)
include h

theorem x_eq (t : Fin cfg0.N) : (iblk m c 0 t : FVec Ideal S256x1024 .f32) = up (rb x t) := by
  funext y; idx_vars y; exact (blk0 m c t _ _).trans (congrFun h.x _)

theorem g_eq (t : Fin cfg0.N) : (iblk m c 1 t : FVec Ideal S1x1024 .f32) = up (gb g) := by
  funext y; idx_vars y; exact (blk1 m c t _ _).trans (congrFun h.g _)

theorem w_eq (t : Fin cfg0.N) : (iblk m c 2 t : FVec Ideal S1024x4112 .bf16) = up w := by
  funext y; idx_vars y; exact (blk2 m c t _ _).trans (congrFun h.w _)

theorem p0_eq (t : Fin cfg0.N) : (iblk m c 4 t : FVec Ideal S256x1024 .f32) = up (rb p0 t) := by
  funext y; idx_vars y; exact (blk4 m c t _ _).trans (congrFun h.p0 _)

theorem p1_eq (t : Fin cfg0.N) : (iblk m c 5 t : FVec Ideal S256x1024 .f32) = up (rb p1 t) := by
  funext y; idx_vars y; exact (blk5 m c t _ _).trans (congrFun h.p1 _)

theorem p2_eq (t : Fin cfg0.N) : (iblk m c 6 t : FVec Ideal S256x1024 .f32) = up (rb p2 t) := by
  funext y; idx_vars y; exact (blk6 m c t _ _).trans (congrFun h.p2 _)

theorem p3_eq (t : Fin cfg0.N) : (iblk m c 7 t : FVec Ideal S256x1024 .f32) = up (rb p3 t) := by
  funext y; idx_vars y; exact (blk7 m c t _ _).trans (congrFun h.p3 _)

theorem b_eq (t : Fin cfg0.N) : (iblk m c 8 t : FVec Ideal S256x16 .f32) = up (nb b t) := by
  funext y; idx_vars y; exact (blk8 m c t _ _).trans (congrFun h.b _)

/-! ## What a point leaves -/

theorem dx_block (t : Fin cfg0.N) (i : Fin 256) (k : Fin 1024) : (outsAt0 m c t.val t.isLt).1 (ix2 i k)
    = d (ix2 (at_row t i) k)
      + ((rmsDx (fun k => x (ix2 (at_row t i) k)) (fun k => g (ix1 k)) (GprojRef.ct w p0 p1 p2 p3 b (at_row t i)) k : ℝ) : EReal) := by
  have hpay : (_ : EReal) = _ := (GprojBlock.dx_at (rb x t) (gb g) (rb p0 t) (rb p1 t) (rb p2 t) (rb p3 t) (nb b t) (ws w 0 (by omega))
    (ws w 1024 (by omega)) (ws w 2048 (by omega)) (ws w 3072 (by omega)) (wl w) (iblk m c 3 t) i k).trans (by rw [ct_eq, blk3, h.d])
  by_cases h0 : t.val % 16 = 0
  on_goal 1 => rw [outsAt0_A m c t h0 (by have := lt_of_lt_of_eq t.isLt N_0; omega)]; frame_out
  on_goal 2 => rw [outsAt0_B m c t h0 (by omega)]; frame_out
  all_goals
    rw [x_eq h, g_eq h, w_eq h, p0_eq h, p1_eq h, p2_eq h, p3_eq h, b_eq h, ld_w w 0 (by omega), ld_w w 1024 (by omega),
      ld_w w 2048 (by omega), ld_w w 3072 (by omega), ld_l]
    exact hpay

/-- The block's part of the scale's gradient. -/
def dgPart (x : S4096x1024.Idx → ℝ) (w : S1024x4112.Idx → ℝ) (p0 p1 p2 p3 : S4096x1024.Idx → ℝ) (b : S4096x16.Idx → ℝ)
    (t : Fin cfg0.N) (k : Fin 1024) : ℝ :=
  ∑ i, x (ix2 (at_row t i) k) * rstd (fun k => x (ix2 (at_row t i) k)) * GprojRef.ct w p0 p1 p2 p3 b (at_row t i) k

omit h in
theorem dgPart_at (t : Fin cfg0.N) (u : Fin 1) (k : Fin 1024) :
    k0_pay11 (F := Ideal) (k0_pay5 (up (rb p0 t)) (up (ws w 0 (by omega))) (up (rb p1 t)) (up (ws w 1024 (by omega))) (up (rb p2 t))
        (up (ws w 2048 (by omega)))) (k0_pay6 (up (rb p3 t))) (k0_pay7 (up (ws w 3072 (by omega)))) (up (nb b t)) (up (wl w)) (up (rb x t)) (ix2 u k)
      = ((dgPart x w p0 p1 p2 p3 b t k : ℝ) : EReal) :=
  GprojBlock.dg_at (rb x t) (rb p0 t) (rb p1 t) (rb p2 t) (rb p3 t) (nb b t) (ws w 0 (by omega)) (ws w 1024 (by omega)) (ws w 2048 (by omega))
    (ws w 3072 (by omega)) (wl w) u k

theorem dg_first (t : Fin cfg0.N) (h0 : t.val % 16 = 0) (y : S1x1024.Idx) : (outsAt0 m c t.val t.isLt).2.1 y
    = 0 + ((dgPart x w p0 p1 p2 p3 b t (y 1) : ℝ) : EReal) := by
  rw [outsAt0_A m c t h0 (by have := lt_of_lt_of_eq t.isLt N_0; omega)]; frame_out
  idx_vars y
  rw [x_eq h, w_eq h, p0_eq h, p1_eq h, p2_eq h, p3_eq h, b_eq h, ld_w w 0 (by omega), ld_w w 1024 (by omega),
    ld_w w 2048 (by omega), ld_w w 3072 (by omega), ld_l]
  exact (dgPart_at t y0 y1).trans (zero_add _).symm

theorem dg_next (t : Fin cfg0.N) (h0 : ¬t.val % 16 = 0) (y : S1x1024.Idx) : (outsAt0 m c t.val t.isLt).2.1 y
    = (outsAt0 m c (t.val - 1) (lt_of_le_of_lt (Nat.sub_le _ _) t.isLt)).2.1 y + ((dgPart x w p0 p1 p2 p3 b t (y 1) : ℝ) : EReal) := by
  rw [outsAt0_B m c t h0 (by omega)]; frame_out
  rw [GprojBlock.dg_step]
  idx_vars y
  rw [x_eq h, w_eq h, p0_eq h, p1_eq h, p2_eq h, p3_eq h, b_eq h, ld_w w 0 (by omega), ld_w w 1024 (by omega),
    ld_w w 2048 (by omega), ld_w w 3072 (by omega), ld_l]
  exact congrArg (_ + ·) (dgPart_at t y0 y1)

omit h in
/-- One of the four arrays written side by side. -/
theorem beside_piece (k : Fin 4) (t : Fin cfg0.N) (a : S256x1024.Idx) (y : S256x4096.Idx) (h0 : (y 0).val = (a 0).val)
    (h1 : (y 1).val = k.val * 1024 + (a 1).val) (z : EReal) (hz : z = ((rb (beside p0 p1 p2 p3 k) t a : ℝ) : EReal)) :
    z = ((joined p0 p1 p2 p3 (at_row t (y 0)) (y 1) : ℝ) : EReal) := by
  have ha : (a 1).val < 1024 := (a 1).isLt
  have e0 : (y 0 : Fin 256) = a 0 := Fin.ext h0
  rw [hz, e0]
  refine congrArg (fun r : ℝ => (r : EReal)) ?_
  show beside p0 p1 p2 p3 k (ix2 (at_row t (a 0)) (a 1)) = _
  refine congr (congrArg _ (Fin.ext (by show k.val = (y 1).val / 1024; omega))) (congrArg (ix2 (at_row t (a 0))) (Fin.ext ?_))
  show (a 1).val = (y 1).val % 1024
  omega

theorem dproj_block (t : Fin cfg0.N) (y : S256x4096.Idx) : (outsAt0 m c t.val t.isLt).2.2 y
    = ((joined p0 p1 p2 p3 (at_row t (y 0)) (y 1) : ℝ) : EReal) := by
  by_cases h0 : t.val % 16 = 0
  on_goal 1 => rw [outsAt0_A m c t h0 (by have := lt_of_lt_of_eq t.isLt N_0; omega)]; frame_out
  on_goal 2 => rw [outsAt0_B m c t h0 (by omega)]; frame_out
  all_goals
    rw [p0_eq h, p1_eq h, p2_eq h, p3_eq h]
    canon_tiles a ha
    case piece0 => exact beside_piece 3 t a y ha0 ha1 _ (by idx_vars a; pointwise [k0_pay6]; rfl)
    case piece1 => exact beside_piece 2 t a y ha0 ha1 _ (by idx_vars a; pointwise [k0_pay4]; rfl)
    case piece2 => exact beside_piece 1 t a y ha0 ha1 _ (by idx_vars a; pointwise [k0_pay3]; rfl)
    case piece3 => exact beside_piece 0 t a y ha0 (by simpa using ha1) _ (by idx_vars a; pointwise [k0_pay2]; rfl)

/-! ## The result arrays -/

theorem final9 : (dats m 0 c).arrAt 9 (cfgs 0).N = fun j : S4096x1024.Idx => d j
    + ((rmsDx (fun k => x (ix2 (j 0) k)) (fun k => g (ix1 k)) (GprojRef.ct w p0 p1 p2 p3 b (j 0)) (j 1) : ℝ) : EReal) := by
  refine (dats m 0 c).arrAt_eq_of_covers 9 _ (by decide +kernel) fun t _ y => ?_
  have hj : ∀ (i : Fin 256) (k : Fin 1024), (win0_9.blk t).view.emb (ix2 i k) = (ix2 (at_row t i) k : S4096x1024.Idx) := fun i k => by
    blk_ext [idx t, at_row]
  idx_vars y
  blk_simp
  rw [after0_9, hj]
  exact dx_block h t y0 y1

theorem final10 : (dats m 0 c).arrAt 10 (cfgs 0).N = fun j : S1x1024.Idx =>
    ((∑ r, x (ix2 r (j 1)) * rstd (fun k => x (ix2 r k)) * GprojRef.ct w p0 p1 p2 p3 b r (j 1) : ℝ) : EReal) := by
  refine (dats m 0 c).arrAt_eq_of_after_last 10 t0_15 (by decide +kernel) _ fun j => ?_
  blk_simp
  rw [after0_10, Pipeline.eq_sum_fin_of_reset_step_apply_last (fun n h => (outsAt0 m c n h).2.1) 16 (fun _ => (0 : EReal))
    (fun t j => ((dgPart x w p0 p1 p2 p3 b t (j 1) : ℝ) : EReal)) (fun t ht j => dg_first h t ht j) (fun t ht j => dg_next h t ht j)
    (le_of_eq N_0) t0_15 rfl, zero_add, coe_sum]
  refine congrArg (fun r : ℝ => (r : EReal)) ?_
  refine Fin.sum_mul_add_congr fun s k hl => ?_
  rfl

theorem final11 : (dats m 0 c).arrAt 11 (cfgs 0).N = fun j : S4096x4096.Idx =>
    ((joined p0 p1 p2 p3 (j 0) (j 1) : ℝ) : EReal) := by
  refine (dats m 0 c).arrAt_eq_of_covers 11 _ (by decide +kernel) fun t _ y => ?_
  have hj : ∀ (i : Fin 256) (k : Fin 4096), (win0_11.blk t).view.emb (ix2 i k) = (ix2 (at_row t i) k : S4096x4096.Idx) := fun i k => by
    blk_ext [idx t, at_row]
  idx_vars y
  blk_simp
  rw [after0_11, hj]
  exact dproj_block h t (ix2 y0 y1)

end Cert.GprojArrays

end
-- ==== Proof.Gproj.lean ====
/-
The gradient of the pre-norm and of the projection in front of the delta rule: kernel and reference end with the same three arrays.
-/
module

public import proofs.«01_k».proof.Defs
public import proofs.«01_k».proof.Proof.GprojArrays
public import proofs.«01_k».proof.Proof.GprojRef
public import proofs.«01_k».proof.Proof.Gen.Pre_finite_gproj
public import Idealize.ShloMosaic.Lib.Claim

@[expose] public section

set_option maxRecDepth 16384

noncomputable section

namespace Cert.Gproj

open Cert.RealLift Idealize.ShloMosaic Idealize.SL.Sem

/-- The precondition: the arguments are arrays of reals. -/
theorem args_of_pre (m : (ℓ : Loc Cert.GprojKernelIdeal.nD Cert.GprojKernelIdeal.τ Cert.GprojKernelIdeal.sig) → Buf (Elt Ideal) ℓ)
    (h : Cert.Pre_GprojKernelIdeal_finite_gproj m) (c : Dev Cert.GprojKernelIdeal.nD) : ∃ x g w p0 p1 p2 p3 b d, GprojArrays.Args m x g w p0 p1 p2 p3 b d c := by
  have hc := congrFun (h c) (fun a => a.elim0)
  have hc' : IntOp.andi (IntOp.andi (IntOp.andi (IntOp.andi (IntOp.andi (IntOp.andi (IntOp.andi _ _) _) _) _) _) _) _ = 1#1 := hc
  obtain ⟨k7, h7⟩ := IntOp.andi_eq_one.1 hc'
  obtain ⟨k6, h6⟩ := IntOp.andi_eq_one.1 k7
  obtain ⟨k5, h5⟩ := IntOp.andi_eq_one.1 k6
  obtain ⟨k4, h4⟩ := IntOp.andi_eq_one.1 k5
  obtain ⟨k3, h3⟩ := IntOp.andi_eq_one.1 k4
  obtain ⟨k2, h2⟩ := IntOp.andi_eq_one.1 k3
  obtain ⟨h0, h1⟩ := IntOp.andi_eq_one.1 k2
  haveI : Subsingleton Cert.Pre_finite_gproj.S_.Idx := ⟨fun a b => funext fun k => k.elim0⟩
  obtain ⟨x, e0⟩ := exists_up _ _ _ _ _ _ h0
  obtain ⟨g, e1⟩ := exists_up _ _ _ _ _ _ h1
  obtain ⟨w, e2⟩ := exists_up _ _ _ _ _ _ h2
  obtain ⟨p0, e3⟩ := exists_up _ _ _ _ _ _ h3
  obtain ⟨p1, e4⟩ := exists_up _ _ _ _ _ _ h4
  obtain ⟨p2, e5⟩ := exists_up _ _ _ _ _ _ h5
  obtain ⟨p3, e6⟩ := exists_up _ _ _ _ _ _ h6
  obtain ⟨b, e7⟩ := exists_up _ _ _ _ _ _ h7
  exact ⟨x, g, w, p0, p1, p2, p3, b, _, e0, e1, e2, e3, e4, e5, e6, e7, rfl⟩

set_option maxHeartbeats 4000000 in
/-- The gradients in the layer's input and in the norm's scale, and the cotangents of the projection side by side. -/
theorem algebraic : Cert.algebraic_GprojKernelIdeal_GprojReferenceIdeal_pre_finite_gproj := by
  pair_intro
  · run_from Cert.GprojKernelIdeal.Gen.run_main m g
  · run_from Cert.GprojReferenceIdeal.Value.run m' g' <;>
      (obtain ⟨x, g, w, p0, p1, p2, p3, b, d, h⟩ := args_of_pre m hpre c
       obtain ⟨h0, h1, h2, h3, h4, h5, h6, h7, h8⟩ := hagree c)
    · rw [GprojReferenceIdeal.Read.val_main_v52_eq]
      simp only [h0, h1, h2, h3, h4, h5, h6, h7, h8, h.x, h.g, h.w, h.p0, h.p1, h.p2, h.p3, h.b, h.d]
      rw [GprojArrays.final9 h]
      funext j
      idx_vars j
      exact GprojRef.dx_at x g w p0 p1 p2 p3 b d j0 j1
    · rw [GprojReferenceIdeal.Read.val_main_v53_eq]
      simp only [h0, h2, h3, h4, h5, h6, h7, h.x, h.w, h.p0, h.p1, h.p2, h.p3, h.b]
      rw [GprojArrays.final10 h]
      funext j
      idx_vars j
      exact GprojRef.dg_at x w p0 p1 p2 p3 b j0 j1
    · rw [GprojReferenceIdeal.Read.val_main_v55_eq]
      simp only [h3, h4, h5, h6, h.p0, h.p1, h.p2, h.p3]
      rw [GprojArrays.final11 h]
      funext j
      idx_vars j
      exact GprojRef.dproj_at p0 p1 p2 p3 j0 j1

/-- The reference's frame: host operations, which leave the arguments alone, and no semaphore at all. -/
theorem frame_ref : Cert.quiescent_GprojReferenceIdeal := fun m ρ _ =>
  (θ_run Cert.GprojReferenceIdeal.defs _ _).mono (fun r h => And.intro (fun c => (h c).2.2.2) (sem_eq_zero_of_no_sems (by decide) r.2))
    (Cert.GprojReferenceIdeal.Value.run m ρ)

end Cert.Gproj

end
-- ==== Proof.FfnRef.lean ====
/-
The reference of the gradient of the gated block, on arrays of reals: its three results.

The hidden columns are in four quarters. `gate` and `value` are the two products with the first weight, `ct` is the
cotangent of the hidden columns, `da` and `db` are the cotangents of the two products.
-/
module

public import proofs.«01_k».proof.Proof.RmsGrad
public import proofs.«01_k».proof.Proof.LayerGrad
public import proofs.«01_k».proof.Proof.DeltaSpec
public import proofs.«01_k».proof.Proof.Literals
public import Idealize.ShloMosaic.Lib.KernelVsHost
public import Idealize.ShloMosaic.Lib.Pipeline.Value
public import proofs.«01_k».proof.Proof.Gen.FfnReferenceIdeal.Read

@[expose] public section

set_option maxRecDepth 16384

noncomputable section

namespace Cert.FfnRef

open Cert.RealLift Cert.DeltaSpec Cert.LayerGrad Idealize.ShloMosaic
open Cert.FfnReferenceIdeal (S4096x1024 S1024x5632 S2816x1024 S4x4096x704 S4x4096x1024 S4x704x1024 S2x4x704x1024 S1024x2x4x704 S1024x1x4x704 S_)
open Cert.FfnReferenceIdeal.Read

variable (x : S4096x1024.Idx → ℝ) (w : S1024x5632.Idx → ℝ) (v : S2816x1024.Idx → ℝ) (d : S4096x1024.Idx → ℝ)

/-- Column `c` of quarter `j` in half `s` of the first weight. -/
def icol (s : Fin 2) (j : Fin 4) (c : Fin 704) : Fin 5632 := ⟨s.val * 2816 + j.val * 704 + c.val, by omega⟩

/-- Row `c` of quarter `j` of the second weight. -/
def orow (j : Fin 4) (c : Fin 704) : Fin 2816 := ⟨j.val * 704 + c.val, by omega⟩

/-- A quarter's product with one half of the first weight. -/
def hid (s : Fin 2) (j : Fin 4) (r : Fin 4096) (c : Fin 704) : ℝ := ∑ k : Fin 1024, x (ix2 r k) * w (ix2 k (icol s j c))

/-- The cotangent of the hidden columns. -/
def ct (j : Fin 4) (r : Fin 4096) (c : Fin 704) : ℝ := ∑ k : Fin 1024, 1 / 2 * d (ix2 r k) * v (ix2 (orow j c) k)

/-- The hidden columns. -/
def act (j : Fin 4) (r : Fin 4096) (c : Fin 704) : ℝ := hid x w 0 j r c * sig (hid x w 0 j r c) * hid x w 1 j r c

/-- The cotangent of the gate. -/
def da (j : Fin 4) (r : Fin 4096) (c : Fin 704) : ℝ := ct v d j r c * hid x w 1 j r c * dsilu (hid x w 0 j r c)

/-- The cotangent of the value. -/
def db (j : Fin 4) (r : Fin 4096) (c : Fin 704) : ℝ := ct v d j r c * (hid x w 0 j r c * sig (hid x w 0 j r c))

/-- The gradient of the input through one quarter. -/
def dh (j : Fin 4) (r : Fin 4096) (k : Fin 1024) : ℝ :=
  (∑ c, da x w v d j r c * w (ix2 k (icol 0 j c))) + ∑ c, db x w v d j r c * w (ix2 k (icol 1 j c))

/-- The cotangents of the gate and the value. -/
def dab (s : Fin 2) (j : Fin 4) (r : Fin 4096) (c : Fin 704) : ℝ := if s = 0 then da x w v d j r c else db x w v d j r c

/-- The gradient of the first weight. -/
def dwin (s : Fin 2) (j : Fin 4) (c : Fin 704) (k : Fin 1024) : ℝ := ∑ r, dab x w v d s j r c * x (ix2 r k)

/-- The gradient of the second weight. -/
def dwout (j : Fin 4) (c : Fin 704) (k : Fin 1024) : ℝ := ∑ r, act x w j r c * (1 / 2 * d (ix2 r k))

theorem w0_at (k : Fin 1024) (j : Fin 4) (c : Fin 704) : val_main_v3 (F := Ideal) (up w) (ix3 k j c) = ((w (ix2 k (icol 0 j c)) : ℝ) : EReal) := by
  rw [val_main_v3_apply, val_main_v2_apply, val_main_v1_apply, up_apply]
  refine congrArg (fun i => ((w i : ℝ) : EReal)) ?_
  funext a
  fin_cases a <;> refine Fin.ext ?_ <;> simp [icol] <;> omega

theorem w1_at (k : Fin 1024) (j : Fin 4) (c : Fin 704) : val_main_v6 (F := Ideal) (up w) (ix3 k j c) = ((w (ix2 k (icol 1 j c)) : ℝ) : EReal) := by
  rw [val_main_v6_apply, val_main_v5_apply, val_main_v1_apply, up_apply]
  refine congrArg (fun i => ((w i : ℝ) : EReal)) ?_
  funext a
  fin_cases a <;> refine Fin.ext ?_ <;> simp [icol] <;> omega

theorem x_at (j : Fin 4) (r : Fin 4096) (k : Fin 1024) : val_main_v0 (F := Ideal) (up x) (ix3 j r k) = ((x (ix2 r k) : ℝ) : EReal) := by
  rw [val_main_v0_apply, up_apply]
  exact congrArg (fun i => ((x i : ℝ) : EReal)) (by funext a; fin_cases a <;> rfl)

theorem v_at (j : Fin 4) (c : Fin 704) (k : Fin 1024) : val_main_v10 (F := Ideal) (up v) (ix3 j c k) = ((v (ix2 (orow j c) k) : ℝ) : EReal) := by
  rw [val_main_v10_apply, up_apply]
  refine congrArg (fun i => ((v i : ℝ) : EReal)) ?_
  funext a
  fin_cases a <;> refine Fin.ext ?_ <;> simp [orow] <;> omega

theorem d_at (r : Fin 4096) (k : Fin 1024) : val_main_v15 (F := Ideal) (up d) (ix2 r k) = ((1 / 2 * d (ix2 r k) : ℝ) : EReal) := by
  pointwise [val_main_v15, val_main_v14, val_main_cst_0]
  rw [lit_half, up_apply, ← EReal.coe_mul]

theorem a_at (j : Fin 4) (r : Fin 4096) (c : Fin 704) : val_main_v4 (F := Ideal) (up x) (up w) (ix3 j r c) = ((hid x w 0 j r c : ℝ) : EReal) := by
  pointwise [val_main_v4]
  simp only [x_at, w0_at, ← EReal.coe_mul, coe_sum]
  rfl

theorem b_at (j : Fin 4) (r : Fin 4096) (c : Fin 704) : val_main_v7 (F := Ideal) (up x) (up w) (ix3 j r c) = ((hid x w 1 j r c : ℝ) : EReal) := by
  pointwise [val_main_v7]
  simp only [x_at, w1_at, ← EReal.coe_mul, coe_sum]
  rfl

theorem sig_at (j : Fin 4) (r : Fin 4096) (c : Fin 704) : val_main_v8_2 (F := Ideal) (up x) (up w) (ix3 j r c) = ((sig (hid x w 0 j r c) : ℝ) : EReal) := by
  pointwise [val_main_v8_2, val_main_call0_v4, val_main_call0_v3, val_main_call0_v2, val_main_call0_v1, val_main_call0_v0, val_main_call0_cst, val_main_call0_cst_0]
  rw [a_at, ← EReal.coe_neg, ← EReal.coe_one, sig_real]

theorem silu_at (j : Fin 4) (r : Fin 4096) (c : Fin 704) :
    val_main_v8_0 (F := Ideal) (up x) (up w) (ix3 j r c) = ((hid x w 0 j r c * sig (hid x w 0 j r c) : ℝ) : EReal) := by
  pointwise [val_main_v8_0]
  rw [a_at, sig_at, ← EReal.coe_mul]

theorem act_at (j : Fin 4) (r : Fin 4096) (c : Fin 704) : val_main_v9 (F := Ideal) (up x) (up w) (ix3 j r c) = ((act x w j r c : ℝ) : EReal) := by
  pointwise [val_main_v9]
  rw [silu_at, b_at, ← EReal.coe_mul, act]

theorem ct_at (j : Fin 4) (r : Fin 4096) (c : Fin 704) : val_main_v19 (F := Ideal) (up v) (up d) (ix3 j r c) = ((ct v d j r c : ℝ) : EReal) := by
  pointwise [val_main_v19, val_main_v18]
  simp only [d_at, v_at, ← EReal.coe_mul, coe_sum]
  rfl

theorem db_at (j : Fin 4) (r : Fin 4096) (c : Fin 704) : val_main_v21 (F := Ideal) (up x) (up w) (up v) (up d) (ix3 j r c) = ((db x w v d j r c : ℝ) : EReal) := by
  pointwise [val_main_v21]
  rw [silu_at, ct_at, ← EReal.coe_mul, db]
  exact congrArg (fun r : ℝ => (r : EReal)) (mul_comm _ _)

theorem da_at (j : Fin 4) (r : Fin 4096) (c : Fin 704) : val_main_v23 (F := Ideal) (up x) (up w) (up v) (up d) (ix3 j r c) = ((da x w v d j r c : ℝ) : EReal) := by
  pointwise [val_main_v23, val_main_call1_v2, val_main_call1_v1, val_main_call1_v0, val_main_v22, val_main_v8_1, val_main_call0_v7, val_main_call0_v6, val_main_call0_cst_1]
  rw [sig_at, a_at, b_at, ct_at, ← EReal.coe_one]
  simp only [← EReal.coe_mul, ← EReal.coe_add, ← EReal.coe_sub]
  refine congrArg (fun r : ℝ => (r : EReal)) ?_
  rw [da, dsilu]
  ring

theorem dh_at (j : Fin 4) (r : Fin 4096) (k : Fin 1024) : val_main_v39 (F := Ideal) (up x) (up w) (up v) (up d) (ix3 j r k) = ((dh x w v d j r k : ℝ) : EReal) := by
  pointwise [val_main_v39, val_main_v32, val_main_v31, val_main_v26]
  simp only [db_at, da_at, w0_at, w1_at, ← EReal.coe_mul, coe_sum, ← EReal.coe_add]
  exact congrArg (fun r : ℝ => (r : EReal)) (add_comm _ _)

theorem dw1_at (j : Fin 4) (c : Fin 704) (k : Fin 1024) : val_main_v24 (F := Ideal) (up x) (up w) (up v) (up d) (ix3 j c k) = ((dwin x w v d 1 j c k : ℝ) : EReal) := by
  pointwise [val_main_v24]
  simp only [db_at, x_at, ← EReal.coe_mul, coe_sum]
  rfl

theorem dw0_at (j : Fin 4) (c : Fin 704) (k : Fin 1024) : val_main_v29 (F := Ideal) (up x) (up w) (up v) (up d) (ix3 j c k) = ((dwin x w v d 0 j c k : ℝ) : EReal) := by
  pointwise [val_main_v29]
  simp only [da_at, x_at, ← EReal.coe_mul, coe_sum]
  rfl

theorem dwout_at (j : Fin 4) (c : Fin 704) (k : Fin 1024) : val_main_v17 (F := Ideal) (up x) (up w) (up d) (ix3 j c k) = ((dwout x w d j c k : ℝ) : EReal) := by
  pointwise [val_main_v17, val_main_v16]
  simp only [d_at, act_at, ← EReal.coe_mul, coe_sum]
  exact congrArg (fun r : ℝ => (r : EReal)) (Finset.sum_congr rfl fun r _ => mul_comm _ _)

theorem out_at (j : Fin 4) (c : Fin 704) (k : Fin 1024) : val_main_v42 (F := Ideal) (up x) (up w) (up d) (ix3 j c k) = ((dwout x w d j c k : ℝ) : EReal) := by
  rw [val_main_v42_apply, val_main_v41_apply, val_main_v20_apply, ← dwout_at]
  refine congrArg (val_main_v17 (F := Ideal) (up x) (up w) (up d)) ?_
  funext a
  fin_cases a <;> refine Fin.ext ?_ <;> simp <;> omega

theorem zero_lit : FloatOps.ofBits (F := Ideal) .f32 0x00000000#32 = (0 : EReal) := by
  show Ideal.ofBits .f32 0x00000000#32 = 0
  simp [Ideal.ofBits, Ideal.ieee]

theorem second_at (k : Fin 1024) (s : Fin 2) (j : Fin 4) (c : Fin 704) : val_main_v28 (F := Ideal) (up x) (up w) (up v) (up d) (ix4 k s j c)
    = (((if s = 0 then 0 else dwin x w v d 1 j c k) : ℝ) : EReal) := by
  unfold val_main_v28
  by_cases hs : s = 0
  · subst hs
    refine (pad_apply_of_not_inside _ _ _ _ _ _ _ (ix4 k 0 j c) 1 fun e => ?_).trans zero_lit
    exact absurd (show 1 ≤ 0 from e.1) (by decide)
  · have hs' : s = 1 := by omega
    subst hs'
    refine (pad_apply_of_inside _ _ _ _ _ _ _ (ix4 k 1 j c) (ix4 k 0 j c) fun a => ?_).trans ?_
    · fin_cases a
      · show k.val = 0 + k.val * 1; omega
      · rfl
      · show j.val = 0 + j.val * 1; omega
      · show c.val = 0 + c.val * 1; omega
    · rw [val_main_v27_apply, val_main_v25_apply, if_neg hs, ← dw1_at]
      exact congrArg (val_main_v24 (F := Ideal) (up x) (up w) (up v) (up d)) (by funext a; fin_cases a <;> rfl)

theorem first_at (k : Fin 1024) (s : Fin 2) (j : Fin 4) (c : Fin 704) : val_main_v34 (F := Ideal) (up x) (up w) (up v) (up d) (ix4 k s j c)
    = (((if s = 0 then dwin x w v d 0 j c k else 0) : ℝ) : EReal) := by
  unfold val_main_v34
  by_cases hs : s = 0
  · subst hs
    refine (pad_apply_of_inside _ _ _ _ _ _ _ (ix4 k 0 j c) (ix4 k 0 j c) fun a => ?_).trans ?_
    · fin_cases a
      · show k.val = 0 + k.val * 1; omega
      · rfl
      · show j.val = 0 + j.val * 1; omega
      · show c.val = 0 + c.val * 1; omega
    · rw [val_main_v33_apply, val_main_v30_apply, if_pos rfl, ← dw0_at]
      exact congrArg (val_main_v29 (F := Ideal) (up x) (up w) (up v) (up d)) (by funext a; fin_cases a <;> rfl)
  · have hs' : s = 1 := by omega
    subst hs'
    refine (pad_apply_of_not_inside _ _ _ _ _ _ _ (ix4 k 1 j c) 1 fun e => ?_).trans (zero_lit.trans ?_)
    · exact absurd (show (1 - 0) / 1 < 1 from e.2.2) (by decide)
    · rw [if_neg hs, EReal.coe_zero]

theorem in_at (s : Fin 2) (j : Fin 4) (c : Fin 704) (k : Fin 1024) : val_main_v40 (F := Ideal) (up x) (up w) (up v) (up d) (ix4 s j c k)
    = ((dwin x w v d s j c k : ℝ) : EReal) := by
  have e : val_main_v35 (F := Ideal) (up x) (up w) (up v) (up d) (ix4 k s j c) = ((dwin x w v d s j c k : ℝ) : EReal) := by
    rw [val_main_v35_apply, second_at, first_at]
    show (_ : EReal) + _ = _
    rw [← EReal.coe_add]
    fin_cases s <;> simp
  have e1 : idx_main_v36 (ix2 k (icol s j c)) = ix4 k s j c := by
    funext a
    fin_cases a <;> refine Fin.ext ?_ <;> simp [icol] <;> omega
  have e2 : idx_main_v38 (ix4 s j c k) = ix2 (icol s j c) k := by
    funext a
    fin_cases a <;> refine Fin.ext ?_ <;> simp [icol] <;> omega
  have e3 : idx_main_v37 (ix2 (icol s j c) k) = ix2 k (icol s j c) := by funext a; fin_cases a <;> rfl
  rw [val_main_v40_apply, val_main_v38_apply, e2, val_main_v37_apply, e3, val_main_v36_apply, e1, e]
  rfl

end Cert.FfnRef

end
-- ==== Proof.FfnBlock.lean ====
/-
What one block of the kernel of the gated block's gradient computes, at blocks of real numbers: one half of 256 rows, and
the products over the 512 rows of the block.
-/
module

public import proofs.«01_k».proof.Proof.FfnRef
public import proofs.«01_k».proof.Proof.Gen.FfnKernelIdeal.Value
public import Idealize.ShloMosaic.Lib.Pipeline.ValueKit

@[expose] public section

set_option maxRecDepth 16384

noncomputable section

namespace Cert.FfnBlock

open Cert.RealLift Cert.DeltaSpec Cert.LayerGrad Idealize.ShloMosaic Idealize.ShloMosaic.Pipeline
open Cert.FfnKernelIdeal Cert.FfnKernelIdeal.Gen

variable (a b : S1x256x704.Idx → ℝ) (d : S256x1024.Idx → ℝ) (q : S2x352x1024.Idx → ℝ) (g h : S1x1x704x1024.Idx → ℝ)

/-- A row of the second weight's tile, which is in two halves. -/
abbrev orowB (c : Fin 704) (k : Fin 1024) : ℝ := q (ix3 ⟨c.val / 352, by omega⟩ ⟨c.val % 352, by omega⟩ k)

/-- The cotangent of the hidden columns. -/
abbrev ctB (i : Fin 256) (c : Fin 704) : ℝ := ∑ k : Fin 1024, 1 / 2 * d (ix2 i k) * orowB q c k

/-- The hidden columns. -/
abbrev actB (i : Fin 256) (c : Fin 704) : ℝ := a (ix3 0 i c) * sig (a (ix3 0 i c)) * b (ix3 0 i c)

/-- The cotangent of the gate. -/
abbrev daB (i : Fin 256) (c : Fin 704) : ℝ := ctB d q i c * b (ix3 0 i c) * dsilu (a (ix3 0 i c))

/-- The cotangent of the value. -/
abbrev dbB (i : Fin 256) (c : Fin 704) : ℝ := ctB d q i c * (a (ix3 0 i c) * sig (a (ix3 0 i c)))

theorem wo_at (c : Fin 704) (k : Fin 1024) : k0_pay1 (F := Ideal) (up q) (ix2 c k) = ((orowB q c k : ℝ) : EReal) := by
  pointwise [k0_pay1]
  rfl

theorem do_at (i : Fin 256) (k : Fin 1024) : k0_pay2 (F := Ideal) (up d) (ix2 i k) = ((1 / 2 * d (ix2 i k) : ℝ) : EReal) := by
  pointwise [k0_pay2]
  rw [lit_half, up_apply, ← EReal.coe_mul]

theorem ct_at (i : Fin 256) (c : Fin 704) : k0_pay4 (F := Ideal) (up q) (up d) (ix2 i c) = ((ctB d q i c : ℝ) : EReal) := by
  pointwise [k0_pay4]
  simp only [do_at, wo_at, ← EReal.coe_mul, coe_sum]

theorem a_at (i : Fin 256) (c : Fin 704) : k0_pay5 (F := Ideal) (up a) (ix2 i c) = ((a (ix3 0 i c) : ℝ) : EReal) := by
  pointwise [k0_pay5]
  rfl

theorem b_at (i : Fin 256) (c : Fin 704) : k0_pay6 (F := Ideal) (up b) (ix2 i c) = ((b (ix3 0 i c) : ℝ) : EReal) := by
  pointwise [k0_pay6]
  rfl

theorem sig_at (i : Fin 256) (c : Fin 704) : k0_pay7 (F := Ideal) (up a) (ix2 i c) = ((sig (a (ix3 0 i c)) : ℝ) : EReal) := by
  pointwise [k0_pay7]
  rw [a_at, ← EReal.coe_zero, ← EReal.coe_sub, zero_sub, ← EReal.coe_one, sig_real]

theorem silu_at (i : Fin 256) (c : Fin 704) : k0_pay8 (F := Ideal) (up a) (ix2 i c) = ((a (ix3 0 i c) * sig (a (ix3 0 i c)) : ℝ) : EReal) := by
  pointwise [k0_pay8]
  rw [a_at, sig_at, ← EReal.coe_mul]

theorem da_at (i : Fin 256) (c : Fin 704) : k0_pay9 (F := Ideal) (up q) (up d) (up a) (up b) (ix2 i c) = ((daB a b d q i c : ℝ) : EReal) := by
  pointwise [k0_pay9]
  rw [ct_at, b_at, sig_at, a_at, ← EReal.coe_one]
  simp only [← EReal.coe_mul, ← EReal.coe_add, ← EReal.coe_sub]
  rfl

theorem db_at (i : Fin 256) (c : Fin 704) : k0_pay10 (F := Ideal) (up q) (up d) (up a) (ix2 i c) = ((dbB a d q i c : ℝ) : EReal) := by
  pointwise [k0_pay10]
  rw [ct_at, silu_at, ← EReal.coe_mul]

theorem act_at (i : Fin 256) (c : Fin 704) : k0_pay11 (F := Ideal) (up a) (up b) (ix2 i c) = ((actB a b i c : ℝ) : EReal) := by
  pointwise [k0_pay11]
  rw [silu_at, b_at, ← EReal.coe_mul]

/-- The input's gradient in one half's rows. -/
theorem dh_at (u : Fin 1) (i : Fin 256) (k : Fin 1024) :
    k0_pay15 (F := Ideal) (k0_pay9 (up q) (up d) (up a) (up b)) (k0_pay10 (up q) (up d) (up a)) (up g) (up h) (ix3 u i k)
      = (((∑ c, daB a b d q i c * g (ix4 0 0 c k)) + ∑ c, dbB a d q i c * h (ix4 0 0 c k) : ℝ) : EReal) := by
  pointwise [k0_pay15]
  simp only [da_at, db_at, up_apply, ← EReal.coe_mul, coe_sum, ← EReal.coe_add]

/-- The second half's formulas are the first's. -/
theorem second_do (v : Vec Ideal S256x1024 .f32) : k0_pay17 (F := Ideal) v = k0_pay3 v := rfl
theorem second_act (v w : Vec Ideal S1x256x704 .bf16) : k0_pay25 (F := Ideal) v w = k0_pay12 (k0_pay11 v w) := rfl
theorem second_da (o : Vec Ideal S2x352x1024 .bf16) (e : Vec Ideal S256x1024 .f32) (v w : Vec Ideal S1x256x704 .bf16) :
    k0_pay23 (F := Ideal) (k0_pay18 (k0_pay1 o) e) v w = k0_pay9 o e v w := rfl
theorem second_db (o : Vec Ideal S2x352x1024 .bf16) (e : Vec Ideal S256x1024 .f32) (v : Vec Ideal S1x256x704 .bf16) :
    k0_pay24 (F := Ideal) (k0_pay18 (k0_pay1 o) e) v = k0_pay10 o e v := rfl

/-! ## The products over the rows of the block -/

variable (e x : S512x1024.Idx → ℝ) (p : S512x704.Idx → ℝ)

/-- A product over the rows. -/
abbrev over (p : S512x704.Idx → ℝ) (x : S512x1024.Idx → ℝ) (c : Fin 704) (k : Fin 1024) : ℝ := ∑ i : Fin 512, p (ix2 i c) * x (ix2 i k)

theorem wout_at (c : Fin 704) (k : Fin 1024) : k0_pay30 (F := Ideal) (up e) (up p) (ix2 c k) = ((over p e c k : ℝ) : EReal) := by
  pointwise [k0_pay30]
  simp only [up_apply, ← EReal.coe_mul, coe_sum]

theorem gate_at (c : Fin 704) (k : Fin 1024) : k0_pay31 (F := Ideal) (up p) (up x) (ix2 c k) = ((over p x c k : ℝ) : EReal) := by
  pointwise [k0_pay31, k0_pay29]
  simp only [up_apply, ← EReal.coe_mul, coe_sum]

theorem value_at (c : Fin 704) (k : Fin 1024) : k0_pay32 (F := Ideal) (up p) (up x) (ix2 c k) = ((over p x c k : ℝ) : EReal) := by
  pointwise [k0_pay32, k0_pay29]
  simp only [up_apply, ← EReal.coe_mul, coe_sum]

end Cert.FfnBlock

end
-- ==== Proof.FfnEntry.lean ====
/-
The blocks that a grid point of the kernel of the gated block's gradient reads, at arguments that are real numbers: the
host's layouts of the weights, the two saved products, and the point's part of each.
-/
module

public import proofs.«01_k».proof.Proof.FfnBlock

@[expose] public section

set_option maxRecDepth 16384

noncomputable section

namespace Cert.FfnEntry

open Cert.RealLift Cert.FfnRef Idealize.ShloMosaic Idealize.ShloMosaic.Pipeline
open Cert.FfnKernelIdeal Cert.FfnKernelIdeal.Gen

variable (m : (ℓ : Loc nD τ sig) → Buf (Elt Ideal) ℓ) (c : Dev nD)

/-! ## The host's lines -/

/-- The gate's product in four quarters. -/
def gates (x : FVec Ideal S4096x1024 .f32) (w : FVec Ideal S1024x5632 .f32) : FVec Ideal S4x4096x704 .bf16 :=
  truncf .bf16 (transpose S4x4096x704 [1, 0, 2] (shapeCast S4096x4x704 (extractStridedSlice S4096x2816 ![0, 0]
    (Host.dotGeneral dot_S4096x1024_S1024x5632_S4096x5632_1_0_0_1_n_n none x w) slices_S4096x5632_S4096x2816_0_0)
    shapeCasts_S4096x2816_S4096x4x704) transposes_S4096x4x704_S4x4096x704_1_0_2) bitsLt_bf16_f32

/-- The value's product in four quarters. -/
def values (x : FVec Ideal S4096x1024 .f32) (w : FVec Ideal S1024x5632 .f32) : FVec Ideal S4x4096x704 .bf16 :=
  truncf .bf16 (transpose S4x4096x704 [1, 0, 2] (shapeCast S4096x4x704 (extractStridedSlice S4096x2816 ![0, 2816]
    (Host.dotGeneral dot_S4096x1024_S1024x5632_S4096x5632_1_0_0_1_n_n none x w) slices_S4096x5632_S4096x2816_0_2816)
    shapeCasts_S4096x2816_S4096x4x704) transposes_S4096x4x704_S4x4096x704_1_0_2) bitsLt_bf16_f32

/-- The first weight, transposed and in quarters. -/
def firsts (w : FVec Ideal S1024x5632 .f32) : FVec Ideal S2x4x704x1024 .bf16 :=
  truncf .bf16 (shapeCast S2x4x704x1024 (transpose S5632x1024 [1, 0] w transposes_S1024x5632_S5632x1024_1_0)
    shapeCasts_S5632x1024_S2x4x704x1024) bitsLt_bf16_f32

/-- The second weight in eighths. -/
def seconds (v : FVec Ideal S2816x1024 .f32) : FVec Ideal S8x352x1024 .bf16 :=
  truncf .bf16 (shapeCast S8x352x1024 v shapeCasts_S2816x1024_S8x352x1024) bitsLt_bf16_f32

theorem V_gates : V m c main_v5 = gates (m ((c.tc : Thread nD τ).loc main_arg0)) (m ((c.tc : Thread nD τ).loc main_arg1)) := by
  unfold V
  sl_kernel_rfl

theorem V_values : V m c main_v8 = values (m ((c.tc : Thread nD τ).loc main_arg0)) (m ((c.tc : Thread nD τ).loc main_arg1)) := by
  unfold V
  sl_kernel_rfl

theorem V_firsts : V m c main_v11 = firsts (m ((c.tc : Thread nD τ).loc main_arg1)) := by
  unfold V
  sl_kernel_rfl

theorem V_seconds : V m c main_v13 = seconds (m ((c.tc : Thread nD τ).loc main_arg2)) := by
  unfold V
  sl_kernel_rfl

theorem V_rows : V m c main_v14 = truncf (F := Ideal) .bf16 (m ((c.tc : Thread nD τ).loc main_arg0)) bitsLt_bf16_f32 := by
  unfold V
  sl_kernel_rfl

section Reals

variable (x : S4096x1024.Idx → ℝ) (w : S1024x5632.Idx → ℝ) (v : S2816x1024.Idx → ℝ)

theorem gates_at (j : Fin 4) (r : Fin 4096) (k : Fin 704) : gates (up x) (up w) (ix3 j r k) = ((hid x w 0 j r k : ℝ) : EReal) := by
  pointwise [gates]
  simp only [up_apply, ← EReal.coe_mul, coe_sum]
  refine congrArg (fun r : ℝ => (r : EReal)) (Finset.sum_congr rfl fun l _ => ?_)
  refine congrArg (fun i => x (ix2 r l) * w i) ?_
  funext a; fin_cases a <;> refine Fin.ext ?_ <;> simp [icol] <;> omega

theorem values_at (j : Fin 4) (r : Fin 4096) (k : Fin 704) : values (up x) (up w) (ix3 j r k) = ((hid x w 1 j r k : ℝ) : EReal) := by
  pointwise [values]
  simp only [up_apply, ← EReal.coe_mul, coe_sum]
  refine congrArg (fun r : ℝ => (r : EReal)) (Finset.sum_congr rfl fun l _ => ?_)
  refine congrArg (fun i => x (ix2 r l) * w i) ?_
  funext a; fin_cases a <;> refine Fin.ext ?_ <;> simp [icol] <;> omega

theorem firsts_at (s : Fin 2) (j : Fin 4) (k : Fin 704) (l : Fin 1024) :
    firsts (up w) (ix4 s j k l) = ((w (ix2 l (icol s j k)) : ℝ) : EReal) := by
  pointwise [firsts]
  refine congrArg (fun i => ((w i : ℝ) : EReal)) ?_
  funext a; fin_cases a <;> refine Fin.ext ?_ <;> simp [icol] <;> omega

theorem seconds_at (e : Fin 8) (k : Fin 352) (l : Fin 1024) :
    seconds (up v) (ix3 e k l) = ((v (ix2 ⟨e.val * 352 + k.val, by omega⟩ l) : ℝ) : EReal) := by
  pointwise [seconds]
  rfl

end Reals

/-! ## The blocks of a grid point -/

theorem idx : ∀ t : Fin cfg0.N, win0_0.index t = ![t.val % 8, 0] ∧ win0_1.index t = ![t.val / 8, t.val % 8, 0]
    ∧ win0_2.index t = ![t.val / 8, t.val % 8, 0] ∧ win0_3.index t = ![t.val % 8, 0] ∧ win0_4.index t = ![0, t.val / 8, 0, 0]
    ∧ win0_5.index t = ![t.val / 8, 0, 0] ∧ win0_6.index t = ![t.val / 8, t.val % 8, 0] ∧ win0_7.index t = ![0, t.val / 8, 0, 0]
    ∧ win0_8.index t = ![t.val / 8, 0, 0] :=
  (by decide +kernel : ∀ t : Fin grid0.N, _)

theorem lt32 (t : Fin cfg0.N) : t.val < 32 := lt_of_lt_of_eq t.isLt N_0

/-- Row `i` of the point's block of rows. -/
def at_row (t : Fin cfg0.N) (i : Fin 512) : Fin 4096 := ⟨t.val % 8 * 512 + i.val, by omega⟩

/-- The point's quarter. -/
def quarter (t : Fin cfg0.N) : Fin 4 := ⟨t.val / 8, by have := lt32 t; omega⟩

/-- An eighth of the point's quarter. -/
def eighth (t : Fin cfg0.N) (e : Fin 2) : Fin 8 := ⟨t.val / 8 * 2 + e.val, by have := lt32 t; omega⟩

section Reads

variable (t : Fin cfg0.N)

theorem read0 (W : S4096x1024.Idx → EReal) (i : Fin 512) (l : Fin 1024) :
    (((cfg0.win 0).blk t).view.read (Elt Ideal) W (ix2 i l) : EReal) = W (ix2 (at_row t i) l) := by blk_ext [idx t, at_row]
theorem read1 (W : S4x4096x704.Idx → EReal) (u : Fin 1) (i : Fin 512) (l : Fin 704) :
    (((cfg0.win 1).blk t).view.read (Elt Ideal) W (ix3 u i l) : EReal) = W (ix3 (quarter t) (at_row t i) l) := by blk_ext [idx t, at_row, quarter]
theorem read2 (W : S4x4096x704.Idx → EReal) (u : Fin 1) (i : Fin 512) (l : Fin 704) :
    (((cfg0.win 2).blk t).view.read (Elt Ideal) W (ix3 u i l) : EReal) = W (ix3 (quarter t) (at_row t i) l) := by blk_ext [idx t, at_row, quarter]
theorem read3 (W : S4096x1024.Idx → EReal) (i : Fin 512) (l : Fin 1024) :
    (((cfg0.win 3).blk t).view.read (Elt Ideal) W (ix2 i l) : EReal) = W (ix2 (at_row t i) l) := by blk_ext [idx t, at_row]
theorem read4 (W : S2x4x704x1024.Idx → EReal) (s : Fin 2) (u : Fin 1) (k : Fin 704) (l : Fin 1024) :
    (((cfg0.win 4).blk t).view.read (Elt Ideal) W (ix4 s u k l) : EReal) = W (ix4 s (quarter t) k l) := by blk_ext [idx t, quarter]
theorem read5 (W : S8x352x1024.Idx → EReal) (e : Fin 2) (k : Fin 352) (l : Fin 1024) :
    (((cfg0.win 5).blk t).view.read (Elt Ideal) W (ix3 e k l) : EReal) = W (ix3 (eighth t e) k l) := by blk_ext [idx t, eighth]

end Reads

variable {m c} (x : S4096x1024.Idx → ℝ) (w : S1024x5632.Idx → ℝ) (v : S2816x1024.Idx → ℝ) (d : S4096x1024.Idx → ℝ)

variable (m c) in
/-- The arguments are these reals. -/
structure Args : Prop where
  x : m ((c.tc : Thread nD τ).loc main_arg0) = up x
  w : m ((c.tc : Thread nD τ).loc main_arg1) = up w
  v : m ((c.tc : Thread nD τ).loc main_arg2) = up v
  d : m ((c.tc : Thread nD τ).loc main_arg3) = up d

/-- The rows of an array that a point works on. -/
def rows (x : S4096x1024.Idx → ℝ) (t : Fin cfg0.N) : S512x1024.Idx → ℝ := fun y => x (ix2 (at_row t (y 0)) (y 1))
/-- The same of a product's quarter. -/
def hids (s : Fin 2) (t : Fin cfg0.N) : S1x512x704.Idx → ℝ := fun y => hid x w s (quarter t) (at_row t (y 1)) (y 2)
/-- The quarter of the first weight. -/
def wfirst (t : Fin cfg0.N) : S2x1x704x1024.Idx → ℝ := fun y => w (ix2 (y 3) (icol (y 0) (quarter t) (y 2)))
/-- The quarter of the second weight. -/
def wsecond (t : Fin cfg0.N) : S2x352x1024.Idx → ℝ := fun y =>
  v (ix2 ⟨(eighth t (y 0)).val * 352 + (y 1).val, by have h : (y 1).val < 352 := (y 1).isLt; have := (eighth t (y 0)).isLt; omega⟩ (y 2))

variable {x w v d} (h : Args m c x w v d) (t : Fin cfg0.N)
include h

theorem x_eq : (iblk m c 0 t : FVec Ideal S512x1024 .bf16) = up (rows x t) := by
  funext y; idx_vars y
  exact (read0 t (V m c main_v14) _ _).trans (congrFun ((V_rows m c).trans (by rw [h.x])) _)

theorem a_eq : (iblk m c 1 t : FVec Ideal S1x512x704 .bf16) = up (hids x w 0 t) := by
  funext y; idx_vars y
  exact (read1 t (V m c main_v5) _ _ _).trans ((congrFun (V_gates m c) _).trans (by rw [h.x, h.w]; exact gates_at x w _ _ _))

theorem b_eq : (iblk m c 2 t : FVec Ideal S1x512x704 .bf16) = up (hids x w 1 t) := by
  funext y; idx_vars y
  exact (read2 t (V m c main_v8) _ _ _).trans ((congrFun (V_values m c) _).trans (by rw [h.x, h.w]; exact values_at x w _ _ _))

theorem d_eq : (iblk m c 3 t : FVec Ideal S512x1024 .f32) = up (rows d t) := by
  funext y; idx_vars y
  exact (read3 t (V m c main_arg3) _ _).trans (congrFun ((V_main_arg3 m c).trans h.d) _)

theorem w_eq : (iblk m c 4 t : FVec Ideal S2x1x704x1024 .bf16) = up (wfirst w t) := by
  funext y; idx_vars y
  exact (read4 t (V m c main_v11) _ _ _ _).trans ((congrFun (V_firsts m c) _).trans (by rw [h.w]; exact firsts_at w _ _ _ _))

theorem v_eq : (iblk m c 5 t : FVec Ideal S2x352x1024 .bf16) = up (wsecond v t) := by
  funext y; idx_vars y
  exact (read5 t (V m c main_v13) _ _ _).trans ((congrFun (V_seconds m c) _).trans (by rw [h.v]; exact seconds_at v _ _ _))

end Cert.FfnEntry

end
-- ==== Proof.FfnTile.lean ====
/-
The rows of a block come in two halves: what the kernel stores of each half and reads back is one array of 512 rows.
-/
module

public import proofs.«01_k».proof.Proof.FfnEntry

@[expose] public section

set_option maxRecDepth 16384

noncomputable section

namespace Cert.FfnTile

open Cert.RealLift Cert.DeltaSpec Cert.LayerGrad Cert.FfnBlock Idealize.ShloMosaic Idealize.ShloMosaic.Pipeline
open Cert.FfnKernelIdeal Cert.FfnKernelIdeal.Gen

variable (A B : S1x512x704.Idx → ℝ) (D : S512x1024.Idx → ℝ) (q : S2x352x1024.Idx → ℝ) (g : S2x1x704x1024.Idx → ℝ)

/-- Half of the rows of a product. -/
def hp (A : S1x512x704.Idx → ℝ) (o : ℕ) (ho : o + 256 ≤ 512) : S1x256x704.Idx → ℝ :=
  fun y => A (ix3 0 ⟨o + (y 1).val, lt_of_lt_of_le (Nat.add_lt_add_left (y 1).isLt o) ho⟩ (y 2))
/-- Half of the rows of the cotangent. -/
def hd (D : S512x1024.Idx → ℝ) (o : ℕ) (ho : o + 256 ≤ 512) : S256x1024.Idx → ℝ :=
  fun y => D (ix2 ⟨o + (y 0).val, lt_of_lt_of_le (Nat.add_lt_add_left (y 0).isLt o) ho⟩ (y 1))
/-- One of the two first weights. -/
def hw (g : S2x1x704x1024.Idx → ℝ) (s : Fin 2) : S1x1x704x1024.Idx → ℝ := fun y => g (ix4 s 0 (y 2) (y 3))

theorem ld_p (o : ℕ) (ho : o + 256 ≤ 512) (hb) :
    (View.ld (Val := Elt Ideal) (e' := .bf16) (up A) (Rect.unit (s := S1x512x704) ![0, o, 0] ![1, 256, 704] hb) : FVec Ideal S1x256x704 .bf16)
      = up (hp A o ho) := by
  funext y
  idx_vars y
  refine congrArg (up A) (funext fun a => Fin.ext ?_)
  fin_cases a
  · show 0 + 1 * y0.val = 0; omega
  · show o + 1 * y1.val = o + y1.val; omega
  · show 0 + 1 * y2.val = y2.val; omega

theorem ld_d (o : ℕ) (ho : o + 256 ≤ 512) (hb) :
    (View.ld (Val := Elt Ideal) (e' := .f32) (up D) (Rect.unit (s := S512x1024) ![o, 0] ![256, 1024] hb) : FVec Ideal S256x1024 .f32)
      = up (hd D o ho) := by
  funext y
  idx_vars y
  refine congrArg (up D) (funext fun a => Fin.ext ?_)
  fin_cases a
  · show o + 1 * y0.val = o + y0.val; omega
  · show 0 + 1 * y1.val = y1.val; omega

theorem ld_w (s : ℕ) (hs : s < 2) (hb) :
    (View.ld (Val := Elt Ideal) (e' := .bf16) (up g) (Rect.unit (s := S2x1x704x1024) ![s, 0, 0, 0] ![1, 1, 704, 1024] hb) : FVec Ideal S1x1x704x1024 .bf16)
      = up (hw g ⟨s, hs⟩) := by
  funext y
  idx_vars y
  refine congrArg (up g) (funext fun a => Fin.ext ?_)
  fin_cases a
  · show s + 1 * y0.val = s; omega
  · show 0 + 1 * y1.val = 0; omega
  · show 0 + 1 * y2.val = y2.val; omega
  · show 0 + 1 * y3.val = y3.val; omega

/-- The halved cotangent. -/
def doF : S512x1024.Idx → ℝ := fun y => 1 / 2 * D y
/-- The cotangent of the hidden columns. -/
def ctF (i : Fin 512) (c : Fin 704) : ℝ := ∑ k : Fin 1024, 1 / 2 * D (ix2 i k) * orowB q c k
/-- The hidden columns. -/
def actF : S512x704.Idx → ℝ := fun y => A (ix3 0 (y 0) (y 1)) * sig (A (ix3 0 (y 0) (y 1))) * B (ix3 0 (y 0) (y 1))
/-- The cotangent of the gate. -/
def daF : S512x704.Idx → ℝ := fun y => ctF D q (y 0) (y 1) * B (ix3 0 (y 0) (y 1)) * dsilu (A (ix3 0 (y 0) (y 1)))
/-- The cotangent of the value. -/
def dbF : S512x704.Idx → ℝ := fun y => ctF D q (y 0) (y 1) * (A (ix3 0 (y 0) (y 1)) * sig (A (ix3 0 (y 0) (y 1))))

section Join

variable {κ : Kind} {sp : Space}

/-- Two halves of 704 columns, read back whole. -/
theorem join (V : View sig κ sp S512x704 .bf16) (P Q : FVec Ideal S256x704 .bf16) (p : S512x704.Idx → ℝ)
    (hP : ∀ (i : Fin 256) (k : Fin 704), P (ix2 i k) = ((p (ix2 ⟨256 + i.val, by omega⟩ k) : ℝ) : EReal))
    (hQ : ∀ (i : Fin 256) (k : Fin 704), Q (ix2 i k) = ((p (ix2 ⟨0 + i.val, by omega⟩ k) : ℝ) : EReal)) :
    (V.readCov (Val := Elt Ideal) [⟨Rect.unit (s := S512x704) ![256, 0] ![256, 704] inb_S512x704_S256x704_256_0, P⟩, ⟨Rect.unit (s := S512x704) ![0, 0] ![256, 704] inb_S512x704_S256x704_0_0, Q⟩]
      (Rect.unit (s := S512x704) ![0, 0] ![512, 704] inb_S512x704_S512x704_0_0).toLoadRect : FVec Ideal S512x704 .bf16) = up p := by
  funext y
  refine (congrFun (View.readCov_eq_canon' _ _ _) y).trans ?_
  have e : (Rect.unit (s := S512x704) ![0, 0] ![512, 704] inb_S512x704_S512x704_0_0).toLoadRect.idx y = y := by
    idx_vars y
    refine funext fun a => Fin.ext ?_
    fin_cases a
    · show 0 + 1 * y0.val = y0.val; omega
    · show 0 + 1 * y1.val = y1.val; omega
  show View.canon _ ((Rect.unit (s := S512x704) ![0, 0] ![512, 704] inb_S512x704_S512x704_0_0).toLoadRect.idx y) = _
  rw [e]
  canon_tiles a ha
  case piece0 =>
    idx_vars a
    refine (hP a0 a1).trans (congrArg (fun i => ((p i : ℝ) : EReal)) (funext fun b => Fin.ext ?_))
    fin_cases b
    · exact ha0.symm
    · exact ha1.symm
  case piece1 =>
    idx_vars a
    refine (hQ a0 a1).trans (congrArg (fun i => ((p i : ℝ) : EReal)) (funext fun b => Fin.ext ?_))
    fin_cases b
    · exact (Nat.zero_add _).trans ha0.symm
    · exact ha1.symm

/-- Two halves of 1024 columns, read back whole. -/
theorem join_wide (V : View sig κ sp S512x1024 .bf16) (P Q : FVec Ideal S256x1024 .bf16) (p : S512x1024.Idx → ℝ)
    (hP : ∀ (i : Fin 256) (k : Fin 1024), P (ix2 i k) = ((p (ix2 ⟨256 + i.val, by omega⟩ k) : ℝ) : EReal))
    (hQ : ∀ (i : Fin 256) (k : Fin 1024), Q (ix2 i k) = ((p (ix2 ⟨0 + i.val, by omega⟩ k) : ℝ) : EReal)) :
    (V.readCov (Val := Elt Ideal) [⟨Rect.unit (s := S512x1024) ![256, 0] ![256, 1024] inb_S512x1024_S256x1024_256_0, P⟩, ⟨Rect.unit (s := S512x1024) ![0, 0] ![256, 1024] inb_S512x1024_S256x1024_0_0, Q⟩]
      (Rect.unit (s := S512x1024) ![0, 0] ![512, 1024] inb_S512x1024_S512x1024_0_0).toLoadRect : FVec Ideal S512x1024 .bf16) = up p := by
  funext y
  refine (congrFun (View.readCov_eq_canon' _ _ _) y).trans ?_
  have e : (Rect.unit (s := S512x1024) ![0, 0] ![512, 1024] inb_S512x1024_S512x1024_0_0).toLoadRect.idx y = y := by
    idx_vars y
    refine funext fun a => Fin.ext ?_
    fin_cases a
    · show 0 + 1 * y0.val = y0.val; omega
    · show 0 + 1 * y1.val = y1.val; omega
  show View.canon _ ((Rect.unit (s := S512x1024) ![0, 0] ![512, 1024] inb_S512x1024_S512x1024_0_0).toLoadRect.idx y) = _
  rw [e]
  canon_tiles a ha
  case piece0 =>
    idx_vars a
    refine (hP a0 a1).trans (congrArg (fun i => ((p i : ℝ) : EReal)) (funext fun b => Fin.ext ?_))
    fin_cases b
    · exact ha0.symm
    · exact ha1.symm
  case piece1 =>
    idx_vars a
    refine (hQ a0 a1).trans (congrArg (fun i => ((p i : ℝ) : EReal)) (funext fun b => Fin.ext ?_))
    fin_cases b
    · exact (Nat.zero_add _).trans ha0.symm
    · exact ha1.symm

end Join

variable (o : ℕ) (ho : o + 256 ≤ 512) (i : Fin 256) (k : Fin 704)

theorem do_half (l : Fin 1024) : k0_pay3 (F := Ideal) (up (hd D o ho)) (ix2 i l) = ((doF D (ix2 ⟨o + i.val, by omega⟩ l) : ℝ) : EReal) := by
  pointwise [k0_pay3]
  exact do_at (hd D o ho) i l

theorem act_half : k0_pay12 (F := Ideal) (k0_pay11 (up (hp A o ho)) (up (hp B o ho))) (ix2 i k)
    = ((actF A B (ix2 ⟨o + i.val, by omega⟩ k) : ℝ) : EReal) := by
  pointwise [k0_pay12]
  exact act_at (hp A o ho) (hp B o ho) i k

theorem da_half : k0_pay13 (F := Ideal) (k0_pay9 (up q) (up (hd D o ho)) (up (hp A o ho)) (up (hp B o ho))) (ix2 i k)
    = ((daF A B D q (ix2 ⟨o + i.val, by omega⟩ k) : ℝ) : EReal) := by
  pointwise [k0_pay13]
  exact da_at (hp A o ho) (hp B o ho) (hd D o ho) q i k

theorem db_half : k0_pay14 (F := Ideal) (k0_pay10 (up q) (up (hd D o ho)) (up (hp A o ho))) (ix2 i k)
    = ((dbF A D q (ix2 ⟨o + i.val, by omega⟩ k) : ℝ) : EReal) := by
  pointwise [k0_pay14]
  exact db_at (hp A o ho) (hd D o ho) q i k

/-- The second half's stores are the first's formulas. -/
theorem da_second (u : Vec Ideal S2x352x1024 .bf16) (e : Vec Ideal S256x1024 .f32) (v w : Vec Ideal S1x256x704 .bf16) :
    k0_pay26 (F := Ideal) (k0_pay18 (k0_pay1 u) e) v w = k0_pay13 (k0_pay9 u e v w) := rfl
theorem db_second (u : Vec Ideal S2x352x1024 .bf16) (e : Vec Ideal S256x1024 .f32) (v : Vec Ideal S1x256x704 .bf16) :
    k0_pay27 (F := Ideal) (k0_pay18 (k0_pay1 u) e) v = k0_pay14 (k0_pay10 u e v) := rfl
theorem dh_second (v w : FVec Ideal S256x704 .bf16) (e f : Vec Ideal S1x1x704x1024 .bf16) :
    k0_pay28 (F := Ideal) v w e f = k0_pay15 v w e f := rfl

/-- The input's gradient in the block's rows. -/
def dhF (i : Fin 512) (k : Fin 1024) : ℝ :=
  (∑ c, daF A B D q (ix2 i c) * g (ix4 0 0 c k)) + ∑ c, dbF A D q (ix2 i c) * g (ix4 1 0 c k)

theorem dh_half (u : Fin 1) (l : Fin 1024) :
    k0_pay15 (F := Ideal) (k0_pay9 (up q) (up (hd D o ho)) (up (hp A o ho)) (up (hp B o ho))) (k0_pay10 (up q) (up (hd D o ho)) (up (hp A o ho)))
        (up (hw g 0)) (up (hw g 1)) (ix3 u i l)
      = ((dhF A B D q g ⟨o + i.val, by omega⟩ l : ℝ) : EReal) :=
  dh_at (hp A o ho) (hp B o ho) (hd D o ho) q (hw g 0) (hw g 1) u i l

/-! ## The accumulated products -/

variable (p : FVec Ideal S512x704 .bf16) (e x : FVec Ideal S512x1024 .bf16) (s : Fin 1) (c : Fin 704) (l : Fin 1024)

theorem out_set : k0_pay33 (F := Ideal) e p (ix2 c l) = k0_pay30 e p (ix2 c l) := by pointwise [k0_pay33]
theorem gate_set : k0_pay34 (F := Ideal) p x (ix3 s c l) = k0_pay31 p x (ix2 c l) := by pointwise [k0_pay34]
theorem value_set : k0_pay35 (F := Ideal) p x (ix3 s c l) = k0_pay32 p x (ix2 c l) := by pointwise [k0_pay35]
theorem out_add (z : FVec Ideal S704x1024 .f32) : k0_pay36 (F := Ideal) e p z (ix2 c l) = z (ix2 c l) + k0_pay30 e p (ix2 c l) := by pointwise [k0_pay36]
theorem gate_add (z : FVec Ideal S1x704x1024 .f32) : k0_pay37 (F := Ideal) p x z (ix3 s c l) = z (ix3 0 c l) + k0_pay31 p x (ix2 c l) := by pointwise [k0_pay37]
theorem value_add (z : FVec Ideal S1x704x1024 .f32) : k0_pay38 (F := Ideal) p x z (ix3 s c l) = z (ix3 0 c l) + k0_pay32 p x (ix2 c l) := by pointwise [k0_pay38]
theorem in_cast (z : FVec Ideal S2x704x1024 .f32) (s : Fin 2) (u : Fin 1) : k0_pay39 (F := Ideal) z (ix4 s u c l) = z (ix3 s c l) := by pointwise [k0_pay39]
theorem out_cast (z : FVec Ideal S704x1024 .f32) (u : Fin 1) : k0_pay40 (F := Ideal) z (ix3 u c l) = z (ix2 c l) := by pointwise [k0_pay40]

end Cert.FfnTile

end
-- ==== Proof.FfnArrays.lean ====
/-
The three result arrays of the kernel of the gated block's gradient, at arguments that are real numbers.
-/
module

public import proofs.«01_k».proof.Proof.FfnTile
public import Idealize.ShloMosaic.Lib.Pipeline.ReadBack

@[expose] public section

set_option maxRecDepth 16384

noncomputable section

namespace Cert.FfnArrays

open Cert.RealLift Cert.FfnRef Cert.FfnEntry Cert.FfnTile Cert.FfnBlock Idealize.ShloMosaic Idealize.ShloMosaic.Pipeline
open Cert.FfnKernelIdeal Cert.FfnKernelIdeal.Gen

variable {m : (ℓ : Loc nD τ sig) → Buf (Elt Ideal) ℓ} {c : Dev nD}
variable {x : S4096x1024.Idx → ℝ} {w : S1024x5632.Idx → ℝ} {v : S2816x1024.Idx → ℝ} {d : S4096x1024.Idx → ℝ}

/-! ## The block's formulas are the array's, in the block's rows and the point's quarter -/

theorem ct_eq (t : Fin cfg0.N) (i : Fin 512) (k : Fin 704) :
    ctF (rows d t) (wsecond v t) i k = FfnRef.ct v d (quarter t) (at_row t i) k := by
  refine Finset.sum_congr rfl fun l _ => congrArg (fun i => _ * v i) ?_
  refine congrArg (ix2 · l) (Fin.ext ?_)
  show (t.val / 8 * 2 + k.val / 352) * 352 + k.val % 352 = t.val / 8 * 704 + k.val
  omega

theorem act_eq (t : Fin cfg0.N) (i : Fin 512) (k : Fin 704) :
    actF (hids x w 0 t) (hids x w 1 t) (ix2 i k) = FfnRef.act x w (quarter t) (at_row t i) k := rfl

theorem da_eq (t : Fin cfg0.N) (i : Fin 512) (k : Fin 704) :
    daF (hids x w 0 t) (hids x w 1 t) (rows d t) (wsecond v t) (ix2 i k) = FfnRef.da x w v d (quarter t) (at_row t i) k := by
  refine Eq.trans ?_ (congrArg (fun r : ℝ => r * hid x w 1 (quarter t) (at_row t i) k * _) (ct_eq t i k))
  rfl

theorem db_eq (t : Fin cfg0.N) (i : Fin 512) (k : Fin 704) :
    dbF (hids x w 0 t) (rows d t) (wsecond v t) (ix2 i k) = FfnRef.db x w v d (quarter t) (at_row t i) k := by
  refine Eq.trans ?_ (congrArg (fun r : ℝ => r * _) (ct_eq t i k))
  rfl

theorem dh_eq (t : Fin cfg0.N) (i : Fin 512) (l : Fin 1024) :
    dhF (hids x w 0 t) (hids x w 1 t) (rows d t) (wsecond v t) (wfirst w t) i l = FfnRef.dh x w v d (quarter t) (at_row t i) l := by
  unfold dhF FfnRef.dh
  simp only [da_eq, db_eq]
  rfl

/-- The point's part of the gradient of the second weight. -/
def outP (x : S4096x1024.Idx → ℝ) (w : S1024x5632.Idx → ℝ) (d : S4096x1024.Idx → ℝ) (t : Fin cfg0.N) (k : Fin 704) (l : Fin 1024) : ℝ :=
  ∑ i : Fin 512, FfnRef.act x w (quarter t) (at_row t i) k * (1 / 2 * d (ix2 (at_row t i) l))

/-- The point's part of the gradient of the first weight. -/
def inP (x : S4096x1024.Idx → ℝ) (w : S1024x5632.Idx → ℝ) (v : S2816x1024.Idx → ℝ) (d : S4096x1024.Idx → ℝ) (t : Fin cfg0.N) (s : Fin 2)
    (k : Fin 704) (l : Fin 1024) : ℝ :=
  ∑ i : Fin 512, FfnRef.dab x w v d s (quarter t) (at_row t i) k * x (ix2 (at_row t i) l)

theorem out_part (t : Fin cfg0.N) (k : Fin 704) (l : Fin 1024) :
    k0_pay30 (F := Ideal) (up (doF (rows d t))) (up (actF (hids x w 0 t) (hids x w 1 t))) (ix2 k l) = ((outP x w d t k l : ℝ) : EReal) :=
  wout_at _ _ k l

theorem gate_part (t : Fin cfg0.N) (k : Fin 704) (l : Fin 1024) :
    k0_pay31 (F := Ideal) (up (daF (hids x w 0 t) (hids x w 1 t) (rows d t) (wsecond v t))) (up (rows x t)) (ix2 k l)
      = ((inP x w v d t 0 k l : ℝ) : EReal) := by
  refine (gate_at _ _ k l).trans (congrArg (fun r : ℝ => (r : EReal)) (Finset.sum_congr rfl fun i _ => ?_))
  rw [da_eq]
  rfl

theorem value_part (t : Fin cfg0.N) (k : Fin 704) (l : Fin 1024) :
    k0_pay32 (F := Ideal) (up (dbF (hids x w 0 t) (rows d t) (wsecond v t))) (up (rows x t)) (ix2 k l)
      = ((inP x w v d t 1 k l : ℝ) : EReal) := by
  refine (value_at _ _ k l).trans (congrArg (fun r : ℝ => (r : EReal)) (Finset.sum_congr rfl fun i _ => ?_))
  rw [db_eq]
  rfl

/-- A slice of the accumulated array. -/
theorem ld_acc (z : FVec Ideal S2x704x1024 .f32) (s : ℕ) (hs : s < 2) (hb) (k : Fin 704) (l : Fin 1024) :
    (View.ld (Val := Elt Ideal) (e' := .f32) z (Rect.unit (s := S2x704x1024) ![s, 0, 0] ![1, 704, 1024] hb) : FVec Ideal S1x704x1024 .f32) (ix3 0 k l)
      = z (ix3 ⟨s, hs⟩ k l) := by
  refine congrArg z (funext fun a => Fin.ext ?_)
  fin_cases a
  · show s + 1 * 0 = s; omega
  · show 0 + 1 * k.val = k.val; omega
  · show 0 + 1 * l.val = l.val; omega

/-- An entry of one of the two accumulated slices. -/
theorem at_piece (s : Fin 2) (y : S2x704x1024.Idx) (a : S1x704x1024.Idx) (h0 : (y 0).val = s.val) (h1 : (y 1).val = (a 1).val)
    (h2 : (y 2).val = (a 2).val) : y = ix3 s (a 1) (a 2) := by
  funext b; refine Fin.ext ?_; fin_cases b
  · exact h0
  · exact h1
  · exact h2

variable (h : Args m c x w v d) (t : Fin cfg0.N)
include h

/-! ## What a point leaves -/

theorem dh_block (y : S1x512x1024.Idx) : (outsAt0 m c t.val t.isLt).1 y = ((FfnRef.dh x w v d (quarter t) (at_row t (y 1)) (y 2) : ℝ) : EReal) := by
  by_cases h0 : t.val % 8 = 0
  on_goal 1 => rw [outsAt0_A m c t h0 (by omega) (by omega)]; frame_out
  on_goal 2 =>
    by_cases h2 : t.val % 8 = 7
    on_goal 1 => rw [outsAt0_C m c t h0 (by omega) h2]; frame_out
    on_goal 2 => rw [outsAt0_B m c t h0 (by omega) h2]; frame_out
  all_goals
    canon_tiles a ha
    case piece0 =>
      rw [second_da, second_db, dh_second, a_eq h, b_eq h, d_eq h, w_eq h, v_eq h, ld_d _ 256 (by omega), ld_p _ 256 (by omega),
        ld_p _ 256 (by omega), ld_w _ 0 (by omega), ld_w _ 1 (by omega)]
      idx_vars a
      refine (dh_half _ _ _ _ _ 256 (by omega) a1 a0 a2).trans (congrArg (fun r : ℝ => (r : EReal)) ((dh_eq t _ _).trans ?_))
      exact congrArg₂ (fun i l => FfnRef.dh x w v d (quarter t) (at_row t i) l) (Fin.ext ha1.symm) (Fin.ext ha2.symm)
    case piece1 =>
      rw [a_eq h, b_eq h, d_eq h, w_eq h, v_eq h, ld_d _ 0 (by omega), ld_p _ 0 (by omega),
        ld_p _ 0 (by omega), ld_w _ 0 (by omega), ld_w _ 1 (by omega)]
      idx_vars a
      refine (dh_half _ _ _ _ _ 0 (by omega) a1 a0 a2).trans (congrArg (fun r : ℝ => (r : EReal)) ((dh_eq t _ _).trans ?_))
      exact congrArg₂ (fun i l => FfnRef.dh x w v d (quarter t) (at_row t i) l) (Fin.ext ((Nat.zero_add _).trans ha1.symm)) (Fin.ext ha2.symm)

theorem out_first (h0 : t.val % 8 = 0) (y : S704x1024.Idx) : (outsAt0 m c t.val t.isLt).2.2.2.2 y = 0 + ((outP x w d t (y 0) (y 1) : ℝ) : EReal) := by
  rw [outsAt0_A m c t h0 (by omega) (by omega)]; frame_out
  idx_vars y
  rw [a_eq h, b_eq h, d_eq h, ld_d _ 256 (by omega), ld_p _ 256 (by omega), ld_p _ 256 (by omega), ld_d _ 0 (by omega), ld_p _ 0 (by omega),
    ld_p _ 0 (by omega), second_do, second_act,
    join_wide _ _ _ (doF (rows d t)) (do_half _ 256 (by omega)) (do_half _ 0 (by omega)),
    join _ _ _ (actF (hids x w 0 t) (hids x w 1 t)) (act_half _ _ 256 (by omega)) (act_half _ _ 0 (by omega)), out_set, out_part, zero_add]

theorem out_next (h0 : ¬t.val % 8 = 0) (y : S704x1024.Idx) : (outsAt0 m c t.val t.isLt).2.2.2.2 y
    = (outsAt0 m c (t.val - 1) (lt_of_le_of_lt (Nat.sub_le _ _) t.isLt)).2.2.2.2 y + ((outP x w d t (y 0) (y 1) : ℝ) : EReal) := by
  by_cases h2 : t.val % 8 = 7
  on_goal 1 => rw [outsAt0_C m c t h0 (by omega) h2]; frame_out
  on_goal 2 => rw [outsAt0_B m c t h0 (by omega) h2]; frame_out
  all_goals
    idx_vars y
    rw [read_unread_whole, a_eq h, b_eq h, d_eq h, ld_d _ 256 (by omega), ld_p _ 256 (by omega), ld_p _ 256 (by omega), ld_d _ 0 (by omega),
      ld_p _ 0 (by omega), ld_p _ 0 (by omega), second_do, second_act,
      join_wide _ _ _ (doF (rows d t)) (do_half _ 256 (by omega)) (do_half _ 0 (by omega)),
      join _ _ _ (actF (hids x w 0 t) (hids x w 1 t)) (act_half _ _ 256 (by omega)) (act_half _ _ 0 (by omega)), out_add, out_part]

theorem in_first (h0 : t.val % 8 = 0) (y : S2x704x1024.Idx) : (outsAt0 m c t.val t.isLt).2.2.2.1 y
    = 0 + ((inP x w v d t (y 0) (y 1) (y 2) : ℝ) : EReal) := by
  rw [zero_add, outsAt0_A m c t h0 (by omega) (by omega)]; frame_out
  canon_tiles a ha
  case piece0 =>
    have hy := at_piece 1 y a (by show (y 0).val = 1; omega) ha1 ha2
    idx_vars a
    rw [x_eq h, a_eq h, d_eq h, v_eq h, ld_d _ 256 (by omega), ld_p _ 256 (by omega), ld_d _ 0 (by omega), ld_p _ 0 (by omega), db_second,
      join _ _ _ (dbF (hids x w 0 t) (rows d t) (wsecond v t)) (db_half _ _ _ 256 (by omega)) (db_half _ _ _ 0 (by omega)), value_set, value_part, hy]
    rfl
  case piece1 =>
    have hy := at_piece 0 y a (by show (y 0).val = 0; omega) ha1 ha2
    idx_vars a
    rw [x_eq h, a_eq h, b_eq h, d_eq h, v_eq h, ld_d _ 256 (by omega), ld_p _ 256 (by omega), ld_p _ 256 (by omega), ld_d _ 0 (by omega),
      ld_p _ 0 (by omega), ld_p _ 0 (by omega), da_second,
      join _ _ _ (daF (hids x w 0 t) (hids x w 1 t) (rows d t) (wsecond v t)) (da_half _ _ _ _ 256 (by omega)) (da_half _ _ _ _ 0 (by omega)),
      gate_set, gate_part, hy]
    rfl

theorem in_next (h0 : ¬t.val % 8 = 0) (y : S2x704x1024.Idx) : (outsAt0 m c t.val t.isLt).2.2.2.1 y
    = (outsAt0 m c (t.val - 1) (lt_of_le_of_lt (Nat.sub_le _ _) t.isLt)).2.2.2.1 y + ((inP x w v d t (y 0) (y 1) (y 2) : ℝ) : EReal) := by
  by_cases h2 : t.val % 8 = 7
  on_goal 1 => rw [outsAt0_C m c t h0 (by omega) h2]; frame_out
  on_goal 2 => rw [outsAt0_B m c t h0 (by omega) h2]; frame_out
  all_goals
    canon_tiles a ha
    case piece0 =>
      have hy := at_piece 1 y a (by show (y 0).val = 1; omega) ha1 ha2
      idx_vars a
      rw [read_unread_whole, x_eq h, a_eq h, d_eq h, v_eq h, ld_d _ 256 (by omega), ld_p _ 256 (by omega), ld_d _ 0 (by omega), ld_p _ 0 (by omega), db_second,
        join _ _ _ (dbF (hids x w 0 t) (rows d t) (wsecond v t)) (db_half _ _ _ 256 (by omega)) (db_half _ _ _ 0 (by omega)), value_add, value_part,
        ld_acc _ 1 (by omega), hy]
      rfl
    case piece1 =>
      have hy := at_piece 0 y a (by show (y 0).val = 0; omega) ha1 ha2
      idx_vars a
      rw [read_unread_whole, x_eq h, a_eq h, b_eq h, d_eq h, v_eq h, ld_d _ 256 (by omega), ld_p _ 256 (by omega), ld_p _ 256 (by omega), ld_d _ 0 (by omega),
        ld_p _ 0 (by omega), ld_p _ 0 (by omega), da_second,
        join _ _ _ (daF (hids x w 0 t) (hids x w 1 t) (rows d t) (wsecond v t)) (da_half _ _ _ _ 256 (by omega)) (da_half _ _ _ _ 0 (by omega)),
        gate_add, gate_part, ld_acc _ 0 (by omega), hy]
      rfl

omit h in
/-- The last point of a quarter writes the accumulated arrays out. -/
theorem in_last (h2 : t.val % 8 = 7) (s : Fin 2) (u : Fin 1) (k : Fin 704) (l : Fin 1024) :
    (outsAt0 m c t.val t.isLt).2.1 (ix4 s u k l) = (outsAt0 m c t.val t.isLt).2.2.2.1 (ix3 s k l) := by
  rw [outsAt0_C m c t (by omega) (by omega) h2]; frame_out
  rw [in_cast]
  refine (congrFun (View.readCov_eq_canon' _ _ _) _).trans (congrArg (View.canon _) ?_)
  refine funext fun a => Fin.ext ?_
  fin_cases a
  · show 0 + 1 * s.val = s.val; omega
  · show 0 + 1 * k.val = k.val; omega
  · show 0 + 1 * l.val = l.val; omega

omit h in
theorem out_last (h2 : t.val % 8 = 7) (u : Fin 1) (k : Fin 704) (l : Fin 1024) :
    (outsAt0 m c t.val t.isLt).2.2.1 (ix3 u k l) = (outsAt0 m c t.val t.isLt).2.2.2.2 (ix2 k l) := by
  rw [outsAt0_C m c t (by omega) (by omega) h2]; frame_out
  rw [out_cast]

/-! ## The result arrays -/

omit h in
/-- The rows of a quarter, eight blocks of 512. -/
theorem rows_sum (F : Fin 4096 → ℝ) (G : Fin 8 → ℝ) (hG : ∀ s, G s = ∑ i : Fin 512, F ⟨s.val * 512 + i.val, by omega⟩) : (∑ s, G s) = ∑ r, F r := by
  simp only [hG]
  refine (Fin.sum_divmod_congr (A := 8) (S := 512) fun R ha hs => congrArg F (Fin.ext ?_)).symm
  show R.val = R.val / 512 * 512 + R.val % 512
  omega

theorem final6 : (dats m 0 c).arrAt 6 (cfgs 0).N = fun j : S4x4096x1024.Idx => ((FfnRef.dh x w v d (j 0) (j 1) (j 2) : ℝ) : EReal) := by
  refine (dats m 0 c).arrAt_eq_of_covers 6 _ (by decide +kernel) fun t _ y => ?_
  idx_vars y
  have hj : (win0_6.blk t).view.emb (ix3 y0 y1 y2) = (ix3 (quarter t) (at_row t y1) y2 : S4x4096x1024.Idx) := by
    blk_ext [idx t, at_row, quarter]
  blk_simp
  rw [after0_6, hj]
  exact dh_block h t (ix3 y0 y1 y2)

theorem final7 : (dats m 0 c).arrAt 7 (cfgs 0).N = fun j : S2x4x704x1024.Idx => ((FfnRef.dwin x w v d (j 0) (j 1) (j 2) (j 3) : ℝ) : EReal) := by
  refine (dats m 0 c).arrAt_eq_of_covers 7 _ (by decide +kernel) fun t hf y => ?_
  have hr := (flush0_7 t).mp hf
  idx_vars y
  have hj : (win0_7.blk t).view.emb (ix4 y0 y1 y2 y3) = (ix4 y0 (quarter t) y2 y3 : S2x4x704x1024.Idx) := by
    blk_ext [idx t, quarter]
  blk_simp
  rw [after0_7, hj, in_last t hr, Pipeline.eq_sum_fin_of_reset_step_apply_of_flush (fun n hn => (outsAt0 m c n hn).2.2.2.1) 8 (fun _ => (0 : EReal))
    (fun p (j : S2x704x1024.Idx) => ((inP x w v d p (j 0) (j 1) (j 2) : ℝ) : EReal)) (fun t ht j => in_first h t ht j) (fun t ht j => in_next h t ht j)
    t hr _, zero_add, coe_sum]
  refine congrArg (fun z : ℝ => (z : EReal)) (rows_sum (fun r => FfnRef.dab x w v d y0 (quarter t) r y2 * x (ix2 r y3)) _ fun s => ?_)
  have e1 : quarter ⟨8 * (t.val / 8) + s.val, Pipeline.run_point_lt_of_flush t hr s⟩ = quarter t := Fin.ext (by simp only [quarter]; omega)
  have e2 : ∀ i, at_row ⟨8 * (t.val / 8) + s.val, Pipeline.run_point_lt_of_flush t hr s⟩ i = ⟨s.val * 512 + i.val, by omega⟩ := fun i =>
    Fin.ext (by simp only [at_row]; omega)
  show inP x w v d _ y0 y2 y3 = _
  simp only [inP, e1, e2]

theorem final8 : (dats m 0 c).arrAt 8 (cfgs 0).N = fun j : S4x704x1024.Idx => ((FfnRef.dwout x w d (j 0) (j 1) (j 2) : ℝ) : EReal) := by
  refine (dats m 0 c).arrAt_eq_of_covers 8 _ (by decide +kernel) fun t hf y => ?_
  have hr := (flush0_8 t).mp hf
  idx_vars y
  have hj : (win0_8.blk t).view.emb (ix3 y0 y1 y2) = (ix3 (quarter t) y1 y2 : S4x704x1024.Idx) := by
    blk_ext [idx t, quarter]
  blk_simp
  rw [after0_8, hj, out_last t hr, Pipeline.eq_sum_fin_of_reset_step_apply_of_flush (fun n hn => (outsAt0 m c n hn).2.2.2.2) 8 (fun _ => (0 : EReal))
    (fun p (j : S704x1024.Idx) => ((outP x w d p (j 0) (j 1) : ℝ) : EReal)) (fun t ht j => out_first h t ht j) (fun t ht j => out_next h t ht j)
    t hr _, zero_add, coe_sum]
  refine congrArg (fun z : ℝ => (z : EReal)) (rows_sum (fun r => FfnRef.act x w (quarter t) r y1 * (1 / 2 * d (ix2 r y2))) _ fun s => ?_)
  have e1 : quarter ⟨8 * (t.val / 8) + s.val, Pipeline.run_point_lt_of_flush t hr s⟩ = quarter t := Fin.ext (by simp only [quarter]; omega)
  have e2 : ∀ i, at_row ⟨8 * (t.val / 8) + s.val, Pipeline.run_point_lt_of_flush t hr s⟩ i = ⟨s.val * 512 + i.val, by omega⟩ := fun i =>
    Fin.ext (by simp only [at_row]; omega)
  show outP x w d _ y1 y2 = _
  simp only [outP, e1, e2]

end Cert.FfnArrays

end
-- ==== Proof.Ffn.lean ====
/-
The gradient of the gated feed-forward block: kernel and reference end with the same three arrays.
-/
module

public import proofs.«01_k».proof.Defs
public import proofs.«01_k».proof.Proof.FfnArrays
public import proofs.«01_k».proof.Proof.FfnRef
public import proofs.«01_k».proof.Proof.Gen.Pre_finite_ffn
public import Idealize.ShloMosaic.Lib.Claim

@[expose] public section

set_option maxRecDepth 16384

noncomputable section

namespace Cert.Ffn

open Cert.RealLift Idealize.ShloMosaic Idealize.SL.Sem

/-- The precondition: the arguments are arrays of reals. -/
theorem args_of_pre (m : (ℓ : Loc Cert.FfnKernelIdeal.nD Cert.FfnKernelIdeal.τ Cert.FfnKernelIdeal.sig) → Buf (Elt Ideal) ℓ)
    (h : Cert.Pre_FfnKernelIdeal_finite_ffn m) (c : Dev Cert.FfnKernelIdeal.nD) : ∃ x w v d, FfnEntry.Args m c x w v d := by
  have hc := congrFun (h c) (fun a => a.elim0)
  have hc' : IntOp.andi (IntOp.andi (IntOp.andi _ _) _) _ = 1#1 := hc
  obtain ⟨k3, h3⟩ := IntOp.andi_eq_one.1 hc'
  obtain ⟨k2, h2⟩ := IntOp.andi_eq_one.1 k3
  obtain ⟨h0, h1⟩ := IntOp.andi_eq_one.1 k2
  haveI : Subsingleton Cert.Pre_finite_ffn.S_.Idx := ⟨fun a b => funext fun k => k.elim0⟩
  obtain ⟨x, e0⟩ := exists_up _ _ _ _ _ _ h0
  obtain ⟨w, e1⟩ := exists_up _ _ _ _ _ _ h1
  obtain ⟨v, e2⟩ := exists_up _ _ _ _ _ _ h2
  obtain ⟨d, e3⟩ := exists_up _ _ _ _ _ _ h3
  exact ⟨x, w, v, d, e0, e1, e2, e3⟩

/-- The gradient in the block's input through each quarter, and the gradients of the two weights. -/
theorem algebraic : Cert.algebraic_FfnKernelIdeal_FfnReferenceIdeal_pre_finite_ffn := by
  pair_intro
  · run_from Cert.FfnKernelIdeal.Gen.run_main m g
  · run_from Cert.FfnReferenceIdeal.Value.run m' g' <;>
      (obtain ⟨x, w, v, d, h⟩ := args_of_pre m hpre c
       obtain ⟨h0, h1, h2, h3⟩ := hagree c)
    · rw [FfnReferenceIdeal.Read.val_main_v39_eq]
      simp only [h0, h1, h2, h3, h.x, h.w, h.v, h.d]
      rw [FfnArrays.final6 h]
      funext j
      idx_vars j
      exact FfnRef.dh_at x w v d j0 j1 j2
    · rw [FfnReferenceIdeal.Read.val_main_v40_eq]
      simp only [h0, h1, h2, h3, h.x, h.w, h.v, h.d]
      rw [FfnArrays.final7 h]
      funext j
      idx_vars j
      exact FfnRef.in_at x w v d j0 j1 j2 j3
    · rw [FfnReferenceIdeal.Read.val_main_v42_eq]
      simp only [h0, h1, h3, h.x, h.w, h.d]
      rw [FfnArrays.final8 h]
      funext j
      idx_vars j
      exact FfnRef.out_at x w d j0 j1 j2

/-- The reference's frame: host operations, which leave the arguments alone, and no semaphore at all. -/
theorem frame_ref : Cert.quiescent_FfnReferenceIdeal := fun m ρ _ =>
  (θ_run Cert.FfnReferenceIdeal.defs _ _).mono (fun r h => And.intro (fun c => (h c).2.2.2) (sem_eq_zero_of_no_sems (by decide) r.2))
    (Cert.FfnReferenceIdeal.Value.run m ρ)

end Cert.Ffn

end
-- ==== Proof.lean ====
/-
The claims, one group per call of the step; a module each proves the equation:

   - The gradient of the pre-norms (`Norm`).
   - The gradient of the delta rule within its chunks (`Local`).
   - The loss and its gradient (`Loss`).
   - The gradient of the gated norm behind the delta rule (`Gate`).
   - The gradient of the hybrid mixer's output (`Mix`).
   - The gradient of the delta rule's scan over the chunks (`Rec`).
   - The gradient of the pre-norm and the projection in front of the delta rule (`Gproj`).
   - The gradient of the gated feed-forward block (`Ffn`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_norm
public import proofs.«01_k».proof.Proof.Norm
public import proofs.«01_k».proof.Proof.Gen.LocalKernel
public import proofs.«01_k».proof.Proof.Gen.LocalKernel.Skeleton
public import proofs.«01_k».proof.Proof.Gen.LocalKernel.Launch
public import proofs.«01_k».proof.Proof.Gen.LocalKernel.Points
public import proofs.«01_k».proof.Proof.Gen.LocalKernel.Frame
public import proofs.«01_k».proof.Proof.Gen.LocalKernelIdeal
public import proofs.«01_k».proof.Proof.Gen.LocalKernelIdeal.Skeleton
public import proofs.«01_k».proof.Proof.Gen.LocalKernelIdeal.Launch
public import proofs.«01_k».proof.Proof.Gen.LocalKernelIdeal.Points
public import proofs.«01_k».proof.Proof.Gen.LocalKernelIdeal.Frame
public import proofs.«01_k».proof.Proof.Gen.LocalKernelIdeal.Value
public import proofs.«01_k».proof.Proof.Gen.LocalReferenceIdeal
public import proofs.«01_k».proof.Proof.Gen.LocalReferenceIdeal.Run
public import proofs.«01_k».proof.Proof.Gen.LocalReferenceIdeal.Read
public import proofs.«01_k».proof.Proof.Gen.Pre_finite_local
public import proofs.«01_k».proof.Proof.Local
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pre_finite_loss
public import proofs.«01_k».proof.Proof.Loss
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Pre_finite_gate
public import proofs.«01_k».proof.Proof.Gate
public import proofs.«01_k».proof.Proof.Gen.MixoutKernel
public import proofs.«01_k».proof.Proof.Gen.MixoutKernel.Skeleton
public import proofs.«01_k».proof.Proof.Gen.MixoutKernel.Launch
public import proofs.«01_k».proof.Proof.Gen.MixoutKernel.Points
public import proofs.«01_k».proof.Proof.Gen.MixoutKernel.Frame
public import proofs.«01_k».proof.Proof.Gen.MixoutKernelIdeal
public import proofs.«01_k».proof.Proof.Gen.MixoutKernelIdeal.Skeleton
public import proofs.«01_k».proof.Proof.Gen.MixoutKernelIdeal.Launch
public import proofs.«01_k».proof.Proof.Gen.MixoutKernelIdeal.Points
public import proofs.«01_k».proof.Proof.Gen.MixoutKernelIdeal.Frame
public import proofs.«01_k».proof.Proof.Gen.MixoutKernelIdeal.Value
public import proofs.«01_k».proof.Proof.Gen.MixoutReferenceIdeal
public import proofs.«01_k».proof.Proof.Gen.MixoutReferenceIdeal.Run
public import proofs.«01_k».proof.Proof.Gen.MixoutReferenceIdeal.Read
public import proofs.«01_k».proof.Proof.Gen.Pre_finite_mixout
public import proofs.«01_k».proof.Proof.Mix
public import proofs.«01_k».proof.Proof.Gen.RecKernel
public import proofs.«01_k».proof.Proof.Gen.RecKernel.Skeleton
public import proofs.«01_k».proof.Proof.Gen.RecKernel.Launch
public import proofs.«01_k».proof.Proof.Gen.RecKernel.Points
public import proofs.«01_k».proof.Proof.Gen.RecKernel.Frame
public import proofs.«01_k».proof.Proof.Gen.RecKernelIdeal
public import proofs.«01_k».proof.Proof.Gen.RecKernelIdeal.Skeleton
public import proofs.«01_k».proof.Proof.Gen.RecKernelIdeal.Launch
public import proofs.«01_k».proof.Proof.Gen.RecKernelIdeal.Points
public import proofs.«01_k».proof.Proof.Gen.RecKernelIdeal.Frame
public import proofs.«01_k».proof.Proof.Gen.RecKernelIdeal.Value
public import proofs.«01_k».proof.Proof.Gen.RecReferenceIdeal
public import proofs.«01_k».proof.Proof.Gen.Pre_finite_rec
public import proofs.«01_k».proof.Proof.Rec
public import proofs.«01_k».proof.Proof.Gen.GprojKernel
public import proofs.«01_k».proof.Proof.Gen.GprojKernel.Skeleton
public import proofs.«01_k».proof.Proof.Gen.GprojKernel.Launch
public import proofs.«01_k».proof.Proof.Gen.GprojKernel.Points
public import proofs.«01_k».proof.Proof.Gen.GprojKernel.Frame
public import proofs.«01_k».proof.Proof.Gen.GprojKernelIdeal
public import proofs.«01_k».proof.Proof.Gen.GprojKernelIdeal.Skeleton
public import proofs.«01_k».proof.Proof.Gen.GprojKernelIdeal.Launch
public import proofs.«01_k».proof.Proof.Gen.GprojKernelIdeal.Points
public import proofs.«01_k».proof.Proof.Gen.GprojKernelIdeal.Frame
public import proofs.«01_k».proof.Proof.Gen.GprojKernelIdeal.Value
public import proofs.«01_k».proof.Proof.Gen.GprojReferenceIdeal
public import proofs.«01_k».proof.Proof.Gen.GprojReferenceIdeal.Run
public import proofs.«01_k».proof.Proof.Gen.GprojReferenceIdeal.Read
public import proofs.«01_k».proof.Proof.Gen.Pre_finite_gproj
public import proofs.«01_k».proof.Proof.Gproj
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_finite_ffn
public import proofs.«01_k».proof.Proof.Ffn
public import Idealize.ShloMosaic.Adequacy
public import Idealize.ShloMosaic.Init

@[expose] public section

noncomputable section

namespace Cert.Proof

open Idealize.ShloMosaic Idealize.SL.Sem

/-- The frames are the generated ones, the idealization rewrites nothing, the equations are the modules'. -/
theorem claim : Cert.Claim := ⟨Cert.Kernel.Gen.facts, Cert.KernelIdeal.Gen.facts, Cert.ReferenceIdeal.Gen.facts, Cert.LocalKernel.Gen.facts, Cert.LocalKernelIdeal.Gen.facts, Cert.LocalReferenceIdeal.Gen.facts, Cert.LossKernel.Gen.facts, Cert.LossKernelIdeal.Gen.facts, Cert.LossReferenceIdeal.Gen.facts, Cert.GateKernel.Gen.facts, Cert.GateKernelIdeal.Gen.facts, Cert.GateReferenceIdeal.Gen.facts, Cert.MixoutKernel.Gen.facts, Cert.MixoutKernelIdeal.Gen.facts, Cert.MixoutReferenceIdeal.Gen.facts, Cert.RecKernel.Gen.facts, Cert.RecKernelIdeal.Gen.facts, Cert.RecReferenceIdeal.Gen.facts, Cert.GprojKernel.Gen.facts, Cert.GprojKernelIdeal.Gen.facts, Cert.GprojReferenceIdeal.Gen.facts, Cert.FfnKernel.Gen.facts, Cert.FfnKernelIdeal.Gen.facts, Cert.FfnReferenceIdeal.Gen.facts,
  Cert.Pre_finite_norm.Gen.facts, Cert.Pre_finite_local.Gen.facts, Cert.Pre_finite_loss.Gen.facts, Cert.Pre_finite_gate.Gen.facts, Cert.Pre_finite_mixout.Gen.facts, Cert.Pre_finite_rec.Gen.facts, Cert.Pre_finite_gproj.Gen.facts, Cert.Pre_finite_ffn.Gen.facts, by
    exact ⟨fun m ρ _ => Cert.Kernel.Gen.frame m ρ,
      fun m ρ _ => Cert.KernelIdeal.Gen.frame m ρ,
      fun m ρ _ => Cert.KernelIdeal.Gen.frame m ρ,
      Norm.frame_ref,
      fun m ρ _ => Norm.frame_ref m ρ True.intro,
      fun m ρ _ => Cert.LocalKernel.Gen.frame m ρ,
      fun m ρ _ => Cert.LocalKernelIdeal.Gen.frame m ρ,
      fun m ρ _ => Cert.LocalKernelIdeal.Gen.frame m ρ,
      Local.frame_ref,
      fun m ρ _ => Local.frame_ref m ρ True.intro,
      fun m ρ _ => Cert.LossKernel.Gen.frame m ρ,
      fun m ρ _ => Cert.LossKernelIdeal.Gen.frame m ρ,
      fun m ρ _ => Cert.LossKernelIdeal.Gen.frame m ρ,
      Loss.frame_ref,
      fun m ρ _ => Loss.frame_ref m ρ True.intro,
      fun m ρ _ => Cert.GateKernel.Gen.frame m ρ,
      fun m ρ _ => Cert.GateKernelIdeal.Gen.frame m ρ,
      fun m ρ _ => Cert.GateKernelIdeal.Gen.frame m ρ,
      Gate.frame_ref,
      fun m ρ _ => Gate.frame_ref m ρ True.intro,
      fun m ρ _ => Cert.MixoutKernel.Gen.frame m ρ,
      fun m ρ _ => Cert.MixoutKernelIdeal.Gen.frame m ρ,
      fun m ρ _ => Cert.MixoutKernelIdeal.Gen.frame m ρ,
      Mix.frame_ref,
      fun m ρ _ => Mix.frame_ref m ρ True.intro,
      fun m ρ _ => Cert.RecKernel.Gen.frame m ρ,
      fun m ρ _ => Cert.RecKernelIdeal.Gen.frame m ρ,
      fun m ρ _ => Cert.RecKernelIdeal.Gen.frame m ρ,
      Rec.frame_ref,
      fun m ρ _ => Rec.frame_ref m ρ True.intro,
      fun m ρ _ => Cert.GprojKernel.Gen.frame m ρ,
      fun m ρ _ => Cert.GprojKernelIdeal.Gen.frame m ρ,
      fun m ρ _ => Cert.GprojKernelIdeal.Gen.frame m ρ,
      Gproj.frame_ref,
      fun m ρ _ => Gproj.frame_ref m ρ True.intro,
      fun m ρ _ => Cert.FfnKernel.Gen.frame m ρ,
      fun m ρ _ => Cert.FfnKernelIdeal.Gen.frame m ρ,
      fun m ρ _ => Cert.FfnKernelIdeal.Gen.frame m ρ,
      Ffn.frame_ref,
      fun m ρ _ => Ffn.frame_ref m ρ True.intro,
      trivial,
      Norm.algebraic,
      trivial,
      Local.algebraic,
      trivial,
      Loss.algebraic,
      trivial,
      Gate.algebraic,
      trivial,
      Mix.algebraic,
      trivial,
      Rec.algebraic,
      trivial,
      Gproj.algebraic,
      trivial,
      Ffn.algebraic⟩⟩

end Cert.Proof

end
